-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjQkvBwd (m : (ℓ : Loc Cert.ProjQkvBwd.nD Cert.ProjQkvBwd.τ Cert.ProjQkvBwd.sig) → Buf (Elt Bits) ℓ) : Prop :=
  True

def Pre_ProjQkvBwdIdeal (m : (ℓ : Loc Cert.ProjQkvBwdIdeal.nD Cert.ProjQkvBwdIdeal.τ Cert.ProjQkvBwdIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_LnOutBwd (m : (ℓ : Loc Cert.LnOutBwd.nD Cert.LnOutBwd.τ Cert.LnOutBwd.sig) → Buf (Elt Bits) ℓ) : Prop :=
  True

def Pre_LnOutBwdIdeal (m : (ℓ : Loc Cert.LnOutBwdIdeal.nD Cert.LnOutBwdIdeal.τ Cert.LnOutBwdIdeal.sig) → Buf (Elt Ideal) ℓ) : Prop :=
  True

def Pre_LnOutRefIdeal (m : (ℓ : Loc Cert.LnOutRefIdeal.nD Cert.LnOutRefIdeal.τ Cert.LnOutRefIdeal.sig) → Buf (Elt Ideal) ℓ) : Prop :=
  True

def Pre_S5PostBwd (m : (ℓ : Loc Cert.S5PostBwd.nD Cert.S5PostBwd.τ Cert.S5PostBwd.sig) → Buf (Elt Bits) ℓ) : Prop :=
  True

def Pre_S5PostBwdIdeal (m : (ℓ : Loc Cert.S5PostBwdIdeal.nD Cert.S5PostBwdIdeal.τ Cert.S5PostBwdIdeal.sig) → Buf (Elt Ideal) ℓ) : Prop :=
  True

def Pre_S5PostRefIdeal (m : (ℓ : Loc Cert.S5PostRefIdeal.nD Cert.S5PostRefIdeal.τ Cert.S5PostRefIdeal.sig) → Buf (Elt Ideal) ℓ) : Prop :=
  True

def Pre_Proj768Bwd (m : (ℓ : Loc Cert.Proj768Bwd.nD Cert.Proj768Bwd.τ Cert.Proj768Bwd.sig) → Buf (Elt Bits) ℓ) : Prop :=
  True

def Pre_Proj768BwdIdeal (m : (ℓ : Loc Cert.Proj768BwdIdeal.nD Cert.Proj768BwdIdeal.τ Cert.Proj768BwdIdeal.sig) → Buf (Elt Ideal) ℓ) : Prop :=
  True

def Pre_Proj768RefIdeal (m : (ℓ : Loc Cert.Proj768RefIdeal.nD Cert.Proj768RefIdeal.τ Cert.Proj768RefIdeal.sig) → Buf (Elt Ideal) ℓ) : Prop :=
  True

def Pre_Proj1280Bwd (m : (ℓ : Loc Cert.Proj1280Bwd.nD Cert.Proj1280Bwd.τ Cert.Proj1280Bwd.sig) → Buf (Elt Bits) ℓ) : Prop :=
  True

def Pre_Proj1280BwdIdeal (m : (ℓ : Loc Cert.Proj1280BwdIdeal.nD Cert.Proj1280BwdIdeal.τ Cert.Proj1280BwdIdeal.sig) → Buf (Elt Ideal) ℓ) : Prop :=
  True

def Pre_Proj1280RefIdeal (m : (ℓ : Loc Cert.Proj1280RefIdeal.nD Cert.Proj1280RefIdeal.τ Cert.Proj1280RefIdeal.sig) → Buf (Elt Ideal) ℓ) : Prop :=
  True

def Pre_Proj1024Bwd (m : (ℓ : Loc Cert.Proj1024Bwd.nD Cert.Proj1024Bwd.τ Cert.Proj1024Bwd.sig) → Buf (Elt Bits) ℓ) : Prop :=
  True

def Pre_Proj1024BwdIdeal (m : (ℓ : Loc Cert.Proj1024BwdIdeal.nD Cert.Proj1024BwdIdeal.τ Cert.Proj1024BwdIdeal.sig) → Buf (Elt Ideal) ℓ) : Prop :=
  True

def Pre_Proj1024RefIdeal (m : (ℓ : Loc Cert.Proj1024RefIdeal.nD Cert.Proj1024RefIdeal.τ Cert.Proj1024RefIdeal.sig) → Buf (Elt Ideal) ℓ) : Prop :=
  True

def Pre_Proj128Bwd (m : (ℓ : Loc Cert.Proj128Bwd.nD Cert.Proj128Bwd.τ Cert.Proj128Bwd.sig) → Buf (Elt Bits) ℓ) : Prop :=
  True

def Pre_Proj128BwdIdeal (m : (ℓ : Loc Cert.Proj128BwdIdeal.nD Cert.Proj128BwdIdeal.τ Cert.Proj128BwdIdeal.sig) → Buf (Elt Ideal) ℓ) : Prop :=
  True

def Pre_Proj128RefIdeal (m : (ℓ : Loc Cert.Proj128RefIdeal.nD Cert.Proj128RefIdeal.τ Cert.Proj128RefIdeal.sig) → Buf (Elt Ideal) ℓ) : Prop :=
  True

def Pre_Proj2304Fwd (m : (ℓ : Loc Cert.Proj2304Fwd.nD Cert.Proj2304Fwd.τ Cert.Proj2304Fwd.sig) → Buf (Elt Bits) ℓ) : Prop :=
  True

def Pre_Proj2304FwdIdeal (m : (ℓ : Loc Cert.Proj2304FwdIdeal.nD Cert.Proj2304FwdIdeal.τ Cert.Proj2304FwdIdeal.sig) → Buf (Elt Ideal) ℓ) : Prop :=
  True

def Pre_Proj2304FwdRefIdeal (m : (ℓ : Loc Cert.Proj2304FwdRefIdeal.nD Cert.Proj2304FwdRefIdeal.τ Cert.Proj2304FwdRefIdeal.sig) → Buf (Elt Ideal) ℓ) : Prop :=
  True

def Pre_Proj768Fwd (m : (ℓ : Loc Cert.Proj768Fwd.nD Cert.Proj768Fwd.τ Cert.Proj768Fwd.sig) → Buf (Elt Bits) ℓ) : Prop :=
  True

def Pre_Proj768FwdIdeal (m : (ℓ : Loc Cert.Proj768FwdIdeal.nD Cert.Proj768FwdIdeal.τ Cert.Proj768FwdIdeal.sig) → Buf (Elt Ideal) ℓ) : Prop :=
  True

def Pre_Proj768FwdRefIdeal (m : (ℓ : Loc Cert.Proj768FwdRefIdeal.nD Cert.Proj768FwdRefIdeal.τ Cert.Proj768FwdRefIdeal.sig) → Buf (Elt Ideal) ℓ) : Prop :=
  True

def Pre_Proj1280Fwd (m : (ℓ : Loc Cert.Proj1280Fwd.nD Cert.Proj1280Fwd.τ Cert.Proj1280Fwd.sig) → Buf (Elt Bits) ℓ) : Prop :=
  True

def Pre_Proj1280FwdIdeal (m : (ℓ : Loc Cert.Proj1280FwdIdeal.nD Cert.Proj1280FwdIdeal.τ Cert.Proj1280FwdIdeal.sig) → Buf (Elt Ideal) ℓ) : Prop :=
  True

def Pre_Proj1280FwdRefIdeal (m : (ℓ : Loc Cert.Proj1280FwdRefIdeal.nD Cert.Proj1280FwdRefIdeal.τ Cert.Proj1280FwdRefIdeal.sig) → Buf (Elt Ideal) ℓ) : Prop :=
  True

def Pre_Proj1024Fwd (m : (ℓ : Loc Cert.Proj1024Fwd.nD Cert.Proj1024Fwd.τ Cert.Proj1024Fwd.sig) → Buf (Elt Bits) ℓ) : Prop :=
  True

def Pre_Proj1024FwdIdeal (m : (ℓ : Loc Cert.Proj1024FwdIdeal.nD Cert.Proj1024FwdIdeal.τ Cert.Proj1024FwdIdeal.sig) → Buf (Elt Ideal) ℓ) : Prop :=
  True

def Pre_Proj1024FwdRefIdeal (m : (ℓ : Loc Cert.Proj1024FwdRefIdeal.nD Cert.Proj1024FwdRefIdeal.τ Cert.Proj1024FwdRefIdeal.sig) → Buf (Elt Ideal) ℓ) : Prop :=
  True

def Pre_Proj128Fwd (m : (ℓ : Loc Cert.Proj128Fwd.nD Cert.Proj128Fwd.τ Cert.Proj128Fwd.sig) → Buf (Elt Bits) ℓ) : Prop :=
  True

def Pre_Proj128FwdIdeal (m : (ℓ : Loc Cert.Proj128FwdIdeal.nD Cert.Proj128FwdIdeal.τ Cert.Proj128FwdIdeal.sig) → Buf (Elt Ideal) ℓ) : Prop :=
  True

def Pre_Proj128FwdRefIdeal (m : (ℓ : Loc Cert.Proj128FwdRefIdeal.nD Cert.Proj128FwdRefIdeal.τ Cert.Proj128FwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_LnOutFwd (m : (ℓ : Loc Cert.LnOutFwd.nD Cert.LnOutFwd.τ Cert.LnOutFwd.sig) → Buf (Elt Bits) ℓ) : Prop :=
  True

def Pre_LnOutFwdIdeal (m : (ℓ : Loc Cert.LnOutFwdIdeal.nD Cert.LnOutFwdIdeal.τ Cert.LnOutFwdIdeal.sig) → Buf (Elt Ideal) ℓ) : Prop :=
  True

def Pre_LnOutFwdRefIdeal (m : (ℓ : Loc Cert.LnOutFwdRefIdeal.nD Cert.LnOutFwdRefIdeal.τ Cert.LnOutFwdRefIdeal.sig) → Buf (Elt Ideal) ℓ) : Prop :=
  True

def Pre_S5PostFwd (m : (ℓ : Loc Cert.S5PostFwd.nD Cert.S5PostFwd.τ Cert.S5PostFwd.sig) → Buf (Elt Bits) ℓ) : Prop :=
  True

def Pre_S5PostFwdIdeal (m : (ℓ : Loc Cert.S5PostFwdIdeal.nD Cert.S5PostFwdIdeal.τ Cert.S5PostFwdIdeal.sig) → Buf (Elt Ideal) ℓ) : Prop :=
  True

def Pre_S5PostFwdRefIdeal (m : (ℓ : Loc Cert.S5PostFwdRefIdeal.nD Cert.S5PostFwdRefIdeal.τ Cert.S5PostFwdRefIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdRefIdeal (m : (ℓ : Loc Cert.SsdFwdRefIdeal.nD Cert.SsdFwdRefIdeal.τ Cert.SsdFwdRefIdeal.sig) → Buf (Elt Ideal) ℓ) : Prop :=
  True

def Pre_LnInBwd (m : (ℓ : Loc Cert.LnInBwd.nD Cert.LnInBwd.τ Cert.LnInBwd.sig) → Buf (Elt Bits) ℓ) : Prop :=
  True

def Pre_LnInBwdIdeal (m : (ℓ : Loc Cert.LnInBwdIdeal.nD Cert.LnInBwdIdeal.τ Cert.LnInBwdIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def Pre_LnInFwd (m : (ℓ : Loc Cert.LnInFwd.nD Cert.LnInFwd.τ Cert.LnInFwd.sig) → Buf (Elt Bits) ℓ) : Prop :=
  True

def Pre_LnInFwdIdeal (m : (ℓ : Loc Cert.LnInFwdIdeal.nD Cert.LnInFwdIdeal.τ Cert.LnInFwdIdeal.sig) → Buf (Elt Ideal) ℓ) : Prop :=
  True

def Pre_LnInFwdRefIdeal (m : (ℓ : Loc Cert.LnInFwdRefIdeal.nD Cert.LnInFwdRefIdeal.τ Cert.LnInFwdRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossFwdRefIdeal (m : (ℓ : Loc Cert.LossFwdRefIdeal.nD Cert.LossFwdRefIdeal.τ Cert.LossFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ProjQkvBwd [hProjQkvBwd : Cert.ProjQkvBwd.Facts] : Prop :=
  ∀ (m : (ℓ : Loc Cert.ProjQkvBwd.nD Cert.ProjQkvBwd.τ Cert.ProjQkvBwd.sig) → Buf (Elt Bits) ℓ) (g : Dev Cert.ProjQkvBwd.nD → PrngReg), Pre_ProjQkvBwd m →
    θ_run (Cert.ProjQkvBwd.defs (F := Bits)) (onTc (τ := Cert.ProjQkvBwd.τ) (Cert.ProjQkvBwd.main (F := Bits))) ⟨m, fun _ => 0, g⟩ (fun r => (∀ c : Dev Cert.ProjQkvBwd.nD,
      r.2.mem ((c.tc : Thread Cert.ProjQkvBwd.nD Cert.ProjQkvBwd.τ).loc Cert.ProjQkvBwd.main_arg0) = m ((c.tc : Thread Cert.ProjQkvBwd.nD Cert.ProjQkvBwd.τ).loc Cert.ProjQkvBwd.main_arg0)
      ∧ r.2.mem ((c.tc : Thread Cert.ProjQkvBwd.nD Cert.ProjQkvBwd.τ).loc Cert.ProjQkvBwd.main_arg1) = m ((c.tc : Thread Cert.ProjQkvBwd.nD Cert.ProjQkvBwd.τ).loc Cert.ProjQkvBwd.main_arg1)
      ∧ r.2.mem ((c.tc : Thread Cert.ProjQkvBwd.nD Cert.ProjQkvBwd.τ).loc Cert.ProjQkvBwd.main_arg2) = m ((c.tc : Thread Cert.ProjQkvBwd.nD Cert.ProjQkvBwd.τ).loc Cert.ProjQkvBwd.main_arg2))
      ∧ r.2.sem = fun _ => 0)

def quiescent_ProjQkvBwdIdeal [hProjQkvBwdIdeal : Cert.ProjQkvBwdIdeal.Facts] : Prop :=
  ∀ (m : (ℓ : Loc Cert.ProjQkvBwdIdeal.nD Cert.ProjQkvBwdIdeal.τ Cert.ProjQkvBwdIdeal.sig) → Buf (Elt Ideal) ℓ) (g : Dev Cert.ProjQkvBwdIdeal.nD → PrngReg), Pre_ProjQkvBwdIdeal m →
    θ_run (Cert.ProjQkvBwdIdeal.defs (F := Ideal)) (onTc (τ := Cert.ProjQkvBwdIdeal.τ) (Cert.ProjQkvBwdIdeal.main (F := Ideal))) ⟨m, fun _ => 0, g⟩ (fun r => (∀ c : Dev Cert.ProjQkvBwdIdeal.nD,
      r.2.mem ((c.tc : Thread Cert.ProjQkvBwdIdeal.nD Cert.ProjQkvBwdIdeal.τ).loc Cert.ProjQkvBwdIdeal.main_arg0) = m ((c.tc : Thread Cert.ProjQkvBwdIdeal.nD Cert.ProjQkvBwdIdeal.τ).loc Cert.ProjQkvBwdIdeal.main_arg0)
      ∧ r.2.mem ((c.tc : Thread Cert.ProjQkvBwdIdeal.nD Cert.ProjQkvBwdIdeal.τ).loc Cert.ProjQkvBwdIdeal.main_arg1) = m ((c.tc : Thread Cert.ProjQkvBwdIdeal.nD Cert.ProjQkvBwdIdeal.τ).loc Cert.ProjQkvBwdIdeal.main_arg1)
      ∧ r.2.mem ((c.tc : Thread Cert.ProjQkvBwdIdeal.nD Cert.ProjQkvBwdIdeal.τ).loc Cert.ProjQkvBwdIdeal.main_arg2) = m ((c.tc : Thread Cert.ProjQkvBwdIdeal.nD Cert.ProjQkvBwdIdeal.τ).loc Cert.ProjQkvBwdIdeal.main_arg2))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1)
      ∧ r.2.mem ((c.tc : Thread Cert.ProjQkvRefIdeal.nD Cert.ProjQkvRefIdeal.τ).loc Cert.ProjQkvRefIdeal.main_arg2) = m ((c.tc : Thread Cert.ProjQkvRefIdeal.nD Cert.ProjQkvRefIdeal.τ).loc Cert.ProjQkvRefIdeal.main_arg2))
      ∧ r.2.sem = fun _ => 0)

def quiescent_LnOutBwd [hLnOutBwd : Cert.LnOutBwd.Facts] : Prop :=
  ∀ (m : (ℓ : Loc Cert.LnOutBwd.nD Cert.LnOutBwd.τ Cert.LnOutBwd.sig) → Buf (Elt Bits) ℓ) (g : Dev Cert.LnOutBwd.nD → PrngReg), Pre_LnOutBwd m →
    θ_run (Cert.LnOutBwd.defs (F := Bits)) (onTc (τ := Cert.LnOutBwd.τ) (Cert.LnOutBwd.main (F := Bits))) ⟨m, fun _ => 0, g⟩ (fun r => (∀ c : Dev Cert.LnOutBwd.nD,
      r.2.mem ((c.tc : Thread Cert.LnOutBwd.nD Cert.LnOutBwd.τ).loc Cert.LnOutBwd.main_arg0) = m ((c.tc : Thread Cert.LnOutBwd.nD Cert.LnOutBwd.τ).loc Cert.LnOutBwd.main_arg0)
      ∧ r.2.mem ((c.tc : Thread Cert.LnOutBwd.nD Cert.LnOutBwd.τ).loc Cert.LnOutBwd.main_arg1) = m ((c.tc : Thread Cert.LnOutBwd.nD Cert.LnOutBwd.τ).loc Cert.LnOutBwd.main_arg1)
      ∧ r.2.mem ((c.tc : Thread Cert.LnOutBwd.nD Cert.LnOutBwd.τ).loc Cert.LnOutBwd.main_arg2) = m ((c.tc : Thread Cert.LnOutBwd.nD Cert.LnOutBwd.τ).loc Cert.LnOutBwd.main_arg2)
      ∧ r.2.mem ((c.tc : Thread Cert.LnOutBwd.nD Cert.LnOutBwd.τ).loc Cert.LnOutBwd.main_arg3) = m ((c.tc : Thread Cert.LnOutBwd.nD Cert.LnOutBwd.τ).loc Cert.LnOutBwd.main_arg3)
      ∧ r.2.mem ((c.tc : Thread Cert.LnOutBwd.nD Cert.LnOutBwd.τ).loc Cert.LnOutBwd.main_arg4) = m ((c.tc : Thread Cert.LnOutBwd.nD Cert.LnOutBwd.τ).loc Cert.LnOutBwd.main_arg4)
      ∧ r.2.mem ((c.tc : Thread Cert.LnOutBwd.nD Cert.LnOutBwd.τ).loc Cert.LnOutBwd.main_arg5) = m ((c.tc : Thread Cert.LnOutBwd.nD Cert.LnOutBwd.τ).loc Cert.LnOutBwd.main_arg5))
      ∧ r.2.sem = fun _ => 0)

def quiescent_LnOutBwdIdeal [hLnOutBwdIdeal : Cert.LnOutBwdIdeal.Facts] : Prop :=
  ∀ (m : (ℓ : Loc Cert.LnOutBwdIdeal.nD Cert.LnOutBwdIdeal.τ Cert.LnOutBwdIdeal.sig) → Buf (Elt Ideal) ℓ) (g : Dev Cert.LnOutBwdIdeal.nD → PrngReg), Pre_LnOutBwdIdeal m →
    θ_run (Cert.LnOutBwdIdeal.defs (F := Ideal)) (onTc (τ := Cert.LnOutBwdIdeal.τ) (Cert.LnOutBwdIdeal.main (F := Ideal))) ⟨m, fun _ => 0, g⟩ (fun r => (∀ c : Dev Cert.LnOutBwdIdeal.nD,
      r.2.mem ((c.tc : Thread Cert.LnOutBwdIdeal.nD Cert.LnOutBwdIdeal.τ).loc Cert.LnOutBwdIdeal.main_arg0) = m ((c.tc : Thread Cert.LnOutBwdIdeal.nD Cert.LnOutBwdIdeal.τ).loc Cert.LnOutBwdIdeal.main_arg0)
      ∧ r.2.mem ((c.tc : Thread Cert.LnOutBwdIdeal.nD Cert.LnOutBwdIdeal.τ).loc Cert.LnOutBwdIdeal.main_arg1) = m ((c.tc : Thread Cert.LnOutBwdIdeal.nD Cert.LnOutBwdIdeal.τ).loc Cert.LnOutBwdIdeal.main_arg1)
      ∧ r.2.mem ((c.tc : Thread Cert.LnOutBwdIdeal.nD Cert.LnOutBwdIdeal.τ).loc Cert.LnOutBwdIdeal.main_arg2) = m ((c.tc : Thread Cert.LnOutBwdIdeal.nD Cert.LnOutBwdIdeal.τ).loc Cert.LnOutBwdIdeal.main_arg2)
      ∧ r.2.mem ((c.tc : Thread Cert.LnOutBwdIdeal.nD Cert.LnOutBwdIdeal.τ).loc Cert.LnOutBwdIdeal.main_arg3) = m ((c.tc : Thread Cert.LnOutBwdIdeal.nD Cert.LnOutBwdIdeal.τ).loc Cert.LnOutBwdIdeal.main_arg3)
      ∧ r.2.mem ((c.tc : Thread Cert.LnOutBwdIdeal.nD Cert.LnOutBwdIdeal.τ).loc Cert.LnOutBwdIdeal.main_arg4) = m ((c.tc : Thread Cert.LnOutBwdIdeal.nD Cert.LnOutBwdIdeal.τ).loc Cert.LnOutBwdIdeal.main_arg4)
      ∧ r.2.mem ((c.tc : Thread Cert.LnOutBwdIdeal.nD Cert.LnOutBwdIdeal.τ).loc Cert.LnOutBwdIdeal.main_arg5) = m ((c.tc : Thread Cert.LnOutBwdIdeal.nD Cert.LnOutBwdIdeal.τ).loc Cert.LnOutBwdIdeal.main_arg5))
      ∧ r.2.sem = fun _ => 0)

def quiescent_LnOutRefIdeal [hLnOutRefIdeal : Cert.LnOutRefIdeal.Facts] : Prop :=
  ∀ (m : (ℓ : Loc Cert.LnOutRefIdeal.nD Cert.LnOutRefIdeal.τ Cert.LnOutRefIdeal.sig) → Buf (Elt Ideal) ℓ) (g : Dev Cert.LnOutRefIdeal.nD → PrngReg), Pre_LnOutRefIdeal m →
    θ_run (Cert.LnOutRefIdeal.defs (F := Ideal)) (onTc (τ := Cert.LnOutRefIdeal.τ) (Cert.LnOutRefIdeal.main (F := Ideal))) ⟨m, fun _ => 0, g⟩ (fun r => (∀ c : Dev Cert.LnOutRefIdeal.nD,
      r.2.mem ((c.tc : Thread Cert.LnOutRefIdeal.nD Cert.LnOutRefIdeal.τ).loc Cert.LnOutRefIdeal.main_arg0) = m ((c.tc : Thread Cert.LnOutRefIdeal.nD Cert.LnOutRefIdeal.τ).loc Cert.LnOutRefIdeal.main_arg0)
      ∧ r.2.mem ((c.tc : Thread Cert.LnOutRefIdeal.nD Cert.LnOutRefIdeal.τ).loc Cert.LnOutRefIdeal.main_arg1) = m ((c.tc : Thread Cert.LnOutRefIdeal.nD Cert.LnOutRefIdeal.τ).loc Cert.LnOutRefIdeal.main_arg1)
      ∧ r.2.mem ((c.tc : Thread Cert.LnOutRefIdeal.nD Cert.LnOutRefIdeal.τ).loc Cert.LnOutRefIdeal.main_arg2) = m ((c.tc : Thread Cert.LnOutRefIdeal.nD Cert.LnOutRefIdeal.τ).loc Cert.LnOutRefIdeal.main_arg2)
      ∧ r.2.mem ((c.tc : Thread Cert.LnOutRefIdeal.nD Cert.LnOutRefIdeal.τ).loc Cert.LnOutRefIdeal.main_arg3) = m ((c.tc : Thread Cert.LnOutRefIdeal.nD Cert.LnOutRefIdeal.τ).loc Cert.LnOutRefIdeal.main_arg3)
      ∧ r.2.mem ((c.tc : Thread Cert.LnOutRefIdeal.nD Cert.LnOutRefIdeal.τ).loc Cert.LnOutRefIdeal.main_arg4) = m ((c.tc : Thread Cert.LnOutRefIdeal.nD Cert.LnOutRefIdeal.τ).loc Cert.LnOutRefIdeal.main_arg4)
      ∧ r.2.mem ((c.tc : Thread Cert.LnOutRefIdeal.nD Cert.LnOutRefIdeal.τ).loc Cert.LnOutRefIdeal.main_arg5) = m ((c.tc : Thread Cert.LnOutRefIdeal.nD Cert.LnOutRefIdeal.τ).loc Cert.LnOutRefIdeal.main_arg5))
      ∧ r.2.sem = fun _ => 0)

def quiescent_S5PostBwd [hS5PostBwd : Cert.S5PostBwd.Facts] : Prop :=
  ∀ (m : (ℓ : Loc Cert.S5PostBwd.nD Cert.S5PostBwd.τ Cert.S5PostBwd.sig) → Buf (Elt Bits) ℓ) (g : Dev Cert.S5PostBwd.nD → PrngReg), Pre_S5PostBwd m →
    θ_run (Cert.S5PostBwd.defs (F := Bits)) (onTc (τ := Cert.S5PostBwd.τ) (Cert.S5PostBwd.main (F := Bits))) ⟨m, fun _ => 0, g⟩ (fun r => (∀ c : Dev Cert.S5PostBwd.nD,
      r.2.mem ((c.tc : Thread Cert.S5PostBwd.nD Cert.S5PostBwd.τ).loc Cert.S5PostBwd.main_arg0) = m ((c.tc : Thread Cert.S5PostBwd.nD Cert.S5PostBwd.τ).loc Cert.S5PostBwd.main_arg0)
      ∧ r.2.mem ((c.tc : Thread Cert.S5PostBwd.nD Cert.S5PostBwd.τ).loc Cert.S5PostBwd.main_arg1) = m ((c.tc : Thread Cert.S5PostBwd.nD Cert.S5PostBwd.τ).loc Cert.S5PostBwd.main_arg1)
      ∧ r.2.mem ((c.tc : Thread Cert.S5PostBwd.nD Cert.S5PostBwd.τ).loc Cert.S5PostBwd.main_arg2) = m ((c.tc : Thread Cert.S5PostBwd.nD Cert.S5PostBwd.τ).loc Cert.S5PostBwd.main_arg2)
      ∧ r.2.mem ((c.tc : Thread Cert.S5PostBwd.nD Cert.S5PostBwd.τ).loc Cert.S5PostBwd.main_arg3) = m ((c.tc : Thread Cert.S5PostBwd.nD Cert.S5PostBwd.τ).loc Cert.S5PostBwd.main_arg3)
      ∧ r.2.mem ((c.tc : Thread Cert.S5PostBwd.nD Cert.S5PostBwd.τ).loc Cert.S5PostBwd.main_arg4) = m ((c.tc : Thread Cert.S5PostBwd.nD Cert.S5PostBwd.τ).loc Cert.S5PostBwd.main_arg4)
      ∧ r.2.mem ((c.tc : Thread Cert.S5PostBwd.nD Cert.S5PostBwd.τ).loc Cert.S5PostBwd.main_arg5) = m ((c.tc : Thread Cert.S5PostBwd.nD Cert.S5PostBwd.τ).loc Cert.S5PostBwd.main_arg5)
      ∧ r.2.mem ((c.tc : Thread Cert.S5PostBwd.nD Cert.S5PostBwd.τ).loc Cert.S5PostBwd.main_arg6) = m ((c.tc : Thread Cert.S5PostBwd.nD Cert.S5PostBwd.τ).loc Cert.S5PostBwd.main_arg6))
      ∧ r.2.sem = fun _ => 0)

def quiescent_S5PostBwdIdeal [hS5PostBwdIdeal : Cert.S5PostBwdIdeal.Facts] : Prop :=
  ∀ (m : (ℓ : Loc Cert.S5PostBwdIdeal.nD Cert.S5PostBwdIdeal.τ Cert.S5PostBwdIdeal.sig) → Buf (Elt Ideal) ℓ) (g : Dev Cert.S5PostBwdIdeal.nD → PrngReg), Pre_S5PostBwdIdeal m →
    θ_run (Cert.S5PostBwdIdeal.defs (F := Ideal)) (onTc (τ := Cert.S5PostBwdIdeal.τ) (Cert.S5PostBwdIdeal.main (F := Ideal))) ⟨m, fun _ => 0, g⟩ (fun r => (∀ c : Dev Cert.S5PostBwdIdeal.nD,
      r.2.mem ((c.tc : Thread Cert.S5PostBwdIdeal.nD Cert.S5PostBwdIdeal.τ).loc Cert.S5PostBwdIdeal.main_arg0) = m ((c.tc : Thread Cert.S5PostBwdIdeal.nD Cert.S5PostBwdIdeal.τ).loc Cert.S5PostBwdIdeal.main_arg0)
      ∧ r.2.mem ((c.tc : Thread Cert.S5PostBwdIdeal.nD Cert.S5PostBwdIdeal.τ).loc Cert.S5PostBwdIdeal.main_arg1) = m ((c.tc : Thread Cert.S5PostBwdIdeal.nD Cert.S5PostBwdIdeal.τ).loc Cert.S5PostBwdIdeal.main_arg1)
      ∧ r.2.mem ((c.tc : Thread Cert.S5PostBwdIdeal.nD Cert.S5PostBwdIdeal.τ).loc Cert.S5PostBwdIdeal.main_arg2) = m ((c.tc : Thread Cert.S5PostBwdIdeal.nD Cert.S5PostBwdIdeal.τ).loc Cert.S5PostBwdIdeal.main_arg2)
      ∧ r.2.mem ((c.tc : Thread Cert.S5PostBwdIdeal.nD Cert.S5PostBwdIdeal.τ).loc Cert.S5PostBwdIdeal.main_arg3) = m ((c.tc : Thread Cert.S5PostBwdIdeal.nD Cert.S5PostBwdIdeal.τ).loc Cert.S5PostBwdIdeal.main_arg3)
      ∧ r.2.mem ((c.tc : Thread Cert.S5PostBwdIdeal.nD Cert.S5PostBwdIdeal.τ).loc Cert.S5PostBwdIdeal.main_arg4) = m ((c.tc : Thread Cert.S5PostBwdIdeal.nD Cert.S5PostBwdIdeal.τ).loc Cert.S5PostBwdIdeal.main_arg4)
      ∧ r.2.mem ((c.tc : Thread Cert.S5PostBwdIdeal.nD Cert.S5PostBwdIdeal.τ).loc Cert.S5PostBwdIdeal.main_arg5) = m ((c.tc : Thread Cert.S5PostBwdIdeal.nD Cert.S5PostBwdIdeal.τ).loc Cert.S5PostBwdIdeal.main_arg5)
      ∧ r.2.mem ((c.tc : Thread Cert.S5PostBwdIdeal.nD Cert.S5PostBwdIdeal.τ).loc Cert.S5PostBwdIdeal.main_arg6) = m ((c.tc : Thread Cert.S5PostBwdIdeal.nD Cert.S5PostBwdIdeal.τ).loc Cert.S5PostBwdIdeal.main_arg6))
      ∧ r.2.sem = fun _ => 0)

def quiescent_S5PostRefIdeal [hS5PostRefIdeal : Cert.S5PostRefIdeal.Facts] : Prop :=
  ∀ (m : (ℓ : Loc Cert.S5PostRefIdeal.nD Cert.S5PostRefIdeal.τ Cert.S5PostRefIdeal.sig) → Buf (Elt Ideal) ℓ) (g : Dev Cert.S5PostRefIdeal.nD → PrngReg), Pre_S5PostRefIdeal m →
    θ_run (Cert.S5PostRefIdeal.defs (F := Ideal)) (onTc (τ := Cert.S5PostRefIdeal.τ) (Cert.S5PostRefIdeal.main (F := Ideal))) ⟨m, fun _ => 0, g⟩ (fun r => (∀ c : Dev Cert.S5PostRefIdeal.nD,
      r.2.mem ((c.tc : Thread Cert.S5PostRefIdeal.nD Cert.S5PostRefIdeal.τ).loc Cert.S5PostRefIdeal.main_arg0) = m ((c.tc : Thread Cert.S5PostRefIdeal.nD Cert.S5PostRefIdeal.τ).loc Cert.S5PostRefIdeal.main_arg0)
      ∧ r.2.mem ((c.tc : Thread Cert.S5PostRefIdeal.nD Cert.S5PostRefIdeal.τ).loc Cert.S5PostRefIdeal.main_arg1) = m ((c.tc : Thread Cert.S5PostRefIdeal.nD Cert.S5PostRefIdeal.τ).loc Cert.S5PostRefIdeal.main_arg1)
      ∧ r.2.mem ((c.tc : Thread Cert.S5PostRefIdeal.nD Cert.S5PostRefIdeal.τ).loc Cert.S5PostRefIdeal.main_arg2) = m ((c.tc : Thread Cert.S5PostRefIdeal.nD Cert.S5PostRefIdeal.τ).loc Cert.S5PostRefIdeal.main_arg2)
      ∧ r.2.mem ((c.tc : Thread Cert.S5PostRefIdeal.nD Cert.S5PostRefIdeal.τ).loc Cert.S5PostRefIdeal.main_arg3) = m ((c.tc : Thread Cert.S5PostRefIdeal.nD Cert.S5PostRefIdeal.τ).loc Cert.S5PostRefIdeal.main_arg3)
      ∧ r.2.mem ((c.tc : Thread Cert.S5PostRefIdeal.nD Cert.S5PostRefIdeal.τ).loc Cert.S5PostRefIdeal.main_arg4) = m ((c.tc : Thread Cert.S5PostRefIdeal.nD Cert.S5PostRefIdeal.τ).loc Cert.S5PostRefIdeal.main_arg4)
      ∧ r.2.mem ((c.tc : Thread Cert.S5PostRefIdeal.nD Cert.S5PostRefIdeal.τ).loc Cert.S5PostRefIdeal.main_arg5) = m ((c.tc : Thread Cert.S5PostRefIdeal.nD Cert.S5PostRefIdeal.τ).loc Cert.S5PostRefIdeal.main_arg5)
      ∧ r.2.mem ((c.tc : Thread Cert.S5PostRefIdeal.nD Cert.S5PostRefIdeal.τ).loc Cert.S5PostRefIdeal.main_arg6) = m ((c.tc : Thread Cert.S5PostRefIdeal.nD Cert.S5PostRefIdeal.τ).loc Cert.S5PostRefIdeal.main_arg6))
      ∧ r.2.sem = fun _ => 0)

def quiescent_Proj768Bwd [hProj768Bwd : Cert.Proj768Bwd.Facts] : Prop :=
  ∀ (m : (ℓ : Loc Cert.Proj768Bwd.nD Cert.Proj768Bwd.τ Cert.Proj768Bwd.sig) → Buf (Elt Bits) ℓ) (g : Dev Cert.Proj768Bwd.nD → PrngReg), Pre_Proj768Bwd m →
    θ_run (Cert.Proj768Bwd.defs (F := Bits)) (onTc (τ := Cert.Proj768Bwd.τ) (Cert.Proj768Bwd.main (F := Bits))) ⟨m, fun _ => 0, g⟩ (fun r => (∀ c : Dev Cert.Proj768Bwd.nD,
      r.2.mem ((c.tc : Thread Cert.Proj768Bwd.nD Cert.Proj768Bwd.τ).loc Cert.Proj768Bwd.main_arg0) = m ((c.tc : Thread Cert.Proj768Bwd.nD Cert.Proj768Bwd.τ).loc Cert.Proj768Bwd.main_arg0)
      ∧ r.2.mem ((c.tc : Thread Cert.Proj768Bwd.nD Cert.Proj768Bwd.τ).loc Cert.Proj768Bwd.main_arg1) = m ((c.tc : Thread Cert.Proj768Bwd.nD Cert.Proj768Bwd.τ).loc Cert.Proj768Bwd.main_arg1)
      ∧ r.2.mem ((c.tc : Thread Cert.Proj768Bwd.nD Cert.Proj768Bwd.τ).loc Cert.Proj768Bwd.main_arg2) = m ((c.tc : Thread Cert.Proj768Bwd.nD Cert.Proj768Bwd.τ).loc Cert.Proj768Bwd.main_arg2))
      ∧ r.2.sem = fun _ => 0)

def quiescent_Proj768BwdIdeal [hProj768BwdIdeal : Cert.Proj768BwdIdeal.Facts] : Prop :=
  ∀ (m : (ℓ : Loc Cert.Proj768BwdIdeal.nD Cert.Proj768BwdIdeal.τ Cert.Proj768BwdIdeal.sig) → Buf (Elt Ideal) ℓ) (g : Dev Cert.Proj768BwdIdeal.nD → PrngReg), Pre_Proj768BwdIdeal m →
    θ_run (Cert.Proj768BwdIdeal.defs (F := Ideal)) (onTc (τ := Cert.Proj768BwdIdeal.τ) (Cert.Proj768BwdIdeal.main (F := Ideal))) ⟨m, fun _ => 0, g⟩ (fun r => (∀ c : Dev Cert.Proj768BwdIdeal.nD,
      r.2.mem ((c.tc : Thread Cert.Proj768BwdIdeal.nD Cert.Proj768BwdIdeal.τ).loc Cert.Proj768BwdIdeal.main_arg0) = m ((c.tc : Thread Cert.Proj768BwdIdeal.nD Cert.Proj768BwdIdeal.τ).loc Cert.Proj768BwdIdeal.main_arg0)
      ∧ r.2.mem ((c.tc : Thread Cert.Proj768BwdIdeal.nD Cert.Proj768BwdIdeal.τ).loc Cert.Proj768BwdIdeal.main_arg1) = m ((c.tc : Thread Cert.Proj768BwdIdeal.nD Cert.Proj768BwdIdeal.τ).loc Cert.Proj768BwdIdeal.main_arg1)
      ∧ r.2.mem ((c.tc : Thread Cert.Proj768BwdIdeal.nD Cert.Proj768BwdIdeal.τ).loc Cert.Proj768BwdIdeal.main_arg2) = m ((c.tc : Thread Cert.Proj768BwdIdeal.nD Cert.Proj768BwdIdeal.τ).loc Cert.Proj768BwdIdeal.main_arg2))
      ∧ r.2.sem = fun _ => 0)

def quiescent_Proj768RefIdeal [hProj768RefIdeal : Cert.Proj768RefIdeal.Facts] : Prop :=
  ∀ (m : (ℓ : Loc Cert.Proj768RefIdeal.nD Cert.Proj768RefIdeal.τ Cert.Proj768RefIdeal.sig) → Buf (Elt Ideal) ℓ) (g : Dev Cert.Proj768RefIdeal.nD → PrngReg), Pre_Proj768RefIdeal m →
    θ_run (Cert.Proj768RefIdeal.defs (F := Ideal)) (onTc (τ := Cert.Proj768RefIdeal.τ) (Cert.Proj768RefIdeal.main (F := Ideal))) ⟨m, fun _ => 0, g⟩ (fun r => (∀ c : Dev Cert.Proj768RefIdeal.nD,
      r.2.mem ((c.tc : Thread Cert.Proj768RefIdeal.nD Cert.Proj768RefIdeal.τ).loc Cert.Proj768RefIdeal.main_arg0) = m ((c.tc : Thread Cert.Proj768RefIdeal.nD Cert.Proj768RefIdeal.τ).loc Cert.Proj768RefIdeal.main_arg0)
      ∧ r.2.mem ((c.tc : Thread Cert.Proj768RefIdeal.nD Cert.Proj768RefIdeal.τ).loc Cert.Proj768RefIdeal.main_arg1) = m ((c.tc : Thread Cert.Proj768RefIdeal.nD Cert.Proj768RefIdeal.τ).loc Cert.Proj768RefIdeal.main_arg1)
      ∧ r.2.mem ((c.tc : Thread Cert.Proj768RefIdeal.nD Cert.Proj768RefIdeal.τ).loc Cert.Proj768RefIdeal.main_arg2) = m ((c.tc : Thread Cert.Proj768RefIdeal.nD Cert.Proj768RefIdeal.τ).loc Cert.Proj768RefIdeal.main_arg2))
      ∧ r.2.sem = fun _ => 0)

def quiescent_Proj1280Bwd [hProj1280Bwd : Cert.Proj1280Bwd.Facts] : Prop :=
  ∀ (m : (ℓ : Loc Cert.Proj1280Bwd.nD Cert.Proj1280Bwd.τ Cert.Proj1280Bwd.sig) → Buf (Elt Bits) ℓ) (g : Dev Cert.Proj1280Bwd.nD → PrngReg), Pre_Proj1280Bwd m →
    θ_run (Cert.Proj1280Bwd.defs (F := Bits)) (onTc (τ := Cert.Proj1280Bwd.τ) (Cert.Proj1280Bwd.main (F := Bits))) ⟨m, fun _ => 0, g⟩ (fun r => (∀ c : Dev Cert.Proj1280Bwd.nD,
      r.2.mem ((c.tc : Thread Cert.Proj1280Bwd.nD Cert.Proj1280Bwd.τ).loc Cert.Proj1280Bwd.main_arg0) = m ((c.tc : Thread Cert.Proj1280Bwd.nD Cert.Proj1280Bwd.τ).loc Cert.Proj1280Bwd.main_arg0)
      ∧ r.2.mem ((c.tc : Thread Cert.Proj1280Bwd.nD Cert.Proj1280Bwd.τ).loc Cert.Proj1280Bwd.main_arg1) = m ((c.tc : Thread Cert.Proj1280Bwd.nD Cert.Proj1280Bwd.τ).loc Cert.Proj1280Bwd.main_arg1)
      ∧ r.2.mem ((c.tc : Thread Cert.Proj1280Bwd.nD Cert.Proj1280Bwd.τ).loc Cert.Proj1280Bwd.main_arg2) = m ((c.tc : Thread Cert.Proj1280Bwd.nD Cert.Proj1280Bwd.τ).loc Cert.Proj1280Bwd.main_arg2))
      ∧ r.2.sem = fun _ => 0)

def quiescent_Proj1280BwdIdeal [hProj1280BwdIdeal : Cert.Proj1280BwdIdeal.Facts] : Prop :=
  ∀ (m : (ℓ : Loc Cert.Proj1280BwdIdeal.nD Cert.Proj1280BwdIdeal.τ Cert.Proj1280BwdIdeal.sig) → Buf (Elt Ideal) ℓ) (g : Dev Cert.Proj1280BwdIdeal.nD → PrngReg), Pre_Proj1280BwdIdeal m →
    θ_run (Cert.Proj1280BwdIdeal.defs (F := Ideal)) (onTc (τ := Cert.Proj1280BwdIdeal.τ) (Cert.Proj1280BwdIdeal.main (F := Ideal))) ⟨m, fun _ => 0, g⟩ (fun r => (∀ c : Dev Cert.Proj1280BwdIdeal.nD,
      r.2.mem ((c.tc : Thread Cert.Proj1280BwdIdeal.nD Cert.Proj1280BwdIdeal.τ).loc Cert.Proj1280BwdIdeal.main_arg0) = m ((c.tc : Thread Cert.Proj1280BwdIdeal.nD Cert.Proj1280BwdIdeal.τ).loc Cert.Proj1280BwdIdeal.main_arg0)
      ∧ r.2.mem ((c.tc : Thread Cert.Proj1280BwdIdeal.nD Cert.Proj1280BwdIdeal.τ).loc Cert.Proj1280BwdIdeal.main_arg1) = m ((c.tc : Thread Cert.Proj1280BwdIdeal.nD Cert.Proj1280BwdIdeal.τ).loc Cert.Proj1280BwdIdeal.main_arg1)
      ∧ r.2.mem ((c.tc : Thread Cert.Proj1280BwdIdeal.nD Cert.Proj1280BwdIdeal.τ).loc Cert.Proj1280BwdIdeal.main_arg2) = m ((c.tc : Thread Cert.Proj1280BwdIdeal.nD Cert.Proj1280BwdIdeal.τ).loc Cert.Proj1280BwdIdeal.main_arg2))
      ∧ r.2.sem = fun _ => 0)

def quiescent_Proj1280RefIdeal [hProj1280RefIdeal : Cert.Proj1280RefIdeal.Facts] : Prop :=
  ∀ (m : (ℓ : Loc Cert.Proj1280RefIdeal.nD Cert.Proj1280RefIdeal.τ Cert.Proj1280RefIdeal.sig) → Buf (Elt Ideal) ℓ) (g : Dev Cert.Proj1280RefIdeal.nD → PrngReg), Pre_Proj1280RefIdeal m →
    θ_run (Cert.Proj1280RefIdeal.defs (F := Ideal)) (onTc (τ := Cert.Proj1280RefIdeal.τ) (Cert.Proj1280RefIdeal.main (F := Ideal))) ⟨m, fun _ => 0, g⟩ (fun r => (∀ c : Dev Cert.Proj1280RefIdeal.nD,
      r.2.mem ((c.tc : Thread Cert.Proj1280RefIdeal.nD Cert.Proj1280RefIdeal.τ).loc Cert.Proj1280RefIdeal.main_arg0) = m ((c.tc : Thread Cert.Proj1280RefIdeal.nD Cert.Proj1280RefIdeal.τ).loc Cert.Proj1280RefIdeal.main_arg0)
      ∧ r.2.mem ((c.tc : Thread Cert.Proj1280RefIdeal.nD Cert.Proj1280RefIdeal.τ).loc Cert.Proj1280RefIdeal.main_arg1) = m ((c.tc : Thread Cert.Proj1280RefIdeal.nD Cert.Proj1280RefIdeal.τ).loc Cert.Proj1280RefIdeal.main_arg1)
      ∧ r.2.mem ((c.tc : Thread Cert.Proj1280RefIdeal.nD Cert.Proj1280RefIdeal.τ).loc Cert.Proj1280RefIdeal.main_arg2) = m ((c.tc : Thread Cert.Proj1280RefIdeal.nD Cert.Proj1280RefIdeal.τ).loc Cert.Proj1280RefIdeal.main_arg2))
      ∧ r.2.sem = fun _ => 0)

def quiescent_Proj1024Bwd [hProj1024Bwd : Cert.Proj1024Bwd.Facts] : Prop :=
  ∀ (m : (ℓ : Loc Cert.Proj1024Bwd.nD Cert.Proj1024Bwd.τ Cert.Proj1024Bwd.sig) → Buf (Elt Bits) ℓ) (g : Dev Cert.Proj1024Bwd.nD → PrngReg), Pre_Proj1024Bwd m →
    θ_run (Cert.Proj1024Bwd.defs (F := Bits)) (onTc (τ := Cert.Proj1024Bwd.τ) (Cert.Proj1024Bwd.main (F := Bits))) ⟨m, fun _ => 0, g⟩ (fun r => (∀ c : Dev Cert.Proj1024Bwd.nD,
      r.2.mem ((c.tc : Thread Cert.Proj1024Bwd.nD Cert.Proj1024Bwd.τ).loc Cert.Proj1024Bwd.main_arg0) = m ((c.tc : Thread Cert.Proj1024Bwd.nD Cert.Proj1024Bwd.τ).loc Cert.Proj1024Bwd.main_arg0)
      ∧ r.2.mem ((c.tc : Thread Cert.Proj1024Bwd.nD Cert.Proj1024Bwd.τ).loc Cert.Proj1024Bwd.main_arg1) = m ((c.tc : Thread Cert.Proj1024Bwd.nD Cert.Proj1024Bwd.τ).loc Cert.Proj1024Bwd.main_arg1)
      ∧ r.2.mem ((c.tc : Thread Cert.Proj1024Bwd.nD Cert.Proj1024Bwd.τ).loc Cert.Proj1024Bwd.main_arg2) = m ((c.tc : Thread Cert.Proj1024Bwd.nD Cert.Proj1024Bwd.τ).loc Cert.Proj1024Bwd.main_arg2))
      ∧ r.2.sem = fun _ => 0)

def quiescent_Proj1024BwdIdeal [hProj1024BwdIdeal : Cert.Proj1024BwdIdeal.Facts] : Prop :=
  ∀ (m : (ℓ : Loc Cert.Proj1024BwdIdeal.nD Cert.Proj1024BwdIdeal.τ Cert.Proj1024BwdIdeal.sig) → Buf (Elt Ideal) ℓ) (g : Dev Cert.Proj1024BwdIdeal.nD → PrngReg), Pre_Proj1024BwdIdeal m →
    θ_run (Cert.Proj1024BwdIdeal.defs (F := Ideal)) (onTc (τ := Cert.Proj1024BwdIdeal.τ) (Cert.Proj1024BwdIdeal.main (F := Ideal))) ⟨m, fun _ => 0, g⟩ (fun r => (∀ c : Dev Cert.Proj1024BwdIdeal.nD,
      r.2.mem ((c.tc : Thread Cert.Proj1024BwdIdeal.nD Cert.Proj1024BwdIdeal.τ).loc Cert.Proj1024BwdIdeal.main_arg0) = m ((c.tc : Thread Cert.Proj1024BwdIdeal.nD Cert.Proj1024BwdIdeal.τ).loc Cert.Proj1024BwdIdeal.main_arg0)
      ∧ r.2.mem ((c.tc : Thread Cert.Proj1024BwdIdeal.nD Cert.Proj1024BwdIdeal.τ).loc Cert.Proj1024BwdIdeal.main_arg1) = m ((c.tc : Thread Cert.Proj1024BwdIdeal.nD Cert.Proj1024BwdIdeal.τ).loc Cert.Proj1024BwdIdeal.main_arg1)
      ∧ r.2.mem ((c.tc : Thread Cert.Proj1024BwdIdeal.nD Cert.Proj1024BwdIdeal.τ).loc Cert.Proj1024BwdIdeal.main_arg2) = m ((c.tc : Thread Cert.Proj1024BwdIdeal.nD Cert.Proj1024BwdIdeal.τ).loc Cert.Proj1024BwdIdeal.main_arg2))
      ∧ r.2.sem = fun _ => 0)

def quiescent_Proj1024RefIdeal [hProj1024RefIdeal : Cert.Proj1024RefIdeal.Facts] : Prop :=
  ∀ (m : (ℓ : Loc Cert.Proj1024RefIdeal.nD Cert.Proj1024RefIdeal.τ Cert.Proj1024RefIdeal.sig) → Buf (Elt Ideal) ℓ) (g : Dev Cert.Proj1024RefIdeal.nD → PrngReg), Pre_Proj1024RefIdeal m →
    θ_run (Cert.Proj1024RefIdeal.defs (F := Ideal)) (onTc (τ := Cert.Proj1024RefIdeal.τ) (Cert.Proj1024RefIdeal.main (F := Ideal))) ⟨m, fun _ => 0, g⟩ (fun r => (∀ c : Dev Cert.Proj1024RefIdeal.nD,
      r.2.mem ((c.tc : Thread Cert.Proj1024RefIdeal.nD Cert.Proj1024RefIdeal.τ).loc Cert.Proj1024RefIdeal.main_arg0) = m ((c.tc : Thread Cert.Proj1024RefIdeal.nD Cert.Proj1024RefIdeal.τ).loc Cert.Proj1024RefIdeal.main_arg0)
      ∧ r.2.mem ((c.tc : Thread Cert.Proj1024RefIdeal.nD Cert.Proj1024RefIdeal.τ).loc Cert.Proj1024RefIdeal.main_arg1) = m ((c.tc : Thread Cert.Proj1024RefIdeal.nD Cert.Proj1024RefIdeal.τ).loc Cert.Proj1024RefIdeal.main_arg1)
      ∧ r.2.mem ((c.tc : Thread Cert.Proj1024RefIdeal.nD Cert.Proj1024RefIdeal.τ).loc Cert.Proj1024RefIdeal.main_arg2) = m ((c.tc : Thread Cert.Proj1024RefIdeal.nD Cert.Proj1024RefIdeal.τ).loc Cert.Proj1024RefIdeal.main_arg2))
      ∧ r.2.sem = fun _ => 0)

def quiescent_Proj128Bwd [hProj128Bwd : Cert.Proj128Bwd.Facts] : Prop :=
  ∀ (m : (ℓ : Loc Cert.Proj128Bwd.nD Cert.Proj128Bwd.τ Cert.Proj128Bwd.sig) → Buf (Elt Bits) ℓ) (g : Dev Cert.Proj128Bwd.nD → PrngReg), Pre_Proj128Bwd m →
    θ_run (Cert.Proj128Bwd.defs (F := Bits)) (onTc (τ := Cert.Proj128Bwd.τ) (Cert.Proj128Bwd.main (F := Bits))) ⟨m, fun _ => 0, g⟩ (fun r => (∀ c : Dev Cert.Proj128Bwd.nD,
      r.2.mem ((c.tc : Thread Cert.Proj128Bwd.nD Cert.Proj128Bwd.τ).loc Cert.Proj128Bwd.main_arg0) = m ((c.tc : Thread Cert.Proj128Bwd.nD Cert.Proj128Bwd.τ).loc Cert.Proj128Bwd.main_arg0)
      ∧ r.2.mem ((c.tc : Thread Cert.Proj128Bwd.nD Cert.Proj128Bwd.τ).loc Cert.Proj128Bwd.main_arg1) = m ((c.tc : Thread Cert.Proj128Bwd.nD Cert.Proj128Bwd.τ).loc Cert.Proj128Bwd.main_arg1)
      ∧ r.2.mem ((c.tc : Thread Cert.Proj128Bwd.nD Cert.Proj128Bwd.τ).loc Cert.Proj128Bwd.main_arg2) = m ((c.tc : Thread Cert.Proj128Bwd.nD Cert.Proj128Bwd.τ).loc Cert.Proj128Bwd.main_arg2))
      ∧ r.2.sem = fun _ => 0)

def quiescent_Proj128BwdIdeal [hProj128BwdIdeal : Cert.Proj128BwdIdeal.Facts] : Prop :=
  ∀ (m : (ℓ : Loc Cert.Proj128BwdIdeal.nD Cert.Proj128BwdIdeal.τ Cert.Proj128BwdIdeal.sig) → Buf (Elt Ideal) ℓ) (g : Dev Cert.Proj128BwdIdeal.nD → PrngReg), Pre_Proj128BwdIdeal m →
    θ_run (Cert.Proj128BwdIdeal.defs (F := Ideal)) (onTc (τ := Cert.Proj128BwdIdeal.τ) (Cert.Proj128BwdIdeal.main (F := Ideal))) ⟨m, fun _ => 0, g⟩ (fun r => (∀ c : Dev Cert.Proj128BwdIdeal.nD,
      r.2.mem ((c.tc : Thread Cert.Proj128BwdIdeal.nD Cert.Proj128BwdIdeal.τ).loc Cert.Proj128BwdIdeal.main_arg0) = m ((c.tc : Thread Cert.Proj128BwdIdeal.nD Cert.Proj128BwdIdeal.τ).loc Cert.Proj128BwdIdeal.main_arg0)
      ∧ r.2.mem ((c.tc : Thread Cert.Proj128BwdIdeal.nD Cert.Proj128BwdIdeal.τ).loc Cert.Proj128BwdIdeal.main_arg1) = m ((c.tc : Thread Cert.Proj128BwdIdeal.nD Cert.Proj128BwdIdeal.τ).loc Cert.Proj128BwdIdeal.main_arg1)
      ∧ r.2.mem ((c.tc : Thread Cert.Proj128BwdIdeal.nD Cert.Proj128BwdIdeal.τ).loc Cert.Proj128BwdIdeal.main_arg2) = m ((c.tc : Thread Cert.Proj128BwdIdeal.nD Cert.Proj128BwdIdeal.τ).loc Cert.Proj128BwdIdeal.main_arg2))
      ∧ r.2.sem = fun _ => 0)

def quiescent_Proj128RefIdeal [hProj128RefIdeal : Cert.Proj128RefIdeal.Facts] : Prop :=
  ∀ (m : (ℓ : Loc Cert.Proj128RefIdeal.nD Cert.Proj128RefIdeal.τ Cert.Proj128RefIdeal.sig) → Buf (Elt Ideal) ℓ) (g : Dev Cert.Proj128RefIdeal.nD → PrngReg), Pre_Proj128RefIdeal m →
    θ_run (Cert.Proj128RefIdeal.defs (F := Ideal)) (onTc (τ := Cert.Proj128RefIdeal.τ) (Cert.Proj128RefIdeal.main (F := Ideal))) ⟨m, fun _ => 0, g⟩ (fun r => (∀ c : Dev Cert.Proj128RefIdeal.nD,
      r.2.mem ((c.tc : Thread Cert.Proj128RefIdeal.nD Cert.Proj128RefIdeal.τ).loc Cert.Proj128RefIdeal.main_arg0) = m ((c.tc : Thread Cert.Proj128RefIdeal.nD Cert.Proj128RefIdeal.τ).loc Cert.Proj128RefIdeal.main_arg0)
      ∧ r.2.mem ((c.tc : Thread Cert.Proj128RefIdeal.nD Cert.Proj128RefIdeal.τ).loc Cert.Proj128RefIdeal.main_arg1) = m ((c.tc : Thread Cert.Proj128RefIdeal.nD Cert.Proj128RefIdeal.τ).loc Cert.Proj128RefIdeal.main_arg1)
      ∧ r.2.mem ((c.tc : Thread Cert.Proj128RefIdeal.nD Cert.Proj128RefIdeal.τ).loc Cert.Proj128RefIdeal.main_arg2) = m ((c.tc : Thread Cert.Proj128RefIdeal.nD Cert.Proj128RefIdeal.τ).loc Cert.Proj128RefIdeal.main_arg2))
      ∧ r.2.sem = fun _ => 0)

def quiescent_Proj2304Fwd [hProj2304Fwd : Cert.Proj2304Fwd.Facts] : Prop :=
  ∀ (m : (ℓ : Loc Cert.Proj2304Fwd.nD Cert.Proj2304Fwd.τ Cert.Proj2304Fwd.sig) → Buf (Elt Bits) ℓ) (g : Dev Cert.Proj2304Fwd.nD → PrngReg), Pre_Proj2304Fwd m →
    θ_run (Cert.Proj2304Fwd.defs (F := Bits)) (onTc (τ := Cert.Proj2304Fwd.τ) (Cert.Proj2304Fwd.main (F := Bits))) ⟨m, fun _ => 0, g⟩ (fun r => (∀ c : Dev Cert.Proj2304Fwd.nD,
      r.2.mem ((c.tc : Thread Cert.Proj2304Fwd.nD Cert.Proj2304Fwd.τ).loc Cert.Proj2304Fwd.main_arg0) = m ((c.tc : Thread Cert.Proj2304Fwd.nD Cert.Proj2304Fwd.τ).loc Cert.Proj2304Fwd.main_arg0)
      ∧ r.2.mem ((c.tc : Thread Cert.Proj2304Fwd.nD Cert.Proj2304Fwd.τ).loc Cert.Proj2304Fwd.main_arg1) = m ((c.tc : Thread Cert.Proj2304Fwd.nD Cert.Proj2304Fwd.τ).loc Cert.Proj2304Fwd.main_arg1))
      ∧ r.2.sem = fun _ => 0)

def quiescent_Proj2304FwdIdeal [hProj2304FwdIdeal : Cert.Proj2304FwdIdeal.Facts] : Prop :=
  ∀ (m : (ℓ : Loc Cert.Proj2304FwdIdeal.nD Cert.Proj2304FwdIdeal.τ Cert.Proj2304FwdIdeal.sig) → Buf (Elt Ideal) ℓ) (g : Dev Cert.Proj2304FwdIdeal.nD → PrngReg), Pre_Proj2304FwdIdeal m →
    θ_run (Cert.Proj2304FwdIdeal.defs (F := Ideal)) (onTc (τ := Cert.Proj2304FwdIdeal.τ) (Cert.Proj2304FwdIdeal.main (F := Ideal))) ⟨m, fun _ => 0, g⟩ (fun r => (∀ c : Dev Cert.Proj2304FwdIdeal.nD,
      r.2.mem ((c.tc : Thread Cert.Proj2304FwdIdeal.nD Cert.Proj2304FwdIdeal.τ).loc Cert.Proj2304FwdIdeal.main_arg0) = m ((c.tc : Thread Cert.Proj2304FwdIdeal.nD Cert.Proj2304FwdIdeal.τ).loc Cert.Proj2304FwdIdeal.main_arg0)
      ∧ r.2.mem ((c.tc : Thread Cert.Proj2304FwdIdeal.nD Cert.Proj2304FwdIdeal.τ).loc Cert.Proj2304FwdIdeal.main_arg1) = m ((c.tc : Thread Cert.Proj2304FwdIdeal.nD Cert.Proj2304FwdIdeal.τ).loc Cert.Proj2304FwdIdeal.main_arg1))
      ∧ r.2.sem = fun _ => 0)

def quiescent_Proj2304FwdRefIdeal [hProj2304FwdRefIdeal : Cert.Proj2304FwdRefIdeal.Facts] : Prop :=
  ∀ (m : (ℓ : Loc Cert.Proj2304FwdRefIdeal.nD Cert.Proj2304FwdRefIdeal.τ Cert.Proj2304FwdRefIdeal.sig) → Buf (Elt Ideal) ℓ) (g : Dev Cert.Proj2304FwdRefIdeal.nD → PrngReg), Pre_Proj2304FwdRefIdeal m →
    θ_run (Cert.Proj2304FwdRefIdeal.defs (F := Ideal)) (onTc (τ := Cert.Proj2304FwdRefIdeal.τ) (Cert.Proj2304FwdRefIdeal.main (F := Ideal))) ⟨m, fun _ => 0, g⟩ (fun r => (∀ c : Dev Cert.Proj2304FwdRefIdeal.nD,
      r.2.mem ((c.tc : Thread Cert.Proj2304FwdRefIdeal.nD Cert.Proj2304FwdRefIdeal.τ).loc Cert.Proj2304FwdRefIdeal.main_arg0) = m ((c.tc : Thread Cert.Proj2304FwdRefIdeal.nD Cert.Proj2304FwdRefIdeal.τ).loc Cert.Proj2304FwdRefIdeal.main_arg0)
      ∧ r.2.mem ((c.tc : Thread Cert.Proj2304FwdRefIdeal.nD Cert.Proj2304FwdRefIdeal.τ).loc Cert.Proj2304FwdRefIdeal.main_arg1) = m ((c.tc : Thread Cert.Proj2304FwdRefIdeal.nD Cert.Proj2304FwdRefIdeal.τ).loc Cert.Proj2304FwdRefIdeal.main_arg1))
      ∧ r.2.sem = fun _ => 0)

def quiescent_Proj768Fwd [hProj768Fwd : Cert.Proj768Fwd.Facts] : Prop :=
  ∀ (m : (ℓ : Loc Cert.Proj768Fwd.nD Cert.Proj768Fwd.τ Cert.Proj768Fwd.sig) → Buf (Elt Bits) ℓ) (g : Dev Cert.Proj768Fwd.nD → PrngReg), Pre_Proj768Fwd m →
    θ_run (Cert.Proj768Fwd.defs (F := Bits)) (onTc (τ := Cert.Proj768Fwd.τ) (Cert.Proj768Fwd.main (F := Bits))) ⟨m, fun _ => 0, g⟩ (fun r => (∀ c : Dev Cert.Proj768Fwd.nD,
      r.2.mem ((c.tc : Thread Cert.Proj768Fwd.nD Cert.Proj768Fwd.τ).loc Cert.Proj768Fwd.main_arg0) = m ((c.tc : Thread Cert.Proj768Fwd.nD Cert.Proj768Fwd.τ).loc Cert.Proj768Fwd.main_arg0)
      ∧ r.2.mem ((c.tc : Thread Cert.Proj768Fwd.nD Cert.Proj768Fwd.τ).loc Cert.Proj768Fwd.main_arg1) = m ((c.tc : Thread Cert.Proj768Fwd.nD Cert.Proj768Fwd.τ).loc Cert.Proj768Fwd.main_arg1))
      ∧ r.2.sem = fun _ => 0)

def quiescent_Proj768FwdIdeal [hProj768FwdIdeal : Cert.Proj768FwdIdeal.Facts] : Prop :=
  ∀ (m : (ℓ : Loc Cert.Proj768FwdIdeal.nD Cert.Proj768FwdIdeal.τ Cert.Proj768FwdIdeal.sig) → Buf (Elt Ideal) ℓ) (g : Dev Cert.Proj768FwdIdeal.nD → PrngReg), Pre_Proj768FwdIdeal m →
    θ_run (Cert.Proj768FwdIdeal.defs (F := Ideal)) (onTc (τ := Cert.Proj768FwdIdeal.τ) (Cert.Proj768FwdIdeal.main (F := Ideal))) ⟨m, fun _ => 0, g⟩ (fun r => (∀ c : Dev Cert.Proj768FwdIdeal.nD,
      r.2.mem ((c.tc : Thread Cert.Proj768FwdIdeal.nD Cert.Proj768FwdIdeal.τ).loc Cert.Proj768FwdIdeal.main_arg0) = m ((c.tc : Thread Cert.Proj768FwdIdeal.nD Cert.Proj768FwdIdeal.τ).loc Cert.Proj768FwdIdeal.main_arg0)
      ∧ r.2.mem ((c.tc : Thread Cert.Proj768FwdIdeal.nD Cert.Proj768FwdIdeal.τ).loc Cert.Proj768FwdIdeal.main_arg1) = m ((c.tc : Thread Cert.Proj768FwdIdeal.nD Cert.Proj768FwdIdeal.τ).loc Cert.Proj768FwdIdeal.main_arg1))
      ∧ r.2.sem = fun _ => 0)

def quiescent_Proj768FwdRefIdeal [hProj768FwdRefIdeal : Cert.Proj768FwdRefIdeal.Facts] : Prop :=
  ∀ (m : (ℓ : Loc Cert.Proj768FwdRefIdeal.nD Cert.Proj768FwdRefIdeal.τ Cert.Proj768FwdRefIdeal.sig) → Buf (Elt Ideal) ℓ) (g : Dev Cert.Proj768FwdRefIdeal.nD → PrngReg), Pre_Proj768FwdRefIdeal m →
    θ_run (Cert.Proj768FwdRefIdeal.defs (F := Ideal)) (onTc (τ := Cert.Proj768FwdRefIdeal.τ) (Cert.Proj768FwdRefIdeal.main (F := Ideal))) ⟨m, fun _ => 0, g⟩ (fun r => (∀ c : Dev Cert.Proj768FwdRefIdeal.nD,
      r.2.mem ((c.tc : Thread Cert.Proj768FwdRefIdeal.nD Cert.Proj768FwdRefIdeal.τ).loc Cert.Proj768FwdRefIdeal.main_arg0) = m ((c.tc : Thread Cert.Proj768FwdRefIdeal.nD Cert.Proj768FwdRefIdeal.τ).loc Cert.Proj768FwdRefIdeal.main_arg0)
      ∧ r.2.mem ((c.tc : Thread Cert.Proj768FwdRefIdeal.nD Cert.Proj768FwdRefIdeal.τ).loc Cert.Proj768FwdRefIdeal.main_arg1) = m ((c.tc : Thread Cert.Proj768FwdRefIdeal.nD Cert.Proj768FwdRefIdeal.τ).loc Cert.Proj768FwdRefIdeal.main_arg1))
      ∧ r.2.sem = fun _ => 0)

def quiescent_Proj1280Fwd [hProj1280Fwd : Cert.Proj1280Fwd.Facts] : Prop :=
  ∀ (m : (ℓ : Loc Cert.Proj1280Fwd.nD Cert.Proj1280Fwd.τ Cert.Proj1280Fwd.sig) → Buf (Elt Bits) ℓ) (g : Dev Cert.Proj1280Fwd.nD → PrngReg), Pre_Proj1280Fwd m →
    θ_run (Cert.Proj1280Fwd.defs (F := Bits)) (onTc (τ := Cert.Proj1280Fwd.τ) (Cert.Proj1280Fwd.main (F := Bits))) ⟨m, fun _ => 0, g⟩ (fun r => (∀ c : Dev Cert.Proj1280Fwd.nD,
      r.2.mem ((c.tc : Thread Cert.Proj1280Fwd.nD Cert.Proj1280Fwd.τ).loc Cert.Proj1280Fwd.main_arg0) = m ((c.tc : Thread Cert.Proj1280Fwd.nD Cert.Proj1280Fwd.τ).loc Cert.Proj1280Fwd.main_arg0)
      ∧ r.2.mem ((c.tc : Thread Cert.Proj1280Fwd.nD Cert.Proj1280Fwd.τ).loc Cert.Proj1280Fwd.main_arg1) = m ((c.tc : Thread Cert.Proj1280Fwd.nD Cert.Proj1280Fwd.τ).loc Cert.Proj1280Fwd.main_arg1))
      ∧ r.2.sem = fun _ => 0)

def quiescent_Proj1280FwdIdeal [hProj1280FwdIdeal : Cert.Proj1280FwdIdeal.Facts] : Prop :=
  ∀ (m : (ℓ : Loc Cert.Proj1280FwdIdeal.nD Cert.Proj1280FwdIdeal.τ Cert.Proj1280FwdIdeal.sig) → Buf (Elt Ideal) ℓ) (g : Dev Cert.Proj1280FwdIdeal.nD → PrngReg), Pre_Proj1280FwdIdeal m →
    θ_run (Cert.Proj1280FwdIdeal.defs (F := Ideal)) (onTc (τ := Cert.Proj1280FwdIdeal.τ) (Cert.Proj1280FwdIdeal.main (F := Ideal))) ⟨m, fun _ => 0, g⟩ (fun r => (∀ c : Dev Cert.Proj1280FwdIdeal.nD,
      r.2.mem ((c.tc : Thread Cert.Proj1280FwdIdeal.nD Cert.Proj1280FwdIdeal.τ).loc Cert.Proj1280FwdIdeal.main_arg0) = m ((c.tc : Thread Cert.Proj1280FwdIdeal.nD Cert.Proj1280FwdIdeal.τ).loc Cert.Proj1280FwdIdeal.main_arg0)
      ∧ r.2.mem ((c.tc : Thread Cert.Proj1280FwdIdeal.nD Cert.Proj1280FwdIdeal.τ).loc Cert.Proj1280FwdIdeal.main_arg1) = m ((c.tc : Thread Cert.Proj1280FwdIdeal.nD Cert.Proj1280FwdIdeal.τ).loc Cert.Proj1280FwdIdeal.main_arg1))
      ∧ r.2.sem = fun _ => 0)

def quiescent_Proj1280FwdRefIdeal [hProj1280FwdRefIdeal : Cert.Proj1280FwdRefIdeal.Facts] : Prop :=
  ∀ (m : (ℓ : Loc Cert.Proj1280FwdRefIdeal.nD Cert.Proj1280FwdRefIdeal.τ Cert.Proj1280FwdRefIdeal.sig) → Buf (Elt Ideal) ℓ) (g : Dev Cert.Proj1280FwdRefIdeal.nD → PrngReg), Pre_Proj1280FwdRefIdeal m →
    θ_run (Cert.Proj1280FwdRefIdeal.defs (F := Ideal)) (onTc (τ := Cert.Proj1280FwdRefIdeal.τ) (Cert.Proj1280FwdRefIdeal.main (F := Ideal))) ⟨m, fun _ => 0, g⟩ (fun r => (∀ c : Dev Cert.Proj1280FwdRefIdeal.nD,
      r.2.mem ((c.tc : Thread Cert.Proj1280FwdRefIdeal.nD Cert.Proj1280FwdRefIdeal.τ).loc Cert.Proj1280FwdRefIdeal.main_arg0) = m ((c.tc : Thread Cert.Proj1280FwdRefIdeal.nD Cert.Proj1280FwdRefIdeal.τ).loc Cert.Proj1280FwdRefIdeal.main_arg0)
      ∧ r.2.mem ((c.tc : Thread Cert.Proj1280FwdRefIdeal.nD Cert.Proj1280FwdRefIdeal.τ).loc Cert.Proj1280FwdRefIdeal.main_arg1) = m ((c.tc : Thread Cert.Proj1280FwdRefIdeal.nD Cert.Proj1280FwdRefIdeal.τ).loc Cert.Proj1280FwdRefIdeal.main_arg1))
      ∧ r.2.sem = fun _ => 0)

def quiescent_Proj1024Fwd [hProj1024Fwd : Cert.Proj1024Fwd.Facts] : Prop :=
  ∀ (m : (ℓ : Loc Cert.Proj1024Fwd.nD Cert.Proj1024Fwd.τ Cert.Proj1024Fwd.sig) → Buf (Elt Bits) ℓ) (g : Dev Cert.Proj1024Fwd.nD → PrngReg), Pre_Proj1024Fwd m →
    θ_run (Cert.Proj1024Fwd.defs (F := Bits)) (onTc (τ := Cert.Proj1024Fwd.τ) (Cert.Proj1024Fwd.main (F := Bits))) ⟨m, fun _ => 0, g⟩ (fun r => (∀ c : Dev Cert.Proj1024Fwd.nD,
      r.2.mem ((c.tc : Thread Cert.Proj1024Fwd.nD Cert.Proj1024Fwd.τ).loc Cert.Proj1024Fwd.main_arg0) = m ((c.tc : Thread Cert.Proj1024Fwd.nD Cert.Proj1024Fwd.τ).loc Cert.Proj1024Fwd.main_arg0)
      ∧ r.2.mem ((c.tc : Thread Cert.Proj1024Fwd.nD Cert.Proj1024Fwd.τ).loc Cert.Proj1024Fwd.main_arg1) = m ((c.tc : Thread Cert.Proj1024Fwd.nD Cert.Proj1024Fwd.τ).loc Cert.Proj1024Fwd.main_arg1))
      ∧ r.2.sem = fun _ => 0)

def quiescent_Proj1024FwdIdeal [hProj1024FwdIdeal : Cert.Proj1024FwdIdeal.Facts] : Prop :=
  ∀ (m : (ℓ : Loc Cert.Proj1024FwdIdeal.nD Cert.Proj1024FwdIdeal.τ Cert.Proj1024FwdIdeal.sig) → Buf (Elt Ideal) ℓ) (g : Dev Cert.Proj1024FwdIdeal.nD → PrngReg), Pre_Proj1024FwdIdeal m →
    θ_run (Cert.Proj1024FwdIdeal.defs (F := Ideal)) (onTc (τ := Cert.Proj1024FwdIdeal.τ) (Cert.Proj1024FwdIdeal.main (F := Ideal))) ⟨m, fun _ => 0, g⟩ (fun r => (∀ c : Dev Cert.Proj1024FwdIdeal.nD,
      r.2.mem ((c.tc : Thread Cert.Proj1024FwdIdeal.nD Cert.Proj1024FwdIdeal.τ).loc Cert.Proj1024FwdIdeal.main_arg0) = m ((c.tc : Thread Cert.Proj1024FwdIdeal.nD Cert.Proj1024FwdIdeal.τ).loc Cert.Proj1024FwdIdeal.main_arg0)
      ∧ r.2.mem ((c.tc : Thread Cert.Proj1024FwdIdeal.nD Cert.Proj1024FwdIdeal.τ).loc Cert.Proj1024FwdIdeal.main_arg1) = m ((c.tc : Thread Cert.Proj1024FwdIdeal.nD Cert.Proj1024FwdIdeal.τ).loc Cert.Proj1024FwdIdeal.main_arg1))
      ∧ r.2.sem = fun _ => 0)

def quiescent_Proj1024FwdRefIdeal [hProj1024FwdRefIdeal : Cert.Proj1024FwdRefIdeal.Facts] : Prop :=
  ∀ (m : (ℓ : Loc Cert.Proj1024FwdRefIdeal.nD Cert.Proj1024FwdRefIdeal.τ Cert.Proj1024FwdRefIdeal.sig) → Buf (Elt Ideal) ℓ) (g : Dev Cert.Proj1024FwdRefIdeal.nD → PrngReg), Pre_Proj1024FwdRefIdeal m →
    θ_run (Cert.Proj1024FwdRefIdeal.defs (F := Ideal)) (onTc (τ := Cert.Proj1024FwdRefIdeal.τ) (Cert.Proj1024FwdRefIdeal.main (F := Ideal))) ⟨m, fun _ => 0, g⟩ (fun r => (∀ c : Dev Cert.Proj1024FwdRefIdeal.nD,
      r.2.mem ((c.tc : Thread Cert.Proj1024FwdRefIdeal.nD Cert.Proj1024FwdRefIdeal.τ).loc Cert.Proj1024FwdRefIdeal.main_arg0) = m ((c.tc : Thread Cert.Proj1024FwdRefIdeal.nD Cert.Proj1024FwdRefIdeal.τ).loc Cert.Proj1024FwdRefIdeal.main_arg0)
      ∧ r.2.mem ((c.tc : Thread Cert.Proj1024FwdRefIdeal.nD Cert.Proj1024FwdRefIdeal.τ).loc Cert.Proj1024FwdRefIdeal.main_arg1) = m ((c.tc : Thread Cert.Proj1024FwdRefIdeal.nD Cert.Proj1024FwdRefIdeal.τ).loc Cert.Proj1024FwdRefIdeal.main_arg1))
      ∧ r.2.sem = fun _ => 0)

def quiescent_Proj128Fwd [hProj128Fwd : Cert.Proj128Fwd.Facts] : Prop :=
  ∀ (m : (ℓ : Loc Cert.Proj128Fwd.nD Cert.Proj128Fwd.τ Cert.Proj128Fwd.sig) → Buf (Elt Bits) ℓ) (g : Dev Cert.Proj128Fwd.nD → PrngReg), Pre_Proj128Fwd m →
    θ_run (Cert.Proj128Fwd.defs (F := Bits)) (onTc (τ := Cert.Proj128Fwd.τ) (Cert.Proj128Fwd.main (F := Bits))) ⟨m, fun _ => 0, g⟩ (fun r => (∀ c : Dev Cert.Proj128Fwd.nD,
      r.2.mem ((c.tc : Thread Cert.Proj128Fwd.nD Cert.Proj128Fwd.τ).loc Cert.Proj128Fwd.main_arg0) = m ((c.tc : Thread Cert.Proj128Fwd.nD Cert.Proj128Fwd.τ).loc Cert.Proj128Fwd.main_arg0)
      ∧ r.2.mem ((c.tc : Thread Cert.Proj128Fwd.nD Cert.Proj128Fwd.τ).loc Cert.Proj128Fwd.main_arg1) = m ((c.tc : Thread Cert.Proj128Fwd.nD Cert.Proj128Fwd.τ).loc Cert.Proj128Fwd.main_arg1))
      ∧ r.2.sem = fun _ => 0)

def quiescent_Proj128FwdIdeal [hProj128FwdIdeal : Cert.Proj128FwdIdeal.Facts] : Prop :=
  ∀ (m : (ℓ : Loc Cert.Proj128FwdIdeal.nD Cert.Proj128FwdIdeal.τ Cert.Proj128FwdIdeal.sig) → Buf (Elt Ideal) ℓ) (g : Dev Cert.Proj128FwdIdeal.nD → PrngReg), Pre_Proj128FwdIdeal m →
    θ_run (Cert.Proj128FwdIdeal.defs (F := Ideal)) (onTc (τ := Cert.Proj128FwdIdeal.τ) (Cert.Proj128FwdIdeal.main (F := Ideal))) ⟨m, fun _ => 0, g⟩ (fun r => (∀ c : Dev Cert.Proj128FwdIdeal.nD,
      r.2.mem ((c.tc : Thread Cert.Proj128FwdIdeal.nD Cert.Proj128FwdIdeal.τ).loc Cert.Proj128FwdIdeal.main_arg0) = m ((c.tc : Thread Cert.Proj128FwdIdeal.nD Cert.Proj128FwdIdeal.τ).loc Cert.Proj128FwdIdeal.main_arg0)
      ∧ r.2.mem ((c.tc : Thread Cert.Proj128FwdIdeal.nD Cert.Proj128FwdIdeal.τ).loc Cert.Proj128FwdIdeal.main_arg1) = m ((c.tc : Thread Cert.Proj128FwdIdeal.nD Cert.Proj128FwdIdeal.τ).loc Cert.Proj128FwdIdeal.main_arg1))
      ∧ r.2.sem = fun _ => 0)

def quiescent_Proj128FwdRefIdeal [hProj128FwdRefIdeal : Cert.Proj128FwdRefIdeal.Facts] : Prop :=
  ∀ (m : (ℓ : Loc Cert.Proj128FwdRefIdeal.nD Cert.Proj128FwdRefIdeal.τ Cert.Proj128FwdRefIdeal.sig) → Buf (Elt Ideal) ℓ) (g : Dev Cert.Proj128FwdRefIdeal.nD → PrngReg), Pre_Proj128FwdRefIdeal m →
    θ_run (Cert.Proj128FwdRefIdeal.defs (F := Ideal)) (onTc (τ := Cert.Proj128FwdRefIdeal.τ) (Cert.Proj128FwdRefIdeal.main (F := Ideal))) ⟨m, fun _ => 0, g⟩ (fun r => (∀ c : Dev Cert.Proj128FwdRefIdeal.nD,
      r.2.mem ((c.tc : Thread Cert.Proj128FwdRefIdeal.nD Cert.Proj128FwdRefIdeal.τ).loc Cert.Proj128FwdRefIdeal.main_arg0) = m ((c.tc : Thread Cert.Proj128FwdRefIdeal.nD Cert.Proj128FwdRefIdeal.τ).loc Cert.Proj128FwdRefIdeal.main_arg0)
      ∧ r.2.mem ((c.tc : Thread Cert.Proj128FwdRefIdeal.nD Cert.Proj128FwdRefIdeal.τ).loc Cert.Proj128FwdRefIdeal.main_arg1) = m ((c.tc : Thread Cert.Proj128FwdRefIdeal.nD Cert.Proj128FwdRefIdeal.τ).loc Cert.Proj128FwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_LnOutFwd [hLnOutFwd : Cert.LnOutFwd.Facts] : Prop :=
  ∀ (m : (ℓ : Loc Cert.LnOutFwd.nD Cert.LnOutFwd.τ Cert.LnOutFwd.sig) → Buf (Elt Bits) ℓ) (g : Dev Cert.LnOutFwd.nD → PrngReg), Pre_LnOutFwd m →
    θ_run (Cert.LnOutFwd.defs (F := Bits)) (onTc (τ := Cert.LnOutFwd.τ) (Cert.LnOutFwd.main (F := Bits))) ⟨m, fun _ => 0, g⟩ (fun r => (∀ c : Dev Cert.LnOutFwd.nD,
      r.2.mem ((c.tc : Thread Cert.LnOutFwd.nD Cert.LnOutFwd.τ).loc Cert.LnOutFwd.main_arg0) = m ((c.tc : Thread Cert.LnOutFwd.nD Cert.LnOutFwd.τ).loc Cert.LnOutFwd.main_arg0)
      ∧ r.2.mem ((c.tc : Thread Cert.LnOutFwd.nD Cert.LnOutFwd.τ).loc Cert.LnOutFwd.main_arg1) = m ((c.tc : Thread Cert.LnOutFwd.nD Cert.LnOutFwd.τ).loc Cert.LnOutFwd.main_arg1)
      ∧ r.2.mem ((c.tc : Thread Cert.LnOutFwd.nD Cert.LnOutFwd.τ).loc Cert.LnOutFwd.main_arg2) = m ((c.tc : Thread Cert.LnOutFwd.nD Cert.LnOutFwd.τ).loc Cert.LnOutFwd.main_arg2)
      ∧ r.2.mem ((c.tc : Thread Cert.LnOutFwd.nD Cert.LnOutFwd.τ).loc Cert.LnOutFwd.main_arg3) = m ((c.tc : Thread Cert.LnOutFwd.nD Cert.LnOutFwd.τ).loc Cert.LnOutFwd.main_arg3)
      ∧ r.2.mem ((c.tc : Thread Cert.LnOutFwd.nD Cert.LnOutFwd.τ).loc Cert.LnOutFwd.main_arg4) = m ((c.tc : Thread Cert.LnOutFwd.nD Cert.LnOutFwd.τ).loc Cert.LnOutFwd.main_arg4))
      ∧ r.2.sem = fun _ => 0)

def quiescent_LnOutFwdIdeal [hLnOutFwdIdeal : Cert.LnOutFwdIdeal.Facts] : Prop :=
  ∀ (m : (ℓ : Loc Cert.LnOutFwdIdeal.nD Cert.LnOutFwdIdeal.τ Cert.LnOutFwdIdeal.sig) → Buf (Elt Ideal) ℓ) (g : Dev Cert.LnOutFwdIdeal.nD → PrngReg), Pre_LnOutFwdIdeal m →
    θ_run (Cert.LnOutFwdIdeal.defs (F := Ideal)) (onTc (τ := Cert.LnOutFwdIdeal.τ) (Cert.LnOutFwdIdeal.main (F := Ideal))) ⟨m, fun _ => 0, g⟩ (fun r => (∀ c : Dev Cert.LnOutFwdIdeal.nD,
      r.2.mem ((c.tc : Thread Cert.LnOutFwdIdeal.nD Cert.LnOutFwdIdeal.τ).loc Cert.LnOutFwdIdeal.main_arg0) = m ((c.tc : Thread Cert.LnOutFwdIdeal.nD Cert.LnOutFwdIdeal.τ).loc Cert.LnOutFwdIdeal.main_arg0)
      ∧ r.2.mem ((c.tc : Thread Cert.LnOutFwdIdeal.nD Cert.LnOutFwdIdeal.τ).loc Cert.LnOutFwdIdeal.main_arg1) = m ((c.tc : Thread Cert.LnOutFwdIdeal.nD Cert.LnOutFwdIdeal.τ).loc Cert.LnOutFwdIdeal.main_arg1)
      ∧ r.2.mem ((c.tc : Thread Cert.LnOutFwdIdeal.nD Cert.LnOutFwdIdeal.τ).loc Cert.LnOutFwdIdeal.main_arg2) = m ((c.tc : Thread Cert.LnOutFwdIdeal.nD Cert.LnOutFwdIdeal.τ).loc Cert.LnOutFwdIdeal.main_arg2)
      ∧ r.2.mem ((c.tc : Thread Cert.LnOutFwdIdeal.nD Cert.LnOutFwdIdeal.τ).loc Cert.LnOutFwdIdeal.main_arg3) = m ((c.tc : Thread Cert.LnOutFwdIdeal.nD Cert.LnOutFwdIdeal.τ).loc Cert.LnOutFwdIdeal.main_arg3)
      ∧ r.2.mem ((c.tc : Thread Cert.LnOutFwdIdeal.nD Cert.LnOutFwdIdeal.τ).loc Cert.LnOutFwdIdeal.main_arg4) = m ((c.tc : Thread Cert.LnOutFwdIdeal.nD Cert.LnOutFwdIdeal.τ).loc Cert.LnOutFwdIdeal.main_arg4))
      ∧ r.2.sem = fun _ => 0)

def quiescent_LnOutFwdRefIdeal [hLnOutFwdRefIdeal : Cert.LnOutFwdRefIdeal.Facts] : Prop :=
  ∀ (m : (ℓ : Loc Cert.LnOutFwdRefIdeal.nD Cert.LnOutFwdRefIdeal.τ Cert.LnOutFwdRefIdeal.sig) → Buf (Elt Ideal) ℓ) (g : Dev Cert.LnOutFwdRefIdeal.nD → PrngReg), Pre_LnOutFwdRefIdeal m →
    θ_run (Cert.LnOutFwdRefIdeal.defs (F := Ideal)) (onTc (τ := Cert.LnOutFwdRefIdeal.τ) (Cert.LnOutFwdRefIdeal.main (F := Ideal))) ⟨m, fun _ => 0, g⟩ (fun r => (∀ c : Dev Cert.LnOutFwdRefIdeal.nD,
      r.2.mem ((c.tc : Thread Cert.LnOutFwdRefIdeal.nD Cert.LnOutFwdRefIdeal.τ).loc Cert.LnOutFwdRefIdeal.main_arg0) = m ((c.tc : Thread Cert.LnOutFwdRefIdeal.nD Cert.LnOutFwdRefIdeal.τ).loc Cert.LnOutFwdRefIdeal.main_arg0)
      ∧ r.2.mem ((c.tc : Thread Cert.LnOutFwdRefIdeal.nD Cert.LnOutFwdRefIdeal.τ).loc Cert.LnOutFwdRefIdeal.main_arg1) = m ((c.tc : Thread Cert.LnOutFwdRefIdeal.nD Cert.LnOutFwdRefIdeal.τ).loc Cert.LnOutFwdRefIdeal.main_arg1)
      ∧ r.2.mem ((c.tc : Thread Cert.LnOutFwdRefIdeal.nD Cert.LnOutFwdRefIdeal.τ).loc Cert.LnOutFwdRefIdeal.main_arg2) = m ((c.tc : Thread Cert.LnOutFwdRefIdeal.nD Cert.LnOutFwdRefIdeal.τ).loc Cert.LnOutFwdRefIdeal.main_arg2)
      ∧ r.2.mem ((c.tc : Thread Cert.LnOutFwdRefIdeal.nD Cert.LnOutFwdRefIdeal.τ).loc Cert.LnOutFwdRefIdeal.main_arg3) = m ((c.tc : Thread Cert.LnOutFwdRefIdeal.nD Cert.LnOutFwdRefIdeal.τ).loc Cert.LnOutFwdRefIdeal.main_arg3)
      ∧ r.2.mem ((c.tc : Thread Cert.LnOutFwdRefIdeal.nD Cert.LnOutFwdRefIdeal.τ).loc Cert.LnOutFwdRefIdeal.main_arg4) = m ((c.tc : Thread Cert.LnOutFwdRefIdeal.nD Cert.LnOutFwdRefIdeal.τ).loc Cert.LnOutFwdRefIdeal.main_arg4))
      ∧ r.2.sem = fun _ => 0)

def quiescent_S5PostFwd [hS5PostFwd : Cert.S5PostFwd.Facts] : Prop :=
  ∀ (m : (ℓ : Loc Cert.S5PostFwd.nD Cert.S5PostFwd.τ Cert.S5PostFwd.sig) → Buf (Elt Bits) ℓ) (g : Dev Cert.S5PostFwd.nD → PrngReg), Pre_S5PostFwd m →
    θ_run (Cert.S5PostFwd.defs (F := Bits)) (onTc (τ := Cert.S5PostFwd.τ) (Cert.S5PostFwd.main (F := Bits))) ⟨m, fun _ => 0, g⟩ (fun r => (∀ c : Dev Cert.S5PostFwd.nD,
      r.2.mem ((c.tc : Thread Cert.S5PostFwd.nD Cert.S5PostFwd.τ).loc Cert.S5PostFwd.main_arg0) = m ((c.tc : Thread Cert.S5PostFwd.nD Cert.S5PostFwd.τ).loc Cert.S5PostFwd.main_arg0)
      ∧ r.2.mem ((c.tc : Thread Cert.S5PostFwd.nD Cert.S5PostFwd.τ).loc Cert.S5PostFwd.main_arg1) = m ((c.tc : Thread Cert.S5PostFwd.nD Cert.S5PostFwd.τ).loc Cert.S5PostFwd.main_arg1)
      ∧ r.2.mem ((c.tc : Thread Cert.S5PostFwd.nD Cert.S5PostFwd.τ).loc Cert.S5PostFwd.main_arg2) = m ((c.tc : Thread Cert.S5PostFwd.nD Cert.S5PostFwd.τ).loc Cert.S5PostFwd.main_arg2)
      ∧ r.2.mem ((c.tc : Thread Cert.S5PostFwd.nD Cert.S5PostFwd.τ).loc Cert.S5PostFwd.main_arg3) = m ((c.tc : Thread Cert.S5PostFwd.nD Cert.S5PostFwd.τ).loc Cert.S5PostFwd.main_arg3)
      ∧ r.2.mem ((c.tc : Thread Cert.S5PostFwd.nD Cert.S5PostFwd.τ).loc Cert.S5PostFwd.main_arg4) = m ((c.tc : Thread Cert.S5PostFwd.nD Cert.S5PostFwd.τ).loc Cert.S5PostFwd.main_arg4)
      ∧ r.2.mem ((c.tc : Thread Cert.S5PostFwd.nD Cert.S5PostFwd.τ).loc Cert.S5PostFwd.main_arg5) = m ((c.tc : Thread Cert.S5PostFwd.nD Cert.S5PostFwd.τ).loc Cert.S5PostFwd.main_arg5))
      ∧ r.2.sem = fun _ => 0)

def quiescent_S5PostFwdIdeal [hS5PostFwdIdeal : Cert.S5PostFwdIdeal.Facts] : Prop :=
  ∀ (m : (ℓ : Loc Cert.S5PostFwdIdeal.nD Cert.S5PostFwdIdeal.τ Cert.S5PostFwdIdeal.sig) → Buf (Elt Ideal) ℓ) (g : Dev Cert.S5PostFwdIdeal.nD → PrngReg), Pre_S5PostFwdIdeal m →
    θ_run (Cert.S5PostFwdIdeal.defs (F := Ideal)) (onTc (τ := Cert.S5PostFwdIdeal.τ) (Cert.S5PostFwdIdeal.main (F := Ideal))) ⟨m, fun _ => 0, g⟩ (fun r => (∀ c : Dev Cert.S5PostFwdIdeal.nD,
      r.2.mem ((c.tc : Thread Cert.S5PostFwdIdeal.nD Cert.S5PostFwdIdeal.τ).loc Cert.S5PostFwdIdeal.main_arg0) = m ((c.tc : Thread Cert.S5PostFwdIdeal.nD Cert.S5PostFwdIdeal.τ).loc Cert.S5PostFwdIdeal.main_arg0)
      ∧ r.2.mem ((c.tc : Thread Cert.S5PostFwdIdeal.nD Cert.S5PostFwdIdeal.τ).loc Cert.S5PostFwdIdeal.main_arg1) = m ((c.tc : Thread Cert.S5PostFwdIdeal.nD Cert.S5PostFwdIdeal.τ).loc Cert.S5PostFwdIdeal.main_arg1)
      ∧ r.2.mem ((c.tc : Thread Cert.S5PostFwdIdeal.nD Cert.S5PostFwdIdeal.τ).loc Cert.S5PostFwdIdeal.main_arg2) = m ((c.tc : Thread Cert.S5PostFwdIdeal.nD Cert.S5PostFwdIdeal.τ).loc Cert.S5PostFwdIdeal.main_arg2)
      ∧ r.2.mem ((c.tc : Thread Cert.S5PostFwdIdeal.nD Cert.S5PostFwdIdeal.τ).loc Cert.S5PostFwdIdeal.main_arg3) = m ((c.tc : Thread Cert.S5PostFwdIdeal.nD Cert.S5PostFwdIdeal.τ).loc Cert.S5PostFwdIdeal.main_arg3)
      ∧ r.2.mem ((c.tc : Thread Cert.S5PostFwdIdeal.nD Cert.S5PostFwdIdeal.τ).loc Cert.S5PostFwdIdeal.main_arg4) = m ((c.tc : Thread Cert.S5PostFwdIdeal.nD Cert.S5PostFwdIdeal.τ).loc Cert.S5PostFwdIdeal.main_arg4)
      ∧ r.2.mem ((c.tc : Thread Cert.S5PostFwdIdeal.nD Cert.S5PostFwdIdeal.τ).loc Cert.S5PostFwdIdeal.main_arg5) = m ((c.tc : Thread Cert.S5PostFwdIdeal.nD Cert.S5PostFwdIdeal.τ).loc Cert.S5PostFwdIdeal.main_arg5))
      ∧ r.2.sem = fun _ => 0)

def quiescent_S5PostFwdRefIdeal [hS5PostFwdRefIdeal : Cert.S5PostFwdRefIdeal.Facts] : Prop :=
  ∀ (m : (ℓ : Loc Cert.S5PostFwdRefIdeal.nD Cert.S5PostFwdRefIdeal.τ Cert.S5PostFwdRefIdeal.sig) → Buf (Elt Ideal) ℓ) (g : Dev Cert.S5PostFwdRefIdeal.nD → PrngReg), Pre_S5PostFwdRefIdeal m →
    θ_run (Cert.S5PostFwdRefIdeal.defs (F := Ideal)) (onTc (τ := Cert.S5PostFwdRefIdeal.τ) (Cert.S5PostFwdRefIdeal.main (F := Ideal))) ⟨m, fun _ => 0, g⟩ (fun r => (∀ c : Dev Cert.S5PostFwdRefIdeal.nD,
      r.2.mem ((c.tc : Thread Cert.S5PostFwdRefIdeal.nD Cert.S5PostFwdRefIdeal.τ).loc Cert.S5PostFwdRefIdeal.main_arg0) = m ((c.tc : Thread Cert.S5PostFwdRefIdeal.nD Cert.S5PostFwdRefIdeal.τ).loc Cert.S5PostFwdRefIdeal.main_arg0)
      ∧ r.2.mem ((c.tc : Thread Cert.S5PostFwdRefIdeal.nD Cert.S5PostFwdRefIdeal.τ).loc Cert.S5PostFwdRefIdeal.main_arg1) = m ((c.tc : Thread Cert.S5PostFwdRefIdeal.nD Cert.S5PostFwdRefIdeal.τ).loc Cert.S5PostFwdRefIdeal.main_arg1)
      ∧ r.2.mem ((c.tc : Thread Cert.S5PostFwdRefIdeal.nD Cert.S5PostFwdRefIdeal.τ).loc Cert.S5PostFwdRefIdeal.main_arg2) = m ((c.tc : Thread Cert.S5PostFwdRefIdeal.nD Cert.S5PostFwdRefIdeal.τ).loc Cert.S5PostFwdRefIdeal.main_arg2)
      ∧ r.2.mem ((c.tc : Thread Cert.S5PostFwdRefIdeal.nD Cert.S5PostFwdRefIdeal.τ).loc Cert.S5PostFwdRefIdeal.main_arg3) = m ((c.tc : Thread Cert.S5PostFwdRefIdeal.nD Cert.S5PostFwdRefIdeal.τ).loc Cert.S5PostFwdRefIdeal.main_arg3)
      ∧ r.2.mem ((c.tc : Thread Cert.S5PostFwdRefIdeal.nD Cert.S5PostFwdRefIdeal.τ).loc Cert.S5PostFwdRefIdeal.main_arg4) = m ((c.tc : Thread Cert.S5PostFwdRefIdeal.nD Cert.S5PostFwdRefIdeal.τ).loc Cert.S5PostFwdRefIdeal.main_arg4)
      ∧ r.2.mem ((c.tc : Thread Cert.S5PostFwdRefIdeal.nD Cert.S5PostFwdRefIdeal.τ).loc Cert.S5PostFwdRefIdeal.main_arg5) = m ((c.tc : Thread Cert.S5PostFwdRefIdeal.nD Cert.S5PostFwdRefIdeal.τ).loc Cert.S5PostFwdRefIdeal.main_arg5))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6)
      ∧ r.2.mem ((c.tc : Thread Cert.SsdFwd.nD Cert.SsdFwd.τ).loc Cert.SsdFwd.main_arg7) = m ((c.tc : Thread Cert.SsdFwd.nD Cert.SsdFwd.τ).loc Cert.SsdFwd.main_arg7)
      ∧ r.2.mem ((c.tc : Thread Cert.SsdFwd.nD Cert.SsdFwd.τ).loc Cert.SsdFwd.main_arg8) = m ((c.tc : Thread Cert.SsdFwd.nD Cert.SsdFwd.τ).loc Cert.SsdFwd.main_arg8))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
      ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
      ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ r.2.sem = fun _ => 0)

def quiescent_SsdFwdRefIdeal [hSsdFwdRefIdeal : Cert.SsdFwdRefIdeal.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5)
      ∧ r.2.mem ((c.tc : Thread Cert.SsdFwdRefIdeal.nD Cert.SsdFwdRefIdeal.τ).loc Cert.SsdFwdRefIdeal.main_arg6) = m ((c.tc : Thread Cert.SsdFwdRefIdeal.nD Cert.SsdFwdRefIdeal.τ).loc Cert.SsdFwdRefIdeal.main_arg6)
      ∧ r.2.mem ((c.tc : Thread Cert.SsdFwdRefIdeal.nD Cert.SsdFwdRefIdeal.τ).loc Cert.SsdFwdRefIdeal.main_arg7) = m ((c.tc : Thread Cert.SsdFwdRefIdeal.nD Cert.SsdFwdRefIdeal.τ).loc Cert.SsdFwdRefIdeal.main_arg7)
      ∧ r.2.mem ((c.tc : Thread Cert.SsdFwdRefIdeal.nD Cert.SsdFwdRefIdeal.τ).loc Cert.SsdFwdRefIdeal.main_arg8) = m ((c.tc : Thread Cert.SsdFwdRefIdeal.nD Cert.SsdFwdRefIdeal.τ).loc Cert.SsdFwdRefIdeal.main_arg8))
      ∧ r.2.sem = fun _ => 0)

def quiescent_LnInBwd [hLnInBwd : Cert.LnInBwd.Facts] : Prop :=
  ∀ (m : (ℓ : Loc Cert.LnInBwd.nD Cert.LnInBwd.τ Cert.LnInBwd.sig) → Buf (Elt Bits) ℓ) (g : Dev Cert.LnInBwd.nD → PrngReg), Pre_LnInBwd m →
    θ_run (Cert.LnInBwd.defs (F := Bits)) (onTc (τ := Cert.LnInBwd.τ) (Cert.LnInBwd.main (F := Bits))) ⟨m, fun _ => 0, g⟩ (fun r => (∀ c : Dev Cert.LnInBwd.nD,
      r.2.mem ((c.tc : Thread Cert.LnInBwd.nD Cert.LnInBwd.τ).loc Cert.LnInBwd.main_arg0) = m ((c.tc : Thread Cert.LnInBwd.nD Cert.LnInBwd.τ).loc Cert.LnInBwd.main_arg0)
      ∧ r.2.mem ((c.tc : Thread Cert.LnInBwd.nD Cert.LnInBwd.τ).loc Cert.LnInBwd.main_arg1) = m ((c.tc : Thread Cert.LnInBwd.nD Cert.LnInBwd.τ).loc Cert.LnInBwd.main_arg1)
      ∧ r.2.mem ((c.tc : Thread Cert.LnInBwd.nD Cert.LnInBwd.τ).loc Cert.LnInBwd.main_arg2) = m ((c.tc : Thread Cert.LnInBwd.nD Cert.LnInBwd.τ).loc Cert.LnInBwd.main_arg2)
      ∧ r.2.mem ((c.tc : Thread Cert.LnInBwd.nD Cert.LnInBwd.τ).loc Cert.LnInBwd.main_arg3) = m ((c.tc : Thread Cert.LnInBwd.nD Cert.LnInBwd.τ).loc Cert.LnInBwd.main_arg3))
      ∧ r.2.sem = fun _ => 0)

def quiescent_LnInBwdIdeal [hLnInBwdIdeal : Cert.LnInBwdIdeal.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg), Pre_LnInBwdIdeal m →
    θ_run (Cert.LnInBwdIdeal.defs (F := Ideal)) (onTc (τ := Cert.LnInBwdIdeal.τ) (Cert.LnInBwdIdeal.main (F := Ideal))) ⟨m, fun _ => 0, g⟩ (fun r => (∀ c : Dev Cert.LnInBwdIdeal.nD,
      r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
      ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
      ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2)
      ∧ r.2.mem ((c.tc : Thread Cert.LnInBwdIdeal.nD Cert.LnInBwdIdeal.τ).loc Cert.LnInBwdIdeal.main_arg3) = m ((c.tc : Thread Cert.LnInBwdIdeal.nD Cert.LnInBwdIdeal.τ).loc Cert.LnInBwdIdeal.main_arg3))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2)
      ∧ r.2.mem ((c.tc : Thread Cert.LnInRefIdeal.nD Cert.LnInRefIdeal.τ).loc Cert.LnInRefIdeal.main_arg3) = m ((c.tc : Thread Cert.LnInRefIdeal.nD Cert.LnInRefIdeal.τ).loc Cert.LnInRefIdeal.main_arg3))
      ∧ r.2.sem = fun _ => 0)

def quiescent_LnInFwd [hLnInFwd : Cert.LnInFwd.Facts] : Prop :=
  ∀ (m : (ℓ : Loc Cert.LnInFwd.nD Cert.LnInFwd.τ Cert.LnInFwd.sig) → Buf (Elt Bits) ℓ) (g : Dev Cert.LnInFwd.nD → PrngReg), Pre_LnInFwd m →
    θ_run (Cert.LnInFwd.defs (F := Bits)) (onTc (τ := Cert.LnInFwd.τ) (Cert.LnInFwd.main (F := Bits))) ⟨m, fun _ => 0, g⟩ (fun r => (∀ c : Dev Cert.LnInFwd.nD,
      r.2.mem ((c.tc : Thread Cert.LnInFwd.nD Cert.LnInFwd.τ).loc Cert.LnInFwd.main_arg0) = m ((c.tc : Thread Cert.LnInFwd.nD Cert.LnInFwd.τ).loc Cert.LnInFwd.main_arg0)
      ∧ r.2.mem ((c.tc : Thread Cert.LnInFwd.nD Cert.LnInFwd.τ).loc Cert.LnInFwd.main_arg1) = m ((c.tc : Thread Cert.LnInFwd.nD Cert.LnInFwd.τ).loc Cert.LnInFwd.main_arg1)
      ∧ r.2.mem ((c.tc : Thread Cert.LnInFwd.nD Cert.LnInFwd.τ).loc Cert.LnInFwd.main_arg2) = m ((c.tc : Thread Cert.LnInFwd.nD Cert.LnInFwd.τ).loc Cert.LnInFwd.main_arg2))
      ∧ r.2.sem = fun _ => 0)

def quiescent_LnInFwdIdeal [hLnInFwdIdeal : Cert.LnInFwdIdeal.Facts] : Prop :=
  ∀ (m : (ℓ : Loc Cert.LnInFwdIdeal.nD Cert.LnInFwdIdeal.τ Cert.LnInFwdIdeal.sig) → Buf (Elt Ideal) ℓ) (g : Dev Cert.LnInFwdIdeal.nD → PrngReg), Pre_LnInFwdIdeal m →
    θ_run (Cert.LnInFwdIdeal.defs (F := Ideal)) (onTc (τ := Cert.LnInFwdIdeal.τ) (Cert.LnInFwdIdeal.main (F := Ideal))) ⟨m, fun _ => 0, g⟩ (fun r => (∀ c : Dev Cert.LnInFwdIdeal.nD,
      r.2.mem ((c.tc : Thread Cert.LnInFwdIdeal.nD Cert.LnInFwdIdeal.τ).loc Cert.LnInFwdIdeal.main_arg0) = m ((c.tc : Thread Cert.LnInFwdIdeal.nD Cert.LnInFwdIdeal.τ).loc Cert.LnInFwdIdeal.main_arg0)
      ∧ r.2.mem ((c.tc : Thread Cert.LnInFwdIdeal.nD Cert.LnInFwdIdeal.τ).loc Cert.LnInFwdIdeal.main_arg1) = m ((c.tc : Thread Cert.LnInFwdIdeal.nD Cert.LnInFwdIdeal.τ).loc Cert.LnInFwdIdeal.main_arg1)
      ∧ r.2.mem ((c.tc : Thread Cert.LnInFwdIdeal.nD Cert.LnInFwdIdeal.τ).loc Cert.LnInFwdIdeal.main_arg2) = m ((c.tc : Thread Cert.LnInFwdIdeal.nD Cert.LnInFwdIdeal.τ).loc Cert.LnInFwdIdeal.main_arg2))
      ∧ r.2.sem = fun _ => 0)

def quiescent_LnInFwdRefIdeal [hLnInFwdRefIdeal : Cert.LnInFwdRefIdeal.Facts] : Prop :=
  ∀ (m : (ℓ : Loc Cert.LnInFwdRefIdeal.nD Cert.LnInFwdRefIdeal.τ Cert.LnInFwdRefIdeal.sig) → Buf (Elt Ideal) ℓ) (g : Dev Cert.LnInFwdRefIdeal.nD → PrngReg), Pre_LnInFwdRefIdeal m →
    θ_run (Cert.LnInFwdRefIdeal.defs (F := Ideal)) (onTc (τ := Cert.LnInFwdRefIdeal.τ) (Cert.LnInFwdRefIdeal.main (F := Ideal))) ⟨m, fun _ => 0, g⟩ (fun r => (∀ c : Dev Cert.LnInFwdRefIdeal.nD,
      r.2.mem ((c.tc : Thread Cert.LnInFwdRefIdeal.nD Cert.LnInFwdRefIdeal.τ).loc Cert.LnInFwdRefIdeal.main_arg0) = m ((c.tc : Thread Cert.LnInFwdRefIdeal.nD Cert.LnInFwdRefIdeal.τ).loc Cert.LnInFwdRefIdeal.main_arg0)
      ∧ r.2.mem ((c.tc : Thread Cert.LnInFwdRefIdeal.nD Cert.LnInFwdRefIdeal.τ).loc Cert.LnInFwdRefIdeal.main_arg1) = m ((c.tc : Thread Cert.LnInFwdRefIdeal.nD Cert.LnInFwdRefIdeal.τ).loc Cert.LnInFwdRefIdeal.main_arg1)
      ∧ r.2.mem ((c.tc : Thread Cert.LnInFwdRefIdeal.nD Cert.LnInFwdRefIdeal.τ).loc Cert.LnInFwdRefIdeal.main_arg2) = m ((c.tc : Thread Cert.LnInFwdRefIdeal.nD Cert.LnInFwdRefIdeal.τ).loc Cert.LnInFwdRefIdeal.main_arg2))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ r.2.sem = fun _ => 0)

def quiescent_LossFwdRefIdeal [hLossFwdRefIdeal : Cert.LossFwdRefIdeal.Facts] : Prop :=
  ∀ (m : (ℓ : Loc Cert.LossFwdRefIdeal.nD Cert.LossFwdRefIdeal.τ Cert.LossFwdRefIdeal.sig) → Buf (Elt Ideal) ℓ) (g : Dev Cert.LossFwdRefIdeal.nD → PrngReg), Pre_LossFwdRefIdeal m →
    θ_run (Cert.LossFwdRefIdeal.defs (F := Ideal)) (onTc (τ := Cert.LossFwdRefIdeal.τ) (Cert.LossFwdRefIdeal.main (F := Ideal))) ⟨m, fun _ => 0, g⟩ (fun r => (∀ c : Dev Cert.LossFwdRefIdeal.nD,
      r.2.mem ((c.tc : Thread Cert.LossFwdRefIdeal.nD Cert.LossFwdRefIdeal.τ).loc Cert.LossFwdRefIdeal.main_arg0) = m ((c.tc : Thread Cert.LossFwdRefIdeal.nD Cert.LossFwdRefIdeal.τ).loc Cert.LossFwdRefIdeal.main_arg0)
      ∧ r.2.mem ((c.tc : Thread Cert.LossFwdRefIdeal.nD Cert.LossFwdRefIdeal.τ).loc Cert.LossFwdRefIdeal.main_arg1) = m ((c.tc : Thread Cert.LossFwdRefIdeal.nD Cert.LossFwdRefIdeal.τ).loc Cert.LossFwdRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ProjQkvBwd_ProjQkvBwdIdeal : Prop :=
  True

def algebraic_ProjQkvBwdIdeal_ProjQkvRefIdeal [hProjQkvBwdIdeal : Cert.ProjQkvBwdIdeal.Facts] [hProjQkvRefIdeal : Cert.ProjQkvRefIdeal.Facts] : Prop :=
  ∀ (m : (ℓ : Loc Cert.ProjQkvBwdIdeal.nD Cert.ProjQkvBwdIdeal.τ Cert.ProjQkvBwdIdeal.sig) → Buf (Elt Ideal) ℓ) (g : Dev Cert.ProjQkvBwdIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvBwdIdeal m →
    (∀ c : Dev Cert.ProjQkvBwdIdeal.nD,
      m' ((c.tc : Thread Cert.ProjQkvRefIdeal.nD Cert.ProjQkvRefIdeal.τ).loc Cert.ProjQkvRefIdeal.main_arg0) = m ((c.tc : Thread Cert.ProjQkvBwdIdeal.nD Cert.ProjQkvBwdIdeal.τ).loc Cert.ProjQkvBwdIdeal.main_arg0)
      ∧ m' ((c.tc : Thread Cert.ProjQkvRefIdeal.nD Cert.ProjQkvRefIdeal.τ).loc Cert.ProjQkvRefIdeal.main_arg1) = m ((c.tc : Thread Cert.ProjQkvBwdIdeal.nD Cert.ProjQkvBwdIdeal.τ).loc Cert.ProjQkvBwdIdeal.main_arg1)
      ∧ m' ((c.tc : Thread Cert.ProjQkvRefIdeal.nD Cert.ProjQkvRefIdeal.τ).loc Cert.ProjQkvRefIdeal.main_arg2) = m ((c.tc : Thread Cert.ProjQkvBwdIdeal.nD Cert.ProjQkvBwdIdeal.τ).loc Cert.ProjQkvBwdIdeal.main_arg2)) →
    ∃ (v0 : (c : Dev Cert.ProjQkvBwdIdeal.nD) → Buf (Elt Ideal) ((c.tc : Thread Cert.ProjQkvBwdIdeal.nD Cert.ProjQkvBwdIdeal.τ).loc Cert.ProjQkvBwdIdeal.main_v2_0)) (v1 : (c : Dev Cert.ProjQkvBwdIdeal.nD) → Buf (Elt Ideal) ((c.tc : Thread Cert.ProjQkvBwdIdeal.nD Cert.ProjQkvBwdIdeal.τ).loc Cert.ProjQkvBwdIdeal.main_v2_1)),
      θ_run (Cert.ProjQkvBwdIdeal.defs (F := Ideal)) (onTc (τ := Cert.ProjQkvBwdIdeal.τ) (Cert.ProjQkvBwdIdeal.main (F := Ideal))) ⟨m, fun _ => 0, g⟩ (fun r => ∀ c : Dev Cert.ProjQkvBwdIdeal.nD,
          r.2.mem ((c.tc : Thread Cert.ProjQkvBwdIdeal.nD Cert.ProjQkvBwdIdeal.τ).loc Cert.ProjQkvBwdIdeal.main_v2_0) = v0 c
          ∧ r.2.mem ((c.tc : Thread Cert.ProjQkvBwdIdeal.nD Cert.ProjQkvBwdIdeal.τ).loc Cert.ProjQkvBwdIdeal.main_v2_1) = v1 c
          ∧ r.2.mem ((c.tc : Thread Cert.ProjQkvBwdIdeal.nD Cert.ProjQkvBwdIdeal.τ).loc Cert.ProjQkvBwdIdeal.main_arg0) = m ((c.tc : Thread Cert.ProjQkvBwdIdeal.nD Cert.ProjQkvBwdIdeal.τ).loc Cert.ProjQkvBwdIdeal.main_arg0)
          ∧ r.2.mem ((c.tc : Thread Cert.ProjQkvBwdIdeal.nD Cert.ProjQkvBwdIdeal.τ).loc Cert.ProjQkvBwdIdeal.main_arg1) = m ((c.tc : Thread Cert.ProjQkvBwdIdeal.nD Cert.ProjQkvBwdIdeal.τ).loc Cert.ProjQkvBwdIdeal.main_arg1)
          ∧ r.2.mem ((c.tc : Thread Cert.ProjQkvBwdIdeal.nD Cert.ProjQkvBwdIdeal.τ).loc Cert.ProjQkvBwdIdeal.main_arg2) = m ((c.tc : Thread Cert.ProjQkvBwdIdeal.nD Cert.ProjQkvBwdIdeal.τ).loc Cert.ProjQkvBwdIdeal.main_arg2))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v3) = v0 c
          ∧ r.2.mem ((c.tc : Thread Cert.ProjQkvRefIdeal.nD Cert.ProjQkvRefIdeal.τ).loc Cert.ProjQkvRefIdeal.main_v2) = v1 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1)
          ∧ r.2.mem ((c.tc : Thread Cert.ProjQkvRefIdeal.nD Cert.ProjQkvRefIdeal.τ).loc Cert.ProjQkvRefIdeal.main_arg2) = m' ((c.tc : Thread Cert.ProjQkvRefIdeal.nD Cert.ProjQkvRefIdeal.τ).loc Cert.ProjQkvRefIdeal.main_arg2))

def preserves_LnOutBwd_LnOutBwdIdeal : Prop :=
  True

def algebraic_LnOutBwdIdeal_LnOutRefIdeal [hLnOutBwdIdeal : Cert.LnOutBwdIdeal.Facts] [hLnOutRefIdeal : Cert.LnOutRefIdeal.Facts] : Prop :=
  ∀ (m : (ℓ : Loc Cert.LnOutBwdIdeal.nD Cert.LnOutBwdIdeal.τ Cert.LnOutBwdIdeal.sig) → Buf (Elt Ideal) ℓ) (g : Dev Cert.LnOutBwdIdeal.nD → PrngReg)
    (m' : (ℓ : Loc Cert.LnOutRefIdeal.nD Cert.LnOutRefIdeal.τ Cert.LnOutRefIdeal.sig) → Buf (Elt Ideal) ℓ) (g' : Dev Cert.LnOutRefIdeal.nD → PrngReg), Pre_LnOutBwdIdeal m →
    (∀ c : Dev Cert.LnOutBwdIdeal.nD,
      m' ((c.tc : Thread Cert.LnOutRefIdeal.nD Cert.LnOutRefIdeal.τ).loc Cert.LnOutRefIdeal.main_arg0) = m ((c.tc : Thread Cert.LnOutBwdIdeal.nD Cert.LnOutBwdIdeal.τ).loc Cert.LnOutBwdIdeal.main_arg0)
      ∧ m' ((c.tc : Thread Cert.LnOutRefIdeal.nD Cert.LnOutRefIdeal.τ).loc Cert.LnOutRefIdeal.main_arg1) = m ((c.tc : Thread Cert.LnOutBwdIdeal.nD Cert.LnOutBwdIdeal.τ).loc Cert.LnOutBwdIdeal.main_arg1)
      ∧ m' ((c.tc : Thread Cert.LnOutRefIdeal.nD Cert.LnOutRefIdeal.τ).loc Cert.LnOutRefIdeal.main_arg2) = m ((c.tc : Thread Cert.LnOutBwdIdeal.nD Cert.LnOutBwdIdeal.τ).loc Cert.LnOutBwdIdeal.main_arg2)
      ∧ m' ((c.tc : Thread Cert.LnOutRefIdeal.nD Cert.LnOutRefIdeal.τ).loc Cert.LnOutRefIdeal.main_arg3) = m ((c.tc : Thread Cert.LnOutBwdIdeal.nD Cert.LnOutBwdIdeal.τ).loc Cert.LnOutBwdIdeal.main_arg3)
      ∧ m' ((c.tc : Thread Cert.LnOutRefIdeal.nD Cert.LnOutRefIdeal.τ).loc Cert.LnOutRefIdeal.main_arg4) = m ((c.tc : Thread Cert.LnOutBwdIdeal.nD Cert.LnOutBwdIdeal.τ).loc Cert.LnOutBwdIdeal.main_arg4)
      ∧ m' ((c.tc : Thread Cert.LnOutRefIdeal.nD Cert.LnOutRefIdeal.τ).loc Cert.LnOutRefIdeal.main_arg5) = m ((c.tc : Thread Cert.LnOutBwdIdeal.nD Cert.LnOutBwdIdeal.τ).loc Cert.LnOutBwdIdeal.main_arg5)) →
    ∃ (v0 : (c : Dev Cert.LnOutBwdIdeal.nD) → Buf (Elt Ideal) ((c.tc : Thread Cert.LnOutBwdIdeal.nD Cert.LnOutBwdIdeal.τ).loc Cert.LnOutBwdIdeal.main_v0_0)) (v1 : (c : Dev Cert.LnOutBwdIdeal.nD) → Buf (Elt Ideal) ((c.tc : Thread Cert.LnOutBwdIdeal.nD Cert.LnOutBwdIdeal.τ).loc Cert.LnOutBwdIdeal.main_v0_1)) (v2 : (c : Dev Cert.LnOutBwdIdeal.nD) → Buf (Elt Ideal) ((c.tc : Thread Cert.LnOutBwdIdeal.nD Cert.LnOutBwdIdeal.τ).loc Cert.LnOutBwdIdeal.main_v0_2)) (v3 : (c : Dev Cert.LnOutBwdIdeal.nD) → Buf (Elt Ideal) ((c.tc : Thread Cert.LnOutBwdIdeal.nD Cert.LnOutBwdIdeal.τ).loc Cert.LnOutBwdIdeal.main_v0_3)) (v4 : (c : Dev Cert.LnOutBwdIdeal.nD) → Buf (Elt Ideal) ((c.tc : Thread Cert.LnOutBwdIdeal.nD Cert.LnOutBwdIdeal.τ).loc Cert.LnOutBwdIdeal.main_v0_4)),
      θ_run (Cert.LnOutBwdIdeal.defs (F := Ideal)) (onTc (τ := Cert.LnOutBwdIdeal.τ) (Cert.LnOutBwdIdeal.main (F := Ideal))) ⟨m, fun _ => 0, g⟩ (fun r => ∀ c : Dev Cert.LnOutBwdIdeal.nD,
          r.2.mem ((c.tc : Thread Cert.LnOutBwdIdeal.nD Cert.LnOutBwdIdeal.τ).loc Cert.LnOutBwdIdeal.main_v0_0) = v0 c
          ∧ r.2.mem ((c.tc : Thread Cert.LnOutBwdIdeal.nD Cert.LnOutBwdIdeal.τ).loc Cert.LnOutBwdIdeal.main_v0_1) = v1 c
          ∧ r.2.mem ((c.tc : Thread Cert.LnOutBwdIdeal.nD Cert.LnOutBwdIdeal.τ).loc Cert.LnOutBwdIdeal.main_v0_2) = v2 c
          ∧ r.2.mem ((c.tc : Thread Cert.LnOutBwdIdeal.nD Cert.LnOutBwdIdeal.τ).loc Cert.LnOutBwdIdeal.main_v0_3) = v3 c
          ∧ r.2.mem ((c.tc : Thread Cert.LnOutBwdIdeal.nD Cert.LnOutBwdIdeal.τ).loc Cert.LnOutBwdIdeal.main_v0_4) = v4 c
          ∧ r.2.mem ((c.tc : Thread Cert.LnOutBwdIdeal.nD Cert.LnOutBwdIdeal.τ).loc Cert.LnOutBwdIdeal.main_arg0) = m ((c.tc : Thread Cert.LnOutBwdIdeal.nD Cert.LnOutBwdIdeal.τ).loc Cert.LnOutBwdIdeal.main_arg0)
          ∧ r.2.mem ((c.tc : Thread Cert.LnOutBwdIdeal.nD Cert.LnOutBwdIdeal.τ).loc Cert.LnOutBwdIdeal.main_arg1) = m ((c.tc : Thread Cert.LnOutBwdIdeal.nD Cert.LnOutBwdIdeal.τ).loc Cert.LnOutBwdIdeal.main_arg1)
          ∧ r.2.mem ((c.tc : Thread Cert.LnOutBwdIdeal.nD Cert.LnOutBwdIdeal.τ).loc Cert.LnOutBwdIdeal.main_arg2) = m ((c.tc : Thread Cert.LnOutBwdIdeal.nD Cert.LnOutBwdIdeal.τ).loc Cert.LnOutBwdIdeal.main_arg2)
          ∧ r.2.mem ((c.tc : Thread Cert.LnOutBwdIdeal.nD Cert.LnOutBwdIdeal.τ).loc Cert.LnOutBwdIdeal.main_arg3) = m ((c.tc : Thread Cert.LnOutBwdIdeal.nD Cert.LnOutBwdIdeal.τ).loc Cert.LnOutBwdIdeal.main_arg3)
          ∧ r.2.mem ((c.tc : Thread Cert.LnOutBwdIdeal.nD Cert.LnOutBwdIdeal.τ).loc Cert.LnOutBwdIdeal.main_arg4) = m ((c.tc : Thread Cert.LnOutBwdIdeal.nD Cert.LnOutBwdIdeal.τ).loc Cert.LnOutBwdIdeal.main_arg4)
          ∧ r.2.mem ((c.tc : Thread Cert.LnOutBwdIdeal.nD Cert.LnOutBwdIdeal.τ).loc Cert.LnOutBwdIdeal.main_arg5) = m ((c.tc : Thread Cert.LnOutBwdIdeal.nD Cert.LnOutBwdIdeal.τ).loc Cert.LnOutBwdIdeal.main_arg5))
      ∧ θ_run (Cert.LnOutRefIdeal.defs (F := Ideal)) (onTc (τ := Cert.LnOutRefIdeal.τ) (Cert.LnOutRefIdeal.main (F := Ideal))) ⟨m', fun _ => 0, g'⟩ (fun r => ∀ c : Dev Cert.LnOutRefIdeal.nD,
          r.2.mem ((c.tc : Thread Cert.LnOutRefIdeal.nD Cert.LnOutRefIdeal.τ).loc Cert.LnOutRefIdeal.main_v70) = v0 c
          ∧ r.2.mem ((c.tc : Thread Cert.LnOutRefIdeal.nD Cert.LnOutRefIdeal.τ).loc Cert.LnOutRefIdeal.main_v71) = v1 c
          ∧ r.2.mem ((c.tc : Thread Cert.LnOutRefIdeal.nD Cert.LnOutRefIdeal.τ).loc Cert.LnOutRefIdeal.main_v72) = v2 c
          ∧ r.2.mem ((c.tc : Thread Cert.LnOutRefIdeal.nD Cert.LnOutRefIdeal.τ).loc Cert.LnOutRefIdeal.main_v73) = v3 c
          ∧ r.2.mem ((c.tc : Thread Cert.LnOutRefIdeal.nD Cert.LnOutRefIdeal.τ).loc Cert.LnOutRefIdeal.main_v74) = v4 c
          ∧ r.2.mem ((c.tc : Thread Cert.LnOutRefIdeal.nD Cert.LnOutRefIdeal.τ).loc Cert.LnOutRefIdeal.main_arg0) = m' ((c.tc : Thread Cert.LnOutRefIdeal.nD Cert.LnOutRefIdeal.τ).loc Cert.LnOutRefIdeal.main_arg0)
          ∧ r.2.mem ((c.tc : Thread Cert.LnOutRefIdeal.nD Cert.LnOutRefIdeal.τ).loc Cert.LnOutRefIdeal.main_arg1) = m' ((c.tc : Thread Cert.LnOutRefIdeal.nD Cert.LnOutRefIdeal.τ).loc Cert.LnOutRefIdeal.main_arg1)
          ∧ r.2.mem ((c.tc : Thread Cert.LnOutRefIdeal.nD Cert.LnOutRefIdeal.τ).loc Cert.LnOutRefIdeal.main_arg2) = m' ((c.tc : Thread Cert.LnOutRefIdeal.nD Cert.LnOutRefIdeal.τ).loc Cert.LnOutRefIdeal.main_arg2)
          ∧ r.2.mem ((c.tc : Thread Cert.LnOutRefIdeal.nD Cert.LnOutRefIdeal.τ).loc Cert.LnOutRefIdeal.main_arg3) = m' ((c.tc : Thread Cert.LnOutRefIdeal.nD Cert.LnOutRefIdeal.τ).loc Cert.LnOutRefIdeal.main_arg3)
          ∧ r.2.mem ((c.tc : Thread Cert.LnOutRefIdeal.nD Cert.LnOutRefIdeal.τ).loc Cert.LnOutRefIdeal.main_arg4) = m' ((c.tc : Thread Cert.LnOutRefIdeal.nD Cert.LnOutRefIdeal.τ).loc Cert.LnOutRefIdeal.main_arg4)
          ∧ r.2.mem ((c.tc : Thread Cert.LnOutRefIdeal.nD Cert.LnOutRefIdeal.τ).loc Cert.LnOutRefIdeal.main_arg5) = m' ((c.tc : Thread Cert.LnOutRefIdeal.nD Cert.LnOutRefIdeal.τ).loc Cert.LnOutRefIdeal.main_arg5))

def preserves_S5PostBwd_S5PostBwdIdeal : Prop :=
  True

def algebraic_S5PostBwdIdeal_S5PostRefIdeal [hS5PostBwdIdeal : Cert.S5PostBwdIdeal.Facts] [hS5PostRefIdeal : Cert.S5PostRefIdeal.Facts] : Prop :=
  ∀ (m : (ℓ : Loc Cert.S5PostBwdIdeal.nD Cert.S5PostBwdIdeal.τ Cert.S5PostBwdIdeal.sig) → Buf (Elt Ideal) ℓ) (g : Dev Cert.S5PostBwdIdeal.nD → PrngReg)
    (m' : (ℓ : Loc Cert.S5PostRefIdeal.nD Cert.S5PostRefIdeal.τ Cert.S5PostRefIdeal.sig) → Buf (Elt Ideal) ℓ) (g' : Dev Cert.S5PostRefIdeal.nD → PrngReg), Pre_S5PostBwdIdeal m →
    (∀ c : Dev Cert.S5PostBwdIdeal.nD,
      m' ((c.tc : Thread Cert.S5PostRefIdeal.nD Cert.S5PostRefIdeal.τ).loc Cert.S5PostRefIdeal.main_arg0) = m ((c.tc : Thread Cert.S5PostBwdIdeal.nD Cert.S5PostBwdIdeal.τ).loc Cert.S5PostBwdIdeal.main_arg0)
      ∧ m' ((c.tc : Thread Cert.S5PostRefIdeal.nD Cert.S5PostRefIdeal.τ).loc Cert.S5PostRefIdeal.main_arg1) = m ((c.tc : Thread Cert.S5PostBwdIdeal.nD Cert.S5PostBwdIdeal.τ).loc Cert.S5PostBwdIdeal.main_arg1)
      ∧ m' ((c.tc : Thread Cert.S5PostRefIdeal.nD Cert.S5PostRefIdeal.τ).loc Cert.S5PostRefIdeal.main_arg2) = m ((c.tc : Thread Cert.S5PostBwdIdeal.nD Cert.S5PostBwdIdeal.τ).loc Cert.S5PostBwdIdeal.main_arg2)
      ∧ m' ((c.tc : Thread Cert.S5PostRefIdeal.nD Cert.S5PostRefIdeal.τ).loc Cert.S5PostRefIdeal.main_arg3) = m ((c.tc : Thread Cert.S5PostBwdIdeal.nD Cert.S5PostBwdIdeal.τ).loc Cert.S5PostBwdIdeal.main_arg3)
      ∧ m' ((c.tc : Thread Cert.S5PostRefIdeal.nD Cert.S5PostRefIdeal.τ).loc Cert.S5PostRefIdeal.main_arg4) = m ((c.tc : Thread Cert.S5PostBwdIdeal.nD Cert.S5PostBwdIdeal.τ).loc Cert.S5PostBwdIdeal.main_arg4)
      ∧ m' ((c.tc : Thread Cert.S5PostRefIdeal.nD Cert.S5PostRefIdeal.τ).loc Cert.S5PostRefIdeal.main_arg5) = m ((c.tc : Thread Cert.S5PostBwdIdeal.nD Cert.S5PostBwdIdeal.τ).loc Cert.S5PostBwdIdeal.main_arg5)
      ∧ m' ((c.tc : Thread Cert.S5PostRefIdeal.nD Cert.S5PostRefIdeal.τ).loc Cert.S5PostRefIdeal.main_arg6) = m ((c.tc : Thread Cert.S5PostBwdIdeal.nD Cert.S5PostBwdIdeal.τ).loc Cert.S5PostBwdIdeal.main_arg6)) →
    ∃ (v0 : (c : Dev Cert.S5PostBwdIdeal.nD) → Buf (Elt Ideal) ((c.tc : Thread Cert.S5PostBwdIdeal.nD Cert.S5PostBwdIdeal.τ).loc Cert.S5PostBwdIdeal.main_v0_0)) (v1 : (c : Dev Cert.S5PostBwdIdeal.nD) → Buf (Elt Ideal) ((c.tc : Thread Cert.S5PostBwdIdeal.nD Cert.S5PostBwdIdeal.τ).loc Cert.S5PostBwdIdeal.main_v0_1)) (v2 : (c : Dev Cert.S5PostBwdIdeal.nD) → Buf (Elt Ideal) ((c.tc : Thread Cert.S5PostBwdIdeal.nD Cert.S5PostBwdIdeal.τ).loc Cert.S5PostBwdIdeal.main_v0_2)) (v3 : (c : Dev Cert.S5PostBwdIdeal.nD) → Buf (Elt Ideal) ((c.tc : Thread Cert.S5PostBwdIdeal.nD Cert.S5PostBwdIdeal.τ).loc Cert.S5PostBwdIdeal.main_v0_3)) (v4 : (c : Dev Cert.S5PostBwdIdeal.nD) → Buf (Elt Ideal) ((c.tc : Thread Cert.S5PostBwdIdeal.nD Cert.S5PostBwdIdeal.τ).loc Cert.S5PostBwdIdeal.main_v0_4)) (v5 : (c : Dev Cert.S5PostBwdIdeal.nD) → Buf (Elt Ideal) ((c.tc : Thread Cert.S5PostBwdIdeal.nD Cert.S5PostBwdIdeal.τ).loc Cert.S5PostBwdIdeal.main_v0_5)),
      θ_run (Cert.S5PostBwdIdeal.defs (F := Ideal)) (onTc (τ := Cert.S5PostBwdIdeal.τ) (Cert.S5PostBwdIdeal.main (F := Ideal))) ⟨m, fun _ => 0, g⟩ (fun r => ∀ c : Dev Cert.S5PostBwdIdeal.nD,
          r.2.mem ((c.tc : Thread Cert.S5PostBwdIdeal.nD Cert.S5PostBwdIdeal.τ).loc Cert.S5PostBwdIdeal.main_v0_0) = v0 c
          ∧ r.2.mem ((c.tc : Thread Cert.S5PostBwdIdeal.nD Cert.S5PostBwdIdeal.τ).loc Cert.S5PostBwdIdeal.main_v0_1) = v1 c
          ∧ r.2.mem ((c.tc : Thread Cert.S5PostBwdIdeal.nD Cert.S5PostBwdIdeal.τ).loc Cert.S5PostBwdIdeal.main_v0_2) = v2 c
          ∧ r.2.mem ((c.tc : Thread Cert.S5PostBwdIdeal.nD Cert.S5PostBwdIdeal.τ).loc Cert.S5PostBwdIdeal.main_v0_3) = v3 c
          ∧ r.2.mem ((c.tc : Thread Cert.S5PostBwdIdeal.nD Cert.S5PostBwdIdeal.τ).loc Cert.S5PostBwdIdeal.main_v0_4) = v4 c
          ∧ r.2.mem ((c.tc : Thread Cert.S5PostBwdIdeal.nD Cert.S5PostBwdIdeal.τ).loc Cert.S5PostBwdIdeal.main_v0_5) = v5 c
          ∧ r.2.mem ((c.tc : Thread Cert.S5PostBwdIdeal.nD Cert.S5PostBwdIdeal.τ).loc Cert.S5PostBwdIdeal.main_arg0) = m ((c.tc : Thread Cert.S5PostBwdIdeal.nD Cert.S5PostBwdIdeal.τ).loc Cert.S5PostBwdIdeal.main_arg0)
          ∧ r.2.mem ((c.tc : Thread Cert.S5PostBwdIdeal.nD Cert.S5PostBwdIdeal.τ).loc Cert.S5PostBwdIdeal.main_arg1) = m ((c.tc : Thread Cert.S5PostBwdIdeal.nD Cert.S5PostBwdIdeal.τ).loc Cert.S5PostBwdIdeal.main_arg1)
          ∧ r.2.mem ((c.tc : Thread Cert.S5PostBwdIdeal.nD Cert.S5PostBwdIdeal.τ).loc Cert.S5PostBwdIdeal.main_arg2) = m ((c.tc : Thread Cert.S5PostBwdIdeal.nD Cert.S5PostBwdIdeal.τ).loc Cert.S5PostBwdIdeal.main_arg2)
          ∧ r.2.mem ((c.tc : Thread Cert.S5PostBwdIdeal.nD Cert.S5PostBwdIdeal.τ).loc Cert.S5PostBwdIdeal.main_arg3) = m ((c.tc : Thread Cert.S5PostBwdIdeal.nD Cert.S5PostBwdIdeal.τ).loc Cert.S5PostBwdIdeal.main_arg3)
          ∧ r.2.mem ((c.tc : Thread Cert.S5PostBwdIdeal.nD Cert.S5PostBwdIdeal.τ).loc Cert.S5PostBwdIdeal.main_arg4) = m ((c.tc : Thread Cert.S5PostBwdIdeal.nD Cert.S5PostBwdIdeal.τ).loc Cert.S5PostBwdIdeal.main_arg4)
          ∧ r.2.mem ((c.tc : Thread Cert.S5PostBwdIdeal.nD Cert.S5PostBwdIdeal.τ).loc Cert.S5PostBwdIdeal.main_arg5) = m ((c.tc : Thread Cert.S5PostBwdIdeal.nD Cert.S5PostBwdIdeal.τ).loc Cert.S5PostBwdIdeal.main_arg5)
          ∧ r.2.mem ((c.tc : Thread Cert.S5PostBwdIdeal.nD Cert.S5PostBwdIdeal.τ).loc Cert.S5PostBwdIdeal.main_arg6) = m ((c.tc : Thread Cert.S5PostBwdIdeal.nD Cert.S5PostBwdIdeal.τ).loc Cert.S5PostBwdIdeal.main_arg6))
      ∧ θ_run (Cert.S5PostRefIdeal.defs (F := Ideal)) (onTc (τ := Cert.S5PostRefIdeal.τ) (Cert.S5PostRefIdeal.main (F := Ideal))) ⟨m', fun _ => 0, g'⟩ (fun r => ∀ c : Dev Cert.S5PostRefIdeal.nD,
          r.2.mem ((c.tc : Thread Cert.S5PostRefIdeal.nD Cert.S5PostRefIdeal.τ).loc Cert.S5PostRefIdeal.main_v68) = v0 c
          ∧ r.2.mem ((c.tc : Thread Cert.S5PostRefIdeal.nD Cert.S5PostRefIdeal.τ).loc Cert.S5PostRefIdeal.main_v69) = v1 c
          ∧ r.2.mem ((c.tc : Thread Cert.S5PostRefIdeal.nD Cert.S5PostRefIdeal.τ).loc Cert.S5PostRefIdeal.main_v70) = v2 c
          ∧ r.2.mem ((c.tc : Thread Cert.S5PostRefIdeal.nD Cert.S5PostRefIdeal.τ).loc Cert.S5PostRefIdeal.main_v71) = v3 c
          ∧ r.2.mem ((c.tc : Thread Cert.S5PostRefIdeal.nD Cert.S5PostRefIdeal.τ).loc Cert.S5PostRefIdeal.main_v72) = v4 c
          ∧ r.2.mem ((c.tc : Thread Cert.S5PostRefIdeal.nD Cert.S5PostRefIdeal.τ).loc Cert.S5PostRefIdeal.main_v73) = v5 c
          ∧ r.2.mem ((c.tc : Thread Cert.S5PostRefIdeal.nD Cert.S5PostRefIdeal.τ).loc Cert.S5PostRefIdeal.main_arg0) = m' ((c.tc : Thread Cert.S5PostRefIdeal.nD Cert.S5PostRefIdeal.τ).loc Cert.S5PostRefIdeal.main_arg0)
          ∧ r.2.mem ((c.tc : Thread Cert.S5PostRefIdeal.nD Cert.S5PostRefIdeal.τ).loc Cert.S5PostRefIdeal.main_arg1) = m' ((c.tc : Thread Cert.S5PostRefIdeal.nD Cert.S5PostRefIdeal.τ).loc Cert.S5PostRefIdeal.main_arg1)
          ∧ r.2.mem ((c.tc : Thread Cert.S5PostRefIdeal.nD Cert.S5PostRefIdeal.τ).loc Cert.S5PostRefIdeal.main_arg2) = m' ((c.tc : Thread Cert.S5PostRefIdeal.nD Cert.S5PostRefIdeal.τ).loc Cert.S5PostRefIdeal.main_arg2)
          ∧ r.2.mem ((c.tc : Thread Cert.S5PostRefIdeal.nD Cert.S5PostRefIdeal.τ).loc Cert.S5PostRefIdeal.main_arg3) = m' ((c.tc : Thread Cert.S5PostRefIdeal.nD Cert.S5PostRefIdeal.τ).loc Cert.S5PostRefIdeal.main_arg3)
          ∧ r.2.mem ((c.tc : Thread Cert.S5PostRefIdeal.nD Cert.S5PostRefIdeal.τ).loc Cert.S5PostRefIdeal.main_arg4) = m' ((c.tc : Thread Cert.S5PostRefIdeal.nD Cert.S5PostRefIdeal.τ).loc Cert.S5PostRefIdeal.main_arg4)
          ∧ r.2.mem ((c.tc : Thread Cert.S5PostRefIdeal.nD Cert.S5PostRefIdeal.τ).loc Cert.S5PostRefIdeal.main_arg5) = m' ((c.tc : Thread Cert.S5PostRefIdeal.nD Cert.S5PostRefIdeal.τ).loc Cert.S5PostRefIdeal.main_arg5)
          ∧ r.2.mem ((c.tc : Thread Cert.S5PostRefIdeal.nD Cert.S5PostRefIdeal.τ).loc Cert.S5PostRefIdeal.main_arg6) = m' ((c.tc : Thread Cert.S5PostRefIdeal.nD Cert.S5PostRefIdeal.τ).loc Cert.S5PostRefIdeal.main_arg6))

def preserves_Proj768Bwd_Proj768BwdIdeal : Prop :=
  True

def algebraic_Proj768BwdIdeal_Proj768RefIdeal [hProj768BwdIdeal : Cert.Proj768BwdIdeal.Facts] [hProj768RefIdeal : Cert.Proj768RefIdeal.Facts] : Prop :=
  ∀ (m : (ℓ : Loc Cert.Proj768BwdIdeal.nD Cert.Proj768BwdIdeal.τ Cert.Proj768BwdIdeal.sig) → Buf (Elt Ideal) ℓ) (g : Dev Cert.Proj768BwdIdeal.nD → PrngReg)
    (m' : (ℓ : Loc Cert.Proj768RefIdeal.nD Cert.Proj768RefIdeal.τ Cert.Proj768RefIdeal.sig) → Buf (Elt Ideal) ℓ) (g' : Dev Cert.Proj768RefIdeal.nD → PrngReg), Pre_Proj768BwdIdeal m →
    (∀ c : Dev Cert.Proj768BwdIdeal.nD,
      m' ((c.tc : Thread Cert.Proj768RefIdeal.nD Cert.Proj768RefIdeal.τ).loc Cert.Proj768RefIdeal.main_arg0) = m ((c.tc : Thread Cert.Proj768BwdIdeal.nD Cert.Proj768BwdIdeal.τ).loc Cert.Proj768BwdIdeal.main_arg0)
      ∧ m' ((c.tc : Thread Cert.Proj768RefIdeal.nD Cert.Proj768RefIdeal.τ).loc Cert.Proj768RefIdeal.main_arg1) = m ((c.tc : Thread Cert.Proj768BwdIdeal.nD Cert.Proj768BwdIdeal.τ).loc Cert.Proj768BwdIdeal.main_arg1)
      ∧ m' ((c.tc : Thread Cert.Proj768RefIdeal.nD Cert.Proj768RefIdeal.τ).loc Cert.Proj768RefIdeal.main_arg2) = m ((c.tc : Thread Cert.Proj768BwdIdeal.nD Cert.Proj768BwdIdeal.τ).loc Cert.Proj768BwdIdeal.main_arg2)) →
    ∃ (v0 : (c : Dev Cert.Proj768BwdIdeal.nD) → Buf (Elt Ideal) ((c.tc : Thread Cert.Proj768BwdIdeal.nD Cert.Proj768BwdIdeal.τ).loc Cert.Proj768BwdIdeal.main_v2_0)) (v1 : (c : Dev Cert.Proj768BwdIdeal.nD) → Buf (Elt Ideal) ((c.tc : Thread Cert.Proj768BwdIdeal.nD Cert.Proj768BwdIdeal.τ).loc Cert.Proj768BwdIdeal.main_v2_1)),
      θ_run (Cert.Proj768BwdIdeal.defs (F := Ideal)) (onTc (τ := Cert.Proj768BwdIdeal.τ) (Cert.Proj768BwdIdeal.main (F := Ideal))) ⟨m, fun _ => 0, g⟩ (fun r => ∀ c : Dev Cert.Proj768BwdIdeal.nD,
          r.2.mem ((c.tc : Thread Cert.Proj768BwdIdeal.nD Cert.Proj768BwdIdeal.τ).loc Cert.Proj768BwdIdeal.main_v2_0) = v0 c
          ∧ r.2.mem ((c.tc : Thread Cert.Proj768BwdIdeal.nD Cert.Proj768BwdIdeal.τ).loc Cert.Proj768BwdIdeal.main_v2_1) = v1 c
          ∧ r.2.mem ((c.tc : Thread Cert.Proj768BwdIdeal.nD Cert.Proj768BwdIdeal.τ).loc Cert.Proj768BwdIdeal.main_arg0) = m ((c.tc : Thread Cert.Proj768BwdIdeal.nD Cert.Proj768BwdIdeal.τ).loc Cert.Proj768BwdIdeal.main_arg0)
          ∧ r.2.mem ((c.tc : Thread Cert.Proj768BwdIdeal.nD Cert.Proj768BwdIdeal.τ).loc Cert.Proj768BwdIdeal.main_arg1) = m ((c.tc : Thread Cert.Proj768BwdIdeal.nD Cert.Proj768BwdIdeal.τ).loc Cert.Proj768BwdIdeal.main_arg1)
          ∧ r.2.mem ((c.tc : Thread Cert.Proj768BwdIdeal.nD Cert.Proj768BwdIdeal.τ).loc Cert.Proj768BwdIdeal.main_arg2) = m ((c.tc : Thread Cert.Proj768BwdIdeal.nD Cert.Proj768BwdIdeal.τ).loc Cert.Proj768BwdIdeal.main_arg2))
      ∧ θ_run (Cert.Proj768RefIdeal.defs (F := Ideal)) (onTc (τ := Cert.Proj768RefIdeal.τ) (Cert.Proj768RefIdeal.main (F := Ideal))) ⟨m', fun _ => 0, g'⟩ (fun r => ∀ c : Dev Cert.Proj768RefIdeal.nD,
          r.2.mem ((c.tc : Thread Cert.Proj768RefIdeal.nD Cert.Proj768RefIdeal.τ).loc Cert.Proj768RefIdeal.main_v3) = v0 c
          ∧ r.2.mem ((c.tc : Thread Cert.Proj768RefIdeal.nD Cert.Proj768RefIdeal.τ).loc Cert.Proj768RefIdeal.main_v2) = v1 c
          ∧ r.2.mem ((c.tc : Thread Cert.Proj768RefIdeal.nD Cert.Proj768RefIdeal.τ).loc Cert.Proj768RefIdeal.main_arg0) = m' ((c.tc : Thread Cert.Proj768RefIdeal.nD Cert.Proj768RefIdeal.τ).loc Cert.Proj768RefIdeal.main_arg0)
          ∧ r.2.mem ((c.tc : Thread Cert.Proj768RefIdeal.nD Cert.Proj768RefIdeal.τ).loc Cert.Proj768RefIdeal.main_arg1) = m' ((c.tc : Thread Cert.Proj768RefIdeal.nD Cert.Proj768RefIdeal.τ).loc Cert.Proj768RefIdeal.main_arg1)
          ∧ r.2.mem ((c.tc : Thread Cert.Proj768RefIdeal.nD Cert.Proj768RefIdeal.τ).loc Cert.Proj768RefIdeal.main_arg2) = m' ((c.tc : Thread Cert.Proj768RefIdeal.nD Cert.Proj768RefIdeal.τ).loc Cert.Proj768RefIdeal.main_arg2))

def preserves_Proj1280Bwd_Proj1280BwdIdeal : Prop :=
  True

def algebraic_Proj1280BwdIdeal_Proj1280RefIdeal [hProj1280BwdIdeal : Cert.Proj1280BwdIdeal.Facts] [hProj1280RefIdeal : Cert.Proj1280RefIdeal.Facts] : Prop :=
  ∀ (m : (ℓ : Loc Cert.Proj1280BwdIdeal.nD Cert.Proj1280BwdIdeal.τ Cert.Proj1280BwdIdeal.sig) → Buf (Elt Ideal) ℓ) (g : Dev Cert.Proj1280BwdIdeal.nD → PrngReg)
    (m' : (ℓ : Loc Cert.Proj1280RefIdeal.nD Cert.Proj1280RefIdeal.τ Cert.Proj1280RefIdeal.sig) → Buf (Elt Ideal) ℓ) (g' : Dev Cert.Proj1280RefIdeal.nD → PrngReg), Pre_Proj1280BwdIdeal m →
    (∀ c : Dev Cert.Proj1280BwdIdeal.nD,
      m' ((c.tc : Thread Cert.Proj1280RefIdeal.nD Cert.Proj1280RefIdeal.τ).loc Cert.Proj1280RefIdeal.main_arg0) = m ((c.tc : Thread Cert.Proj1280BwdIdeal.nD Cert.Proj1280BwdIdeal.τ).loc Cert.Proj1280BwdIdeal.main_arg0)
      ∧ m' ((c.tc : Thread Cert.Proj1280RefIdeal.nD Cert.Proj1280RefIdeal.τ).loc Cert.Proj1280RefIdeal.main_arg1) = m ((c.tc : Thread Cert.Proj1280BwdIdeal.nD Cert.Proj1280BwdIdeal.τ).loc Cert.Proj1280BwdIdeal.main_arg1)
      ∧ m' ((c.tc : Thread Cert.Proj1280RefIdeal.nD Cert.Proj1280RefIdeal.τ).loc Cert.Proj1280RefIdeal.main_arg2) = m ((c.tc : Thread Cert.Proj1280BwdIdeal.nD Cert.Proj1280BwdIdeal.τ).loc Cert.Proj1280BwdIdeal.main_arg2)) →
    ∃ (v0 : (c : Dev Cert.Proj1280BwdIdeal.nD) → Buf (Elt Ideal) ((c.tc : Thread Cert.Proj1280BwdIdeal.nD Cert.Proj1280BwdIdeal.τ).loc Cert.Proj1280BwdIdeal.main_v2_0)) (v1 : (c : Dev Cert.Proj1280BwdIdeal.nD) → Buf (Elt Ideal) ((c.tc : Thread Cert.Proj1280BwdIdeal.nD Cert.Proj1280BwdIdeal.τ).loc Cert.Proj1280BwdIdeal.main_v2_1)),
      θ_run (Cert.Proj1280BwdIdeal.defs (F := Ideal)) (onTc (τ := Cert.Proj1280BwdIdeal.τ) (Cert.Proj1280BwdIdeal.main (F := Ideal))) ⟨m, fun _ => 0, g⟩ (fun r => ∀ c : Dev Cert.Proj1280BwdIdeal.nD,
          r.2.mem ((c.tc : Thread Cert.Proj1280BwdIdeal.nD Cert.Proj1280BwdIdeal.τ).loc Cert.Proj1280BwdIdeal.main_v2_0) = v0 c
          ∧ r.2.mem ((c.tc : Thread Cert.Proj1280BwdIdeal.nD Cert.Proj1280BwdIdeal.τ).loc Cert.Proj1280BwdIdeal.main_v2_1) = v1 c
          ∧ r.2.mem ((c.tc : Thread Cert.Proj1280BwdIdeal.nD Cert.Proj1280BwdIdeal.τ).loc Cert.Proj1280BwdIdeal.main_arg0) = m ((c.tc : Thread Cert.Proj1280BwdIdeal.nD Cert.Proj1280BwdIdeal.τ).loc Cert.Proj1280BwdIdeal.main_arg0)
          ∧ r.2.mem ((c.tc : Thread Cert.Proj1280BwdIdeal.nD Cert.Proj1280BwdIdeal.τ).loc Cert.Proj1280BwdIdeal.main_arg1) = m ((c.tc : Thread Cert.Proj1280BwdIdeal.nD Cert.Proj1280BwdIdeal.τ).loc Cert.Proj1280BwdIdeal.main_arg1)
          ∧ r.2.mem ((c.tc : Thread Cert.Proj1280BwdIdeal.nD Cert.Proj1280BwdIdeal.τ).loc Cert.Proj1280BwdIdeal.main_arg2) = m ((c.tc : Thread Cert.Proj1280BwdIdeal.nD Cert.Proj1280BwdIdeal.τ).loc Cert.Proj1280BwdIdeal.main_arg2))
      ∧ θ_run (Cert.Proj1280RefIdeal.defs (F := Ideal)) (onTc (τ := Cert.Proj1280RefIdeal.τ) (Cert.Proj1280RefIdeal.main (F := Ideal))) ⟨m', fun _ => 0, g'⟩ (fun r => ∀ c : Dev Cert.Proj1280RefIdeal.nD,
          r.2.mem ((c.tc : Thread Cert.Proj1280RefIdeal.nD Cert.Proj1280RefIdeal.τ).loc Cert.Proj1280RefIdeal.main_v3) = v0 c
          ∧ r.2.mem ((c.tc : Thread Cert.Proj1280RefIdeal.nD Cert.Proj1280RefIdeal.τ).loc Cert.Proj1280RefIdeal.main_v2) = v1 c
          ∧ r.2.mem ((c.tc : Thread Cert.Proj1280RefIdeal.nD Cert.Proj1280RefIdeal.τ).loc Cert.Proj1280RefIdeal.main_arg0) = m' ((c.tc : Thread Cert.Proj1280RefIdeal.nD Cert.Proj1280RefIdeal.τ).loc Cert.Proj1280RefIdeal.main_arg0)
          ∧ r.2.mem ((c.tc : Thread Cert.Proj1280RefIdeal.nD Cert.Proj1280RefIdeal.τ).loc Cert.Proj1280RefIdeal.main_arg1) = m' ((c.tc : Thread Cert.Proj1280RefIdeal.nD Cert.Proj1280RefIdeal.τ).loc Cert.Proj1280RefIdeal.main_arg1)
          ∧ r.2.mem ((c.tc : Thread Cert.Proj1280RefIdeal.nD Cert.Proj1280RefIdeal.τ).loc Cert.Proj1280RefIdeal.main_arg2) = m' ((c.tc : Thread Cert.Proj1280RefIdeal.nD Cert.Proj1280RefIdeal.τ).loc Cert.Proj1280RefIdeal.main_arg2))

def preserves_Proj1024Bwd_Proj1024BwdIdeal : Prop :=
  True

def algebraic_Proj1024BwdIdeal_Proj1024RefIdeal [hProj1024BwdIdeal : Cert.Proj1024BwdIdeal.Facts] [hProj1024RefIdeal : Cert.Proj1024RefIdeal.Facts] : Prop :=
  ∀ (m : (ℓ : Loc Cert.Proj1024BwdIdeal.nD Cert.Proj1024BwdIdeal.τ Cert.Proj1024BwdIdeal.sig) → Buf (Elt Ideal) ℓ) (g : Dev Cert.Proj1024BwdIdeal.nD → PrngReg)
    (m' : (ℓ : Loc Cert.Proj1024RefIdeal.nD Cert.Proj1024RefIdeal.τ Cert.Proj1024RefIdeal.sig) → Buf (Elt Ideal) ℓ) (g' : Dev Cert.Proj1024RefIdeal.nD → PrngReg), Pre_Proj1024BwdIdeal m →
    (∀ c : Dev Cert.Proj1024BwdIdeal.nD,
      m' ((c.tc : Thread Cert.Proj1024RefIdeal.nD Cert.Proj1024RefIdeal.τ).loc Cert.Proj1024RefIdeal.main_arg0) = m ((c.tc : Thread Cert.Proj1024BwdIdeal.nD Cert.Proj1024BwdIdeal.τ).loc Cert.Proj1024BwdIdeal.main_arg0)
      ∧ m' ((c.tc : Thread Cert.Proj1024RefIdeal.nD Cert.Proj1024RefIdeal.τ).loc Cert.Proj1024RefIdeal.main_arg1) = m ((c.tc : Thread Cert.Proj1024BwdIdeal.nD Cert.Proj1024BwdIdeal.τ).loc Cert.Proj1024BwdIdeal.main_arg1)
      ∧ m' ((c.tc : Thread Cert.Proj1024RefIdeal.nD Cert.Proj1024RefIdeal.τ).loc Cert.Proj1024RefIdeal.main_arg2) = m ((c.tc : Thread Cert.Proj1024BwdIdeal.nD Cert.Proj1024BwdIdeal.τ).loc Cert.Proj1024BwdIdeal.main_arg2)) →
    ∃ (v0 : (c : Dev Cert.Proj1024BwdIdeal.nD) → Buf (Elt Ideal) ((c.tc : Thread Cert.Proj1024BwdIdeal.nD Cert.Proj1024BwdIdeal.τ).loc Cert.Proj1024BwdIdeal.main_v2_0)) (v1 : (c : Dev Cert.Proj1024BwdIdeal.nD) → Buf (Elt Ideal) ((c.tc : Thread Cert.Proj1024BwdIdeal.nD Cert.Proj1024BwdIdeal.τ).loc Cert.Proj1024BwdIdeal.main_v2_1)),
      θ_run (Cert.Proj1024BwdIdeal.defs (F := Ideal)) (onTc (τ := Cert.Proj1024BwdIdeal.τ) (Cert.Proj1024BwdIdeal.main (F := Ideal))) ⟨m, fun _ => 0, g⟩ (fun r => ∀ c : Dev Cert.Proj1024BwdIdeal.nD,
          r.2.mem ((c.tc : Thread Cert.Proj1024BwdIdeal.nD Cert.Proj1024BwdIdeal.τ).loc Cert.Proj1024BwdIdeal.main_v2_0) = v0 c
          ∧ r.2.mem ((c.tc : Thread Cert.Proj1024BwdIdeal.nD Cert.Proj1024BwdIdeal.τ).loc Cert.Proj1024BwdIdeal.main_v2_1) = v1 c
          ∧ r.2.mem ((c.tc : Thread Cert.Proj1024BwdIdeal.nD Cert.Proj1024BwdIdeal.τ).loc Cert.Proj1024BwdIdeal.main_arg0) = m ((c.tc : Thread Cert.Proj1024BwdIdeal.nD Cert.Proj1024BwdIdeal.τ).loc Cert.Proj1024BwdIdeal.main_arg0)
          ∧ r.2.mem ((c.tc : Thread Cert.Proj1024BwdIdeal.nD Cert.Proj1024BwdIdeal.τ).loc Cert.Proj1024BwdIdeal.main_arg1) = m ((c.tc : Thread Cert.Proj1024BwdIdeal.nD Cert.Proj1024BwdIdeal.τ).loc Cert.Proj1024BwdIdeal.main_arg1)
          ∧ r.2.mem ((c.tc : Thread Cert.Proj1024BwdIdeal.nD Cert.Proj1024BwdIdeal.τ).loc Cert.Proj1024BwdIdeal.main_arg2) = m ((c.tc : Thread Cert.Proj1024BwdIdeal.nD Cert.Proj1024BwdIdeal.τ).loc Cert.Proj1024BwdIdeal.main_arg2))
      ∧ θ_run (Cert.Proj1024RefIdeal.defs (F := Ideal)) (onTc (τ := Cert.Proj1024RefIdeal.τ) (Cert.Proj1024RefIdeal.main (F := Ideal))) ⟨m', fun _ => 0, g'⟩ (fun r => ∀ c : Dev Cert.Proj1024RefIdeal.nD,
          r.2.mem ((c.tc : Thread Cert.Proj1024RefIdeal.nD Cert.Proj1024RefIdeal.τ).loc Cert.Proj1024RefIdeal.main_v3) = v0 c
          ∧ r.2.mem ((c.tc : Thread Cert.Proj1024RefIdeal.nD Cert.Proj1024RefIdeal.τ).loc Cert.Proj1024RefIdeal.main_v2) = v1 c
          ∧ r.2.mem ((c.tc : Thread Cert.Proj1024RefIdeal.nD Cert.Proj1024RefIdeal.τ).loc Cert.Proj1024RefIdeal.main_arg0) = m' ((c.tc : Thread Cert.Proj1024RefIdeal.nD Cert.Proj1024RefIdeal.τ).loc Cert.Proj1024RefIdeal.main_arg0)
          ∧ r.2.mem ((c.tc : Thread Cert.Proj1024RefIdeal.nD Cert.Proj1024RefIdeal.τ).loc Cert.Proj1024RefIdeal.main_arg1) = m' ((c.tc : Thread Cert.Proj1024RefIdeal.nD Cert.Proj1024RefIdeal.τ).loc Cert.Proj1024RefIdeal.main_arg1)
          ∧ r.2.mem ((c.tc : Thread Cert.Proj1024RefIdeal.nD Cert.Proj1024RefIdeal.τ).loc Cert.Proj1024RefIdeal.main_arg2) = m' ((c.tc : Thread Cert.Proj1024RefIdeal.nD Cert.Proj1024RefIdeal.τ).loc Cert.Proj1024RefIdeal.main_arg2))

def preserves_Proj128Bwd_Proj128BwdIdeal : Prop :=
  True

def algebraic_Proj128BwdIdeal_Proj128RefIdeal [hProj128BwdIdeal : Cert.Proj128BwdIdeal.Facts] [hProj128RefIdeal : Cert.Proj128RefIdeal.Facts] : Prop :=
  ∀ (m : (ℓ : Loc Cert.Proj128BwdIdeal.nD Cert.Proj128BwdIdeal.τ Cert.Proj128BwdIdeal.sig) → Buf (Elt Ideal) ℓ) (g : Dev Cert.Proj128BwdIdeal.nD → PrngReg)
    (m' : (ℓ : Loc Cert.Proj128RefIdeal.nD Cert.Proj128RefIdeal.τ Cert.Proj128RefIdeal.sig) → Buf (Elt Ideal) ℓ) (g' : Dev Cert.Proj128RefIdeal.nD → PrngReg), Pre_Proj128BwdIdeal m →
    (∀ c : Dev Cert.Proj128BwdIdeal.nD,
      m' ((c.tc : Thread Cert.Proj128RefIdeal.nD Cert.Proj128RefIdeal.τ).loc Cert.Proj128RefIdeal.main_arg0) = m ((c.tc : Thread Cert.Proj128BwdIdeal.nD Cert.Proj128BwdIdeal.τ).loc Cert.Proj128BwdIdeal.main_arg0)
      ∧ m' ((c.tc : Thread Cert.Proj128RefIdeal.nD Cert.Proj128RefIdeal.τ).loc Cert.Proj128RefIdeal.main_arg1) = m ((c.tc : Thread Cert.Proj128BwdIdeal.nD Cert.Proj128BwdIdeal.τ).loc Cert.Proj128BwdIdeal.main_arg1)
      ∧ m' ((c.tc : Thread Cert.Proj128RefIdeal.nD Cert.Proj128RefIdeal.τ).loc Cert.Proj128RefIdeal.main_arg2) = m ((c.tc : Thread Cert.Proj128BwdIdeal.nD Cert.Proj128BwdIdeal.τ).loc Cert.Proj128BwdIdeal.main_arg2)) →
    ∃ (v0 : (c : Dev Cert.Proj128BwdIdeal.nD) → Buf (Elt Ideal) ((c.tc : Thread Cert.Proj128BwdIdeal.nD Cert.Proj128BwdIdeal.τ).loc Cert.Proj128BwdIdeal.main_v2_0)) (v1 : (c : Dev Cert.Proj128BwdIdeal.nD) → Buf (Elt Ideal) ((c.tc : Thread Cert.Proj128BwdIdeal.nD Cert.Proj128BwdIdeal.τ).loc Cert.Proj128BwdIdeal.main_v2_1)),
      θ_run (Cert.Proj128BwdIdeal.defs (F := Ideal)) (onTc (τ := Cert.Proj128BwdIdeal.τ) (Cert.Proj128BwdIdeal.main (F := Ideal))) ⟨m, fun _ => 0, g⟩ (fun r => ∀ c : Dev Cert.Proj128BwdIdeal.nD,
          r.2.mem ((c.tc : Thread Cert.Proj128BwdIdeal.nD Cert.Proj128BwdIdeal.τ).loc Cert.Proj128BwdIdeal.main_v2_0) = v0 c
          ∧ r.2.mem ((c.tc : Thread Cert.Proj128BwdIdeal.nD Cert.Proj128BwdIdeal.τ).loc Cert.Proj128BwdIdeal.main_v2_1) = v1 c
          ∧ r.2.mem ((c.tc : Thread Cert.Proj128BwdIdeal.nD Cert.Proj128BwdIdeal.τ).loc Cert.Proj128BwdIdeal.main_arg0) = m ((c.tc : Thread Cert.Proj128BwdIdeal.nD Cert.Proj128BwdIdeal.τ).loc Cert.Proj128BwdIdeal.main_arg0)
          ∧ r.2.mem ((c.tc : Thread Cert.Proj128BwdIdeal.nD Cert.Proj128BwdIdeal.τ).loc Cert.Proj128BwdIdeal.main_arg1) = m ((c.tc : Thread Cert.Proj128BwdIdeal.nD Cert.Proj128BwdIdeal.τ).loc Cert.Proj128BwdIdeal.main_arg1)
          ∧ r.2.mem ((c.tc : Thread Cert.Proj128BwdIdeal.nD Cert.Proj128BwdIdeal.τ).loc Cert.Proj128BwdIdeal.main_arg2) = m ((c.tc : Thread Cert.Proj128BwdIdeal.nD Cert.Proj128BwdIdeal.τ).loc Cert.Proj128BwdIdeal.main_arg2))
      ∧ θ_run (Cert.Proj128RefIdeal.defs (F := Ideal)) (onTc (τ := Cert.Proj128RefIdeal.τ) (Cert.Proj128RefIdeal.main (F := Ideal))) ⟨m', fun _ => 0, g'⟩ (fun r => ∀ c : Dev Cert.Proj128RefIdeal.nD,
          r.2.mem ((c.tc : Thread Cert.Proj128RefIdeal.nD Cert.Proj128RefIdeal.τ).loc Cert.Proj128RefIdeal.main_v3) = v0 c
          ∧ r.2.mem ((c.tc : Thread Cert.Proj128RefIdeal.nD Cert.Proj128RefIdeal.τ).loc Cert.Proj128RefIdeal.main_v2) = v1 c
          ∧ r.2.mem ((c.tc : Thread Cert.Proj128RefIdeal.nD Cert.Proj128RefIdeal.τ).loc Cert.Proj128RefIdeal.main_arg0) = m' ((c.tc : Thread Cert.Proj128RefIdeal.nD Cert.Proj128RefIdeal.τ).loc Cert.Proj128RefIdeal.main_arg0)
          ∧ r.2.mem ((c.tc : Thread Cert.Proj128RefIdeal.nD Cert.Proj128RefIdeal.τ).loc Cert.Proj128RefIdeal.main_arg1) = m' ((c.tc : Thread Cert.Proj128RefIdeal.nD Cert.Proj128RefIdeal.τ).loc Cert.Proj128RefIdeal.main_arg1)
          ∧ r.2.mem ((c.tc : Thread Cert.Proj128RefIdeal.nD Cert.Proj128RefIdeal.τ).loc Cert.Proj128RefIdeal.main_arg2) = m' ((c.tc : Thread Cert.Proj128RefIdeal.nD Cert.Proj128RefIdeal.τ).loc Cert.Proj128RefIdeal.main_arg2))

def preserves_Proj2304Fwd_Proj2304FwdIdeal : Prop :=
  True

def algebraic_Proj2304FwdIdeal_Proj2304FwdRefIdeal [hProj2304FwdIdeal : Cert.Proj2304FwdIdeal.Facts] [hProj2304FwdRefIdeal : Cert.Proj2304FwdRefIdeal.Facts] : Prop :=
  ∀ (m : (ℓ : Loc Cert.Proj2304FwdIdeal.nD Cert.Proj2304FwdIdeal.τ Cert.Proj2304FwdIdeal.sig) → Buf (Elt Ideal) ℓ) (g : Dev Cert.Proj2304FwdIdeal.nD → PrngReg)
    (m' : (ℓ : Loc Cert.Proj2304FwdRefIdeal.nD Cert.Proj2304FwdRefIdeal.τ Cert.Proj2304FwdRefIdeal.sig) → Buf (Elt Ideal) ℓ) (g' : Dev Cert.Proj2304FwdRefIdeal.nD → PrngReg), Pre_Proj2304FwdIdeal m →
    (∀ c : Dev Cert.Proj2304FwdIdeal.nD,
      m' ((c.tc : Thread Cert.Proj2304FwdRefIdeal.nD Cert.Proj2304FwdRefIdeal.τ).loc Cert.Proj2304FwdRefIdeal.main_arg0) = m ((c.tc : Thread Cert.Proj2304FwdIdeal.nD Cert.Proj2304FwdIdeal.τ).loc Cert.Proj2304FwdIdeal.main_arg0)
      ∧ m' ((c.tc : Thread Cert.Proj2304FwdRefIdeal.nD Cert.Proj2304FwdRefIdeal.τ).loc Cert.Proj2304FwdRefIdeal.main_arg1) = m ((c.tc : Thread Cert.Proj2304FwdIdeal.nD Cert.Proj2304FwdIdeal.τ).loc Cert.Proj2304FwdIdeal.main_arg1)) →
    ∃ (v0 : (c : Dev Cert.Proj2304FwdIdeal.nD) → Buf (Elt Ideal) ((c.tc : Thread Cert.Proj2304FwdIdeal.nD Cert.Proj2304FwdIdeal.τ).loc Cert.Proj2304FwdIdeal.main_v2)),
      θ_run (Cert.Proj2304FwdIdeal.defs (F := Ideal)) (onTc (τ := Cert.Proj2304FwdIdeal.τ) (Cert.Proj2304FwdIdeal.main (F := Ideal))) ⟨m, fun _ => 0, g⟩ (fun r => ∀ c : Dev Cert.Proj2304FwdIdeal.nD,
          r.2.mem ((c.tc : Thread Cert.Proj2304FwdIdeal.nD Cert.Proj2304FwdIdeal.τ).loc Cert.Proj2304FwdIdeal.main_v2) = v0 c
          ∧ r.2.mem ((c.tc : Thread Cert.Proj2304FwdIdeal.nD Cert.Proj2304FwdIdeal.τ).loc Cert.Proj2304FwdIdeal.main_arg0) = m ((c.tc : Thread Cert.Proj2304FwdIdeal.nD Cert.Proj2304FwdIdeal.τ).loc Cert.Proj2304FwdIdeal.main_arg0)
          ∧ r.2.mem ((c.tc : Thread Cert.Proj2304FwdIdeal.nD Cert.Proj2304FwdIdeal.τ).loc Cert.Proj2304FwdIdeal.main_arg1) = m ((c.tc : Thread Cert.Proj2304FwdIdeal.nD Cert.Proj2304FwdIdeal.τ).loc Cert.Proj2304FwdIdeal.main_arg1))
      ∧ θ_run (Cert.Proj2304FwdRefIdeal.defs (F := Ideal)) (onTc (τ := Cert.Proj2304FwdRefIdeal.τ) (Cert.Proj2304FwdRefIdeal.main (F := Ideal))) ⟨m', fun _ => 0, g'⟩ (fun r => ∀ c : Dev Cert.Proj2304FwdRefIdeal.nD,
          r.2.mem ((c.tc : Thread Cert.Proj2304FwdRefIdeal.nD Cert.Proj2304FwdRefIdeal.τ).loc Cert.Proj2304FwdRefIdeal.main_v0) = v0 c
          ∧ r.2.mem ((c.tc : Thread Cert.Proj2304FwdRefIdeal.nD Cert.Proj2304FwdRefIdeal.τ).loc Cert.Proj2304FwdRefIdeal.main_arg0) = m' ((c.tc : Thread Cert.Proj2304FwdRefIdeal.nD Cert.Proj2304FwdRefIdeal.τ).loc Cert.Proj2304FwdRefIdeal.main_arg0)
          ∧ r.2.mem ((c.tc : Thread Cert.Proj2304FwdRefIdeal.nD Cert.Proj2304FwdRefIdeal.τ).loc Cert.Proj2304FwdRefIdeal.main_arg1) = m' ((c.tc : Thread Cert.Proj2304FwdRefIdeal.nD Cert.Proj2304FwdRefIdeal.τ).loc Cert.Proj2304FwdRefIdeal.main_arg1))

def preserves_Proj768Fwd_Proj768FwdIdeal : Prop :=
  True

def algebraic_Proj768FwdIdeal_Proj768FwdRefIdeal [hProj768FwdIdeal : Cert.Proj768FwdIdeal.Facts] [hProj768FwdRefIdeal : Cert.Proj768FwdRefIdeal.Facts] : Prop :=
  ∀ (m : (ℓ : Loc Cert.Proj768FwdIdeal.nD Cert.Proj768FwdIdeal.τ Cert.Proj768FwdIdeal.sig) → Buf (Elt Ideal) ℓ) (g : Dev Cert.Proj768FwdIdeal.nD → PrngReg)
    (m' : (ℓ : Loc Cert.Proj768FwdRefIdeal.nD Cert.Proj768FwdRefIdeal.τ Cert.Proj768FwdRefIdeal.sig) → Buf (Elt Ideal) ℓ) (g' : Dev Cert.Proj768FwdRefIdeal.nD → PrngReg), Pre_Proj768FwdIdeal m →
    (∀ c : Dev Cert.Proj768FwdIdeal.nD,
      m' ((c.tc : Thread Cert.Proj768FwdRefIdeal.nD Cert.Proj768FwdRefIdeal.τ).loc Cert.Proj768FwdRefIdeal.main_arg0) = m ((c.tc : Thread Cert.Proj768FwdIdeal.nD Cert.Proj768FwdIdeal.τ).loc Cert.Proj768FwdIdeal.main_arg0)
      ∧ m' ((c.tc : Thread Cert.Proj768FwdRefIdeal.nD Cert.Proj768FwdRefIdeal.τ).loc Cert.Proj768FwdRefIdeal.main_arg1) = m ((c.tc : Thread Cert.Proj768FwdIdeal.nD Cert.Proj768FwdIdeal.τ).loc Cert.Proj768FwdIdeal.main_arg1)) →
    ∃ (v0 : (c : Dev Cert.Proj768FwdIdeal.nD) → Buf (Elt Ideal) ((c.tc : Thread Cert.Proj768FwdIdeal.nD Cert.Proj768FwdIdeal.τ).loc Cert.Proj768FwdIdeal.main_v2)),
      θ_run (Cert.Proj768FwdIdeal.defs (F := Ideal)) (onTc (τ := Cert.Proj768FwdIdeal.τ) (Cert.Proj768FwdIdeal.main (F := Ideal))) ⟨m, fun _ => 0, g⟩ (fun r => ∀ c : Dev Cert.Proj768FwdIdeal.nD,
          r.2.mem ((c.tc : Thread Cert.Proj768FwdIdeal.nD Cert.Proj768FwdIdeal.τ).loc Cert.Proj768FwdIdeal.main_v2) = v0 c
          ∧ r.2.mem ((c.tc : Thread Cert.Proj768FwdIdeal.nD Cert.Proj768FwdIdeal.τ).loc Cert.Proj768FwdIdeal.main_arg0) = m ((c.tc : Thread Cert.Proj768FwdIdeal.nD Cert.Proj768FwdIdeal.τ).loc Cert.Proj768FwdIdeal.main_arg0)
          ∧ r.2.mem ((c.tc : Thread Cert.Proj768FwdIdeal.nD Cert.Proj768FwdIdeal.τ).loc Cert.Proj768FwdIdeal.main_arg1) = m ((c.tc : Thread Cert.Proj768FwdIdeal.nD Cert.Proj768FwdIdeal.τ).loc Cert.Proj768FwdIdeal.main_arg1))
      ∧ θ_run (Cert.Proj768FwdRefIdeal.defs (F := Ideal)) (onTc (τ := Cert.Proj768FwdRefIdeal.τ) (Cert.Proj768FwdRefIdeal.main (F := Ideal))) ⟨m', fun _ => 0, g'⟩ (fun r => ∀ c : Dev Cert.Proj768FwdRefIdeal.nD,
          r.2.mem ((c.tc : Thread Cert.Proj768FwdRefIdeal.nD Cert.Proj768FwdRefIdeal.τ).loc Cert.Proj768FwdRefIdeal.main_v0) = v0 c
          ∧ r.2.mem ((c.tc : Thread Cert.Proj768FwdRefIdeal.nD Cert.Proj768FwdRefIdeal.τ).loc Cert.Proj768FwdRefIdeal.main_arg0) = m' ((c.tc : Thread Cert.Proj768FwdRefIdeal.nD Cert.Proj768FwdRefIdeal.τ).loc Cert.Proj768FwdRefIdeal.main_arg0)
          ∧ r.2.mem ((c.tc : Thread Cert.Proj768FwdRefIdeal.nD Cert.Proj768FwdRefIdeal.τ).loc Cert.Proj768FwdRefIdeal.main_arg1) = m' ((c.tc : Thread Cert.Proj768FwdRefIdeal.nD Cert.Proj768FwdRefIdeal.τ).loc Cert.Proj768FwdRefIdeal.main_arg1))

def preserves_Proj1280Fwd_Proj1280FwdIdeal : Prop :=
  True

def algebraic_Proj1280FwdIdeal_Proj1280FwdRefIdeal [hProj1280FwdIdeal : Cert.Proj1280FwdIdeal.Facts] [hProj1280FwdRefIdeal : Cert.Proj1280FwdRefIdeal.Facts] : Prop :=
  ∀ (m : (ℓ : Loc Cert.Proj1280FwdIdeal.nD Cert.Proj1280FwdIdeal.τ Cert.Proj1280FwdIdeal.sig) → Buf (Elt Ideal) ℓ) (g : Dev Cert.Proj1280FwdIdeal.nD → PrngReg)
    (m' : (ℓ : Loc Cert.Proj1280FwdRefIdeal.nD Cert.Proj1280FwdRefIdeal.τ Cert.Proj1280FwdRefIdeal.sig) → Buf (Elt Ideal) ℓ) (g' : Dev Cert.Proj1280FwdRefIdeal.nD → PrngReg), Pre_Proj1280FwdIdeal m →
    (∀ c : Dev Cert.Proj1280FwdIdeal.nD,
      m' ((c.tc : Thread Cert.Proj1280FwdRefIdeal.nD Cert.Proj1280FwdRefIdeal.τ).loc Cert.Proj1280FwdRefIdeal.main_arg0) = m ((c.tc : Thread Cert.Proj1280FwdIdeal.nD Cert.Proj1280FwdIdeal.τ).loc Cert.Proj1280FwdIdeal.main_arg0)
      ∧ m' ((c.tc : Thread Cert.Proj1280FwdRefIdeal.nD Cert.Proj1280FwdRefIdeal.τ).loc Cert.Proj1280FwdRefIdeal.main_arg1) = m ((c.tc : Thread Cert.Proj1280FwdIdeal.nD Cert.Proj1280FwdIdeal.τ).loc Cert.Proj1280FwdIdeal.main_arg1)) →
    ∃ (v0 : (c : Dev Cert.Proj1280FwdIdeal.nD) → Buf (Elt Ideal) ((c.tc : Thread Cert.Proj1280FwdIdeal.nD Cert.Proj1280FwdIdeal.τ).loc Cert.Proj1280FwdIdeal.main_v2)),
      θ_run (Cert.Proj1280FwdIdeal.defs (F := Ideal)) (onTc (τ := Cert.Proj1280FwdIdeal.τ) (Cert.Proj1280FwdIdeal.main (F := Ideal))) ⟨m, fun _ => 0, g⟩ (fun r => ∀ c : Dev Cert.Proj1280FwdIdeal.nD,
          r.2.mem ((c.tc : Thread Cert.Proj1280FwdIdeal.nD Cert.Proj1280FwdIdeal.τ).loc Cert.Proj1280FwdIdeal.main_v2) = v0 c
          ∧ r.2.mem ((c.tc : Thread Cert.Proj1280FwdIdeal.nD Cert.Proj1280FwdIdeal.τ).loc Cert.Proj1280FwdIdeal.main_arg0) = m ((c.tc : Thread Cert.Proj1280FwdIdeal.nD Cert.Proj1280FwdIdeal.τ).loc Cert.Proj1280FwdIdeal.main_arg0)
          ∧ r.2.mem ((c.tc : Thread Cert.Proj1280FwdIdeal.nD Cert.Proj1280FwdIdeal.τ).loc Cert.Proj1280FwdIdeal.main_arg1) = m ((c.tc : Thread Cert.Proj1280FwdIdeal.nD Cert.Proj1280FwdIdeal.τ).loc Cert.Proj1280FwdIdeal.main_arg1))
      ∧ θ_run (Cert.Proj1280FwdRefIdeal.defs (F := Ideal)) (onTc (τ := Cert.Proj1280FwdRefIdeal.τ) (Cert.Proj1280FwdRefIdeal.main (F := Ideal))) ⟨m', fun _ => 0, g'⟩ (fun r => ∀ c : Dev Cert.Proj1280FwdRefIdeal.nD,
          r.2.mem ((c.tc : Thread Cert.Proj1280FwdRefIdeal.nD Cert.Proj1280FwdRefIdeal.τ).loc Cert.Proj1280FwdRefIdeal.main_v0) = v0 c
          ∧ r.2.mem ((c.tc : Thread Cert.Proj1280FwdRefIdeal.nD Cert.Proj1280FwdRefIdeal.τ).loc Cert.Proj1280FwdRefIdeal.main_arg0) = m' ((c.tc : Thread Cert.Proj1280FwdRefIdeal.nD Cert.Proj1280FwdRefIdeal.τ).loc Cert.Proj1280FwdRefIdeal.main_arg0)
          ∧ r.2.mem ((c.tc : Thread Cert.Proj1280FwdRefIdeal.nD Cert.Proj1280FwdRefIdeal.τ).loc Cert.Proj1280FwdRefIdeal.main_arg1) = m' ((c.tc : Thread Cert.Proj1280FwdRefIdeal.nD Cert.Proj1280FwdRefIdeal.τ).loc Cert.Proj1280FwdRefIdeal.main_arg1))

def preserves_Proj1024Fwd_Proj1024FwdIdeal : Prop :=
  True

def algebraic_Proj1024FwdIdeal_Proj1024FwdRefIdeal [hProj1024FwdIdeal : Cert.Proj1024FwdIdeal.Facts] [hProj1024FwdRefIdeal : Cert.Proj1024FwdRefIdeal.Facts] : Prop :=
  ∀ (m : (ℓ : Loc Cert.Proj1024FwdIdeal.nD Cert.Proj1024FwdIdeal.τ Cert.Proj1024FwdIdeal.sig) → Buf (Elt Ideal) ℓ) (g : Dev Cert.Proj1024FwdIdeal.nD → PrngReg)
    (m' : (ℓ : Loc Cert.Proj1024FwdRefIdeal.nD Cert.Proj1024FwdRefIdeal.τ Cert.Proj1024FwdRefIdeal.sig) → Buf (Elt Ideal) ℓ) (g' : Dev Cert.Proj1024FwdRefIdeal.nD → PrngReg), Pre_Proj1024FwdIdeal m →
    (∀ c : Dev Cert.Proj1024FwdIdeal.nD,
      m' ((c.tc : Thread Cert.Proj1024FwdRefIdeal.nD Cert.Proj1024FwdRefIdeal.τ).loc Cert.Proj1024FwdRefIdeal.main_arg0) = m ((c.tc : Thread Cert.Proj1024FwdIdeal.nD Cert.Proj1024FwdIdeal.τ).loc Cert.Proj1024FwdIdeal.main_arg0)
      ∧ m' ((c.tc : Thread Cert.Proj1024FwdRefIdeal.nD Cert.Proj1024FwdRefIdeal.τ).loc Cert.Proj1024FwdRefIdeal.main_arg1) = m ((c.tc : Thread Cert.Proj1024FwdIdeal.nD Cert.Proj1024FwdIdeal.τ).loc Cert.Proj1024FwdIdeal.main_arg1)) →
    ∃ (v0 : (c : Dev Cert.Proj1024FwdIdeal.nD) → Buf (Elt Ideal) ((c.tc : Thread Cert.Proj1024FwdIdeal.nD Cert.Proj1024FwdIdeal.τ).loc Cert.Proj1024FwdIdeal.main_v2)),
      θ_run (Cert.Proj1024FwdIdeal.defs (F := Ideal)) (onTc (τ := Cert.Proj1024FwdIdeal.τ) (Cert.Proj1024FwdIdeal.main (F := Ideal))) ⟨m, fun _ => 0, g⟩ (fun r => ∀ c : Dev Cert.Proj1024FwdIdeal.nD,
          r.2.mem ((c.tc : Thread Cert.Proj1024FwdIdeal.nD Cert.Proj1024FwdIdeal.τ).loc Cert.Proj1024FwdIdeal.main_v2) = v0 c
          ∧ r.2.mem ((c.tc : Thread Cert.Proj1024FwdIdeal.nD Cert.Proj1024FwdIdeal.τ).loc Cert.Proj1024FwdIdeal.main_arg0) = m ((c.tc : Thread Cert.Proj1024FwdIdeal.nD Cert.Proj1024FwdIdeal.τ).loc Cert.Proj1024FwdIdeal.main_arg0)
          ∧ r.2.mem ((c.tc : Thread Cert.Proj1024FwdIdeal.nD Cert.Proj1024FwdIdeal.τ).loc Cert.Proj1024FwdIdeal.main_arg1) = m ((c.tc : Thread Cert.Proj1024FwdIdeal.nD Cert.Proj1024FwdIdeal.τ).loc Cert.Proj1024FwdIdeal.main_arg1))
      ∧ θ_run (Cert.Proj1024FwdRefIdeal.defs (F := Ideal)) (onTc (τ := Cert.Proj1024FwdRefIdeal.τ) (Cert.Proj1024FwdRefIdeal.main (F := Ideal))) ⟨m', fun _ => 0, g'⟩ (fun r => ∀ c : Dev Cert.Proj1024FwdRefIdeal.nD,
          r.2.mem ((c.tc : Thread Cert.Proj1024FwdRefIdeal.nD Cert.Proj1024FwdRefIdeal.τ).loc Cert.Proj1024FwdRefIdeal.main_v0) = v0 c
          ∧ r.2.mem ((c.tc : Thread Cert.Proj1024FwdRefIdeal.nD Cert.Proj1024FwdRefIdeal.τ).loc Cert.Proj1024FwdRefIdeal.main_arg0) = m' ((c.tc : Thread Cert.Proj1024FwdRefIdeal.nD Cert.Proj1024FwdRefIdeal.τ).loc Cert.Proj1024FwdRefIdeal.main_arg0)
          ∧ r.2.mem ((c.tc : Thread Cert.Proj1024FwdRefIdeal.nD Cert.Proj1024FwdRefIdeal.τ).loc Cert.Proj1024FwdRefIdeal.main_arg1) = m' ((c.tc : Thread Cert.Proj1024FwdRefIdeal.nD Cert.Proj1024FwdRefIdeal.τ).loc Cert.Proj1024FwdRefIdeal.main_arg1))

def preserves_Proj128Fwd_Proj128FwdIdeal : Prop :=
  True

def algebraic_Proj128FwdIdeal_Proj128FwdRefIdeal [hProj128FwdIdeal : Cert.Proj128FwdIdeal.Facts] [hProj128FwdRefIdeal : Cert.Proj128FwdRefIdeal.Facts] : Prop :=
  ∀ (m : (ℓ : Loc Cert.Proj128FwdIdeal.nD Cert.Proj128FwdIdeal.τ Cert.Proj128FwdIdeal.sig) → Buf (Elt Ideal) ℓ) (g : Dev Cert.Proj128FwdIdeal.nD → PrngReg)
    (m' : (ℓ : Loc Cert.Proj128FwdRefIdeal.nD Cert.Proj128FwdRefIdeal.τ Cert.Proj128FwdRefIdeal.sig) → Buf (Elt Ideal) ℓ) (g' : Dev Cert.Proj128FwdRefIdeal.nD → PrngReg), Pre_Proj128FwdIdeal m →
    (∀ c : Dev Cert.Proj128FwdIdeal.nD,
      m' ((c.tc : Thread Cert.Proj128FwdRefIdeal.nD Cert.Proj128FwdRefIdeal.τ).loc Cert.Proj128FwdRefIdeal.main_arg0) = m ((c.tc : Thread Cert.Proj128FwdIdeal.nD Cert.Proj128FwdIdeal.τ).loc Cert.Proj128FwdIdeal.main_arg0)
      ∧ m' ((c.tc : Thread Cert.Proj128FwdRefIdeal.nD Cert.Proj128FwdRefIdeal.τ).loc Cert.Proj128FwdRefIdeal.main_arg1) = m ((c.tc : Thread Cert.Proj128FwdIdeal.nD Cert.Proj128FwdIdeal.τ).loc Cert.Proj128FwdIdeal.main_arg1)) →
    ∃ (v0 : (c : Dev Cert.Proj128FwdIdeal.nD) → Buf (Elt Ideal) ((c.tc : Thread Cert.Proj128FwdIdeal.nD Cert.Proj128FwdIdeal.τ).loc Cert.Proj128FwdIdeal.main_v2)),
      θ_run (Cert.Proj128FwdIdeal.defs (F := Ideal)) (onTc (τ := Cert.Proj128FwdIdeal.τ) (Cert.Proj128FwdIdeal.main (F := Ideal))) ⟨m, fun _ => 0, g⟩ (fun r => ∀ c : Dev Cert.Proj128FwdIdeal.nD,
          r.2.mem ((c.tc : Thread Cert.Proj128FwdIdeal.nD Cert.Proj128FwdIdeal.τ).loc Cert.Proj128FwdIdeal.main_v2) = v0 c
          ∧ r.2.mem ((c.tc : Thread Cert.Proj128FwdIdeal.nD Cert.Proj128FwdIdeal.τ).loc Cert.Proj128FwdIdeal.main_arg0) = m ((c.tc : Thread Cert.Proj128FwdIdeal.nD Cert.Proj128FwdIdeal.τ).loc Cert.Proj128FwdIdeal.main_arg0)
          ∧ r.2.mem ((c.tc : Thread Cert.Proj128FwdIdeal.nD Cert.Proj128FwdIdeal.τ).loc Cert.Proj128FwdIdeal.main_arg1) = m ((c.tc : Thread Cert.Proj128FwdIdeal.nD Cert.Proj128FwdIdeal.τ).loc Cert.Proj128FwdIdeal.main_arg1))
      ∧ θ_run (Cert.Proj128FwdRefIdeal.defs (F := Ideal)) (onTc (τ := Cert.Proj128FwdRefIdeal.τ) (Cert.Proj128FwdRefIdeal.main (F := Ideal))) ⟨m', fun _ => 0, g'⟩ (fun r => ∀ c : Dev Cert.Proj128FwdRefIdeal.nD,
          r.2.mem ((c.tc : Thread Cert.Proj128FwdRefIdeal.nD Cert.Proj128FwdRefIdeal.τ).loc Cert.Proj128FwdRefIdeal.main_v0) = v0 c
          ∧ r.2.mem ((c.tc : Thread Cert.Proj128FwdRefIdeal.nD Cert.Proj128FwdRefIdeal.τ).loc Cert.Proj128FwdRefIdeal.main_arg0) = m' ((c.tc : Thread Cert.Proj128FwdRefIdeal.nD Cert.Proj128FwdRefIdeal.τ).loc Cert.Proj128FwdRefIdeal.main_arg0)
          ∧ r.2.mem ((c.tc : Thread Cert.Proj128FwdRefIdeal.nD Cert.Proj128FwdRefIdeal.τ).loc Cert.Proj128FwdRefIdeal.main_arg1) = m' ((c.tc : Thread Cert.Proj128FwdRefIdeal.nD Cert.Proj128FwdRefIdeal.τ).loc Cert.Proj128FwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v4) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v40) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_LnOutFwd_LnOutFwdIdeal : Prop :=
  True

def algebraic_LnOutFwdIdeal_LnOutFwdRefIdeal [hLnOutFwdIdeal : Cert.LnOutFwdIdeal.Facts] [hLnOutFwdRefIdeal : Cert.LnOutFwdRefIdeal.Facts] : Prop :=
  ∀ (m : (ℓ : Loc Cert.LnOutFwdIdeal.nD Cert.LnOutFwdIdeal.τ Cert.LnOutFwdIdeal.sig) → Buf (Elt Ideal) ℓ) (g : Dev Cert.LnOutFwdIdeal.nD → PrngReg)
    (m' : (ℓ : Loc Cert.LnOutFwdRefIdeal.nD Cert.LnOutFwdRefIdeal.τ Cert.LnOutFwdRefIdeal.sig) → Buf (Elt Ideal) ℓ) (g' : Dev Cert.LnOutFwdRefIdeal.nD → PrngReg), Pre_LnOutFwdIdeal m →
    (∀ c : Dev Cert.LnOutFwdIdeal.nD,
      m' ((c.tc : Thread Cert.LnOutFwdRefIdeal.nD Cert.LnOutFwdRefIdeal.τ).loc Cert.LnOutFwdRefIdeal.main_arg0) = m ((c.tc : Thread Cert.LnOutFwdIdeal.nD Cert.LnOutFwdIdeal.τ).loc Cert.LnOutFwdIdeal.main_arg0)
      ∧ m' ((c.tc : Thread Cert.LnOutFwdRefIdeal.nD Cert.LnOutFwdRefIdeal.τ).loc Cert.LnOutFwdRefIdeal.main_arg1) = m ((c.tc : Thread Cert.LnOutFwdIdeal.nD Cert.LnOutFwdIdeal.τ).loc Cert.LnOutFwdIdeal.main_arg1)
      ∧ m' ((c.tc : Thread Cert.LnOutFwdRefIdeal.nD Cert.LnOutFwdRefIdeal.τ).loc Cert.LnOutFwdRefIdeal.main_arg2) = m ((c.tc : Thread Cert.LnOutFwdIdeal.nD Cert.LnOutFwdIdeal.τ).loc Cert.LnOutFwdIdeal.main_arg2)
      ∧ m' ((c.tc : Thread Cert.LnOutFwdRefIdeal.nD Cert.LnOutFwdRefIdeal.τ).loc Cert.LnOutFwdRefIdeal.main_arg3) = m ((c.tc : Thread Cert.LnOutFwdIdeal.nD Cert.LnOutFwdIdeal.τ).loc Cert.LnOutFwdIdeal.main_arg3)
      ∧ m' ((c.tc : Thread Cert.LnOutFwdRefIdeal.nD Cert.LnOutFwdRefIdeal.τ).loc Cert.LnOutFwdRefIdeal.main_arg4) = m ((c.tc : Thread Cert.LnOutFwdIdeal.nD Cert.LnOutFwdIdeal.τ).loc Cert.LnOutFwdIdeal.main_arg4)) →
    ∃ (v0 : (c : Dev Cert.LnOutFwdIdeal.nD) → Buf (Elt Ideal) ((c.tc : Thread Cert.LnOutFwdIdeal.nD Cert.LnOutFwdIdeal.τ).loc Cert.LnOutFwdIdeal.main_v0)),
      θ_run (Cert.LnOutFwdIdeal.defs (F := Ideal)) (onTc (τ := Cert.LnOutFwdIdeal.τ) (Cert.LnOutFwdIdeal.main (F := Ideal))) ⟨m, fun _ => 0, g⟩ (fun r => ∀ c : Dev Cert.LnOutFwdIdeal.nD,
          r.2.mem ((c.tc : Thread Cert.LnOutFwdIdeal.nD Cert.LnOutFwdIdeal.τ).loc Cert.LnOutFwdIdeal.main_v0) = v0 c
          ∧ r.2.mem ((c.tc : Thread Cert.LnOutFwdIdeal.nD Cert.LnOutFwdIdeal.τ).loc Cert.LnOutFwdIdeal.main_arg0) = m ((c.tc : Thread Cert.LnOutFwdIdeal.nD Cert.LnOutFwdIdeal.τ).loc Cert.LnOutFwdIdeal.main_arg0)
          ∧ r.2.mem ((c.tc : Thread Cert.LnOutFwdIdeal.nD Cert.LnOutFwdIdeal.τ).loc Cert.LnOutFwdIdeal.main_arg1) = m ((c.tc : Thread Cert.LnOutFwdIdeal.nD Cert.LnOutFwdIdeal.τ).loc Cert.LnOutFwdIdeal.main_arg1)
          ∧ r.2.mem ((c.tc : Thread Cert.LnOutFwdIdeal.nD Cert.LnOutFwdIdeal.τ).loc Cert.LnOutFwdIdeal.main_arg2) = m ((c.tc : Thread Cert.LnOutFwdIdeal.nD Cert.LnOutFwdIdeal.τ).loc Cert.LnOutFwdIdeal.main_arg2)
          ∧ r.2.mem ((c.tc : Thread Cert.LnOutFwdIdeal.nD Cert.LnOutFwdIdeal.τ).loc Cert.LnOutFwdIdeal.main_arg3) = m ((c.tc : Thread Cert.LnOutFwdIdeal.nD Cert.LnOutFwdIdeal.τ).loc Cert.LnOutFwdIdeal.main_arg3)
          ∧ r.2.mem ((c.tc : Thread Cert.LnOutFwdIdeal.nD Cert.LnOutFwdIdeal.τ).loc Cert.LnOutFwdIdeal.main_arg4) = m ((c.tc : Thread Cert.LnOutFwdIdeal.nD Cert.LnOutFwdIdeal.τ).loc Cert.LnOutFwdIdeal.main_arg4))
      ∧ θ_run (Cert.LnOutFwdRefIdeal.defs (F := Ideal)) (onTc (τ := Cert.LnOutFwdRefIdeal.τ) (Cert.LnOutFwdRefIdeal.main (F := Ideal))) ⟨m', fun _ => 0, g'⟩ (fun r => ∀ c : Dev Cert.LnOutFwdRefIdeal.nD,
          r.2.mem ((c.tc : Thread Cert.LnOutFwdRefIdeal.nD Cert.LnOutFwdRefIdeal.τ).loc Cert.LnOutFwdRefIdeal.main_v27) = v0 c
          ∧ r.2.mem ((c.tc : Thread Cert.LnOutFwdRefIdeal.nD Cert.LnOutFwdRefIdeal.τ).loc Cert.LnOutFwdRefIdeal.main_arg0) = m' ((c.tc : Thread Cert.LnOutFwdRefIdeal.nD Cert.LnOutFwdRefIdeal.τ).loc Cert.LnOutFwdRefIdeal.main_arg0)
          ∧ r.2.mem ((c.tc : Thread Cert.LnOutFwdRefIdeal.nD Cert.LnOutFwdRefIdeal.τ).loc Cert.LnOutFwdRefIdeal.main_arg1) = m' ((c.tc : Thread Cert.LnOutFwdRefIdeal.nD Cert.LnOutFwdRefIdeal.τ).loc Cert.LnOutFwdRefIdeal.main_arg1)
          ∧ r.2.mem ((c.tc : Thread Cert.LnOutFwdRefIdeal.nD Cert.LnOutFwdRefIdeal.τ).loc Cert.LnOutFwdRefIdeal.main_arg2) = m' ((c.tc : Thread Cert.LnOutFwdRefIdeal.nD Cert.LnOutFwdRefIdeal.τ).loc Cert.LnOutFwdRefIdeal.main_arg2)
          ∧ r.2.mem ((c.tc : Thread Cert.LnOutFwdRefIdeal.nD Cert.LnOutFwdRefIdeal.τ).loc Cert.LnOutFwdRefIdeal.main_arg3) = m' ((c.tc : Thread Cert.LnOutFwdRefIdeal.nD Cert.LnOutFwdRefIdeal.τ).loc Cert.LnOutFwdRefIdeal.main_arg3)
          ∧ r.2.mem ((c.tc : Thread Cert.LnOutFwdRefIdeal.nD Cert.LnOutFwdRefIdeal.τ).loc Cert.LnOutFwdRefIdeal.main_arg4) = m' ((c.tc : Thread Cert.LnOutFwdRefIdeal.nD Cert.LnOutFwdRefIdeal.τ).loc Cert.LnOutFwdRefIdeal.main_arg4))

def preserves_S5PostFwd_S5PostFwdIdeal : Prop :=
  True

def algebraic_S5PostFwdIdeal_S5PostFwdRefIdeal [hS5PostFwdIdeal : Cert.S5PostFwdIdeal.Facts] [hS5PostFwdRefIdeal : Cert.S5PostFwdRefIdeal.Facts] : Prop :=
  ∀ (m : (ℓ : Loc Cert.S5PostFwdIdeal.nD Cert.S5PostFwdIdeal.τ Cert.S5PostFwdIdeal.sig) → Buf (Elt Ideal) ℓ) (g : Dev Cert.S5PostFwdIdeal.nD → PrngReg)
    (m' : (ℓ : Loc Cert.S5PostFwdRefIdeal.nD Cert.S5PostFwdRefIdeal.τ Cert.S5PostFwdRefIdeal.sig) → Buf (Elt Ideal) ℓ) (g' : Dev Cert.S5PostFwdRefIdeal.nD → PrngReg), Pre_S5PostFwdIdeal m →
    (∀ c : Dev Cert.S5PostFwdIdeal.nD,
      m' ((c.tc : Thread Cert.S5PostFwdRefIdeal.nD Cert.S5PostFwdRefIdeal.τ).loc Cert.S5PostFwdRefIdeal.main_arg0) = m ((c.tc : Thread Cert.S5PostFwdIdeal.nD Cert.S5PostFwdIdeal.τ).loc Cert.S5PostFwdIdeal.main_arg0)
      ∧ m' ((c.tc : Thread Cert.S5PostFwdRefIdeal.nD Cert.S5PostFwdRefIdeal.τ).loc Cert.S5PostFwdRefIdeal.main_arg1) = m ((c.tc : Thread Cert.S5PostFwdIdeal.nD Cert.S5PostFwdIdeal.τ).loc Cert.S5PostFwdIdeal.main_arg1)
      ∧ m' ((c.tc : Thread Cert.S5PostFwdRefIdeal.nD Cert.S5PostFwdRefIdeal.τ).loc Cert.S5PostFwdRefIdeal.main_arg2) = m ((c.tc : Thread Cert.S5PostFwdIdeal.nD Cert.S5PostFwdIdeal.τ).loc Cert.S5PostFwdIdeal.main_arg2)
      ∧ m' ((c.tc : Thread Cert.S5PostFwdRefIdeal.nD Cert.S5PostFwdRefIdeal.τ).loc Cert.S5PostFwdRefIdeal.main_arg3) = m ((c.tc : Thread Cert.S5PostFwdIdeal.nD Cert.S5PostFwdIdeal.τ).loc Cert.S5PostFwdIdeal.main_arg3)
      ∧ m' ((c.tc : Thread Cert.S5PostFwdRefIdeal.nD Cert.S5PostFwdRefIdeal.τ).loc Cert.S5PostFwdRefIdeal.main_arg4) = m ((c.tc : Thread Cert.S5PostFwdIdeal.nD Cert.S5PostFwdIdeal.τ).loc Cert.S5PostFwdIdeal.main_arg4)
      ∧ m' ((c.tc : Thread Cert.S5PostFwdRefIdeal.nD Cert.S5PostFwdRefIdeal.τ).loc Cert.S5PostFwdRefIdeal.main_arg5) = m ((c.tc : Thread Cert.S5PostFwdIdeal.nD Cert.S5PostFwdIdeal.τ).loc Cert.S5PostFwdIdeal.main_arg5)) →
    ∃ (v0 : (c : Dev Cert.S5PostFwdIdeal.nD) → Buf (Elt Ideal) ((c.tc : Thread Cert.S5PostFwdIdeal.nD Cert.S5PostFwdIdeal.τ).loc Cert.S5PostFwdIdeal.main_v0)),
      θ_run (Cert.S5PostFwdIdeal.defs (F := Ideal)) (onTc (τ := Cert.S5PostFwdIdeal.τ) (Cert.S5PostFwdIdeal.main (F := Ideal))) ⟨m, fun _ => 0, g⟩ (fun r => ∀ c : Dev Cert.S5PostFwdIdeal.nD,
          r.2.mem ((c.tc : Thread Cert.S5PostFwdIdeal.nD Cert.S5PostFwdIdeal.τ).loc Cert.S5PostFwdIdeal.main_v0) = v0 c
          ∧ r.2.mem ((c.tc : Thread Cert.S5PostFwdIdeal.nD Cert.S5PostFwdIdeal.τ).loc Cert.S5PostFwdIdeal.main_arg0) = m ((c.tc : Thread Cert.S5PostFwdIdeal.nD Cert.S5PostFwdIdeal.τ).loc Cert.S5PostFwdIdeal.main_arg0)
          ∧ r.2.mem ((c.tc : Thread Cert.S5PostFwdIdeal.nD Cert.S5PostFwdIdeal.τ).loc Cert.S5PostFwdIdeal.main_arg1) = m ((c.tc : Thread Cert.S5PostFwdIdeal.nD Cert.S5PostFwdIdeal.τ).loc Cert.S5PostFwdIdeal.main_arg1)
          ∧ r.2.mem ((c.tc : Thread Cert.S5PostFwdIdeal.nD Cert.S5PostFwdIdeal.τ).loc Cert.S5PostFwdIdeal.main_arg2) = m ((c.tc : Thread Cert.S5PostFwdIdeal.nD Cert.S5PostFwdIdeal.τ).loc Cert.S5PostFwdIdeal.main_arg2)
          ∧ r.2.mem ((c.tc : Thread Cert.S5PostFwdIdeal.nD Cert.S5PostFwdIdeal.τ).loc Cert.S5PostFwdIdeal.main_arg3) = m ((c.tc : Thread Cert.S5PostFwdIdeal.nD Cert.S5PostFwdIdeal.τ).loc Cert.S5PostFwdIdeal.main_arg3)
          ∧ r.2.mem ((c.tc : Thread Cert.S5PostFwdIdeal.nD Cert.S5PostFwdIdeal.τ).loc Cert.S5PostFwdIdeal.main_arg4) = m ((c.tc : Thread Cert.S5PostFwdIdeal.nD Cert.S5PostFwdIdeal.τ).loc Cert.S5PostFwdIdeal.main_arg4)
          ∧ r.2.mem ((c.tc : Thread Cert.S5PostFwdIdeal.nD Cert.S5PostFwdIdeal.τ).loc Cert.S5PostFwdIdeal.main_arg5) = m ((c.tc : Thread Cert.S5PostFwdIdeal.nD Cert.S5PostFwdIdeal.τ).loc Cert.S5PostFwdIdeal.main_arg5))
      ∧ θ_run (Cert.S5PostFwdRefIdeal.defs (F := Ideal)) (onTc (τ := Cert.S5PostFwdRefIdeal.τ) (Cert.S5PostFwdRefIdeal.main (F := Ideal))) ⟨m', fun _ => 0, g'⟩ (fun r => ∀ c : Dev Cert.S5PostFwdRefIdeal.nD,
          r.2.mem ((c.tc : Thread Cert.S5PostFwdRefIdeal.nD Cert.S5PostFwdRefIdeal.τ).loc Cert.S5PostFwdRefIdeal.main_v27) = v0 c
          ∧ r.2.mem ((c.tc : Thread Cert.S5PostFwdRefIdeal.nD Cert.S5PostFwdRefIdeal.τ).loc Cert.S5PostFwdRefIdeal.main_arg0) = m' ((c.tc : Thread Cert.S5PostFwdRefIdeal.nD Cert.S5PostFwdRefIdeal.τ).loc Cert.S5PostFwdRefIdeal.main_arg0)
          ∧ r.2.mem ((c.tc : Thread Cert.S5PostFwdRefIdeal.nD Cert.S5PostFwdRefIdeal.τ).loc Cert.S5PostFwdRefIdeal.main_arg1) = m' ((c.tc : Thread Cert.S5PostFwdRefIdeal.nD Cert.S5PostFwdRefIdeal.τ).loc Cert.S5PostFwdRefIdeal.main_arg1)
          ∧ r.2.mem ((c.tc : Thread Cert.S5PostFwdRefIdeal.nD Cert.S5PostFwdRefIdeal.τ).loc Cert.S5PostFwdRefIdeal.main_arg2) = m' ((c.tc : Thread Cert.S5PostFwdRefIdeal.nD Cert.S5PostFwdRefIdeal.τ).loc Cert.S5PostFwdRefIdeal.main_arg2)
          ∧ r.2.mem ((c.tc : Thread Cert.S5PostFwdRefIdeal.nD Cert.S5PostFwdRefIdeal.τ).loc Cert.S5PostFwdRefIdeal.main_arg3) = m' ((c.tc : Thread Cert.S5PostFwdRefIdeal.nD Cert.S5PostFwdRefIdeal.τ).loc Cert.S5PostFwdRefIdeal.main_arg3)
          ∧ r.2.mem ((c.tc : Thread Cert.S5PostFwdRefIdeal.nD Cert.S5PostFwdRefIdeal.τ).loc Cert.S5PostFwdRefIdeal.main_arg4) = m' ((c.tc : Thread Cert.S5PostFwdRefIdeal.nD Cert.S5PostFwdRefIdeal.τ).loc Cert.S5PostFwdRefIdeal.main_arg4)
          ∧ r.2.mem ((c.tc : Thread Cert.S5PostFwdRefIdeal.nD Cert.S5PostFwdRefIdeal.τ).loc Cert.S5PostFwdRefIdeal.main_arg5) = m' ((c.tc : Thread Cert.S5PostFwdRefIdeal.nD Cert.S5PostFwdRefIdeal.τ).loc Cert.S5PostFwdRefIdeal.main_arg5))

def preserves_SsdFwd_SsdFwdIdeal : Prop :=
  IdealRules.named_const.Statement Cert.SsdFwdIdeal.κ "neg_inf" .f32 0xF149F2CA#32 ⊥

def algebraic_SsdFwdIdeal_SsdFwdRefIdeal [hSsdFwdIdeal : Cert.SsdFwdIdeal.Facts] [hSsdFwdRefIdeal : Cert.SsdFwdRefIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdRefIdeal.nD Cert.SsdFwdRefIdeal.τ Cert.SsdFwdRefIdeal.sig) → Buf (Elt Ideal) ℓ) (g' : Dev Cert.SsdFwdRefIdeal.nD → PrngReg), Pre_SsdFwdIdeal m →
    (∀ c : Dev Cert.SsdFwdIdeal.nD,
      m' ((c.tc : Thread Cert.SsdFwdRefIdeal.nD Cert.SsdFwdRefIdeal.τ).loc Cert.SsdFwdRefIdeal.main_arg0) = m ((c.tc : Thread Cert.SsdFwdIdeal.nD Cert.SsdFwdIdeal.τ).loc Cert.SsdFwdIdeal.main_arg0)
      ∧ m' ((c.tc : Thread Cert.SsdFwdRefIdeal.nD Cert.SsdFwdRefIdeal.τ).loc Cert.SsdFwdRefIdeal.main_arg1) = m ((c.tc : Thread Cert.SsdFwdIdeal.nD Cert.SsdFwdIdeal.τ).loc Cert.SsdFwdIdeal.main_arg1)
      ∧ m' ((c.tc : Thread Cert.SsdFwdRefIdeal.nD Cert.SsdFwdRefIdeal.τ).loc Cert.SsdFwdRefIdeal.main_arg2) = m ((c.tc : Thread Cert.SsdFwdIdeal.nD Cert.SsdFwdIdeal.τ).loc Cert.SsdFwdIdeal.main_arg2)
      ∧ m' ((c.tc : Thread Cert.SsdFwdRefIdeal.nD Cert.SsdFwdRefIdeal.τ).loc Cert.SsdFwdRefIdeal.main_arg3) = m ((c.tc : Thread Cert.SsdFwdIdeal.nD Cert.SsdFwdIdeal.τ).loc Cert.SsdFwdIdeal.main_arg3)
      ∧ m' ((c.tc : Thread Cert.SsdFwdRefIdeal.nD Cert.SsdFwdRefIdeal.τ).loc Cert.SsdFwdRefIdeal.main_arg4) = m ((c.tc : Thread Cert.SsdFwdIdeal.nD Cert.SsdFwdIdeal.τ).loc Cert.SsdFwdIdeal.main_arg4)
      ∧ m' ((c.tc : Thread Cert.SsdFwdRefIdeal.nD Cert.SsdFwdRefIdeal.τ).loc Cert.SsdFwdRefIdeal.main_arg5) = m ((c.tc : Thread Cert.SsdFwdIdeal.nD Cert.SsdFwdIdeal.τ).loc Cert.SsdFwdIdeal.main_arg5)
      ∧ m' ((c.tc : Thread Cert.SsdFwdRefIdeal.nD Cert.SsdFwdRefIdeal.τ).loc Cert.SsdFwdRefIdeal.main_arg6) = m ((c.tc : Thread Cert.SsdFwdIdeal.nD Cert.SsdFwdIdeal.τ).loc Cert.SsdFwdIdeal.main_arg6)
      ∧ m' ((c.tc : Thread Cert.SsdFwdRefIdeal.nD Cert.SsdFwdRefIdeal.τ).loc Cert.SsdFwdRefIdeal.main_arg7) = m ((c.tc : Thread Cert.SsdFwdIdeal.nD Cert.SsdFwdIdeal.τ).loc Cert.SsdFwdIdeal.main_arg7)
      ∧ m' ((c.tc : Thread Cert.SsdFwdRefIdeal.nD Cert.SsdFwdRefIdeal.τ).loc Cert.SsdFwdRefIdeal.main_arg8) = m ((c.tc : Thread Cert.SsdFwdIdeal.nD Cert.SsdFwdIdeal.τ).loc Cert.SsdFwdIdeal.main_arg8)) →
    ∃ (v0 : (c : Dev Cert.SsdFwdIdeal.nD) → Buf (Elt Ideal) ((c.tc : Thread Cert.SsdFwdIdeal.nD Cert.SsdFwdIdeal.τ).loc Cert.SsdFwdIdeal.main_v22_0)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v22_0) = v0 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
          ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
          ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
          ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
          ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ θ_run (Cert.SsdFwdRefIdeal.defs (F := Ideal)) (onTc (τ := Cert.SsdFwdRefIdeal.τ) (Cert.SsdFwdRefIdeal.main (F := Ideal))) ⟨m', fun _ => 0, g'⟩ (fun r => ∀ c : Dev Cert.SsdFwdRefIdeal.nD,
          r.2.mem ((c.tc : Thread Cert.SsdFwdRefIdeal.nD Cert.SsdFwdRefIdeal.τ).loc Cert.SsdFwdRefIdeal.main_v136) = v0 c
          ∧ r.2.mem ((c.tc : Thread Cert.SsdFwdRefIdeal.nD Cert.SsdFwdRefIdeal.τ).loc Cert.SsdFwdRefIdeal.main_arg0) = m' ((c.tc : Thread Cert.SsdFwdRefIdeal.nD Cert.SsdFwdRefIdeal.τ).loc Cert.SsdFwdRefIdeal.main_arg0)
          ∧ r.2.mem ((c.tc : Thread Cert.SsdFwdRefIdeal.nD Cert.SsdFwdRefIdeal.τ).loc Cert.SsdFwdRefIdeal.main_arg1) = m' ((c.tc : Thread Cert.SsdFwdRefIdeal.nD Cert.SsdFwdRefIdeal.τ).loc Cert.SsdFwdRefIdeal.main_arg1)
          ∧ r.2.mem ((c.tc : Thread Cert.SsdFwdRefIdeal.nD Cert.SsdFwdRefIdeal.τ).loc Cert.SsdFwdRefIdeal.main_arg2) = m' ((c.tc : Thread Cert.SsdFwdRefIdeal.nD Cert.SsdFwdRefIdeal.τ).loc Cert.SsdFwdRefIdeal.main_arg2)
          ∧ r.2.mem ((c.tc : Thread Cert.SsdFwdRefIdeal.nD Cert.SsdFwdRefIdeal.τ).loc Cert.SsdFwdRefIdeal.main_arg3) = m' ((c.tc : Thread Cert.SsdFwdRefIdeal.nD Cert.SsdFwdRefIdeal.τ).loc Cert.SsdFwdRefIdeal.main_arg3)
          ∧ r.2.mem ((c.tc : Thread Cert.SsdFwdRefIdeal.nD Cert.SsdFwdRefIdeal.τ).loc Cert.SsdFwdRefIdeal.main_arg4) = m' ((c.tc : Thread Cert.SsdFwdRefIdeal.nD Cert.SsdFwdRefIdeal.τ).loc Cert.SsdFwdRefIdeal.main_arg4)
          ∧ r.2.mem ((c.tc : Thread Cert.SsdFwdRefIdeal.nD Cert.SsdFwdRefIdeal.τ).loc Cert.SsdFwdRefIdeal.main_arg5) = m' ((c.tc : Thread Cert.SsdFwdRefIdeal.nD Cert.SsdFwdRefIdeal.τ).loc Cert.SsdFwdRefIdeal.main_arg5)
          ∧ r.2.mem ((c.tc : Thread Cert.SsdFwdRefIdeal.nD Cert.SsdFwdRefIdeal.τ).loc Cert.SsdFwdRefIdeal.main_arg6) = m' ((c.tc : Thread Cert.SsdFwdRefIdeal.nD Cert.SsdFwdRefIdeal.τ).loc Cert.SsdFwdRefIdeal.main_arg6)
          ∧ r.2.mem ((c.tc : Thread Cert.SsdFwdRefIdeal.nD Cert.SsdFwdRefIdeal.τ).loc Cert.SsdFwdRefIdeal.main_arg7) = m' ((c.tc : Thread Cert.SsdFwdRefIdeal.nD Cert.SsdFwdRefIdeal.τ).loc Cert.SsdFwdRefIdeal.main_arg7)
          ∧ r.2.mem ((c.tc : Thread Cert.SsdFwdRefIdeal.nD Cert.SsdFwdRefIdeal.τ).loc Cert.SsdFwdRefIdeal.main_arg8) = m' ((c.tc : Thread Cert.SsdFwdRefIdeal.nD Cert.SsdFwdRefIdeal.τ).loc Cert.SsdFwdRefIdeal.main_arg8))

def preserves_LnInBwd_LnInBwdIdeal : Prop :=
  True

def algebraic_LnInBwdIdeal_LnInRefIdeal [hLnInBwdIdeal : Cert.LnInBwdIdeal.Facts] [hLnInRefIdeal : Cert.LnInRefIdeal.Facts] : Prop :=
  ∀ (m : (ℓ : Loc Cert.LnInBwdIdeal.nD Cert.LnInBwdIdeal.τ Cert.LnInBwdIdeal.sig) → Buf (Elt Ideal) ℓ) (g : Dev Cert.LnInBwdIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInBwdIdeal m →
    (∀ c : Dev Cert.LnInBwdIdeal.nD,
      m' ((c.tc : Thread Cert.LnInRefIdeal.nD Cert.LnInRefIdeal.τ).loc Cert.LnInRefIdeal.main_arg0) = m ((c.tc : Thread Cert.LnInBwdIdeal.nD Cert.LnInBwdIdeal.τ).loc Cert.LnInBwdIdeal.main_arg0)
      ∧ m' ((c.tc : Thread Cert.LnInRefIdeal.nD Cert.LnInRefIdeal.τ).loc Cert.LnInRefIdeal.main_arg1) = m ((c.tc : Thread Cert.LnInBwdIdeal.nD Cert.LnInBwdIdeal.τ).loc Cert.LnInBwdIdeal.main_arg1)
      ∧ m' ((c.tc : Thread Cert.LnInRefIdeal.nD Cert.LnInRefIdeal.τ).loc Cert.LnInRefIdeal.main_arg2) = m ((c.tc : Thread Cert.LnInBwdIdeal.nD Cert.LnInBwdIdeal.τ).loc Cert.LnInBwdIdeal.main_arg2)
      ∧ m' ((c.tc : Thread Cert.LnInRefIdeal.nD Cert.LnInRefIdeal.τ).loc Cert.LnInRefIdeal.main_arg3) = m ((c.tc : Thread Cert.LnInBwdIdeal.nD Cert.LnInBwdIdeal.τ).loc Cert.LnInBwdIdeal.main_arg3)) →
    ∃ (v0 : (c : Dev Cert.LnInBwdIdeal.nD) → Buf (Elt Ideal) ((c.tc : Thread Cert.LnInBwdIdeal.nD Cert.LnInBwdIdeal.τ).loc Cert.LnInBwdIdeal.main_v0_0)) (v1 : (c : Dev Cert.LnInBwdIdeal.nD) → Buf (Elt Ideal) ((c.tc : Thread Cert.LnInBwdIdeal.nD Cert.LnInBwdIdeal.τ).loc Cert.LnInBwdIdeal.main_v0_1)) (v2 : (c : Dev Cert.LnInBwdIdeal.nD) → Buf (Elt Ideal) ((c.tc : Thread Cert.LnInBwdIdeal.nD Cert.LnInBwdIdeal.τ).loc Cert.LnInBwdIdeal.main_v0_2)),
      θ_run (Cert.LnInBwdIdeal.defs (F := Ideal)) (onTc (τ := Cert.LnInBwdIdeal.τ) (Cert.LnInBwdIdeal.main (F := Ideal))) ⟨m, fun _ => 0, g⟩ (fun r => ∀ c : Dev Cert.LnInBwdIdeal.nD,
          r.2.mem ((c.tc : Thread Cert.LnInBwdIdeal.nD Cert.LnInBwdIdeal.τ).loc Cert.LnInBwdIdeal.main_v0_0) = v0 c
          ∧ r.2.mem ((c.tc : Thread Cert.LnInBwdIdeal.nD Cert.LnInBwdIdeal.τ).loc Cert.LnInBwdIdeal.main_v0_1) = v1 c
          ∧ r.2.mem ((c.tc : Thread Cert.LnInBwdIdeal.nD Cert.LnInBwdIdeal.τ).loc Cert.LnInBwdIdeal.main_v0_2) = v2 c
          ∧ r.2.mem ((c.tc : Thread Cert.LnInBwdIdeal.nD Cert.LnInBwdIdeal.τ).loc Cert.LnInBwdIdeal.main_arg0) = m ((c.tc : Thread Cert.LnInBwdIdeal.nD Cert.LnInBwdIdeal.τ).loc Cert.LnInBwdIdeal.main_arg0)
          ∧ r.2.mem ((c.tc : Thread Cert.LnInBwdIdeal.nD Cert.LnInBwdIdeal.τ).loc Cert.LnInBwdIdeal.main_arg1) = m ((c.tc : Thread Cert.LnInBwdIdeal.nD Cert.LnInBwdIdeal.τ).loc Cert.LnInBwdIdeal.main_arg1)
          ∧ r.2.mem ((c.tc : Thread Cert.LnInBwdIdeal.nD Cert.LnInBwdIdeal.τ).loc Cert.LnInBwdIdeal.main_arg2) = m ((c.tc : Thread Cert.LnInBwdIdeal.nD Cert.LnInBwdIdeal.τ).loc Cert.LnInBwdIdeal.main_arg2)
          ∧ r.2.mem ((c.tc : Thread Cert.LnInBwdIdeal.nD Cert.LnInBwdIdeal.τ).loc Cert.LnInBwdIdeal.main_arg3) = m ((c.tc : Thread Cert.LnInBwdIdeal.nD Cert.LnInBwdIdeal.τ).loc Cert.LnInBwdIdeal.main_arg3))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v59) = v0 c
          ∧ r.2.mem ((c.tc : Thread Cert.LnInRefIdeal.nD Cert.LnInRefIdeal.τ).loc Cert.LnInRefIdeal.main_v60) = v1 c
          ∧ r.2.mem ((c.tc : Thread Cert.LnInRefIdeal.nD Cert.LnInRefIdeal.τ).loc Cert.LnInRefIdeal.main_v61) = v2 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2)
          ∧ r.2.mem ((c.tc : Thread Cert.LnInRefIdeal.nD Cert.LnInRefIdeal.τ).loc Cert.LnInRefIdeal.main_arg3) = m' ((c.tc : Thread Cert.LnInRefIdeal.nD Cert.LnInRefIdeal.τ).loc Cert.LnInRefIdeal.main_arg3))

def preserves_LnInFwd_LnInFwdIdeal : Prop :=
  True

def algebraic_LnInFwdIdeal_LnInFwdRefIdeal [hLnInFwdIdeal : Cert.LnInFwdIdeal.Facts] [hLnInFwdRefIdeal : Cert.LnInFwdRefIdeal.Facts] : Prop :=
  ∀ (m : (ℓ : Loc Cert.LnInFwdIdeal.nD Cert.LnInFwdIdeal.τ Cert.LnInFwdIdeal.sig) → Buf (Elt Ideal) ℓ) (g : Dev Cert.LnInFwdIdeal.nD → PrngReg)
    (m' : (ℓ : Loc Cert.LnInFwdRefIdeal.nD Cert.LnInFwdRefIdeal.τ Cert.LnInFwdRefIdeal.sig) → Buf (Elt Ideal) ℓ) (g' : Dev Cert.LnInFwdRefIdeal.nD → PrngReg), Pre_LnInFwdIdeal m →
    (∀ c : Dev Cert.LnInFwdIdeal.nD,
      m' ((c.tc : Thread Cert.LnInFwdRefIdeal.nD Cert.LnInFwdRefIdeal.τ).loc Cert.LnInFwdRefIdeal.main_arg0) = m ((c.tc : Thread Cert.LnInFwdIdeal.nD Cert.LnInFwdIdeal.τ).loc Cert.LnInFwdIdeal.main_arg0)
      ∧ m' ((c.tc : Thread Cert.LnInFwdRefIdeal.nD Cert.LnInFwdRefIdeal.τ).loc Cert.LnInFwdRefIdeal.main_arg1) = m ((c.tc : Thread Cert.LnInFwdIdeal.nD Cert.LnInFwdIdeal.τ).loc Cert.LnInFwdIdeal.main_arg1)
      ∧ m' ((c.tc : Thread Cert.LnInFwdRefIdeal.nD Cert.LnInFwdRefIdeal.τ).loc Cert.LnInFwdRefIdeal.main_arg2) = m ((c.tc : Thread Cert.LnInFwdIdeal.nD Cert.LnInFwdIdeal.τ).loc Cert.LnInFwdIdeal.main_arg2)) →
    ∃ (v0 : (c : Dev Cert.LnInFwdIdeal.nD) → Buf (Elt Ideal) ((c.tc : Thread Cert.LnInFwdIdeal.nD Cert.LnInFwdIdeal.τ).loc Cert.LnInFwdIdeal.main_v0)),
      θ_run (Cert.LnInFwdIdeal.defs (F := Ideal)) (onTc (τ := Cert.LnInFwdIdeal.τ) (Cert.LnInFwdIdeal.main (F := Ideal))) ⟨m, fun _ => 0, g⟩ (fun r => ∀ c : Dev Cert.LnInFwdIdeal.nD,
          r.2.mem ((c.tc : Thread Cert.LnInFwdIdeal.nD Cert.LnInFwdIdeal.τ).loc Cert.LnInFwdIdeal.main_v0) = v0 c
          ∧ r.2.mem ((c.tc : Thread Cert.LnInFwdIdeal.nD Cert.LnInFwdIdeal.τ).loc Cert.LnInFwdIdeal.main_arg0) = m ((c.tc : Thread Cert.LnInFwdIdeal.nD Cert.LnInFwdIdeal.τ).loc Cert.LnInFwdIdeal.main_arg0)
          ∧ r.2.mem ((c.tc : Thread Cert.LnInFwdIdeal.nD Cert.LnInFwdIdeal.τ).loc Cert.LnInFwdIdeal.main_arg1) = m ((c.tc : Thread Cert.LnInFwdIdeal.nD Cert.LnInFwdIdeal.τ).loc Cert.LnInFwdIdeal.main_arg1)
          ∧ r.2.mem ((c.tc : Thread Cert.LnInFwdIdeal.nD Cert.LnInFwdIdeal.τ).loc Cert.LnInFwdIdeal.main_arg2) = m ((c.tc : Thread Cert.LnInFwdIdeal.nD Cert.LnInFwdIdeal.τ).loc Cert.LnInFwdIdeal.main_arg2))
      ∧ θ_run (Cert.LnInFwdRefIdeal.defs (F := Ideal)) (onTc (τ := Cert.LnInFwdRefIdeal.τ) (Cert.LnInFwdRefIdeal.main (F := Ideal))) ⟨m', fun _ => 0, g'⟩ (fun r => ∀ c : Dev Cert.LnInFwdRefIdeal.nD,
          r.2.mem ((c.tc : Thread Cert.LnInFwdRefIdeal.nD Cert.LnInFwdRefIdeal.τ).loc Cert.LnInFwdRefIdeal.main_v22) = v0 c
          ∧ r.2.mem ((c.tc : Thread Cert.LnInFwdRefIdeal.nD Cert.LnInFwdRefIdeal.τ).loc Cert.LnInFwdRefIdeal.main_arg0) = m' ((c.tc : Thread Cert.LnInFwdRefIdeal.nD Cert.LnInFwdRefIdeal.τ).loc Cert.LnInFwdRefIdeal.main_arg0)
          ∧ r.2.mem ((c.tc : Thread Cert.LnInFwdRefIdeal.nD Cert.LnInFwdRefIdeal.τ).loc Cert.LnInFwdRefIdeal.main_arg1) = m' ((c.tc : Thread Cert.LnInFwdRefIdeal.nD Cert.LnInFwdRefIdeal.τ).loc Cert.LnInFwdRefIdeal.main_arg1)
          ∧ r.2.mem ((c.tc : Thread Cert.LnInFwdRefIdeal.nD Cert.LnInFwdRefIdeal.τ).loc Cert.LnInFwdRefIdeal.main_arg2) = m' ((c.tc : Thread Cert.LnInFwdRefIdeal.nD Cert.LnInFwdRefIdeal.τ).loc Cert.LnInFwdRefIdeal.main_arg2))

def preserves_LossBwd_LossBwdIdeal : Prop :=
  True

def algebraic_LossBwdIdeal_LossRefIdeal [hLossBwdIdeal : Cert.LossBwdIdeal.Facts] [hLossRefIdeal : Cert.LossRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v1)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v1) = v0 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_LossFwd_LossFwdIdeal : Prop :=
  True

def algebraic_LossFwdIdeal_LossFwdRefIdeal [hLossFwdIdeal : Cert.LossFwdIdeal.Facts] [hLossFwdRefIdeal : Cert.LossFwdRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossFwdRefIdeal.nD Cert.LossFwdRefIdeal.τ Cert.LossFwdRefIdeal.sig) → Buf (Elt Ideal) ℓ) (g' : Dev Cert.LossFwdRefIdeal.nD → PrngReg), Pre_LossFwdIdeal m →
    (∀ c : Dev Cert.LossFwdIdeal.nD,
      m' ((c.tc : Thread Cert.LossFwdRefIdeal.nD Cert.LossFwdRefIdeal.τ).loc Cert.LossFwdRefIdeal.main_arg0) = m ((c.tc : Thread Cert.LossFwdIdeal.nD Cert.LossFwdIdeal.τ).loc Cert.LossFwdIdeal.main_arg0)
      ∧ m' ((c.tc : Thread Cert.LossFwdRefIdeal.nD Cert.LossFwdRefIdeal.τ).loc Cert.LossFwdRefIdeal.main_arg1) = m ((c.tc : Thread Cert.LossFwdIdeal.nD Cert.LossFwdIdeal.τ).loc Cert.LossFwdIdeal.main_arg1)) →
    ∃ (v0 : (c : Dev Cert.LossFwdIdeal.nD) → Buf (Elt Ideal) ((c.tc : Thread Cert.LossFwdIdeal.nD Cert.LossFwdIdeal.τ).loc Cert.LossFwdIdeal.main_v0)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v0) = v0 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1))
      ∧ θ_run (Cert.LossFwdRefIdeal.defs (F := Ideal)) (onTc (τ := Cert.LossFwdRefIdeal.τ) (Cert.LossFwdRefIdeal.main (F := Ideal))) ⟨m', fun _ => 0, g'⟩ (fun r => ∀ c : Dev Cert.LossFwdRefIdeal.nD,
          r.2.mem ((c.tc : Thread Cert.LossFwdRefIdeal.nD Cert.LossFwdRefIdeal.τ).loc Cert.LossFwdRefIdeal.main_v7) = v0 c
          ∧ r.2.mem ((c.tc : Thread Cert.LossFwdRefIdeal.nD Cert.LossFwdRefIdeal.τ).loc Cert.LossFwdRefIdeal.main_arg0) = m' ((c.tc : Thread Cert.LossFwdRefIdeal.nD Cert.LossFwdRefIdeal.τ).loc Cert.LossFwdRefIdeal.main_arg0)
          ∧ r.2.mem ((c.tc : Thread Cert.LossFwdRefIdeal.nD Cert.LossFwdRefIdeal.τ).loc Cert.LossFwdRefIdeal.main_arg1) = m' ((c.tc : Thread Cert.LossFwdRefIdeal.nD Cert.LossFwdRefIdeal.τ).loc Cert.LossFwdRefIdeal.main_arg1))

def Claim : Prop :=
  ∃ (hKernel : Cert.Kernel.Facts) (hKernelIdeal : Cert.KernelIdeal.Facts) (hReferenceIdeal : Cert.ReferenceIdeal.Facts) (hProjQkvBwd : Cert.ProjQkvBwd.Facts) (hProjQkvBwdIdeal : Cert.ProjQkvBwdIdeal.Facts) (hProjQkvRefIdeal : Cert.ProjQkvRefIdeal.Facts) (hLnOutBwd : Cert.LnOutBwd.Facts) (hLnOutBwdIdeal : Cert.LnOutBwdIdeal.Facts) (hLnOutRefIdeal : Cert.LnOutRefIdeal.Facts) (hS5PostBwd : Cert.S5PostBwd.Facts) (hS5PostBwdIdeal : Cert.S5PostBwdIdeal.Facts) (hS5PostRefIdeal : Cert.S5PostRefIdeal.Facts) (hProj768Bwd : Cert.Proj768Bwd.Facts) (hProj768BwdIdeal : Cert.Proj768BwdIdeal.Facts) (hProj768RefIdeal : Cert.Proj768RefIdeal.Facts) (hProj1280Bwd : Cert.Proj1280Bwd.Facts) (hProj1280BwdIdeal : Cert.Proj1280BwdIdeal.Facts) (hProj1280RefIdeal : Cert.Proj1280RefIdeal.Facts) (hProj1024Bwd : Cert.Proj1024Bwd.Facts) (hProj1024BwdIdeal : Cert.Proj1024BwdIdeal.Facts) (hProj1024RefIdeal : Cert.Proj1024RefIdeal.Facts) (hProj128Bwd : Cert.Proj128Bwd.Facts) (hProj128BwdIdeal : Cert.Proj128BwdIdeal.Facts) (hProj128RefIdeal : Cert.Proj128RefIdeal.Facts) (hProj2304Fwd : Cert.Proj2304Fwd.Facts) (hProj2304FwdIdeal : Cert.Proj2304FwdIdeal.Facts) (hProj2304FwdRefIdeal : Cert.Proj2304FwdRefIdeal.Facts) (hProj768Fwd : Cert.Proj768Fwd.Facts) (hProj768FwdIdeal : Cert.Proj768FwdIdeal.Facts) (hProj768FwdRefIdeal : Cert.Proj768FwdRefIdeal.Facts) (hProj1280Fwd : Cert.Proj1280Fwd.Facts) (hProj1280FwdIdeal : Cert.Proj1280FwdIdeal.Facts) (hProj1280FwdRefIdeal : Cert.Proj1280FwdRefIdeal.Facts) (hProj1024Fwd : Cert.Proj1024Fwd.Facts) (hProj1024FwdIdeal : Cert.Proj1024FwdIdeal.Facts) (hProj1024FwdRefIdeal : Cert.Proj1024FwdRefIdeal.Facts) (hProj128Fwd : Cert.Proj128Fwd.Facts) (hProj128FwdIdeal : Cert.Proj128FwdIdeal.Facts) (hProj128FwdRefIdeal : Cert.Proj128FwdRefIdeal.Facts) (hMergeFwd : Cert.MergeFwd.Facts) (hMergeFwdIdeal : Cert.MergeFwdIdeal.Facts) (hMergeFwdRefIdeal : Cert.MergeFwdRefIdeal.Facts) (hLnOutFwd : Cert.LnOutFwd.Facts) (hLnOutFwdIdeal : Cert.LnOutFwdIdeal.Facts) (hLnOutFwdRefIdeal : Cert.LnOutFwdRefIdeal.Facts) (hS5PostFwd : Cert.S5PostFwd.Facts) (hS5PostFwdIdeal : Cert.S5PostFwdIdeal.Facts) (hS5PostFwdRefIdeal : Cert.S5PostFwdRefIdeal.Facts) (hSsdFwd : Cert.SsdFwd.Facts) (hSsdFwdIdeal : Cert.SsdFwdIdeal.Facts) (hSsdFwdRefIdeal : Cert.SsdFwdRefIdeal.Facts) (hLnInBwd : Cert.LnInBwd.Facts) (hLnInBwdIdeal : Cert.LnInBwdIdeal.Facts) (hLnInRefIdeal : Cert.LnInRefIdeal.Facts) (hLnInFwd : Cert.LnInFwd.Facts) (hLnInFwdIdeal : Cert.LnInFwdIdeal.Facts) (hLnInFwdRefIdeal : Cert.LnInFwdRefIdeal.Facts) (hLossBwd : Cert.LossBwd.Facts) (hLossBwdIdeal : Cert.LossBwdIdeal.Facts) (hLossRefIdeal : Cert.LossRefIdeal.Facts) (hLossFwd : Cert.LossFwd.Facts) (hLossFwdIdeal : Cert.LossFwdIdeal.Facts) (hLossFwdRefIdeal : Cert.LossFwdRefIdeal.Facts),
    quiescent_Kernel (hKernel := hKernel)
    ∧ quiescent_KernelIdeal (hKernelIdeal := hKernelIdeal)
    ∧ quiescent_ReferenceIdeal (hReferenceIdeal := hReferenceIdeal)
    ∧ quiescent_ProjQkvBwd (hProjQkvBwd := hProjQkvBwd)
    ∧ quiescent_ProjQkvBwdIdeal (hProjQkvBwdIdeal := hProjQkvBwdIdeal)
    ∧ quiescent_ProjQkvRefIdeal (hProjQkvRefIdeal := hProjQkvRefIdeal)
    ∧ quiescent_LnOutBwd (hLnOutBwd := hLnOutBwd)
    ∧ quiescent_LnOutBwdIdeal (hLnOutBwdIdeal := hLnOutBwdIdeal)
    ∧ quiescent_LnOutRefIdeal (hLnOutRefIdeal := hLnOutRefIdeal)
    ∧ quiescent_S5PostBwd (hS5PostBwd := hS5PostBwd)
    ∧ quiescent_S5PostBwdIdeal (hS5PostBwdIdeal := hS5PostBwdIdeal)
    ∧ quiescent_S5PostRefIdeal (hS5PostRefIdeal := hS5PostRefIdeal)
    ∧ quiescent_Proj768Bwd (hProj768Bwd := hProj768Bwd)
    ∧ quiescent_Proj768BwdIdeal (hProj768BwdIdeal := hProj768BwdIdeal)
    ∧ quiescent_Proj768RefIdeal (hProj768RefIdeal := hProj768RefIdeal)
    ∧ quiescent_Proj1280Bwd (hProj1280Bwd := hProj1280Bwd)
    ∧ quiescent_Proj1280BwdIdeal (hProj1280BwdIdeal := hProj1280BwdIdeal)
    ∧ quiescent_Proj1280RefIdeal (hProj1280RefIdeal := hProj1280RefIdeal)
    ∧ quiescent_Proj1024Bwd (hProj1024Bwd := hProj1024Bwd)
    ∧ quiescent_Proj1024BwdIdeal (hProj1024BwdIdeal := hProj1024BwdIdeal)
    ∧ quiescent_Proj1024RefIdeal (hProj1024RefIdeal := hProj1024RefIdeal)
    ∧ quiescent_Proj128Bwd (hProj128Bwd := hProj128Bwd)
    ∧ quiescent_Proj128BwdIdeal (hProj128BwdIdeal := hProj128BwdIdeal)
    ∧ quiescent_Proj128RefIdeal (hProj128RefIdeal := hProj128RefIdeal)
    ∧ quiescent_Proj2304Fwd (hProj2304Fwd := hProj2304Fwd)
    ∧ quiescent_Proj2304FwdIdeal (hProj2304FwdIdeal := hProj2304FwdIdeal)
    ∧ quiescent_Proj2304FwdRefIdeal (hProj2304FwdRefIdeal := hProj2304FwdRefIdeal)
    ∧ quiescent_Proj768Fwd (hProj768Fwd := hProj768Fwd)
    ∧ quiescent_Proj768FwdIdeal (hProj768FwdIdeal := hProj768FwdIdeal)
    ∧ quiescent_Proj768FwdRefIdeal (hProj768FwdRefIdeal := hProj768FwdRefIdeal)
    ∧ quiescent_Proj1280Fwd (hProj1280Fwd := hProj1280Fwd)
    ∧ quiescent_Proj1280FwdIdeal (hProj1280FwdIdeal := hProj1280FwdIdeal)
    ∧ quiescent_Proj1280FwdRefIdeal (hProj1280FwdRefIdeal := hProj1280FwdRefIdeal)
    ∧ quiescent_Proj1024Fwd (hProj1024Fwd := hProj1024Fwd)
    ∧ quiescent_Proj1024FwdIdeal (hProj1024FwdIdeal := hProj1024FwdIdeal)
    ∧ quiescent_Proj1024FwdRefIdeal (hProj1024FwdRefIdeal := hProj1024FwdRefIdeal)
    ∧ quiescent_Proj128Fwd (hProj128Fwd := hProj128Fwd)
    ∧ quiescent_Proj128FwdIdeal (hProj128FwdIdeal := hProj128FwdIdeal)
    ∧ quiescent_Proj128FwdRefIdeal (hProj128FwdRefIdeal := hProj128FwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_LnOutFwd (hLnOutFwd := hLnOutFwd)
    ∧ quiescent_LnOutFwdIdeal (hLnOutFwdIdeal := hLnOutFwdIdeal)
    ∧ quiescent_LnOutFwdRefIdeal (hLnOutFwdRefIdeal := hLnOutFwdRefIdeal)
    ∧ quiescent_S5PostFwd (hS5PostFwd := hS5PostFwd)
    ∧ quiescent_S5PostFwdIdeal (hS5PostFwdIdeal := hS5PostFwdIdeal)
    ∧ quiescent_S5PostFwdRefIdeal (hS5PostFwdRefIdeal := hS5PostFwdRefIdeal)
    ∧ quiescent_SsdFwd (hSsdFwd := hSsdFwd)
    ∧ quiescent_SsdFwdIdeal (hSsdFwdIdeal := hSsdFwdIdeal)
    ∧ quiescent_SsdFwdRefIdeal (hSsdFwdRefIdeal := hSsdFwdRefIdeal)
    ∧ quiescent_LnInBwd (hLnInBwd := hLnInBwd)
    ∧ quiescent_LnInBwdIdeal (hLnInBwdIdeal := hLnInBwdIdeal)
    ∧ quiescent_LnInRefIdeal (hLnInRefIdeal := hLnInRefIdeal)
    ∧ quiescent_LnInFwd (hLnInFwd := hLnInFwd)
    ∧ quiescent_LnInFwdIdeal (hLnInFwdIdeal := hLnInFwdIdeal)
    ∧ quiescent_LnInFwdRefIdeal (hLnInFwdRefIdeal := hLnInFwdRefIdeal)
    ∧ quiescent_LossBwd (hLossBwd := hLossBwd)
    ∧ quiescent_LossBwdIdeal (hLossBwdIdeal := hLossBwdIdeal)
    ∧ quiescent_LossRefIdeal (hLossRefIdeal := hLossRefIdeal)
    ∧ quiescent_LossFwd (hLossFwd := hLossFwd)
    ∧ quiescent_LossFwdIdeal (hLossFwdIdeal := hLossFwdIdeal)
    ∧ quiescent_LossFwdRefIdeal (hLossFwdRefIdeal := hLossFwdRefIdeal)
    ∧ preserves_Kernel_KernelIdeal
    ∧ algebraic_KernelIdeal_ReferenceIdeal (hKernelIdeal := hKernelIdeal) (hReferenceIdeal := hReferenceIdeal)
    ∧ preserves_ProjQkvBwd_ProjQkvBwdIdeal
    ∧ algebraic_ProjQkvBwdIdeal_ProjQkvRefIdeal (hProjQkvBwdIdeal := hProjQkvBwdIdeal) (hProjQkvRefIdeal := hProjQkvRefIdeal)
    ∧ preserves_LnOutBwd_LnOutBwdIdeal
    ∧ algebraic_LnOutBwdIdeal_LnOutRefIdeal (hLnOutBwdIdeal := hLnOutBwdIdeal) (hLnOutRefIdeal := hLnOutRefIdeal)
    ∧ preserves_S5PostBwd_S5PostBwdIdeal
    ∧ algebraic_S5PostBwdIdeal_S5PostRefIdeal (hS5PostBwdIdeal := hS5PostBwdIdeal) (hS5PostRefIdeal := hS5PostRefIdeal)
    ∧ preserves_Proj768Bwd_Proj768BwdIdeal
    ∧ algebraic_Proj768BwdIdeal_Proj768RefIdeal (hProj768BwdIdeal := hProj768BwdIdeal) (hProj768RefIdeal := hProj768RefIdeal)
    ∧ preserves_Proj1280Bwd_Proj1280BwdIdeal
    ∧ algebraic_Proj1280BwdIdeal_Proj1280RefIdeal (hProj1280BwdIdeal := hProj1280BwdIdeal) (hProj1280RefIdeal := hProj1280RefIdeal)
    ∧ preserves_Proj1024Bwd_Proj1024BwdIdeal
    ∧ algebraic_Proj1024BwdIdeal_Proj1024RefIdeal (hProj1024BwdIdeal := hProj1024BwdIdeal) (hProj1024RefIdeal := hProj1024RefIdeal)
    ∧ preserves_Proj128Bwd_Proj128BwdIdeal
    ∧ algebraic_Proj128BwdIdeal_Proj128RefIdeal (hProj128BwdIdeal := hProj128BwdIdeal) (hProj128RefIdeal := hProj128RefIdeal)
    ∧ preserves_Proj2304Fwd_Proj2304FwdIdeal
    ∧ algebraic_Proj2304FwdIdeal_Proj2304FwdRefIdeal (hProj2304FwdIdeal := hProj2304FwdIdeal) (hProj2304FwdRefIdeal := hProj2304FwdRefIdeal)
    ∧ preserves_Proj768Fwd_Proj768FwdIdeal
    ∧ algebraic_Proj768FwdIdeal_Proj768FwdRefIdeal (hProj768FwdIdeal := hProj768FwdIdeal) (hProj768FwdRefIdeal := hProj768FwdRefIdeal)
    ∧ preserves_Proj1280Fwd_Proj1280FwdIdeal
    ∧ algebraic_Proj1280FwdIdeal_Proj1280FwdRefIdeal (hProj1280FwdIdeal := hProj1280FwdIdeal) (hProj1280FwdRefIdeal := hProj1280FwdRefIdeal)
    ∧ preserves_Proj1024Fwd_Proj1024FwdIdeal
    ∧ algebraic_Proj1024FwdIdeal_Proj1024FwdRefIdeal (hProj1024FwdIdeal := hProj1024FwdIdeal) (hProj1024FwdRefIdeal := hProj1024FwdRefIdeal)
    ∧ preserves_Proj128Fwd_Proj128FwdIdeal
    ∧ algebraic_Proj128FwdIdeal_Proj128FwdRefIdeal (hProj128FwdIdeal := hProj128FwdIdeal) (hProj128FwdRefIdeal := hProj128FwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_LnOutFwd_LnOutFwdIdeal
    ∧ algebraic_LnOutFwdIdeal_LnOutFwdRefIdeal (hLnOutFwdIdeal := hLnOutFwdIdeal) (hLnOutFwdRefIdeal := hLnOutFwdRefIdeal)
    ∧ preserves_S5PostFwd_S5PostFwdIdeal
    ∧ algebraic_S5PostFwdIdeal_S5PostFwdRefIdeal (hS5PostFwdIdeal := hS5PostFwdIdeal) (hS5PostFwdRefIdeal := hS5PostFwdRefIdeal)
    ∧ preserves_SsdFwd_SsdFwdIdeal
    ∧ algebraic_SsdFwdIdeal_SsdFwdRefIdeal (hSsdFwdIdeal := hSsdFwdIdeal) (hSsdFwdRefIdeal := hSsdFwdRefIdeal)
    ∧ preserves_LnInBwd_LnInBwdIdeal
    ∧ algebraic_LnInBwdIdeal_LnInRefIdeal (hLnInBwdIdeal := hLnInBwdIdeal) (hLnInRefIdeal := hLnInRefIdeal)
    ∧ preserves_LnInFwd_LnInFwdIdeal
    ∧ algebraic_LnInFwdIdeal_LnInFwdRefIdeal (hLnInFwdIdeal := hLnInFwdIdeal) (hLnInFwdRefIdeal := hLnInFwdRefIdeal)
    ∧ preserves_LossBwd_LossBwdIdeal
    ∧ algebraic_LossBwdIdeal_LossRefIdeal (hLossBwdIdeal := hLossBwdIdeal) (hLossRefIdeal := hLossRefIdeal)
    ∧ preserves_LossFwd_LossFwdIdeal
    ∧ algebraic_LossFwdIdeal_LossFwdRefIdeal (hLossFwdIdeal := hLossFwdIdeal) (hLossFwdRefIdeal := hLossFwdRefIdeal)
-- ==== Kernel.lean ====
abbrev S4160x768 : Shape := ⟨2, ![4160, 768]⟩
abbrev S4160x1024 : Shape := ⟨2, ![4160, 1024]⟩
abbrev S768x1024 : Shape := ⟨2, ![768, 1024]⟩
abbrev S1x1024 : Shape := ⟨2, ![1, 1024]⟩
abbrev S416x768 : Shape := ⟨2, ![416, 768]⟩
abbrev S416x1024 : Shape := ⟨2, ![416, 1024]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4160x768, .f32⟩
  | .hbm, ⟨1, _⟩ => ⟨S4160x1024, .f32⟩
  | .hbm, ⟨2, _⟩ => ⟨S4160x1024, .f32⟩
  | .hbm, ⟨3, _⟩ => ⟨S768x1024, .f32⟩
  | .hbm, ⟨4, _⟩ => ⟨S1x1024, .f32⟩
  | .hbm, ⟨5, _⟩ => ⟨S4160x768, .bf16⟩
  | .hbm, ⟨6, _⟩ => ⟨S768x1024, .bf16⟩
  | .hbm, ⟨7, _⟩ => ⟨S4160x768, .f32⟩
  | .hbm, ⟨8, _⟩ => ⟨S4160x1024, .f32⟩
  | .hbm, ⟨9, _⟩ => ⟨S768x1024, .f32⟩
  | .hbm, ⟨10, _⟩ => ⟨S1x1024, .f32⟩
  | .local _ .vmem, ⟨0, _⟩ => ⟨S416x768, .bf16⟩
  | .local _ .vmem, ⟨1, _⟩ => ⟨S416x768, .bf16⟩
  | .local _ .vmem, ⟨2, _⟩ => ⟨S416x1024, .f32⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S768x1024, .bf16⟩
  | .local _ .vmem, ⟨7, _⟩ => ⟨S1x1024, .f32⟩
  | .local _ .vmem, ⟨8, _⟩ => ⟨S416x768, .f32⟩
  | .local _ .vmem, ⟨9, _⟩ => ⟨S416x768, .f32⟩
  | .local _ .vmem, ⟨10, _⟩ => ⟨S416x1024, .f32⟩
  | .local _ .vmem, ⟨11, _⟩ => ⟨S416x1024, .f32⟩
  | .local _ .vmem, ⟨12, _⟩ => ⟨S768x1024, .f32⟩
  | .local _ .vmem, ⟨13, _⟩ => ⟨S1x1024, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S416x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S768x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4160x768 : Shape := ⟨2, ![4160, 768]⟩
abbrev S4160x1024 : Shape := ⟨2, ![4160, 1024]⟩
abbrev S768x1024 : Shape := ⟨2, ![768, 1024]⟩
abbrev S1x1024 : Shape := ⟨2, ![1, 1024]⟩
abbrev S_ : Shape := ⟨0, ![]⟩
abbrev S1024 : Shape := ⟨1, ![1024]⟩
abbrev S1024x768 : Shape := ⟨2, ![1024, 768]⟩

abbrev nBuf : Space → Nat
  | .hbm => 30
  | .vmem => 0
  | .smem => 0
  | _ => 0

abbrev bufTy : (tb : Table) → Fin (tcTables nBuf tb) → BufTy
  | .hbm, ⟨0, _⟩ => ⟨S4160x768, .f32⟩
  | .hbm, ⟨1, _⟩ => ⟨S4160x1024, .f32⟩
  | .hbm, ⟨2, _⟩ => ⟨S4160x1024, .f32⟩
  | .hbm, ⟨3, _⟩ => ⟨S768x1024, .f32⟩
  | .hbm, ⟨4, _⟩ => ⟨S1x1024, .f32⟩
  | .hbm, ⟨5, _⟩ => ⟨S4160x1024, .f32⟩
  | .hbm, ⟨6, _⟩ => ⟨S4160x1024, .f32⟩
  | .hbm, ⟨7, _⟩ => ⟨S4160x1024, .f32⟩
  | .hbm, ⟨8, _⟩ => ⟨S4160x1024, .f32⟩
  | .hbm, ⟨9, _⟩ => ⟨S4160x1024, .f32⟩
  | .hbm, ⟨10, _⟩ => ⟨S_, .f32⟩
  | .hbm, ⟨11, _⟩ => ⟨S4160x1024, .f32⟩
  | .hbm, ⟨12, _⟩ => ⟨S4160x1024, .f32⟩
  | .hbm, ⟨13, _⟩ => ⟨S_, .f32⟩
  | .hbm, ⟨14, _⟩ => ⟨S4160x1024, .f32⟩
  | .hbm, ⟨15, _⟩ => ⟨S4160x1024, .f32⟩
  | .hbm, ⟨16, _⟩ => ⟨S_, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x768, .f32⟩
  | .hbm, ⟨28, _⟩ => ⟨S768x1024, .f32⟩
  | .hbm, ⟨29, _⟩ => ⟨S4160x768, .f32⟩
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== ProjQkvBwd.lean ====
abbrev S4160x2304 : Shape := ⟨2, ![4160, 2304]⟩
abbrev S4160x1024 : Shape := ⟨2, ![4160, 1024]⟩
abbrev S1024x2304 : Shape := ⟨2, ![1024, 2304]⟩
abbrev S416x2304 : Shape := ⟨2, ![416, 2304]⟩
abbrev S416x1024 : Shape := ⟨2, ![416, 1024]⟩
abbrev S1024x768 : Shape := ⟨2, ![1024, 768]⟩
abbrev S416x768 : Shape := ⟨2, ![416, 768]⟩

abbrev nBuf : Space → Nat
  | .hbm => 7
  | .vmem => 8
  | .smem => 0
  | _ => 0

abbrev bufTy : (tb : Table) → Fin (tcTables nBuf tb) → BufTy
  | .hbm, ⟨0, _⟩ => ⟨S4160x2304, .f32⟩
  | .hbm, ⟨1, _⟩ => ⟨S4160x1024, .f32⟩
  | .hbm, ⟨2, _⟩ => ⟨S1024x2304, .f32⟩
  | .hbm, ⟨3, _⟩ => ⟨S4160x1024, .bf16⟩
  | .hbm, ⟨4, _⟩ => ⟨S1024x2304, .bf16⟩
  | .hbm, ⟨5, _⟩ => ⟨S4160x1024, .f32⟩
  | .hbm, ⟨6, _⟩ => ⟨S1024x2304, .f32⟩
  | .local _ .vmem, ⟨0, _⟩ => ⟨S416x2304, .f32⟩
  | .local _ .vmem, ⟨1, _⟩ => ⟨S416x2304, .f32⟩
  | .local _ .vmem, ⟨2, _⟩ => ⟨S416x1024, .bf16⟩
  | .local _ .vmem, ⟨3, _⟩ => ⟨S416x1024, .bf16⟩
  | .local _ .vmem, ⟨4, _⟩ => ⟨S1024x2304, .bf16⟩
  | .local _ .vmem, ⟨5, _⟩ => ⟨S416x1024, .f32⟩
  | .local _ .vmem, ⟨6, _⟩ => ⟨S416x1024, .f32⟩
  | .local _ .vmem, ⟨7, _⟩ => ⟨S1024x2304, .f32⟩
  | _, _ => ⟨S4160x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ProjQkvRefIdeal.lean ====
abbrev S4160x2304 : Shape := ⟨2, ![4160, 2304]⟩
abbrev S4160x1024 : Shape := ⟨2, ![4160, 1024]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x2304, .f32⟩
  | .hbm, ⟨1, _⟩ => ⟨S4160x1024, .f32⟩
  | .hbm, ⟨2, _⟩ => ⟨S1024x2304, .f32⟩
  | .hbm, ⟨3, _⟩ => ⟨S4160x2304, .f32⟩
  | .hbm, ⟨4, _⟩ => ⟨S2304x1024, .f32⟩
  | .hbm, ⟨5, _⟩ => ⟨S1024x2304, .f32⟩
  | .hbm, ⟨6, _⟩ => ⟨S4160x1024, .f32⟩
  | _, _ => ⟨S4160x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LnOutBwd.lean ====
abbrev S4160x1024 : Shape := ⟨2, ![4160, 1024]⟩
abbrev S1024x1024 : Shape := ⟨2, ![1024, 1024]⟩
abbrev S1x1024 : Shape := ⟨2, ![1, 1024]⟩
abbrev S1x4160x1024 : Shape := ⟨3, ![1, 4160, 1024]⟩
abbrev S1x1024x1024 : Shape := ⟨3, ![1, 1024, 1024]⟩
abbrev S1x1x1024 : Shape := ⟨3, ![1, 1, 1024]⟩
abbrev S416x1024 : Shape := ⟨2, ![416, 1024]⟩
abbrev S1x416x1024 : Shape := ⟨3, ![1, 416, 1024]⟩
abbrev S416x1 : Shape := ⟨2, ![416, 1]⟩
abbrev S416 : Shape := ⟨1, ![416]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S4160x1024, .f32⟩
  | .hbm, ⟨6, _⟩ => ⟨S1x4160x1024, .f32⟩
  | .hbm, ⟨7, _⟩ => ⟨S1x4160x1024, .f32⟩
  | .hbm, ⟨8, _⟩ => ⟨S1x1024x1024, .f32⟩
  | .hbm, ⟨9, _⟩ => ⟨S1x1x1024, .f32⟩
  | .hbm, ⟨10, _⟩ => ⟨S1x1x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S416x1024, .f32⟩
  | .local _ .vmem, ⟨8, _⟩ => ⟨S416x1024, .f32⟩
  | .local _ .vmem, ⟨9, _⟩ => ⟨S1x416x1024, .f32⟩
  | .local _ .vmem, ⟨10, _⟩ => ⟨S1x416x1024, .f32⟩
  | .local _ .vmem, ⟨11, _⟩ => ⟨S1x416x1024, .f32⟩
  | .local _ .vmem, ⟨12, _⟩ => ⟨S1x416x1024, .f32⟩
  | .local _ .vmem, ⟨13, _⟩ => ⟨S1x1024x1024, .f32⟩
  | .local _ .vmem, ⟨14, _⟩ => ⟨S1x1x1024, .f32⟩
  | .local _ .vmem, ⟨15, _⟩ => ⟨S1x1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x416x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== LnOutRefIdeal.lean ====
abbrev S4160x1024 : Shape := ⟨2, ![4160, 1024]⟩
abbrev S1024x1024 : Shape := ⟨2, ![1024, 1024]⟩
abbrev S1x1024 : Shape := ⟨2, ![1, 1024]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S48x1024 : Shape := ⟨2, ![48, 1024]⟩
abbrev S1024 : Shape := ⟨1, ![1024]⟩
abbrev S1x4160x1024 : Shape := ⟨3, ![1, 4160, 1024]⟩
abbrev S1x1024x1024 : Shape := ⟨3, ![1, 1024, 1024]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S4160x1024, .f32⟩
  | .hbm, ⟨6, _⟩ => ⟨S4112x1024, .f32⟩
  | .hbm, ⟨7, _⟩ => ⟨S_, .f32⟩
  | .hbm, ⟨8, _⟩ => ⟨S4112x1024, .f32⟩
  | .hbm, ⟨9, _⟩ => ⟨S4112x1024, .f32⟩
  | .hbm, ⟨10, _⟩ => ⟨S4112x1024, .f32⟩
  | .hbm, ⟨11, _⟩ => ⟨S4112x1024, .f32⟩
  | .hbm, ⟨12, _⟩ => ⟨S4112x1024, .f32⟩
  | .hbm, ⟨13, _⟩ => ⟨S_, .f32⟩
  | .hbm, ⟨14, _⟩ => ⟨S4112, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S4112x1024, .f32⟩
  | .hbm, ⟨20, _⟩ => ⟨S4112x1024, .f32⟩
  | .hbm, ⟨21, _⟩ => ⟨S4112x1024, .f32⟩
  | .hbm, ⟨22, _⟩ => ⟨S_, .f32⟩
  | .hbm, ⟨23, _⟩ => ⟨S4112x1024, .f32⟩
  | .hbm, ⟨24, _⟩ => ⟨S4112x1024, .f32⟩
  | .hbm, ⟨25, _⟩ => ⟨S_, .f32⟩
  | .hbm, ⟨26, _⟩ => ⟨S4112, .f32⟩
  | .hbm, ⟨27, _⟩ => ⟨S4112x1, .f32⟩
  | .hbm, ⟨28, _⟩ => ⟨S_, .f32⟩
  | .hbm, ⟨29, _⟩ => ⟨S4112x1, .f32⟩
  | .hbm, ⟨30, _⟩ => ⟨S4112x1, .f32⟩
  | .hbm, ⟨31, _⟩ => ⟨S_, .f32⟩
  | .hbm, ⟨32, _⟩ => ⟨S4112x1, .f32⟩
  | .hbm, ⟨33, _⟩ => ⟨S4112x1, .f32⟩
  | .hbm, ⟨34, _⟩ => ⟨S4112x1, .f32⟩
  | .hbm, ⟨35, _⟩ => ⟨S4112x1, .f32⟩
  | .hbm, ⟨36, _⟩ => ⟨S_, .f32⟩
  | .hbm, ⟨37, _⟩ => ⟨S4112x1, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1024, .f32⟩
  | .hbm, ⟨43, _⟩ => ⟨S4112x1024, .f32⟩
  | .hbm, ⟨44, _⟩ => ⟨S4112x1024, .f32⟩
  | .hbm, ⟨45, _⟩ => ⟨S_, .f32⟩
  | .hbm, ⟨46, _⟩ => ⟨S48x1024, .f32⟩
  | .hbm, ⟨47, _⟩ => ⟨S4160x1024, .f32⟩
  | .hbm, ⟨48, _⟩ => ⟨S_, .f32⟩
  | .hbm, ⟨49, _⟩ => ⟨S48x1024, .f32⟩
  | .hbm, ⟨50, _⟩ => ⟨S48x1024, .f32⟩
  | .hbm, ⟨51, _⟩ => ⟨S4112x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4112x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4112x1024, .f32⟩
  | .hbm, ⟨60, _⟩ => ⟨S4112x1024, .f32⟩
  | .hbm, ⟨61, _⟩ => ⟨S4112x1024, .f32⟩
  | .hbm, ⟨62, _⟩ => ⟨S_, .f32⟩
  | .hbm, ⟨63, _⟩ => ⟨S4112, .f32⟩
  | .hbm, ⟨64, _⟩ => ⟨S4112x1, .f32⟩
  | .hbm, ⟨65, _⟩ => ⟨S4112x1024, .f32⟩
  | .hbm, ⟨66, _⟩ => ⟨S4112x1024, .f32⟩
  | .hbm, ⟨67, _⟩ => ⟨S4112x1, .f32⟩
  | .hbm, ⟨68, _⟩ => ⟨S_, .f32⟩
  | .hbm, ⟨69, _⟩ => ⟨S4112x1, .f32⟩
  | .hbm, ⟨70, _⟩ => ⟨S4112x1, .f32⟩
  | .hbm, ⟨71, _⟩ => ⟨S_, .f32⟩
  | .hbm, ⟨72, _⟩ => ⟨S4112, .f32⟩
  | .hbm, ⟨73, _⟩ => ⟨S4112x1024, .f32⟩
  | .hbm, ⟨74, _⟩ => ⟨S4112x1024, .f32⟩
  | .hbm, ⟨75, _⟩ => ⟨S4112x1024, .f32⟩
  | .hbm, ⟨76, _⟩ => ⟨S4112x1024, .f32⟩
  | .hbm, ⟨77, _⟩ => ⟨S_, .f32⟩
  | .hbm, ⟨78, _⟩ => ⟨S4112, .f32⟩
  | .hbm, ⟨79, _⟩ => ⟨S4112x1, .f32⟩
  | .hbm, ⟨80, _⟩ => ⟨S_, .f32⟩
  | .hbm, ⟨81, _⟩ => ⟨S4112x1, .f32⟩
  | .hbm, ⟨82, _⟩ => ⟨S4112x1, .f32⟩
  | .hbm, ⟨83, _⟩ => ⟨S_, .f32⟩
  | .hbm, ⟨84, _⟩ => ⟨S4112, .f32⟩
  | .hbm, ⟨85, _⟩ => ⟨S4112x1024, .f32⟩
  | .hbm, ⟨86, _⟩ => ⟨S4112x1024, .f32⟩
  | .hbm, ⟨87, _⟩ => ⟨S1024x1024, .f32⟩
  | .hbm, ⟨88, _⟩ => ⟨S1024x1024, .f32⟩
  | .hbm, ⟨89, _⟩ => ⟨S4112x1024, .f32⟩
  | .hbm, ⟨90, _⟩ => ⟨S_, .f32⟩
  | .hbm, ⟨91, _⟩ => ⟨S4160x1024, .f32⟩
  | .hbm, ⟨92, _⟩ => ⟨S_, .f32⟩
  | .hbm, ⟨93, _⟩ => ⟨S4112x1024, .f32⟩
  | .hbm, ⟨94, _⟩ => ⟨S4112x1024, .f32⟩
  | .hbm, ⟨95, _⟩ => ⟨S_, .f32⟩
  | .hbm, ⟨96, _⟩ => ⟨S4160x1024, .f32⟩
  | .hbm, ⟨97, _⟩ => ⟨S1x4160x1024, .f32⟩
  | .hbm, ⟨98, _⟩ => ⟨S1x4160x1024, .f32⟩
  | .hbm, ⟨99, _⟩ => ⟨S1x1024x1024, .f32⟩
  | .hbm, ⟨100, _⟩ => ⟨S1x1x1024, .f32⟩
  | .hbm, ⟨101, _⟩ => ⟨S1x1x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== S5PostBwd.lean ====
abbrev S4160x768 : Shape := ⟨2, ![4160, 768]⟩
abbrev S1x768 : Shape := ⟨2, ![1, 768]⟩
abbrev S768x768 : Shape := ⟨2, ![768, 768]⟩
abbrev S1x4160x768 : Shape := ⟨3, ![1, 4160, 768]⟩
abbrev S1x1x768 : Shape := ⟨3, ![1, 1, 768]⟩
abbrev S1x768x768 : Shape := ⟨3, ![1, 768, 768]⟩
abbrev S416x768 : Shape := ⟨2, ![416, 768]⟩
abbrev S1x416x768 : Shape := ⟨3, ![1, 416, 768]⟩
abbrev S768 : Shape := ⟨1, ![768]⟩

abbrev nBuf : Space → Nat
  | .hbm => 13
  | .vmem => 20
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S4160x768, .f32⟩
  | .hbm, ⟨3, _⟩ => ⟨S1x768, .f32⟩
  | .hbm, ⟨4, _⟩ => ⟨S768x768, .f32⟩
  | .hbm, ⟨5, _⟩ => ⟨S1x768, .f32⟩
  | .hbm, ⟨6, _⟩ => ⟨S4160x768, .f32⟩
  | .hbm, ⟨7, _⟩ => ⟨S1x4160x768, .f32⟩
  | .hbm, ⟨8, _⟩ => ⟨S1x4160x768, .f32⟩
  | .hbm, ⟨9, _⟩ => ⟨S1x4160x768, .f32⟩
  | .hbm, ⟨10, _⟩ => ⟨S1x1x768, .f32⟩
  | .hbm, ⟨11, _⟩ => ⟨S1x768x768, .f32⟩
  | .hbm, ⟨12, _⟩ => ⟨S1x1x768, .f32⟩
  | .local _ .vmem, ⟨0, _⟩ => ⟨S416x768, .f32⟩
  | .local _ .vmem, ⟨1, _⟩ => ⟨S416x768, .f32⟩
  | .local _ .vmem, ⟨2, _⟩ => ⟨S416x768, .f32⟩
  | .local _ .vmem, ⟨3, _⟩ => ⟨S416x768, .f32⟩
  | .local _ .vmem, ⟨4, _⟩ => ⟨S416x768, .f32⟩
  | .local _ .vmem, ⟨5, _⟩ => ⟨S416x768, .f32⟩
  | .local _ .vmem, ⟨6, _⟩ => ⟨S1x768, .f32⟩
  | .local _ .vmem, ⟨7, _⟩ => ⟨S768x768, .f32⟩
  | .local _ .vmem, ⟨8, _⟩ => ⟨S1x768, .f32⟩
  | .local _ .vmem, ⟨9, _⟩ => ⟨S416x768, .f32⟩
  | .local _ .vmem, ⟨10, _⟩ => ⟨S416x768, .f32⟩
  | .local _ .vmem, ⟨11, _⟩ => ⟨S1x416x768, .f32⟩
  | .local _ .vmem, ⟨12, _⟩ => ⟨S1x416x768, .f32⟩
  | .local _ .vmem, ⟨13, _⟩ => ⟨S1x416x768, .f32⟩
  | .local _ .vmem, ⟨14, _⟩ => ⟨S1x416x768, .f32⟩
  | .local _ .vmem, ⟨15, _⟩ => ⟨S1x416x768, .f32⟩
  | .local _ .vmem, ⟨16, _⟩ => ⟨S1x416x768, .f32⟩
  | .local _ .vmem, ⟨17, _⟩ => ⟨S1x1x768, .f32⟩
  | .local _ .vmem, ⟨18, _⟩ => ⟨S1x768x768, .f32⟩
  | .local _ .vmem, ⟨19, _⟩ => ⟨S1x1x768, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  ![v0.toNat, arg0.toNat]

def cc0_transform_7 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S416x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S416x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S416x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S416x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x416x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x416x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x416x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x768x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== S5PostRefIdeal.lean ====
abbrev S4160x768 : Shape := ⟨2, ![4160, 768]⟩
abbrev S1x768 : Shape := ⟨2, ![1, 768]⟩
abbrev S768x768 : Shape := ⟨2, ![768, 768]⟩
abbrev S_ : Shape := ⟨0, ![]⟩
abbrev S768 : Shape := ⟨1, ![768]⟩
abbrev S1x4160x768 : Shape := ⟨3, ![1, 4160, 768]⟩
abbrev S1x1x768 : Shape := ⟨3, ![1, 1, 768]⟩
abbrev S1x768x768 : Shape := ⟨3, ![1, 768, 768]⟩

abbrev nBuf : Space → Nat
  | .hbm => 111
  | .vmem => 0
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S4160x768, .f32⟩
  | .hbm, ⟨3, _⟩ => ⟨S1x768, .f32⟩
  | .hbm, ⟨4, _⟩ => ⟨S768x768, .f32⟩
  | .hbm, ⟨5, _⟩ => ⟨S1x768, .f32⟩
  | .hbm, ⟨6, _⟩ => ⟨S4160x768, .f32⟩
  | .hbm, ⟨7, _⟩ => ⟨S4160x768, .f32⟩
  | .hbm, ⟨8, _⟩ => ⟨S4160x768, .f32⟩
  | .hbm, ⟨9, _⟩ => ⟨S4160x768, .f32⟩
  | .hbm, ⟨10, _⟩ => ⟨S4160x768, .f32⟩
  | .hbm, ⟨11, _⟩ => ⟨S4160x768, .f32⟩
  | .hbm, ⟨12, _⟩ => ⟨S4160x768, .f32⟩
  | .hbm, ⟨13, _⟩ => ⟨S_, .f32⟩
  | .hbm, ⟨14, _⟩ => ⟨S4160x768, .f32⟩
  | .hbm, ⟨15, _⟩ => ⟨S4160x768, .f32⟩
  | .hbm, ⟨16, _⟩ => ⟨S_, .f32⟩
  | .hbm, ⟨17, _⟩ => ⟨S4160x768, .f32⟩
  | .hbm, ⟨18, _⟩ => ⟨S4160x768, .f32⟩
  | .hbm, ⟨19, _⟩ => ⟨S4160x768, .f32⟩
  | .hbm, ⟨20, _⟩ => ⟨S_, .f32⟩
  | .hbm, ⟨21, _⟩ => ⟨S4160x768, .f32⟩
  | .hbm, ⟨22, _⟩ => ⟨S4160x768, .f32⟩
  | .hbm, ⟨23, _⟩ => ⟨S4160x768, .f32⟩
  | .hbm, ⟨24, _⟩ => ⟨S_, .f32⟩
  | .hbm, ⟨25, _⟩ => ⟨S4160x768, .f32⟩
  | .hbm, ⟨26, _⟩ => ⟨S4160x768, .f32⟩
  | .hbm, ⟨27, _⟩ => ⟨S_, .f32⟩
  | .hbm, ⟨28, _⟩ => ⟨S4160x768, .f32⟩
  | .hbm, ⟨29, _⟩ => ⟨S4160x768, .f32⟩
  | .hbm, ⟨30, _⟩ => ⟨S4160x768, .f32⟩
  | .hbm, ⟨31, _⟩ => ⟨S_, .f32⟩
  | .hbm, ⟨32, _⟩ => ⟨S4160x768, .f32⟩
  | .hbm, ⟨33, _⟩ => ⟨S4160x768, .f32⟩
  | .hbm, ⟨34, _⟩ => ⟨S_, .f32⟩
  | .hbm, ⟨35, _⟩ => ⟨S4160x768, .f32⟩
  | .hbm, ⟨36, _⟩ => ⟨S4160x768, .f32⟩
  | .hbm, ⟨37, _⟩ => ⟨S4160x768, .f32⟩
  | .hbm, ⟨38, _⟩ => ⟨S4160x768, .f32⟩
  | .hbm, ⟨39, _⟩ => ⟨S4160x768, .f32⟩
  | .hbm, ⟨40, _⟩ => ⟨S4160x768, .f32⟩
  | .hbm, ⟨41, _⟩ => ⟨S4160x768, .f32⟩
  | .hbm, ⟨42, _⟩ => ⟨S4160x768, .f32⟩
  | .hbm, ⟨43, _⟩ => ⟨S_, .f32⟩
  | .hbm, ⟨44, _⟩ => ⟨S4160x768, .f32⟩
  | .hbm, ⟨45, _⟩ => ⟨S4160x768, .f32⟩
  | .hbm, ⟨46, _⟩ => ⟨S_, .f32⟩
  | .hbm, ⟨47, _⟩ => ⟨S4160x768, .f32⟩
  | .hbm, ⟨48, _⟩ => ⟨S4160x768, .f32⟩
  | .hbm, ⟨49, _⟩ => ⟨S_, .f32⟩
  | .hbm, ⟨50, _⟩ => ⟨S4160x768, .f32⟩
  | .hbm, ⟨51, _⟩ => ⟨S4160x768, .f32⟩
  | .hbm, ⟨52, _⟩ => ⟨S4160x768, .f32⟩
  | .hbm, ⟨53, _⟩ => ⟨S4160x768, .f32⟩
  | .hbm, ⟨54, _⟩ => ⟨S4160x768, .f32⟩
  | .hbm, ⟨55, _⟩ => ⟨S4160x768, .f32⟩
  | .hbm, ⟨56, _⟩ => ⟨S_, .f32⟩
  | .hbm, ⟨57, _⟩ => ⟨S4160x768, .f32⟩
  | .hbm, ⟨58, _⟩ => ⟨S4160x768, .f32⟩
  | .hbm, ⟨59, _⟩ => ⟨S_, .f32⟩
  | .hbm, ⟨60, _⟩ => ⟨S4160x768, .f32⟩
  | .hbm, ⟨61, _⟩ => ⟨S4160x768, .f32⟩
  | .hbm, ⟨62, _⟩ => ⟨S_, .f32⟩
  | .hbm, ⟨63, _⟩ => ⟨S4160x768, .f32⟩
  | .hbm, ⟨64, _⟩ => ⟨S4160x768, .f32⟩
  | .hbm, ⟨65, _⟩ => ⟨S4160x768, .f32⟩
  | .hbm, ⟨66, _⟩ => ⟨S4160x768, .f32⟩
  | .hbm, ⟨67, _⟩ => ⟨S4160x768, .f32⟩
  | .hbm, ⟨68, _⟩ => ⟨S4160x768, .f32⟩
  | .hbm, ⟨69, _⟩ => ⟨S4160x768, .f32⟩
  | .hbm, ⟨70, _⟩ => ⟨S4160x768, .f32⟩
  | .hbm, ⟨71, _⟩ => ⟨S4160x768, .f32⟩
  | .hbm, ⟨72, _⟩ => ⟨S4160x768, .f32⟩
  | .hbm, ⟨73, _⟩ => ⟨S4160x768, .f32⟩
  | .hbm, ⟨74, _⟩ => ⟨S4160x768, .f32⟩
  | .hbm, ⟨75, _⟩ => ⟨S4160x768, .f32⟩
  | .hbm, ⟨76, _⟩ => ⟨S4160x768, .f32⟩
  | .hbm, ⟨77, _⟩ => ⟨S_, .f32⟩
  | .hbm, ⟨78, _⟩ => ⟨S768, .f32⟩
  | .hbm, ⟨79, _⟩ => ⟨S1x768, .f32⟩
  | .hbm, ⟨80, _⟩ => ⟨S768x768, .f32⟩
  | .hbm, ⟨81, _⟩ => ⟨S768x768, .f32⟩
  | .hbm, ⟨82, _⟩ => ⟨S4160x768, .f32⟩
  | .hbm, ⟨83, _⟩ => ⟨S4160x768, .f32⟩
  | .hbm, ⟨84, _⟩ => ⟨S4160x768, .f32⟩
  | .hbm, ⟨85, _⟩ => ⟨S4160x768, .f32⟩
  | .hbm, ⟨86, _⟩ => ⟨S_, .f32⟩
  | .hbm, ⟨87, _⟩ => ⟨S4160x768, .f32⟩
  | .hbm, ⟨88, _⟩ => ⟨S4160x768, .f32⟩
  | .hbm, ⟨89, _⟩ => ⟨S4160x768, .f32⟩
  | .hbm, ⟨90, _⟩ => ⟨S_, .f32⟩
  | .hbm, ⟨91, _⟩ => ⟨S4160x768, .f32⟩
  | .hbm, ⟨92, _⟩ => ⟨S4160x768, .f32⟩
  | .hbm, ⟨93, _⟩ => ⟨S4160x768, .f32⟩
  | .hbm, ⟨94, _⟩ => ⟨S_, .f32⟩
  | .hbm, ⟨95, _⟩ => ⟨S4160x768, .f32⟩
  | .hbm, ⟨96, _⟩ => ⟨S4160x768, .f32⟩
  | .hbm, ⟨97, _⟩ => ⟨S4160x768, .f32⟩
  | .hbm, ⟨98, _⟩ => ⟨S4160x768, .f32⟩
  | .hbm, ⟨99, _⟩ => ⟨S4160x768, .f32⟩
  | .hbm, ⟨100, _⟩ => ⟨S4160x768, .f32⟩
  | .hbm, ⟨101, _⟩ => ⟨S4160x768, .f32⟩
  | .hbm, ⟨102, _⟩ => ⟨S_, .f32⟩
  | .hbm, ⟨103, _⟩ => ⟨S768, .f32⟩
  | .hbm, ⟨104, _⟩ => ⟨S1x768, .f32⟩
  | .hbm, ⟨105, _⟩ => ⟨S1x4160x768, .f32⟩
  | .hbm, ⟨106, _⟩ => ⟨S1x4160x768, .f32⟩
  | .hbm, ⟨107, _⟩ => ⟨S1x4160x768, .f32⟩
  | .hbm, ⟨108, _⟩ => ⟨S1x1x768, .f32⟩
  | .hbm, ⟨109, _⟩ => ⟨S1x768x768, .f32⟩
  | .hbm, ⟨110, _⟩ => ⟨S1x1x768, .f32⟩
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Proj768Bwd.lean ====
abbrev S4160x768 : Shape := ⟨2, ![4160, 768]⟩
abbrev S4160x1024 : Shape := ⟨2, ![4160, 1024]⟩
abbrev S1024x768 : Shape := ⟨2, ![1024, 768]⟩
abbrev S832x768 : Shape := ⟨2, ![832, 768]⟩
abbrev S832x1024 : Shape := ⟨2, ![832, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4160x768, .f32⟩
  | .hbm, ⟨1, _⟩ => ⟨S4160x1024, .f32⟩
  | .hbm, ⟨2, _⟩ => ⟨S1024x768, .f32⟩
  | .hbm, ⟨3, _⟩ => ⟨S4160x1024, .bf16⟩
  | .hbm, ⟨4, _⟩ => ⟨S1024x768, .bf16⟩
  | .hbm, ⟨5, _⟩ => ⟨S4160x1024, .f32⟩
  | .hbm, ⟨6, _⟩ => ⟨S1024x768, .f32⟩
  | .local _ .vmem, ⟨0, _⟩ => ⟨S832x768, .f32⟩
  | .local _ .vmem, ⟨1, _⟩ => ⟨S832x768, .f32⟩
  | .local _ .vmem, ⟨2, _⟩ => ⟨S832x1024, .bf16⟩
  | .local _ .vmem, ⟨3, _⟩ => ⟨S832x1024, .bf16⟩
  | .local _ .vmem, ⟨4, _⟩ => ⟨S1024x768, .bf16⟩
  | .local _ .vmem, ⟨5, _⟩ => ⟨S832x1024, .f32⟩
  | .local _ .vmem, ⟨6, _⟩ => ⟨S832x1024, .f32⟩
  | .local _ .vmem, ⟨7, _⟩ => ⟨S1024x768, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proj768RefIdeal.lean ====
abbrev S4160x768 : Shape := ⟨2, ![4160, 768]⟩
abbrev S4160x1024 : Shape := ⟨2, ![4160, 1024]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x768, .f32⟩
  | .hbm, ⟨1, _⟩ => ⟨S4160x1024, .f32⟩
  | .hbm, ⟨2, _⟩ => ⟨S1024x768, .f32⟩
  | .hbm, ⟨3, _⟩ => ⟨S4160x768, .f32⟩
  | .hbm, ⟨4, _⟩ => ⟨S768x1024, .f32⟩
  | .hbm, ⟨5, _⟩ => ⟨S1024x768, .f32⟩
  | .hbm, ⟨6, _⟩ => ⟨S4160x1024, .f32⟩
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj1280Bwd.lean ====
abbrev S4160x1280 : Shape := ⟨2, ![4160, 1280]⟩
abbrev S4160x1024 : Shape := ⟨2, ![4160, 1024]⟩
abbrev S1024x1280 : Shape := ⟨2, ![1024, 1280]⟩
abbrev S832x1280 : Shape := ⟨2, ![832, 1280]⟩
abbrev S832x1024 : Shape := ⟨2, ![832, 1024]⟩
abbrev S1024x640 : Shape := ⟨2, ![1024, 640]⟩
abbrev S832x640 : Shape := ⟨2, ![832, 640]⟩

abbrev nBuf : Space → Nat
  | .hbm => 7
  | .vmem => 8
  | .smem => 0
  | _ => 0

abbrev bufTy : (tb : Table) → Fin (tcTables nBuf tb) → BufTy
  | .hbm, ⟨0, _⟩ => ⟨S4160x1280, .f32⟩
  | .hbm, ⟨1, _⟩ => ⟨S4160x1024, .f32⟩
  | .hbm, ⟨2, _⟩ => ⟨S1024x1280, .f32⟩
  | .hbm, ⟨3, _⟩ => ⟨S4160x1024, .bf16⟩
  | .hbm, ⟨4, _⟩ => ⟨S1024x1280, .bf16⟩
  | .hbm, ⟨5, _⟩ => ⟨S4160x1024, .f32⟩
  | .hbm, ⟨6, _⟩ => ⟨S1024x1280, .f32⟩
  | .local _ .vmem, ⟨0, _⟩ => ⟨S832x1280, .f32⟩
  | .local _ .vmem, ⟨1, _⟩ => ⟨S832x1280, .f32⟩
  | .local _ .vmem, ⟨2, _⟩ => ⟨S832x1024, .bf16⟩
  | .local _ .vmem, ⟨3, _⟩ => ⟨S832x1024, .bf16⟩
  | .local _ .vmem, ⟨4, _⟩ => ⟨S1024x1280, .bf16⟩
  | .local _ .vmem, ⟨5, _⟩ => ⟨S832x1024, .f32⟩
  | .local _ .vmem, ⟨6, _⟩ => ⟨S832x1024, .f32⟩
  | .local _ .vmem, ⟨7, _⟩ => ⟨S1024x1280, .f32⟩
  | _, _ => ⟨S4160x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proj1280RefIdeal.lean ====
abbrev S4160x1280 : Shape := ⟨2, ![4160, 1280]⟩
abbrev S4160x1024 : Shape := ⟨2, ![4160, 1024]⟩
abbrev S1024x1280 : Shape := ⟨2, ![1024, 1280]⟩
abbrev S1280x1024 : Shape := ⟨2, ![1280, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x1280, .f32⟩
  | .hbm, ⟨1, _⟩ => ⟨S4160x1024, .f32⟩
  | .hbm, ⟨2, _⟩ => ⟨S1024x1280, .f32⟩
  | .hbm, ⟨3, _⟩ => ⟨S4160x1280, .f32⟩
  | .hbm, ⟨4, _⟩ => ⟨S1280x1024, .f32⟩
  | .hbm, ⟨5, _⟩ => ⟨S1024x1280, .f32⟩
  | .hbm, ⟨6, _⟩ => ⟨S4160x1024, .f32⟩
  | _, _ => ⟨S4160x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj1024Bwd.lean ====
abbrev S4160x1024 : Shape := ⟨2, ![4160, 1024]⟩
abbrev S1024x1024 : Shape := ⟨2, ![1024, 1024]⟩
abbrev S832x1024 : Shape := ⟨2, ![832, 1024]⟩
abbrev S1024x128 : Shape := ⟨2, ![1024, 128]⟩
abbrev S832x128 : Shape := ⟨2, ![832, 128]⟩

abbrev nBuf : Space → Nat
  | .hbm => 7
  | .vmem => 8
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S4160x1024, .bf16⟩
  | .hbm, ⟨4, _⟩ => ⟨S1024x1024, .bf16⟩
  | .hbm, ⟨5, _⟩ => ⟨S4160x1024, .f32⟩
  | .hbm, ⟨6, _⟩ => ⟨S1024x1024, .f32⟩
  | .local _ .vmem, ⟨0, _⟩ => ⟨S832x1024, .f32⟩
  | .local _ .vmem, ⟨1, _⟩ => ⟨S832x1024, .f32⟩
  | .local _ .vmem, ⟨2, _⟩ => ⟨S832x1024, .bf16⟩
  | .local _ .vmem, ⟨3, _⟩ => ⟨S832x1024, .bf16⟩
  | .local _ .vmem, ⟨4, _⟩ => ⟨S1024x1024, .bf16⟩
  | .local _ .vmem, ⟨5, _⟩ => ⟨S832x1024, .f32⟩
  | .local _ .vmem, ⟨6, _⟩ => ⟨S832x1024, .f32⟩
  | .local _ .vmem, ⟨7, _⟩ => ⟨S1024x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proj1024RefIdeal.lean ====
abbrev S4160x1024 : Shape := ⟨2, ![4160, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S4160x1024, .f32⟩
  | .hbm, ⟨4, _⟩ => ⟨S1024x1024, .f32⟩
  | .hbm, ⟨5, _⟩ => ⟨S1024x1024, .f32⟩
  | .hbm, ⟨6, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj128Bwd.lean ====
abbrev S4160x128 : Shape := ⟨2, ![4160, 128]⟩
abbrev S4160x1024 : Shape := ⟨2, ![4160, 1024]⟩
abbrev S1024x128 : Shape := ⟨2, ![1024, 128]⟩
abbrev S832x128 : Shape := ⟨2, ![832, 128]⟩
abbrev S832x1024 : Shape := ⟨2, ![832, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4160x128, .f32⟩
  | .hbm, ⟨1, _⟩ => ⟨S4160x1024, .f32⟩
  | .hbm, ⟨2, _⟩ => ⟨S1024x128, .f32⟩
  | .hbm, ⟨3, _⟩ => ⟨S4160x1024, .bf16⟩
  | .hbm, ⟨4, _⟩ => ⟨S1024x128, .bf16⟩
  | .hbm, ⟨5, _⟩ => ⟨S4160x1024, .f32⟩
  | .hbm, ⟨6, _⟩ => ⟨S1024x128, .f32⟩
  | .local _ .vmem, ⟨0, _⟩ => ⟨S832x128, .f32⟩
  | .local _ .vmem, ⟨1, _⟩ => ⟨S832x128, .f32⟩
  | .local _ .vmem, ⟨2, _⟩ => ⟨S832x1024, .bf16⟩
  | .local _ .vmem, ⟨3, _⟩ => ⟨S832x1024, .bf16⟩
  | .local _ .vmem, ⟨4, _⟩ => ⟨S1024x128, .bf16⟩
  | .local _ .vmem, ⟨5, _⟩ => ⟨S832x1024, .f32⟩
  | .local _ .vmem, ⟨6, _⟩ => ⟨S832x1024, .f32⟩
  | .local _ .vmem, ⟨7, _⟩ => ⟨S1024x128, .f32⟩
  | _, _ => ⟨S4160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proj128RefIdeal.lean ====
abbrev S4160x128 : Shape := ⟨2, ![4160, 128]⟩
abbrev S4160x1024 : Shape := ⟨2, ![4160, 1024]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x128, .f32⟩
  | .hbm, ⟨1, _⟩ => ⟨S4160x1024, .f32⟩
  | .hbm, ⟨2, _⟩ => ⟨S1024x128, .f32⟩
  | .hbm, ⟨3, _⟩ => ⟨S4160x128, .f32⟩
  | .hbm, ⟨4, _⟩ => ⟨S128x1024, .f32⟩
  | .hbm, ⟨5, _⟩ => ⟨S1024x128, .f32⟩
  | .hbm, ⟨6, _⟩ => ⟨S4160x1024, .f32⟩
  | _, _ => ⟨S4160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj2304Fwd.lean ====
abbrev S4160x1024 : Shape := ⟨2, ![4160, 1024]⟩
abbrev S1024x2304 : Shape := ⟨2, ![1024, 2304]⟩
abbrev S4160x2304 : Shape := ⟨2, ![4160, 2304]⟩
abbrev S416x1024 : Shape := ⟨2, ![416, 1024]⟩
abbrev S416x2304 : Shape := ⟨2, ![416, 2304]⟩

abbrev nBuf : Space → Nat
  | .hbm => 5
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024x2304, .f32⟩
  | .hbm, ⟨2, _⟩ => ⟨S4160x1024, .bf16⟩
  | .hbm, ⟨3, _⟩ => ⟨S1024x2304, .bf16⟩
  | .hbm, ⟨4, _⟩ => ⟨S4160x2304, .f32⟩
  | .local _ .vmem, ⟨0, _⟩ => ⟨S416x1024, .bf16⟩
  | .local _ .vmem, ⟨1, _⟩ => ⟨S416x1024, .bf16⟩
  | .local _ .vmem, ⟨2, _⟩ => ⟨S1024x2304, .bf16⟩
  | .local _ .vmem, ⟨3, _⟩ => ⟨S416x2304, .f32⟩
  | .local _ .vmem, ⟨4, _⟩ => ⟨S416x2304, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proj2304FwdRefIdeal.lean ====
abbrev S4160x1024 : Shape := ⟨2, ![4160, 1024]⟩
abbrev S1024x2304 : Shape := ⟨2, ![1024, 2304]⟩
abbrev S4160x2304 : Shape := ⟨2, ![4160, 2304]⟩

abbrev nBuf : Space → Nat
  | .hbm => 3
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x2304, .f32⟩
  | .hbm, ⟨2, _⟩ => ⟨S4160x2304, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proj768Fwd.lean ====
abbrev S4160x1024 : Shape := ⟨2, ![4160, 1024]⟩
abbrev S1024x768 : Shape := ⟨2, ![1024, 768]⟩
abbrev S4160x768 : Shape := ⟨2, ![4160, 768]⟩
abbrev S832x1024 : Shape := ⟨2, ![832, 1024]⟩
abbrev S832x768 : Shape := ⟨2, ![832, 768]⟩

abbrev nBuf : Space → Nat
  | .hbm => 5
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024x768, .f32⟩
  | .hbm, ⟨2, _⟩ => ⟨S4160x1024, .bf16⟩
  | .hbm, ⟨3, _⟩ => ⟨S1024x768, .bf16⟩
  | .hbm, ⟨4, _⟩ => ⟨S4160x768, .f32⟩
  | .local _ .vmem, ⟨0, _⟩ => ⟨S832x1024, .bf16⟩
  | .local _ .vmem, ⟨1, _⟩ => ⟨S832x1024, .bf16⟩
  | .local _ .vmem, ⟨2, _⟩ => ⟨S1024x768, .bf16⟩
  | .local _ .vmem, ⟨3, _⟩ => ⟨S832x768, .f32⟩
  | .local _ .vmem, ⟨4, _⟩ => ⟨S832x768, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proj768FwdRefIdeal.lean ====
abbrev S4160x1024 : Shape := ⟨2, ![4160, 1024]⟩
abbrev S1024x768 : Shape := ⟨2, ![1024, 768]⟩
abbrev S4160x768 : Shape := ⟨2, ![4160, 768]⟩

abbrev nBuf : Space → Nat
  | .hbm => 3
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x768, .f32⟩
  | .hbm, ⟨2, _⟩ => ⟨S4160x768, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proj1280Fwd.lean ====
abbrev S4160x1024 : Shape := ⟨2, ![4160, 1024]⟩
abbrev S1024x1280 : Shape := ⟨2, ![1024, 1280]⟩
abbrev S4160x1280 : Shape := ⟨2, ![4160, 1280]⟩
abbrev S832x1024 : Shape := ⟨2, ![832, 1024]⟩
abbrev S832x1280 : Shape := ⟨2, ![832, 1280]⟩

abbrev nBuf : Space → Nat
  | .hbm => 5
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024x1280, .f32⟩
  | .hbm, ⟨2, _⟩ => ⟨S4160x1024, .bf16⟩
  | .hbm, ⟨3, _⟩ => ⟨S1024x1280, .bf16⟩
  | .hbm, ⟨4, _⟩ => ⟨S4160x1280, .f32⟩
  | .local _ .vmem, ⟨0, _⟩ => ⟨S832x1024, .bf16⟩
  | .local _ .vmem, ⟨1, _⟩ => ⟨S832x1024, .bf16⟩
  | .local _ .vmem, ⟨2, _⟩ => ⟨S1024x1280, .bf16⟩
  | .local _ .vmem, ⟨3, _⟩ => ⟨S832x1280, .f32⟩
  | .local _ .vmem, ⟨4, _⟩ => ⟨S832x1280, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proj1280FwdRefIdeal.lean ====
abbrev S4160x1024 : Shape := ⟨2, ![4160, 1024]⟩
abbrev S1024x1280 : Shape := ⟨2, ![1024, 1280]⟩
abbrev S4160x1280 : Shape := ⟨2, ![4160, 1280]⟩

abbrev nBuf : Space → Nat
  | .hbm => 3
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x1280, .f32⟩
  | .hbm, ⟨2, _⟩ => ⟨S4160x1280, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proj1024Fwd.lean ====
abbrev S4160x1024 : Shape := ⟨2, ![4160, 1024]⟩
abbrev S1024x1024 : Shape := ⟨2, ![1024, 1024]⟩
abbrev S832x1024 : Shape := ⟨2, ![832, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024x1024, .f32⟩
  | .hbm, ⟨2, _⟩ => ⟨S4160x1024, .bf16⟩
  | .hbm, ⟨3, _⟩ => ⟨S1024x1024, .bf16⟩
  | .hbm, ⟨4, _⟩ => ⟨S4160x1024, .f32⟩
  | .local _ .vmem, ⟨0, _⟩ => ⟨S832x1024, .bf16⟩
  | .local _ .vmem, ⟨1, _⟩ => ⟨S832x1024, .bf16⟩
  | .local _ .vmem, ⟨2, _⟩ => ⟨S1024x1024, .bf16⟩
  | .local _ .vmem, ⟨3, _⟩ => ⟨S832x1024, .f32⟩
  | .local _ .vmem, ⟨4, _⟩ => ⟨S832x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proj1024FwdRefIdeal.lean ====
abbrev S4160x1024 : Shape := ⟨2, ![4160, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x1024, .f32⟩
  | .hbm, ⟨2, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proj128Fwd.lean ====
abbrev S4160x1024 : Shape := ⟨2, ![4160, 1024]⟩
abbrev S1024x128 : Shape := ⟨2, ![1024, 128]⟩
abbrev S4160x128 : Shape := ⟨2, ![4160, 128]⟩
abbrev S832x1024 : Shape := ⟨2, ![832, 1024]⟩
abbrev S832x128 : Shape := ⟨2, ![832, 128]⟩

abbrev nBuf : Space → Nat
  | .hbm => 5
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024x128, .f32⟩
  | .hbm, ⟨2, _⟩ => ⟨S4160x1024, .bf16⟩
  | .hbm, ⟨3, _⟩ => ⟨S1024x128, .bf16⟩
  | .hbm, ⟨4, _⟩ => ⟨S4160x128, .f32⟩
  | .local _ .vmem, ⟨0, _⟩ => ⟨S832x1024, .bf16⟩
  | .local _ .vmem, ⟨1, _⟩ => ⟨S832x1024, .bf16⟩
  | .local _ .vmem, ⟨2, _⟩ => ⟨S1024x128, .bf16⟩
  | .local _ .vmem, ⟨3, _⟩ => ⟨S832x128, .f32⟩
  | .local _ .vmem, ⟨4, _⟩ => ⟨S832x128, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Proj128FwdRefIdeal.lean ====
abbrev S4160x1024 : Shape := ⟨2, ![4160, 1024]⟩
abbrev S1024x128 : Shape := ⟨2, ![1024, 128]⟩
abbrev S4160x128 : Shape := ⟨2, ![4160, 128]⟩

abbrev nBuf : Space → Nat
  | .hbm => 3
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x128, .f32⟩
  | .hbm, ⟨2, _⟩ => ⟨S4160x128, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MergeFwd.lean ====
abbrev S4160x768 : Shape := ⟨2, ![4160, 768]⟩
abbrev S4160x1024 : Shape := ⟨2, ![4160, 1024]⟩
abbrev S3x768x1024 : Shape := ⟨3, ![3, 768, 1024]⟩
abbrev S1x3072 : Shape := ⟨2, ![1, 3072]⟩
abbrev S416x768 : Shape := ⟨2, ![416, 768]⟩
abbrev S416x1024 : Shape := ⟨2, ![416, 1024]⟩
abbrev S1x1024 : Shape := ⟨2, ![1, 1024]⟩
abbrev S1x768x1024 : Shape := ⟨3, ![1, 768, 1024]⟩
abbrev S768x1024 : Shape := ⟨2, ![768, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S4160x768, .f32⟩
  | .hbm, ⟨3, _⟩ => ⟨S4160x1024, .f32⟩
  | .hbm, ⟨4, _⟩ => ⟨S4160x1024, .f32⟩
  | .hbm, ⟨5, _⟩ => ⟨S4160x1024, .f32⟩
  | .hbm, ⟨6, _⟩ => ⟨S3x768x1024, .f32⟩
  | .hbm, ⟨7, _⟩ => ⟨S1x3072, .f32⟩
  | .hbm, ⟨8, _⟩ => ⟨S4160x768, .bf16⟩
  | .hbm, ⟨9, _⟩ => ⟨S4160x768, .bf16⟩
  | .hbm, ⟨10, _⟩ => ⟨S4160x768, .bf16⟩
  | .hbm, ⟨11, _⟩ => ⟨S3x768x1024, .bf16⟩
  | .hbm, ⟨12, _⟩ => ⟨S4160x1024, .f32⟩
  | .local _ .vmem, ⟨0, _⟩ => ⟨S416x768, .bf16⟩
  | .local _ .vmem, ⟨1, _⟩ => ⟨S416x768, .bf16⟩
  | .local _ .vmem, ⟨2, _⟩ => ⟨S416x768, .bf16⟩
  | .local _ .vmem, ⟨3, _⟩ => ⟨S416x768, .bf16⟩
  | .local _ .vmem, ⟨4, _⟩ => ⟨S416x768, .bf16⟩
  | .local _ .vmem, ⟨5, _⟩ => ⟨S416x768, .bf16⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S416x1024, .f32⟩
  | .local _ .vmem, ⟨11, _⟩ => ⟨S416x1024, .f32⟩
  | .local _ .vmem, ⟨12, _⟩ => ⟨S3x768x1024, .bf16⟩
  | .local _ .vmem, ⟨13, _⟩ => ⟨S1x3072, .f32⟩
  | .local _ .vmem, ⟨14, _⟩ => ⟨S416x1024, .f32⟩
  | .local _ .vmem, ⟨15, _⟩ => ⟨S416x1024, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S416x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S4160x768 : Shape := ⟨2, ![4160, 768]⟩
abbrev S4160x1024 : Shape := ⟨2, ![4160, 1024]⟩
abbrev S3x768x1024 : Shape := ⟨3, ![3, 768, 1024]⟩
abbrev S1x3072 : Shape := ⟨2, ![1, 3072]⟩
abbrev S1x1024 : Shape := ⟨2, ![1, 1024]⟩
abbrev S_ : Shape := ⟨0, ![]⟩
abbrev S1x768x1024 : Shape := ⟨3, ![1, 768, 1024]⟩
abbrev S768x1024 : Shape := ⟨2, ![768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S4160x768, .f32⟩
  | .hbm, ⟨3, _⟩ => ⟨S4160x1024, .f32⟩
  | .hbm, ⟨4, _⟩ => ⟨S4160x1024, .f32⟩
  | .hbm, ⟨5, _⟩ => ⟨S4160x1024, .f32⟩
  | .hbm, ⟨6, _⟩ => ⟨S3x768x1024, .f32⟩
  | .hbm, ⟨7, _⟩ => ⟨S1x3072, .f32⟩
  | .hbm, ⟨8, _⟩ => ⟨S1x1024, .f32⟩
  | .hbm, ⟨9, _⟩ => ⟨S4160x1024, .f32⟩
  | .hbm, ⟨10, _⟩ => ⟨S4160x1024, .f32⟩
  | .hbm, ⟨11, _⟩ => ⟨S4160x1024, .f32⟩
  | .hbm, ⟨12, _⟩ => ⟨S4160x1024, .f32⟩
  | .hbm, ⟨13, _⟩ => ⟨S_, .f32⟩
  | .hbm, ⟨14, _⟩ => ⟨S4160x1024, .f32⟩
  | .hbm, ⟨15, _⟩ => ⟨S4160x1024, .f32⟩
  | .hbm, ⟨16, _⟩ => ⟨S_, .f32⟩
  | .hbm, ⟨17, _⟩ => ⟨S4160x1024, .f32⟩
  | .hbm, ⟨18, _⟩ => ⟨S4160x1024, .f32⟩
  | .hbm, ⟨19, _⟩ => ⟨S1x1024, .f32⟩
  | .hbm, ⟨20, _⟩ => ⟨S4160x1024, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S4160x1024, .f32⟩
  | .hbm, ⟨26, _⟩ => ⟨S4160x1024, .f32⟩
  | .hbm, ⟨27, _⟩ => ⟨S_, .f32⟩
  | .hbm, ⟨28, _⟩ => ⟨S4160x1024, .f32⟩
  | .hbm, ⟨29, _⟩ => ⟨S4160x1024, .f32⟩
  | .hbm, ⟨30, _⟩ => ⟨S1x1024, .f32⟩
  | .hbm, ⟨31, _⟩ => ⟨S4160x1024, .f32⟩
  | .hbm, ⟨32, _⟩ => ⟨S4160x1024, .f32⟩
  | .hbm, ⟨33, _⟩ => ⟨S4160x1024, .f32⟩
  | .hbm, ⟨34, _⟩ => ⟨S4160x1024, .f32⟩
  | .hbm, ⟨35, _⟩ => ⟨S_, .f32⟩
  | .hbm, ⟨36, _⟩ => ⟨S4160x1024, .f32⟩
  | .hbm, ⟨37, _⟩ => ⟨S4160x1024, .f32⟩
  | .hbm, ⟨38, _⟩ => ⟨S_, .f32⟩
  | .hbm, ⟨39, _⟩ => ⟨S4160x1024, .f32⟩
  | .hbm, ⟨40, _⟩ => ⟨S4160x1024, .f32⟩
  | .hbm, ⟨41, _⟩ => ⟨S1x768x1024, .f32⟩
  | .hbm, ⟨42, _⟩ => ⟨S768x1024, .f32⟩
  | .hbm, ⟨43, _⟩ => ⟨S4160x1024, .f32⟩
  | .hbm, ⟨44, _⟩ => ⟨S1x768x1024, .f32⟩
  | .hbm, ⟨45, _⟩ => ⟨S768x1024, .f32⟩
  | .hbm, ⟨46, _⟩ => ⟨S4160x1024, .f32⟩
  | .hbm, ⟨47, _⟩ => ⟨S1x768x1024, .f32⟩
  | .hbm, ⟨48, _⟩ => ⟨S768x1024, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x1024, .f32⟩
  | .hbm, ⟨53, _⟩ => ⟨S4160x1024, .f32⟩
  | .hbm, ⟨54, _⟩ => ⟨S4160x1024, .f32⟩
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LnOutFwd.lean ====
abbrev S4160x1024 : Shape := ⟨2, ![4160, 1024]⟩
abbrev S1024x1024 : Shape := ⟨2, ![1024, 1024]⟩
abbrev S1x1024 : Shape := ⟨2, ![1, 1024]⟩
abbrev S416x1024 : Shape := ⟨2, ![416, 1024]⟩
abbrev S416x1 : Shape := ⟨2, ![416, 1]⟩
abbrev S416 : Shape := ⟨1, ![416]⟩

abbrev nBuf : Space → Nat
  | .hbm => 6
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S4160x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S416x1024, .f32⟩
  | .local _ .vmem, ⟨8, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LnOutFwdRefIdeal.lean ====
abbrev S4160x1024 : Shape := ⟨2, ![4160, 1024]⟩
abbrev S1024x1024 : Shape := ⟨2, ![1024, 1024]⟩
abbrev S1x1024 : Shape := ⟨2, ![1, 1024]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S48x1024 : Shape := ⟨2, ![48, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S4112x1024, .f32⟩
  | .hbm, ⟨6, _⟩ => ⟨S_, .f32⟩
  | .hbm, ⟨7, _⟩ => ⟨S4112x1024, .f32⟩
  | .hbm, ⟨8, _⟩ => ⟨S4112x1024, .f32⟩
  | .hbm, ⟨9, _⟩ => ⟨S4112x1024, .f32⟩
  | .hbm, ⟨10, _⟩ => ⟨S4112x1024, .f32⟩
  | .hbm, ⟨11, _⟩ => ⟨S4112x1024, .f32⟩
  | .hbm, ⟨12, _⟩ => ⟨S_, .f32⟩
  | .hbm, ⟨13, _⟩ => ⟨S4112, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S4112x1024, .f32⟩
  | .hbm, ⟨21, _⟩ => ⟨S_, .f32⟩
  | .hbm, ⟨22, _⟩ => ⟨S4112, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S4112x1, .f32⟩
  | .hbm, ⟨31, _⟩ => ⟨S4112x1024, .f32⟩
  | .hbm, ⟨32, _⟩ => ⟨S4112x1024, .f32⟩
  | .hbm, ⟨33, _⟩ => ⟨S4112x1024, .f32⟩
  | .hbm, ⟨34, _⟩ => ⟨S4112x1024, .f32⟩
  | .hbm, ⟨35, _⟩ => ⟨S4112x1024, .f32⟩
  | .hbm, ⟨36, _⟩ => ⟨S4112x1024, .f32⟩
  | .hbm, ⟨37, _⟩ => ⟨S_, .f32⟩
  | .hbm, ⟨38, _⟩ => ⟨S48x1024, .f32⟩
  | .hbm, ⟨39, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== S5PostFwd.lean ====
abbrev S4160x768 : Shape := ⟨2, ![4160, 768]⟩
abbrev S1x768 : Shape := ⟨2, ![1, 768]⟩
abbrev S768x768 : Shape := ⟨2, ![768, 768]⟩
abbrev S416x768 : Shape := ⟨2, ![416, 768]⟩

abbrev nBuf : Space → Nat
  | .hbm => 7
  | .vmem => 11
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S4160x768, .f32⟩
  | .hbm, ⟨3, _⟩ => ⟨S1x768, .f32⟩
  | .hbm, ⟨4, _⟩ => ⟨S768x768, .f32⟩
  | .hbm, ⟨5, _⟩ => ⟨S1x768, .f32⟩
  | .hbm, ⟨6, _⟩ => ⟨S4160x768, .f32⟩
  | .local _ .vmem, ⟨0, _⟩ => ⟨S416x768, .f32⟩
  | .local _ .vmem, ⟨1, _⟩ => ⟨S416x768, .f32⟩
  | .local _ .vmem, ⟨2, _⟩ => ⟨S416x768, .f32⟩
  | .local _ .vmem, ⟨3, _⟩ => ⟨S416x768, .f32⟩
  | .local _ .vmem, ⟨4, _⟩ => ⟨S416x768, .f32⟩
  | .local _ .vmem, ⟨5, _⟩ => ⟨S416x768, .f32⟩
  | .local _ .vmem, ⟨6, _⟩ => ⟨S1x768, .f32⟩
  | .local _ .vmem, ⟨7, _⟩ => ⟨S768x768, .f32⟩
  | .local _ .vmem, ⟨8, _⟩ => ⟨S1x768, .f32⟩
  | .local _ .vmem, ⟨9, _⟩ => ⟨S416x768, .f32⟩
  | .local _ .vmem, ⟨10, _⟩ => ⟨S416x768, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S416x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S416x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S416x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S416x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== S5PostFwdRefIdeal.lean ====
abbrev S4160x768 : Shape := ⟨2, ![4160, 768]⟩
abbrev S1x768 : Shape := ⟨2, ![1, 768]⟩
abbrev S768x768 : Shape := ⟨2, ![768, 768]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S4160x768, .f32⟩
  | .hbm, ⟨3, _⟩ => ⟨S1x768, .f32⟩
  | .hbm, ⟨4, _⟩ => ⟨S768x768, .f32⟩
  | .hbm, ⟨5, _⟩ => ⟨S1x768, .f32⟩
  | .hbm, ⟨6, _⟩ => ⟨S4160x768, .f32⟩
  | .hbm, ⟨7, _⟩ => ⟨S4160x768, .f32⟩
  | .hbm, ⟨8, _⟩ => ⟨S4160x768, .f32⟩
  | .hbm, ⟨9, _⟩ => ⟨S4160x768, .f32⟩
  | .hbm, ⟨10, _⟩ => ⟨S4160x768, .f32⟩
  | .hbm, ⟨11, _⟩ => ⟨S_, .f32⟩
  | .hbm, ⟨12, _⟩ => ⟨S4160x768, .f32⟩
  | .hbm, ⟨13, _⟩ => ⟨S4160x768, .f32⟩
  | .hbm, ⟨14, _⟩ => ⟨S4160x768, .f32⟩
  | .hbm, ⟨15, _⟩ => ⟨S_, .f32⟩
  | .hbm, ⟨16, _⟩ => ⟨S4160x768, .f32⟩
  | .hbm, ⟨17, _⟩ => ⟨S4160x768, .f32⟩
  | .hbm, ⟨18, _⟩ => ⟨S4160x768, .f32⟩
  | .hbm, ⟨19, _⟩ => ⟨S_, .f32⟩
  | .hbm, ⟨20, _⟩ => ⟨S4160x768, .f32⟩
  | .hbm, ⟨21, _⟩ => ⟨S4160x768, .f32⟩
  | .hbm, ⟨22, _⟩ => ⟨S_, .f32⟩
  | .hbm, ⟨23, _⟩ => ⟨S4160x768, .f32⟩
  | .hbm, ⟨24, _⟩ => ⟨S4160x768, .f32⟩
  | .hbm, ⟨25, _⟩ => ⟨S4160x768, .f32⟩
  | .hbm, ⟨26, _⟩ => ⟨S4160x768, .f32⟩
  | .hbm, ⟨27, _⟩ => ⟨S4160x768, .f32⟩
  | .hbm, ⟨28, _⟩ => ⟨S4160x768, .f32⟩
  | .hbm, ⟨29, _⟩ => ⟨S4160x768, .f32⟩
  | .hbm, ⟨30, _⟩ => ⟨S4160x768, .f32⟩
  | .hbm, ⟨31, _⟩ => ⟨S_, .f32⟩
  | .hbm, ⟨32, _⟩ => ⟨S4160x768, .f32⟩
  | .hbm, ⟨33, _⟩ => ⟨S4160x768, .f32⟩
  | .hbm, ⟨34, _⟩ => ⟨S_, .f32⟩
  | .hbm, ⟨35, _⟩ => ⟨S4160x768, .f32⟩
  | .hbm, ⟨36, _⟩ => ⟨S4160x768, .f32⟩
  | .hbm, ⟨37, _⟩ => ⟨S4160x768, .f32⟩
  | .hbm, ⟨38, _⟩ => ⟨S4160x768, .f32⟩
  | .hbm, ⟨39, _⟩ => ⟨S4160x768, .f32⟩
  | .hbm, ⟨40, _⟩ => ⟨S_, .f32⟩
  | .hbm, ⟨41, _⟩ => ⟨S4160x768, .f32⟩
  | .hbm, ⟨42, _⟩ => ⟨S4160x768, .f32⟩
  | .hbm, ⟨43, _⟩ => ⟨S_, .f32⟩
  | .hbm, ⟨44, _⟩ => ⟨S4160x768, .f32⟩
  | .hbm, ⟨45, _⟩ => ⟨S4160x768, .f32⟩
  | .hbm, ⟨46, _⟩ => ⟨S4160x768, .f32⟩
  | .hbm, ⟨47, _⟩ => ⟨S4160x768, .f32⟩
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== SsdFwd.lean ====
abbrev S4160x1280 : Shape := ⟨2, ![4160, 1280]⟩
abbrev S4160x768 : Shape := ⟨2, ![4160, 768]⟩
abbrev S4160x128 : Shape := ⟨2, ![4160, 128]⟩
abbrev S4x1280 : Shape := ⟨2, ![4, 1280]⟩
abbrev S1280 : Shape := ⟨1, ![1280]⟩
abbrev S18 : Shape := ⟨1, ![18]⟩
abbrev S12 : Shape := ⟨1, ![12]⟩
abbrev S768 : Shape := ⟨1, ![768]⟩
abbrev S4160x24 : Shape := ⟨2, ![4160, 24]⟩
abbrev S65x64x24 : Shape := ⟨3, ![65, 64, 24]⟩
abbrev S65x24x64 : Shape := ⟨3, ![65, 24, 64]⟩
abbrev S_ : Shape := ⟨0, ![]⟩
abbrev S8x1280 : Shape := ⟨2, ![8, 1280]⟩
abbrev S12x64 : Shape := ⟨2, ![12, 64]⟩
abbrev S1x768 : Shape := ⟨2, ![1, 768]⟩
abbrev S1x1280 : Shape := ⟨2, ![1, 1280]⟩
abbrev S110 : Shape := ⟨1, ![110]⟩
abbrev S128 : Shape := ⟨1, ![128]⟩
abbrev S1x128 : Shape := ⟨2, ![1, 128]⟩
abbrev S6 : Shape := ⟨1, ![6]⟩
abbrev S24 : Shape := ⟨1, ![24]⟩
abbrev S24x1 : Shape := ⟨2, ![24, 1]⟩
abbrev S1x65x8x1280 : Shape := ⟨4, ![1, 65, 8, 1280]⟩
abbrev S1x65x768x128 : Shape := ⟨4, ![1, 65, 768, 128]⟩
abbrev S64x1280 : Shape := ⟨2, ![64, 1280]⟩
abbrev S64x768 : Shape := ⟨2, ![64, 768]⟩
abbrev S64x128 : Shape := ⟨2, ![64, 128]⟩
abbrev S1x24x64 : Shape := ⟨3, ![1, 24, 64]⟩
abbrev S1x1x8x1280 : Shape := ⟨4, ![1, 1, 8, 1280]⟩
abbrev S1x1x768x128 : Shape := ⟨4, ![1, 1, 768, 128]⟩
abbrev S768x128 : Shape := ⟨2, ![768, 128]⟩
abbrev S24x64 : Shape := ⟨2, ![24, 64]⟩
abbrev S64x1 : Shape := ⟨2, ![64, 1]⟩
abbrev S72x1280 : Shape := ⟨2, ![72, 1280]⟩
abbrev S1x64 : Shape := ⟨2, ![1, 64]⟩
abbrev S64x64 : Shape := ⟨2, ![64, 64]⟩
abbrev S128x1 : Shape := ⟨2, ![128, 1]⟩
abbrev S1x1 : Shape := ⟨2, ![1, 1]⟩
abbrev S128x128 : Shape := ⟨2, ![128, 128]⟩
abbrev S64 : Shape := ⟨1, ![64]⟩

abbrev nBuf : Space → Nat
  | .hbm => 39
  | .vmem => 24
  | .smem => 0
  | _ => 0

abbrev bufTy : (tb : Table) → Fin (tcTables nBuf tb) → BufTy
  | .hbm, ⟨0, _⟩ => ⟨S4160x1280, .f32⟩
  | .hbm, ⟨1, _⟩ => ⟨S4160x768, .f32⟩
  | .hbm, ⟨2, _⟩ => ⟨S4160x128, .f32⟩
  | .hbm, ⟨3, _⟩ => ⟨S4x1280, .f32⟩
  | .hbm, ⟨4, _⟩ => ⟨S1280, .f32⟩
  | .hbm, ⟨5, _⟩ => ⟨S18, .f32⟩
  | .hbm, ⟨6, _⟩ => ⟨S18, .f32⟩
  | .hbm, ⟨7, _⟩ => ⟨S12, .f32⟩
  | .hbm, ⟨8, _⟩ => ⟨S768, .f32⟩
  | .hbm, ⟨9, _⟩ => ⟨S4160x24, .f32⟩
  | .hbm, ⟨10, _⟩ => ⟨S65x64x24, .f32⟩
  | .hbm, ⟨11, _⟩ => ⟨S65x24x64, .f32⟩
  | .hbm, ⟨12, _⟩ => ⟨S_, .f32⟩
  | .hbm, ⟨13, _⟩ => ⟨S4x1280, .f32⟩
  | .hbm, ⟨14, _⟩ => ⟨S8x1280, .f32⟩
  | .hbm, ⟨15, _⟩ => ⟨S12x64, .f32⟩
  | .hbm, ⟨16, _⟩ => ⟨S768, .f32⟩
  | .hbm, ⟨17, _⟩ => ⟨S1x768, .f32⟩
  | .hbm, ⟨18, _⟩ => ⟨S1x1280, .f32⟩
  | .hbm, ⟨19, _⟩ => ⟨S_, .f32⟩
  | .hbm, ⟨20, _⟩ => ⟨S110, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S110, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S6, .f32⟩
  | .hbm, ⟨29, _⟩ => ⟨S24, .f32⟩
  | .hbm, ⟨30, _⟩ => ⟨S24x1, .f32⟩
  | .hbm, ⟨31, _⟩ => ⟨S_, .f32⟩
  | .hbm, ⟨32, _⟩ => ⟨S6, .f32⟩
  | .hbm, ⟨33, _⟩ => ⟨S24, .f32⟩
  | .hbm, ⟨34, _⟩ => ⟨S24x1, .f32⟩
  | .hbm, ⟨35, _⟩ => ⟨S1x768, .f32⟩
  | .hbm, ⟨36, _⟩ => ⟨S4160x768, .f32⟩
  | .hbm, ⟨37, _⟩ => ⟨S1x65x8x1280, .f32⟩
  | .hbm, ⟨38, _⟩ => ⟨S1x65x768x128, .f32⟩
  | .local _ .vmem, ⟨0, _⟩ => ⟨S64x1280, .f32⟩
  | .local _ .vmem, ⟨1, _⟩ => ⟨S64x1280, .f32⟩
  | .local _ .vmem, ⟨2, _⟩ => ⟨S64x768, .f32⟩
  | .local _ .vmem, ⟨3, _⟩ => ⟨S64x768, .f32⟩
  | .local _ .vmem, ⟨4, _⟩ => ⟨S64x128, .f32⟩
  | .local _ .vmem, ⟨5, _⟩ => ⟨S64x128, .f32⟩
  | .local _ .vmem, ⟨6, _⟩ => ⟨S1x24x64, .f32⟩
  | .local _ .vmem, ⟨7, _⟩ => ⟨S1x24x64, .f32⟩
  | .local _ .vmem, ⟨8, _⟩ => ⟨S8x1280, .f32⟩
  | .local _ .vmem, ⟨9, _⟩ => ⟨S1x1280, .f32⟩
  | .local _ .vmem, ⟨10, _⟩ => ⟨S1x768, .f32⟩
  | .local _ .vmem, ⟨11, _⟩ => ⟨S1x128, .f32⟩
  | .local _ .vmem, ⟨12, _⟩ => ⟨S1x128, .f32⟩
  | .local _ .vmem, ⟨13, _⟩ => ⟨S24x1, .f32⟩
  | .local _ .vmem, ⟨14, _⟩ => ⟨S24x1, .f32⟩
  | .local _ .vmem, ⟨15, _⟩ => ⟨S1x768, .f32⟩
  | .local _ .vmem, ⟨16, _⟩ => ⟨S64x768, .f32⟩
  | .local _ .vmem, ⟨17, _⟩ => ⟨S64x768, .f32⟩
  | .local _ .vmem, ⟨18, _⟩ => ⟨S1x1x8x1280, .f32⟩
  | .local _ .vmem, ⟨19, _⟩ => ⟨S1x1x8x1280, .f32⟩
  | .local _ .vmem, ⟨20, _⟩ => ⟨S1x1x768x128, .f32⟩
  | .local _ .vmem, ⟨21, _⟩ => ⟨S1x1x768x128, .f32⟩
  | .local _ .vmem, ⟨22, _⟩ => ⟨S8x1280, .f32⟩
  | .local _ .vmem, ⟨23, _⟩ => ⟨S768x128, .f32⟩
  | _, _ => ⟨S4160x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![1, 65], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x24x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S24x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S24x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S64x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x8x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x768x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== SsdFwdIdeal.lean ====
variable {F : FTy → Type} [FloatOps F] [Named F]
def κ : String → Option EReal := fun
  | "neg_inf" => some ⊥
  | _ => none
-- ==== SsdFwdRefIdeal.lean ====
abbrev S4160x1280 : Shape := ⟨2, ![4160, 1280]⟩
abbrev S4160x768 : Shape := ⟨2, ![4160, 768]⟩
abbrev S4160x128 : Shape := ⟨2, ![4160, 128]⟩
abbrev S4x1280 : Shape := ⟨2, ![4, 1280]⟩
abbrev S1280 : Shape := ⟨1, ![1280]⟩
abbrev S18 : Shape := ⟨1, ![18]⟩
abbrev S12 : Shape := ⟨1, ![12]⟩
abbrev S768 : Shape := ⟨1, ![768]⟩
abbrev S_ : Shape := ⟨0, ![]⟩
abbrev S3x1280 : Shape := ⟨2, ![3, 1280]⟩
abbrev S4163x1280 : Shape := ⟨2, ![4163, 1280]⟩
abbrev S1x1280 : Shape := ⟨2, ![1, 1280]⟩
abbrev S48x1280 : Shape := ⟨2, ![48, 1280]⟩
abbrev S4112x1280 : Shape := ⟨2, ![4112, 1280]⟩
abbrev S4160x256 : Shape := ⟨2, ![4160, 256]⟩
abbrev S4160x12x64 : Shape := ⟨3, ![4160, 12, 64]⟩
abbrev S4160x2x128 : Shape := ⟨3, ![4160, 2, 128]⟩
abbrev S4160x12 : Shape := ⟨2, ![4160, 12]⟩
abbrev S1x12 : Shape := ⟨2, ![1, 12]⟩
abbrev S48x12 : Shape := ⟨2, ![48, 12]⟩
abbrev S4112x12 : Shape := ⟨2, ![4112, 12]⟩
abbrev S4160x12x1 : Shape := ⟨3, ![4160, 12, 1]⟩
abbrev S65x64x2x6x64 : Shape := ⟨5, ![65, 64, 2, 6, 64]⟩
abbrev S65x64x2x6 : Shape := ⟨4, ![65, 64, 2, 6]⟩
abbrev S65x64x2x128 : Shape := ⟨4, ![65, 64, 2, 128]⟩
abbrev S64x64 : Shape := ⟨2, ![64, 64]⟩
abbrev S65x64x1x2x6 : Shape := ⟨5, ![65, 64, 1, 2, 6]⟩
abbrev S65x1x64x2x6 : Shape := ⟨5, ![65, 1, 64, 2, 6]⟩
abbrev S65x64x64x2x6 : Shape := ⟨5, ![65, 64, 64, 2, 6]⟩
abbrev S64x64x1x1 : Shape := ⟨4, ![64, 64, 1, 1]⟩
abbrev S65x2x64x64 : Shape := ⟨4, ![65, 2, 64, 64]⟩
abbrev S65x64x64x2 : Shape := ⟨4, ![65, 64, 64, 2]⟩
abbrev S65x64x64x2x1 : Shape := ⟨5, ![65, 64, 64, 2, 1]⟩
abbrev S65x2x6x64x64 : Shape := ⟨5, ![65, 2, 6, 64, 64]⟩
abbrev S65x1x2x6 : Shape := ⟨4, ![65, 1, 2, 6]⟩
abbrev S65x64x2x6x1 : Shape := ⟨5, ![65, 64, 2, 6, 1]⟩
abbrev S65x2x6x64x128 : Shape := ⟨5, ![65, 2, 6, 64, 128]⟩
abbrev S65x2x6 : Shape := ⟨3, ![65, 2, 6]⟩
abbrev S65x65 : Shape := ⟨2, ![65, 65]⟩
abbrev S65x65x1 : Shape := ⟨3, ![65, 65, 1]⟩
abbrev S1x65x65 : Shape := ⟨3, ![1, 65, 65]⟩
abbrev S65x65x65 : Shape := ⟨3, ![65, 65, 65]⟩
abbrev S65x65x2x6 : Shape := ⟨4, ![65, 65, 2, 6]⟩
abbrev S65x65x1x1 : Shape := ⟨4, ![65, 65, 1, 1]⟩
abbrev S2x6x64x128x65 : Shape := ⟨5, ![2, 6, 64, 128, 65]⟩
abbrev S12x1 : Shape := ⟨2, ![12, 1]⟩
abbrev S1x12x1 : Shape := ⟨3, ![1, 12, 1]⟩
abbrev S4160 : Shape := ⟨1, ![4160]⟩
abbrev S4160x1 : Shape := ⟨2, ![4160, 1]⟩
abbrev S1x768 : Shape := ⟨2, ![1, 768]⟩

abbrev nBuf : Space → Nat
  | .hbm => 210
  | .vmem => 0
  | .smem => 0
  | _ => 0

abbrev hbmTy0_0 (i : Nat) : BufTy := match i % 128 with
  | 0 => ⟨S4160x1280, .f32⟩
  | 1 => ⟨S4160x768, .f32⟩
  | 2 => ⟨S4160x128, .f32⟩
  | 3 => ⟨S4x1280, .f32⟩
  | 4 => ⟨S1280, .f32⟩
  | 5 => ⟨S18, .f32⟩
  | 6 => ⟨S18, .f32⟩
  | 7 => ⟨S12, .f32⟩
  | 8 => ⟨S768, .f32⟩
  | 9 => ⟨S_, .f32⟩
  | 10 => ⟨S3x1280, .f32⟩
  | 11 => ⟨S4163x1280, .f32⟩
  | 12 => ⟨S1x1280, .f32⟩
  | 13 => ⟨S1280, .f32⟩
  | 14 => ⟨S4160x1280, .f32⟩
  | 15 => ⟨S1x1280, .f32⟩
  | 16 => ⟨S4160x1280, .f32⟩
  | 17 => ⟨S4160x1280, .f32⟩
  | 18 => ⟨S_, .f32⟩
  | 19 => ⟨S4160x1280, .f32⟩
  | 20 => ⟨S4160x1280, .f32⟩
  | 21 => ⟨S1x1280, .f32⟩
  | 22 => ⟨S1280, .f32⟩
  | 23 => ⟨S4160x1280, .f32⟩
  | 24 => ⟨S1x1280, .f32⟩
  | 25 => ⟨S4160x1280, .f32⟩
  | 26 => ⟨S4160x1280, .f32⟩
  | 27 => ⟨S4160x1280, .f32⟩
  | 28 => ⟨S1x1280, .f32⟩
  | 29 => ⟨S1280, .f32⟩
  | 30 => ⟨S4160x1280, .f32⟩
  | 31 => ⟨S1x1280, .f32⟩
  | 32 => ⟨S4160x1280, .f32⟩
  | 33 => ⟨S4160x1280, .f32⟩
  | 34 => ⟨S4160x1280, .f32⟩
  | 35 => ⟨S1x1280, .f32⟩
  | 36 => ⟨S1280, .f32⟩
  | 37 => ⟨S4160x1280, .f32⟩
  | 38 => ⟨S1x1280, .f32⟩
  | 39 => ⟨S4160x1280, .f32⟩
  | 40 => ⟨S4160x1280, .f32⟩
  | 41 => ⟨S4160x1280, .f32⟩
  | 42 => ⟨S1x1280, .f32⟩
  | 43 => ⟨S4160x1280, .f32⟩
  | 44 => ⟨S4160x1280, .f32⟩
  | 45 => ⟨S4160x1280, .f32⟩
  | 46 => ⟨S4160x1280, .f32⟩
  | 47 => ⟨S_, .f32⟩
  | 48 => ⟨S4160x1280, .f32⟩
  | 49 => ⟨S4160x1280, .f32⟩
  | 50 => ⟨S_, .f32⟩
  | 51 => ⟨S4160x1280, .f32⟩
  | 52 => ⟨S4160x1280, .f32⟩
  | 53 => ⟨S4160x1280, .f32⟩
  | 54 => ⟨S_, .f32⟩
  | 55 => ⟨S48x1280, .f32⟩
  | 56 => ⟨S4112x1280, .f32⟩
  | 57 => ⟨S4160x1280, .f32⟩
  | 58 => ⟨S4160x768, .f32⟩
  | 59 => ⟨S4160x256, .f32⟩
  | 60 => ⟨S4160x256, .f32⟩
  | 61 => ⟨S4160x12x64, .f32⟩
  | 62 => ⟨S4160x2x128, .f32⟩
  | 63 => ⟨S4160x2x128, .f32⟩
  | 64 => ⟨S4160x12, .f32⟩
  | 65 => ⟨S12, .f32⟩
  | 66 => ⟨S1x12, .f32⟩
  | 67 => ⟨S4160x12, .f32⟩
  | 68 => ⟨S4160x12, .f32⟩
  | 69 => ⟨S_, .f32⟩
  | 70 => ⟨S4160x12, .f32⟩
  | 71 => ⟨S4160x12, .f32⟩
  | 72 => ⟨S4160x12, .f32⟩
  | 73 => ⟨S4160x12, .f32⟩
  | 74 => ⟨S4160x12, .i1⟩
  | 75 => ⟨S4160x12, .f32⟩
  | 76 => ⟨S4160x12, .f32⟩
  | 77 => ⟨S4160x12, .f32⟩
  | 78 => ⟨S4160x12, .f32⟩
  | 79 => ⟨S4160x12, .f32⟩
  | 80 => ⟨S4160x12, .f32⟩
  | 81 => ⟨S4160x12, .f32⟩
  | 82 => ⟨S4160x12, .f32⟩
  | 83 => ⟨S_, .f32⟩
  | 84 => ⟨S48x12, .f32⟩
  | 85 => ⟨S4112x12, .f32⟩
  | 86 => ⟨S4160x12, .f32⟩
  | 87 => ⟨S12, .f32⟩
  | 88 => ⟨S12, .f32⟩
  | 89 => ⟨S12, .f32⟩
  | 90 => ⟨S4160x12x1, .f32⟩
  | 91 => ⟨S4160x12x64, .f32⟩
  | 92 => ⟨S4160x12x64, .f32⟩
  | 93 => ⟨S65x64x2x6x64, .f32⟩
  | 94 => ⟨S1x12, .f32⟩
  | 95 => ⟨S4160x12, .f32⟩
  | 96 => ⟨S4160x12, .f32⟩
  | 97 => ⟨S65x64x2x6, .f32⟩
  | 98 => ⟨S_, .f32⟩
  | 99 => ⟨S_, .f32⟩
  | 100 => ⟨S65x64x2x6, .f32⟩
  | 101 => ⟨S65x64x2x128, .f32⟩
  | 102 => ⟨S65x64x2x128, .f32⟩
  | 103 => ⟨S_, .i1⟩
  | 104 => ⟨S64x64, .i1⟩
  | 105 => ⟨S64x64, .i32⟩
  | 106 => ⟨S_, .i32⟩
  | 107 => ⟨S64x64, .i32⟩
  | 108 => ⟨S64x64, .i32⟩
  | 109 => ⟨S64x64, .i32⟩
  | 110 => ⟨S64x64, .i1⟩
  | 111 => ⟨S_, .i1⟩
  | 112 => ⟨S64x64, .i1⟩
  | 113 => ⟨S64x64, .i1⟩
  | 114 => ⟨S65x64x1x2x6, .f32⟩
  | 115 => ⟨S65x1x64x2x6, .f32⟩
  | 116 => ⟨S65x64x64x2x6, .f32⟩
  | 117 => ⟨S65x64x64x2x6, .f32⟩
  | 118 => ⟨S65x64x64x2x6, .f32⟩
  | 119 => ⟨S64x64x1x1, .i1⟩
  | 120 => ⟨S_, .f32⟩
  | 121 => ⟨S_, .f32⟩
  | 122 => ⟨S65x64x64x2x6, .i1⟩
  | 123 => ⟨S65x64x64x2x6, .f32⟩
  | 124 => ⟨S65x64x64x2x6, .f32⟩
  | 125 => ⟨S65x64x64x2x6, .f32⟩
  | 126 => ⟨S65x2x64x64, .f32⟩
  | 127 => ⟨S65x64x64x2, .f32⟩
  | _ => ⟨S4160x1280, .f32⟩

abbrev hbmTy0_1 (i : Nat) : BufTy := match i % 128 with
  | 0 => ⟨S65x64x64x2x1, .f32⟩
  | 1 => ⟨S65x64x64x2x6, .f32⟩
  | 2 => ⟨S65x64x64x2x6, .f32⟩
  | 3 => ⟨S65x2x6x64x64, .f32⟩
  | 4 => ⟨S65x64x2x6x64, .f32⟩
  | 5 => ⟨S65x1x2x6, .f32⟩
  | 6 => ⟨S65x64x2x6, .f32⟩
  | 7 => ⟨S65x64x2x6, .f32⟩
  | 8 => ⟨S65x64x2x6, .f32⟩
  | 9 => ⟨S65x64x2x6x1, .f32⟩
  | 10 => ⟨S65x64x2x6x64, .f32⟩
  | 11 => ⟨S65x64x2x6x64, .f32⟩
  | 12 => ⟨S65x2x6x64x128, .f32⟩
  | 13 => ⟨S65x1x2x6, .f32⟩
  | 14 => ⟨S65x2x6, .f32⟩
  | 15 => ⟨S_, .i1⟩
  | 16 => ⟨S65x65, .i1⟩
  | 17 => ⟨S65x65, .i32⟩
  | 18 => ⟨S_, .i32⟩
  | 19 => ⟨S65x65, .i32⟩
  | 20 => ⟨S65x65, .i32⟩
  | 21 => ⟨S65x65, .i32⟩
  | 22 => ⟨S65x65, .i1⟩
  | 23 => ⟨S_, .i1⟩
  | 24 => ⟨S65x65, .i1⟩
  | 25 => ⟨S65x65, .i1⟩
  | 26 => ⟨S65x65x1, .i1⟩
  | 27 => ⟨S1x65x65, .i1⟩
  | 28 => ⟨S65x65x65, .i1⟩
  | 29 => ⟨S65x65x65, .i1⟩
  | 30 => ⟨S65x65x65, .i1⟩
  | 31 => ⟨S65x65x65, .f32⟩
  | 32 => ⟨S65x65x2x6, .f32⟩
  | 33 => ⟨S65x65x1x1, .i1⟩
  | 34 => ⟨S_, .f32⟩
  | 35 => ⟨S_, .f32⟩
  | 36 => ⟨S65x65x2x6, .i1⟩
  | 37 => ⟨S65x65x2x6, .f32⟩
  | 38 => ⟨S65x65x2x6, .f32⟩
  | 39 => ⟨S65x65x2x6, .f32⟩
  | 40 => ⟨S2x6x64x128x65, .f32⟩
  | 41 => ⟨S65x2x6x64x128, .f32⟩
  | 42 => ⟨S65x2x6x64x64, .f32⟩
  | 43 => ⟨S65x64x2x6x64, .f32⟩
  | 44 => ⟨S65x64x2x6, .f32⟩
  | 45 => ⟨S65x64x2x6x1, .f32⟩
  | 46 => ⟨S65x64x2x6x64, .f32⟩
  | 47 => ⟨S65x64x2x6x64, .f32⟩
  | 48 => ⟨S65x64x2x6x64, .f32⟩
  | 49 => ⟨S4160x12x64, .f32⟩
  | 50 => ⟨S12x1, .f32⟩
  | 51 => ⟨S1x12x1, .f32⟩
  | 52 => ⟨S4160x12x64, .f32⟩
  | 53 => ⟨S4160x12x64, .f32⟩
  | 54 => ⟨S4160x12x64, .f32⟩
  | 55 => ⟨S4160x768, .f32⟩
  | 56 => ⟨S4160x768, .f32⟩
  | 57 => ⟨S4160x768, .f32⟩
  | 58 => ⟨S_, .f32⟩
  | 59 => ⟨S4160x768, .f32⟩
  | 60 => ⟨S4160x768, .f32⟩
  | 61 => ⟨S_, .f32⟩
  | 62 => ⟨S4160x768, .f32⟩
  | 63 => ⟨S4160x768, .f32⟩
  | 64 => ⟨S4160x768, .f32⟩
  | 65 => ⟨S4160x768, .f32⟩
  | 66 => ⟨S4160x768, .f32⟩
  | 67 => ⟨S_, .f32⟩
  | 68 => ⟨S4160, .f32⟩
  | 69 => ⟨S4160x1, .f32⟩
  | 70 => ⟨S_, .f32⟩
  | 71 => ⟨S4160x1, .f32⟩
  | 72 => ⟨S4160x1, .f32⟩
  | 73 => ⟨S_, .f32⟩
  | 74 => ⟨S4160x1, .f32⟩
  | 75 => ⟨S4160x1, .f32⟩
  | 76 => ⟨S4160x1, .f32⟩
  | 77 => ⟨S4160x768, .f32⟩
  | 78 => ⟨S4160x768, .f32⟩
  | 79 => ⟨S1x768, .f32⟩
  | 80 => ⟨S4160x768, .f32⟩
  | 81 => ⟨S4160x768, .f32⟩
  | _ => ⟨S4160x1280, .f32⟩

abbrev hbmTy (i : Nat) : BufTy := match i / 128 with
  | 0 => hbmTy0_0 i
  | 1 => hbmTy0_1 i
  | _ => ⟨S4160x1280, .f32⟩

abbrev bufTy : (tb : Table) → Fin (tcTables nBuf tb) → BufTy
  | .hbm, ⟨i, _⟩ => hbmTy i
  | _, _ => ⟨S4160x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v49 : Ref sig .tc := ⟨.hbm, 82, rfl⟩
abbrev main_cst_2 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call2_call0_cst : Ref sig .tc := ⟨.hbm, 98, rfl⟩
abbrev main_call2_call0_v0 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c : Ref sig .tc := ⟨.hbm, 103, rfl⟩
abbrev main_v67 : Ref sig .tc := ⟨.hbm, 104, rfl⟩
abbrev main_call3_v0 : Ref sig .tc := ⟨.hbm, 105, rfl⟩
abbrev main_call3_c : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_0 : Ref sig .tc := ⟨.hbm, 111, rfl⟩
abbrev main_call3_v5 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_3 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_c_4 : Ref sig .tc := ⟨.hbm, 143, rfl⟩
abbrev main_v94 : Ref sig .tc := ⟨.hbm, 144, rfl⟩
abbrev main_call5_v0 : Ref sig .tc := ⟨.hbm, 145, rfl⟩
abbrev main_call5_c : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_c_0 : Ref sig .tc := ⟨.hbm, 151, rfl⟩
abbrev main_call5_v5 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_cst_5 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_call7_v0 : Ref sig .tc := ⟨.hbm, 184, rfl⟩
abbrev main_call7_v1 : Ref sig .tc := ⟨.hbm, 185, rfl⟩
abbrev main_call7_cst : Ref sig .tc := ⟨.hbm, 186, rfl⟩
abbrev main_call7_v2 : Ref sig .tc := ⟨.hbm, 187, rfl⟩
abbrev main_call7_v3 : Ref sig .tc := ⟨.hbm, 188, rfl⟩
abbrev main_call7_cst_0 : Ref sig .tc := ⟨.hbm, 189, rfl⟩
abbrev main_call7_v4 : Ref sig .tc := ⟨.hbm, 190, rfl⟩
abbrev main_call7_v5 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_cst_6 : Ref sig .tc := ⟨.hbm, 195, rfl⟩
abbrev main_v125 : Ref sig .tc := ⟨.hbm, 196, rfl⟩
abbrev main_v126 : Ref sig .tc := ⟨.hbm, 197, rfl⟩
abbrev main_cst_7 : Ref sig .tc := ⟨.hbm, 198, rfl⟩
abbrev main_v127 : Ref sig .tc := ⟨.hbm, 199, rfl⟩
abbrev main_v128 : Ref sig .tc := ⟨.hbm, 200, rfl⟩
abbrev main_cst_8 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩

abbrev nD : Nat := 1
abbrev τ : Topo := Topo.v7x

variable {F : FTy → Type} [FloatOps F]
-- ==== LnInBwd.lean ====
abbrev S4160x1024 : Shape := ⟨2, ![4160, 1024]⟩
abbrev S1x1024 : Shape := ⟨2, ![1, 1024]⟩
abbrev S1x4160x1024 : Shape := ⟨3, ![1, 4160, 1024]⟩
abbrev S1x1x1024 : Shape := ⟨3, ![1, 1, 1024]⟩
abbrev S416x1024 : Shape := ⟨2, ![416, 1024]⟩
abbrev S1x416x1024 : Shape := ⟨3, ![1, 416, 1024]⟩
abbrev S416x1 : Shape := ⟨2, ![416, 1]⟩
abbrev S416 : Shape := ⟨1, ![416]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1x1024, .f32⟩
  | .hbm, ⟨3, _⟩ => ⟨S4160x1024, .f32⟩
  | .hbm, ⟨4, _⟩ => ⟨S1x4160x1024, .f32⟩
  | .hbm, ⟨5, _⟩ => ⟨S1x1x1024, .f32⟩
  | .hbm, ⟨6, _⟩ => ⟨S1x1x1024, .f32⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S1x1024, .f32⟩
  | .local _ .vmem, ⟨4, _⟩ => ⟨S416x1024, .f32⟩
  | .local _ .vmem, ⟨5, _⟩ => ⟨S416x1024, .f32⟩
  | .local _ .vmem, ⟨6, _⟩ => ⟨S1x416x1024, .f32⟩
  | .local _ .vmem, ⟨7, _⟩ => ⟨S1x416x1024, .f32⟩
  | .local _ .vmem, ⟨8, _⟩ => ⟨S1x1x1024, .f32⟩
  | .local _ .vmem, ⟨9, _⟩ => ⟨S1x1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi c9_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LnInRefIdeal.lean ====
abbrev S4160x1024 : Shape := ⟨2, ![4160, 1024]⟩
abbrev S1x1024 : Shape := ⟨2, ![1, 1024]⟩
abbrev S_ : Shape := ⟨0, ![]⟩
abbrev S48x1024 : Shape := ⟨2, ![48, 1024]⟩
abbrev S4112x1024 : Shape := ⟨2, ![4112, 1024]⟩
abbrev S4112 : Shape := ⟨1, ![4112]⟩
abbrev S4112x1 : Shape := ⟨2, ![4112, 1]⟩
abbrev S1024 : Shape := ⟨1, ![1024]⟩
abbrev S1x4160x1024 : Shape := ⟨3, ![1, 4160, 1024]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1x1024, .f32⟩
  | .hbm, ⟨3, _⟩ => ⟨S4160x1024, .f32⟩
  | .hbm, ⟨4, _⟩ => ⟨S_, .f32⟩
  | .hbm, ⟨5, _⟩ => ⟨S48x1024, .f32⟩
  | .hbm, ⟨6, _⟩ => ⟨S4112x1024, .f32⟩
  | .hbm, ⟨7, _⟩ => ⟨S_, .f32⟩
  | .hbm, ⟨8, _⟩ => ⟨S4112, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1024, .f32⟩
  | .hbm, ⟨14, _⟩ => ⟨S4112x1024, .f32⟩
  | .hbm, ⟨15, _⟩ => ⟨S4112x1024, .f32⟩
  | .hbm, ⟨16, _⟩ => ⟨S_, .f32⟩
  | .hbm, ⟨17, _⟩ => ⟨S4112x1024, .f32⟩
  | .hbm, ⟨18, _⟩ => ⟨S4112x1024, .f32⟩
  | .hbm, ⟨19, _⟩ => ⟨S_, .f32⟩
  | .hbm, ⟨20, _⟩ => ⟨S4112, .f32⟩
  | .hbm, ⟨21, _⟩ => ⟨S4112x1, .f32⟩
  | .hbm, ⟨22, _⟩ => ⟨S_, .f32⟩
  | .hbm, ⟨23, _⟩ => ⟨S4112x1, .f32⟩
  | .hbm, ⟨24, _⟩ => ⟨S4112x1, .f32⟩
  | .hbm, ⟨25, _⟩ => ⟨S_, .f32⟩
  | .hbm, ⟨26, _⟩ => ⟨S4112x1, .f32⟩
  | .hbm, ⟨27, _⟩ => ⟨S4112x1, .f32⟩
  | .hbm, ⟨28, _⟩ => ⟨S4112x1, .f32⟩
  | .hbm, ⟨29, _⟩ => ⟨S4112x1, .f32⟩
  | .hbm, ⟨30, _⟩ => ⟨S_, .f32⟩
  | .hbm, ⟨31, _⟩ => ⟨S4112x1, .f32⟩
  | .hbm, ⟨32, _⟩ => ⟨S4112x1, .f32⟩
  | .hbm, ⟨33, _⟩ => ⟨S4112x1024, .f32⟩
  | .hbm, ⟨34, _⟩ => ⟨S4112x1024, .f32⟩
  | .hbm, ⟨35, _⟩ => ⟨S4112x1024, .f32⟩
  | .hbm, ⟨36, _⟩ => ⟨S4112x1024, .f32⟩
  | .hbm, ⟨37, _⟩ => ⟨S4112x1024, .f32⟩
  | .hbm, ⟨38, _⟩ => ⟨S4112x1024, .f32⟩
  | .hbm, ⟨39, _⟩ => ⟨S4160x1024, .f32⟩
  | .hbm, ⟨40, _⟩ => ⟨S_, .f32⟩
  | .hbm, ⟨41, _⟩ => ⟨S48x1024, .f32⟩
  | .hbm, ⟨42, _⟩ => ⟨S48x1024, .f32⟩
  | .hbm, ⟨43, _⟩ => ⟨S4112x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4112x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4112x1024, .f32⟩
  | .hbm, ⟨52, _⟩ => ⟨S4112x1024, .f32⟩
  | .hbm, ⟨53, _⟩ => ⟨S4112x1024, .f32⟩
  | .hbm, ⟨54, _⟩ => ⟨S_, .f32⟩
  | .hbm, ⟨55, _⟩ => ⟨S4112, .f32⟩
  | .hbm, ⟨56, _⟩ => ⟨S4112x1, .f32⟩
  | .hbm, ⟨57, _⟩ => ⟨S4112x1024, .f32⟩
  | .hbm, ⟨58, _⟩ => ⟨S4112x1024, .f32⟩
  | .hbm, ⟨59, _⟩ => ⟨S4112x1, .f32⟩
  | .hbm, ⟨60, _⟩ => ⟨S_, .f32⟩
  | .hbm, ⟨61, _⟩ => ⟨S4112x1, .f32⟩
  | .hbm, ⟨62, _⟩ => ⟨S4112x1, .f32⟩
  | .hbm, ⟨63, _⟩ => ⟨S_, .f32⟩
  | .hbm, ⟨64, _⟩ => ⟨S4112, .f32⟩
  | .hbm, ⟨65, _⟩ => ⟨S4112x1024, .f32⟩
  | .hbm, ⟨66, _⟩ => ⟨S4112x1024, .f32⟩
  | .hbm, ⟨67, _⟩ => ⟨S4112x1024, .f32⟩
  | .hbm, ⟨68, _⟩ => ⟨S4112x1024, .f32⟩
  | .hbm, ⟨69, _⟩ => ⟨S_, .f32⟩
  | .hbm, ⟨70, _⟩ => ⟨S4112, .f32⟩
  | .hbm, ⟨71, _⟩ => ⟨S4112x1, .f32⟩
  | .hbm, ⟨72, _⟩ => ⟨S_, .f32⟩
  | .hbm, ⟨73, _⟩ => ⟨S4112x1, .f32⟩
  | .hbm, ⟨74, _⟩ => ⟨S4112x1, .f32⟩
  | .hbm, ⟨75, _⟩ => ⟨S_, .f32⟩
  | .hbm, ⟨76, _⟩ => ⟨S4112, .f32⟩
  | .hbm, ⟨77, _⟩ => ⟨S4112x1024, .f32⟩
  | .hbm, ⟨78, _⟩ => ⟨S4112x1024, .f32⟩
  | .hbm, ⟨79, _⟩ => ⟨S_, .f32⟩
  | .hbm, ⟨80, _⟩ => ⟨S4160x1024, .f32⟩
  | .hbm, ⟨81, _⟩ => ⟨S1x4160x1024, .f32⟩
  | .hbm, ⟨82, _⟩ => ⟨S1x1x1024, .f32⟩
  | .hbm, ⟨83, _⟩ => ⟨S1x1x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== LnInFwd.lean ====
abbrev S4160x1024 : Shape := ⟨2, ![4160, 1024]⟩
abbrev S1x1024 : Shape := ⟨2, ![1, 1024]⟩
abbrev S416x1024 : Shape := ⟨2, ![416, 1024]⟩
abbrev S416x1 : Shape := ⟨2, ![416, 1]⟩
abbrev S416 : Shape := ⟨1, ![416]⟩

abbrev nBuf : Space → Nat
  | .hbm => 4
  | .vmem => 6
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1x1024, .f32⟩
  | .hbm, ⟨3, _⟩ => ⟨S4160x1024, .f32⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S1x1024, .f32⟩
  | .local _ .vmem, ⟨4, _⟩ => ⟨S416x1024, .f32⟩
  | .local _ .vmem, ⟨5, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LnInFwdRefIdeal.lean ====
abbrev S4160x1024 : Shape := ⟨2, ![4160, 1024]⟩
abbrev S1x1024 : Shape := ⟨2, ![1, 1024]⟩
abbrev S_ : Shape := ⟨0, ![]⟩
abbrev S48x1024 : Shape := ⟨2, ![48, 1024]⟩
abbrev S4112x1024 : Shape := ⟨2, ![4112, 1024]⟩
abbrev S4112 : Shape := ⟨1, ![4112]⟩
abbrev S4112x1 : Shape := ⟨2, ![4112, 1]⟩

abbrev nBuf : Space → Nat
  | .hbm => 32
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S48x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S4112x1024, .f32⟩
  | .hbm, ⟨13, _⟩ => ⟨S4112x1024, .f32⟩
  | .hbm, ⟨14, _⟩ => ⟨S4112x1024, .f32⟩
  | .hbm, ⟨15, _⟩ => ⟨S_, .f32⟩
  | .hbm, ⟨16, _⟩ => ⟨S4112, .f32⟩
  | .hbm, ⟨17, _⟩ => ⟨S4112x1, .f32⟩
  | .hbm, ⟨18, _⟩ => ⟨S_, .f32⟩
  | .hbm, ⟨19, _⟩ => ⟨S4112x1, .f32⟩
  | .hbm, ⟨20, _⟩ => ⟨S4112x1, .f32⟩
  | .hbm, ⟨21, _⟩ => ⟨S_, .f32⟩
  | .hbm, ⟨22, _⟩ => ⟨S4112x1, .f32⟩
  | .hbm, ⟨23, _⟩ => ⟨S4112x1, .f32⟩
  | .hbm, ⟨24, _⟩ => ⟨S4112x1, .f32⟩
  | .hbm, ⟨25, _⟩ => ⟨S4112x1024, .f32⟩
  | .hbm, ⟨26, _⟩ => ⟨S4112x1024, .f32⟩
  | .hbm, ⟨27, _⟩ => ⟨S4112x1024, .f32⟩
  | .hbm, ⟨28, _⟩ => ⟨S4112x1024, .f32⟩
  | .hbm, ⟨29, _⟩ => ⟨S4112x1024, .f32⟩
  | .hbm, ⟨30, _⟩ => ⟨S4112x1024, .f32⟩
  | .hbm, ⟨31, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== LossBwd.lean ====
abbrev S4096x1024 : Shape := ⟨2, ![4096, 1024]⟩
abbrev S_ : Shape := ⟨0, ![]⟩
abbrev S8x128 : Shape := ⟨2, ![8, 128]⟩
abbrev S512x1024 : Shape := ⟨2, ![512, 1024]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S8x128, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== LossFwd.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LossFwdRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.MergeSpec.lean ====
/-
  The gradient of one gated branch of the merge, written at an index of the extended reals: the branch adds
  `sigmoid (gate + bias) * (y · w)` to the merged rows, and `dm` is the cotangent of those rows. Both programs are shown to
  compute these four functions.
-/
module

public import Idealize.ShloMosaic.Lib.Pointwise

@[expose] public section

noncomputable section

namespace Cert.Merge

open Idealize.ShloMosaic

variable {L K D : Nat}

/-- The gate of row `i`, column `j`: the logistic function of the row's logit plus the column's bias. -/
def gate (g : Fin L → Fin D → EReal) (b : Fin D → EReal) (i : Fin L) (j : Fin D) : EReal :=
  Ideal.logistic (g i j + b j)

/-- The cotangent of the gate's logit: `dm * (y · w) * s * (1 - s)`, `s` the gate. -/
def dgate (y : Fin L → Fin K → EReal) (g dm : Fin L → Fin D → EReal) (w : Fin K → Fin D → EReal) (b : Fin D → EReal)
    (i : Fin L) (j : Fin D) : EReal :=
  dm i j * (∑ k, y i k * w k j) * gate g b i j * (1 - gate g b i j)

/-- The cotangent of the branch's rows: `(dm * s) · wᵀ`. -/
def dy (g dm : Fin L → Fin D → EReal) (w : Fin K → Fin D → EReal) (b : Fin D → EReal) (i : Fin L) (k : Fin K) : EReal :=
  ∑ j, dm i j * gate g b i j * w k j

/-- The cotangent of the weights: `yᵀ · (dm * s)`, summed over all the rows. -/
def dw (y : Fin L → Fin K → EReal) (g dm : Fin L → Fin D → EReal) (b : Fin D → EReal) (k : Fin K) (j : Fin D) : EReal :=
  ∑ i, y i k * (dm i j * gate g b i j)

/-- The cotangent of the bias: the gate's cotangent summed over all the rows. -/
def db (y : Fin L → Fin K → EReal) (g dm : Fin L → Fin D → EReal) (w : Fin K → Fin D → EReal) (b : Fin D → EReal)
    (j : Fin D) : EReal :=
  ∑ i, dgate y g dm w b i j

/-- What a branch adds to the merged rows, and the merged rows of the three branches; `w` holds the branches' weights one
    after the other, `b` their gates' biases side by side. -/
def branch (y : Fin L → Fin K → EReal) (g : Fin L → Fin D → EReal) (w : Fin K → Fin D → EReal) (b : Fin D → EReal)
    (i : Fin L) (j : Fin D) : EReal :=
  gate g b i j * ∑ k, y i k * w k j
def merged (ya yb yc : Fin L → Fin K → EReal) (ga gb gc : Fin L → Fin D → EReal) (w : Fin 3 → Fin K → Fin D → EReal)
    (b : Fin (3 * D) → EReal) (i : Fin L) (j : Fin D) : EReal :=
  branch ya ga (w 0) (fun j => b ⟨j.val, by omega⟩) i j + branch yb gb (w 1) (fun j => b ⟨D + j.val, by omega⟩) i j
    + branch yc gc (w 2) (fun j => b ⟨2 * D + j.val, by omega⟩) i j

end Cert.Merge
-- ==== Proof.Tiles.lean ====
/-
  A sum over all the rows of an array is the sum over its row tiles of the sums over each tile's rows; and a block that is
  set from zero at the first tile and added to at every later one ends at that sum.
-/
module

public import Idealize.ShloMosaic.Lib.Pipeline.ValueKit

@[expose] public section

namespace Cert.Tiles

open Idealize.ShloMosaic

/-- `N` tiles of `n` rows, row `r` of tile `t` standing at row `t * n + r`: summing tile by tile sums over every row. -/
theorem sum_rows {M : Type*} [AddCommMonoid M] {N S n L : ℕ} (hN : N = S) (hL : L = S * n) (row : Fin N → Fin n → Fin L)
    (hrow : ∀ t r, (row t r).val = t.val * n + r.val) (f : Fin L → M) :
    ∑ t : Fin N, ∑ r : Fin n, f (row t r) = ∑ i : Fin L, f i := by
  subst hN
  rw [← Fin.sum_mul_add_fin N n f hL]
  exact Finset.sum_congr rfl fun t _ => Finset.sum_congr rfl fun r _ => congrArg f (Fin.ext (hrow t r))

/-- The same with the tiles counted from the last to the first. -/
theorem sum_rows_rev {M : Type*} [AddCommMonoid M] {N S n L : ℕ} (hN : N = S) (hL : L = S * n) (row : Fin N → Fin n → Fin L)
    (hrow : ∀ t r, (row t r).val = (S - 1 - t.val) * n + r.val) (f : Fin L → M) :
    ∑ t : Fin N, ∑ r : Fin n, f (row t r) = ∑ i : Fin L, f i := by
  rw [← Equiv.sum_comp Fin.revPerm fun t => ∑ r : Fin n, f (row t r)]
  refine sum_rows hN hL (fun t => row (Fin.rev t)) (fun t r => ?_) f
  rw [hrow, Fin.val_rev]
  have := t.isLt
  congr 2; omega

/-- A value kept over `N` tiles that starts at zero plus the first tile's share and takes each later tile's share in is, after
    the last tile, the sum of all the shares. -/
theorem kept_sum {N S : ℕ} (hN : N = S) (share : Fin N → EReal) (kept : (k : ℕ) → k < N → EReal)
    (first : ∀ t : Fin N, t.val % S = 0 → kept t.val t.isLt = 0 + share t)
    (next : ∀ t : Fin N, ¬t.val % S = 0 →
      kept t.val t.isLt = kept (t.val - 1) (Nat.lt_of_le_of_lt (Nat.sub_le _ _) t.isLt) + share t)
    (t : Fin N) (ht : t.val + 1 = N) : kept t.val t.isLt = ∑ t, share t := by
  refine (Pipeline.eq_sum_fin_of_reset_step_last (M := EReal) (N := N) kept S (0 : EReal) share first next (le_of_eq hN) t ht).trans ?_
  rw [zero_add]

/-- Where a piece's index stands along an axis: its offset further. -/
theorem emb_off {S : Shape} {off size : Fin S.rank → ℕ} {inb : ∀ a, off a + size a ≤ S.size a}
    (x : (Rect.unit off size inb).shape.Idx) (a : Fin S.rank) (n : ℕ) (h : off a = n) :
    ((Rect.unit off size inb).emb x a).val = n + (x a).val := by
  rw [Rect.emb_apply, ← h]
  show off a + 1 * (x a).val = _
  rw [one_mul]

theorem emb_zero {S : Shape} {off size : Fin S.rank → ℕ} {inb : ∀ a, off a + size a ≤ S.size a}
    (x : (Rect.unit off size inb).shape.Idx) (a : Fin S.rank) (h : off a = 0) :
    ((Rect.unit off size inb).emb x a).val = (x a).val := by
  rw [emb_off x a 0 h, zero_add]

end Cert.Tiles
-- ==== Proof.MergeKernel.lean ====
/-
  What the gated merge's backward call leaves in its four result arrays. The rows come in ten tiles of 416: a tile's own
  gradients are written to its rows, and the weight and bias gradients are added up over the ten tiles in one block that is
  zeroed at the first and written back after the last.
-/
module

public import proofs.«01_k».proof.Proof.Gen.KernelIdeal.Value
public import proofs.«01_k».proof.Proof.MergeSpec
public import proofs.«01_k».proof.Proof.Tiles
public import Idealize.ShloMosaic.Lib.Pipeline.ValueKit

@[expose] public section

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The branch's rows. -/
def y : Fin 4160 → Fin 768 → EReal := fun i k => m ((c : Thread nD τ).loc main_arg0) (ix2 i k)
/-- The gate's logits. -/
def g : Fin 4160 → Fin 1024 → EReal := fun i j => m ((c : Thread nD τ).loc main_arg1) (ix2 i j)
/-- The cotangent of the merged rows. -/
def dm : Fin 4160 → Fin 1024 → EReal := fun i j => m ((c : Thread nD τ).loc main_arg2) (ix2 i j)
/-- The branch's weights. -/
def w : Fin 768 → Fin 1024 → EReal := fun k j => m ((c : Thread nD τ).loc main_arg3) (ix2 k j)
/-- The gate's bias. -/
def b : Fin 1024 → EReal := fun j => m ((c : Thread nD τ).loc main_arg4) (ix2 0 j)

/-- Where each window's block stands at point `t`: the row tiles move with `t`, the rest stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- Row `r` of tile `t` among all the rows. -/
def row (t : Fin cfg0.N) (r : Fin 416) : Fin 4160 :=
  ⟨t.val * 416 + r.val, by have := lt_of_lt_of_eq t.isLt N_0; omega⟩

/-! ## The blocks the body reads -/

theorem blk_y (t : Fin cfg0.N) (r : Fin 416) (k : Fin 768) : (iblk m c 0 t : Vec Ideal S416x768 .bf16) (ix2 r k) = y m c (row t r) k := by
  unfold y row
  blk_simp [iblk]
  entry_read
  pointwise
  blk_ext [iblk, (idx t).1]
theorem blk_g (t : Fin cfg0.N) (r : Fin 416) (j : Fin 1024) : (iblk m c 1 t : Vec Ideal S416x1024 .f32) (ix2 r j) = g m c (row t r) j := by
  unfold g row
  blk_simp [iblk]
  entry_read
  blk_ext [iblk, (idx t).2.1]
theorem blk_dm (t : Fin cfg0.N) (r : Fin 416) (j : Fin 1024) : (iblk m c 2 t : Vec Ideal S416x1024 .f32) (ix2 r j) = dm m c (row t r) j := by
  unfold dm row
  blk_simp [iblk]
  entry_read
  blk_ext [iblk, (idx t).2.2.1]
theorem blk_w (t : Fin cfg0.N) (k : Fin 768) (j : Fin 1024) : (iblk m c 3 t : Vec Ideal S768x1024 .bf16) (ix2 k j) = w m c k j := by
  unfold w
  blk_simp [iblk]
  entry_read
  pointwise
  blk_ext [iblk, (idx t).2.2.2.1]
theorem blk_b (t : Fin cfg0.N) (j : Fin 1024) : (iblk m c 4 t : Vec Ideal S1x1024 .f32) (ix2 0 j) = b m c j := by
  unfold b
  blk_simp [iblk]
  entry_read
  blk_ext [iblk, (idx t).2.2.2.2.1]

/-! ## What the body computes of its blocks, at an index -/

section Payloads
variable (vy : Vec Ideal S416x768 .bf16) (vg vd : Vec Ideal S416x1024 .f32) (vw : Vec Ideal S768x1024 .bf16) (vb : Vec Ideal S1x1024 .f32)

theorem pay_dgate (r : Fin 416) (j : Fin 1024) : k0_pay6 vy vd vg vb vw (ix2 r j)
    = Merge.dgate (fun i k => vy (ix2 i k)) (fun i j => vg (ix2 i j)) (fun i j => vd (ix2 i j)) (fun k j => vw (ix2 k j))
        (fun j => vb (ix2 0 j)) r j := by
  unfold_payloads
  pointwise [Merge.dgate, Merge.gate]

theorem pay_dy (r : Fin 416) (k : Fin 768) : k0_pay9 vd vg vb vw (ix2 r k)
    = Merge.dy (fun i j => vg (ix2 i j)) (fun i j => vd (ix2 i j)) (fun k j => vw (ix2 k j)) (fun j => vb (ix2 0 j)) r k := by
  unfold_payloads
  pointwise [Merge.dy, Merge.gate]

theorem pay_dw (acc : Vec Ideal S768x1024 .f32) (k : Fin 768) (j : Fin 1024) :
    k0_pay1 (k0_pay4 vy) (k0_pay8 vd vg vb) acc (ix2 k j) = acc (ix2 k j)
      + Merge.dw (fun i k => vy (ix2 i k)) (fun i j => vg (ix2 i j)) (fun i j => vd (ix2 i j)) (fun j => vb (ix2 0 j)) k j := by
  unfold_payloads
  pointwise [Merge.dw, Merge.gate]

theorem pay_db (acc : Vec Ideal S1x1024 .f32) (j : Fin 1024) :
    k0_pay7 vy vd vg vb vw acc (ix2 0 j) = acc (ix2 0 j)
      + Merge.db (fun i k => vy (ix2 i k)) (fun i j => vg (ix2 i j)) (fun i j => vd (ix2 i j)) (fun k j => vw (ix2 k j))
          (fun j => vb (ix2 0 j)) j := by
  unfold_payloads
  pointwise [Merge.db, Merge.dgate, Merge.gate]

end Payloads

/-! ## The four result arrays -/

theorem final5 : (dats m 0 c).arrAt 5 cfg0.N
    = (fun i => Merge.dy (g m c) (dm m c) (w m c) (b m c) (i 0) (i 1) : S4160x768.Idx → EReal) := by
  refine (dats m 0 c).arrAt_eq_of_covers 5 _ (by decide +kernel) fun t hf x => ?_
  have e : ((cfg0.win 5).blk t).view.emb x = (ix2 (row t (x 0)) (x 1) : S4160x768.Idx) := by
    blk_ext [row, (idx t).2.2.2.2.2.1]
  rw [e]
  blk_simp
  rw [after0_5]
  have key : ∀ X : Vec Ideal S416x768 .f32, X = k0_pay9 (iblk m c 2 t) (iblk m c 1 t) (iblk m c 4 t) (iblk m c 3 t) →
      ∀ (r : Fin 416) (k : Fin 768), X (ix2 r k) = Merge.dy (g m c) (dm m c) (w m c) (b m c) (row t r) k := by
    intro X hX r k
    rw [hX, pay_dy]
    simp only [blk_g, blk_dm, blk_w, blk_b]
    rfl
  refine (congrArg _ (eq_ix2 x)).trans (key _ ?_ _ _)
  by_cases h : t.val % 10 = 0
  · rw [outsAt0_A m c t h]; frame_out
  · rw [outsAt0_B m c t h]; frame_out

theorem final6 : (dats m 0 c).arrAt 6 cfg0.N
    = (fun i => Merge.dgate (y m c) (g m c) (dm m c) (w m c) (b m c) (i 0) (i 1) : S4160x1024.Idx → EReal) := by
  refine (dats m 0 c).arrAt_eq_of_covers 6 _ (by decide +kernel) fun t hf x => ?_
  have e : ((cfg0.win 6).blk t).view.emb x = (ix2 (row t (x 0)) (x 1) : S4160x1024.Idx) := by
    blk_ext [row, (idx t).2.2.2.2.2.2.1]
  rw [e]
  blk_simp
  rw [after0_6]
  have key : ∀ X : Vec Ideal S416x1024 .f32,
      X = k0_pay6 (iblk m c 0 t) (iblk m c 2 t) (iblk m c 1 t) (iblk m c 4 t) (iblk m c 3 t) →
      ∀ (r : Fin 416) (j : Fin 1024), X (ix2 r j) = Merge.dgate (y m c) (g m c) (dm m c) (w m c) (b m c) (row t r) j := by
    intro X hX r j
    rw [hX, pay_dgate]
    simp only [blk_y, blk_g, blk_dm, blk_w, blk_b]
    rfl
  refine (congrArg _ (eq_ix2 x)).trans (key _ ?_ _ _)
  by_cases h : t.val % 10 = 0
  · rw [outsAt0_A m c t h]; frame_out
  · rw [outsAt0_B m c t h]; frame_out

/-- Tile `t`'s share of the weights' cotangent. -/
def dwTile (t : Fin cfg0.N) (k : Fin 768) (j : Fin 1024) : EReal :=
  ∑ r : Fin 416, y m c (row t r) k * (dm m c (row t r) j * Merge.gate (g m c) (b m c) (row t r) j)

theorem dw_step (t : Fin cfg0.N) (acc : Vec Ideal S768x1024 .f32) (k : Fin 768) (j : Fin 1024) :
    k0_pay1 (k0_pay4 (iblk m c 0 t)) (k0_pay8 (iblk m c 2 t) (iblk m c 1 t) (iblk m c 4 t)) acc (ix2 k j)
      = acc (ix2 k j) + dwTile m c t k j := by
  rw [pay_dw]
  simp only [blk_y, blk_g, blk_dm, blk_b]
  rfl

theorem dw_first (t : Fin cfg0.N) (h : t.val % 10 = 0) (k : Fin 768) (j : Fin 1024) :
    (outsAt0 m c t.val t.isLt).2.2.1 (ix2 k j) = 0 + dwTile m c t k j := by
  have e : (outsAt0 m c t.val t.isLt).2.2.1
      = k0_pay1 (k0_pay4 (iblk m c 0 t)) (k0_pay8 (iblk m c 2 t) (iblk m c 1 t) (iblk m c 4 t)) (k0_pay2 (F := Ideal)) := by
    rw [outsAt0_A m c t h]; frame_out
  rw [e, dw_step]
  congr 1
  pointwise [k0_pay2]

theorem dw_next (t : Fin cfg0.N) (h : ¬t.val % 10 = 0) (k : Fin 768) (j : Fin 1024) :
    (outsAt0 m c t.val t.isLt).2.2.1 (ix2 k j)
      = (outsAt0 m c (t.val - 1) (Nat.lt_of_le_of_lt (Nat.sub_le _ _) t.isLt)).2.2.1 (ix2 k j) + dwTile m c t k j := by
  have e : (outsAt0 m c t.val t.isLt).2.2.1
      = k0_pay1 (k0_pay4 (iblk m c 0 t)) (k0_pay8 (iblk m c 2 t) (iblk m c 1 t) (iblk m c 4 t))
          (outsAt0 m c (t.val - 1) (Nat.lt_of_le_of_lt (Nat.sub_le _ _) t.isLt)).2.2.1 := by
    rw [outsAt0_B m c t h]; frame_out
  rw [e, dw_step]

theorem dw_sum (t : Fin cfg0.N) (ht : t.val + 1 = cfg0.N) (k : Fin 768) (j : Fin 1024) :
    (outsAt0 m c t.val t.isLt).2.2.1 (ix2 k j) = Merge.dw (y m c) (g m c) (dm m c) (b m c) k j := by
  have hs := Pipeline.eq_sum_fin_of_reset_step_last (M := EReal) (N := cfg0.N) (fun n h => (outsAt0 m c n h).2.2.1 (ix2 k j)) 10 (0 : EReal)
    (fun t => dwTile m c t k j) (fun t h => dw_first m c t h k j) (fun t h => dw_next m c t h k j) (le_of_eq N_0) t ht
  refine hs.trans ?_
  rw [zero_add]
  exact Tiles.sum_rows N_0 rfl row (fun _ _ => rfl) (fun i => y m c i k * (dm m c i j * Merge.gate (g m c) (b m c) i j))

theorem final7 : (dats m 0 c).arrAt 7 cfg0.N
    = (fun i => Merge.dw (y m c) (g m c) (dm m c) (b m c) (i 0) (i 1) : S768x1024.Idx → EReal) := by
  refine (dats m 0 c).arrAt_eq_of_after_last 7 t0_9 (by decide +kernel) _ fun x => ?_
  blk_simp
  rw [after0_7]
  exact (congrArg _ (eq_ix2 x)).trans (dw_sum m c t0_9 (by decide +kernel) _ _)

/-- Tile `t`'s share of the bias's cotangent. -/
def dbTile (t : Fin cfg0.N) (j : Fin 1024) : EReal :=
  ∑ r : Fin 416, Merge.dgate (y m c) (g m c) (dm m c) (w m c) (b m c) (row t r) j

theorem db_step (t : Fin cfg0.N) (acc : Vec Ideal S1x1024 .f32) (j : Fin 1024) :
    k0_pay7 (iblk m c 0 t) (iblk m c 2 t) (iblk m c 1 t) (iblk m c 4 t) (iblk m c 3 t) acc (ix2 0 j)
      = acc (ix2 0 j) + dbTile m c t j := by
  rw [pay_db]
  simp only [blk_y, blk_g, blk_dm, blk_w, blk_b]
  rfl

theorem db_first (t : Fin cfg0.N) (h : t.val % 10 = 0) (j : Fin 1024) :
    (outsAt0 m c t.val t.isLt).2.2.2 (ix2 0 j) = 0 + dbTile m c t j := by
  have e : (outsAt0 m c t.val t.isLt).2.2.2
      = k0_pay7 (iblk m c 0 t) (iblk m c 2 t) (iblk m c 1 t) (iblk m c 4 t) (iblk m c 3 t) (k0_pay3 (F := Ideal)) := by
    rw [outsAt0_A m c t h]; frame_out
  rw [e, db_step]
  congr 1
  pointwise [k0_pay3]

theorem db_next (t : Fin cfg0.N) (h : ¬t.val % 10 = 0) (j : Fin 1024) :
    (outsAt0 m c t.val t.isLt).2.2.2 (ix2 0 j)
      = (outsAt0 m c (t.val - 1) (Nat.lt_of_le_of_lt (Nat.sub_le _ _) t.isLt)).2.2.2 (ix2 0 j) + dbTile m c t j := by
  have e : (outsAt0 m c t.val t.isLt).2.2.2
      = k0_pay7 (iblk m c 0 t) (iblk m c 2 t) (iblk m c 1 t) (iblk m c 4 t) (iblk m c 3 t)
          (outsAt0 m c (t.val - 1) (Nat.lt_of_le_of_lt (Nat.sub_le _ _) t.isLt)).2.2.2 := by
    rw [outsAt0_B m c t h]; frame_out
  rw [e, db_step]

theorem db_sum (t : Fin cfg0.N) (ht : t.val + 1 = cfg0.N) (j : Fin 1024) :
    (outsAt0 m c t.val t.isLt).2.2.2 (ix2 0 j) = Merge.db (y m c) (g m c) (dm m c) (w m c) (b m c) j := by
  have hs := Pipeline.eq_sum_fin_of_reset_step_last (M := EReal) (N := cfg0.N) (fun n h => (outsAt0 m c n h).2.2.2 (ix2 0 j)) 10 (0 : EReal)
    (fun t => dbTile m c t j) (fun t h => db_first m c t h j) (fun t h => db_next m c t h j) (le_of_eq N_0) t ht
  refine hs.trans ?_
  rw [zero_add]
  exact Tiles.sum_rows N_0 rfl row (fun _ _ => rfl) (fun i => Merge.dgate (y m c) (g m c) (dm m c) (w m c) (b m c) i j)

theorem final8 : (dats m 0 c).arrAt 8 cfg0.N
    = (fun i => Merge.db (y m c) (g m c) (dm m c) (w m c) (b m c) (i 1) : S1x1024.Idx → EReal) := by
  refine (dats m 0 c).arrAt_eq_of_after_last 8 t0_9 (by decide +kernel) _ fun x => ?_
  blk_simp
  rw [after0_8]
  have hx : x = (ix2 0 (x 1) : S1x1024.Idx) := by
    rw [eq_ix2 x]; congr 1; exact Subsingleton.elim _ _
  exact (congrArg _ hx).trans (db_sum m c t0_9 (by decide +kernel) _)

end Cert.KernelIdeal.Merge
-- ==== Proof.MergeReference.lean ====
/- The reference's run of the gated merge's gradient: each of its four result buffers, read at an index, is the
   specification's term. -/
module

public import proofs.«01_k».proof.Proof.Gen.ReferenceIdeal.Run
public import proofs.«01_k».proof.Proof.MergeSpec
public import Idealize.ShloMosaic.Lib.Pointwise
public import Idealize.ShloMosaic.Adequacy

@[expose] public section

noncomputable section

namespace Cert.ReferenceIdeal.Merge

open Cert.ReferenceIdeal Cert.ReferenceIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def y (c : Dev nD) (i : Fin 4160) (k : Fin 768) : EReal := m ((c.tc : Thread nD τ).loc main_arg0) (ix2 i k)
def g (c : Dev nD) (i : Fin 4160) (j : Fin 1024) : EReal := m ((c.tc : Thread nD τ).loc main_arg1) (ix2 i j)
def dm (c : Dev nD) (i : Fin 4160) (j : Fin 1024) : EReal := m ((c.tc : Thread nD τ).loc main_arg2) (ix2 i j)
def w (c : Dev nD) (k : Fin 768) (j : Fin 1024) : EReal := m ((c.tc : Thread nD τ).loc main_arg3) (ix2 k j)
def b (c : Dev nD) (j : Fin 1024) : EReal := m ((c.tc : Thread nD τ).loc main_arg4) (ix2 0 j)

/-- Three factors in the opposite order. -/
theorem flip3 (a b c : EReal) : a * b * c = c * (b * a) := by rw [mul_comm, mul_comm a]

/-- Every execution of the reference ends with the four specified cotangents and its arguments kept. -/
theorem run :
    θ_run defs (onTc (τ := τ) (main (F := Ideal))) ⟨m, fun _ => 0, ρ⟩ fun r => ∀ c : Dev nD,
      r.2.mem ((c.tc : Thread nD τ).loc main_v20)
        = (fun i => Merge.dy (g m c) (dm m c) (w m c) (b m c) (i 0) (i 1) : S4160x768.Idx → EReal)
      ∧ r.2.mem ((c.tc : Thread nD τ).loc main_v15)
        = (fun i => Merge.dgate (y m c) (g m c) (dm m c) (w m c) (b m c) (i 0) (i 1) : S4160x1024.Idx → EReal)
      ∧ r.2.mem ((c.tc : Thread nD τ).loc main_v19)
        = (fun i => Merge.dw (y m c) (g m c) (dm m c) (b m c) (i 0) (i 1) : S768x1024.Idx → EReal)
      ∧ r.2.mem ((c.tc : Thread nD τ).loc main_v17)
        = (fun i => Merge.db (y m c) (g m c) (dm m c) (w m c) (b m c) (i 1) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.ReferenceIdeal.Value.run m ρ)
  obtain ⟨h0, h1, h2, h3, hk⟩ := h c
  refine ⟨h0.trans ?_, h1.trans ?_, h2.trans ?_, h3.trans ?_, hk⟩
  · funext i
    rw [eq_ix2 i]
    pointwise [Merge.dy, Merge.gate, Ideal.logistic, g, dm, w, b]
    exact Finset.sum_congr rfl fun x _ => congrArg (· * _) (mul_comm _ _)
  · funext i
    rw [eq_ix2 i]
    pointwise [Merge.dgate, Merge.gate, Ideal.logistic, g, dm, w, b, y]
    exact (mul_assoc _ _ _).symm
  · funext i
    rw [eq_ix2 i]
    pointwise [Merge.dw, Merge.gate, Ideal.logistic, g, dm, w, b, y]
    exact Finset.sum_congr rfl fun x _ => flip3 _ _ _
  · funext i
    rw [eq_ix2 i]
    pointwise [Merge.db, Merge.dgate, Merge.gate, Ideal.logistic, g, dm, w, b, y]
    exact Finset.sum_congr rfl fun x _ => (mul_assoc _ _ _).symm

end Cert.ReferenceIdeal.Merge

end
-- ==== Proof.MatmulSpec.lean ====
/-
  A product `x · w` of rows with weights and its gradient, written at an index of the extended reals, `g` the cotangent of
  the product.
-/
module

public import Idealize.ShloMosaic.Lib.Pointwise

@[expose] public section

noncomputable section

namespace Cert.Matmul

variable {L K N : Nat}

/-- The product. -/
def mul (x : Fin L → Fin K → EReal) (w : Fin K → Fin N → EReal) (i : Fin L) (j : Fin N) : EReal :=
  ∑ k, x i k * w k j

/-- The cotangent of the rows: `g · wᵀ`. -/
def dx (g : Fin L → Fin N → EReal) (w : Fin K → Fin N → EReal) (i : Fin L) (k : Fin K) : EReal :=
  ∑ j, g i j * w k j

/-- The cotangent of the weights: `xᵀ · g`, summed over all the rows. -/
def dw (x : Fin L → Fin K → EReal) (g : Fin L → Fin N → EReal) (k : Fin K) (j : Fin N) : EReal :=
  ∑ i, x i k * g i j

end Cert.Matmul
-- ==== Proof.ProjQkvKernel.lean ====
/-
  What the backward call of the wide input projection (2304 columns) leaves in its two result arrays. The rows come in ten
  tiles of 416; a tile's own gradient is written to its rows, and the weight gradient is added up over the tiles in one block,
  three pieces of 768 columns at a time, zeroed at the first tile and written back after the last.
-/
module

public import proofs.«01_k».proof.Proof.Gen.ProjQkvBwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.ProjQkvBwdIdeal.Proj

open Cert.ProjQkvBwdIdeal Cert.ProjQkvBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The cotangent of the projected rows. -/
def g : Fin 4160 → Fin 2304 → EReal := fun i j => m ((c : Thread nD τ).loc main_arg0) (ix2 i j)
/-- The rows that are projected. -/
def x : Fin 4160 → Fin 1024 → EReal := fun i k => m ((c : Thread nD τ).loc main_arg1) (ix2 i k)
/-- The weights. -/
def w : Fin 1024 → Fin 2304 → EReal := fun k j => m ((c : Thread nD τ).loc main_arg2) (ix2 k j)

/-- Where each window's block stands at point `t`: the row tiles move with `t`, the rest stay. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- Row `r` of tile `t` among all the rows. -/
def row (t : Fin cfg0.N) (r : Fin 416) : Fin 4160 :=
  ⟨t.val * 416 + r.val, by have := lt_of_lt_of_eq t.isLt N_0; omega⟩

/-! ## The blocks the body reads -/

theorem blk_g (t : Fin cfg0.N) (r : Fin 416) (j : Fin 2304) : (iblk m c 0 t : Vec Ideal S416x2304 .f32) (ix2 r j) = g m c (row t r) j := by
  unfold g row
  blk_simp [iblk]
  entry_read
  blk_ext [iblk, (idx t).1]
theorem blk_x (t : Fin cfg0.N) (r : Fin 416) (k : Fin 1024) : (iblk m c 1 t : Vec Ideal S416x1024 .bf16) (ix2 r k) = x m c (row t r) k := by
  unfold x row
  blk_simp [iblk]
  entry_read
  pointwise
  blk_ext [iblk, (idx t).2.1]
theorem blk_w (t : Fin cfg0.N) (k : Fin 1024) (j : Fin 2304) : (iblk m c 2 t : Vec Ideal S1024x2304 .bf16) (ix2 k j) = w m c k j := by
  unfold w
  blk_simp [iblk]
  entry_read
  pointwise
  blk_ext [iblk, (idx t).2.2.1]

/-! ## What the body computes of its blocks, at an index -/

section Payloads
variable (vg : Vec Ideal S416x2304 .f32) (vx : Vec Ideal S416x1024 .bf16) (vw : Vec Ideal S1024x2304 .bf16)

theorem pay_dx (r : Fin 416) (k : Fin 1024) : k0_pay3 vg vw (ix2 r k)
    = Matmul.dx (fun i j => vg (ix2 i j)) (fun k j => vw (ix2 k j)) r k := by
  unfold_payloads
  pointwise [Matmul.dx]

theorem pay_dw0 (acc : Vec Ideal S1024x768 .f32) (k : Fin 1024) (j : Fin 768) : k0_pay5 vg vx acc (ix2 k j)
    = acc (ix2 k j) + ∑ r : Fin 416, vx (ix2 r k) * vg (ix2 r ⟨j.val, by omega⟩) := by
  unfold_payloads
  pointwise

theorem pay_dw1 (acc : Vec Ideal S1024x768 .f32) (k : Fin 1024) (j : Fin 768) : k0_pay6 vg vx acc (ix2 k j)
    = acc (ix2 k j) + ∑ r : Fin 416, vx (ix2 r k) * vg (ix2 r ⟨768 + j.val, by omega⟩) := by
  unfold_payloads
  pointwise

theorem pay_dw2 (acc : Vec Ideal S1024x768 .f32) (k : Fin 1024) (j : Fin 768) : k0_pay7 vg vx acc (ix2 k j)
    = acc (ix2 k j) + ∑ r : Fin 416, vx (ix2 r k) * vg (ix2 r ⟨1536 + j.val, by omega⟩) := by
  unfold_payloads
  pointwise

end Payloads

/-! ## The two result arrays -/

theorem final3 : (dats m 0 c).arrAt 3 cfg0.N = (fun i => Matmul.dx (g m c) (w m c) (i 0) (i 1) : S4160x1024.Idx → EReal) := by
  refine (dats m 0 c).arrAt_eq_of_covers 3 _ (by decide +kernel) fun t hf y => ?_
  have e : ((cfg0.win 3).blk t).view.emb y = (ix2 (row t (y 0)) (y 1) : S4160x1024.Idx) := by
    blk_ext [row, (idx t).2.2.2.1]
  rw [e]
  blk_simp
  rw [after0_3]
  have key : ∀ X : Vec Ideal S416x1024 .f32, X = k0_pay3 (iblk m c 0 t) (iblk m c 2 t) →
      ∀ (r : Fin 416) (k : Fin 1024), X (ix2 r k) = Matmul.dx (g m c) (w m c) (row t r) k := by
    intro X hX r k
    rw [hX, pay_dx]
    simp only [blk_g, blk_w]
    rfl
  refine (congrArg _ (eq_ix2 y)).trans (key _ ?_ _ _)
  by_cases h : t.val % 10 = 0
  · rw [outsAt0_A m c t h]; frame_out
  · rw [outsAt0_B m c t h]; frame_out

/-- Row `i`'s share of the weights' cotangent. -/
def dwRow (k : Fin 1024) (j : Fin 2304) (i : Fin 4160) : EReal := x m c i k * g m c i j

theorem dw_step0 (t : Fin cfg0.N) (acc : Vec Ideal S1024x768 .f32) (y : S1024x768.Idx) (k : Fin 1024) (j : Fin 2304)
    (hk : k.val = (y 0).val) (hj : j.val = (y 1).val) :
    k0_pay5 (iblk m c 0 t) (iblk m c 1 t) acc y = acc y + ∑ r : Fin 416, dwRow m c k j (row t r) := by
  obtain ⟨a, b, rfl⟩ : ∃ (a : Fin 1024) (b : Fin 768), y = ix2 a b := ⟨y 0, y 1, eq_ix2 y⟩
  obtain rfl : k = a := Fin.ext hk
  obtain ⟨j, hj'⟩ := j
  obtain rfl : j = b.val := hj
  rw [pay_dw0]
  simp only [blk_g, blk_x]
  rfl
theorem dw_step1 (t : Fin cfg0.N) (acc : Vec Ideal S1024x768 .f32) (y : S1024x768.Idx) (k : Fin 1024) (j : Fin 2304)
    (hk : k.val = (y 0).val) (hj : j.val = 768 + (y 1).val) :
    k0_pay6 (iblk m c 0 t) (iblk m c 1 t) acc y = acc y + ∑ r : Fin 416, dwRow m c k j (row t r) := by
  obtain ⟨a, b, rfl⟩ : ∃ (a : Fin 1024) (b : Fin 768), y = ix2 a b := ⟨y 0, y 1, eq_ix2 y⟩
  obtain rfl : k = a := Fin.ext hk
  obtain ⟨j, hj'⟩ := j
  obtain rfl : j = 768 + b.val := hj
  rw [pay_dw1]
  simp only [blk_g, blk_x]
  rfl
theorem dw_step2 (t : Fin cfg0.N) (acc : Vec Ideal S1024x768 .f32) (y : S1024x768.Idx) (k : Fin 1024) (j : Fin 2304)
    (hk : k.val = (y 0).val) (hj : j.val = 1536 + (y 1).val) :
    k0_pay7 (iblk m c 0 t) (iblk m c 1 t) acc y = acc y + ∑ r : Fin 416, dwRow m c k j (row t r) := by
  obtain ⟨a, b, rfl⟩ : ∃ (a : Fin 1024) (b : Fin 768), y = ix2 a b := ⟨y 0, y 1, eq_ix2 y⟩
  obtain rfl : k = a := Fin.ext hk
  obtain ⟨j, hj'⟩ := j
  obtain rfl : j = 1536 + b.val := hj
  rw [pay_dw2]
  simp only [blk_g, blk_x]
  rfl

theorem dw_first (t : Fin cfg0.N) (h : t.val % 10 = 0) (k : Fin 1024) (j : Fin 2304) :
    (outsAt0 m c t.val t.isLt).2 (ix2 k j) = 0 + ∑ r : Fin 416, dwRow m c k j (row t r) := by
  rw [outsAt0_A m c t h]
  frame_open
  simp (disch := decide) only [↓ View.readCov_skip, ↓ View.readCov_cons_toLoadRect, ↓ View.readCov_fill]
  frame_out
  refine View.canon_append_of_piecesOf (Val := Elt Ideal) (s := S1024x2304) (e := .f32)
    (fun i => (0 + ∑ r : Fin 416, dwRow m c (i 0) (i 1) (row t r) : EReal)) [_] [_, _, _] ?h _ ?c
  case c => exact View.cover_of_tiled_head _ _ _ (by rfl) _
  refine ⟨fun y => ?_, fun y => ?_, fun y => ?_, trivial⟩
  · refine (dw_step2 m c t _ y _ _ ?_ ?_).trans (congrArg (· + _) ?_)
    · exact Tiles.emb_zero (inb := inb_S1024x2304_S1024x768_0_1536) y 0 rfl
    · exact Tiles.emb_off (inb := inb_S1024x2304_S1024x768_0_1536) y 1 1536 rfl
    · pointwise [k0_pay1]
  · refine (dw_step1 m c t _ y _ _ ?_ ?_).trans (congrArg (· + _) ?_)
    · exact Tiles.emb_zero (inb := inb_S1024x2304_S1024x768_0_768) y 0 rfl
    · exact Tiles.emb_off (inb := inb_S1024x2304_S1024x768_0_768) y 1 768 rfl
    · pointwise [k0_pay1]
  · refine (dw_step0 m c t _ y _ _ ?_ ?_).trans (congrArg (· + _) ?_)
    · exact Tiles.emb_zero (inb := inb_S1024x2304_S1024x768_0_0) y 0 rfl
    · exact Tiles.emb_zero (inb := inb_S1024x2304_S1024x768_0_0) y 1 rfl
    · pointwise [k0_pay1]

theorem dw_next (t : Fin cfg0.N) (h : ¬t.val % 10 = 0) (k : Fin 1024) (j : Fin 2304) :
    (outsAt0 m c t.val t.isLt).2 (ix2 k j)
      = (outsAt0 m c (t.val - 1) (Nat.lt_of_le_of_lt (Nat.sub_le _ _) t.isLt)).2 (ix2 k j) + ∑ r : Fin 416, dwRow m c k j (row t r) := by
  rw [outsAt0_B m c t h]
  frame_out
  generalize (outsAt0 m c (t.val - 1) _).2 = X
  canon_tiles y h
  · refine (dw_step2 m c t _ y k j h0 h1).trans (congrArg (· + _) (View.ld_unit_apply_of X _ _ _ y _ fun a => ?_))
    fin_cases a <;> simp_all
  · refine (dw_step1 m c t _ y k j h0 h1).trans (congrArg (· + _) (View.ld_unit_apply_of X _ _ _ y _ fun a => ?_))
    fin_cases a <;> simp_all
  · refine (dw_step0 m c t _ y k j h0 h1).trans (congrArg (· + _) (View.ld_unit_apply_of X _ _ _ y _ fun a => ?_))
    fin_cases a <;> simp_all

theorem final4 : (dats m 0 c).arrAt 4 cfg0.N = (fun i => Matmul.dw (x m c) (g m c) (i 0) (i 1) : S1024x2304.Idx → EReal) := by
  refine (dats m 0 c).arrAt_eq_of_after_last 4 t0_9 (by decide +kernel) _ fun y => ?_
  blk_simp
  rw [after0_4]
  exact (congrArg _ (eq_ix2 y)).trans ((Tiles.kept_sum N_0 (fun t => ∑ r : Fin 416, dwRow m c (y 0) (y 1) (row t r))
    (fun n h => (outsAt0 m c n h).2 (ix2 (y 0) (y 1))) (fun t h => dw_first m c t h _ _) (fun t h => dw_next m c t h _ _) t0_9
    (by decide +kernel)).trans (Tiles.sum_rows N_0 rfl row (fun _ _ => rfl) _))

end Cert.ProjQkvBwdIdeal.Proj
-- ==== Proof.ProjQkvReference.lean ====
/- The reference's run of a product's gradient: each of its two result buffers, read at an index, is the specification's
   term. -/
module

public import proofs.«01_k».proof.Proof.Gen.ProjQkvRefIdeal.Run
public import proofs.«01_k».proof.Proof.MatmulSpec
public import Idealize.ShloMosaic.Lib.Pointwise
public import Idealize.ShloMosaic.Adequacy

@[expose] public section

noncomputable section

namespace Cert.ProjQkvRefIdeal.Proj

open Cert.ProjQkvRefIdeal Cert.ProjQkvRefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def g (c : Dev nD) (i : Fin 4160) (j : Fin 2304) : EReal := m ((c.tc : Thread nD τ).loc main_arg0) (ix2 i j)
def x (c : Dev nD) (i : Fin 4160) (k : Fin 1024) : EReal := m ((c.tc : Thread nD τ).loc main_arg1) (ix2 i k)
def w (c : Dev nD) (k : Fin 1024) (j : Fin 2304) : EReal := m ((c.tc : Thread nD τ).loc main_arg2) (ix2 k j)

/-- Every execution of the reference ends with the two specified cotangents and its arguments kept. -/
theorem run :
    θ_run defs (onTc (τ := τ) (main (F := Ideal))) ⟨m, fun _ => 0, ρ⟩ fun r => ∀ c : Dev nD,
      r.2.mem ((c.tc : Thread nD τ).loc main_v3) = (fun i => Matmul.dx (g m c) (w m c) (i 0) (i 1) : S4160x1024.Idx → EReal)
      ∧ r.2.mem ((c.tc : Thread nD τ).loc main_v2) = (fun i => Matmul.dw (x m c) (g m c) (i 0) (i 1) : S1024x2304.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.ProjQkvRefIdeal.Value.run m ρ)
  obtain ⟨h0, h1, hk⟩ := h c
  refine ⟨h0.trans ?_, h1.trans ?_, hk⟩
  · funext i
    rw [eq_ix2 i]
    pointwise [Matmul.dx, g, w]
  · funext i
    rw [eq_ix2 i]
    pointwise [Matmul.dw, g, x]
    exact Finset.sum_congr rfl fun x _ => mul_comm _ _

end Cert.ProjQkvRefIdeal.Proj

end
-- ==== Proof.LnSpec.lean ====
/-
  The output projection with its residual and layer norm, and its gradient, written at an index of the extended reals. A row
  `z = α h + merged · w` of width 1024 is centred, divided by its deviation, scaled by `g` and shifted; the 48 rows of padding
  before the first token carry no cotangent.
-/
module

public import Idealize.ShloMosaic.Lib.Pointwise
public import Idealize.ShloMosaic.Lib.IdealHost

@[expose] public section

noncomputable section

namespace Cert.Ln

open Idealize.ShloMosaic

/-- The residual's weight α, the width 1024, the ε below the variance and −1/2, as the programs' own f32 constants. -/
def alpha : EReal := Ideal.ofBits .f32 1071072509#32
def width : EReal := Ideal.ofBits .f32 1149239296#32
def eps : EReal := Ideal.ofBits .f32 925353388#32
def mhalf : EReal := Ideal.ofBits .f32 3204448256#32

theorem width_ne_zero : width ≠ 0 := by
  have h : width = ((1024 : ℝ) : EReal) := by
    simp [width, Ideal.ofBits, Ideal.ieee, -EReal.coe_mul]; norm_num
  rw [h]
  exact_mod_cast (by norm_num : (1024 : ℝ) ≠ 0)

theorem two_eq : Ideal.ofBits .f32 1073741824#32 = 2 := by
  rw [show (2 : EReal) = ((2 : ℝ) : EReal) by norm_cast]
  simp [Ideal.ofBits, Ideal.ieee, -EReal.coe_mul]; norm_num

/-- Twice an extended real is the number added to itself. -/
theorem two_times (x : EReal) : 2 * x = x + x := by
  rw [← one_add_one_eq_two, EReal.right_distrib_of_nonneg zero_le_one zero_le_one, one_mul]

section Row
variable {D : Nat} (z g ct : Fin D → EReal)

/-- The row's mean, the centred row, its variance plus ε and the reciprocal deviation. -/
def mean : EReal := Ideal.div (∑ j, z j) width
def cen (j : Fin D) : EReal := z j - mean z
def var : EReal := Ideal.div (∑ j, cen z j * cen z j) width + eps
def rstd : EReal := Ideal.rsqrt (var z)

/-- The cotangent of the normalised row, and of the variance as it reaches each centred entry. -/
def up (j : Fin D) : EReal := ct j * g j
def coef : EReal := Ideal.div ((∑ j, cen z j * up g ct j) * (mhalf * Ideal.div (rstd z) (var z))) width

/-- The cotangent of the centred row, and of the row itself: centring takes the mean off. -/
def dcen (j : Fin D) : EReal := up g ct j * rstd z + (cen z j * coef z g ct + cen z j * coef z g ct)
def dz (j : Fin D) : EReal := dcen z g ct j + Ideal.div (∑ j, (0 - dcen z g ct j)) width

theorem dz_zero (j : Fin D) : dz z g (fun _ => 0) j = 0 := by
  have hu : ∀ j, up g (fun _ => 0) j = 0 := fun j => zero_mul _
  have hc : coef z g (fun _ => 0) = 0 := by
    unfold coef
    simp only [hu, mul_zero, Finset.sum_const_zero, zero_mul]
    exact Ideal.zero_div width_ne_zero
  have hd : ∀ j, dcen z g (fun _ => 0) j = 0 := fun j => by
    unfold dcen
    simp only [hu, hc, mul_zero, zero_mul, add_zero]
  unfold dz
  simp only [hd, sub_zero, Finset.sum_const_zero, zero_add]
  exact Ideal.zero_div width_ne_zero

end Row

variable {L K D : Nat} (h : Fin L → Fin D → EReal) (mg : Fin L → Fin K → EReal) (w : Fin K → Fin D → EReal) (g : Fin D → EReal)
  (ct : Fin L → Fin D → EReal)

/-- The row before the norm. -/
def pre (i : Fin L) (j : Fin D) : EReal := alpha * h i j + ∑ k, mg i k * w k j

/-- The normalised row, scaled and shifted; the rows of padding are zero. -/
def fwd (b : Fin D → EReal) (i : Fin L) (j : Fin D) : EReal :=
  if 48 ≤ i.val then cen (pre h mg w i) j * rstd (pre h mg w i) * g j + b j else 0

/-- The cotangent without the rows of padding. -/
def live (i : Fin L) (j : Fin D) : EReal := if 48 ≤ i.val then ct i j else 0

/-- The cotangent of the row before the norm. -/
def dpre (i : Fin L) (j : Fin D) : EReal := dz (pre h mg w i) g (live ct i) j

/-- The cotangents of the residual, of the merged rows, of the weights, of the scale and of the shift. -/
def dh (i : Fin L) (j : Fin D) : EReal := alpha * dpre h mg w g ct i j
def dmg (i : Fin L) (k : Fin K) : EReal := ∑ j, dpre h mg w g ct i j * w k j
def dw (k : Fin K) (j : Fin D) : EReal := ∑ i, mg i k * dpre h mg w g ct i j
def dg (j : Fin D) : EReal := ∑ i, cen (pre h mg w i) j * rstd (pre h mg w i) * live ct i j
def db (j : Fin D) : EReal := ∑ i, live ct i j

theorem live_pad (i : Fin L) (hi : i.val < 48) : live ct i = fun _ => 0 := by
  funext j; exact if_neg (by omega)
theorem live_token (i : Fin L) (hi : 48 ≤ i.val) : live ct i = ct i := by
  funext j; exact if_pos hi
theorem dpre_pad (i : Fin L) (hi : i.val < 48) (j : Fin D) : dpre h mg w g ct i j = 0 := by
  unfold dpre; rw [live_pad ct i hi, dz_zero]

end Cert.Ln
-- ==== Proof.LnOutKernel.lean ====
/-
  What the backward call of the output projection with its layer norm leaves in its five result arrays. The rows come in ten
  tiles of 416, the last tile first; a tile's own two gradients are written to its rows, and the gradients of the weights, the
  scale and the shift are added up over the tiles in blocks that are zeroed at the first point and written back after the last.
-/
module

public import proofs.«01_k».proof.Proof.Gen.LnOutBwdIdeal.Value
public import proofs.«01_k».proof.Proof.LnSpec
public import proofs.«01_k».proof.Proof.Tiles
public import Idealize.ShloMosaic.Lib.Pipeline.ValueKit

@[expose] public section

set_option maxRecDepth 16384

noncomputable section

namespace Cert.LnOutBwdIdeal.Ln

open Cert.LnOutBwdIdeal Cert.LnOutBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The residual rows. -/
def h : Fin 4160 → Fin 1024 → EReal := fun i j => m ((c : Thread nD τ).loc main_arg0) (ix2 i j)
/-- The merged rows. -/
def mg : Fin 4160 → Fin 1024 → EReal := fun i k => m ((c : Thread nD τ).loc main_arg1) (ix2 i k)
/-- The projection's weights. -/
def w : Fin 1024 → Fin 1024 → EReal := fun k j => m ((c : Thread nD τ).loc main_arg2) (ix2 k j)
/-- The norm's scale. -/
def g : Fin 1024 → EReal := fun j => m ((c : Thread nD τ).loc main_arg3) (ix2 0 j)
/-- The cotangent of the normalised rows. -/
def ct : Fin 4160 → Fin 1024 → EReal := fun i j => m ((c : Thread nD τ).loc main_arg5) (ix2 i j)

/-- Where each window's block stands at point `t`: the row tiles move backwards with `t`, the rest stay. -/
theorem idx : ∀ t : Fin cfg0.N, win0_0.index t = ![9 - t.val, 0] ∧ win0_1.index t = ![9 - t.val, 0] ∧ win0_2.index t = ![0, 0]
    ∧ win0_3.index t = ![0, 0] ∧ win0_5.index t = ![9 - t.val, 0] ∧ win0_6.index t = ![0, 9 - t.val, 0]
    ∧ win0_7.index t = ![0, 9 - t.val, 0] ∧ win0_8.index t = ![0, 0, 0] ∧ win0_9.index t = ![0, 0, 0] ∧ win0_10.index t = ![0, 0, 0] :=
  (by decide +kernel : ∀ t : Fin grid0.N, _)

/-- Row `r` of the tile at point `t` among all the rows. -/
def row (t : Fin cfg0.N) (r : Fin 416) : Fin 4160 :=
  ⟨(9 - t.val) * 416 + r.val, by have := lt_of_lt_of_eq t.isLt N_0; omega⟩

/-! ## The blocks the body reads -/

theorem blk_h (t : Fin cfg0.N) (r : Fin 416) (j : Fin 1024) : (iblk m c 0 t : Vec Ideal S416x1024 .f32) (ix2 r j) = h m c (row t r) j := by
  unfold h row
  blk_simp [iblk]
  entry_read
  blk_ext [iblk, (idx t).1]
theorem blk_mg (t : Fin cfg0.N) (r : Fin 416) (j : Fin 1024) : (iblk m c 1 t : Vec Ideal S416x1024 .f32) (ix2 r j) = mg m c (row t r) j := by
  unfold mg row
  blk_simp [iblk]
  entry_read
  blk_ext [iblk, (idx t).2.1]
theorem blk_w (t : Fin cfg0.N) (k j : Fin 1024) : (iblk m c 2 t : Vec Ideal S1024x1024 .f32) (ix2 k j) = w m c k j := by
  unfold w
  blk_simp [iblk]
  entry_read
  blk_ext [iblk, (idx t).2.2.1]
theorem blk_g (t : Fin cfg0.N) (j : Fin 1024) : (iblk m c 3 t : Vec Ideal S1x1024 .f32) (ix2 0 j) = g m c j := by
  unfold g
  blk_simp [iblk]
  entry_read
  blk_ext [iblk, (idx t).2.2.2.1]
theorem blk_ct (t : Fin cfg0.N) (r : Fin 416) (j : Fin 1024) : (iblk m c 5 t : Vec Ideal S416x1024 .f32) (ix2 r j) = ct m c (row t r) j := by
  unfold ct row
  blk_simp [iblk]
  entry_read
  blk_ext [iblk, (idx t).2.2.2.2.1]

/-! ## The mask of the tokens' rows -/

theorem coord : ∀ t : Fin cfg0.N, (grid0.coords t 1).val = t.val := (by decide +kernel : ∀ t : Fin grid0.N, _)

theorem mask_word : ∀ (t : Fin 10) (r : Fin 416), IntOp.cmpi CmpIPredicate.sge
      (IntOp.addi (Scalar.muli (Scalar.subi (9#32) (BitVec.ofNat 32 t.val)) 416#32) (BitVec.ofNat 32 r.val)) 48#32
    = if 48 ≤ (9 - t.val) * 416 + r.val then 1#1 else 0#1 := by decide +kernel

theorem mask (t : Fin cfg0.N) (r : Fin 416) :
    k0_pay9 (grid0.coords t) (ix2 r 0) = if 48 ≤ (row t r).val then 1#1 else 0#1 := by
  unfold_payloads
  pointwise
  rw [coord t]
  exact mask_word ⟨t.val, lt_of_lt_of_eq t.isLt N_0⟩ r

theorem pay_ct (t : Fin cfg0.N) (r : Fin 416) (j : Fin 1024) :
    k0_pay15 (k0_pay9 (grid0.coords t)) (iblk m c 5 t) (ix2 r j) = Ln.live (ct m c) (row t r) j := by
  unfold k0_pay15
  pointwise
  rw [mask, blk_ct]
  unfold Ln.live Scalar.select
  by_cases hr : 48 ≤ (row t r).val
  · simp [hr]
  · simp [hr]

/-! ## What the body computes of its blocks, at an index -/

section Payloads
variable (vh vm : Vec Ideal S416x1024 .f32) (vw : Vec Ideal S1024x1024 .f32) (vg : Vec Ideal S1x1024 .f32)

/-- The row before the norm. -/
abbrev zrow (r : Fin 416) : Fin 1024 → EReal :=
  Ln.pre (fun i j => vh (ix2 i j)) (fun i k => vm (ix2 i k)) (fun k j => vw (ix2 k j)) r

theorem pay_cen (r : Fin 416) (j : Fin 1024) : k0_pay10 vh vm vw (ix2 r j) = Ln.cen (zrow vh vm vw r) j := by
  unfold k0_pay10
  pointwise [Ln.cen, Ln.mean, Ln.pre, Ln.alpha, Ln.width]

theorem pay_var (r : Fin 416) : k0_pay11 vh vm vw (ix2 r 0) = Ln.var (zrow vh vm vw r) := by
  unfold k0_pay11
  pointwise
  simp only [pay_cen]
  rfl

theorem pay_rstd (r : Fin 416) : k0_pay12 vh vm vw (ix2 r 0) = Ln.rstd (zrow vh vm vw r) := by
  unfold k0_pay12
  pointwise
  rw [pay_var]
  rfl

theorem pay_ratio (r : Fin 416) : k0_pay13 vh vm vw (ix2 r 0) = Ideal.div (Ln.rstd (zrow vh vm vw r)) (Ln.var (zrow vh vm vw r)) := by
  unfold k0_pay13
  pointwise
  rw [pay_rstd, pay_var]

/-- The row's cotangent, of whatever arrays hold the centred rows, the deviations and the cotangent. -/
theorem pay_dz (v13 : IVec S416x1 1) (cen : FVec Ideal S416x1024 .f32) (rstd ratio half : FVec Ideal S416x1 .f32)
    (v41 : Vec Ideal S416x1024 .f32) (z ctr : Fin 1024 → EReal) (r : Fin 416)
    (hcen : ∀ j, cen (ix2 r j) = Ln.cen z j) (hrstd : rstd (ix2 r 0) = Ln.rstd z)
    (hratio : ratio (ix2 r 0) = Ideal.div (Ln.rstd z) (Ln.var z)) (hhalf : half (ix2 r 0) = Ln.mhalf)
    (hct : ∀ j, k0_pay15 v13 v41 (ix2 r j) = ctr j) (j : Fin 1024) :
    k0_pay18 vg v13 cen rstd ratio half v41 (ix2 r j) = Ln.dz z (fun j => vg (ix2 0 j)) ctr j := by
  unfold k0_pay18
  generalize k0_pay15 v13 v41 = X at hct ⊢
  pointwise
  simp only [Fin.sum_univ_one, hct, hcen, hrstd, hratio, hhalf]
  unfold Ln.dz
  have e : ∀ j, Ln.dcen z (fun j => vg (ix2 0 j)) ctr j = ctr j * vg (ix2 0 j) * Ln.rstd z
      + Ln.cen z j * Ln.coef z (fun j => vg (ix2 0 j)) ctr + Ln.coef z (fun j => vg (ix2 0 j)) ctr * Ln.cen z j := fun j => by
    rw [add_assoc, mul_comm (Ln.coef _ _ _)]; rfl
  simp only [e]
  rfl

end Payloads

/-- The cotangent the body holds of its tile's rows before the norm. -/
theorem tile_dpre (t : Fin cfg0.N) (r : Fin 416) (j : Fin 1024) :
    k0_pay18 (iblk m c 3 t) (k0_pay9 (grid0.coords t)) (k0_pay10 (iblk m c 0 t) (iblk m c 1 t) (iblk m c 2 t))
        (k0_pay12 (iblk m c 0 t) (iblk m c 1 t) (iblk m c 2 t)) (k0_pay13 (iblk m c 0 t) (iblk m c 1 t) (iblk m c 2 t))
        (k0_pay14 (F := Ideal)) (iblk m c 5 t) (ix2 r j)
      = Ln.dpre (h m c) (mg m c) (w m c) (g m c) (ct m c) (row t r) j := by
  refine (pay_dz _ _ _ _ _ _ _ _ (Ln.live (ct m c) (row t r)) r (pay_cen _ _ _ r) (pay_rstd _ _ _ r) (pay_ratio _ _ _ r) ?_
    (pay_ct m c t r) j).trans ?_
  · pointwise [k0_pay14, Ln.mhalf]
  · unfold Ln.dpre
    congr 1
    · funext j
      unfold zrow Ln.pre
      simp only [blk_h, blk_mg, blk_w]
    · funext j
      exact blk_g m c t j

/-- The tile's rows before the norm. -/
theorem tile_pre (t : Fin cfg0.N) (r : Fin 416) :
    zrow (iblk m c 0 t) (iblk m c 1 t) (iblk m c 2 t) r = Ln.pre (h m c) (mg m c) (w m c) (row t r) := by
  funext j
  unfold zrow Ln.pre
  simp only [blk_h, blk_mg, blk_w]

/-! ## The five result arrays -/

theorem final6 : (dats m 0 c).arrAt 6 cfg0.N
    = (fun i => Ln.dh (h m c) (mg m c) (w m c) (g m c) (ct m c) (i 1) (i 2) : S1x4160x1024.Idx → EReal) := by
  refine (dats m 0 c).arrAt_eq_of_covers 6 _ (by decide +kernel) fun t hf y => ?_
  have e : ((cfg0.win 6).blk t).view.emb y = (ix3 0 (row t (y 1)) (y 2) : S1x4160x1024.Idx) := by
    blk_ext [row, (idx t).2.2.2.2.2.1]
  rw [e]
  blk_simp
  rw [after0_6]
  have key : ∀ X : Vec Ideal S1x416x1024 .f32, X = k0_pay1 (k0_pay18 (iblk m c 3 t) (k0_pay9 (grid0.coords t))
        (k0_pay10 (iblk m c 0 t) (iblk m c 1 t) (iblk m c 2 t)) (k0_pay12 (iblk m c 0 t) (iblk m c 1 t) (iblk m c 2 t))
        (k0_pay13 (iblk m c 0 t) (iblk m c 1 t) (iblk m c 2 t)) (k0_pay14 (F := Ideal)) (iblk m c 5 t)) →
      ∀ (r : Fin 416) (j : Fin 1024), X (ix3 0 r j) = Ln.dh (h m c) (mg m c) (w m c) (g m c) (ct m c) (row t r) j := by
    intro X hX r j
    rw [hX]
    unfold k0_pay1
    pointwise
    rw [tile_dpre]
    rfl
  have hy : y = (ix3 0 (y 1) (y 2) : S1x416x1024.Idx) := by
    rw [eq_ix3 y]; congr 1; exact Subsingleton.elim _ _
  refine (congrArg _ hy).trans (key _ ?_ _ _)
  by_cases h : t.val % 10 = 0
  · rw [outsAt0_A m c t h]; frame_out
  · rw [outsAt0_B m c t h]; frame_out

theorem final7 : (dats m 0 c).arrAt 7 cfg0.N
    = (fun i => Ln.dmg (h m c) (mg m c) (w m c) (g m c) (ct m c) (i 1) (i 2) : S1x4160x1024.Idx → EReal) := by
  refine (dats m 0 c).arrAt_eq_of_covers 7 _ (by decide +kernel) fun t hf y => ?_
  have e : ((cfg0.win 7).blk t).view.emb y = (ix3 0 (row t (y 1)) (y 2) : S1x4160x1024.Idx) := by
    blk_ext [row, (idx t).2.2.2.2.2.2.1]
  rw [e]
  blk_simp
  rw [after0_7]
  have key : ∀ X : Vec Ideal S1x416x1024 .f32, X = k0_pay2 (k0_pay19 (iblk m c 2 t) (iblk m c 3 t) (k0_pay9 (grid0.coords t))
        (k0_pay10 (iblk m c 0 t) (iblk m c 1 t) (iblk m c 2 t)) (k0_pay12 (iblk m c 0 t) (iblk m c 1 t) (iblk m c 2 t))
        (k0_pay13 (iblk m c 0 t) (iblk m c 1 t) (iblk m c 2 t)) (k0_pay14 (F := Ideal)) (iblk m c 5 t)) →
      ∀ (r : Fin 416) (k : Fin 1024), X (ix3 0 r k) = Ln.dmg (h m c) (mg m c) (w m c) (g m c) (ct m c) (row t r) k := by
    intro X hX r k
    rw [hX]
    unfold k0_pay2 k0_pay19
    pointwise
    simp only [tile_dpre, blk_w]
    rfl
  have hy : y = (ix3 0 (y 1) (y 2) : S1x416x1024.Idx) := by
    rw [eq_ix3 y]; congr 1; exact Subsingleton.elim _ _
  refine (congrArg _ hy).trans (key _ ?_ _ _)
  by_cases h : t.val % 10 = 0
  · rw [outsAt0_A m c t h]; frame_out
  · rw [outsAt0_B m c t h]; frame_out

/-- A row's share of the weights' cotangent. -/
def dwRow (k j : Fin 1024) (i : Fin 4160) : EReal :=
  mg m c i k * Ln.dpre (h m c) (mg m c) (w m c) (g m c) (ct m c) i j

theorem dw_step (t : Fin cfg0.N) (acc : Vec Ideal S1x1024x1024 .f32) (k j : Fin 1024) :
    k0_pay3 (k0_pay20 (iblk m c 1 t) (iblk m c 3 t) (k0_pay9 (grid0.coords t))
        (k0_pay10 (iblk m c 0 t) (iblk m c 1 t) (iblk m c 2 t)) (k0_pay12 (iblk m c 0 t) (iblk m c 1 t) (iblk m c 2 t))
        (k0_pay13 (iblk m c 0 t) (iblk m c 1 t) (iblk m c 2 t)) (k0_pay14 (F := Ideal)) (iblk m c 5 t)) acc (ix3 0 k j)
      = acc (ix3 0 k j) + ∑ r : Fin 416, dwRow m c k j (row t r) := by
  unfold k0_pay3 k0_pay20
  pointwise
  simp only [tile_dpre, blk_mg]
  rfl

theorem dw_first (t : Fin cfg0.N) (h : t.val % 10 = 0) (k j : Fin 1024) :
    (outsAt0 m c t.val t.isLt).2.2.1 (ix3 0 k j) = 0 + ∑ r : Fin 416, dwRow m c k j (row t r) := by
  rw [outsAt0_A m c t h]; frame_out
  rw [dw_step]
  congr 1
  pointwise [k0_pay6]

theorem dw_next (t : Fin cfg0.N) (h : ¬t.val % 10 = 0) (k j : Fin 1024) :
    (outsAt0 m c t.val t.isLt).2.2.1 (ix3 0 k j)
      = (outsAt0 m c (t.val - 1) (Nat.lt_of_le_of_lt (Nat.sub_le _ _) t.isLt)).2.2.1 (ix3 0 k j)
        + ∑ r : Fin 416, dwRow m c k j (row t r) := by
  rw [outsAt0_B m c t h]; frame_out
  rw [dw_step]

theorem final8 : (dats m 0 c).arrAt 8 cfg0.N
    = (fun i => Ln.dw (h m c) (mg m c) (w m c) (g m c) (ct m c) (i 1) (i 2) : S1x1024x1024.Idx → EReal) := by
  refine (dats m 0 c).arrAt_eq_of_after_last 8 t0_9 (by decide +kernel) _ fun y => ?_
  blk_simp
  rw [after0_8]
  have hy : y = (ix3 0 (y 1) (y 2) : S1x1024x1024.Idx) := by
    rw [eq_ix3 y]; congr 1; exact Subsingleton.elim _ _
  exact (congrArg _ hy).trans ((Tiles.kept_sum N_0 (fun t => ∑ r : Fin 416, dwRow m c (y 1) (y 2) (row t r))
    (fun n h => (outsAt0 m c n h).2.2.1 (ix3 0 (y 1) (y 2))) (fun t h => dw_first m c t h _ _) (fun t h => dw_next m c t h _ _) t0_9
    (by decide +kernel)).trans (Tiles.sum_rows_rev N_0 rfl row (fun _ _ => rfl) _))

/-- A row's share of the scale's cotangent. -/
def dgRow (j : Fin 1024) (i : Fin 4160) : EReal :=
  Ln.cen (Ln.pre (h m c) (mg m c) (w m c) i) j * Ln.rstd (Ln.pre (h m c) (mg m c) (w m c) i) * Ln.live (ct m c) i j

theorem dg_step (t : Fin cfg0.N) (acc : Vec Ideal S1x1x1024 .f32) (j : Fin 1024) :
    k0_pay4 (k0_pay17 (k0_pay9 (grid0.coords t)) (k0_pay10 (iblk m c 0 t) (iblk m c 1 t) (iblk m c 2 t))
        (k0_pay12 (iblk m c 0 t) (iblk m c 1 t) (iblk m c 2 t)) (iblk m c 5 t)) acc (ix3 0 0 j)
      = acc (ix3 0 0 j) + ∑ r : Fin 416, dgRow m c j (row t r) := by
  unfold k0_pay4 k0_pay17
  pointwise
  simp only [pay_ct, pay_cen, pay_rstd, tile_pre]
  rfl

theorem dg_first (t : Fin cfg0.N) (h : t.val % 10 = 0) (j : Fin 1024) :
    (outsAt0 m c t.val t.isLt).2.2.2.1 (ix3 0 0 j) = 0 + ∑ r : Fin 416, dgRow m c j (row t r) := by
  rw [outsAt0_A m c t h]; frame_out
  rw [dg_step]
  congr 1
  pointwise [k0_pay7]

theorem dg_next (t : Fin cfg0.N) (h : ¬t.val % 10 = 0) (j : Fin 1024) :
    (outsAt0 m c t.val t.isLt).2.2.2.1 (ix3 0 0 j)
      = (outsAt0 m c (t.val - 1) (Nat.lt_of_le_of_lt (Nat.sub_le _ _) t.isLt)).2.2.2.1 (ix3 0 0 j)
        + ∑ r : Fin 416, dgRow m c j (row t r) := by
  rw [outsAt0_B m c t h]; frame_out
  rw [dg_step]

theorem final9 : (dats m 0 c).arrAt 9 cfg0.N
    = (fun i => Ln.dg (h m c) (mg m c) (w m c) (ct m c) (i 2) : S1x1x1024.Idx → EReal) := by
  refine (dats m 0 c).arrAt_eq_of_after_last 9 t0_9 (by decide +kernel) _ fun y => ?_
  blk_simp
  rw [after0_9]
  have hy : y = (ix3 0 0 (y 2) : S1x1x1024.Idx) := by
    rw [eq_ix3 y]; congr 1 <;> exact Subsingleton.elim _ _
  exact (congrArg _ hy).trans ((Tiles.kept_sum N_0 (fun t => ∑ r : Fin 416, dgRow m c (y 2) (row t r))
    (fun n h => (outsAt0 m c n h).2.2.2.1 (ix3 0 0 (y 2))) (fun t h => dg_first m c t h _) (fun t h => dg_next m c t h _) t0_9
    (by decide +kernel)).trans (Tiles.sum_rows_rev N_0 rfl row (fun _ _ => rfl) _))

theorem db_step (t : Fin cfg0.N) (acc : Vec Ideal S1x1x1024 .f32) (j : Fin 1024) :
    k0_pay5 (k0_pay16 (k0_pay9 (grid0.coords t)) (iblk m c 5 t)) acc (ix3 0 0 j)
      = acc (ix3 0 0 j) + ∑ r : Fin 416, Ln.live (ct m c) (row t r) j := by
  unfold k0_pay5 k0_pay16
  pointwise
  simp only [pay_ct]

theorem db_first (t : Fin cfg0.N) (h : t.val % 10 = 0) (j : Fin 1024) :
    (outsAt0 m c t.val t.isLt).2.2.2.2 (ix3 0 0 j) = 0 + ∑ r : Fin 416, Ln.live (ct m c) (row t r) j := by
  rw [outsAt0_A m c t h]; frame_out
  rw [db_step]
  congr 1
  pointwise [k0_pay8]

theorem db_next (t : Fin cfg0.N) (h : ¬t.val % 10 = 0) (j : Fin 1024) :
    (outsAt0 m c t.val t.isLt).2.2.2.2 (ix3 0 0 j)
      = (outsAt0 m c (t.val - 1) (Nat.lt_of_le_of_lt (Nat.sub_le _ _) t.isLt)).2.2.2.2 (ix3 0 0 j)
        + ∑ r : Fin 416, Ln.live (ct m c) (row t r) j := by
  rw [outsAt0_B m c t h]; frame_out
  rw [db_step]

theorem final10 : (dats m 0 c).arrAt 10 cfg0.N = (fun i => Ln.db (ct m c) (i 2) : S1x1x1024.Idx → EReal) := by
  refine (dats m 0 c).arrAt_eq_of_after_last 10 t0_9 (by decide +kernel) _ fun y => ?_
  blk_simp
  rw [after0_10]
  have hy : y = (ix3 0 0 (y 2) : S1x1x1024.Idx) := by
    rw [eq_ix3 y]; congr 1 <;> exact Subsingleton.elim _ _
  exact (congrArg _ hy).trans ((Tiles.kept_sum N_0 (fun t => ∑ r : Fin 416, Ln.live (ct m c) (row t r) (y 2))
    (fun n h => (outsAt0 m c n h).2.2.2.2 (ix3 0 0 (y 2))) (fun t h => db_first m c t h _) (fun t h => db_next m c t h _) t0_9
    (by decide +kernel)).trans (Tiles.sum_rows_rev N_0 rfl row (fun _ _ => rfl) fun i => Ln.live (ct m c) i (y 2)))

end Cert.LnOutBwdIdeal.Ln
-- ==== Proof.LnOutReference.lean ====
/- The reference's run of the output projection's gradient: each of its five result buffers, read at an index, is the
   specification's term. The reference works on the 4112 rows from the first token on. -/
module

public import proofs.«01_k».proof.Proof.Gen.LnOutRefIdeal.Run
public import proofs.«01_k».proof.Proof.LnSpec
public import Idealize.ShloMosaic.Lib.Pointwise
public import Idealize.ShloMosaic.Adequacy

@[expose] public section

noncomputable section

namespace Cert.LnOutRefIdeal.Ln

open Cert.LnOutRefIdeal Cert.LnOutRefIdeal.Gen Cert.LnOutRefIdeal.Value Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def h (c : Dev nD) (i : Fin 4160) (j : Fin 1024) : EReal := m ((c.tc : Thread nD τ).loc main_arg0) (ix2 i j)
def mg (c : Dev nD) (i : Fin 4160) (k : Fin 1024) : EReal := m ((c.tc : Thread nD τ).loc main_arg1) (ix2 i k)
def w (c : Dev nD) (k j : Fin 1024) : EReal := m ((c.tc : Thread nD τ).loc main_arg2) (ix2 k j)
def g (c : Dev nD) (j : Fin 1024) : EReal := m ((c.tc : Thread nD τ).loc main_arg3) (ix2 0 j)
def ct (c : Dev nD) (i : Fin 4160) (j : Fin 1024) : EReal := m ((c.tc : Thread nD τ).loc main_arg5) (ix2 i j)

variable (c : Dev nD)

/-! ## The arrays the reference goes through, each over the ones before -/

/-- The rows before the norm. -/
def zA : FVec Ideal S4112x1024 .f32 :=
  addf (mulf (broadcastInDim S4112x1024 ![] bcast_S_S4112x1024 (constant S_ .f32 0x3FD744FD#32))
      (extractStridedSlice S4112x1024 ![48, 0] (m ((c.tc : Thread nD τ).loc main_arg0)) slices_S4160x1024_S4112x1024_48_0))
    (Host.dotGeneral (F := Ideal) (φ₁ := .f32) (φ₂ := .f32) dot_S4112x1024_S1024x1024_S4112x1024_1_0_0_1_n_n none
      (extractStridedSlice S4112x1024 ![48, 0] (m ((c.tc : Thread nD τ).loc main_arg1)) slices_S4160x1024_S4112x1024_48_0)
      (m ((c.tc : Thread nD τ).loc main_arg2)))
/-- The centred rows. -/
def cenA : FVec Ideal S4112x1024 .f32 :=
  subf (zA m c) (broadcastInDim S4112x1024 ![0, 1] bcast_S4112x1_S4112x1024_0_1
    (Host.divf (broadcastInDim S4112x1 ![0] bcast_S4112_S4112x1_0
        (Host.reduceAdd (zA m c) (constant S_ .f32 0x00000000#32) reducesTo_S4112x1024_S4112_d1 h_S_))
      (broadcastInDim S4112x1 ![] bcast_S_S4112x1 (constant S_ .f32 0x44800000#32))))
/-- The variances plus ε. -/
def varA : FVec Ideal S4112x1 .f32 :=
  addf (Host.divf (broadcastInDim S4112x1 ![0] bcast_S4112_S4112x1_0
        (Host.reduceAdd (mulf (cenA m c) (cenA m c)) (constant S_ .f32 0x00000000#32) reducesTo_S4112x1024_S4112_d1 h_S_))
      (broadcastInDim S4112x1 ![] bcast_S_S4112x1 (constant S_ .f32 0x44800000#32)))
    (broadcastInDim S4112x1 ![] bcast_S_S4112x1 (constant S_ .f32 0x3727C5AC#32))
/-- The tokens' cotangent. -/
def ctA : FVec Ideal S4112x1024 .f32 :=
  extractStridedSlice S4112x1024 ![48, 0] (m ((c.tc : Thread nD τ).loc main_arg5)) slices_S4160x1024_S4112x1024_48_0
/-- The cotangent of the normalised rows. -/
def upA : FVec Ideal S4112x1024 .f32 :=
  mulf (ctA m c) (broadcastInDim S4112x1024 ![0, 1] bcast_S1x1024_S4112x1024_0_1 (m ((c.tc : Thread nD τ).loc main_arg3)))
/-- What the variance's cotangent hands to each centred entry. -/
def coefA : FVec Ideal S4112 .f32 :=
  Host.reduceAdd (Host.divf (mulf (shapeCast S4112x1 (Host.reduceAdd (mulf (cenA m c) (upA m c)) (constant S_ .f32 0x00000000#32)
          reducesTo_S4112x1024_S4112_d1 h_S_) shapeCasts_S4112_S4112x1)
        (mulf (broadcastInDim S4112x1 ![] bcast_S_S4112x1 (constant S_ .f32 0xBF000000#32))
          (Host.divf (Host.rsqrt (varA m c)) (varA m c))))
      (broadcastInDim S4112x1 ![] bcast_S_S4112x1 (constant S_ .f32 0x44800000#32)))
    (constant S_ .f32 0x00000000#32) reducesTo_S4112x1_S4112_d1 h_S_
/-- The cotangent of the centred rows. -/
def dcenA : FVec Ideal S4112x1024 .f32 :=
  addf (mulf (upA m c) (broadcastInDim S4112x1024 ![0, 1] bcast_S4112x1_S4112x1024_0_1 (Host.rsqrt (varA m c))))
    (mulf (broadcastInDim S4112x1024 ![0] bcast_S4112_S4112x1024_0 (coefA m c))
      (mulf (broadcastInDim S4112x1024 ![] bcast_S_S4112x1024 (constant S_ .f32 0x40000000#32)) (cenA m c)))
/-- The cotangent of the rows before the norm. -/
def dzA : FVec Ideal S4112x1024 .f32 :=
  addf (dcenA m c) (broadcastInDim S4112x1024 ![0] bcast_S4112_S4112x1024_0
    (Host.reduceAdd (Host.divf (shapeCast S4112x1 (Host.reduceAdd (Host.negf (dcenA m c)) (constant S_ .f32 0x00000000#32)
          reducesTo_S4112x1024_S4112_d1 h_S_) shapeCasts_S4112_S4112x1)
        (broadcastInDim S4112x1 ![] bcast_S_S4112x1 (constant S_ .f32 0x44800000#32)))
      (constant S_ .f32 0x00000000#32) reducesTo_S4112x1_S4112_d1 h_S_))

/-! ## Each of them at an index -/

/-- Token row `i` among all the rows. -/
def tok (i : Fin 4112) : Fin 4160 := ⟨48 + i.val, by omega⟩

/-- The token's row before the norm, and its cotangent. -/
abbrev zr (i : Fin 4112) : Fin 1024 → EReal := Ln.pre (h m c) (mg m c) (w m c) (tok i)

theorem z_at (i : Fin 4112) (j : Fin 1024) : zA m c (ix2 i j) = zr m c i j := by
  unfold zA
  pointwise [zr, Ln.pre, h, mg, w, Ln.alpha, tok]
theorem cen_at (i : Fin 4112) (j : Fin 1024) : cenA m c (ix2 i j) = Ln.cen (zr m c i) j := by
  unfold cenA
  pointwise
  simp only [z_at]
  rfl
theorem var_at (i : Fin 4112) : varA m c (ix2 i 0) = Ln.var (zr m c i) := by
  unfold varA
  pointwise
  simp only [cen_at]
  rfl
theorem ct_at (i : Fin 4112) (j : Fin 1024) : ctA m c (ix2 i j) = ct m c (tok i) j := by
  unfold ctA
  pointwise [ct, tok]
theorem up_at (i : Fin 4112) (j : Fin 1024) : upA m c (ix2 i j) = Ln.up (g m c) (ct m c (tok i)) j := by
  unfold upA
  pointwise
  rw [ct_at]
  rfl
theorem coef_at (i : Fin 4112) : coefA m c (ix1 i) = Ln.coef (zr m c i) (g m c) (ct m c (tok i)) := by
  unfold coefA
  pointwise
  simp only [Fin.sum_univ_one, cen_at, up_at, var_at]
  rfl
theorem dcen_at (i : Fin 4112) (j : Fin 1024) : dcenA m c (ix2 i j) = Ln.dcen (zr m c i) (g m c) (ct m c (tok i)) j := by
  unfold dcenA
  pointwise
  simp only [cen_at, up_at, var_at, coef_at, Ln.two_eq]
  unfold Ln.dcen
  rw [mul_left_comm, Ln.two_times, mul_comm (Ln.coef _ _ _)]
  rfl
theorem dz_at (i : Fin 4112) (j : Fin 1024) :
    dzA m c (ix2 i j) = Ln.dpre (h m c) (mg m c) (w m c) (g m c) (ct m c) (tok i) j := by
  unfold dzA
  pointwise
  simp only [Fin.sum_univ_one, dcen_at]
  unfold Ln.dpre
  rw [Ln.live_token (ct m c) (tok i) (Nat.le_add_right _ _)]
  unfold Ln.dz
  simp only [zero_sub]
  rfl

/-! ## The five results -/

/-- A sum over all the rows whose padding rows give nothing is the sum over the tokens' rows. -/
theorem sum_tok (f : Fin 4160 → EReal) (hf : ∀ i : Fin 4160, i.val < 48 → f i = 0) : ∑ i, f i = ∑ i, f (tok i) := by
  refine (Fin.sum_univ_add (a := 48) (b := 4112) f).trans ?_
  rw [Finset.sum_eq_zero fun i _ => hf _ i.isLt, zero_add]
  rfl

theorem tok_sub (n : Fin 4160) (hn : 48 ≤ n.val) : tok ⟨n.val - 48, by omega⟩ = n :=
  Fin.ext (show 48 + (n.val - 48) = n.val by omega)

theorem out0 : res_main_v70 m c
    = (fun i => Ln.dh (h m c) (mg m c) (w m c) (g m c) (ct m c) (i 1) (i 2) : S1x4160x1024.Idx → EReal) := by
  have e : res_main_v70 m c = broadcastInDim S1x4160x1024 ![1, 2] bcast_S4160x1024_S1x4160x1024_1_2
      (pad S4160x1024 ![48, 0] ![0, 0] ![0, 0]
        (mulf (broadcastInDim S4112x1024 ![] bcast_S_S4112x1024 (constant S_ .f32 0x3FD744FD#32)) (dzA m c))
        (constant (F := Ideal) S_ .f32 0x00000000#32) pads_S4112x1024_S4160x1024_4800_000 h_S_) := rfl
  rw [e]
  funext i
  obtain ⟨o, n, k, rfl⟩ : ∃ (o : Fin 1) (n : Fin 4160) (k : Fin 1024), i = ix3 o n k := ⟨i 0, i 1, i 2, eq_ix3 i⟩
  pointwise
  by_cases hn : 48 ≤ n.val
  · rw [dif_pos ⟨hn, by omega⟩, dz_at, tok_sub n hn]
    rfl
  · rw [dif_neg fun hh => hn hh.1]
    unfold Ln.dh
    rw [Ln.dpre_pad _ _ _ _ _ n (by omega), mul_zero]

theorem out1 : res_main_v71 m c
    = (fun i => Ln.dmg (h m c) (mg m c) (w m c) (g m c) (ct m c) (i 1) (i 2) : S1x4160x1024.Idx → EReal) := by
  have e : res_main_v71 m c = broadcastInDim S1x4160x1024 ![1, 2] bcast_S4160x1024_S1x4160x1024_1_2
      (pad S4160x1024 ![48, 0] ![0, 0] ![0, 0]
        (Host.dotGeneral (F := Ideal) (φ₁ := .f32) (φ₂ := .f32) dot_S4112x1024_S1024x1024_S4112x1024_1_1_0_0_n_n none (dzA m c)
          (m ((c.tc : Thread nD τ).loc main_arg2)))
        (constant (F := Ideal) S_ .f32 0x00000000#32) pads_S4112x1024_S4160x1024_4800_000 h_S_) := rfl
  rw [e]
  funext i
  obtain ⟨o, n, k, rfl⟩ : ∃ (o : Fin 1) (n : Fin 4160) (k : Fin 1024), i = ix3 o n k := ⟨i 0, i 1, i 2, eq_ix3 i⟩
  pointwise
  by_cases hn : 48 ≤ n.val
  · rw [dif_pos ⟨hn, by omega⟩]
    simp only [dz_at, tok_sub n hn]
    rfl
  · rw [dif_neg fun hh => hn hh.1]
    unfold Ln.dmg
    simp only [Ln.dpre_pad _ _ _ _ _ n (by omega), zero_mul, Finset.sum_const_zero]

theorem out2 : res_main_v72 m c
    = (fun i => Ln.dw (h m c) (mg m c) (w m c) (g m c) (ct m c) (i 1) (i 2) : S1x1024x1024.Idx → EReal) := by
  have e : res_main_v72 m c = broadcastInDim S1x1024x1024 ![1, 2] bcast_S1024x1024_S1x1024x1024_1_2
      (transpose S1024x1024 [1, 0]
        (Host.dotGeneral (F := Ideal) (φ₁ := .f32) (φ₂ := .f32) dot_S4112x1024_S4112x1024_S1024x1024_0_0_1_1_n_n none (dzA m c)
          (extractStridedSlice S4112x1024 ![48, 0] (m ((c.tc : Thread nD τ).loc main_arg1)) slices_S4160x1024_S4112x1024_48_0))
        transposes_S1024x1024_S1024x1024_1_0) := rfl
  rw [e]
  funext i
  obtain ⟨o, n, k, rfl⟩ : ∃ (o : Fin 1) (n : Fin 1024) (k : Fin 1024), i = ix3 o n k := ⟨i 0, i 1, i 2, eq_ix3 i⟩
  pointwise
  unfold Ln.dw
  rw [sum_tok _ fun p hp => by rw [Ln.dpre_pad _ _ _ _ _ p hp, mul_zero]]
  refine Finset.sum_congr rfl fun p _ => ?_
  rw [dz_at, mul_comm]
  rfl

theorem out3 : res_main_v73 m c
    = (fun i => Ln.dg (h m c) (mg m c) (w m c) (ct m c) (i 2) : S1x1x1024.Idx → EReal) := by
  have e : res_main_v73 m c = broadcastInDim S1x1x1024 ![1, 2] bcast_S1x1024_S1x1x1024_1_2
      (shapeCast S1x1024 (Host.reduceAdd (mulf (mulf (cenA m c)
            (broadcastInDim S4112x1024 ![0, 1] bcast_S4112x1_S4112x1024_0_1 (Host.rsqrt (varA m c)))) (ctA m c))
          (constant (F := Ideal) S_ .f32 0x00000000#32) reducesTo_S4112x1024_S1024_d0 h_S_) shapeCasts_S1024_S1x1024) := rfl
  rw [e]
  funext i
  obtain ⟨o, n, k, rfl⟩ : ∃ (o : Fin 1) (n : Fin 1) (k : Fin 1024), i = ix3 o n k := ⟨i 0, i 1, i 2, eq_ix3 i⟩
  pointwise
  unfold Ln.dg
  rw [sum_tok _ fun p hp => by rw [Ln.live_pad _ p hp, mul_zero]]
  refine Finset.sum_congr rfl fun p _ => ?_
  rw [cen_at, var_at, ct_at, Ln.live_token _ (tok p) (Nat.le_add_right _ _)]
  rfl

theorem out4 : (broadcastInDim S1x1x1024 ![1, 2] bcast_S1x1024_S1x1x1024_1_2 (shapeCast S1x1024 (Host.reduceAdd (ctA m c)
      (constant (F := Ideal) S_ .f32 0x00000000#32) reducesTo_S4112x1024_S1024_d0 h_S_) shapeCasts_S1024_S1x1024) : FVec Ideal S1x1x1024 .f32)
    = (fun i => Ln.db (ct m c) (i 2) : S1x1x1024.Idx → EReal) := by
  funext i
  obtain ⟨o, n, k, rfl⟩ : ∃ (o : Fin 1) (n : Fin 1) (k : Fin 1024), i = ix3 o n k := ⟨i 0, i 1, i 2, eq_ix3 i⟩
  pointwise
  unfold Ln.db
  rw [sum_tok _ fun p hp => by rw [Ln.live_pad _ p hp]]
  refine Finset.sum_congr rfl fun p _ => ?_
  rw [ct_at, Ln.live_token _ (tok p) (Nat.le_add_right _ _)]

/-- Every execution of the reference ends with the five specified cotangents and its arguments kept. -/
theorem run :
    θ_run defs (onTc (τ := τ) (main (F := Ideal))) ⟨m, fun _ => 0, ρ⟩ fun r => ∀ c : Dev nD,
      r.2.mem ((c.tc : Thread nD τ).loc main_v70)
        = (fun i => Ln.dh (h m c) (mg m c) (w m c) (g m c) (ct m c) (i 1) (i 2) : S1x4160x1024.Idx → EReal)
      ∧ r.2.mem ((c.tc : Thread nD τ).loc main_v71)
        = (fun i => Ln.dmg (h m c) (mg m c) (w m c) (g m c) (ct m c) (i 1) (i 2) : S1x4160x1024.Idx → EReal)
      ∧ r.2.mem ((c.tc : Thread nD τ).loc main_v72)
        = (fun i => Ln.dw (h m c) (mg m c) (w m c) (g m c) (ct m c) (i 1) (i 2) : S1x1024x1024.Idx → EReal)
      ∧ r.2.mem ((c.tc : Thread nD τ).loc main_v73)
        = (fun i => Ln.dg (h m c) (mg m c) (w m c) (ct m c) (i 2) : S1x1x1024.Idx → EReal)
      ∧ r.2.mem ((c.tc : Thread nD τ).loc main_v74) = (fun i => Ln.db (ct m c) (i 2) : S1x1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.LnOutRefIdeal.Value.run m ρ)
  obtain ⟨h0, h1, h2, h3, h4, hk⟩ := h c
  exact ⟨h0.trans (out0 m c), h1.trans (out1 m c), h2.trans (out2 m c), h3.trans (out3 m c), h4.trans (out4 m c), hk⟩

end Cert.LnOutRefIdeal.Ln

end
-- ==== Proof.S5PostSpec.lean ====
/-
  The output of the S5 branch and its gradient, written at an index of the extended reals. A row `v = y + d u` goes through the
  tanh form of the gelu, is gated by the logistic of its own projection, and by the silu of the row `z`.
-/
module

public import Idealize.ShloMosaic.Lib.Pointwise
public import Idealize.ShloMosaic.Lib.IdealHost

@[expose] public section

noncomputable section

namespace Cert.S5Post

open Idealize.ShloMosaic

/-- The gelu's constants 1/2, 0.044715, √(2/π) and 3, as the programs' own f32 constants. -/
def half : EReal := Ideal.ofBits .f32 0x3F000000#32
def cube : EReal := Ideal.ofBits .f32 0x3D372713#32
def slope : EReal := Ideal.ofBits .f32 0x3F4C422A#32
def three : EReal := Ideal.ofBits .f32 0x40400000#32

/-- The tanh inside the gelu of `v`, the share of `v` it lets through, and the gelu. -/
def th (v : EReal) : EReal := Ideal.tanh (slope * (v + cube * (v * (v * v))))
def pass (v : EReal) : EReal := half * (1 + th v)
def gelu (v : EReal) : EReal := v * pass v

/-- The gelu's cotangent for the cotangent `g` of its value. -/
def dgelu (v g : EReal) : EReal :=
  g * pass v + slope * (half * (v * g) * ((1 + th v) * (1 - th v)))
    + cube * (slope * (half * (v * g) * ((1 + th v) * (1 - th v)))) * (three * (v * v))

variable {L D : Nat} (y u z : Fin L → Fin D → EReal) (d : Fin D → EReal) (w : Fin D → Fin D → EReal) (b : Fin D → EReal)
  (ct : Fin L → Fin D → EReal)

/-- The row before the gelu, the gelu, the gate of its projection and the gated row. -/
def pre (i : Fin L) (j : Fin D) : EReal := y i j + d j * u i j
def act (i : Fin L) (j : Fin D) : EReal := gelu (pre y u d i j)
def gate (i : Fin L) (j : Fin D) : EReal := Ideal.logistic (∑ k, act y u d i k * w k j + b j)
def out (i : Fin L) (j : Fin D) : EReal := act y u d i j * gate y u d w b i j

/-- The branch's output: the gated row through the silu of `z`. -/
def fwd (i : Fin L) (j : Fin D) : EReal := out y u d w b i j * (z i j * Ideal.logistic (z i j))

/-- The cotangents of the gated row, of the projection, of the gelu and of the row before it. -/
def dout (i : Fin L) (j : Fin D) : EReal := ct i j * (z i j * Ideal.logistic (z i j))
def dproj (i : Fin L) (j : Fin D) : EReal :=
  act y u d i j * dout z ct i j * (gate y u d w b i j * (1 - gate y u d w b i j))
def dact (i : Fin L) (j : Fin D) : EReal :=
  dout z ct i j * gate y u d w b i j + ∑ k, dproj y u z d w b ct i k * w j k
def dpre (i : Fin L) (j : Fin D) : EReal := dgelu (pre y u d i j) (dact y u z d w b ct i j)

/-- The cotangents of `u`, of `z`, of the scale, of the projection's weights and of its shift; that of `y` is `dpre`. -/
def du (i : Fin L) (j : Fin D) : EReal := d j * dpre y u z d w b ct i j
def dz (i : Fin L) (j : Fin D) : EReal :=
  out y u d w b i j * ct i j * Ideal.logistic (z i j)
    + z i j * (out y u d w b i j * ct i j) * (Ideal.logistic (z i j) * (1 - Ideal.logistic (z i j)))
def dd (j : Fin D) : EReal := ∑ i, dpre y u z d w b ct i j * u i j
def dw (k j : Fin D) : EReal := ∑ i, act y u d i k * dproj y u z d w b ct i j
def db (j : Fin D) : EReal := ∑ i, dproj y u z d w b ct i j

end Cert.S5Post
-- ==== Proof.S5PostKernel.lean ====
/-
  What the backward call of the S5 branch's output leaves in its six result arrays. The rows come in ten tiles of 416, the last
  tile first; a tile's own three gradients are written to its rows, and the gradients of the scale, the weights and the shift are
  added up over the tiles in blocks that are zeroed at the first point and written back after the last.
-/
module

public import proofs.«01_k».proof.Proof.Gen.S5PostBwdIdeal.Value
public import proofs.«01_k».proof.Proof.S5PostSpec
public import proofs.«01_k».proof.Proof.Tiles
public import Idealize.ShloMosaic.Lib.Pipeline.ValueKit

@[expose] public section

set_option maxRecDepth 16384

noncomputable section

namespace Cert.S5PostBwdIdeal.Post

open Cert.S5PostBwdIdeal Cert.S5PostBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The scan's output, its input and the gating rows. -/
def y : Fin 4160 → Fin 768 → EReal := fun i j => m ((c : Thread nD τ).loc main_arg0) (ix2 i j)
def u : Fin 4160 → Fin 768 → EReal := fun i j => m ((c : Thread nD τ).loc main_arg1) (ix2 i j)
def z : Fin 4160 → Fin 768 → EReal := fun i j => m ((c : Thread nD τ).loc main_arg2) (ix2 i j)
/-- The scale of the input, the projection's weights and its shift. -/
def d : Fin 768 → EReal := fun j => m ((c : Thread nD τ).loc main_arg3) (ix2 0 j)
def w : Fin 768 → Fin 768 → EReal := fun k j => m ((c : Thread nD τ).loc main_arg4) (ix2 k j)
def b : Fin 768 → EReal := fun j => m ((c : Thread nD τ).loc main_arg5) (ix2 0 j)
/-- The cotangent of the branch's output. -/
def ct : Fin 4160 → Fin 768 → EReal := fun i j => m ((c : Thread nD τ).loc main_arg6) (ix2 i j)

/-- Where each window's block stands at point `t`: the row tiles move backwards with `t`, the rest stay. -/
theorem idx : ∀ t : Fin cfg0.N, win0_0.index t = ![9 - t.val, 0] ∧ win0_1.index t = ![9 - t.val, 0] ∧ win0_2.index t = ![9 - t.val, 0]
    ∧ win0_3.index t = ![0, 0] ∧ win0_4.index t = ![0, 0] ∧ win0_5.index t = ![0, 0] ∧ win0_6.index t = ![9 - t.val, 0]
    ∧ win0_7.index t = ![0, 9 - t.val, 0] ∧ win0_8.index t = ![0, 9 - t.val, 0] ∧ win0_9.index t = ![0, 9 - t.val, 0] :=
  (by decide +kernel : ∀ t : Fin grid0.N, _)

/-- Row `r` of the tile at point `t` among all the rows. -/
def row (t : Fin cfg0.N) (r : Fin 416) : Fin 4160 :=
  ⟨(9 - t.val) * 416 + r.val, by have := lt_of_lt_of_eq t.isLt N_0; omega⟩

/-! ## The blocks the body reads -/

theorem blk_y (t : Fin cfg0.N) (r : Fin 416) (j : Fin 768) : (iblk m c 0 t : Vec Ideal S416x768 .f32) (ix2 r j) = y m c (row t r) j := by
  unfold y row
  blk_simp [iblk]
  entry_read
  blk_ext [iblk, (idx t).1]
theorem blk_u (t : Fin cfg0.N) (r : Fin 416) (j : Fin 768) : (iblk m c 1 t : Vec Ideal S416x768 .f32) (ix2 r j) = u m c (row t r) j := by
  unfold u row
  blk_simp [iblk]
  entry_read
  blk_ext [iblk, (idx t).2.1]
theorem blk_z (t : Fin cfg0.N) (r : Fin 416) (j : Fin 768) : (iblk m c 2 t : Vec Ideal S416x768 .f32) (ix2 r j) = z m c (row t r) j := by
  unfold z row
  blk_simp [iblk]
  entry_read
  blk_ext [iblk, (idx t).2.2.1]
theorem blk_ct (t : Fin cfg0.N) (r : Fin 416) (j : Fin 768) : (iblk m c 6 t : Vec Ideal S416x768 .f32) (ix2 r j) = ct m c (row t r) j := by
  unfold ct row
  blk_simp [iblk]
  entry_read
  blk_ext [iblk, (idx t).2.2.2.2.2.2.1]
theorem blk_d (t : Fin cfg0.N) (j : Fin 768) : (iblk m c 3 t : Vec Ideal S1x768 .f32) (ix2 0 j) = d m c j := by
  unfold d
  blk_simp [iblk]
  entry_read
  blk_ext [iblk, (idx t).2.2.2.1]
theorem blk_b (t : Fin cfg0.N) (j : Fin 768) : (iblk m c 5 t : Vec Ideal S1x768 .f32) (ix2 0 j) = b m c j := by
  unfold b
  blk_simp [iblk]
  entry_read
  blk_ext [iblk, (idx t).2.2.2.2.2.1]
theorem blk_w (t : Fin cfg0.N) (k j : Fin 768) : (iblk m c 4 t : Vec Ideal S768x768 .f32) (ix2 k j) = w m c k j := by
  unfold w
  blk_simp [iblk]
  entry_read
  blk_ext [iblk, (idx t).2.2.2.2.1]

/-! ## What the body computes of its blocks, at an index -/

section Payloads
variable (t : Fin cfg0.N) (r : Fin 416) (j : Fin 768)

theorem pay_pre : k0_pay4 (iblk m c 0 t) (iblk m c 1 t) (iblk m c 3 t) (ix2 r j) = S5Post.pre (y m c) (u m c) (d m c) (row t r) j := by
  unfold k0_pay4
  pointwise
  rw [blk_y, blk_u, blk_d]
  rfl

theorem pay_sq : k0_pay5 (iblk m c 0 t) (iblk m c 1 t) (iblk m c 3 t) (ix2 r j) = S5Post.three * ((S5Post.pre (y m c) (u m c) (d m c) (row t r) j) * (S5Post.pre (y m c) (u m c) (d m c) (row t r) j)) := by
  unfold k0_pay5
  pointwise
  rw [pay_pre]
  rfl

theorem pay_th : k0_pay6 (iblk m c 0 t) (iblk m c 1 t) (iblk m c 3 t) (ix2 r j) = S5Post.th (S5Post.pre (y m c) (u m c) (d m c) (row t r) j) := by
  unfold k0_pay6
  pointwise
  rw [pay_pre]
  rfl

theorem pay_dth : k0_pay7 (iblk m c 0 t) (iblk m c 1 t) (iblk m c 3 t) (ix2 r j) = (1 + S5Post.th (S5Post.pre (y m c) (u m c) (d m c) (row t r) j)) * (1 - S5Post.th (S5Post.pre (y m c) (u m c) (d m c) (row t r) j)) := by
  unfold k0_pay7
  pointwise
  rw [pay_th]

theorem pay_pass : k0_pay8 (iblk m c 0 t) (iblk m c 1 t) (iblk m c 3 t) (ix2 r j) = S5Post.pass (S5Post.pre (y m c) (u m c) (d m c) (row t r) j) := by
  unfold k0_pay8
  pointwise
  rw [pay_th]
  rfl

theorem pay_act : k0_pay9 (iblk m c 0 t) (iblk m c 1 t) (iblk m c 3 t) (ix2 r j) = S5Post.act (y m c) (u m c) (d m c) (row t r) j := by
  unfold k0_pay9
  pointwise
  rw [pay_pre, pay_pass]
  rfl

theorem pay_act' : k0_pay10 (iblk m c 0 t) (iblk m c 1 t) (iblk m c 3 t) (ix2 r j) = S5Post.act (y m c) (u m c) (d m c) (row t r) j := by
  unfold k0_pay10
  pointwise
  rw [pay_act]

theorem pay_gate : k0_pay12 (iblk m c 5 t) (k0_pay10 (iblk m c 0 t) (iblk m c 1 t) (iblk m c 3 t)) (k0_pay11 (iblk m c 4 t)) (constant S416x768 FTy.f32 0#32) (ix2 r j)
    = S5Post.gate (y m c) (u m c) (d m c) (w m c) (b m c) (row t r) j := by
  unfold k0_pay12
  pointwise [k0_pay11]
  simp only [pay_act', blk_w, blk_b]
  rfl

theorem pay_sig : k0_pay13 (iblk m c 2 t) (ix2 r j) = Ideal.logistic (z m c (row t r) j) := by
  unfold k0_pay13
  pointwise
  rw [blk_z]

theorem pay_dout : k0_pay14 (iblk m c 2 t) (iblk m c 6 t) (ix2 r j) = S5Post.dout (z m c) (ct m c) (row t r) j := by
  unfold k0_pay14
  pointwise
  rw [pay_sig, blk_z, blk_ct]
  rfl

theorem pay_dz : k0_pay15 (iblk m c 2 t) (iblk m c 5 t) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t) (ix2 r j)
    = S5Post.dz (y m c) (u m c) (z m c) (d m c) (w m c) (b m c) (ct m c) (row t r) j := by
  unfold k0_pay15
  pointwise
  rw [pay_sig, pay_act, pay_gate, blk_z, blk_ct]
  rfl

theorem pay_dproj : k0_pay16 (iblk m c 2 t) (iblk m c 5 t) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t) (ix2 r j)
    = S5Post.dproj (y m c) (u m c) (z m c) (d m c) (w m c) (b m c) (ct m c) (row t r) j := by
  unfold k0_pay16
  pointwise
  rw [pay_act, pay_dout, pay_gate]
  rfl

theorem pay_dpre : k0_pay19 (iblk m c 2 t) (iblk m c 4 t) (iblk m c 5 t) (k0_pay4 (iblk m c 0 t) (iblk m c 1 t) (iblk m c 3 t)) (k0_pay5 (iblk m c 0 t) (iblk m c 1 t) (iblk m c 3 t))
        (k0_pay7 (iblk m c 0 t) (iblk m c 1 t) (iblk m c 3 t)) (k0_pay8 (iblk m c 0 t) (iblk m c 1 t) (iblk m c 3 t)) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t) (ix2 r j)
    = S5Post.dpre (y m c) (u m c) (z m c) (d m c) (w m c) (b m c) (ct m c) (row t r) j := by
  unfold k0_pay19
  pointwise
  simp only [pay_dout, pay_gate, pay_dproj, blk_w, pay_pre, pay_sq, pay_dth, pay_pass]
  rfl

theorem pay_du : k0_pay20 (iblk m c 2 t) (iblk m c 3 t) (iblk m c 4 t) (iblk m c 5 t) (k0_pay4 (iblk m c 0 t) (iblk m c 1 t) (iblk m c 3 t)) (k0_pay5 (iblk m c 0 t) (iblk m c 1 t) (iblk m c 3 t))
        (k0_pay7 (iblk m c 0 t) (iblk m c 1 t) (iblk m c 3 t)) (k0_pay8 (iblk m c 0 t) (iblk m c 1 t) (iblk m c 3 t)) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t) (ix2 r j)
    = S5Post.du (y m c) (u m c) (z m c) (d m c) (w m c) (b m c) (ct m c) (row t r) j := by
  unfold k0_pay20
  pointwise
  rw [pay_dpre, blk_d]
  rfl

end Payloads

/-! ## The three gradients by rows -/

theorem final7 : (dats m 0 c).arrAt 7 cfg0.N
    = (fun i => S5Post.dpre (y m c) (u m c) (z m c) (d m c) (w m c) (b m c) (ct m c) (i 1) (i 2) : S1x4160x768.Idx → EReal) := by
  refine (dats m 0 c).arrAt_eq_of_covers 7 _ (by decide +kernel) fun t hf y' => ?_
  have e : ((cfg0.win 7).blk t).view.emb y' = (ix3 0 (row t (y' 1)) (y' 2) : S1x4160x768.Idx) := by
    blk_ext [row, (idx t).2.2.2.2.2.2.2.1]
  rw [e]
  blk_simp
  rw [after0_7]
  have key : ∀ X : Vec Ideal S1x416x768 .f32, X = k0_pay22 (k0_pay19 (iblk m c 2 t) (iblk m c 4 t) (iblk m c 5 t) (k0_pay4 (iblk m c 0 t) (iblk m c 1 t) (iblk m c 3 t)) (k0_pay5 (iblk m c 0 t) (iblk m c 1 t) (iblk m c 3 t))
        (k0_pay7 (iblk m c 0 t) (iblk m c 1 t) (iblk m c 3 t)) (k0_pay8 (iblk m c 0 t) (iblk m c 1 t) (iblk m c 3 t)) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t)) →
      ∀ (r : Fin 416) (j : Fin 768), X (ix3 0 r j) = S5Post.dpre (y m c) (u m c) (z m c) (d m c) (w m c) (b m c) (ct m c) (row t r) j := by
    intro X hX r j
    rw [hX]
    unfold k0_pay22
    pointwise
    rw [pay_dpre]
  have hy : y' = (ix3 0 (y' 1) (y' 2) : S1x416x768.Idx) := by
    rw [eq_ix3 y']; congr 1; exact Subsingleton.elim _ _
  refine (congrArg _ hy).trans (key _ ?_ _ _)
  by_cases h : t.val % 10 = 0
  · rw [outsAt0_A m c t h]; frame_out
  · rw [outsAt0_B m c t h]; frame_out

theorem final8 : (dats m 0 c).arrAt 8 cfg0.N
    = (fun i => S5Post.du (y m c) (u m c) (z m c) (d m c) (w m c) (b m c) (ct m c) (i 1) (i 2) : S1x4160x768.Idx → EReal) := by
  refine (dats m 0 c).arrAt_eq_of_covers 8 _ (by decide +kernel) fun t hf y' => ?_
  have e : ((cfg0.win 8).blk t).view.emb y' = (ix3 0 (row t (y' 1)) (y' 2) : S1x4160x768.Idx) := by
    blk_ext [row, (idx t).2.2.2.2.2.2.2.2.1]
  rw [e]
  blk_simp
  rw [after0_8]
  have key : ∀ X : Vec Ideal S1x416x768 .f32, X = k0_pay23 (k0_pay20 (iblk m c 2 t) (iblk m c 3 t) (iblk m c 4 t) (iblk m c 5 t) (k0_pay4 (iblk m c 0 t) (iblk m c 1 t) (iblk m c 3 t)) (k0_pay5 (iblk m c 0 t) (iblk m c 1 t) (iblk m c 3 t))
        (k0_pay7 (iblk m c 0 t) (iblk m c 1 t) (iblk m c 3 t)) (k0_pay8 (iblk m c 0 t) (iblk m c 1 t) (iblk m c 3 t)) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t)) →
      ∀ (r : Fin 416) (j : Fin 768), X (ix3 0 r j) = S5Post.du (y m c) (u m c) (z m c) (d m c) (w m c) (b m c) (ct m c) (row t r) j := by
    intro X hX r j
    rw [hX]
    unfold k0_pay23
    pointwise
    rw [pay_du]
  have hy : y' = (ix3 0 (y' 1) (y' 2) : S1x416x768.Idx) := by
    rw [eq_ix3 y']; congr 1; exact Subsingleton.elim _ _
  refine (congrArg _ hy).trans (key _ ?_ _ _)
  by_cases h : t.val % 10 = 0
  · rw [outsAt0_A m c t h]; frame_out
  · rw [outsAt0_B m c t h]; frame_out

theorem final9 : (dats m 0 c).arrAt 9 cfg0.N
    = (fun i => S5Post.dz (y m c) (u m c) (z m c) (d m c) (w m c) (b m c) (ct m c) (i 1) (i 2) : S1x4160x768.Idx → EReal) := by
  refine (dats m 0 c).arrAt_eq_of_covers 9 _ (by decide +kernel) fun t hf y' => ?_
  have e : ((cfg0.win 9).blk t).view.emb y' = (ix3 0 (row t (y' 1)) (y' 2) : S1x4160x768.Idx) := by
    blk_ext [row, (idx t).2.2.2.2.2.2.2.2.2]
  rw [e]
  blk_simp
  rw [after0_9]
  have key : ∀ X : Vec Ideal S1x416x768 .f32, X = k0_pay24 (k0_pay15 (iblk m c 2 t) (iblk m c 5 t) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t)) →
      ∀ (r : Fin 416) (j : Fin 768), X (ix3 0 r j) = S5Post.dz (y m c) (u m c) (z m c) (d m c) (w m c) (b m c) (ct m c) (row t r) j := by
    intro X hX r j
    rw [hX]
    unfold k0_pay24
    pointwise
    rw [pay_dz]
  have hy : y' = (ix3 0 (y' 1) (y' 2) : S1x416x768.Idx) := by
    rw [eq_ix3 y']; congr 1; exact Subsingleton.elim _ _
  refine (congrArg _ hy).trans (key _ ?_ _ _)
  by_cases h : t.val % 10 = 0
  · rw [outsAt0_A m c t h]; frame_out
  · rw [outsAt0_B m c t h]; frame_out

/-! ## The gradients added up over the rows -/

/-- A row's share of the scale's cotangent. -/
def ddRow (j : Fin 768) (i : Fin 4160) : EReal := S5Post.dpre (y m c) (u m c) (z m c) (d m c) (w m c) (b m c) (ct m c) i j * u m c i j

theorem dd_step (t : Fin cfg0.N) (acc : Vec Ideal S1x1x768 .f32) (j : Fin 768) :
    k0_pay25 (k0_pay21 (iblk m c 1 t) (iblk m c 2 t) (iblk m c 4 t) (iblk m c 5 t) (k0_pay4 (iblk m c 0 t) (iblk m c 1 t) (iblk m c 3 t)) (k0_pay5 (iblk m c 0 t) (iblk m c 1 t) (iblk m c 3 t))
        (k0_pay7 (iblk m c 0 t) (iblk m c 1 t) (iblk m c 3 t)) (k0_pay8 (iblk m c 0 t) (iblk m c 1 t) (iblk m c 3 t)) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t)) acc (ix3 0 0 j)
      = acc (ix3 0 0 j) + ∑ r : Fin 416, ddRow m c j (row t r) := by
  unfold k0_pay25 k0_pay21
  pointwise
  simp only [pay_dpre, blk_u]
  rfl

theorem dd_first (t : Fin cfg0.N) (h : t.val % 10 = 0) (j : Fin 768) :
    (outsAt0 m c t.val t.isLt).2.2.2.1 (ix3 0 0 j) = 0 + ∑ r : Fin 416, ddRow m c j (row t r) := by
  rw [outsAt0_A m c t h]; frame_out
  rw [dd_step]
  congr 1
  pointwise [k0_pay1]

theorem dd_next (t : Fin cfg0.N) (h : ¬t.val % 10 = 0) (j : Fin 768) :
    (outsAt0 m c t.val t.isLt).2.2.2.1 (ix3 0 0 j)
      = (outsAt0 m c (t.val - 1) (Nat.lt_of_le_of_lt (Nat.sub_le _ _) t.isLt)).2.2.2.1 (ix3 0 0 j)
        + ∑ r : Fin 416, ddRow m c j (row t r) := by
  rw [outsAt0_B m c t h]; frame_out
  rw [dd_step]

theorem final10 : (dats m 0 c).arrAt 10 cfg0.N
    = (fun i => S5Post.dd (y m c) (u m c) (z m c) (d m c) (w m c) (b m c) (ct m c) (i 2) : S1x1x768.Idx → EReal) := by
  refine (dats m 0 c).arrAt_eq_of_after_last 10 t0_9 (by decide +kernel) _ fun y' => ?_
  blk_simp
  rw [after0_10]
  have hy : y' = (ix3 0 0 (y' 2) : S1x1x768.Idx) := by
    rw [eq_ix3 y']; congr 1 <;> exact Subsingleton.elim _ _
  exact (congrArg _ hy).trans ((Tiles.kept_sum N_0 (fun t => ∑ r : Fin 416, ddRow m c (y' 2) (row t r))
    (fun n h => (outsAt0 m c n h).2.2.2.1 (ix3 0 0 (y' 2))) (fun t h => dd_first m c t h _) (fun t h => dd_next m c t h _) t0_9
    (by decide +kernel)).trans (Tiles.sum_rows_rev N_0 rfl row (fun _ _ => rfl) (ddRow m c (y' 2))))

/-- A row's share of the weights' cotangent. -/
def dwRow (k j : Fin 768) (i : Fin 4160) : EReal := S5Post.act (y m c) (u m c) (d m c) i k * S5Post.dproj (y m c) (u m c) (z m c) (d m c) (w m c) (b m c) (ct m c) i j

theorem dw_step (t : Fin cfg0.N) (acc : Vec Ideal S1x768x768 .f32) (k j : Fin 768) :
    k0_pay26 (k0_pay18 (iblk m c 2 t) (iblk m c 5 t) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t)) acc (ix3 0 k j)
      = acc (ix3 0 k j) + ∑ r : Fin 416, dwRow m c k j (row t r) := by
  unfold k0_pay26 k0_pay18
  pointwise
  simp only [pay_act, pay_dproj]
  rfl

theorem dw_first (t : Fin cfg0.N) (h : t.val % 10 = 0) (k j : Fin 768) :
    (outsAt0 m c t.val t.isLt).2.2.2.2.1 (ix3 0 k j) = 0 + ∑ r : Fin 416, dwRow m c k j (row t r) := by
  rw [outsAt0_A m c t h]; frame_out
  rw [dw_step]
  congr 1
  pointwise [k0_pay2]

theorem dw_next (t : Fin cfg0.N) (h : ¬t.val % 10 = 0) (k j : Fin 768) :
    (outsAt0 m c t.val t.isLt).2.2.2.2.1 (ix3 0 k j)
      = (outsAt0 m c (t.val - 1) (Nat.lt_of_le_of_lt (Nat.sub_le _ _) t.isLt)).2.2.2.2.1 (ix3 0 k j)
        + ∑ r : Fin 416, dwRow m c k j (row t r) := by
  rw [outsAt0_B m c t h]; frame_out
  rw [dw_step]

theorem final11 : (dats m 0 c).arrAt 11 cfg0.N
    = (fun i => S5Post.dw (y m c) (u m c) (z m c) (d m c) (w m c) (b m c) (ct m c) (i 1) (i 2) : S1x768x768.Idx → EReal) := by
  refine (dats m 0 c).arrAt_eq_of_after_last 11 t0_9 (by decide +kernel) _ fun y' => ?_
  blk_simp
  rw [after0_11]
  have hy : y' = (ix3 0 (y' 1) (y' 2) : S1x768x768.Idx) := by
    rw [eq_ix3 y']; congr 1; exact Subsingleton.elim _ _
  exact (congrArg _ hy).trans ((Tiles.kept_sum N_0 (fun t => ∑ r : Fin 416, dwRow m c (y' 1) (y' 2) (row t r))
    (fun n h => (outsAt0 m c n h).2.2.2.2.1 (ix3 0 (y' 1) (y' 2))) (fun t h => dw_first m c t h _ _) (fun t h => dw_next m c t h _ _) t0_9
    (by decide +kernel)).trans (Tiles.sum_rows_rev N_0 rfl row (fun _ _ => rfl) (dwRow m c (y' 1) (y' 2))))

/-- A row's share of the shift's cotangent. -/
def dbRow (j : Fin 768) (i : Fin 4160) : EReal := S5Post.dproj (y m c) (u m c) (z m c) (d m c) (w m c) (b m c) (ct m c) i j

theorem db_step (t : Fin cfg0.N) (acc : Vec Ideal S1x1x768 .f32) (j : Fin 768) :
    k0_pay27 (k0_pay17 (iblk m c 2 t) (iblk m c 5 t) (k0_pay9 (iblk m c 0 t) (iblk m c 1 t) (iblk m c 3 t)) (k0_pay10 (iblk m c 0 t) (iblk m c 1 t) (iblk m c 3 t))
        (k0_pay11 (iblk m c 4 t)) (constant S416x768 FTy.f32 0#32) (iblk m c 6 t)) acc (ix3 0 0 j)
      = acc (ix3 0 0 j) + ∑ r : Fin 416, dbRow m c j (row t r) := by
  unfold k0_pay27 k0_pay17
  pointwise
  simp only [pay_dproj]
  rfl

theorem db_first (t : Fin cfg0.N) (h : t.val % 10 = 0) (j : Fin 768) :
    (outsAt0 m c t.val t.isLt).2.2.2.2.2 (ix3 0 0 j) = 0 + ∑ r : Fin 416, dbRow m c j (row t r) := by
  rw [outsAt0_A m c t h]; frame_out
  rw [db_step]
  congr 1
  pointwise [k0_pay3]

theorem db_next (t : Fin cfg0.N) (h : ¬t.val % 10 = 0) (j : Fin 768) :
    (outsAt0 m c t.val t.isLt).2.2.2.2.2 (ix3 0 0 j)
      = (outsAt0 m c (t.val - 1) (Nat.lt_of_le_of_lt (Nat.sub_le _ _) t.isLt)).2.2.2.2.2 (ix3 0 0 j)
        + ∑ r : Fin 416, dbRow m c j (row t r) := by
  rw [outsAt0_B m c t h]; frame_out
  rw [db_step]

theorem final12 : (dats m 0 c).arrAt 12 cfg0.N
    = (fun i => S5Post.db (y m c) (u m c) (z m c) (d m c) (w m c) (b m c) (ct m c) (i 2) : S1x1x768.Idx → EReal) := by
  refine (dats m 0 c).arrAt_eq_of_after_last 12 t0_9 (by decide +kernel) _ fun y' => ?_
  blk_simp
  rw [after0_12]
  have hy : y' = (ix3 0 0 (y' 2) : S1x1x768.Idx) := by
    rw [eq_ix3 y']; congr 1 <;> exact Subsingleton.elim _ _
  exact (congrArg _ hy).trans ((Tiles.kept_sum N_0 (fun t => ∑ r : Fin 416, dbRow m c (y' 2) (row t r))
    (fun n h => (outsAt0 m c n h).2.2.2.2.2 (ix3 0 0 (y' 2))) (fun t h => db_first m c t h _) (fun t h => db_next m c t h _) t0_9
    (by decide +kernel)).trans (Tiles.sum_rows_rev N_0 rfl row (fun _ _ => rfl) (dbRow m c (y' 2))))

end Cert.S5PostBwdIdeal.Post

end
-- ==== Proof.S5PostReference.lean ====
/- The reference's run of the gradient of the S5 branch's output: each of its six result buffers, read at an index, is the
   specification's term. -/
module

public import proofs.«01_k».proof.Proof.Gen.S5PostRefIdeal.Run
public import proofs.«01_k».proof.Proof.S5PostSpec
public import Idealize.ShloMosaic.Lib.Pointwise
public import Idealize.ShloMosaic.Adequacy

@[expose] public section

set_option maxRecDepth 8192

noncomputable section

namespace Cert.S5PostRefIdeal.Post

open Cert.S5PostRefIdeal Cert.S5PostRefIdeal.Gen Cert.S5PostRefIdeal.Value Idealize.ShloMosaic Idealize.ShloMosaic.TcCoe
open Idealize.SL.Sem Idealize.ShloMosaic.Pointwise

variable (m : (ℓ : Loc nD τ sig) → Buf (Elt Ideal) ℓ) (ρ : Dev nD → PrngReg)

/-- The arguments as index functions. -/
def y (c : Dev nD) (i : Fin 4160) (j : Fin 768) : EReal := m ((c.tc : Thread nD τ).loc main_arg0) (ix2 i j)
def u (c : Dev nD) (i : Fin 4160) (j : Fin 768) : EReal := m ((c.tc : Thread nD τ).loc main_arg1) (ix2 i j)
def z (c : Dev nD) (i : Fin 4160) (j : Fin 768) : EReal := m ((c.tc : Thread nD τ).loc main_arg2) (ix2 i j)
def d (c : Dev nD) (j : Fin 768) : EReal := m ((c.tc : Thread nD τ).loc main_arg3) (ix2 0 j)
def w (c : Dev nD) (k j : Fin 768) : EReal := m ((c.tc : Thread nD τ).loc main_arg4) (ix2 k j)
def b (c : Dev nD) (j : Fin 768) : EReal := m ((c.tc : Thread nD τ).loc main_arg5) (ix2 0 j)
def ct (c : Dev nD) (i : Fin 4160) (j : Fin 768) : EReal := m ((c.tc : Thread nD τ).loc main_arg6) (ix2 i j)

variable (c : Dev nD)

/-! ## The arrays the reference goes through, each over the ones before -/

/-- The rows before the gelu. -/
def vA : FVec Ideal S4160x768 .f32 :=
  addf (m ((c.tc : Thread nD τ).loc main_arg0)) (mulf (broadcastInDim S4160x768 ![0, 1] bcast_S1x768_S4160x768_0_1 (m ((c.tc : Thread nD τ).loc main_arg3))) (m ((c.tc : Thread nD τ).loc main_arg1)))
/-- The gelu's tanh. -/
def thA : FVec Ideal S4160x768 .f32 :=
  Host.tanh (mulf (broadcastInDim S4160x768 ![] bcast_S_S4160x768 (constant S_ .f32 0x3F4C422A#32))
      (addf (vA m c) (mulf (broadcastInDim S4160x768 ![] bcast_S_S4160x768 (constant S_ .f32 0x3D372713#32)) (mulf (mulf (vA m c) (vA m c)) (vA m c)))))
/-- The share of a row the gelu lets through. -/
def passA : FVec Ideal S4160x768 .f32 :=
  mulf (broadcastInDim S4160x768 ![] bcast_S_S4160x768 (constant S_ .f32 0x3F000000#32)) (addf (broadcastInDim S4160x768 ![] bcast_S_S4160x768 (constant S_ .f32 0x3F800000#32)) (thA m c))
/-- The gelu. -/
def actA : FVec Ideal S4160x768 .f32 :=
  mulf (vA m c) (passA m c)
/-- The gate of the projected gelu. -/
def gateA : FVec Ideal S4160x768 .f32 :=
  Host.divf (broadcastInDim S4160x768 ![] bcast_S_S4160x768 (constant S_ .f32 0x3F800000#32))
    (addf (broadcastInDim S4160x768 ![] bcast_S_S4160x768 (constant S_ .f32 0x3F800000#32))
      (Host.exp (Host.negf (addf (Host.dotGeneral (F := Ideal) (φ₁ := .f32) (φ₂ := .f32)
        dot_S4160x768_S768x768_S4160x768_1_0_0_1_n_n none (actA m c) (m ((c.tc : Thread nD τ).loc main_arg4)))
        (broadcastInDim S4160x768 ![0, 1] bcast_S1x768_S4160x768_0_1 (m ((c.tc : Thread nD τ).loc main_arg5)))))))
/-- The logistic of the gating rows. -/
def szA : FVec Ideal S4160x768 .f32 :=
  Host.divf (broadcastInDim S4160x768 ![] bcast_S_S4160x768 (constant S_ .f32 0x3F800000#32))
    (addf (broadcastInDim S4160x768 ![] bcast_S_S4160x768 (constant S_ .f32 0x3F800000#32)) (Host.exp (Host.negf (m ((c.tc : Thread nD τ).loc main_arg2)))))
/-- The cotangent of the gated rows. -/
def doutA : FVec Ideal S4160x768 .f32 :=
  mulf (m ((c.tc : Thread nD τ).loc main_arg6)) (mulf (m ((c.tc : Thread nD τ).loc main_arg2)) (szA m c))
/-- The cotangent of the projection. -/
def dprojA : FVec Ideal S4160x768 .f32 :=
  mulf (mulf (actA m c) (doutA m c)) (mulf (gateA m c) (subf (broadcastInDim S4160x768 ![] bcast_S_S4160x768 (constant S_ .f32 0x3F800000#32)) (gateA m c)))
/-- The cotangent of the gelu. -/
def dactA : FVec Ideal S4160x768 .f32 :=
  addf (mulf (doutA m c) (gateA m c))
    (Host.dotGeneral (F := Ideal) (φ₁ := .f32) (φ₂ := .f32) dot_S4160x768_S768x768_S4160x768_1_1_0_0_n_n none (dprojA m c) (m ((c.tc : Thread nD τ).loc main_arg4)))
/-- The cotangent of the tanh's argument. -/
def innerA : FVec Ideal S4160x768 .f32 :=
  mulf (broadcastInDim S4160x768 ![] bcast_S_S4160x768 (constant S_ .f32 0x3F4C422A#32))
    (mulf (mulf (broadcastInDim S4160x768 ![] bcast_S_S4160x768 (constant S_ .f32 0x3F000000#32)) (mulf (vA m c) (dactA m c)))
      (mulf (addf (broadcastInDim S4160x768 ![] bcast_S_S4160x768 (constant S_ .f32 0x3F800000#32)) (thA m c)) (subf (broadcastInDim S4160x768 ![] bcast_S_S4160x768 (constant S_ .f32 0x3F800000#32)) (thA m c))))
/-- The cotangent of the rows before the gelu. -/
def dvA : FVec Ideal S4160x768 .f32 :=
  addf (addf (mulf (dactA m c) (passA m c)) (innerA m c))
    (mulf (mulf (broadcastInDim S4160x768 ![] bcast_S_S4160x768 (constant S_ .f32 0x3D372713#32)) (innerA m c)) (mulf (broadcastInDim S4160x768 ![] bcast_S_S4160x768 (constant S_ .f32 0x40400000#32)) (mulf (vA m c) (vA m c))))

/-! ## Each of them at an index -/

theorem v_at (i : Fin 4160) (j : Fin 768) : vA m c (ix2 i j) = S5Post.pre (y m c) (u m c) (d m c) i j := by
  unfold vA
  pointwise
  rfl
theorem th_at (i : Fin 4160) (j : Fin 768) : thA m c (ix2 i j) = S5Post.th (S5Post.pre (y m c) (u m c) (d m c) i j) := by
  unfold thA
  pointwise
  simp only [v_at]
  unfold S5Post.th
  rw [mul_comm (S5Post.pre _ _ _ i j) (_ * _)]
  rfl
theorem pass_at (i : Fin 4160) (j : Fin 768) : passA m c (ix2 i j) = S5Post.pass (S5Post.pre (y m c) (u m c) (d m c) i j) := by
  unfold passA
  pointwise
  rw [th_at]
  rfl
theorem act_at (i : Fin 4160) (j : Fin 768) : actA m c (ix2 i j) = S5Post.act (y m c) (u m c) (d m c) i j := by
  unfold actA
  pointwise
  rw [v_at, pass_at]
  rfl
theorem gate_at (i : Fin 4160) (j : Fin 768) : gateA m c (ix2 i j) = S5Post.gate (y m c) (u m c) (d m c) (w m c) (b m c) i j := by
  unfold gateA
  pointwise
  simp only [act_at]
  rfl
theorem sz_at (i : Fin 4160) (j : Fin 768) : szA m c (ix2 i j) = Ideal.logistic (z m c i j) := by
  unfold szA
  pointwise
  rfl
theorem dout_at (i : Fin 4160) (j : Fin 768) : doutA m c (ix2 i j) = S5Post.dout (z m c) (ct m c) i j := by
  unfold doutA
  pointwise
  rw [sz_at]
  rfl
theorem dproj_at (i : Fin 4160) (j : Fin 768) : dprojA m c (ix2 i j) = S5Post.dproj (y m c) (u m c) (z m c) (d m c) (w m c) (b m c) (ct m c) i j := by
  unfold dprojA
  pointwise
  rw [act_at, dout_at, gate_at]
  rfl
theorem dact_at (i : Fin 4160) (j : Fin 768) : dactA m c (ix2 i j) = S5Post.dact (y m c) (u m c) (z m c) (d m c) (w m c) (b m c) (ct m c) i j := by
  unfold dactA
  pointwise
  simp only [dout_at, gate_at, dproj_at]
  rfl
theorem inner_at (i : Fin 4160) (j : Fin 768) : innerA m c (ix2 i j) = S5Post.slope * (S5Post.half * ((S5Post.pre (y m c) (u m c) (d m c) i j) * S5Post.dact (y m c) (u m c) (z m c) (d m c) (w m c) (b m c) (ct m c) i j)
      * ((1 + S5Post.th (S5Post.pre (y m c) (u m c) (d m c) i j)) * (1 - S5Post.th (S5Post.pre (y m c) (u m c) (d m c) i j)))) := by
  unfold innerA
  pointwise
  rw [v_at, th_at, dact_at]
  rfl
theorem dv_at (i : Fin 4160) (j : Fin 768) : dvA m c (ix2 i j) = S5Post.dpre (y m c) (u m c) (z m c) (d m c) (w m c) (b m c) (ct m c) i j := by
  unfold dvA
  pointwise
  rw [v_at, dact_at, pass_at, inner_at]
  rfl

/-! ## The results -/

theorem out0 : res_main_v68 m c
    = (fun i => S5Post.dpre (y m c) (u m c) (z m c) (d m c) (w m c) (b m c) (ct m c) (i 1) (i 2) : S1x4160x768.Idx → EReal) := by
  have e : res_main_v68 m c = broadcastInDim S1x4160x768 ![1, 2] bcast_S4160x768_S1x4160x768_1_2 (dvA m c) := rfl
  rw [e]
  funext i
  obtain ⟨o, n, k, rfl⟩ : ∃ (o : Fin 1) (n : Fin 4160) (k : Fin 768), i = ix3 o n k := ⟨i 0, i 1, i 2, eq_ix3 i⟩
  pointwise
  exact dv_at m c n k

theorem out1 : res_main_v69 m c
    = (fun i => S5Post.du (y m c) (u m c) (z m c) (d m c) (w m c) (b m c) (ct m c) (i 1) (i 2) : S1x4160x768.Idx → EReal) := by
  have e : res_main_v69 m c = broadcastInDim S1x4160x768 ![1, 2] bcast_S4160x768_S1x4160x768_1_2 (mulf (broadcastInDim S4160x768 ![0, 1] bcast_S1x768_S4160x768_0_1 (m ((c.tc : Thread nD τ).loc main_arg3))) (dvA m c)) := rfl
  rw [e]
  funext i
  obtain ⟨o, n, k, rfl⟩ : ∃ (o : Fin 1) (n : Fin 4160) (k : Fin 768), i = ix3 o n k := ⟨i 0, i 1, i 2, eq_ix3 i⟩
  pointwise
  rw [dv_at]
  rfl

theorem out2 : res_main_v70 m c
    = (fun i => S5Post.dz (y m c) (u m c) (z m c) (d m c) (w m c) (b m c) (ct m c) (i 1) (i 2) : S1x4160x768.Idx → EReal) := by
  have e : res_main_v70 m c = broadcastInDim S1x4160x768 ![1, 2] bcast_S4160x768_S1x4160x768_1_2 (addf (mulf (mulf (mulf (actA m c) (gateA m c)) (m ((c.tc : Thread nD τ).loc main_arg6))) (szA m c))
      (mulf (mulf (m ((c.tc : Thread nD τ).loc main_arg2)) (mulf (mulf (actA m c) (gateA m c)) (m ((c.tc : Thread nD τ).loc main_arg6)))) (mulf (szA m c) (subf (broadcastInDim S4160x768 ![] bcast_S_S4160x768 (constant S_ .f32 0x3F800000#32)) (szA m c))))) := rfl
  rw [e]
  funext i
  obtain ⟨o, n, k, rfl⟩ : ∃ (o : Fin 1) (n : Fin 4160) (k : Fin 768), i = ix3 o n k := ⟨i 0, i 1, i 2, eq_ix3 i⟩
  pointwise
  rw [act_at, gate_at, sz_at]
  rfl

theorem out3 : res_main_v71 m c
    = (fun i => S5Post.dd (y m c) (u m c) (z m c) (d m c) (w m c) (b m c) (ct m c) (i 2) : S1x1x768.Idx → EReal) := by
  have e : res_main_v71 m c = broadcastInDim S1x1x768 ![1, 2] bcast_S1x768_S1x1x768_1_2 (shapeCast S1x768
      (Host.reduceAdd (mulf (dvA m c) (m ((c.tc : Thread nD τ).loc main_arg1))) (constant (F := Ideal) S_ .f32 0x00000000#32) reducesTo_S4160x768_S768_d0 h_S_) shapeCasts_S768_S1x768) := rfl
  rw [e]
  funext i
  obtain ⟨o, n, k, rfl⟩ : ∃ (o : Fin 1) (n : Fin 1) (k : Fin 768), i = ix3 o n k := ⟨i 0, i 1, i 2, eq_ix3 i⟩
  pointwise
  simp only [dv_at]
  rfl

theorem out4 : res_main_v72 m c
    = (fun i => S5Post.dw (y m c) (u m c) (z m c) (d m c) (w m c) (b m c) (ct m c) (i 1) (i 2) : S1x768x768.Idx → EReal) := by
  have e : res_main_v72 m c = broadcastInDim S1x768x768 ![1, 2] bcast_S768x768_S1x768x768_1_2 (transpose S768x768 [1, 0]
      (Host.dotGeneral (F := Ideal) (φ₁ := .f32) (φ₂ := .f32) dot_S4160x768_S4160x768_S768x768_0_0_1_1_n_n none (dprojA m c) (actA m c))
      transposes_S768x768_S768x768_1_0) := rfl
  rw [e]
  funext i
  obtain ⟨o, n, k, rfl⟩ : ∃ (o : Fin 1) (n : Fin 768) (k : Fin 768), i = ix3 o n k := ⟨i 0, i 1, i 2, eq_ix3 i⟩
  pointwise
  simp only [dproj_at, act_at]
  exact Finset.sum_congr rfl fun p _ => mul_comm _ _

theorem out5 : res_main_v73 m c
    = (fun i => S5Post.db (y m c) (u m c) (z m c) (d m c) (w m c) (b m c) (ct m c) (i 2) : S1x1x768.Idx → EReal) := by
  have e : res_main_v73 m c = broadcastInDim S1x1x768 ![1, 2] bcast_S1x768_S1x1x768_1_2 (shapeCast S1x768
      (Host.reduceAdd (dprojA m c) (constant (F := Ideal) S_ .f32 0x00000000#32) reducesTo_S4160x768_S768_d0 h_S_) shapeCasts_S768_S1x768) := rfl
  rw [e]
  funext i
  obtain ⟨o, n, k, rfl⟩ : ∃ (o : Fin 1) (n : Fin 1) (k : Fin 768), i = ix3 o n k := ⟨i 0, i 1, i 2, eq_ix3 i⟩
  pointwise
  simp only [dproj_at]
  rfl

/-- Every execution of the reference ends with the six specified cotangents and its arguments kept. -/
theorem run :
    θ_run defs (onTc (τ := τ) (main (F := Ideal))) ⟨m, fun _ => 0, ρ⟩ fun r => ∀ c : Dev nD,
      r.2.mem ((c.tc : Thread nD τ).loc main_v68)
        = (fun i => S5Post.dpre (y m c) (u m c) (z m c) (d m c) (w m c) (b m c) (ct m c) (i 1) (i 2) : S1x4160x768.Idx → EReal)
      ∧ r.2.mem ((c.tc : Thread nD τ).loc main_v69)
        = (fun i => S5Post.du (y m c) (u m c) (z m c) (d m c) (w m c) (b m c) (ct m c) (i 1) (i 2) : S1x4160x768.Idx → EReal)
      ∧ r.2.mem ((c.tc : Thread nD τ).loc main_v70)
        = (fun i => S5Post.dz (y m c) (u m c) (z m c) (d m c) (w m c) (b m c) (ct m c) (i 1) (i 2) : S1x4160x768.Idx → EReal)
      ∧ r.2.mem ((c.tc : Thread nD τ).loc main_v71)
        = (fun i => S5Post.dd (y m c) (u m c) (z m c) (d m c) (w m c) (b m c) (ct m c) (i 2) : S1x1x768.Idx → EReal)
      ∧ r.2.mem ((c.tc : Thread nD τ).loc main_v72)
        = (fun i => S5Post.dw (y m c) (u m c) (z m c) (d m c) (w m c) (b m c) (ct m c) (i 1) (i 2) : S1x768x768.Idx → EReal)
      ∧ r.2.mem ((c.tc : Thread nD τ).loc main_v73)
        = (fun i => S5Post.db (y m c) (u m c) (z m c) (d m c) (w m c) (b m c) (ct m c) (i 2) : S1x1x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.S5PostRefIdeal.Value.run m ρ)
  obtain ⟨h0, h1, h2, h3, h4, h5, hk⟩ := h c
  exact ⟨h0.trans (out0 m c), h1.trans (out1 m c), h2.trans (out2 m c), h3.trans (out3 m c), h4.trans (out4 m c),
    h5.trans (out5 m c), hk⟩

end Cert.S5PostRefIdeal.Post

end
-- ==== Proof.Proj768Kernel.lean ====
/-
  What the backward call of an input projection of 768 columns leaves in its two result arrays. The rows come in five tiles
  of 832; a tile's own gradient is written to its rows, and the weight gradient is added up over the tiles in one block,
  zeroed at the first tile and written back after the last.
-/
module

public import proofs.«01_k».proof.Proof.Gen.Proj768BwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj768BwdIdeal.Proj

open Cert.Proj768BwdIdeal Cert.Proj768BwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The cotangent of the projected rows. -/
def g : Fin 4160 → Fin 768 → EReal := fun i j => m ((c : Thread nD τ).loc main_arg0) (ix2 i j)
/-- The rows that are projected. -/
def x : Fin 4160 → Fin 1024 → EReal := fun i k => m ((c : Thread nD τ).loc main_arg1) (ix2 i k)
/-- The weights. -/
def w : Fin 1024 → Fin 768 → EReal := fun k j => m ((c : Thread nD τ).loc main_arg2) (ix2 k j)

/-- Where each window's block stands at point `t`: the row tiles move with `t`, the rest stay. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

/-! ## The blocks the body reads -/

theorem blk_g (t : Fin cfg0.N) (r : Fin 832) (j : Fin 768) : (iblk m c 0 t : Vec Ideal S832x768 .f32) (ix2 r j) = g m c (row t r) j := by
  unfold g row
  blk_simp [iblk]
  entry_read
  blk_ext [iblk, (idx t).1]
theorem blk_x (t : Fin cfg0.N) (r : Fin 832) (k : Fin 1024) : (iblk m c 1 t : Vec Ideal S832x1024 .bf16) (ix2 r k) = x m c (row t r) k := by
  unfold x row
  blk_simp [iblk]
  entry_read
  pointwise
  blk_ext [iblk, (idx t).2.1]
theorem blk_w (t : Fin cfg0.N) (k : Fin 1024) (j : Fin 768) : (iblk m c 2 t : Vec Ideal S1024x768 .bf16) (ix2 k j) = w m c k j := by
  unfold w
  blk_simp [iblk]
  entry_read
  pointwise
  blk_ext [iblk, (idx t).2.2.1]

/-! ## What the body computes of its blocks, at an index -/

section Payloads
variable (vg : Vec Ideal S832x768 .f32) (vx : Vec Ideal S832x1024 .bf16) (vw : Vec Ideal S1024x768 .bf16)

theorem pay_dx (r : Fin 832) (k : Fin 1024) : k0_pay3 vg vw (ix2 r k)
    = Matmul.dx (fun i j => vg (ix2 i j)) (fun k j => vw (ix2 k j)) r k := by
  unfold_payloads
  pointwise [Matmul.dx]

theorem pay_dw0 (acc : Vec Ideal S1024x768 .f32) (k : Fin 1024) (j : Fin 768) : k0_pay4 vg vx acc (ix2 k j)
    = acc (ix2 k j) + ∑ r : Fin 832, vx (ix2 r k) * vg (ix2 r j) := by
  unfold_payloads
  pointwise

end Payloads

/-! ## The two result arrays -/

theorem final3 : (dats m 0 c).arrAt 3 cfg0.N = (fun i => Matmul.dx (g m c) (w m c) (i 0) (i 1) : S4160x1024.Idx → EReal) := by
  refine (dats m 0 c).arrAt_eq_of_covers 3 _ (by decide +kernel) fun t hf y => ?_
  have e : ((cfg0.win 3).blk t).view.emb y = (ix2 (row t (y 0)) (y 1) : S4160x1024.Idx) := by
    blk_ext [row, (idx t).2.2.2.1]
  rw [e]
  blk_simp
  rw [after0_3]
  have key : ∀ X : Vec Ideal S832x1024 .f32, X = k0_pay3 (iblk m c 0 t) (iblk m c 2 t) →
      ∀ (r : Fin 832) (k : Fin 1024), X (ix2 r k) = Matmul.dx (g m c) (w m c) (row t r) k := by
    intro X hX r k
    rw [hX, pay_dx]
    simp only [blk_g, blk_w]
    rfl
  refine (congrArg _ (eq_ix2 y)).trans (key _ ?_ _ _)
  by_cases h : t.val % 5 = 0
  · rw [outsAt0_A m c t h]; frame_out
  · rw [outsAt0_B m c t h]; frame_out

/-- Row `i`'s share of the weights' cotangent. -/
def dwRow (k : Fin 1024) (j : Fin 768) (i : Fin 4160) : EReal := x m c i k * g m c i j

theorem dw_step (t : Fin cfg0.N) (acc : Vec Ideal S1024x768 .f32) (k : Fin 1024) (j : Fin 768) :
    k0_pay4 (iblk m c 0 t) (iblk m c 1 t) acc (ix2 k j) = acc (ix2 k j) + ∑ r : Fin 832, dwRow m c k j (row t r) := by
  rw [pay_dw0]
  simp only [blk_g, blk_x]
  rfl

theorem dw_first (t : Fin cfg0.N) (h : t.val % 5 = 0) (k : Fin 1024) (j : Fin 768) :
    (outsAt0 m c t.val t.isLt).2 (ix2 k j) = 0 + ∑ r : Fin 832, dwRow m c k j (row t r) := by
  rw [outsAt0_A m c t h]; frame_out
  rw [dw_step]
  congr 1
  pointwise [k0_pay1]

theorem dw_next (t : Fin cfg0.N) (h : ¬t.val % 5 = 0) (k : Fin 1024) (j : Fin 768) :
    (outsAt0 m c t.val t.isLt).2 (ix2 k j)
      = (outsAt0 m c (t.val - 1) (Nat.lt_of_le_of_lt (Nat.sub_le _ _) t.isLt)).2 (ix2 k j) + ∑ r : Fin 832, dwRow m c k j (row t r) := by
  rw [outsAt0_B m c t h]; frame_out
  rw [dw_step]

theorem final4 : (dats m 0 c).arrAt 4 cfg0.N = (fun i => Matmul.dw (x m c) (g m c) (i 0) (i 1) : S1024x768.Idx → EReal) := by
  refine (dats m 0 c).arrAt_eq_of_after_last 4 t0_4 (by decide +kernel) _ fun y => ?_
  blk_simp
  rw [after0_4]
  exact (congrArg _ (eq_ix2 y)).trans ((Tiles.kept_sum N_0 (fun t => ∑ r : Fin 832, dwRow m c (y 0) (y 1) (row t r))
    (fun n h => (outsAt0 m c n h).2 (ix2 (y 0) (y 1))) (fun t h => dw_first m c t h _ _) (fun t h => dw_next m c t h _ _) t0_4
    (by decide +kernel)).trans (Tiles.sum_rows N_0 rfl row (fun _ _ => rfl) _))

end Cert.Proj768BwdIdeal.Proj
-- ==== Proof.Proj768Reference.lean ====
/- The reference's run of a product's gradient: each of its two result buffers, read at an index, is the specification's
   term. -/
module

public import proofs.«01_k».proof.Proof.Gen.Proj768RefIdeal.Run
public import proofs.«01_k».proof.Proof.MatmulSpec
public import Idealize.ShloMosaic.Lib.Pointwise
public import Idealize.ShloMosaic.Adequacy

@[expose] public section

noncomputable section

namespace Cert.Proj768RefIdeal.Proj

open Cert.Proj768RefIdeal Cert.Proj768RefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def g (c : Dev nD) (i : Fin 4160) (j : Fin 768) : EReal := m ((c.tc : Thread nD τ).loc main_arg0) (ix2 i j)
def x (c : Dev nD) (i : Fin 4160) (k : Fin 1024) : EReal := m ((c.tc : Thread nD τ).loc main_arg1) (ix2 i k)
def w (c : Dev nD) (k : Fin 1024) (j : Fin 768) : EReal := m ((c.tc : Thread nD τ).loc main_arg2) (ix2 k j)

/-- Every execution of the reference ends with the two specified cotangents and its arguments kept. -/
theorem run :
    θ_run defs (onTc (τ := τ) (main (F := Ideal))) ⟨m, fun _ => 0, ρ⟩ fun r => ∀ c : Dev nD,
      r.2.mem ((c.tc : Thread nD τ).loc main_v3) = (fun i => Matmul.dx (g m c) (w m c) (i 0) (i 1) : S4160x1024.Idx → EReal)
      ∧ r.2.mem ((c.tc : Thread nD τ).loc main_v2) = (fun i => Matmul.dw (x m c) (g m c) (i 0) (i 1) : S1024x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Proj768RefIdeal.Value.run m ρ)
  obtain ⟨h0, h1, hk⟩ := h c
  refine ⟨h0.trans ?_, h1.trans ?_, hk⟩
  · funext i
    rw [eq_ix2 i]
    pointwise [Matmul.dx, g, w]
  · funext i
    rw [eq_ix2 i]
    pointwise [Matmul.dw, g, x]
    exact Finset.sum_congr rfl fun x _ => mul_comm _ _

end Cert.Proj768RefIdeal.Proj

end
-- ==== Proof.Proj1280Kernel.lean ====
/-
  What the backward call of an input projection of 1280 columns leaves in its two result arrays. The rows come in five tiles
  of 832; a tile's own gradient is written to its rows, and the weight gradient is added up over the tiles in one block,
  two pieces of 640 columns at a time, zeroed at the first tile and written back after the last.
-/
module

public import proofs.«01_k».proof.Proof.Gen.Proj1280BwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj1280BwdIdeal.Proj

open Cert.Proj1280BwdIdeal Cert.Proj1280BwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The cotangent of the projected rows. -/
def g : Fin 4160 → Fin 1280 → EReal := fun i j => m ((c : Thread nD τ).loc main_arg0) (ix2 i j)
/-- The rows that are projected. -/
def x : Fin 4160 → Fin 1024 → EReal := fun i k => m ((c : Thread nD τ).loc main_arg1) (ix2 i k)
/-- The weights. -/
def w : Fin 1024 → Fin 1280 → EReal := fun k j => m ((c : Thread nD τ).loc main_arg2) (ix2 k j)

/-- Where each window's block stands at point `t`: the row tiles move with `t`, the rest stay. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

/-! ## The blocks the body reads -/

theorem blk_g (t : Fin cfg0.N) (r : Fin 832) (j : Fin 1280) : (iblk m c 0 t : Vec Ideal S832x1280 .f32) (ix2 r j) = g m c (row t r) j := by
  unfold g row
  blk_simp [iblk]
  entry_read
  blk_ext [iblk, (idx t).1]
theorem blk_x (t : Fin cfg0.N) (r : Fin 832) (k : Fin 1024) : (iblk m c 1 t : Vec Ideal S832x1024 .bf16) (ix2 r k) = x m c (row t r) k := by
  unfold x row
  blk_simp [iblk]
  entry_read
  pointwise
  blk_ext [iblk, (idx t).2.1]
theorem blk_w (t : Fin cfg0.N) (k : Fin 1024) (j : Fin 1280) : (iblk m c 2 t : Vec Ideal S1024x1280 .bf16) (ix2 k j) = w m c k j := by
  unfold w
  blk_simp [iblk]
  entry_read
  pointwise
  blk_ext [iblk, (idx t).2.2.1]

/-! ## What the body computes of its blocks, at an index -/

section Payloads
variable (vg : Vec Ideal S832x1280 .f32) (vx : Vec Ideal S832x1024 .bf16) (vw : Vec Ideal S1024x1280 .bf16)

theorem pay_dx (r : Fin 832) (k : Fin 1024) : k0_pay3 vg vw (ix2 r k)
    = Matmul.dx (fun i j => vg (ix2 i j)) (fun k j => vw (ix2 k j)) r k := by
  unfold_payloads
  pointwise [Matmul.dx]

theorem pay_dw0 (acc : Vec Ideal S1024x640 .f32) (k : Fin 1024) (j : Fin 640) : k0_pay5 vg vx acc (ix2 k j)
    = acc (ix2 k j) + ∑ r : Fin 832, vx (ix2 r k) * vg (ix2 r ⟨j.val, by omega⟩) := by
  unfold_payloads
  pointwise

theorem pay_dw1 (acc : Vec Ideal S1024x640 .f32) (k : Fin 1024) (j : Fin 640) : k0_pay6 vg vx acc (ix2 k j)
    = acc (ix2 k j) + ∑ r : Fin 832, vx (ix2 r k) * vg (ix2 r ⟨640 + j.val, by omega⟩) := by
  unfold_payloads
  pointwise

end Payloads

/-! ## The two result arrays -/

theorem final3 : (dats m 0 c).arrAt 3 cfg0.N = (fun i => Matmul.dx (g m c) (w m c) (i 0) (i 1) : S4160x1024.Idx → EReal) := by
  refine (dats m 0 c).arrAt_eq_of_covers 3 _ (by decide +kernel) fun t hf y => ?_
  have e : ((cfg0.win 3).blk t).view.emb y = (ix2 (row t (y 0)) (y 1) : S4160x1024.Idx) := by
    blk_ext [row, (idx t).2.2.2.1]
  rw [e]
  blk_simp
  rw [after0_3]
  have key : ∀ X : Vec Ideal S832x1024 .f32, X = k0_pay3 (iblk m c 0 t) (iblk m c 2 t) →
      ∀ (r : Fin 832) (k : Fin 1024), X (ix2 r k) = Matmul.dx (g m c) (w m c) (row t r) k := by
    intro X hX r k
    rw [hX, pay_dx]
    simp only [blk_g, blk_w]
    rfl
  refine (congrArg _ (eq_ix2 y)).trans (key _ ?_ _ _)
  by_cases h : t.val % 5 = 0
  · rw [outsAt0_A m c t h]; frame_out
  · rw [outsAt0_B m c t h]; frame_out

/-- Row `i`'s share of the weights' cotangent. -/
def dwRow (k : Fin 1024) (j : Fin 1280) (i : Fin 4160) : EReal := x m c i k * g m c i j

theorem dw_step0 (t : Fin cfg0.N) (acc : Vec Ideal S1024x640 .f32) (y : S1024x640.Idx) (k : Fin 1024) (j : Fin 1280)
    (hk : k.val = (y 0).val) (hj : j.val = (y 1).val) :
    k0_pay5 (iblk m c 0 t) (iblk m c 1 t) acc y = acc y + ∑ r : Fin 832, dwRow m c k j (row t r) := by
  obtain ⟨a, b, rfl⟩ : ∃ (a : Fin 1024) (b : Fin 640), y = ix2 a b := ⟨y 0, y 1, eq_ix2 y⟩
  obtain rfl : k = a := Fin.ext hk
  obtain ⟨j, hj'⟩ := j
  obtain rfl : j = b.val := hj
  rw [pay_dw0]
  simp only [blk_g, blk_x]
  rfl
theorem dw_step1 (t : Fin cfg0.N) (acc : Vec Ideal S1024x640 .f32) (y : S1024x640.Idx) (k : Fin 1024) (j : Fin 1280)
    (hk : k.val = (y 0).val) (hj : j.val = 640 + (y 1).val) :
    k0_pay6 (iblk m c 0 t) (iblk m c 1 t) acc y = acc y + ∑ r : Fin 832, dwRow m c k j (row t r) := by
  obtain ⟨a, b, rfl⟩ : ∃ (a : Fin 1024) (b : Fin 640), y = ix2 a b := ⟨y 0, y 1, eq_ix2 y⟩
  obtain rfl : k = a := Fin.ext hk
  obtain ⟨j, hj'⟩ := j
  obtain rfl : j = 640 + b.val := hj
  rw [pay_dw1]
  simp only [blk_g, blk_x]
  rfl

theorem dw_first (t : Fin cfg0.N) (h : t.val % 5 = 0) (k : Fin 1024) (j : Fin 1280) :
    (outsAt0 m c t.val t.isLt).2 (ix2 k j) = 0 + ∑ r : Fin 832, dwRow m c k j (row t r) := by
  rw [outsAt0_A m c t h]
  frame_open
  simp (disch := decide) only [↓ View.readCov_skip, ↓ View.readCov_cons_toLoadRect, ↓ View.readCov_fill]
  frame_out
  refine View.canon_append_of_piecesOf (Val := Elt Ideal) (s := S1024x1280) (e := .f32)
    (fun i => (0 + ∑ r : Fin 832, dwRow m c (i 0) (i 1) (row t r) : EReal)) [_] [_, _] ?h _ ?c
  case c => exact View.cover_of_tiled_head _ _ _ (by rfl) _
  refine ⟨fun y => ?_, fun y => ?_, trivial⟩
  · refine (dw_step1 m c t _ y _ _ ?_ ?_).trans (congrArg (· + _) ?_)
    · exact Tiles.emb_zero (inb := inb_S1024x1280_S1024x640_0_640) y 0 rfl
    · exact Tiles.emb_off (inb := inb_S1024x1280_S1024x640_0_640) y 1 640 rfl
    · pointwise [k0_pay1]
  · refine (dw_step0 m c t _ y _ _ ?_ ?_).trans (congrArg (· + _) ?_)
    · exact Tiles.emb_zero (inb := inb_S1024x1280_S1024x640_0_0) y 0 rfl
    · exact Tiles.emb_zero (inb := inb_S1024x1280_S1024x640_0_0) y 1 rfl
    · pointwise [k0_pay1]

theorem dw_next (t : Fin cfg0.N) (h : ¬t.val % 5 = 0) (k : Fin 1024) (j : Fin 1280) :
    (outsAt0 m c t.val t.isLt).2 (ix2 k j)
      = (outsAt0 m c (t.val - 1) (Nat.lt_of_le_of_lt (Nat.sub_le _ _) t.isLt)).2 (ix2 k j) + ∑ r : Fin 832, dwRow m c k j (row t r) := by
  rw [outsAt0_B m c t h]
  frame_out
  generalize (outsAt0 m c (t.val - 1) _).2 = X
  canon_tiles y h
  · refine (dw_step1 m c t _ y k j h0 h1).trans (congrArg (· + _) (View.ld_unit_apply_of X _ _ _ y _ fun a => ?_))
    fin_cases a <;> simp_all
  · refine (dw_step0 m c t _ y k j h0 h1).trans (congrArg (· + _) (View.ld_unit_apply_of X _ _ _ y _ fun a => ?_))
    fin_cases a <;> simp_all

theorem final4 : (dats m 0 c).arrAt 4 cfg0.N = (fun i => Matmul.dw (x m c) (g m c) (i 0) (i 1) : S1024x1280.Idx → EReal) := by
  refine (dats m 0 c).arrAt_eq_of_after_last 4 t0_4 (by decide +kernel) _ fun y => ?_
  blk_simp
  rw [after0_4]
  exact (congrArg _ (eq_ix2 y)).trans ((Tiles.kept_sum N_0 (fun t => ∑ r : Fin 832, dwRow m c (y 0) (y 1) (row t r))
    (fun n h => (outsAt0 m c n h).2 (ix2 (y 0) (y 1))) (fun t h => dw_first m c t h _ _) (fun t h => dw_next m c t h _ _) t0_4
    (by decide +kernel)).trans (Tiles.sum_rows N_0 rfl row (fun _ _ => rfl) _))

end Cert.Proj1280BwdIdeal.Proj
-- ==== Proof.Proj1280Reference.lean ====
/- The reference's run of a product's gradient: each of its two result buffers, read at an index, is the specification's
   term. -/
module

public import proofs.«01_k».proof.Proof.Gen.Proj1280RefIdeal.Run
public import proofs.«01_k».proof.Proof.MatmulSpec
public import Idealize.ShloMosaic.Lib.Pointwise
public import Idealize.ShloMosaic.Adequacy

@[expose] public section

noncomputable section

namespace Cert.Proj1280RefIdeal.Proj

open Cert.Proj1280RefIdeal Cert.Proj1280RefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def g (c : Dev nD) (i : Fin 4160) (j : Fin 1280) : EReal := m ((c.tc : Thread nD τ).loc main_arg0) (ix2 i j)
def x (c : Dev nD) (i : Fin 4160) (k : Fin 1024) : EReal := m ((c.tc : Thread nD τ).loc main_arg1) (ix2 i k)
def w (c : Dev nD) (k : Fin 1024) (j : Fin 1280) : EReal := m ((c.tc : Thread nD τ).loc main_arg2) (ix2 k j)

/-- Every execution of the reference ends with the two specified cotangents and its arguments kept. -/
theorem run :
    θ_run defs (onTc (τ := τ) (main (F := Ideal))) ⟨m, fun _ => 0, ρ⟩ fun r => ∀ c : Dev nD,
      r.2.mem ((c.tc : Thread nD τ).loc main_v3) = (fun i => Matmul.dx (g m c) (w m c) (i 0) (i 1) : S4160x1024.Idx → EReal)
      ∧ r.2.mem ((c.tc : Thread nD τ).loc main_v2) = (fun i => Matmul.dw (x m c) (g m c) (i 0) (i 1) : S1024x1280.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Proj1280RefIdeal.Value.run m ρ)
  obtain ⟨h0, h1, hk⟩ := h c
  refine ⟨h0.trans ?_, h1.trans ?_, hk⟩
  · funext i
    rw [eq_ix2 i]
    pointwise [Matmul.dx, g, w]
  · funext i
    rw [eq_ix2 i]
    pointwise [Matmul.dw, g, x]
    exact Finset.sum_congr rfl fun x _ => mul_comm _ _

end Cert.Proj1280RefIdeal.Proj

end
-- ==== Proof.Proj1024Kernel.lean ====
/-
  What the backward call of an input projection of 1024 columns leaves in its two result arrays. The rows come in five tiles
  of 832; a tile's own gradient is written to its rows, and the weight gradient is added up over the tiles in one block,
  eight pieces of 128 columns at a time, zeroed at the first tile and written back after the last.
-/
module

public import proofs.«01_k».proof.Proof.Gen.Proj1024BwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj1024BwdIdeal.Proj

open Cert.Proj1024BwdIdeal Cert.Proj1024BwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The cotangent of the projected rows. -/
def g : Fin 4160 → Fin 1024 → EReal := fun i j => m ((c : Thread nD τ).loc main_arg0) (ix2 i j)
/-- The rows that are projected. -/
def x : Fin 4160 → Fin 1024 → EReal := fun i k => m ((c : Thread nD τ).loc main_arg1) (ix2 i k)
/-- The weights. -/
def w : Fin 1024 → Fin 1024 → EReal := fun k j => m ((c : Thread nD τ).loc main_arg2) (ix2 k j)

/-- Where each window's block stands at point `t`: the row tiles move with `t`, the rest stay. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

/-! ## The blocks the body reads -/

theorem blk_g (t : Fin cfg0.N) (r : Fin 832) (j : Fin 1024) : (iblk m c 0 t : Vec Ideal S832x1024 .f32) (ix2 r j) = g m c (row t r) j := by
  unfold g row
  blk_simp [iblk]
  entry_read
  blk_ext [iblk, (idx t).1]
theorem blk_x (t : Fin cfg0.N) (r : Fin 832) (k : Fin 1024) : (iblk m c 1 t : Vec Ideal S832x1024 .bf16) (ix2 r k) = x m c (row t r) k := by
  unfold x row
  blk_simp [iblk]
  entry_read
  pointwise
  blk_ext [iblk, (idx t).2.1]
theorem blk_w (t : Fin cfg0.N) (k : Fin 1024) (j : Fin 1024) : (iblk m c 2 t : Vec Ideal S1024x1024 .bf16) (ix2 k j) = w m c k j := by
  unfold w
  blk_simp [iblk]
  entry_read
  pointwise
  blk_ext [iblk, (idx t).2.2.1]

/-! ## What the body computes of its blocks, at an index -/

section Payloads
variable (vg : Vec Ideal S832x1024 .f32) (vx : Vec Ideal S832x1024 .bf16) (vw : Vec Ideal S1024x1024 .bf16)

theorem pay_dx (r : Fin 832) (k : Fin 1024) : k0_pay3 vg vw (ix2 r k)
    = Matmul.dx (fun i j => vg (ix2 i j)) (fun k j => vw (ix2 k j)) r k := by
  unfold_payloads
  pointwise [Matmul.dx]

theorem pay_dw0 (acc : Vec Ideal S1024x128 .f32) (k : Fin 1024) (j : Fin 128) : k0_pay5 vg vx acc (ix2 k j)
    = acc (ix2 k j) + ∑ r : Fin 832, vx (ix2 r k) * vg (ix2 r ⟨j.val, by omega⟩) := by
  unfold_payloads
  pointwise

theorem pay_dw1 (acc : Vec Ideal S1024x128 .f32) (k : Fin 1024) (j : Fin 128) : k0_pay6 vg vx acc (ix2 k j)
    = acc (ix2 k j) + ∑ r : Fin 832, vx (ix2 r k) * vg (ix2 r ⟨128 + j.val, by omega⟩) := by
  unfold_payloads
  pointwise

theorem pay_dw2 (acc : Vec Ideal S1024x128 .f32) (k : Fin 1024) (j : Fin 128) : k0_pay7 vg vx acc (ix2 k j)
    = acc (ix2 k j) + ∑ r : Fin 832, vx (ix2 r k) * vg (ix2 r ⟨256 + j.val, by omega⟩) := by
  unfold_payloads
  pointwise

theorem pay_dw3 (acc : Vec Ideal S1024x128 .f32) (k : Fin 1024) (j : Fin 128) : k0_pay8 (k0_pay2 vg) (k0_pay4 vx) acc (ix2 k j)
    = acc (ix2 k j) + ∑ r : Fin 832, vx (ix2 r k) * vg (ix2 r ⟨384 + j.val, by omega⟩) := by
  unfold_payloads
  pointwise

theorem pay_dw4 (acc : Vec Ideal S1024x128 .f32) (k : Fin 1024) (j : Fin 128) : k0_pay9 (k0_pay2 vg) (k0_pay4 vx) acc (ix2 k j)
    = acc (ix2 k j) + ∑ r : Fin 832, vx (ix2 r k) * vg (ix2 r ⟨512 + j.val, by omega⟩) := by
  unfold_payloads
  pointwise

theorem pay_dw5 (acc : Vec Ideal S1024x128 .f32) (k : Fin 1024) (j : Fin 128) : k0_pay10 (k0_pay2 vg) (k0_pay4 vx) acc (ix2 k j)
    = acc (ix2 k j) + ∑ r : Fin 832, vx (ix2 r k) * vg (ix2 r ⟨640 + j.val, by omega⟩) := by
  unfold_payloads
  pointwise

theorem pay_dw6 (acc : Vec Ideal S1024x128 .f32) (k : Fin 1024) (j : Fin 128) : k0_pay11 (k0_pay2 vg) (k0_pay4 vx) acc (ix2 k j)
    = acc (ix2 k j) + ∑ r : Fin 832, vx (ix2 r k) * vg (ix2 r ⟨768 + j.val, by omega⟩) := by
  unfold_payloads
  pointwise

theorem pay_dw7 (acc : Vec Ideal S1024x128 .f32) (k : Fin 1024) (j : Fin 128) : k0_pay12 (k0_pay2 vg) (k0_pay4 vx) acc (ix2 k j)
    = acc (ix2 k j) + ∑ r : Fin 832, vx (ix2 r k) * vg (ix2 r ⟨896 + j.val, by omega⟩) := by
  unfold_payloads
  pointwise

end Payloads

/-! ## The two result arrays -/

theorem final3 : (dats m 0 c).arrAt 3 cfg0.N = (fun i => Matmul.dx (g m c) (w m c) (i 0) (i 1) : S4160x1024.Idx → EReal) := by
  refine (dats m 0 c).arrAt_eq_of_covers 3 _ (by decide +kernel) fun t hf y => ?_
  have e : ((cfg0.win 3).blk t).view.emb y = (ix2 (row t (y 0)) (y 1) : S4160x1024.Idx) := by
    blk_ext [row, (idx t).2.2.2.1]
  rw [e]
  blk_simp
  rw [after0_3]
  have key : ∀ X : Vec Ideal S832x1024 .f32, X = k0_pay3 (iblk m c 0 t) (iblk m c 2 t) →
      ∀ (r : Fin 832) (k : Fin 1024), X (ix2 r k) = Matmul.dx (g m c) (w m c) (row t r) k := by
    intro X hX r k
    rw [hX, pay_dx]
    simp only [blk_g, blk_w]
    rfl
  refine (congrArg _ (eq_ix2 y)).trans (key _ ?_ _ _)
  by_cases h : t.val % 5 = 0
  · rw [outsAt0_A m c t h]; frame_out
  · rw [outsAt0_B m c t h]; frame_out

/-- Row `i`'s share of the weights' cotangent. -/
def dwRow (k : Fin 1024) (j : Fin 1024) (i : Fin 4160) : EReal := x m c i k * g m c i j

theorem dw_step0 (t : Fin cfg0.N) (acc : Vec Ideal S1024x128 .f32) (y : S1024x128.Idx) (k : Fin 1024) (j : Fin 1024)
    (hk : k.val = (y 0).val) (hj : j.val = (y 1).val) :
    k0_pay5 (iblk m c 0 t) (iblk m c 1 t) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = b.val := hj
  rw [pay_dw0]
  simp only [blk_g, blk_x]
  rfl
theorem dw_step1 (t : Fin cfg0.N) (acc : Vec Ideal S1024x128 .f32) (y : S1024x128.Idx) (k : Fin 1024) (j : Fin 1024)
    (hk : k.val = (y 0).val) (hj : j.val = 128 + (y 1).val) :
    k0_pay6 (iblk m c 0 t) (iblk m c 1 t) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = 128 + b.val := hj
  rw [pay_dw1]
  simp only [blk_g, blk_x]
  rfl
theorem dw_step2 (t : Fin cfg0.N) (acc : Vec Ideal S1024x128 .f32) (y : S1024x128.Idx) (k : Fin 1024) (j : Fin 1024)
    (hk : k.val = (y 0).val) (hj : j.val = 256 + (y 1).val) :
    k0_pay7 (iblk m c 0 t) (iblk m c 1 t) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = 256 + b.val := hj
  rw [pay_dw2]
  simp only [blk_g, blk_x]
  rfl
theorem dw_step3 (t : Fin cfg0.N) (acc : Vec Ideal S1024x128 .f32) (y : S1024x128.Idx) (k : Fin 1024) (j : Fin 1024)
    (hk : k.val = (y 0).val) (hj : j.val = 384 + (y 1).val) :
    k0_pay8 (k0_pay2 (iblk m c 0 t)) (k0_pay4 (iblk m c 1 t)) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = 384 + b.val := hj
  rw [pay_dw3]
  simp only [blk_g, blk_x]
  rfl
theorem dw_step4 (t : Fin cfg0.N) (acc : Vec Ideal S1024x128 .f32) (y : S1024x128.Idx) (k : Fin 1024) (j : Fin 1024)
    (hk : k.val = (y 0).val) (hj : j.val = 512 + (y 1).val) :
    k0_pay9 (k0_pay2 (iblk m c 0 t)) (k0_pay4 (iblk m c 1 t)) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = 512 + b.val := hj
  rw [pay_dw4]
  simp only [blk_g, blk_x]
  rfl
theorem dw_step5 (t : Fin cfg0.N) (acc : Vec Ideal S1024x128 .f32) (y : S1024x128.Idx) (k : Fin 1024) (j : Fin 1024)
    (hk : k.val = (y 0).val) (hj : j.val = 640 + (y 1).val) :
    k0_pay10 (k0_pay2 (iblk m c 0 t)) (k0_pay4 (iblk m c 1 t)) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = 640 + b.val := hj
  rw [pay_dw5]
  simp only [blk_g, blk_x]
  rfl
theorem dw_step6 (t : Fin cfg0.N) (acc : Vec Ideal S1024x128 .f32) (y : S1024x128.Idx) (k : Fin 1024) (j : Fin 1024)
    (hk : k.val = (y 0).val) (hj : j.val = 768 + (y 1).val) :
    k0_pay11 (k0_pay2 (iblk m c 0 t)) (k0_pay4 (iblk m c 1 t)) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = 768 + b.val := hj
  rw [pay_dw6]
  simp only [blk_g, blk_x]
  rfl
theorem dw_step7 (t : Fin cfg0.N) (acc : Vec Ideal S1024x128 .f32) (y : S1024x128.Idx) (k : Fin 1024) (j : Fin 1024)
    (hk : k.val = (y 0).val) (hj : j.val = 896 + (y 1).val) :
    k0_pay12 (k0_pay2 (iblk m c 0 t)) (k0_pay4 (iblk m c 1 t)) acc y = acc y + ∑ r : Fin 832, dwRow m c k j (row t r) := by
  obtain ⟨a, b, rfl⟩ : ∃ (a : Fin 1024) (b : Fin 128), y = ix2 a b := ⟨y 0, y 1, eq_ix2 y⟩
  obtain rfl : k = a := Fin.ext hk
  obtain ⟨j, hj'⟩ := j
  obtain rfl : j = 896 + b.val := hj
  rw [pay_dw7]
  simp only [blk_g, blk_x]
  rfl

theorem dw_first (t : Fin cfg0.N) (h : t.val % 5 = 0) (k : Fin 1024) (j : Fin 1024) :
    (outsAt0 m c t.val t.isLt).2 (ix2 k j) = 0 + ∑ r : Fin 832, dwRow m c k j (row t r) := by
  rw [outsAt0_A m c t h]
  frame_open
  simp (disch := decide) only [↓ View.readCov_skip, ↓ View.readCov_cons_toLoadRect, ↓ View.readCov_fill]
  frame_out
  refine View.canon_append_of_piecesOf (Val := Elt Ideal) (s := S1024x1024) (e := .f32)
    (fun i => (0 + ∑ r : Fin 832, dwRow m c (i 0) (i 1) (row t r) : EReal)) [_] [_, _, _, _, _, _, _, _] ?h _ ?c
  case c => exact View.cover_of_tiled_head _ _ _ (by rfl) _
  refine ⟨fun y => ?_, fun y => ?_, fun y => ?_, fun y => ?_, fun y => ?_, fun y => ?_, fun y => ?_, fun y => ?_, trivial⟩
  · refine (dw_step7 m c t _ y _ _ ?_ ?_).trans (congrArg (· + _) ?_)
    · exact Tiles.emb_zero (inb := inb_S1024x1024_S1024x128_0_896) y 0 rfl
    · exact Tiles.emb_off (inb := inb_S1024x1024_S1024x128_0_896) y 1 896 rfl
    · pointwise [k0_pay1]
  · refine (dw_step6 m c t _ y _ _ ?_ ?_).trans (congrArg (· + _) ?_)
    · exact Tiles.emb_zero (inb := inb_S1024x1024_S1024x128_0_768) y 0 rfl
    · exact Tiles.emb_off (inb := inb_S1024x1024_S1024x128_0_768) y 1 768 rfl
    · pointwise [k0_pay1]
  · refine (dw_step5 m c t _ y _ _ ?_ ?_).trans (congrArg (· + _) ?_)
    · exact Tiles.emb_zero (inb := inb_S1024x1024_S1024x128_0_640) y 0 rfl
    · exact Tiles.emb_off (inb := inb_S1024x1024_S1024x128_0_640) y 1 640 rfl
    · pointwise [k0_pay1]
  · refine (dw_step4 m c t _ y _ _ ?_ ?_).trans (congrArg (· + _) ?_)
    · exact Tiles.emb_zero (inb := inb_S1024x1024_S1024x128_0_512) y 0 rfl
    · exact Tiles.emb_off (inb := inb_S1024x1024_S1024x128_0_512) y 1 512 rfl
    · pointwise [k0_pay1]
  · refine (dw_step3 m c t _ y _ _ ?_ ?_).trans (congrArg (· + _) ?_)
    · exact Tiles.emb_zero (inb := inb_S1024x1024_S1024x128_0_384) y 0 rfl
    · exact Tiles.emb_off (inb := inb_S1024x1024_S1024x128_0_384) y 1 384 rfl
    · pointwise [k0_pay1]
  · refine (dw_step2 m c t _ y _ _ ?_ ?_).trans (congrArg (· + _) ?_)
    · exact Tiles.emb_zero (inb := inb_S1024x1024_S1024x128_0_256) y 0 rfl
    · exact Tiles.emb_off (inb := inb_S1024x1024_S1024x128_0_256) y 1 256 rfl
    · pointwise [k0_pay1]
  · refine (dw_step1 m c t _ y _ _ ?_ ?_).trans (congrArg (· + _) ?_)
    · exact Tiles.emb_zero (inb := inb_S1024x1024_S1024x128_0_128) y 0 rfl
    · exact Tiles.emb_off (inb := inb_S1024x1024_S1024x128_0_128) y 1 128 rfl
    · pointwise [k0_pay1]
  · refine (dw_step0 m c t _ y _ _ ?_ ?_).trans (congrArg (· + _) ?_)
    · exact Tiles.emb_zero (inb := inb_S1024x1024_S1024x128_0_0) y 0 rfl
    · exact Tiles.emb_zero (inb := inb_S1024x1024_S1024x128_0_0) y 1 rfl
    · pointwise [k0_pay1]

theorem dw_next (t : Fin cfg0.N) (h : ¬t.val % 5 = 0) (k : Fin 1024) (j : Fin 1024) :
    (outsAt0 m c t.val t.isLt).2 (ix2 k j)
      = (outsAt0 m c (t.val - 1) (Nat.lt_of_le_of_lt (Nat.sub_le _ _) t.isLt)).2 (ix2 k j) + ∑ r : Fin 832, dwRow m c k j (row t r) := by
  rw [outsAt0_B m c t h]
  frame_out
  generalize (outsAt0 m c (t.val - 1) _).2 = X
  canon_tiles y h
  · refine (dw_step7 m c t _ y k j h0 h1).trans (congrArg (· + _) (View.ld_unit_apply_of X _ _ _ y _ fun a => ?_))
    fin_cases a <;> simp_all
  · refine (dw_step6 m c t _ y k j h0 h1).trans (congrArg (· + _) (View.ld_unit_apply_of X _ _ _ y _ fun a => ?_))
    fin_cases a <;> simp_all
  · refine (dw_step5 m c t _ y k j h0 h1).trans (congrArg (· + _) (View.ld_unit_apply_of X _ _ _ y _ fun a => ?_))
    fin_cases a <;> simp_all
  · refine (dw_step4 m c t _ y k j h0 h1).trans (congrArg (· + _) (View.ld_unit_apply_of X _ _ _ y _ fun a => ?_))
    fin_cases a <;> simp_all
  · refine (dw_step3 m c t _ y k j h0 h1).trans (congrArg (· + _) (View.ld_unit_apply_of X _ _ _ y _ fun a => ?_))
    fin_cases a <;> simp_all
  · refine (dw_step2 m c t _ y k j h0 h1).trans (congrArg (· + _) (View.ld_unit_apply_of X _ _ _ y _ fun a => ?_))
    fin_cases a <;> simp_all
  · refine (dw_step1 m c t _ y k j h0 h1).trans (congrArg (· + _) (View.ld_unit_apply_of X _ _ _ y _ fun a => ?_))
    fin_cases a <;> simp_all
  · refine (dw_step0 m c t _ y k j h0 h1).trans (congrArg (· + _) (View.ld_unit_apply_of X _ _ _ y _ fun a => ?_))
    fin_cases a <;> simp_all

theorem final4 : (dats m 0 c).arrAt 4 cfg0.N = (fun i => Matmul.dw (x m c) (g m c) (i 0) (i 1) : S1024x1024.Idx → EReal) := by
  refine (dats m 0 c).arrAt_eq_of_after_last 4 t0_4 (by decide +kernel) _ fun y => ?_
  blk_simp
  rw [after0_4]
  exact (congrArg _ (eq_ix2 y)).trans ((Tiles.kept_sum N_0 (fun t => ∑ r : Fin 832, dwRow m c (y 0) (y 1) (row t r))
    (fun n h => (outsAt0 m c n h).2 (ix2 (y 0) (y 1))) (fun t h => dw_first m c t h _ _) (fun t h => dw_next m c t h _ _) t0_4
    (by decide +kernel)).trans (Tiles.sum_rows N_0 rfl row (fun _ _ => rfl) _))

end Cert.Proj1024BwdIdeal.Proj
-- ==== Proof.Proj1024Reference.lean ====
/- The reference's run of a product's gradient: each of its two result buffers, read at an index, is the specification's
   term. -/
module

public import proofs.«01_k».proof.Proof.Gen.Proj1024RefIdeal.Run
public import proofs.«01_k».proof.Proof.MatmulSpec
public import Idealize.ShloMosaic.Lib.Pointwise
public import Idealize.ShloMosaic.Adequacy

@[expose] public section

noncomputable section

namespace Cert.Proj1024RefIdeal.Proj

open Cert.Proj1024RefIdeal Cert.Proj1024RefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def g (c : Dev nD) (i : Fin 4160) (j : Fin 1024) : EReal := m ((c.tc : Thread nD τ).loc main_arg0) (ix2 i j)
def x (c : Dev nD) (i : Fin 4160) (k : Fin 1024) : EReal := m ((c.tc : Thread nD τ).loc main_arg1) (ix2 i k)
def w (c : Dev nD) (k : Fin 1024) (j : Fin 1024) : EReal := m ((c.tc : Thread nD τ).loc main_arg2) (ix2 k j)

/-- Every execution of the reference ends with the two specified cotangents and its arguments kept. -/
theorem run :
    θ_run defs (onTc (τ := τ) (main (F := Ideal))) ⟨m, fun _ => 0, ρ⟩ fun r => ∀ c : Dev nD,
      r.2.mem ((c.tc : Thread nD τ).loc main_v3) = (fun i => Matmul.dx (g m c) (w m c) (i 0) (i 1) : S4160x1024.Idx → EReal)
      ∧ r.2.mem ((c.tc : Thread nD τ).loc main_v2) = (fun i => Matmul.dw (x m c) (g m c) (i 0) (i 1) : S1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Proj1024RefIdeal.Value.run m ρ)
  obtain ⟨h0, h1, hk⟩ := h c
  refine ⟨h0.trans ?_, h1.trans ?_, hk⟩
  · funext i
    rw [eq_ix2 i]
    pointwise [Matmul.dx, g, w]
  · funext i
    rw [eq_ix2 i]
    pointwise [Matmul.dw, g, x]
    exact Finset.sum_congr rfl fun x _ => mul_comm _ _

end Cert.Proj1024RefIdeal.Proj

end
-- ==== Proof.Proj128Kernel.lean ====
/-
  What the backward call of an input projection of 128 columns leaves in its two result arrays. The rows come in five tiles
  of 832; a tile's own gradient is written to its rows, and the weight gradient is added up over the tiles in one block,
  zeroed at the first tile and written back after the last.
-/
module

public import proofs.«01_k».proof.Proof.Gen.Proj128BwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj128BwdIdeal.Proj

open Cert.Proj128BwdIdeal Cert.Proj128BwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The cotangent of the projected rows. -/
def g : Fin 4160 → Fin 128 → EReal := fun i j => m ((c : Thread nD τ).loc main_arg0) (ix2 i j)
/-- The rows that are projected. -/
def x : Fin 4160 → Fin 1024 → EReal := fun i k => m ((c : Thread nD τ).loc main_arg1) (ix2 i k)
/-- The weights. -/
def w : Fin 1024 → Fin 128 → EReal := fun k j => m ((c : Thread nD τ).loc main_arg2) (ix2 k j)

/-- Where each window's block stands at point `t`: the row tiles move with `t`, the rest stay. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

/-! ## The blocks the body reads -/

theorem blk_g (t : Fin cfg0.N) (r : Fin 832) (j : Fin 128) : (iblk m c 0 t : Vec Ideal S832x128 .f32) (ix2 r j) = g m c (row t r) j := by
  unfold g row
  blk_simp [iblk]
  entry_read
  blk_ext [iblk, (idx t).1]
theorem blk_x (t : Fin cfg0.N) (r : Fin 832) (k : Fin 1024) : (iblk m c 1 t : Vec Ideal S832x1024 .bf16) (ix2 r k) = x m c (row t r) k := by
  unfold x row
  blk_simp [iblk]
  entry_read
  pointwise
  blk_ext [iblk, (idx t).2.1]
theorem blk_w (t : Fin cfg0.N) (k : Fin 1024) (j : Fin 128) : (iblk m c 2 t : Vec Ideal S1024x128 .bf16) (ix2 k j) = w m c k j := by
  unfold w
  blk_simp [iblk]
  entry_read
  pointwise
  blk_ext [iblk, (idx t).2.2.1]

/-! ## What the body computes of its blocks, at an index -/

section Payloads
variable (vg : Vec Ideal S832x128 .f32) (vx : Vec Ideal S832x1024 .bf16) (vw : Vec Ideal S1024x128 .bf16)

theorem pay_dx (r : Fin 832) (k : Fin 1024) : k0_pay3 vg vw (ix2 r k)
    = Matmul.dx (fun i j => vg (ix2 i j)) (fun k j => vw (ix2 k j)) r k := by
  unfold_payloads
  pointwise [Matmul.dx]

theorem pay_dw0 (acc : Vec Ideal S1024x128 .f32) (k : Fin 1024) (j : Fin 128) : k0_pay4 vg vx acc (ix2 k j)
    = acc (ix2 k j) + ∑ r : Fin 832, vx (ix2 r k) * vg (ix2 r j) := by
  unfold_payloads
  pointwise

end Payloads

/-! ## The two result arrays -/

theorem final3 : (dats m 0 c).arrAt 3 cfg0.N = (fun i => Matmul.dx (g m c) (w m c) (i 0) (i 1) : S4160x1024.Idx → EReal) := by
  refine (dats m 0 c).arrAt_eq_of_covers 3 _ (by decide +kernel) fun t hf y => ?_
  have e : ((cfg0.win 3).blk t).view.emb y = (ix2 (row t (y 0)) (y 1) : S4160x1024.Idx) := by
    blk_ext [row, (idx t).2.2.2.1]
  rw [e]
  blk_simp
  rw [after0_3]
  have key : ∀ X : Vec Ideal S832x1024 .f32, X = k0_pay3 (iblk m c 0 t) (iblk m c 2 t) →
      ∀ (r : Fin 832) (k : Fin 1024), X (ix2 r k) = Matmul.dx (g m c) (w m c) (row t r) k := by
    intro X hX r k
    rw [hX, pay_dx]
    simp only [blk_g, blk_w]
    rfl
  refine (congrArg _ (eq_ix2 y)).trans (key _ ?_ _ _)
  by_cases h : t.val % 5 = 0
  · rw [outsAt0_A m c t h]; frame_out
  · rw [outsAt0_B m c t h]; frame_out

/-- Row `i`'s share of the weights' cotangent. -/
def dwRow (k : Fin 1024) (j : Fin 128) (i : Fin 4160) : EReal := x m c i k * g m c i j

theorem dw_step (t : Fin cfg0.N) (acc : Vec Ideal S1024x128 .f32) (k : Fin 1024) (j : Fin 128) :
    k0_pay4 (iblk m c 0 t) (iblk m c 1 t) acc (ix2 k j) = acc (ix2 k j) + ∑ r : Fin 832, dwRow m c k j (row t r) := by
  rw [pay_dw0]
  simp only [blk_g, blk_x]
  rfl

theorem dw_first (t : Fin cfg0.N) (h : t.val % 5 = 0) (k : Fin 1024) (j : Fin 128) :
    (outsAt0 m c t.val t.isLt).2 (ix2 k j) = 0 + ∑ r : Fin 832, dwRow m c k j (row t r) := by
  rw [outsAt0_A m c t h]; frame_out
  rw [dw_step]
  congr 1
  pointwise [k0_pay1]

theorem dw_next (t : Fin cfg0.N) (h : ¬t.val % 5 = 0) (k : Fin 1024) (j : Fin 128) :
    (outsAt0 m c t.val t.isLt).2 (ix2 k j)
      = (outsAt0 m c (t.val - 1) (Nat.lt_of_le_of_lt (Nat.sub_le _ _) t.isLt)).2 (ix2 k j) + ∑ r : Fin 832, dwRow m c k j (row t r) := by
  rw [outsAt0_B m c t h]; frame_out
  rw [dw_step]

theorem final4 : (dats m 0 c).arrAt 4 cfg0.N = (fun i => Matmul.dw (x m c) (g m c) (i 0) (i 1) : S1024x128.Idx → EReal) := by
  refine (dats m 0 c).arrAt_eq_of_after_last 4 t0_4 (by decide +kernel) _ fun y => ?_
  blk_simp
  rw [after0_4]
  exact (congrArg _ (eq_ix2 y)).trans ((Tiles.kept_sum N_0 (fun t => ∑ r : Fin 832, dwRow m c (y 0) (y 1) (row t r))
    (fun n h => (outsAt0 m c n h).2 (ix2 (y 0) (y 1))) (fun t h => dw_first m c t h _ _) (fun t h => dw_next m c t h _ _) t0_4
    (by decide +kernel)).trans (Tiles.sum_rows N_0 rfl row (fun _ _ => rfl) _))

end Cert.Proj128BwdIdeal.Proj
-- ==== Proof.Proj128Reference.lean ====
/- The reference's run of a product's gradient: each of its two result buffers, read at an index, is the specification's
   term. -/
module

public import proofs.«01_k».proof.Proof.Gen.Proj128RefIdeal.Run
public import proofs.«01_k».proof.Proof.MatmulSpec
public import Idealize.ShloMosaic.Lib.Pointwise
public import Idealize.ShloMosaic.Adequacy

@[expose] public section

noncomputable section

namespace Cert.Proj128RefIdeal.Proj

open Cert.Proj128RefIdeal Cert.Proj128RefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def g (c : Dev nD) (i : Fin 4160) (j : Fin 128) : EReal := m ((c.tc : Thread nD τ).loc main_arg0) (ix2 i j)
def x (c : Dev nD) (i : Fin 4160) (k : Fin 1024) : EReal := m ((c.tc : Thread nD τ).loc main_arg1) (ix2 i k)
def w (c : Dev nD) (k : Fin 1024) (j : Fin 128) : EReal := m ((c.tc : Thread nD τ).loc main_arg2) (ix2 k j)

/-- Every execution of the reference ends with the two specified cotangents and its arguments kept. -/
theorem run :
    θ_run defs (onTc (τ := τ) (main (F := Ideal))) ⟨m, fun _ => 0, ρ⟩ fun r => ∀ c : Dev nD,
      r.2.mem ((c.tc : Thread nD τ).loc main_v3) = (fun i => Matmul.dx (g m c) (w m c) (i 0) (i 1) : S4160x1024.Idx → EReal)
      ∧ r.2.mem ((c.tc : Thread nD τ).loc main_v2) = (fun i => Matmul.dw (x m c) (g m c) (i 0) (i 1) : S1024x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Proj128RefIdeal.Value.run m ρ)
  obtain ⟨h0, h1, hk⟩ := h c
  refine ⟨h0.trans ?_, h1.trans ?_, hk⟩
  · funext i
    rw [eq_ix2 i]
    pointwise [Matmul.dx, g, w]
  · funext i
    rw [eq_ix2 i]
    pointwise [Matmul.dw, g, x]
    exact Finset.sum_congr rfl fun x _ => mul_comm _ _

end Cert.Proj128RefIdeal.Proj

end
-- ==== Proof.Proj2304FwdKernel.lean ====
/-
  What the input projection of 2304 columns leaves in its result array: the rows come in ten tiles of 416, and each tile's
  product is written to its rows.
-/
module

public import proofs.«01_k».proof.Proof.Gen.Proj2304FwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj2304FwdIdeal.Proj

open Cert.Proj2304FwdIdeal Cert.Proj2304FwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows that are projected. -/
def x : Fin 4160 → Fin 1024 → EReal := fun i k => m ((c : Thread nD τ).loc main_arg0) (ix2 i k)
/-- The weights. -/
def w : Fin 1024 → Fin 2304 → EReal := fun k j => m ((c : Thread nD τ).loc main_arg1) (ix2 k j)

/-- Where each window's block stands at point `t`: the row tiles move with `t`, the weights stay. -/
theorem idx : ∀ t : Fin cfg0.N, win0_0.index t = ![t.val, 0] ∧ win0_1.index t = ![0, 0] ∧ win0_2.index t = ![t.val, 0] :=
  (by decide +kernel : ∀ t : Fin grid0.N, _)

/-- Row `r` of tile `t` among all the rows. -/
def row (t : Fin cfg0.N) (r : Fin 416) : Fin 4160 :=
  ⟨t.val * 416 + r.val, by have := lt_of_lt_of_eq t.isLt N_0; omega⟩

theorem blk_x (t : Fin cfg0.N) (r : Fin 416) (k : Fin 1024) : (iblk m c 0 t : Vec Ideal S416x1024 .bf16) (ix2 r k) = x m c (row t r) k := by
  unfold x row
  blk_simp [iblk]
  entry_read
  pointwise
  blk_ext [iblk, (idx t).1]
theorem blk_w (t : Fin cfg0.N) (k : Fin 1024) (j : Fin 2304) : (iblk m c 1 t : Vec Ideal S1024x2304 .bf16) (ix2 k j) = w m c k j := by
  unfold w
  blk_simp [iblk]
  entry_read
  pointwise
  blk_ext [iblk, (idx t).2.1]

theorem pay (vx : Vec Ideal S416x1024 .bf16) (vw : Vec Ideal S1024x2304 .bf16) (r : Fin 416) (j : Fin 2304) :
    k0_pay1 vx vw (ix2 r j) = ∑ k : Fin 1024, vx (ix2 r k) * vw (ix2 k j) := by
  unfold_payloads
  pointwise

theorem final2 : (dats m 0 c).arrAt 2 cfg0.N = (fun i => Matmul.mul (x m c) (w m c) (i 0) (i 1) : S4160x2304.Idx → EReal) := by
  refine (dats m 0 c).arrAt_eq_of_covers 2 _ (by decide +kernel) fun t hf y => ?_
  have e : ((cfg0.win 2).blk t).view.emb y = (ix2 (row t (y 0)) (y 1) : S4160x2304.Idx) := by
    blk_ext [row, (idx t).2.2]
  rw [e]
  blk_simp
  rw [after0_2]
  have key : ∀ X : Vec Ideal S416x2304 .f32, X = k0_pay1 (iblk m c 0 t) (iblk m c 1 t) →
      ∀ (r : Fin 416) (j : Fin 2304), X (ix2 r j) = Matmul.mul (x m c) (w m c) (row t r) j := by
    intro X hX r j
    rw [hX, pay]
    simp only [blk_x, blk_w]
    rfl
  refine (congrArg _ (eq_ix2 y)).trans (key _ ?_ _ _)
  unfold out0_2
  frame_out

end Cert.Proj2304FwdIdeal.Proj
-- ==== Proof.Proj2304FwdReference.lean ====
/- The reference's run of a projection to 2304 columns: its result buffer, read at an index, is the specification's term. -/
module

public import proofs.«01_k».proof.Proof.Gen.Proj2304FwdRefIdeal.Run
public import proofs.«01_k».proof.Proof.MatmulSpec
public import Idealize.ShloMosaic.Lib.Pointwise
public import Idealize.ShloMosaic.Adequacy

@[expose] public section

noncomputable section

namespace Cert.Proj2304FwdRefIdeal.Proj

open Cert.Proj2304FwdRefIdeal Cert.Proj2304FwdRefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def x (c : Dev nD) (i : Fin 4160) (k : Fin 1024) : EReal := m ((c.tc : Thread nD τ).loc main_arg0) (ix2 i k)
def w (c : Dev nD) (k : Fin 1024) (j : Fin 2304) : EReal := m ((c.tc : Thread nD τ).loc main_arg1) (ix2 k j)

/-- Every execution of the reference ends with the specified product and its arguments kept. -/
theorem run :
    θ_run defs (onTc (τ := τ) (main (F := Ideal))) ⟨m, fun _ => 0, ρ⟩ fun r => ∀ c : Dev nD,
      r.2.mem ((c.tc : Thread nD τ).loc main_v0) = (fun i => Matmul.mul (x m c) (w m c) (i 0) (i 1) : S4160x2304.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Proj2304FwdRefIdeal.Value.run m ρ)
  obtain ⟨h0, hk⟩ := h c
  refine ⟨h0.trans ?_, hk⟩
  funext i
  rw [eq_ix2 i]
  pointwise [Matmul.mul, x, w]

end Cert.Proj2304FwdRefIdeal.Proj

end
-- ==== Proof.Proj768FwdKernel.lean ====
/-
  What the input projection of 768 columns leaves in its result array: the rows come in five tiles of 832, and each tile's
  product is written to its rows.
-/
module

public import proofs.«01_k».proof.Proof.Gen.Proj768FwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj768FwdIdeal.Proj

open Cert.Proj768FwdIdeal Cert.Proj768FwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows that are projected. -/
def x : Fin 4160 → Fin 1024 → EReal := fun i k => m ((c : Thread nD τ).loc main_arg0) (ix2 i k)
/-- The weights. -/
def w : Fin 1024 → Fin 768 → EReal := fun k j => m ((c : Thread nD τ).loc main_arg1) (ix2 k j)

/-- Where each window's block stands at point `t`: the row tiles move with `t`, the weights stay. -/
theorem idx : ∀ t : Fin cfg0.N, win0_0.index t = ![t.val, 0] ∧ win0_1.index t = ![0, 0] ∧ win0_2.index t = ![t.val, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

theorem blk_x (t : Fin cfg0.N) (r : Fin 832) (k : Fin 1024) : (iblk m c 0 t : Vec Ideal S832x1024 .bf16) (ix2 r k) = x m c (row t r) k := by
  unfold x row
  blk_simp [iblk]
  entry_read
  pointwise
  blk_ext [iblk, (idx t).1]
theorem blk_w (t : Fin cfg0.N) (k : Fin 1024) (j : Fin 768) : (iblk m c 1 t : Vec Ideal S1024x768 .bf16) (ix2 k j) = w m c k j := by
  unfold w
  blk_simp [iblk]
  entry_read
  pointwise
  blk_ext [iblk, (idx t).2.1]

theorem pay (vx : Vec Ideal S832x1024 .bf16) (vw : Vec Ideal S1024x768 .bf16) (r : Fin 832) (j : Fin 768) :
    k0_pay1 vx vw (ix2 r j) = ∑ k : Fin 1024, vx (ix2 r k) * vw (ix2 k j) := by
  unfold_payloads
  pointwise

theorem final2 : (dats m 0 c).arrAt 2 cfg0.N = (fun i => Matmul.mul (x m c) (w m c) (i 0) (i 1) : S4160x768.Idx → EReal) := by
  refine (dats m 0 c).arrAt_eq_of_covers 2 _ (by decide +kernel) fun t hf y => ?_
  have e : ((cfg0.win 2).blk t).view.emb y = (ix2 (row t (y 0)) (y 1) : S4160x768.Idx) := by
    blk_ext [row, (idx t).2.2]
  rw [e]
  blk_simp
  rw [after0_2]
  have key : ∀ X : Vec Ideal S832x768 .f32, X = k0_pay1 (iblk m c 0 t) (iblk m c 1 t) →
      ∀ (r : Fin 832) (j : Fin 768), X (ix2 r j) = Matmul.mul (x m c) (w m c) (row t r) j := by
    intro X hX r j
    rw [hX, pay]
    simp only [blk_x, blk_w]
    rfl
  refine (congrArg _ (eq_ix2 y)).trans (key _ ?_ _ _)
  unfold out0_2
  frame_out

end Cert.Proj768FwdIdeal.Proj
-- ==== Proof.Proj768FwdReference.lean ====
/- The reference's run of a projection to 768 columns: its result buffer, read at an index, is the specification's term. -/
module

public import proofs.«01_k».proof.Proof.Gen.Proj768FwdRefIdeal.Run
public import proofs.«01_k».proof.Proof.MatmulSpec
public import Idealize.ShloMosaic.Lib.Pointwise
public import Idealize.ShloMosaic.Adequacy

@[expose] public section

noncomputable section

namespace Cert.Proj768FwdRefIdeal.Proj

open Cert.Proj768FwdRefIdeal Cert.Proj768FwdRefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def x (c : Dev nD) (i : Fin 4160) (k : Fin 1024) : EReal := m ((c.tc : Thread nD τ).loc main_arg0) (ix2 i k)
def w (c : Dev nD) (k : Fin 1024) (j : Fin 768) : EReal := m ((c.tc : Thread nD τ).loc main_arg1) (ix2 k j)

/-- Every execution of the reference ends with the specified product and its arguments kept. -/
theorem run :
    θ_run defs (onTc (τ := τ) (main (F := Ideal))) ⟨m, fun _ => 0, ρ⟩ fun r => ∀ c : Dev nD,
      r.2.mem ((c.tc : Thread nD τ).loc main_v0) = (fun i => Matmul.mul (x m c) (w m c) (i 0) (i 1) : S4160x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Proj768FwdRefIdeal.Value.run m ρ)
  obtain ⟨h0, hk⟩ := h c
  refine ⟨h0.trans ?_, hk⟩
  funext i
  rw [eq_ix2 i]
  pointwise [Matmul.mul, x, w]

end Cert.Proj768FwdRefIdeal.Proj

end
-- ==== Proof.Proj1280FwdKernel.lean ====
/-
  What the input projection of 1280 columns leaves in its result array: the rows come in five tiles of 832, and each tile's
  product is written to its rows.
-/
module

public import proofs.«01_k».proof.Proof.Gen.Proj1280FwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj1280FwdIdeal.Proj

open Cert.Proj1280FwdIdeal Cert.Proj1280FwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows that are projected. -/
def x : Fin 4160 → Fin 1024 → EReal := fun i k => m ((c : Thread nD τ).loc main_arg0) (ix2 i k)
/-- The weights. -/
def w : Fin 1024 → Fin 1280 → EReal := fun k j => m ((c : Thread nD τ).loc main_arg1) (ix2 k j)

/-- Where each window's block stands at point `t`: the row tiles move with `t`, the weights stay. -/
theorem idx : ∀ t : Fin cfg0.N, win0_0.index t = ![t.val, 0] ∧ win0_1.index t = ![0, 0] ∧ win0_2.index t = ![t.val, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

theorem blk_x (t : Fin cfg0.N) (r : Fin 832) (k : Fin 1024) : (iblk m c 0 t : Vec Ideal S832x1024 .bf16) (ix2 r k) = x m c (row t r) k := by
  unfold x row
  blk_simp [iblk]
  entry_read
  pointwise
  blk_ext [iblk, (idx t).1]
theorem blk_w (t : Fin cfg0.N) (k : Fin 1024) (j : Fin 1280) : (iblk m c 1 t : Vec Ideal S1024x1280 .bf16) (ix2 k j) = w m c k j := by
  unfold w
  blk_simp [iblk]
  entry_read
  pointwise
  blk_ext [iblk, (idx t).2.1]

theorem pay (vx : Vec Ideal S832x1024 .bf16) (vw : Vec Ideal S1024x1280 .bf16) (r : Fin 832) (j : Fin 1280) :
    k0_pay1 vx vw (ix2 r j) = ∑ k : Fin 1024, vx (ix2 r k) * vw (ix2 k j) := by
  unfold_payloads
  pointwise

theorem final2 : (dats m 0 c).arrAt 2 cfg0.N = (fun i => Matmul.mul (x m c) (w m c) (i 0) (i 1) : S4160x1280.Idx → EReal) := by
  refine (dats m 0 c).arrAt_eq_of_covers 2 _ (by decide +kernel) fun t hf y => ?_
  have e : ((cfg0.win 2).blk t).view.emb y = (ix2 (row t (y 0)) (y 1) : S4160x1280.Idx) := by
    blk_ext [row, (idx t).2.2]
  rw [e]
  blk_simp
  rw [after0_2]
  have key : ∀ X : Vec Ideal S832x1280 .f32, X = k0_pay1 (iblk m c 0 t) (iblk m c 1 t) →
      ∀ (r : Fin 832) (j : Fin 1280), X (ix2 r j) = Matmul.mul (x m c) (w m c) (row t r) j := by
    intro X hX r j
    rw [hX, pay]
    simp only [blk_x, blk_w]
    rfl
  refine (congrArg _ (eq_ix2 y)).trans (key _ ?_ _ _)
  unfold out0_2
  frame_out

end Cert.Proj1280FwdIdeal.Proj
-- ==== Proof.Proj1280FwdReference.lean ====
/- The reference's run of a projection to 1280 columns: its result buffer, read at an index, is the specification's term. -/
module

public import proofs.«01_k».proof.Proof.Gen.Proj1280FwdRefIdeal.Run
public import proofs.«01_k».proof.Proof.MatmulSpec
public import Idealize.ShloMosaic.Lib.Pointwise
public import Idealize.ShloMosaic.Adequacy

@[expose] public section

noncomputable section

namespace Cert.Proj1280FwdRefIdeal.Proj

open Cert.Proj1280FwdRefIdeal Cert.Proj1280FwdRefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def x (c : Dev nD) (i : Fin 4160) (k : Fin 1024) : EReal := m ((c.tc : Thread nD τ).loc main_arg0) (ix2 i k)
def w (c : Dev nD) (k : Fin 1024) (j : Fin 1280) : EReal := m ((c.tc : Thread nD τ).loc main_arg1) (ix2 k j)

/-- Every execution of the reference ends with the specified product and its arguments kept. -/
theorem run :
    θ_run defs (onTc (τ := τ) (main (F := Ideal))) ⟨m, fun _ => 0, ρ⟩ fun r => ∀ c : Dev nD,
      r.2.mem ((c.tc : Thread nD τ).loc main_v0) = (fun i => Matmul.mul (x m c) (w m c) (i 0) (i 1) : S4160x1280.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Proj1280FwdRefIdeal.Value.run m ρ)
  obtain ⟨h0, hk⟩ := h c
  refine ⟨h0.trans ?_, hk⟩
  funext i
  rw [eq_ix2 i]
  pointwise [Matmul.mul, x, w]

end Cert.Proj1280FwdRefIdeal.Proj

end
-- ==== Proof.Proj1024FwdKernel.lean ====
/-
  What the input projection of 1024 columns leaves in its result array: the rows come in five tiles of 832, and each tile's
  product is written to its rows.
-/
module

public import proofs.«01_k».proof.Proof.Gen.Proj1024FwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj1024FwdIdeal.Proj

open Cert.Proj1024FwdIdeal Cert.Proj1024FwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows that are projected. -/
def x : Fin 4160 → Fin 1024 → EReal := fun i k => m ((c : Thread nD τ).loc main_arg0) (ix2 i k)
/-- The weights. -/
def w : Fin 1024 → Fin 1024 → EReal := fun k j => m ((c : Thread nD τ).loc main_arg1) (ix2 k j)

/-- Where each window's block stands at point `t`: the row tiles move with `t`, the weights stay. -/
theorem idx : ∀ t : Fin cfg0.N, win0_0.index t = ![t.val, 0] ∧ win0_1.index t = ![0, 0] ∧ win0_2.index t = ![t.val, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

theorem blk_x (t : Fin cfg0.N) (r : Fin 832) (k : Fin 1024) : (iblk m c 0 t : Vec Ideal S832x1024 .bf16) (ix2 r k) = x m c (row t r) k := by
  unfold x row
  blk_simp [iblk]
  entry_read
  pointwise
  blk_ext [iblk, (idx t).1]
theorem blk_w (t : Fin cfg0.N) (k : Fin 1024) (j : Fin 1024) : (iblk m c 1 t : Vec Ideal S1024x1024 .bf16) (ix2 k j) = w m c k j := by
  unfold w
  blk_simp [iblk]
  entry_read
  pointwise
  blk_ext [iblk, (idx t).2.1]

theorem pay (vx : Vec Ideal S832x1024 .bf16) (vw : Vec Ideal S1024x1024 .bf16) (r : Fin 832) (j : Fin 1024) :
    k0_pay1 vx vw (ix2 r j) = ∑ k : Fin 1024, vx (ix2 r k) * vw (ix2 k j) := by
  unfold_payloads
  pointwise

theorem final2 : (dats m 0 c).arrAt 2 cfg0.N = (fun i => Matmul.mul (x m c) (w m c) (i 0) (i 1) : S4160x1024.Idx → EReal) := by
  refine (dats m 0 c).arrAt_eq_of_covers 2 _ (by decide +kernel) fun t hf y => ?_
  have e : ((cfg0.win 2).blk t).view.emb y = (ix2 (row t (y 0)) (y 1) : S4160x1024.Idx) := by
    blk_ext [row, (idx t).2.2]
  rw [e]
  blk_simp
  rw [after0_2]
  have key : ∀ X : Vec Ideal S832x1024 .f32, X = k0_pay1 (iblk m c 0 t) (iblk m c 1 t) →
      ∀ (r : Fin 832) (j : Fin 1024), X (ix2 r j) = Matmul.mul (x m c) (w m c) (row t r) j := by
    intro X hX r j
    rw [hX, pay]
    simp only [blk_x, blk_w]
    rfl
  refine (congrArg _ (eq_ix2 y)).trans (key _ ?_ _ _)
  unfold out0_2
  frame_out

end Cert.Proj1024FwdIdeal.Proj
-- ==== Proof.Proj1024FwdReference.lean ====
/- The reference's run of a projection to 1024 columns: its result buffer, read at an index, is the specification's term. -/
module

public import proofs.«01_k».proof.Proof.Gen.Proj1024FwdRefIdeal.Run
public import proofs.«01_k».proof.Proof.MatmulSpec
public import Idealize.ShloMosaic.Lib.Pointwise
public import Idealize.ShloMosaic.Adequacy

@[expose] public section

noncomputable section

namespace Cert.Proj1024FwdRefIdeal.Proj

open Cert.Proj1024FwdRefIdeal Cert.Proj1024FwdRefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def x (c : Dev nD) (i : Fin 4160) (k : Fin 1024) : EReal := m ((c.tc : Thread nD τ).loc main_arg0) (ix2 i k)
def w (c : Dev nD) (k : Fin 1024) (j : Fin 1024) : EReal := m ((c.tc : Thread nD τ).loc main_arg1) (ix2 k j)

/-- Every execution of the reference ends with the specified product and its arguments kept. -/
theorem run :
    θ_run defs (onTc (τ := τ) (main (F := Ideal))) ⟨m, fun _ => 0, ρ⟩ fun r => ∀ c : Dev nD,
      r.2.mem ((c.tc : Thread nD τ).loc main_v0) = (fun i => Matmul.mul (x m c) (w m c) (i 0) (i 1) : S4160x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Proj1024FwdRefIdeal.Value.run m ρ)
  obtain ⟨h0, hk⟩ := h c
  refine ⟨h0.trans ?_, hk⟩
  funext i
  rw [eq_ix2 i]
  pointwise [Matmul.mul, x, w]

end Cert.Proj1024FwdRefIdeal.Proj

end
-- ==== Proof.Proj128FwdKernel.lean ====
/-
  What the input projection of 128 columns leaves in its result array: the rows come in five tiles of 832, and each tile's
  product is written to its rows.
-/
module

public import proofs.«01_k».proof.Proof.Gen.Proj128FwdIdeal.Value
public import proofs.«01_k».proof.Proof.MatmulSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.Proj128FwdIdeal.Proj

open Cert.Proj128FwdIdeal Cert.Proj128FwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows that are projected. -/
def x : Fin 4160 → Fin 1024 → EReal := fun i k => m ((c : Thread nD τ).loc main_arg0) (ix2 i k)
/-- The weights. -/
def w : Fin 1024 → Fin 128 → EReal := fun k j => m ((c : Thread nD τ).loc main_arg1) (ix2 k j)

/-- Where each window's block stands at point `t`: the row tiles move with `t`, the weights stay. -/
theorem idx : ∀ t : Fin cfg0.N, win0_0.index t = ![t.val, 0] ∧ win0_1.index t = ![0, 0] ∧ win0_2.index t = ![t.val, 0] :=
  (by decide +kernel : ∀ t : Fin grid0.N, _)

/-- Row `r` of tile `t` among all the rows. -/
def row (t : Fin cfg0.N) (r : Fin 832) : Fin 4160 :=
  ⟨t.val * 832 + r.val, by have := lt_of_lt_of_eq t.isLt N_0; omega⟩

theorem blk_x (t : Fin cfg0.N) (r : Fin 832) (k : Fin 1024) : (iblk m c 0 t : Vec Ideal S832x1024 .bf16) (ix2 r k) = x m c (row t r) k := by
  unfold x row
  blk_simp [iblk]
  entry_read
  pointwise
  blk_ext [iblk, (idx t).1]
theorem blk_w (t : Fin cfg0.N) (k : Fin 1024) (j : Fin 128) : (iblk m c 1 t : Vec Ideal S1024x128 .bf16) (ix2 k j) = w m c k j := by
  unfold w
  blk_simp [iblk]
  entry_read
  pointwise
  blk_ext [iblk, (idx t).2.1]

theorem pay (vx : Vec Ideal S832x1024 .bf16) (vw : Vec Ideal S1024x128 .bf16) (r : Fin 832) (j : Fin 128) :
    k0_pay1 vx vw (ix2 r j) = ∑ k : Fin 1024, vx (ix2 r k) * vw (ix2 k j) := by
  unfold_payloads
  pointwise

theorem final2 : (dats m 0 c).arrAt 2 cfg0.N = (fun i => Matmul.mul (x m c) (w m c) (i 0) (i 1) : S4160x128.Idx → EReal) := by
  refine (dats m 0 c).arrAt_eq_of_covers 2 _ (by decide +kernel) fun t hf y => ?_
  have e : ((cfg0.win 2).blk t).view.emb y = (ix2 (row t (y 0)) (y 1) : S4160x128.Idx) := by
    blk_ext [row, (idx t).2.2]
  rw [e]
  blk_simp
  rw [after0_2]
  have key : ∀ X : Vec Ideal S832x128 .f32, X = k0_pay1 (iblk m c 0 t) (iblk m c 1 t) →
      ∀ (r : Fin 832) (j : Fin 128), X (ix2 r j) = Matmul.mul (x m c) (w m c) (row t r) j := by
    intro X hX r j
    rw [hX, pay]
    simp only [blk_x, blk_w]
    rfl
  refine (congrArg _ (eq_ix2 y)).trans (key _ ?_ _ _)
  unfold out0_2
  frame_out

end Cert.Proj128FwdIdeal.Proj
-- ==== Proof.Proj128FwdReference.lean ====
/- The reference's run of a projection to 128 columns: its result buffer, read at an index, is the specification's term. -/
module

public import proofs.«01_k».proof.Proof.Gen.Proj128FwdRefIdeal.Run
public import proofs.«01_k».proof.Proof.MatmulSpec
public import Idealize.ShloMosaic.Lib.Pointwise
public import Idealize.ShloMosaic.Adequacy

@[expose] public section

noncomputable section

namespace Cert.Proj128FwdRefIdeal.Proj

open Cert.Proj128FwdRefIdeal Cert.Proj128FwdRefIdeal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def x (c : Dev nD) (i : Fin 4160) (k : Fin 1024) : EReal := m ((c.tc : Thread nD τ).loc main_arg0) (ix2 i k)
def w (c : Dev nD) (k : Fin 1024) (j : Fin 128) : EReal := m ((c.tc : Thread nD τ).loc main_arg1) (ix2 k j)

/-- Every execution of the reference ends with the specified product and its arguments kept. -/
theorem run :
    θ_run defs (onTc (τ := τ) (main (F := Ideal))) ⟨m, fun _ => 0, ρ⟩ fun r => ∀ c : Dev nD,
      r.2.mem ((c.tc : Thread nD τ).loc main_v0) = (fun i => Matmul.mul (x m c) (w m c) (i 0) (i 1) : S4160x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Proj128FwdRefIdeal.Value.run m ρ)
  obtain ⟨h0, hk⟩ := h c
  refine ⟨h0.trans ?_, hk⟩
  funext i
  rw [eq_ix2 i]
  pointwise [Matmul.mul, x, w]

end Cert.Proj128FwdRefIdeal.Proj

end
-- ==== Proof.MergeFwdKernel.lean ====
/-
  What the gated merge of the three branches leaves in its result array: the rows come in ten tiles of 416, and each tile's
  merged rows are written to its rows. The three weight matrices lie in one array, the three biases side by side in one row.
-/
module

public import proofs.«01_k».proof.Proof.Gen.MergeFwdIdeal.Value
public import proofs.«01_k».proof.Proof.MergeSpec
public import Idealize.ShloMosaic.Lib.Pipeline.ValueKit
public import Idealize.ShloMosaic.Lib.Pipeline.ReadBack

@[expose] public section

set_option maxRecDepth 16384

noncomputable section

namespace Cert.MergeFwdIdeal.Merge

open Cert.MergeFwdIdeal Cert.MergeFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The branches' rows. -/
def ya : Fin 4160 → Fin 768 → EReal := fun i j => m ((c : Thread nD τ).loc main_arg0) (ix2 i j)
def yb : Fin 4160 → Fin 768 → EReal := fun i j => m ((c : Thread nD τ).loc main_arg1) (ix2 i j)
def yc : Fin 4160 → Fin 768 → EReal := fun i j => m ((c : Thread nD τ).loc main_arg2) (ix2 i j)
/-- The gates' logits. -/
def ga : Fin 4160 → Fin 1024 → EReal := fun i j => m ((c : Thread nD τ).loc main_arg3) (ix2 i j)
def gb : Fin 4160 → Fin 1024 → EReal := fun i j => m ((c : Thread nD τ).loc main_arg4) (ix2 i j)
def gc : Fin 4160 → Fin 1024 → EReal := fun i j => m ((c : Thread nD τ).loc main_arg5) (ix2 i j)
/-- The branches' weights. -/
def w : Fin 3 → Fin 768 → Fin 1024 → EReal := fun n k j => m ((c : Thread nD τ).loc main_arg6) (ix3 n k j)
/-- The gates' biases. -/
def b : Fin 3072 → EReal := fun j => m ((c : Thread nD τ).loc main_arg7) (ix2 0 j)

/-- Where each window's block stands at point `t`: the row tiles move with `t`, the rest stay. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0, 0] ∧ win0_7.index t = ![0, 0] ∧ win0_8.index t = ![t.val, 0] :=
  (by decide +kernel : ∀ t : Fin grid0.N, _)

/-- Row `r` of tile `t` among all the rows. -/
def row (t : Fin cfg0.N) (r : Fin 416) : Fin 4160 :=
  ⟨t.val * 416 + r.val, by have := lt_of_lt_of_eq t.isLt N_0; omega⟩

/-! ## The blocks the body reads -/

theorem blk_ya (t : Fin cfg0.N) (r : Fin 416) (j : Fin 768) : (iblk m c 0 t : Vec Ideal S416x768 .bf16) (ix2 r j) = ya m c (row t r) j := by
  unfold ya row
  blk_simp [iblk]
  entry_read
  pointwise
  blk_ext [iblk, (idx t).1]
theorem blk_yb (t : Fin cfg0.N) (r : Fin 416) (j : Fin 768) : (iblk m c 1 t : Vec Ideal S416x768 .bf16) (ix2 r j) = yb m c (row t r) j := by
  unfold yb row
  blk_simp [iblk]
  entry_read
  pointwise
  blk_ext [iblk, (idx t).2.1]
theorem blk_yc (t : Fin cfg0.N) (r : Fin 416) (j : Fin 768) : (iblk m c 2 t : Vec Ideal S416x768 .bf16) (ix2 r j) = yc m c (row t r) j := by
  unfold yc row
  blk_simp [iblk]
  entry_read
  pointwise
  blk_ext [iblk, (idx t).2.2.1]
theorem blk_ga (t : Fin cfg0.N) (r : Fin 416) (j : Fin 1024) : (iblk m c 3 t : Vec Ideal S416x1024 .f32) (ix2 r j) = ga m c (row t r) j := by
  unfold ga row
  blk_simp [iblk]
  entry_read
  blk_ext [iblk, (idx t).2.2.2.1]
theorem blk_gb (t : Fin cfg0.N) (r : Fin 416) (j : Fin 1024) : (iblk m c 4 t : Vec Ideal S416x1024 .f32) (ix2 r j) = gb m c (row t r) j := by
  unfold gb row
  blk_simp [iblk]
  entry_read
  blk_ext [iblk, (idx t).2.2.2.2.1]
theorem blk_gc (t : Fin cfg0.N) (r : Fin 416) (j : Fin 1024) : (iblk m c 5 t : Vec Ideal S416x1024 .f32) (ix2 r j) = gc m c (row t r) j := by
  unfold gc row
  blk_simp [iblk]
  entry_read
  blk_ext [iblk, (idx t).2.2.2.2.2.1]
theorem blk_w (t : Fin cfg0.N) (n : Fin 3) (k : Fin 768) (j : Fin 1024) :
    (iblk m c 6 t : Vec Ideal S3x768x1024 .bf16) (ix3 n k j) = w m c n k j := by
  unfold w
  blk_simp [iblk]
  entry_read
  pointwise
  blk_ext [iblk, (idx t).2.2.2.2.2.2.1]
theorem blk_b (t : Fin cfg0.N) (j : Fin 3072) : (iblk m c 7 t : Vec Ideal S1x3072 .f32) (ix2 0 j) = b m c j := by
  unfold b
  blk_simp [iblk]
  entry_read
  blk_ext [iblk, (idx t).2.2.2.2.2.2.2.1]

theorem ld_w0 (t : Fin cfg0.N) (k : Fin 768) (j : Fin 1024) :
    View.ld (iblk m c 6 t : Vec Ideal S3x768x1024 .bf16) r0_3 (ix3 0 k j) = w m c 0 k j := by
  refine (View.ld_unit_apply_of _ _ _ _ _ (ix3 0 k j) fun a => ?_).trans (blk_w m c t 0 k j)
  fin_cases a <;> simp [ix3]
theorem ld_b0 (t : Fin cfg0.N) (j : Fin 1024) :
    View.ld (iblk m c 7 t : Vec Ideal S1x3072 .f32) r0_1 (ix2 0 j) = b m c ⟨j.val, by omega⟩ := by
  refine (View.ld_unit_apply_of _ _ _ _ _ (ix2 0 ⟨j.val, by omega⟩) fun a => ?_).trans (blk_b m c t _)
  fin_cases a <;> simp [ix2]
theorem ld_w1 (t : Fin cfg0.N) (k : Fin 768) (j : Fin 1024) :
    View.ld (iblk m c 6 t : Vec Ideal S3x768x1024 .bf16) r0_5 (ix3 0 k j) = w m c 1 k j := by
  refine (View.ld_unit_apply_of _ _ _ _ _ (ix3 1 k j) fun a => ?_).trans (blk_w m c t 1 k j)
  fin_cases a <;> simp [ix3]
theorem ld_b1 (t : Fin cfg0.N) (j : Fin 1024) :
    View.ld (iblk m c 7 t : Vec Ideal S1x3072 .f32) r0_4 (ix2 0 j) = b m c ⟨1024 + j.val, by omega⟩ := by
  refine (View.ld_unit_apply_of _ _ _ _ _ (ix2 0 ⟨1024 + j.val, by omega⟩) fun a => ?_).trans (blk_b m c t _)
  fin_cases a <;> simp [ix2]
theorem ld_w2 (t : Fin cfg0.N) (k : Fin 768) (j : Fin 1024) :
    View.ld (iblk m c 6 t : Vec Ideal S3x768x1024 .bf16) r0_7 (ix3 0 k j) = w m c 2 k j := by
  refine (View.ld_unit_apply_of _ _ _ _ _ (ix3 2 k j) fun a => ?_).trans (blk_w m c t 2 k j)
  fin_cases a <;> simp [ix3]
theorem ld_b2 (t : Fin cfg0.N) (j : Fin 1024) :
    View.ld (iblk m c 7 t : Vec Ideal S1x3072 .f32) r0_6 (ix2 0 j) = b m c ⟨2 * 1024 + j.val, by omega⟩ := by
  refine (View.ld_unit_apply_of _ _ _ _ _ (ix2 0 ⟨2 * 1024 + j.val, by omega⟩) fun a => ?_).trans (blk_b m c t _)
  fin_cases a <;> simp [ix2]

/-! ## What the body computes of its blocks, at an index -/

theorem pay (va vb vc : Vec Ideal S416x768 .bf16) (ka kb kc : Vec Ideal S416x1024 .f32) (wa wb wc : Vec Ideal S1x768x1024 .bf16)
    (ba bb bc : Vec Ideal S1x1024 .f32) (r : Fin 416) (j : Fin 1024) :
    k0_pay1 (k0_pay2 ka ba va wa kb bb vb wb) (k0_pay3 kc bc) (k0_pay4 vc) wc (ix2 r j)
      = Ideal.logistic (ka (ix2 r j) + ba (ix2 0 j)) * (∑ k : Fin 768, va (ix2 r k) * wa (ix3 0 k j))
        + Ideal.logistic (kb (ix2 r j) + bb (ix2 0 j)) * (∑ k : Fin 768, vb (ix2 r k) * wb (ix3 0 k j))
        + Ideal.logistic (kc (ix2 r j) + bc (ix2 0 j)) * (∑ k : Fin 768, vc (ix2 r k) * wc (ix3 0 k j)) := by
  unfold_payloads
  pointwise

/-! ## The result array -/

theorem final8 : (dats m 0 c).arrAt 8 cfg0.N = (fun i => Merge.merged (ya m c) (yb m c) (yc m c) (ga m c) (gb m c) (gc m c) (w m c) (b m c) (i 0) (i 1) : S4160x1024.Idx → EReal) := by
  refine (dats m 0 c).arrAt_eq_of_covers 8 _ (by decide +kernel) fun t hf x => ?_
  have e : ((cfg0.win 8).blk t).view.emb x = (ix2 (row t (x 0)) (x 1) : S4160x1024.Idx) := by
    blk_ext [row, (idx t).2.2.2.2.2.2.2.2]
  rw [e]
  blk_simp
  rw [after0_8]
  have key : ∀ X : Vec Ideal S416x1024 .f32, X = k0_pay1 (k0_pay2 (iblk m c 3 t) (View.ld (iblk m c 7 t) r0_1) (iblk m c 0 t)
      (View.ld (iblk m c 6 t) r0_3) (iblk m c 4 t) (View.ld (iblk m c 7 t) r0_4) (iblk m c 1 t) (View.ld (iblk m c 6 t) r0_5))
      (k0_pay3 (iblk m c 5 t) (View.ld (iblk m c 7 t) r0_6)) (k0_pay4 (iblk m c 2 t)) (View.ld (iblk m c 6 t) r0_7) →
      ∀ (r : Fin 416) (j : Fin 1024), X (ix2 r j) = Merge.merged (ya m c) (yb m c) (yc m c) (ga m c) (gb m c) (gc m c) (w m c) (b m c) (row t r) j := by
    intro X hX r j
    rw [hX]
    rw [pay]
    simp only [blk_ya, blk_yb, blk_yc, blk_ga, blk_gb, blk_gc, ld_w0, ld_w1, ld_w2, ld_b0, ld_b1, ld_b2]
    rfl
  refine (congrArg _ (eq_ix2 x)).trans (key _ ?_ _ _)
  unfold out0_8
  frame_out
  rfl

end Cert.MergeFwdIdeal.Merge
-- ==== Proof.MergeFwdReference.lean ====
/- The reference's run of the gated merge: its result buffer, read at an index, is the specification's term. -/
module

public import proofs.«01_k».proof.Proof.Gen.MergeFwdRefIdeal.Run
public import proofs.«01_k».proof.Proof.MergeSpec
public import Idealize.ShloMosaic.Lib.Pointwise
public import Idealize.ShloMosaic.Adequacy

@[expose] public section

set_option maxRecDepth 8192

noncomputable section

namespace Cert.MergeFwdRefIdeal.Merge

open Cert.MergeFwdRefIdeal Cert.MergeFwdRefIdeal.Gen Cert.MergeFwdRefIdeal.Value Idealize.ShloMosaic Idealize.ShloMosaic.TcCoe
open Idealize.SL.Sem Idealize.ShloMosaic.Pointwise

variable (m : (ℓ : Loc nD τ sig) → Buf (Elt Ideal) ℓ) (ρ : Dev nD → PrngReg)

/-- The arguments as index functions. -/
def ya (c : Dev nD) (i : Fin 4160) (j : Fin 768) : EReal := m ((c.tc : Thread nD τ).loc main_arg0) (ix2 i j)
def yb (c : Dev nD) (i : Fin 4160) (j : Fin 768) : EReal := m ((c.tc : Thread nD τ).loc main_arg1) (ix2 i j)
def yc (c : Dev nD) (i : Fin 4160) (j : Fin 768) : EReal := m ((c.tc : Thread nD τ).loc main_arg2) (ix2 i j)
def ga (c : Dev nD) (i : Fin 4160) (j : Fin 1024) : EReal := m ((c.tc : Thread nD τ).loc main_arg3) (ix2 i j)
def gb (c : Dev nD) (i : Fin 4160) (j : Fin 1024) : EReal := m ((c.tc : Thread nD τ).loc main_arg4) (ix2 i j)
def gc (c : Dev nD) (i : Fin 4160) (j : Fin 1024) : EReal := m ((c.tc : Thread nD τ).loc main_arg5) (ix2 i j)
def w (c : Dev nD) (n : Fin 3) (k : Fin 768) (j : Fin 1024) : EReal := m ((c.tc : Thread nD τ).loc main_arg6) (ix3 n k j)
def b (c : Dev nD) (j : Fin 3072) : EReal := m ((c.tc : Thread nD τ).loc main_arg7) (ix2 0 j)

/-- Every execution of the reference ends with the specified rows and its arguments kept. -/
theorem run :
    θ_run defs (onTc (τ := τ) (main (F := Ideal))) ⟨m, fun _ => 0, ρ⟩ fun r => ∀ c : Dev nD,
      r.2.mem ((c.tc : Thread nD τ).loc main_v40) = (fun i => Merge.merged (ya m c) (yb m c) (yc m c) (ga m c) (gb m c) (gc m c) (w m c) (b m c) (i 0) (i 1) : S4160x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.MergeFwdRefIdeal.Value.run m ρ)
  obtain ⟨h0, hk⟩ := h c
  refine ⟨h0.trans ?_, hk⟩
  funext i
  obtain ⟨n, k, rfl⟩ : ∃ (n : Fin 4160) (k : Fin 1024), i = ix2 n k := ⟨i 0, i 1, eq_ix2 i⟩
  pointwise [Merge.merged, Merge.branch, Merge.gate, Ideal.logistic, ya, yb, yc, ga, gb, gc, w, b]

end Cert.MergeFwdRefIdeal.Merge

end
-- ==== Proof.LnOutFwdKernel.lean ====
/-
  What the output projection with its layer norm leaves in its result array: the rows come in ten tiles of 416, and each
  tile's normalised rows are written to its rows, the rows of padding as zeros.
-/
module

public import proofs.«01_k».proof.Proof.Gen.LnOutFwdIdeal.Value
public import proofs.«01_k».proof.Proof.LnSpec
public import Idealize.ShloMosaic.Lib.Pipeline.ValueKit
public import Idealize.ShloMosaic.Lib.Pipeline.ReadBack

@[expose] public section

set_option maxRecDepth 16384

noncomputable section

namespace Cert.LnOutFwdIdeal.Ln

open Cert.LnOutFwdIdeal Cert.LnOutFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The residual rows. -/
def h : Fin 4160 → Fin 1024 → EReal := fun i j => m ((c : Thread nD τ).loc main_arg0) (ix2 i j)
/-- The merged rows. -/
def mg : Fin 4160 → Fin 1024 → EReal := fun i j => m ((c : Thread nD τ).loc main_arg1) (ix2 i j)
/-- The projection's weights. -/
def w : Fin 1024 → Fin 1024 → EReal := fun i j => m ((c : Thread nD τ).loc main_arg2) (ix2 i j)
/-- The norm's scale and shift. -/
def g : Fin 1024 → EReal := fun j => m ((c : Thread nD τ).loc main_arg3) (ix2 0 j)
def b : Fin 1024 → EReal := fun j => m ((c : Thread nD τ).loc main_arg4) (ix2 0 j)

/-- Where each window's block stands at point `t`: the row tiles move with `t`, the rest stay. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] :=
  (by decide +kernel : ∀ t : Fin grid0.N, _)

/-- Row `r` of tile `t` among all the rows. -/
def row (t : Fin cfg0.N) (r : Fin 416) : Fin 4160 :=
  ⟨t.val * 416 + r.val, by have := lt_of_lt_of_eq t.isLt N_0; omega⟩

/-! ## The blocks the body reads -/

theorem blk_h (t : Fin cfg0.N) (r : Fin 416) (j : Fin 1024) : (iblk m c 0 t : Vec Ideal S416x1024 .f32) (ix2 r j) = h m c (row t r) j := by
  unfold h row
  blk_simp [iblk]
  entry_read
  blk_ext [iblk, (idx t).1]
theorem blk_mg (t : Fin cfg0.N) (r : Fin 416) (j : Fin 1024) : (iblk m c 1 t : Vec Ideal S416x1024 .f32) (ix2 r j) = mg m c (row t r) j := by
  unfold mg row
  blk_simp [iblk]
  entry_read
  blk_ext [iblk, (idx t).2.1]
theorem blk_w (t : Fin cfg0.N) (k : Fin 1024) (j : Fin 1024) : (iblk m c 2 t : Vec Ideal S1024x1024 .f32) (ix2 k j) = w m c k j := by
  unfold w
  blk_simp [iblk]
  entry_read
  blk_ext [iblk, (idx t).2.2.1]
theorem blk_g (t : Fin cfg0.N) (j : Fin 1024) : (iblk m c 3 t : Vec Ideal S1x1024 .f32) (ix2 0 j) = g m c j := by
  unfold g
  blk_simp [iblk]
  entry_read
  blk_ext [iblk, (idx t).2.2.2.1]
theorem blk_b (t : Fin cfg0.N) (j : Fin 1024) : (iblk m c 4 t : Vec Ideal S1x1024 .f32) (ix2 0 j) = b m c j := by
  unfold b
  blk_simp [iblk]
  entry_read
  blk_ext [iblk, (idx t).2.2.2.2.1]

/-! ## The mask of the tokens' rows -/

theorem coord : ∀ t : Fin cfg0.N, (grid0.coords t 1).val = t.val := (by decide +kernel : ∀ t : Fin grid0.N, _)

theorem mask_word : ∀ (t : Fin 10) (r : Fin 416), IntOp.cmpi CmpIPredicate.sge
      (IntOp.addi (Scalar.muli (BitVec.ofNat 32 t.val) 416#32) (BitVec.ofNat 32 r.val)) 48#32
    = if 48 ≤ t.val * 416 + r.val then 1#1 else 0#1 := by decide +kernel

theorem mask (t : Fin cfg0.N) (r : Fin 416) :
    k0_pay3 (grid0.coords t) (ix2 r 0) = if 48 ≤ (row t r).val then 1#1 else 0#1 := by
  unfold_payloads
  pointwise
  rw [coord t]
  exact mask_word ⟨t.val, lt_of_lt_of_eq t.isLt N_0⟩ r

/-! ## What the body computes of its blocks, at an index -/

theorem pay_norm (vh vm : Vec Ideal S416x1024 .f32) (vw : Vec Ideal S1024x1024 .f32) (vg vb : Vec Ideal S1x1024 .f32)
    (r : Fin 416) (j : Fin 1024) : k0_pay2 vh vm vw vg vb (ix2 r j)
      = Ln.cen (Ln.pre (fun i j => vh (ix2 i j)) (fun i k => vm (ix2 i k)) (fun k j => vw (ix2 k j)) r) j
        * Ln.rstd (Ln.pre (fun i j => vh (ix2 i j)) (fun i k => vm (ix2 i k)) (fun k j => vw (ix2 k j)) r) * vg (ix2 0 j)
        + vb (ix2 0 j) := by
  unfold_payloads
  pointwise [Ln.rstd, Ln.var, Ln.cen, Ln.mean, Ln.pre, Ln.alpha, Ln.width, Ln.eps]

theorem tile_pre (t : Fin cfg0.N) (r : Fin 416) : Ln.pre (fun i j => (iblk m c 0 t : Vec Ideal S416x1024 .f32) (ix2 i j))
      (fun i k => (iblk m c 1 t : Vec Ideal S416x1024 .f32) (ix2 i k)) (fun k j => (iblk m c 2 t : Vec Ideal S1024x1024 .f32) (ix2 k j)) r
    = Ln.pre (h m c) (mg m c) (w m c) (row t r) := by
  funext j
  unfold Ln.pre
  simp only [blk_h, blk_mg, blk_w]

theorem pay_out (t : Fin cfg0.N) (r : Fin 416) (j : Fin 1024) :
    k0_pay1 (k0_pay2 (iblk m c 0 t) (iblk m c 1 t) (iblk m c 2 t) (iblk m c 3 t) (iblk m c 4 t)) (Scalar.ofBits .f32 0x00000000#32)
        (k0_pay3 (grid0.coords t)) (ix2 r j) = Ln.fwd (h m c) (mg m c) (w m c) (g m c) (b m c) (row t r) j := by
  unfold k0_pay1
  pointwise
  rw [mask, pay_norm, tile_pre, blk_g, blk_b]
  unfold Ln.fwd Scalar.select
  by_cases hr : 48 ≤ (row t r).val
  · simp [hr]
  · simp [hr]

/-! ## The result array -/

theorem final5 : (dats m 0 c).arrAt 5 cfg0.N = (fun i => Ln.fwd (h m c) (mg m c) (w m c) (g m c) (b m c) (i 0) (i 1) : S4160x1024.Idx → EReal) := by
  refine (dats m 0 c).arrAt_eq_of_covers 5 _ (by decide +kernel) fun t hf x => ?_
  have e : ((cfg0.win 5).blk t).view.emb x = (ix2 (row t (x 0)) (x 1) : S4160x1024.Idx) := by
    blk_ext [row, (idx t).2.2.2.2.2]
  rw [e]
  blk_simp
  rw [after0_5]
  have key : ∀ X : Vec Ideal S416x1024 .f32, X = k0_pay1 (k0_pay2 (iblk m c 0 t) (iblk m c 1 t) (iblk m c 2 t) (iblk m c 3 t)
      (iblk m c 4 t)) (Scalar.ofBits .f32 0x00000000#32) (k0_pay3 (grid0.coords t)) →
      ∀ (r : Fin 416) (j : Fin 1024), X (ix2 r j) = Ln.fwd (h m c) (mg m c) (w m c) (g m c) (b m c) (row t r) j := by
    intro X hX r j
    rw [hX]
    exact pay_out m c t r j
  refine (congrArg _ (eq_ix2 x)).trans (key _ ?_ _ _)
  unfold out0_5
  frame_out

end Cert.LnOutFwdIdeal.Ln
-- ==== Proof.LnOutFwdReference.lean ====
/- The reference's run of the output projection with its layer norm: its result buffer, read at an index, is the
   specification's term. -/
module

public import proofs.«01_k».proof.Proof.Gen.LnOutFwdRefIdeal.Run
public import proofs.«01_k».proof.Proof.LnSpec
public import Idealize.ShloMosaic.Lib.Pointwise
public import Idealize.ShloMosaic.Adequacy

@[expose] public section

set_option maxRecDepth 8192

noncomputable section

namespace Cert.LnOutFwdRefIdeal.Ln

open Cert.LnOutFwdRefIdeal Cert.LnOutFwdRefIdeal.Gen Cert.LnOutFwdRefIdeal.Value Idealize.ShloMosaic Idealize.ShloMosaic.TcCoe
open Idealize.SL.Sem Idealize.ShloMosaic.Pointwise

variable (m : (ℓ : Loc nD τ sig) → Buf (Elt Ideal) ℓ) (ρ : Dev nD → PrngReg)

/-- The arguments as index functions. -/
def h (c : Dev nD) (i : Fin 4160) (j : Fin 1024) : EReal := m ((c.tc : Thread nD τ).loc main_arg0) (ix2 i j)
def mg (c : Dev nD) (i : Fin 4160) (j : Fin 1024) : EReal := m ((c.tc : Thread nD τ).loc main_arg1) (ix2 i j)
def w (c : Dev nD) (i : Fin 1024) (j : Fin 1024) : EReal := m ((c.tc : Thread nD τ).loc main_arg2) (ix2 i j)
def g (c : Dev nD) (j : Fin 1024) : EReal := m ((c.tc : Thread nD τ).loc main_arg3) (ix2 0 j)
def b (c : Dev nD) (j : Fin 1024) : EReal := m ((c.tc : Thread nD τ).loc main_arg4) (ix2 0 j)

variable (c : Dev nD)

/-! ## The arrays the reference goes through, each over the ones before -/

/-- The rows before the norm. -/
def zA : FVec Ideal S4112x1024 .f32 :=
  addf (mulf (broadcastInDim S4112x1024 ![] bcast_S_S4112x1024 (constant S_ .f32 0x3FD744FD#32))
      (extractStridedSlice S4112x1024 ![48, 0] (m ((c.tc : Thread nD τ).loc main_arg0)) slices_S4160x1024_S4112x1024_48_0))
    (Host.dotGeneral (F := Ideal) (φ₁ := .f32) (φ₂ := .f32) dot_S4112x1024_S1024x1024_S4112x1024_1_0_0_1_n_n none
      (extractStridedSlice S4112x1024 ![48, 0] (m ((c.tc : Thread nD τ).loc main_arg1)) slices_S4160x1024_S4112x1024_48_0)
      (m ((c.tc : Thread nD τ).loc main_arg2)))
/-- The centred rows. -/
def cenA : FVec Ideal S4112x1024 .f32 :=
  subf (zA m c) (broadcastInDim S4112x1024 ![0, 1] bcast_S4112x1_S4112x1024_0_1
    (Host.divf (broadcastInDim S4112x1 ![0] bcast_S4112_S4112x1_0
        (Host.reduceAdd (zA m c) (constant S_ .f32 0x00000000#32) reducesTo_S4112x1024_S4112_d1 h_S_))
      (broadcastInDim S4112x1 ![] bcast_S_S4112x1 (constant S_ .f32 0x44800000#32))))
/-- The variances plus ε. -/
def varA : FVec Ideal S4112x1 .f32 :=
  addf (Host.divf (broadcastInDim S4112x1 ![0] bcast_S4112_S4112x1_0
        (Host.reduceAdd (mulf (cenA m c) (cenA m c)) (constant S_ .f32 0x00000000#32) reducesTo_S4112x1024_S4112_d1 h_S_))
      (broadcastInDim S4112x1 ![] bcast_S_S4112x1 (constant S_ .f32 0x44800000#32)))
    (broadcastInDim S4112x1 ![] bcast_S_S4112x1 (constant S_ .f32 0x3727C5AC#32))
/-! ## Each of them at an index -/

/-- Token row `i` among all the rows. -/
def tok (i : Fin 4112) : Fin 4160 := ⟨48 + i.val, by omega⟩

/-- The token's row before the norm. -/
abbrev zr (i : Fin 4112) : Fin 1024 → EReal := Ln.pre (h m c) (mg m c) (w m c) (tok i)

theorem z_at (i : Fin 4112) (j : Fin 1024) : zA m c (ix2 i j) = zr m c i j := by
  unfold zA
  pointwise [zr, Ln.pre, h, mg, w, Ln.alpha, tok]
theorem cen_at (i : Fin 4112) (j : Fin 1024) : cenA m c (ix2 i j) = Ln.cen (zr m c i) j := by
  unfold cenA
  pointwise
  simp only [z_at]
  rfl
theorem var_at (i : Fin 4112) : varA m c (ix2 i 0) = Ln.var (zr m c i) := by
  unfold varA
  pointwise
  simp only [cen_at]
  rfl

theorem tok_sub (n : Fin 4160) (hn : 48 ≤ n.val) : tok ⟨n.val - 48, by omega⟩ = n :=
  Fin.ext (show 48 + (n.val - 48) = n.val by omega)

/-- The normalised rows of the tokens. -/
def rowsA : FVec Ideal S4112x1024 .f32 :=
  addf (mulf (mulf (cenA m c) (broadcastInDim S4112x1024 ![0, 1] bcast_S4112x1_S4112x1024_0_1 (Host.rsqrt (varA m c))))
      (broadcastInDim S4112x1024 ![0, 1] bcast_S1x1024_S4112x1024_0_1 (m ((c.tc : Thread nD τ).loc main_arg3))))
    (broadcastInDim S4112x1024 ![0, 1] bcast_S1x1024_S4112x1024_0_1 (m ((c.tc : Thread nD τ).loc main_arg4)))
theorem rows_at (i : Fin 4112) (j : Fin 1024) :
    rowsA m c (ix2 i j) = Ln.cen (zr m c i) j * Ln.rstd (zr m c i) * g m c j + b m c j := by
  unfold rowsA
  pointwise
  simp only [cen_at, var_at]
  rfl

theorem out0 : res_main_v27 m c = (fun i => Ln.fwd (h m c) (mg m c) (w m c) (g m c) (b m c) (i 0) (i 1) : S4160x1024.Idx → EReal) := by
  have e : res_main_v27 m c = concatenate S4160x1024 0 [⟨S48x1024, (broadcastInDim S48x1024 ![] bcast_S_S48x1024
      (constant S_ .f32 0x00000000#32))⟩, ⟨S4112x1024, rowsA m c⟩] concatenates_S48x1024_S4112x1024_S4160x1024_d0 := rfl
  rw [e]
  funext i
  obtain ⟨n, k, rfl⟩ : ∃ (n : Fin 4160) (k : Fin 1024), i = ix2 n k := ⟨i 0, i 1, eq_ix2 i⟩
  pointwise
  by_cases hn : 48 ≤ n.val
  · refine (dif_neg (show ¬n.val < 48 by omega)).trans ((rows_at m c ⟨n.val - 48, by omega⟩ k).trans ?_)
    have e2 : zr m c ⟨n.val - 48, by omega⟩ = Ln.pre (h m c) (mg m c) (w m c) n :=
      congrArg (Ln.pre (h m c) (mg m c) (w m c)) (tok_sub n hn)
    rw [e2]
    exact (if_pos hn).symm
  · refine (dif_pos (show n.val < 48 by omega)).trans ?_
    exact (if_neg hn).symm

/-- Every execution of the reference ends with the specified rows and its arguments kept. -/
theorem run :
    θ_run defs (onTc (τ := τ) (main (F := Ideal))) ⟨m, fun _ => 0, ρ⟩ fun r => ∀ c : Dev nD,
      r.2.mem ((c.tc : Thread nD τ).loc main_v27) = (fun i => Ln.fwd (h m c) (mg m c) (w m c) (g m c) (b m c) (i 0) (i 1) : S4160x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.LnOutFwdRefIdeal.Value.run m ρ)
  obtain ⟨h0, hk⟩ := h c
  refine ⟨h0.trans ?_, hk⟩
  exact out0 m c

end Cert.LnOutFwdRefIdeal.Ln

end
-- ==== Proof.S5PostFwdKernel.lean ====
/-
  What the output of the S5 branch leaves in its result array: the rows come in ten tiles of 416, and each tile's output is
  written to its rows.
-/
module

public import proofs.«01_k».proof.Proof.Gen.S5PostFwdIdeal.Value
public import proofs.«01_k».proof.Proof.S5PostSpec
public import Idealize.ShloMosaic.Lib.Pipeline.ValueKit
public import Idealize.ShloMosaic.Lib.Pipeline.ReadBack

@[expose] public section

set_option maxRecDepth 16384

noncomputable section

namespace Cert.S5PostFwdIdeal.Post

open Cert.S5PostFwdIdeal Cert.S5PostFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The scan's output, its input and the gating rows. -/
def y : Fin 4160 → Fin 768 → EReal := fun i j => m ((c : Thread nD τ).loc main_arg0) (ix2 i j)
def u : Fin 4160 → Fin 768 → EReal := fun i j => m ((c : Thread nD τ).loc main_arg1) (ix2 i j)
def z : Fin 4160 → Fin 768 → EReal := fun i j => m ((c : Thread nD τ).loc main_arg2) (ix2 i j)
/-- The scale of the input, the projection's weights and its shift. -/
def d : Fin 768 → EReal := fun j => m ((c : Thread nD τ).loc main_arg3) (ix2 0 j)
def w : Fin 768 → Fin 768 → EReal := fun i j => m ((c : Thread nD τ).loc main_arg4) (ix2 i j)
def b : Fin 768 → EReal := fun j => m ((c : Thread nD τ).loc main_arg5) (ix2 0 j)

/-- Where each window's block stands at point `t`: the row tiles move with `t`, the rest stay. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, _)

/-- Row `r` of tile `t` among all the rows. -/
def row (t : Fin cfg0.N) (r : Fin 416) : Fin 4160 :=
  ⟨t.val * 416 + r.val, by have := lt_of_lt_of_eq t.isLt N_0; omega⟩

/-! ## The blocks the body reads -/

theorem blk_y (t : Fin cfg0.N) (r : Fin 416) (j : Fin 768) : (iblk m c 0 t : Vec Ideal S416x768 .f32) (ix2 r j) = y m c (row t r) j := by
  unfold y row
  blk_simp [iblk]
  entry_read
  blk_ext [iblk, (idx t).1]
theorem blk_u (t : Fin cfg0.N) (r : Fin 416) (j : Fin 768) : (iblk m c 1 t : Vec Ideal S416x768 .f32) (ix2 r j) = u m c (row t r) j := by
  unfold u row
  blk_simp [iblk]
  entry_read
  blk_ext [iblk, (idx t).2.1]
theorem blk_z (t : Fin cfg0.N) (r : Fin 416) (j : Fin 768) : (iblk m c 2 t : Vec Ideal S416x768 .f32) (ix2 r j) = z m c (row t r) j := by
  unfold z row
  blk_simp [iblk]
  entry_read
  blk_ext [iblk, (idx t).2.2.1]
theorem blk_d (t : Fin cfg0.N) (j : Fin 768) : (iblk m c 3 t : Vec Ideal S1x768 .f32) (ix2 0 j) = d m c j := by
  unfold d
  blk_simp [iblk]
  entry_read
  blk_ext [iblk, (idx t).2.2.2.1]
theorem blk_w (t : Fin cfg0.N) (k : Fin 768) (j : Fin 768) : (iblk m c 4 t : Vec Ideal S768x768 .f32) (ix2 k j) = w m c k j := by
  unfold w
  blk_simp [iblk]
  entry_read
  blk_ext [iblk, (idx t).2.2.2.2.1]
theorem blk_b (t : Fin cfg0.N) (j : Fin 768) : (iblk m c 5 t : Vec Ideal S1x768 .f32) (ix2 0 j) = b m c j := by
  unfold b
  blk_simp [iblk]
  entry_read
  blk_ext [iblk, (idx t).2.2.2.2.2.1]

/-! ## What the body computes of its blocks, at an index -/

theorem pay (vy vu vz : Vec Ideal S416x768 .f32) (vd : Vec Ideal S1x768 .f32) (vw : Vec Ideal S768x768 .f32) (vb : Vec Ideal S1x768 .f32)
    (r : Fin 416) (j : Fin 768) : k0_pay1 vy vu vz vd vw vb (ix2 r j)
      = S5Post.fwd (fun i j => vy (ix2 i j)) (fun i j => vu (ix2 i j)) (fun i j => vz (ix2 i j)) (fun j => vd (ix2 0 j))
          (fun k j => vw (ix2 k j)) (fun j => vb (ix2 0 j)) r j := by
  unfold_payloads
  pointwise [S5Post.fwd, S5Post.out, S5Post.gate, S5Post.act, S5Post.gelu, S5Post.pass, S5Post.th, S5Post.pre, S5Post.half, S5Post.cube,
    S5Post.slope]

/-! ## The result array -/

theorem final6 : (dats m 0 c).arrAt 6 cfg0.N = (fun i => S5Post.fwd (y m c) (u m c) (z m c) (d m c) (w m c) (b m c) (i 0) (i 1) : S4160x768.Idx → EReal) := by
  refine (dats m 0 c).arrAt_eq_of_covers 6 _ (by decide +kernel) fun t hf x => ?_
  have e : ((cfg0.win 6).blk t).view.emb x = (ix2 (row t (x 0)) (x 1) : S4160x768.Idx) := by
    blk_ext [row, (idx t).2.2.2.2.2.2]
  rw [e]
  blk_simp
  rw [after0_6]
  have key : ∀ X : Vec Ideal S416x768 .f32, X = k0_pay1 (iblk m c 0 t) (iblk m c 1 t) (iblk m c 2 t) (iblk m c 3 t) (iblk m c 4 t) (iblk m c 5 t) →
      ∀ (r : Fin 416) (j : Fin 768), X (ix2 r j) = S5Post.fwd (y m c) (u m c) (z m c) (d m c) (w m c) (b m c) (row t r) j := by
    intro X hX r j
    rw [hX]
    rw [pay]
    unfold S5Post.fwd S5Post.out S5Post.gate S5Post.act S5Post.pre
    simp only [blk_y, blk_u, blk_z, blk_d, blk_w, blk_b]
  refine (congrArg _ (eq_ix2 x)).trans (key _ ?_ _ _)
  unfold out0_6
  frame_out

end Cert.S5PostFwdIdeal.Post
-- ==== Proof.S5PostFwdReference.lean ====
/- The reference's run of the S5 branch's output: its result buffer, read at an index, is the specification's term. -/
module

public import proofs.«01_k».proof.Proof.Gen.S5PostFwdRefIdeal.Run
public import proofs.«01_k».proof.Proof.S5PostSpec
public import Idealize.ShloMosaic.Lib.Pointwise
public import Idealize.ShloMosaic.Adequacy

@[expose] public section

set_option maxRecDepth 8192

noncomputable section

namespace Cert.S5PostFwdRefIdeal.Post

open Cert.S5PostFwdRefIdeal Cert.S5PostFwdRefIdeal.Gen Cert.S5PostFwdRefIdeal.Value Idealize.ShloMosaic Idealize.ShloMosaic.TcCoe
open Idealize.SL.Sem Idealize.ShloMosaic.Pointwise

variable (m : (ℓ : Loc nD τ sig) → Buf (Elt Ideal) ℓ) (ρ : Dev nD → PrngReg)

/-- The arguments as index functions. -/
def y (c : Dev nD) (i : Fin 4160) (j : Fin 768) : EReal := m ((c.tc : Thread nD τ).loc main_arg0) (ix2 i j)
def u (c : Dev nD) (i : Fin 4160) (j : Fin 768) : EReal := m ((c.tc : Thread nD τ).loc main_arg1) (ix2 i j)
def z (c : Dev nD) (i : Fin 4160) (j : Fin 768) : EReal := m ((c.tc : Thread nD τ).loc main_arg2) (ix2 i j)
def d (c : Dev nD) (j : Fin 768) : EReal := m ((c.tc : Thread nD τ).loc main_arg3) (ix2 0 j)
def w (c : Dev nD) (i : Fin 768) (j : Fin 768) : EReal := m ((c.tc : Thread nD τ).loc main_arg4) (ix2 i j)
def b (c : Dev nD) (j : Fin 768) : EReal := m ((c.tc : Thread nD τ).loc main_arg5) (ix2 0 j)

variable (c : Dev nD)

/-! ## The arrays the reference goes through, each over the ones before -/

/-- The rows before the gelu. -/
def vA : FVec Ideal S4160x768 .f32 :=
  addf (m ((c.tc : Thread nD τ).loc main_arg0)) (mulf (broadcastInDim S4160x768 ![0, 1] bcast_S1x768_S4160x768_0_1 (m ((c.tc : Thread nD τ).loc main_arg3))) (m ((c.tc : Thread nD τ).loc main_arg1)))
/-- The gelu's tanh. -/
def thA : FVec Ideal S4160x768 .f32 :=
  Host.tanh (mulf (broadcastInDim S4160x768 ![] bcast_S_S4160x768 (constant S_ .f32 0x3F4C422A#32))
      (addf (vA m c) (mulf (broadcastInDim S4160x768 ![] bcast_S_S4160x768 (constant S_ .f32 0x3D372713#32)) (mulf (mulf (vA m c) (vA m c)) (vA m c)))))
/-- The share of a row the gelu lets through. -/
def passA : FVec Ideal S4160x768 .f32 :=
  mulf (broadcastInDim S4160x768 ![] bcast_S_S4160x768 (constant S_ .f32 0x3F000000#32)) (addf (broadcastInDim S4160x768 ![] bcast_S_S4160x768 (constant S_ .f32 0x3F800000#32)) (thA m c))
/-- The gelu. -/
def actA : FVec Ideal S4160x768 .f32 :=
  mulf (vA m c) (passA m c)
/-- The gate of the projected gelu. -/
def gateA : FVec Ideal S4160x768 .f32 :=
  Host.divf (broadcastInDim S4160x768 ![] bcast_S_S4160x768 (constant S_ .f32 0x3F800000#32))
    (addf (broadcastInDim S4160x768 ![] bcast_S_S4160x768 (constant S_ .f32 0x3F800000#32))
      (Host.exp (Host.negf (addf (Host.dotGeneral (F := Ideal) (φ₁ := .f32) (φ₂ := .f32)
        dot_S4160x768_S768x768_S4160x768_1_0_0_1_n_n none (actA m c) (m ((c.tc : Thread nD τ).loc main_arg4)))
        (broadcastInDim S4160x768 ![0, 1] bcast_S1x768_S4160x768_0_1 (m ((c.tc : Thread nD τ).loc main_arg5)))))))
/-- The logistic of the gating rows. -/
def szA : FVec Ideal S4160x768 .f32 :=
  Host.divf (broadcastInDim S4160x768 ![] bcast_S_S4160x768 (constant S_ .f32 0x3F800000#32))
    (addf (broadcastInDim S4160x768 ![] bcast_S_S4160x768 (constant S_ .f32 0x3F800000#32)) (Host.exp (Host.negf (m ((c.tc : Thread nD τ).loc main_arg2)))))
/-! ## Each of them at an index -/

theorem v_at (i : Fin 4160) (j : Fin 768) : vA m c (ix2 i j) = S5Post.pre (y m c) (u m c) (d m c) i j := by
  unfold vA
  pointwise
  rfl
theorem th_at (i : Fin 4160) (j : Fin 768) : thA m c (ix2 i j) = S5Post.th (S5Post.pre (y m c) (u m c) (d m c) i j) := by
  unfold thA
  pointwise
  simp only [v_at]
  unfold S5Post.th
  rw [mul_comm (S5Post.pre _ _ _ i j) (_ * _)]
  rfl
theorem pass_at (i : Fin 4160) (j : Fin 768) : passA m c (ix2 i j) = S5Post.pass (S5Post.pre (y m c) (u m c) (d m c) i j) := by
  unfold passA
  pointwise
  rw [th_at]
  rfl
theorem act_at (i : Fin 4160) (j : Fin 768) : actA m c (ix2 i j) = S5Post.act (y m c) (u m c) (d m c) i j := by
  unfold actA
  pointwise
  rw [v_at, pass_at]
  rfl
theorem gate_at (i : Fin 4160) (j : Fin 768) : gateA m c (ix2 i j) = S5Post.gate (y m c) (u m c) (d m c) (w m c) (b m c) i j := by
  unfold gateA
  pointwise
  simp only [act_at]
  rfl
theorem sz_at (i : Fin 4160) (j : Fin 768) : szA m c (ix2 i j) = Ideal.logistic (z m c i j) := by
  unfold szA
  pointwise
  rfl

theorem out0 : mulf (mulf (actA m c) (gateA m c)) (mulf (m ((c.tc : Thread nD τ).loc main_arg2)) (szA m c))
    = (fun i => S5Post.fwd (y m c) (u m c) (z m c) (d m c) (w m c) (b m c) (i 0) (i 1) : S4160x768.Idx → EReal) := by
  funext i
  obtain ⟨n, k, rfl⟩ : ∃ (n : Fin 4160) (k : Fin 768), i = ix2 n k := ⟨i 0, i 1, eq_ix2 i⟩
  pointwise
  rw [act_at, gate_at, sz_at]
  rfl

/-- Every execution of the reference ends with the specified rows and its arguments kept. -/
theorem run :
    θ_run defs (onTc (τ := τ) (main (F := Ideal))) ⟨m, fun _ => 0, ρ⟩ fun r => ∀ c : Dev nD,
      r.2.mem ((c.tc : Thread nD τ).loc main_v27) = (fun i => S5Post.fwd (y m c) (u m c) (z m c) (d m c) (w m c) (b m c) (i 0) (i 1) : S4160x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.S5PostFwdRefIdeal.Value.run m ρ)
  obtain ⟨h0, hk⟩ := h c
  refine ⟨h0.trans ?_, hk⟩
  exact out0 m c

end Cert.S5PostFwdRefIdeal.Post

end
-- ==== Proof.SsdFwdBody.lean ====
/-
  The arrays that one grid point of the state space scan computes of what it loads: each payload of the body over the payloads it
  reads, named by the printed value it stands for.
-/
module

public import proofs.«01_k».proof.Proof.Gen.SsdFwdIdeal.Value
public import Idealize.ShloMosaic.Lib.Pointwise
public import Idealize.ShloMosaic.Lib.IdealHost

@[expose] public section

set_option maxRecDepth 16384

noncomputable section

namespace Cert.SsdFwdIdeal.Ssd

open Cert.SsdFwdIdeal Cert.SsdFwdIdeal.Gen Idealize.ShloMosaic Idealize.ShloMosaic.TcCoe

/-- What a grid point loads: its number, the rows of its tile, the parameters, and the rows and the state that the point before left. -/
structure Blk where
  n : Nat
  x0 : Vec Ideal S64x1280 .f32
  x1 : Vec Ideal S64x768 .f32
  x2 : Vec Ideal S64x128 .f32
  x3 : Vec Ideal S1x24x64 .f32
  x4 : Vec Ideal S8x1280 .f32
  x5 : Vec Ideal S1x1280 .f32
  x6 : Vec Ideal S1x768 .f32
  x7 : Vec Ideal S1x128 .f32
  x8 : Vec Ideal S1x128 .f32
  x9 : Vec Ideal S24x1 .f32
  x10 : Vec Ideal S24x1 .f32
  x11 : Vec Ideal S1x768 .f32
  halo : Vec Ideal S8x1280 .f32
  st : Vec Ideal S768x128 .f32

def e15 (b : Blk) : FVec Ideal S24x64 .f32 := k0_pay7 b.x3
def e17 (b : Blk) : FVec Ideal S8x1280 .f32 := k0_pay8 b.x4
def e19 (b : Blk) : FVec Ideal S1x1280 .f32 := k0_pay9 b.x5
def e21 (b : Blk) : FVec Ideal S1x768 .f32 := k0_pay10 b.x6
def e23 (b : Blk) : FVec Ideal S1x128 .f32 := k0_pay11 b.x7
def e25 (b : Blk) : FVec Ideal S1x128 .f32 := k0_pay12 b.x8
def e27 (b : Blk) : FVec Ideal S24x1 .f32 := k0_pay13 b.x9
def e29 (b : Blk) : FVec Ideal S24x1 .f32 := k0_pay14 b.x10
def e31 (b : Blk) : FVec Ideal S1x768 .f32 := k0_pay15 b.x11
def e37 (b : Blk) : IVec S64x1 1 := k0_pay16 (BitVec.ofNat 32 b.n)
def e38 (b : Blk) : FVec Ideal S72x1280 .f32 := k0_pay17 b.halo b.x0
def e61 (b : Blk) : FVec Ideal S64x1280 .f32 := k0_pay18 b.halo b.x0 (e17 b)
def e63 (b : Blk) : FVec Ideal S64x1280 .f32 := k0_pay19 b.halo b.x0
def e86 (b : Blk) : FVec Ideal S8x1280 .f32 := k0_pay20 b.x0
def e94 (b : Blk) : FVec Ideal S64x1280 .f32 := k0_pay21 (e17 b) (e19 b) (e37 b) (e38 b) (e61 b) (e63 b) (iota .tc S8x1280 32 [0] iota_S8x1280_d0_w32)
def e97 (b : Blk) : IVec S1x128 1 := k0_pay22
def e113 (b : Blk) : FVec Ideal S64x128 .f32 := k0_pay23 b.x2 (e23 b)
def e117 (b : Blk) : FVec Ideal S64x128 .f32 := k0_pay24 (e37 b) (e113 b)
def e120 (b : Blk) : FVec Ideal S1x128 .f32 := k0_pay25 (e25 b)
def e157 (b : Blk) : FVec Ideal S24x64 .f32 := k0_pay26 (e15 b) (e27 b) (e29 b) (Scalar.muli (BitVec.ofNat 32 b.n) 64#32)
def e160 (b : Blk) : IVec S64x64 1 := k0_pay27
def e161 (b : Blk) : FVec Ideal S64x64 .f32 := k0_pay28 (F := Ideal)
def e166 (b : Blk) : FVec Ideal S64x128 .f32 := k0_pay29 (e117 b) (e120 b) (e160 b) (Scalar.ofBits .f32 0x00000000#32 : Ideal .f32) (e161 b)
def e173 (b : Blk) : FVec Ideal S1x128 .f32 := k0_pay30 (e117 b) (e120 b) (e160 b) (Scalar.ofBits .f32 0x00000000#32 : Ideal .f32) (e161 b)
def e176 (b : Blk) : IVec S128x1 1 := k0_pay31
def e177 (b : Blk) : FVec Ideal S64x128 .f32 := k0_pay32 (e94 b)
def e178 (b : Blk) : FVec Ideal S64x128 .f32 := k0_pay33 (e94 b)
def e179 (b : Blk) : FVec Ideal S64x128 .f32 := k0_pay34 (e94 b)
def e180 (b : Blk) : FVec Ideal S64x128 .f32 := k0_pay35 (e94 b)
def e183 (b : Blk) : FVec Ideal S64x64 .f32 := k0_pay36 (e94 b)
def e186 (b : Blk) : FVec Ideal S64x64 .f32 := k0_pay37 (e94 b)
def e195 (b : Blk) : FVec Ideal S64x128 .f32 := k0_pay38 (e97 b) (e117 b)
def e204 (b : Blk) : FVec Ideal S64x128 .f32 := k0_pay39 (e97 b) (e117 b)
def e213 (b : Blk) : FVec Ideal S64x128 .f32 := k0_pay40 (e97 b) (e117 b)
def e214 (b : Blk) : FVec Ideal S64x1 .f32 := k0_pay41 (e117 b)
def e222 (b : Blk) : FVec Ideal S64x128 .f32 := k0_pay42 (e97 b) (e117 b) (e214 b)
def e231 (b : Blk) : FVec Ideal S64x128 .f32 := k0_pay43 (e97 b) (e117 b)
def e240 (b : Blk) : FVec Ideal S64x128 .f32 := k0_pay44 (e97 b) (e117 b)
def e249 (b : Blk) : FVec Ideal S64x128 .f32 := k0_pay45 (e97 b) (e166 b)
def e258 (b : Blk) : FVec Ideal S64x128 .f32 := k0_pay46 (e97 b) (e166 b)
def e267 (b : Blk) : FVec Ideal S64x128 .f32 := k0_pay47 (e97 b) (e166 b)
def e271 (b : Blk) : IVec S64x128 1 := k0_pay48 (e97 b)
def e273 (b : Blk) : FVec Ideal S64x128 .f32 := k0_pay49 (e166 b)
def e274 (b : Blk) : FVec Ideal S64x1 .f32 := k0_pay50 (e166 b)
def e276 (b : Blk) : FVec Ideal S64x128 .f32 := k0_pay51 (e271 b) (e273 b) (e274 b)
def e285 (b : Blk) : FVec Ideal S64x128 .f32 := k0_pay52 (e97 b) (e166 b)
def e294 (b : Blk) : FVec Ideal S64x128 .f32 := k0_pay53 (e97 b) (e166 b)
def e301 (b : Blk) : FVec Ideal S1x128 .f32 := k0_pay54 (e97 b) (e173 b)
def e308 (b : Blk) : FVec Ideal S1x128 .f32 := k0_pay55 (e97 b) (e173 b)
def e315 (b : Blk) : FVec Ideal S1x128 .f32 := k0_pay56 (e97 b) (e173 b)
def e322 (b : Blk) : FVec Ideal S1x128 .f32 := k0_pay57 (e97 b) (e173 b)
def e329 (b : Blk) : FVec Ideal S1x128 .f32 := k0_pay58 (e97 b) (e173 b)
def e333 (b : Blk) : FVec Ideal S1x128 .f32 := k0_pay59 (e173 b)
def e334 (b : Blk) : FVec Ideal S1x1 .f32 := k0_pay60 (e173 b)
def e336 (b : Blk) : FVec Ideal S1x128 .f32 := k0_pay61 (e97 b) (e333 b) (e334 b)
def e337 (b : Blk) : FVec Ideal S128x128 .f32 := k0_pay62 b.st
def e338 (b : Blk) : FVec Ideal S128x128 .f32 := k0_pay63 b.st
def e339 (b : Blk) : FVec Ideal S128x128 .f32 := k0_pay64 b.st
def e340 (b : Blk) : FVec Ideal S128x128 .f32 := k0_pay65 b.st
def e341 (b : Blk) : FVec Ideal S128x128 .f32 := k0_pay66 b.st
def e342 (b : Blk) : FVec Ideal S128x128 .f32 := k0_pay67 b.st
def e344 (b : Blk) : FVec Ideal S64x128 .f32 := k0_pay68 (e94 b) (e195 b)
def e346 (b : Blk) : FVec Ideal S64x128 .f32 := k0_pay69 (e94 b) (e204 b)
def e348 (b : Blk) : FVec Ideal S64x128 .f32 := k0_pay70 (e94 b) (e213 b)
def e350 (b : Blk) : FVec Ideal S64x128 .f32 := k0_pay71 (e94 b) (e222 b)
def e352 (b : Blk) : FVec Ideal S64x128 .f32 := k0_pay72 (e94 b) (e231 b)
def e354 (b : Blk) : FVec Ideal S64x128 .f32 := k0_pay73 (e94 b) (e240 b)
def e368 (b : Blk) : FVec Ideal S64x64 .f32 := k0_pay74 (e157 b) (e160 b) (e166 b)
def e382 (b : Blk) : FVec Ideal S64x64 .f32 := k0_pay75 (e157 b) (e160 b) (e166 b)
def e383 (b : Blk) : FVec Ideal S64x1 .f32 := k0_pay76 (e166 b)
def e385 (b : Blk) : IVec S24x64 32 := k0_pay77
def e396 (b : Blk) : FVec Ideal S64x64 .f32 := k0_pay78 (e157 b) (e160 b) (e383 b) (iota .tc S24x64 32 [0] iota_S24x64_d0_w32) (e385 b)
def e410 (b : Blk) : FVec Ideal S64x64 .f32 := k0_pay79 (e157 b) (e160 b) (e166 b)
def e424 (b : Blk) : FVec Ideal S64x64 .f32 := k0_pay80 (e157 b) (e160 b) (e166 b)
def e425 (b : Blk) : FVec Ideal S64x1 .f32 := k0_pay81 (e166 b)
def e431 (b : Blk) : FVec Ideal S64 .f32 := k0_pay82 (e157 b)
def e438 (b : Blk) : FVec Ideal S64x64 .f32 := k0_pay83 (e160 b) (e425 b) (e431 b)
def e452 (b : Blk) : FVec Ideal S64x64 .f32 := k0_pay84 (e157 b) (e160 b) (e166 b)
def e466 (b : Blk) : FVec Ideal S64x64 .f32 := k0_pay85 (e157 b) (e160 b) (e166 b)
def e477 (b : Blk) : FVec Ideal S64x64 .f32 := k0_pay86 (e157 b) (e166 b)
def e478 (b : Blk) : FVec Ideal S64x64 .f32 := k0_pay87 (F := Ideal)
def e480 (b : Blk) : FVec Ideal S64x64 .f32 := k0_pay88 (e160 b) (e477 b) (e478 b)
def e494 (b : Blk) : FVec Ideal S64x64 .f32 := k0_pay89 (e157 b) (e160 b) (e166 b)
def e508 (b : Blk) : FVec Ideal S64x64 .f32 := k0_pay90 (e157 b) (e160 b) (e166 b)
def e522 (b : Blk) : FVec Ideal S64x64 .f32 := k0_pay91 (e157 b) (e160 b) (e166 b)
def e523 (b : Blk) : FVec Ideal S64x64 .f32 := k0_pay92 (e183 b) (e368 b)
def e525 (b : Blk) : IVec S64x128 1 := k0_pay93 (e97 b)
def e530 (b : Blk) : FVec Ideal S64x128 .f32 := k0_pay94 (e344 b) (e523 b) (Scalar.ofBits .f32 0x00000000#32 : Ideal .f32) (e525 b)
def e538 (b : Blk) : FVec Ideal S64x128 .f32 := k0_pay95 (e97 b) (e183 b) (e346 b) (e396 b)
def e546 (b : Blk) : FVec Ideal S64x128 .f32 := k0_pay96 (e97 b) (e183 b) (e348 b) (e424 b)
def e554 (b : Blk) : FVec Ideal S64x128 .f32 := k0_pay97 (e97 b) (e186 b) (e350 b) (e452 b)
def e562 (b : Blk) : FVec Ideal S64x128 .f32 := k0_pay98 (e97 b) (e186 b) (e352 b) (e480 b)
def e570 (b : Blk) : FVec Ideal S64x128 .f32 := k0_pay99 (e97 b) (e186 b) (e354 b) (e508 b)
def e571 (b : Blk) : FVec Ideal S64x64 .f32 := k0_pay100 (e183 b) (e382 b)
def e573 (b : Blk) : IVec S64x128 1 := k0_pay101 (e97 b)
def e578 (b : Blk) : FVec Ideal S64x128 .f32 := k0_pay102 (e344 b) (e571 b) (Scalar.ofBits .f32 0x00000000#32 : Ideal .f32) (e573 b)
def e586 (b : Blk) : FVec Ideal S64x128 .f32 := k0_pay103 (e97 b) (e183 b) (e346 b) (e410 b)
def e594 (b : Blk) : FVec Ideal S64x128 .f32 := k0_pay104 (e97 b) (e183 b) (e348 b) (e438 b)
def e602 (b : Blk) : FVec Ideal S64x128 .f32 := k0_pay105 (e97 b) (e186 b) (e350 b) (e466 b)
def e610 (b : Blk) : FVec Ideal S64x128 .f32 := k0_pay106 (e97 b) (e186 b) (e352 b) (e494 b)
def e618 (b : Blk) : FVec Ideal S64x128 .f32 := k0_pay107 (e97 b) (e186 b) (e354 b) (e522 b)
def e621 (b : Blk) : FVec Ideal S64x128 .f32 := k0_pay108 (e179 b) (e337 b)
def e623 (b : Blk) : FVec Ideal S64x128 .f32 := k0_pay109 (e249 b) (e621 b)
def e628 (b : Blk) : FVec Ideal S64x128 .f32 := k0_pay110 (e179 b) (e258 b) (e338 b)
def e633 (b : Blk) : FVec Ideal S64x128 .f32 := k0_pay111 (e179 b) (e267 b) (e339 b)
def e638 (b : Blk) : FVec Ideal S64x128 .f32 := k0_pay112 (e180 b) (e276 b) (e340 b)
def e643 (b : Blk) : FVec Ideal S64x128 .f32 := k0_pay113 (e180 b) (e285 b) (e341 b)
def e648 (b : Blk) : FVec Ideal S64x128 .f32 := k0_pay114 (e180 b) (e294 b) (e342 b)
def e655 (b : Blk) : FVec Ideal S128x128 .f32 := k0_pay115 (e177 b) (e249 b) (e301 b) (e344 b)
def e662 (b : Blk) : FVec Ideal S128x128 .f32 := k0_pay116 (e177 b) (e258 b) (e308 b) (e346 b)
def e669 (b : Blk) : FVec Ideal S128x128 .f32 := k0_pay117 (e177 b) (e267 b) (e315 b) (e348 b)
def e673 (b : Blk) : FVec Ideal S64x128 .f32 := k0_pay118 (e276 b) (e322 b) (e350 b)
def e676 (b : Blk) : FVec Ideal S128x128 .f32 := k0_pay119 (e178 b) (e673 b)
def e683 (b : Blk) : FVec Ideal S128x128 .f32 := k0_pay120 (e178 b) (e285 b) (e329 b) (e352 b)
def e690 (b : Blk) : FVec Ideal S128x128 .f32 := k0_pay121 (e178 b) (e294 b) (e336 b) (e354 b)
def e691 (b : Blk) : FVec Ideal S1x128 .f32 := k0_pay122 (e173 b)
def e701 (b : Blk) : FVec Ideal S128x128 .f32 := k0_pay123 (e173 b) (e176 b) (e337 b) (e655 b)
def e711 (b : Blk) : FVec Ideal S128x128 .f32 := k0_pay124 (e173 b) (e176 b) (e338 b) (e662 b)
def e721 (b : Blk) : FVec Ideal S128x128 .f32 := k0_pay125 (e173 b) (e176 b) (e339 b) (e669 b)
def e730 (b : Blk) : FVec Ideal S128x128 .f32 := k0_pay126 (e173 b) (e176 b) (e340 b)
def e783 (b : Blk) : FVec Ideal S64x768 .f32 := k0_pay127 b.x1 (e21 b) (e31 b) (e94 b) (e530 b) (e538 b) (e546 b) (e554 b) (e562 b) (e570 b) (e578 b) (e586 b) (e594 b) (e602 b) (e610 b) (e618 b) (e623 b) (e628 b) (e633 b) (e638 b) (e643 b) (e648 b)
def e784 (b : Blk) : FVec Ideal S768x128 .f32 := k0_pay128 (e176 b) (e341 b) (e342 b) (e676 b) (e683 b) (e690 b) (e691 b) (e701 b) (e711 b) (e721 b) (e730 b)

end Cert.SsdFwdIdeal.Ssd

end
-- ==== Proof.SsdSpec.lean ====
/-
  The state space branch's output, written at an index of the extended reals. The rows come in 65 chunks of 64. A row goes
  through a causal convolution of four taps and a silu; its columns are the 768 inputs `x` (12 heads of 64), the two groups' keys
  `B` and queries `C` (128 columns each). Head `h` decays by `exp (acum l − acum s)` from row `s` to row `l` of a chunk, and
  the state of a chunk is carried to the next one with the decay of the whole chunk. The result is gated by the silu of `z` and
  normed. The first 48 rows are padding: they have neither input nor step size.
-/
module

public import Idealize.ShloMosaic.Lib.Pointwise
public import Idealize.ShloMosaic.Lib.IdealHost

@[expose] public section

noncomputable section

namespace Cert.Ssd

open Idealize.ShloMosaic

/-- The branch's arguments: the convolution's input, the gate, the step sizes' columns, the convolution's taps and shift, the step
    sizes' shift, the logarithms of the rates, the direct term's scale and the norm's scale. -/
@[ext] structure Args where
  u : Fin 4160 → Fin 1280 → EReal
  z : Fin 4160 → Fin 768 → EReal
  s : Fin 4160 → Fin 128 → EReal
  w : Fin 4 → Fin 1280 → EReal
  wb : Fin 1280 → EReal
  tb : Fin 18 → EReal
  al : Fin 18 → EReal
  d : Fin 12 → EReal
  g : Fin 768 → EReal

/-- The silu, the softplus, the number of columns of a row and the norm's offset. -/
def silu (v : EReal) : EReal := v * Ideal.logistic v
def softplus (v : EReal) : EReal := max v 0 + Ideal.log1p (Ideal.exp (-(max v (-v))))
def width : EReal := Ideal.ofBits .f32 0x44400000#32
def eps : EReal := Ideal.ofBits .f32 0x3727C5AC#32

variable (A : Args)

/-- Row `l` of chunk `c`. -/
def row (c : Fin 65) (l : Fin 64) : Fin 4160 := ⟨c.val * 64 + l.val, by omega⟩

/-- The head, the group and the group's key and query columns of a column. -/
def head (k : Fin 768) : Fin 12 := ⟨k.val / 64, by omega⟩
def lift18 (h : Fin 12) : Fin 18 := ⟨h.val, by omega⟩
def lift128 (h : Fin 12) : Fin 128 := ⟨h.val, by omega⟩
def inCol (k : Fin 768) : Fin 1280 := ⟨k.val, by omega⟩
def keyCol (k : Fin 768) (n : Fin 128) : Fin 1280 := ⟨768 + k.val / 384 * 128 + n.val, by omega⟩
def queryCol (k : Fin 768) (n : Fin 128) : Fin 1280 := ⟨1024 + k.val / 384 * 128 + n.val, by omega⟩

/-- The row `3 − j` before row `t`, zero before the first; the convolution with its shift; the activated row. -/
def tap (t : Fin 4160) (j : Fin 4) (k : Fin 1280) : EReal :=
  if 3 ≤ t.val + j.val then A.u ⟨t.val + j.val - 3, by omega⟩ k else 0
def conv (t : Fin 4160) (k : Fin 1280) : EReal :=
  tap A t 0 k * A.w 0 k + tap A t 1 k * A.w 1 k + tap A t 2 k * A.w 2 k + tap A t 3 k * A.w 3 k + A.wb k
def act (t : Fin 4160) (k : Fin 1280) : EReal := if t.val < 48 then 0 else silu (conv A t k)

/-- A head's step size at a row, its rate, and the sum of their products up to a row of the chunk and over the chunk. -/
def dt (t : Fin 4160) (h : Fin 12) : EReal := if t.val < 48 then 0 else softplus (A.s t (lift128 h) + A.tb (lift18 h))
def rate (h : Fin 12) : EReal := -Ideal.exp (A.al (lift18 h))
def acum (c : Fin 65) (l : Fin 64) (h : Fin 12) : EReal :=
  ∑ s : Fin 64, if s.val ≤ l.val then dt A (row c s) h * rate A h else 0
def last (c : Fin 65) (h : Fin 12) : EReal := acum A c 63 h

/-- The input times its step size, the keys and the queries of a column's group, the decay between two rows of a chunk. -/
def xd (c : Fin 65) (s : Fin 64) (k : Fin 768) : EReal := act A (row c s) (inCol k) * dt A (row c s) (head k)
def key (c : Fin 65) (s : Fin 64) (k : Fin 768) (n : Fin 128) : EReal := act A (row c s) (keyCol k n)
def query (c : Fin 65) (l : Fin 64) (k : Fin 768) (n : Fin 128) : EReal := act A (row c l) (queryCol k n)
def decay (c : Fin 65) (l s : Fin 64) (h : Fin 12) : EReal :=
  if s.val ≤ l.val then Ideal.exp (acum A c l h - acum A c s h) else 0

/-- What a chunk adds to the state, and the state before chunk `c`. -/
def gain (c : Fin 65) (k : Fin 768) (n : Fin 128) : EReal :=
  ∑ s : Fin 64, xd A c s k * Ideal.exp (last A c (head k) - acum A c s (head k)) * key A c s k n
def state : Nat → Fin 768 → Fin 128 → EReal
  | 0, _, _ => 0
  | c + 1, k, n => if h : c < 65 then state c k n * Ideal.exp (last A ⟨c, h⟩ (head k)) + gain A ⟨c, h⟩ k n else 0

/-- The scan's output at a row: the rows of its own chunk up to it, and the state before the chunk. -/
def inside (c : Fin 65) (l : Fin 64) (k : Fin 768) : EReal :=
  ∑ s : Fin 64, (∑ n : Fin 128, query A c l k n * key A c s k n) * decay A c l s (head k) * xd A c s k
def before (c : Fin 65) (l : Fin 64) (k : Fin 768) : EReal :=
  (∑ n : Fin 128, query A c l k n * state A c.val k n) * Ideal.exp (acum A c l (head k))

/-- With the direct term and the gate, and normed. -/
def gated (c : Fin 65) (l : Fin 64) (k : Fin 768) : EReal :=
  (inside A c l k + before A c l k + act A (row c l) (inCol k) * A.d (head k)) * silu (A.z (row c l) k)
def out (c : Fin 65) (l : Fin 64) (k : Fin 768) : EReal :=
  gated A c l k * Ideal.rsqrt (Ideal.div (∑ j, gated A c l j * gated A c l j) width + eps) * A.g k
/-- The result's row `i`: row `i mod 64` of chunk `i / 64`. -/
def result (i : Fin 4160) (k : Fin 768) : EReal := out A ⟨i.val / 64, by omega⟩ ⟨i.val % 64, by omega⟩ k

end Cert.Ssd

end
-- ==== Proof.SsdFwdRows.lean ====
/-
  The rows of one chunk in the state space scan: the activated rows, the step sizes, the rates and the sums of their products, as
  one grid point computes them of what it loads.
-/
module

public import proofs.«01_k».proof.Proof.SsdFwdBody
public import proofs.«01_k».proof.Proof.SsdSpec

@[expose] public section

set_option maxRecDepth 16384

noncomputable section

namespace Cert.SsdFwdIdeal.Ssd

open Cert.SsdFwdIdeal Cert.SsdFwdIdeal.Gen Cert.Ssd Idealize.ShloMosaic Idealize.ShloMosaic.TcCoe

/-! ## Masks of lane and row numbers -/

theorem sel_lane {α : Type} (j : Fin 128) (x y : α) :
    Scalar.select (IntOp.cmpi .slt (BitVec.ofNat 32 j.val) 64#32) x y = if j.val < 64 then x else y := by
  have h : ∀ j : Fin 128, IntOp.cmpi .slt (BitVec.ofNat 32 j.val) 64#32 = if j.val < 64 then 1#1 else 0#1 := by decide
  rw [h]; split <;> rfl
theorem sel_causal {α : Type} (l s : Fin 64) (x y : α) :
    Scalar.select (IntOp.cmpi .sge (BitVec.ofNat 32 l.val) (BitVec.ofNat 32 s.val)) x y = if s.val ≤ l.val then x else y := by
  have h : ∀ l s : Fin 64, IntOp.cmpi .sge (BitVec.ofNat 32 l.val) (BitVec.ofNat 32 s.val) = if s.val ≤ l.val then 1#1 else 0#1 := by
    decide +kernel
  rw [h]; split <;> rfl
theorem sel_until {α : Type} (s l : Fin 64) (x y : α) :
    Scalar.select (IntOp.cmpi .sle (BitVec.ofNat 32 s.val) (BitVec.ofNat 32 l.val)) x y = if s.val ≤ l.val then x else y := by
  have h : ∀ s l : Fin 64, IntOp.cmpi .sle (BitVec.ofNat 32 s.val) (BitVec.ofNat 32 l.val) = if s.val ≤ l.val then 1#1 else 0#1 := by
    decide +kernel
  rw [h]; split <;> rfl
theorem sel_valid {α : Type} (c : Fin 65) (l : Fin 64) (x y : α) :
    Scalar.select (IntOp.cmpi .sge (IntOp.addi (Scalar.muli (BitVec.ofNat 32 c.val) 64#32) (BitVec.ofNat 32 l.val)) 48#32) x y
      = if (row c l).val < 48 then y else x := by
  have h : ∀ (c : Fin 65) (l : Fin 64), IntOp.cmpi .sge (IntOp.addi (Scalar.muli (BitVec.ofNat 32 c.val) 64#32) (BitVec.ofNat 32 l.val)) 48#32
      = if (row c l).val < 48 then 0#1 else 1#1 := by decide +kernel
  rw [h]; split <;> rfl

/-- A sum over rows masked to one of them is that row's term. -/
theorem sum_pick {n : Nat} (hn : n ≤ 64) (m : Nat) (hm : m < n) (f : Fin n → EReal) :
    ∑ x, Scalar.select (IntOp.cmpi .eq (BitVec.ofNat 32 x.val) (BitVec.ofNat 32 m)) (f x) 0 = f ⟨m, hm⟩ := by
  rw [Finset.sum_eq_single (⟨m, hm⟩ : Fin n)]
  · simp [IntOp.cmpi, Scalar.select]
  · intro x _ hx
    have h : ∀ x m : Fin 64, x ≠ m → IntOp.cmpi .eq (BitVec.ofNat 32 x.val) (BitVec.ofNat 32 m.val) = 0#1 := by decide +kernel
    have := h ⟨x.val, by omega⟩ ⟨m, by omega⟩ (fun e => hx (Fin.ext (by simpa using congrArg Fin.val e)))
    simp only at this
    rw [this]; rfl
  · simp

/-! ## What a grid point loads -/

/-- Head `h` among the 24 rows of step sizes. -/
def lift24 (h : Fin 12) : Fin 24 := ⟨h.val, by omega⟩

/-- Grid point `c` loads chunk `c`'s rows, the parameters, the eight rows before the chunk and the state before it. -/
structure Loads (A : Args) (c : Fin 65) (b : Blk) : Prop where
  n : b.n = c.val
  u : ∀ l k, b.x0 (ix2 l k) = A.u (row c l) k
  z : ∀ l k, b.x1 (ix2 l k) = A.z (row c l) k
  s : ∀ l k, b.x2 (ix2 l k) = A.s (row c l) k
  st : ∀ (h : Fin 12) l, b.x3 (ix3 0 (lift24 h) l) = A.s (row c l) (lift128 h)
  w : ∀ (j : Fin 4) k, b.x4 (ix2 ⟨j.val, by omega⟩ k) = A.w j k
  wb : ∀ k, b.x5 (ix2 0 k) = A.wb k
  d : ∀ k, b.x6 (ix2 0 k) = A.d (head k)
  tb : ∀ h, b.x7 (ix2 0 (lift128 h)) = A.tb (lift18 h)
  al : ∀ h, b.x8 (ix2 0 (lift128 h)) = A.al (lift18 h)
  tbt : ∀ h, b.x9 (ix2 (lift24 h) 0) = A.tb (lift18 h)
  alt : ∀ h, b.x10 (ix2 (lift24 h) 0) = A.al (lift18 h)
  g : ∀ k, b.x11 (ix2 0 k) = A.g k
  halo : ∀ (r : Fin 8) k, b.halo (ix2 r k) = if h : 8 ≤ c.val * 64 + r.val then A.u ⟨c.val * 64 + r.val - 8, by omega⟩ k else 0
  state : ∀ k n, b.st (ix2 k n) = state A c.val k n

variable {A : Args} {c : Fin 65} {b : Blk}

/-! ## The activated rows -/

theorem tap_at (H : Loads A c b) (l : Fin 64) (k : Fin 1280) (j : Fin 4) (p : Nat) (hp : p = l.val + j.val + 5) :
    (if h : p < 8 then b.halo (ix2 ⟨p, h⟩ k) else b.x0 (ix2 ⟨p - 8, by omega⟩ k)) = tap A (row c l) j k := by
  subst hp
  unfold tap
  by_cases h : l.val + j.val + 5 < 8
  · rw [dif_pos h, H.halo]
    by_cases h' : 3 ≤ (row c l).val + j.val
    · rw [dif_pos (by simp [row] at h' ⊢; omega), if_pos h']
      exact congrArg (A.u · k) (Fin.ext (by simp [row]; omega))
    · rw [dif_neg (by simp [row] at h' ⊢; omega), if_neg h']
  · rw [dif_neg h, H.u, if_pos (by simp [row]; omega)]
    exact congrArg (A.u · k) (Fin.ext (by simp [row]; omega))

theorem e94_at (H : Loads A c b) (l : Fin 64) (k : Fin 1280) : e94 b (ix2 l k) = act A (row c l) k := by
  have t0 := tap_at H l k 0 ((8 + l.val + 72 - 3) % 72) (by simp; omega)
  have t1 := tap_at H l k 1 ((8 + l.val + 72 - 2) % 72) (by simp; omega)
  have t2 := tap_at H l k 2 ((8 + l.val + 72 - 1) % 72) (by simp; omega)
  have t3 := tap_at H l k 3 ((8 + l.val + 72) % 72) (by simp; omega)
  have w0 := H.w 0 k
  have w1 := H.w 1 k
  have w2 := H.w 2 k
  have w3 := H.w 3 k
  unfold e94 e61 e63 e38 e37 e17 e19
  unfold_payloads
  pointwise [H.n, H.wb]
  simp only [sum_pick (n := 8) (by omega) 0 (by omega), sum_pick (n := 8) (by omega) 1 (by omega), sum_pick (n := 8) (by omega) 2 (by omega),
    sum_pick (n := 8) (by omega) 3 (by omega)]
  rw [sel_valid, t0, t1, t2, t3]
  unfold act silu conv
  rw [← w0, ← w1, ← w2, ← w3]
  rfl

/-! ## Step sizes, rates and their sums -/

theorem softplus_at (v : EReal) : (if v ≠ v then v else max v 0 + Ideal.log1p (Ideal.exp (0 - FloatOps.absf (F := Ideal) (φ := .f32) v))) = softplus v := by
  rw [if_neg (by simp)]
  show max v 0 + Ideal.log1p (Ideal.exp (0 - max v (-v))) = _
  rw [zero_sub]; rfl

theorem e117_at (H : Loads A c b) (l : Fin 64) (h : Fin 12) : e117 b (ix2 l (lift128 h)) = dt A (row c l) h := by
  unfold e117 e113 e23 e37
  unfold_payloads
  pointwise [H.n, H.s, H.tb]
  rw [sel_valid, softplus_at]
  rfl

theorem e120_at (H : Loads A c b) (h : Fin 12) : e120 b (ix2 0 (lift128 h)) = rate A h := by
  unfold e120 e25
  unfold_payloads
  pointwise [H.al, rate]
  rw [zero_sub]

theorem e166_at (H : Loads A c b) (l : Fin 64) (h : Fin 12) : e166 b (ix2 l (lift128 h)) = acum A c l h := by
  unfold e166 e160 e161
  unfold_payloads
  pointwise [e117_at H, e120_at H, sel_causal, acum]
  simp only [ite_mul, one_mul, zero_mul]

theorem e173_at (H : Loads A c b) (h : Fin 12) : e173 b (ix2 0 (lift128 h)) = last A c h := by
  unfold e173 e160 e161
  unfold_payloads
  pointwise [e117_at H, e120_at H, sel_causal, sum_pick (n := 64) (by omega) 63 (by omega)]
  simp only [ite_mul, one_mul, zero_mul]
  rfl

theorem e157_at (H : Loads A c b) (h : Fin 12) (l : Fin 64) : e157 b (ix2 (lift24 h) l) = acum A c l h := by
  unfold e157 e15 e27 e29
  unfold_payloads
  pointwise [H.n, H.st, H.tbt, H.alt, sel_causal]
  simp only [sel_until, sel_valid, softplus_at, zero_sub]
  refine Finset.sum_congr rfl fun s _ => ?_
  unfold dt rate
  split
  · split
    · exact (zero_mul _).symm
    · rw [if_neg (fun h => h rfl)]; rfl
  · rfl

end Cert.SsdFwdIdeal.Ssd

end
-- ==== Proof.SsdFwdPairs.lean ====
/-
  The heads of one chunk in the state space scan, two at a time: a pair of heads fills the 128 lanes of an array, the first head
  in the lanes before 64. For each pair: the step sizes, the sums, the inputs and the state of its columns, and for each head the
  decay between two rows.
-/
module

public import proofs.«01_k».proof.Proof.SsdFwdRows

@[expose] public section

set_option maxRecDepth 16384

noncomputable section

namespace Cert.SsdFwdIdeal.Ssd

open Cert.SsdFwdIdeal Cert.SsdFwdIdeal.Gen Cert.Ssd Idealize.ShloMosaic Idealize.ShloMosaic.TcCoe

/-- Column `j` of pair `p`. -/
def col (p : Fin 6) (j : Fin 128) : Fin 768 := ⟨128 * p.val + j.val, by omega⟩

/-- A pair's column belongs to the pair's first head in the lanes before 64, else to its second. -/
theorem head_lane {α : Type} (p : Fin 6) (j : Fin 128) (f : Fin 12 → α) :
    (if j.val < 64 then f ⟨2 * p.val, by omega⟩ else f ⟨2 * p.val + 1, by omega⟩) = f (head (col p j)) := by
  split
  · exact congrArg f (Fin.ext (by simp [head, col]; omega))
  · exact congrArg f (Fin.ext (by simp [head, col]; omega))

theorem neg_inf : Named.named (F := Ideal) κ "neg_inf" (φ := .f32) 0xF149F2CA#32 = ⊥ := rfl

/-- The decay with its mask outside the exponential. -/
theorem decay_mask (p : Prop) [Decidable p] (x : EReal) : Ideal.exp (if p then x else ⊥) = if p then Ideal.exp x else 0 := by
  split <;> rfl

variable {A : Args} {c : Fin 65} {b : Blk}

/-! ## Step sizes, sums and whole chunks' sums, by lane -/

theorem e195_at (H : Loads A c b) (l : Fin 64) (j : Fin 128) : e195 b (ix2 l j) = dt A (row c l) (head (col 0 j)) := by
  have h0 := e117_at H l 0
  have h1 := e117_at H l 1
  unfold e195 e97
  unfold_payloads
  pointwise []
  rw [sel_lane]
  exact (congrArg₂ (fun x y => if j.val < 64 then x else y) h0 h1).trans (head_lane 0 j fun h => dt A (row c l) h)
theorem e204_at (H : Loads A c b) (l : Fin 64) (j : Fin 128) : e204 b (ix2 l j) = dt A (row c l) (head (col 1 j)) := by
  have h0 := e117_at H l 2
  have h1 := e117_at H l 3
  unfold e204 e97
  unfold_payloads
  pointwise []
  rw [sel_lane]
  exact (congrArg₂ (fun x y => if j.val < 64 then x else y) h0 h1).trans (head_lane 1 j fun h => dt A (row c l) h)
theorem e213_at (H : Loads A c b) (l : Fin 64) (j : Fin 128) : e213 b (ix2 l j) = dt A (row c l) (head (col 2 j)) := by
  have h0 := e117_at H l 4
  have h1 := e117_at H l 5
  unfold e213 e97
  unfold_payloads
  pointwise []
  rw [sel_lane]
  exact (congrArg₂ (fun x y => if j.val < 64 then x else y) h0 h1).trans (head_lane 2 j fun h => dt A (row c l) h)
theorem e222_at (H : Loads A c b) (l : Fin 64) (j : Fin 128) : e222 b (ix2 l j) = dt A (row c l) (head (col 3 j)) := by
  have h0 := e117_at H l 6
  have h1 := e117_at H l 7
  unfold e222 e214 e97
  unfold_payloads
  pointwise []
  rw [sel_lane]
  exact (congrArg₂ (fun x y => if j.val < 64 then x else y) h0 h1).trans (head_lane 3 j fun h => dt A (row c l) h)
theorem e231_at (H : Loads A c b) (l : Fin 64) (j : Fin 128) : e231 b (ix2 l j) = dt A (row c l) (head (col 4 j)) := by
  have h0 := e117_at H l 8
  have h1 := e117_at H l 9
  unfold e231 e97
  unfold_payloads
  pointwise []
  rw [sel_lane]
  exact (congrArg₂ (fun x y => if j.val < 64 then x else y) h0 h1).trans (head_lane 4 j fun h => dt A (row c l) h)
theorem e240_at (H : Loads A c b) (l : Fin 64) (j : Fin 128) : e240 b (ix2 l j) = dt A (row c l) (head (col 5 j)) := by
  have h0 := e117_at H l 10
  have h1 := e117_at H l 11
  unfold e240 e97
  unfold_payloads
  pointwise []
  rw [sel_lane]
  exact (congrArg₂ (fun x y => if j.val < 64 then x else y) h0 h1).trans (head_lane 5 j fun h => dt A (row c l) h)

theorem e249_at (H : Loads A c b) (l : Fin 64) (j : Fin 128) : e249 b (ix2 l j) = acum A c l (head (col 0 j)) := by
  have h0 := e166_at H l 0
  have h1 := e166_at H l 1
  unfold e249 e97
  unfold_payloads
  pointwise []
  rw [sel_lane]
  exact (congrArg₂ (fun x y => if j.val < 64 then x else y) h0 h1).trans (head_lane 0 j fun h => acum A c l h)
theorem e258_at (H : Loads A c b) (l : Fin 64) (j : Fin 128) : e258 b (ix2 l j) = acum A c l (head (col 1 j)) := by
  have h0 := e166_at H l 2
  have h1 := e166_at H l 3
  unfold e258 e97
  unfold_payloads
  pointwise []
  rw [sel_lane]
  exact (congrArg₂ (fun x y => if j.val < 64 then x else y) h0 h1).trans (head_lane 1 j fun h => acum A c l h)
theorem e267_at (H : Loads A c b) (l : Fin 64) (j : Fin 128) : e267 b (ix2 l j) = acum A c l (head (col 2 j)) := by
  have h0 := e166_at H l 4
  have h1 := e166_at H l 5
  unfold e267 e97
  unfold_payloads
  pointwise []
  rw [sel_lane]
  exact (congrArg₂ (fun x y => if j.val < 64 then x else y) h0 h1).trans (head_lane 2 j fun h => acum A c l h)
theorem e276_at (H : Loads A c b) (l : Fin 64) (j : Fin 128) : e276 b (ix2 l j) = acum A c l (head (col 3 j)) := by
  have h0 := e166_at H l 6
  have h1 := e166_at H l 7
  unfold e276 e271 e273 e274 e97
  unfold_payloads
  pointwise []
  rw [sel_lane]
  exact (congrArg₂ (fun x y => if j.val < 64 then x else y) h0 h1).trans (head_lane 3 j fun h => acum A c l h)
theorem e285_at (H : Loads A c b) (l : Fin 64) (j : Fin 128) : e285 b (ix2 l j) = acum A c l (head (col 4 j)) := by
  have h0 := e166_at H l 8
  have h1 := e166_at H l 9
  unfold e285 e97
  unfold_payloads
  pointwise []
  rw [sel_lane]
  exact (congrArg₂ (fun x y => if j.val < 64 then x else y) h0 h1).trans (head_lane 4 j fun h => acum A c l h)
theorem e294_at (H : Loads A c b) (l : Fin 64) (j : Fin 128) : e294 b (ix2 l j) = acum A c l (head (col 5 j)) := by
  have h0 := e166_at H l 10
  have h1 := e166_at H l 11
  unfold e294 e97
  unfold_payloads
  pointwise []
  rw [sel_lane]
  exact (congrArg₂ (fun x y => if j.val < 64 then x else y) h0 h1).trans (head_lane 5 j fun h => acum A c l h)

theorem e301_at (H : Loads A c b) (j : Fin 128) : e301 b (ix2 0 j) = last A c (head (col 0 j)) := by
  have h0 := e173_at H 0
  have h1 := e173_at H 1
  unfold e301 e97
  unfold_payloads
  pointwise []
  rw [sel_lane]
  exact (congrArg₂ (fun x y => if j.val < 64 then x else y) h0 h1).trans (head_lane 0 j fun h => last A c h)
theorem e308_at (H : Loads A c b) (j : Fin 128) : e308 b (ix2 0 j) = last A c (head (col 1 j)) := by
  have h0 := e173_at H 2
  have h1 := e173_at H 3
  unfold e308 e97
  unfold_payloads
  pointwise []
  rw [sel_lane]
  exact (congrArg₂ (fun x y => if j.val < 64 then x else y) h0 h1).trans (head_lane 1 j fun h => last A c h)
theorem e315_at (H : Loads A c b) (j : Fin 128) : e315 b (ix2 0 j) = last A c (head (col 2 j)) := by
  have h0 := e173_at H 4
  have h1 := e173_at H 5
  unfold e315 e97
  unfold_payloads
  pointwise []
  rw [sel_lane]
  exact (congrArg₂ (fun x y => if j.val < 64 then x else y) h0 h1).trans (head_lane 2 j fun h => last A c h)
theorem e322_at (H : Loads A c b) (j : Fin 128) : e322 b (ix2 0 j) = last A c (head (col 3 j)) := by
  have h0 := e173_at H 6
  have h1 := e173_at H 7
  unfold e322 e97
  unfold_payloads
  pointwise []
  rw [sel_lane]
  exact (congrArg₂ (fun x y => if j.val < 64 then x else y) h0 h1).trans (head_lane 3 j fun h => last A c h)
theorem e329_at (H : Loads A c b) (j : Fin 128) : e329 b (ix2 0 j) = last A c (head (col 4 j)) := by
  have h0 := e173_at H 8
  have h1 := e173_at H 9
  unfold e329 e97
  unfold_payloads
  pointwise []
  rw [sel_lane]
  exact (congrArg₂ (fun x y => if j.val < 64 then x else y) h0 h1).trans (head_lane 4 j fun h => last A c h)
theorem e336_at (H : Loads A c b) (j : Fin 128) : e336 b (ix2 0 j) = last A c (head (col 5 j)) := by
  have h0 := e173_at H 10
  have h1 := e173_at H 11
  unfold e336 e333 e334 e97
  unfold_payloads
  pointwise []
  rw [sel_lane]
  exact (congrArg₂ (fun x y => if j.val < 64 then x else y) h0 h1).trans (head_lane 5 j fun h => last A c h)

/-! ## The state before the chunk and the inputs times their step sizes -/

theorem e337_at (H : Loads A c b) (j n : Fin 128) : e337 b (ix2 j n) = state A c.val (col 0 j) n := by
  have h0 := H.state (col 0 j) n
  unfold e337
  unfold_payloads
  pointwise []
  exact (congrArg b.st (congrArg (ix2 · n) (Fin.ext (by simp [col])))).trans h0
theorem e338_at (H : Loads A c b) (j n : Fin 128) : e338 b (ix2 j n) = state A c.val (col 1 j) n := by
  have h0 := H.state (col 1 j) n
  unfold e338
  unfold_payloads
  pointwise []
  exact h0
theorem e339_at (H : Loads A c b) (j n : Fin 128) : e339 b (ix2 j n) = state A c.val (col 2 j) n := by
  have h0 := H.state (col 2 j) n
  unfold e339
  unfold_payloads
  pointwise []
  exact h0
theorem e340_at (H : Loads A c b) (j n : Fin 128) : e340 b (ix2 j n) = state A c.val (col 3 j) n := by
  have h0 := H.state (col 3 j) n
  unfold e340
  unfold_payloads
  pointwise []
  exact h0
theorem e341_at (H : Loads A c b) (j n : Fin 128) : e341 b (ix2 j n) = state A c.val (col 4 j) n := by
  have h0 := H.state (col 4 j) n
  unfold e341
  unfold_payloads
  pointwise []
  exact h0
theorem e342_at (H : Loads A c b) (j n : Fin 128) : e342 b (ix2 j n) = state A c.val (col 5 j) n := by
  have h0 := H.state (col 5 j) n
  unfold e342
  unfold_payloads
  pointwise []
  exact h0

theorem e344_at (H : Loads A c b) (l : Fin 64) (j : Fin 128) : e344 b (ix2 l j) = xd A c l (col 0 j) := by
  have h0 := e94_at H l (inCol (col 0 j))
  unfold e344
  unfold_payloads
  pointwise [e195_at H]
  exact congrArg (· * _) ((congrArg (e94 b) (congrArg (ix2 l) (Fin.ext (by simp [col, inCol])))).trans h0)
theorem e346_at (H : Loads A c b) (l : Fin 64) (j : Fin 128) : e346 b (ix2 l j) = xd A c l (col 1 j) := by
  have h0 := e94_at H l (inCol (col 1 j))
  unfold e346
  unfold_payloads
  pointwise [e204_at H]
  exact congrArg (· * _) (h0)
theorem e348_at (H : Loads A c b) (l : Fin 64) (j : Fin 128) : e348 b (ix2 l j) = xd A c l (col 2 j) := by
  have h0 := e94_at H l (inCol (col 2 j))
  unfold e348
  unfold_payloads
  pointwise [e213_at H]
  exact congrArg (· * _) (h0)
theorem e350_at (H : Loads A c b) (l : Fin 64) (j : Fin 128) : e350 b (ix2 l j) = xd A c l (col 3 j) := by
  have h0 := e94_at H l (inCol (col 3 j))
  unfold e350
  unfold_payloads
  pointwise [e222_at H]
  exact congrArg (· * _) (h0)
theorem e352_at (H : Loads A c b) (l : Fin 64) (j : Fin 128) : e352 b (ix2 l j) = xd A c l (col 4 j) := by
  have h0 := e94_at H l (inCol (col 4 j))
  unfold e352
  unfold_payloads
  pointwise [e231_at H]
  exact congrArg (· * _) (h0)
theorem e354_at (H : Loads A c b) (l : Fin 64) (j : Fin 128) : e354 b (ix2 l j) = xd A c l (col 5 j) := by
  have h0 := e94_at H l (inCol (col 5 j))
  unfold e354
  unfold_payloads
  pointwise [e240_at H]
  exact congrArg (· * _) (h0)

/-! ## The decay of a head from row `s` to row `l` -/

theorem e368_at (H : Loads A c b) (l s : Fin 64) : e368 b (ix2 l s) = decay A c l s 0 := by
  have h0 := e166_at H l 0
  have h1 := e157_at H 0 s
  unfold e368 e160
  unfold_payloads
  pointwise []
  simp only [sum_pick (n := 24) (by omega) 0 (by omega)]
  rw [sel_causal, neg_inf, decay_mask]
  exact congrArg (fun x => if s.val ≤ l.val then Ideal.exp x else 0) (congrArg₂ (· - ·) h0 h1)
theorem e382_at (H : Loads A c b) (l s : Fin 64) : e382 b (ix2 l s) = decay A c l s 1 := by
  have h0 := e166_at H l 1
  have h1 := e157_at H 1 s
  unfold e382 e160
  unfold_payloads
  pointwise []
  simp only [sum_pick (n := 24) (by omega) 1 (by omega)]
  rw [sel_causal, neg_inf, decay_mask]
  exact congrArg (fun x => if s.val ≤ l.val then Ideal.exp x else 0) (congrArg₂ (· - ·) h0 h1)
theorem e396_at (H : Loads A c b) (l s : Fin 64) : e396 b (ix2 l s) = decay A c l s 2 := by
  have h0 := e166_at H l 2
  have h1 := e157_at H 2 s
  unfold e396 e383 e385 e160
  unfold_payloads
  pointwise []
  simp only [sum_pick (n := 24) (by omega) 2 (by omega)]
  rw [sel_causal, neg_inf, decay_mask]
  exact congrArg (fun x => if s.val ≤ l.val then Ideal.exp x else 0) (congrArg₂ (· - ·) h0 h1)
theorem e410_at (H : Loads A c b) (l s : Fin 64) : e410 b (ix2 l s) = decay A c l s 3 := by
  have h0 := e166_at H l 3
  have h1 := e157_at H 3 s
  unfold e410 e160
  unfold_payloads
  pointwise []
  simp only [sum_pick (n := 24) (by omega) 3 (by omega)]
  rw [sel_causal, neg_inf, decay_mask]
  exact congrArg (fun x => if s.val ≤ l.val then Ideal.exp x else 0) (congrArg₂ (· - ·) h0 h1)
theorem e424_at (H : Loads A c b) (l s : Fin 64) : e424 b (ix2 l s) = decay A c l s 4 := by
  have h0 := e166_at H l 4
  have h1 := e157_at H 4 s
  unfold e424 e160
  unfold_payloads
  pointwise []
  simp only [sum_pick (n := 24) (by omega) 4 (by omega)]
  rw [sel_causal, neg_inf, decay_mask]
  exact congrArg (fun x => if s.val ≤ l.val then Ideal.exp x else 0) (congrArg₂ (· - ·) h0 h1)
theorem e438_at (H : Loads A c b) (l s : Fin 64) : e438 b (ix2 l s) = decay A c l s 5 := by
  have h0 := e166_at H l 5
  have h1 := e157_at H 5 s
  unfold e438 e425 e431 e160
  unfold_payloads
  pointwise []
  simp only [sum_pick (n := 24) (by omega) 5 (by omega)]
  rw [sel_causal, neg_inf, decay_mask]
  exact congrArg (fun x => if s.val ≤ l.val then Ideal.exp x else 0) (congrArg₂ (· - ·) h0 h1)
theorem e452_at (H : Loads A c b) (l s : Fin 64) : e452 b (ix2 l s) = decay A c l s 6 := by
  have h0 := e166_at H l 6
  have h1 := e157_at H 6 s
  unfold e452 e160
  unfold_payloads
  pointwise []
  simp only [sum_pick (n := 24) (by omega) 6 (by omega)]
  rw [sel_causal, neg_inf, decay_mask]
  exact congrArg (fun x => if s.val ≤ l.val then Ideal.exp x else 0) (congrArg₂ (· - ·) h0 h1)
theorem e466_at (H : Loads A c b) (l s : Fin 64) : e466 b (ix2 l s) = decay A c l s 7 := by
  have h0 := e166_at H l 7
  have h1 := e157_at H 7 s
  unfold e466 e160
  unfold_payloads
  pointwise []
  simp only [sum_pick (n := 24) (by omega) 7 (by omega)]
  rw [sel_causal, neg_inf, decay_mask]
  exact congrArg (fun x => if s.val ≤ l.val then Ideal.exp x else 0) (congrArg₂ (· - ·) h0 h1)
theorem e480_at (H : Loads A c b) (l s : Fin 64) : e480 b (ix2 l s) = decay A c l s 8 := by
  have h0 := e166_at H l 8
  have h1 := e157_at H 8 s
  unfold e480 e477 e478 e160
  unfold_payloads
  pointwise []
  simp only [sum_pick (n := 24) (by omega) 8 (by omega)]
  rw [sel_causal, neg_inf, decay_mask]
  exact congrArg (fun x => if s.val ≤ l.val then Ideal.exp x else 0) (congrArg₂ (· - ·) h0 h1)
theorem e494_at (H : Loads A c b) (l s : Fin 64) : e494 b (ix2 l s) = decay A c l s 9 := by
  have h0 := e166_at H l 9
  have h1 := e157_at H 9 s
  unfold e494 e160
  unfold_payloads
  pointwise []
  simp only [sum_pick (n := 24) (by omega) 9 (by omega)]
  rw [sel_causal, neg_inf, decay_mask]
  exact congrArg (fun x => if s.val ≤ l.val then Ideal.exp x else 0) (congrArg₂ (· - ·) h0 h1)
theorem e508_at (H : Loads A c b) (l s : Fin 64) : e508 b (ix2 l s) = decay A c l s 10 := by
  have h0 := e166_at H l 10
  have h1 := e157_at H 10 s
  unfold e508 e160
  unfold_payloads
  pointwise []
  simp only [sum_pick (n := 24) (by omega) 10 (by omega)]
  rw [sel_causal, neg_inf, decay_mask]
  exact congrArg (fun x => if s.val ≤ l.val then Ideal.exp x else 0) (congrArg₂ (· - ·) h0 h1)
theorem e522_at (H : Loads A c b) (l s : Fin 64) : e522 b (ix2 l s) = decay A c l s 11 := by
  have h0 := e166_at H l 11
  have h1 := e157_at H 11 s
  unfold e522 e160
  unfold_payloads
  pointwise []
  simp only [sum_pick (n := 24) (by omega) 11 (by omega)]
  rw [sel_causal, neg_inf, decay_mask]
  exact congrArg (fun x => if s.val ≤ l.val then Ideal.exp x else 0) (congrArg₂ (· - ·) h0 h1)

/-! ## Queries against keys, and the two groups' columns -/

theorem e177_at (H : Loads A c b) (s : Fin 64) (n : Fin 128) (k : Fin 768) (hk : k.val / 384 = 0) : e177 b (ix2 s n) = key A c s k n := by
  have h0 := e94_at H s (keyCol k n)
  unfold e177
  unfold_payloads
  pointwise []
  exact (congrArg (e94 b) (congrArg (ix2 s) (Fin.ext (by simp [keyCol, hk])))).trans h0
theorem e179_at (H : Loads A c b) (s : Fin 64) (n : Fin 128) (k : Fin 768) (hk : k.val / 384 = 0) : e179 b (ix2 s n) = query A c s k n := by
  have h0 := e94_at H s (queryCol k n)
  unfold e179
  unfold_payloads
  pointwise []
  exact (congrArg (e94 b) (congrArg (ix2 s) (Fin.ext (by simp [queryCol, hk])))).trans h0
theorem e183_eq (l s : Fin 64) : e183 b (ix2 l s) = ∑ n, e179 b (ix2 l n) * e177 b (ix2 s n) := by
  unfold e183 e179 e177
  unfold_payloads
  pointwise []
theorem e183_at (H : Loads A c b) (l s : Fin 64) (k : Fin 768) (hk : k.val / 384 = 0) :
    e183 b (ix2 l s) = ∑ n, query A c l k n * key A c s k n :=
  (e183_eq l s).trans (Finset.sum_congr rfl fun n _ => congrArg₂ (· * ·) (e179_at H l n k hk) (e177_at H s n k hk))
theorem e178_at (H : Loads A c b) (s : Fin 64) (n : Fin 128) (k : Fin 768) (hk : k.val / 384 = 1) : e178 b (ix2 s n) = key A c s k n := by
  have h0 := e94_at H s (keyCol k n)
  unfold e178
  unfold_payloads
  pointwise []
  exact (congrArg (e94 b) (congrArg (ix2 s) (Fin.ext (by simp [keyCol, hk])))).trans h0
theorem e180_at (H : Loads A c b) (s : Fin 64) (n : Fin 128) (k : Fin 768) (hk : k.val / 384 = 1) : e180 b (ix2 s n) = query A c s k n := by
  have h0 := e94_at H s (queryCol k n)
  unfold e180
  unfold_payloads
  pointwise []
  exact (congrArg (e94 b) (congrArg (ix2 s) (Fin.ext (by simp [queryCol, hk])))).trans h0
theorem e186_eq (l s : Fin 64) : e186 b (ix2 l s) = ∑ n, e180 b (ix2 l n) * e178 b (ix2 s n) := by
  unfold e186 e180 e178
  unfold_payloads
  pointwise []
theorem e186_at (H : Loads A c b) (l s : Fin 64) (k : Fin 768) (hk : k.val / 384 = 1) :
    e186 b (ix2 l s) = ∑ n, query A c l k n * key A c s k n :=
  (e186_eq l s).trans (Finset.sum_congr rfl fun n _ => congrArg₂ (· * ·) (e180_at H l n k hk) (e178_at H s n k hk))

end Cert.SsdFwdIdeal.Ssd

end
-- ==== Proof.SsdFwdChunk.lean ====
/-
  What a grid point of the state space scan leaves of one chunk: the output at its rows, the state after it and its last eight
  rows.
-/
module

public import proofs.«01_k».proof.Proof.SsdFwdPairs

@[expose] public section

set_option maxRecDepth 16384

noncomputable section

namespace Cert.SsdFwdIdeal.Ssd

open Cert.SsdFwdIdeal Cert.SsdFwdIdeal.Gen Cert.Ssd Idealize.ShloMosaic Idealize.ShloMosaic.TcCoe

variable {A : Args} {c : Fin 65} {b : Blk}

/-! ## Six pairs side by side -/

theorem col_of (k : Fin 768) : ∃ (p : Fin 6) (j : Fin 128), k = col p j :=
  ⟨⟨k.val / 128, by omega⟩, ⟨k.val % 128, by omega⟩, Fin.ext (by simp only [col]; omega)⟩

theorem concat_cols (f0 f1 f2 f3 f4 f5 : FVec Ideal S64x128 .f32) (G : Fin 64 → Fin 768 → EReal) hc
    (h0 : ∀ l j, f0 (ix2 l j) = G l (col 0 j)) (h1 : ∀ l j, f1 (ix2 l j) = G l (col 1 j)) (h2 : ∀ l j, f2 (ix2 l j) = G l (col 2 j))
    (h3 : ∀ l j, f3 (ix2 l j) = G l (col 3 j)) (h4 : ∀ l j, f4 (ix2 l j) = G l (col 4 j)) (h5 : ∀ l j, f5 (ix2 l j) = G l (col 5 j)) :
    concatenate S64x768 1 [⟨S64x128, f0⟩, ⟨S64x128, f1⟩, ⟨S64x128, f2⟩, ⟨S64x128, f3⟩, ⟨S64x128, f4⟩, ⟨S64x128, f5⟩] hc
      = (fun i => G (i 0) (i 1) : S64x768.Idx → EReal) := by
  funext i
  obtain ⟨l, k, rfl⟩ : ∃ (l : Fin 64) (k : Fin 768), i = ix2 l k := ⟨i 0, i 1, eq_ix2 i⟩
  obtain ⟨p, j, rfl⟩ := col_of k
  have off : ∀ (p : Fin 6) (b : Fin 2), b ≠ 1 → ((ix2 l j : S64x128.Idx) b).val = ((ix2 l (col p j) : S64x768.Idx) b).val := by
    intro p b hb
    match b with
    | 0 => rfl
    | 1 => exact absurd rfl hb
  match p with
  | 0 => exact (concatenate_apply_piece 1 _ hc (ix2 l (col 0 j)) 0 (by simp) S64x128 f0 rfl rfl (128 * 0) rfl (ix2 l j) (off 0) rfl).trans (h0 l j)
  | 1 => exact (concatenate_apply_piece 1 _ hc (ix2 l (col 1 j)) 1 (by simp) S64x128 f1 rfl rfl (128 * 1) rfl (ix2 l j) (off 1) rfl).trans (h1 l j)
  | 2 => exact (concatenate_apply_piece 1 _ hc (ix2 l (col 2 j)) 2 (by simp) S64x128 f2 rfl rfl (128 * 2) rfl (ix2 l j) (off 2) rfl).trans (h2 l j)
  | 3 => exact (concatenate_apply_piece 1 _ hc (ix2 l (col 3 j)) 3 (by simp) S64x128 f3 rfl rfl (128 * 3) rfl (ix2 l j) (off 3) rfl).trans (h3 l j)
  | 4 => exact (concatenate_apply_piece 1 _ hc (ix2 l (col 4 j)) 4 (by simp) S64x128 f4 rfl rfl (128 * 4) rfl (ix2 l j) (off 4) rfl).trans (h4 l j)
  | 5 => exact (concatenate_apply_piece 1 _ hc (ix2 l (col 5 j)) 5 (by simp) S64x128 f5 rfl rfl (128 * 5) rfl (ix2 l j) (off 5) rfl).trans (h5 l j)

theorem concat_rows (f0 f1 f2 f3 f4 f5 : FVec Ideal S128x128 .f32) (G : Fin 768 → Fin 128 → EReal) hc
    (h0 : ∀ j n, f0 (ix2 j n) = G (col 0 j) n) (h1 : ∀ j n, f1 (ix2 j n) = G (col 1 j) n) (h2 : ∀ j n, f2 (ix2 j n) = G (col 2 j) n)
    (h3 : ∀ j n, f3 (ix2 j n) = G (col 3 j) n) (h4 : ∀ j n, f4 (ix2 j n) = G (col 4 j) n) (h5 : ∀ j n, f5 (ix2 j n) = G (col 5 j) n) :
    concatenate S768x128 0 [⟨S128x128, f0⟩, ⟨S128x128, f1⟩, ⟨S128x128, f2⟩, ⟨S128x128, f3⟩, ⟨S128x128, f4⟩, ⟨S128x128, f5⟩] hc
      = (fun i => G (i 0) (i 1) : S768x128.Idx → EReal) := by
  funext i
  obtain ⟨k, n, rfl⟩ : ∃ (k : Fin 768) (n : Fin 128), i = ix2 k n := ⟨i 0, i 1, eq_ix2 i⟩
  obtain ⟨p, j, rfl⟩ := col_of k
  have off : ∀ (p : Fin 6) (b : Fin 2), b ≠ 0 → ((ix2 j n : S128x128.Idx) b).val = ((ix2 (col p j) n : S768x128.Idx) b).val := by
    intro p b hb
    match b with
    | 0 => exact absurd rfl hb
    | 1 => rfl
  match p with
  | 0 => exact (concatenate_apply_piece 0 _ hc (ix2 (col 0 j) n) 0 (by simp) S128x128 f0 rfl rfl (128 * 0) rfl (ix2 j n) (off 0) rfl).trans (h0 j n)
  | 1 => exact (concatenate_apply_piece 0 _ hc (ix2 (col 1 j) n) 1 (by simp) S128x128 f1 rfl rfl (128 * 1) rfl (ix2 j n) (off 1) rfl).trans (h1 j n)
  | 2 => exact (concatenate_apply_piece 0 _ hc (ix2 (col 2 j) n) 2 (by simp) S128x128 f2 rfl rfl (128 * 2) rfl (ix2 j n) (off 2) rfl).trans (h2 j n)
  | 3 => exact (concatenate_apply_piece 0 _ hc (ix2 (col 3 j) n) 3 (by simp) S128x128 f3 rfl rfl (128 * 3) rfl (ix2 j n) (off 3) rfl).trans (h3 j n)
  | 4 => exact (concatenate_apply_piece 0 _ hc (ix2 (col 4 j) n) 4 (by simp) S128x128 f4 rfl rfl (128 * 4) rfl (ix2 j n) (off 4) rfl).trans (h4 j n)
  | 5 => exact (concatenate_apply_piece 0 _ hc (ix2 (col 5 j) n) 5 (by simp) S128x128 f5 rfl rfl (128 * 5) rfl (ix2 j n) (off 5) rfl).trans (h5 j n)

/-! ## The rows of the chunk itself -/

/-- A pair's two products, each masked to its head's lanes, add up to the head's. -/
theorem both_lanes (p : Fin 6) (l : Fin 64) (j : Fin 128) :
    (∑ s : Fin 64, if j.val < 64 then (∑ n : Fin 128, query A c l (col p j) n * key A c s (col p j) n) * decay A c l s ⟨2 * p.val, by omega⟩ * xd A c s (col p j) else 0)
      + (∑ s : Fin 64, if j.val < 64 then 0 else (∑ n : Fin 128, query A c l (col p j) n * key A c s (col p j) n) * decay A c l s ⟨2 * p.val + 1, by omega⟩ * xd A c s (col p j))
      = inside A c l (col p j) := by
  unfold inside
  rw [← Finset.sum_add_distrib]
  refine Finset.sum_congr rfl fun s _ => ?_
  rw [← head_lane p j (decay A c l s)]
  split <;> simp

theorem y0_at (H : Loads A c b) (l : Fin 64) (j : Fin 128) : e530 b (ix2 l j) + e578 b (ix2 l j) = inside A c l (col 0 j) := by
  have hs := fun s => e183_at H l s (col 0 j) (by simp [col]; omega)
  rw [← both_lanes]
  unfold e530 e578 e523 e525 e571 e573 e97
  unfold_payloads
  pointwise [e368_at H, e382_at H, e344_at H]
  simp only [sel_lane, hs]
theorem y1_at (H : Loads A c b) (l : Fin 64) (j : Fin 128) : e538 b (ix2 l j) + e586 b (ix2 l j) = inside A c l (col 1 j) := by
  have hs := fun s => e183_at H l s (col 1 j) (by simp [col]; omega)
  rw [← both_lanes]
  unfold e538 e586 e97
  unfold_payloads
  pointwise [e396_at H, e410_at H, e346_at H]
  simp only [sel_lane, hs]
theorem y2_at (H : Loads A c b) (l : Fin 64) (j : Fin 128) : e546 b (ix2 l j) + e594 b (ix2 l j) = inside A c l (col 2 j) := by
  have hs := fun s => e183_at H l s (col 2 j) (by simp [col]; omega)
  rw [← both_lanes]
  unfold e546 e594 e97
  unfold_payloads
  pointwise [e424_at H, e438_at H, e348_at H]
  simp only [sel_lane, hs]
theorem y3_at (H : Loads A c b) (l : Fin 64) (j : Fin 128) : e554 b (ix2 l j) + e602 b (ix2 l j) = inside A c l (col 3 j) := by
  have hs := fun s => e186_at H l s (col 3 j) (by simp [col]; omega)
  rw [← both_lanes]
  unfold e554 e602 e97
  unfold_payloads
  pointwise [e452_at H, e466_at H, e350_at H]
  simp only [sel_lane, hs]
theorem y4_at (H : Loads A c b) (l : Fin 64) (j : Fin 128) : e562 b (ix2 l j) + e610 b (ix2 l j) = inside A c l (col 4 j) := by
  have hs := fun s => e186_at H l s (col 4 j) (by simp [col]; omega)
  rw [← both_lanes]
  unfold e562 e610 e97
  unfold_payloads
  pointwise [e480_at H, e494_at H, e352_at H]
  simp only [sel_lane, hs]
theorem y5_at (H : Loads A c b) (l : Fin 64) (j : Fin 128) : e570 b (ix2 l j) + e618 b (ix2 l j) = inside A c l (col 5 j) := by
  have hs := fun s => e186_at H l s (col 5 j) (by simp [col]; omega)
  rw [← both_lanes]
  unfold e570 e618 e97
  unfold_payloads
  pointwise [e508_at H, e522_at H, e354_at H]
  simp only [sel_lane, hs]

/-! ## The state before the chunk -/

theorem e623_at (H : Loads A c b) (l : Fin 64) (j : Fin 128) : e623 b (ix2 l j) = before A c l (col 0 j) := by
  have hq := fun n => e179_at H l n (col 0 j) (by simp [col]; omega)
  unfold e623 e621 before
  unfold_payloads
  pointwise [e249_at H, e337_at H]
  simp only [hq]
theorem e628_at (H : Loads A c b) (l : Fin 64) (j : Fin 128) : e628 b (ix2 l j) = before A c l (col 1 j) := by
  have hq := fun n => e179_at H l n (col 1 j) (by simp [col]; omega)
  unfold e628 before
  unfold_payloads
  pointwise [e258_at H, e338_at H]
  simp only [hq]
theorem e633_at (H : Loads A c b) (l : Fin 64) (j : Fin 128) : e633 b (ix2 l j) = before A c l (col 2 j) := by
  have hq := fun n => e179_at H l n (col 2 j) (by simp [col]; omega)
  unfold e633 before
  unfold_payloads
  pointwise [e267_at H, e339_at H]
  simp only [hq]
theorem e638_at (H : Loads A c b) (l : Fin 64) (j : Fin 128) : e638 b (ix2 l j) = before A c l (col 3 j) := by
  have hq := fun n => e180_at H l n (col 3 j) (by simp [col]; omega)
  unfold e638 before
  unfold_payloads
  pointwise [e276_at H, e340_at H]
  simp only [hq]
theorem e643_at (H : Loads A c b) (l : Fin 64) (j : Fin 128) : e643 b (ix2 l j) = before A c l (col 4 j) := by
  have hq := fun n => e180_at H l n (col 4 j) (by simp [col]; omega)
  unfold e643 before
  unfold_payloads
  pointwise [e285_at H, e341_at H]
  simp only [hq]
theorem e648_at (H : Loads A c b) (l : Fin 64) (j : Fin 128) : e648 b (ix2 l j) = before A c l (col 5 j) := by
  have hq := fun n => e180_at H l n (col 5 j) (by simp [col]; omega)
  unfold e648 before
  unfold_payloads
  pointwise [e294_at H, e342_at H]
  simp only [hq]

/-! ## What the chunk adds to the state -/

theorem e655_at (H : Loads A c b) (j n : Fin 128) : e655 b (ix2 j n) = gain A c (col 0 j) n := by
  have hk := fun s => e177_at H s n (col 0 j) (by simp [col]; omega)
  unfold e655 gain
  unfold_payloads
  pointwise [e249_at H, e301_at H, e344_at H]
  simp only [hk]
theorem e662_at (H : Loads A c b) (j n : Fin 128) : e662 b (ix2 j n) = gain A c (col 1 j) n := by
  have hk := fun s => e177_at H s n (col 1 j) (by simp [col]; omega)
  unfold e662 gain
  unfold_payloads
  pointwise [e258_at H, e308_at H, e346_at H]
  simp only [hk]
theorem e669_at (H : Loads A c b) (j n : Fin 128) : e669 b (ix2 j n) = gain A c (col 2 j) n := by
  have hk := fun s => e177_at H s n (col 2 j) (by simp [col]; omega)
  unfold e669 gain
  unfold_payloads
  pointwise [e267_at H, e315_at H, e348_at H]
  simp only [hk]
theorem e676_at (H : Loads A c b) (j n : Fin 128) : e676 b (ix2 j n) = gain A c (col 3 j) n := by
  have hk := fun s => e178_at H s n (col 3 j) (by simp [col]; omega)
  unfold e676 e673 gain
  unfold_payloads
  pointwise [e276_at H, e322_at H, e350_at H]
  simp only [hk]
theorem e683_at (H : Loads A c b) (j n : Fin 128) : e683 b (ix2 j n) = gain A c (col 4 j) n := by
  have hk := fun s => e178_at H s n (col 4 j) (by simp [col]; omega)
  unfold e683 gain
  unfold_payloads
  pointwise [e285_at H, e329_at H, e352_at H]
  simp only [hk]
theorem e690_at (H : Loads A c b) (j n : Fin 128) : e690 b (ix2 j n) = gain A c (col 5 j) n := by
  have hk := fun s => e178_at H s n (col 5 j) (by simp [col]; omega)
  unfold e690 gain
  unfold_payloads
  pointwise [e294_at H, e336_at H, e354_at H]
  simp only [hk]

/-! ## The state after the chunk -/

theorem state_step (c : Fin 65) (k : Fin 768) (n : Fin 128) :
    state A c.val k n * Ideal.exp (last A c (head k)) + gain A c k n = state A (c.val + 1) k n := by
  rw [state, dif_pos c.isLt]

/-- The state after the chunk, from a pair's two rates. -/
theorem step_lane (p : Fin 6) (j n : Fin 128) (x y : EReal) (hx : x = last A c ⟨2 * p.val, by omega⟩) (hy : y = last A c ⟨2 * p.val + 1, by omega⟩) :
    state A c.val (col p j) n * (if j.val < 64 then Ideal.exp x else Ideal.exp y) + gain A c (col p j) n = state A (c.val + 1) (col p j) n := by
  rw [hx, hy, head_lane p j (fun h => Ideal.exp (last A c h)), state_step]

theorem e701_at (H : Loads A c b) (j n : Fin 128) : e701 b (ix2 j n) = state A (c.val + 1) (col 0 j) n := by
  unfold e701 e176
  unfold_payloads
  pointwise [e337_at H, e655_at H]
  rw [sel_lane]
  exact step_lane 0 j n _ _ (e173_at H 0) (e173_at H 1)
theorem e711_at (H : Loads A c b) (j n : Fin 128) : e711 b (ix2 j n) = state A (c.val + 1) (col 1 j) n := by
  unfold e711 e176
  unfold_payloads
  pointwise [e338_at H, e662_at H]
  rw [sel_lane]
  exact step_lane 1 j n _ _ (e173_at H 2) (e173_at H 3)
theorem e721_at (H : Loads A c b) (j n : Fin 128) : e721 b (ix2 j n) = state A (c.val + 1) (col 2 j) n := by
  unfold e721 e176
  unfold_payloads
  pointwise [e339_at H, e669_at H]
  rw [sel_lane]
  exact step_lane 2 j n _ _ (e173_at H 4) (e173_at H 5)

theorem e784_eq (H : Loads A c b) : e784 b = (fun i => state A (c.val + 1) (i 0) (i 1) : S768x128.Idx → EReal) := by
  unfold e784
  unfold_payloads
  refine concat_rows _ _ _ _ _ _ (fun k n => state A (c.val + 1) k n) _ (e701_at H) (e711_at H) (e721_at H) ?_ ?_ ?_
  · intro j n
    unfold e730 e176
    unfold_payloads
    pointwise [e340_at H, e676_at H]
    rw [sel_lane]
    exact step_lane 3 j n _ _ (e173_at H 6) (e173_at H 7)
  · intro j n
    unfold e691 e176
    unfold_payloads
    pointwise [e341_at H, e683_at H]
    rw [sel_lane]
    exact step_lane 4 j n _ _ (e173_at H 8) (e173_at H 9)
  · intro j n
    unfold e691 e176
    unfold_payloads
    pointwise [e342_at H, e690_at H]
    rw [sel_lane]
    exact step_lane 5 j n _ _ (e173_at H 10) (e173_at H 11)

theorem e784_at (H : Loads A c b) (k : Fin 768) (n : Fin 128) : e784 b (ix2 k n) = state A (c.val + 1) k n := congrFun (e784_eq H) _

/-! ## The output at the chunk's rows -/

theorem e783_at (H : Loads A c b) (l : Fin 64) (k : Fin 768) : e783 b (ix2 l k) = out A c l k := by
  unfold e783 e21 e31
  unfold_payloads
  rw [concat_cols _ _ _ _ _ _ (fun l k => inside A c l k + before A c l k) _
    (fun l j => congrArg₂ (· + ·) (y0_at H l j) (e623_at H l j))
    (fun l j => congrArg₂ (· + ·) (y1_at H l j) (e628_at H l j))
    (fun l j => congrArg₂ (· + ·) (y2_at H l j) (e633_at H l j))
    (fun l j => congrArg₂ (· + ·) (y3_at H l j) (e638_at H l j))
    (fun l j => congrArg₂ (· + ·) (y4_at H l j) (e643_at H l j))
    (fun l j => congrArg₂ (· + ·) (y5_at H l j) (e648_at H l j))]
  have ha : ∀ k : Fin 768, e94 b (ix2 l ⟨k.val, by omega⟩) = act A (row c l) (inCol k) := fun k => e94_at H l (inCol k)
  pointwise [H.z, H.d, H.g, ha, out, gated, silu, width, eps]

/-! ## The rows the next chunk sees before it -/

theorem e86_at (H : Loads A c b) (r : Fin 8) (k : Fin 1280) : e86 b (ix2 r k)
    = if h : 8 ≤ (c.val + 1) * 64 + r.val then (if h' : (c.val + 1) * 64 + r.val - 8 < 4160 then A.u ⟨(c.val + 1) * 64 + r.val - 8, h'⟩ k else 0) else 0 := by
  unfold e86
  unfold_payloads
  pointwise [H.u]
  rw [dif_pos (by omega), dif_pos (by omega)]
  exact congrArg (A.u · k) (Fin.ext (by simp only [row]; omega))

end Cert.SsdFwdIdeal.Ssd

end
-- ==== Proof.SsdFwdBlocks.lean ====
/-
  The blocks that each grid point of the state space scan reads, by the arguments' coordinates.
-/
module

public import proofs.«01_k».proof.Proof.SsdFwdChunk
public import Idealize.ShloMosaic.Lib.Pipeline.ValueKit
public import Idealize.ShloMosaic.Lib.Pipeline.ReadBack

@[expose] public section

set_option maxRecDepth 16384

noncomputable section

namespace Cert.SsdFwdIdeal.Ssd

open Cert.SsdFwdIdeal Cert.SsdFwdIdeal.Gen Cert.Ssd Idealize.ShloMosaic Idealize.ShloMosaic.TcCoe Idealize.SL.Sem
open Idealize.ShloMosaic.Pipeline (Dat)

variable (m : (ℓ : Loc nD τ sig) → Buf (Elt Ideal) ℓ) (c : Dev nD)

/-- The arguments by coordinates. -/
def args : Args where
  u := fun i j => m ((c : Thread nD τ).loc main_arg0) (ix2 i j)
  z := fun i j => m ((c : Thread nD τ).loc main_arg1) (ix2 i j)
  s := fun i j => m ((c : Thread nD τ).loc main_arg2) (ix2 i j)
  w := fun i j => m ((c : Thread nD τ).loc main_arg3) (ix2 i j)
  wb := fun j => m ((c : Thread nD τ).loc main_arg4) (ix1 j)
  tb := fun j => m ((c : Thread nD τ).loc main_arg5) (ix1 j)
  al := fun j => m ((c : Thread nD τ).loc main_arg6) (ix1 j)
  d := fun j => m ((c : Thread nD τ).loc main_arg7) (ix1 j)
  g := fun j => m ((c : Thread nD τ).loc main_arg8) (ix1 j)

/-- Where each window's block stands at point `t`: the rows move with `t`, the parameters stay. -/
theorem idx : ∀ t : Fin cfg0.N, win0_0.index t = ![t.val, 0] ∧ win0_1.index t = ![t.val, 0] ∧ win0_2.index t = ![t.val, 0] ∧ win0_3.index t = ![t.val, 0, 0] ∧ win0_12.index t = ![t.val, 0] ∧ (grid0.coords t 1).val = t.val :=
  (by decide +kernel : ∀ t : Fin grid0.N, _)
theorem idxp : ∀ t : Fin cfg0.N, win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

/-- The chunk of point `t`. -/
def chunk (t : Fin cfg0.N) : Fin 65 := ⟨t.val, lt_of_lt_of_eq t.isLt N_0⟩

/-! ## The blocks the body reads -/

theorem blk_u (t : Fin cfg0.N) (l : Fin 64) (k : Fin 1280) : (iblk m c 0 t : Vec Ideal S64x1280 .f32) (ix2 l k) = (args m c).u (row (chunk t) l) k := by
  unfold args row chunk
  blk_simp [iblk]
  entry_read
  blk_ext [iblk, (idx t).1]
theorem blk_z (t : Fin cfg0.N) (l : Fin 64) (k : Fin 768) : (iblk m c 1 t : Vec Ideal S64x768 .f32) (ix2 l k) = (args m c).z (row (chunk t) l) k := by
  unfold args row chunk
  blk_simp [iblk]
  entry_read
  blk_ext [iblk, (idx t).2.1]
theorem blk_s (t : Fin cfg0.N) (l : Fin 64) (k : Fin 128) : (iblk m c 2 t : Vec Ideal S64x128 .f32) (ix2 l k) = (args m c).s (row (chunk t) l) k := by
  unfold args row chunk
  blk_simp [iblk]
  entry_read
  blk_ext [iblk, (idx t).2.2.1]
theorem blk_st (t : Fin cfg0.N) (h : Fin 12) (l : Fin 64) : (iblk m c 3 t : Vec Ideal S1x24x64 .f32) (ix3 0 (lift24 h) l) = (args m c).s (row (chunk t) l) (lift128 h) := by
  have e : (win0_3.blk t).view.emb (ix3 0 (lift24 h) l) = (ix3 (chunk t) (lift24 h) l : S65x24x64.Idx) := by blk_ext [chunk, (idx t).2.2.2.1]
  blk_simp [iblk]
  entry_read
  rw [e]
  pointwise []
  rfl
theorem blk_w (t : Fin cfg0.N) (j : Fin 4) (k : Fin 1280) : (iblk m c 4 t : Vec Ideal S8x1280 .f32) (ix2 (⟨j.val, by omega⟩ : Fin 8) k) = (args m c).w j k := by
  have e : (win0_4.blk t).view.emb (ix2 (⟨j.val, by omega⟩ : Fin 8) k) = (ix2 (⟨j.val, by omega⟩ : Fin 8) k : S8x1280.Idx) := by blk_ext [(idxp t).1]
  blk_simp [iblk]
  entry_read
  rw [e]
  pointwise []
  rfl
theorem blk_wb (t : Fin cfg0.N) (k : Fin 1280) : (iblk m c 5 t : Vec Ideal S1x1280 .f32) (ix2 0 k) = (args m c).wb k := by
  have e : (win0_5.blk t).view.emb (ix2 0 k) = (ix2 0 k : S1x1280.Idx) := by blk_ext [(idxp t).2.1]
  blk_simp [iblk]
  entry_read
  rw [e]
  pointwise []
  rfl
theorem blk_d (t : Fin cfg0.N) (k : Fin 768) : (iblk m c 6 t : Vec Ideal S1x768 .f32) (ix2 0 k) = (args m c).d (head k) := by
  have e : (win0_6.blk t).view.emb (ix2 0 k) = (ix2 0 k : S1x768.Idx) := by blk_ext [(idxp t).2.2.1]
  blk_simp [iblk]
  entry_read
  rw [e]
  pointwise []
  rfl
theorem blk_tb (t : Fin cfg0.N) (h : Fin 12) : (iblk m c 7 t : Vec Ideal S1x128 .f32) (ix2 0 (lift128 h)) = (args m c).tb (lift18 h) := by
  have e : (win0_7.blk t).view.emb (ix2 0 (lift128 h)) = (ix2 0 (lift128 h) : S1x128.Idx) := by blk_ext [(idxp t).2.2.2.1]
  blk_simp [iblk]
  entry_read
  rw [e]
  pointwise []
  exact dif_pos (show (lift128 h).val < 18 by simp only [lift128]; omega)
theorem blk_al (t : Fin cfg0.N) (h : Fin 12) : (iblk m c 8 t : Vec Ideal S1x128 .f32) (ix2 0 (lift128 h)) = (args m c).al (lift18 h) := by
  have e : (win0_8.blk t).view.emb (ix2 0 (lift128 h)) = (ix2 0 (lift128 h) : S1x128.Idx) := by blk_ext [(idxp t).2.2.2.2.1]
  blk_simp [iblk]
  entry_read
  rw [e]
  pointwise []
  exact dif_pos (show (lift128 h).val < 18 by simp only [lift128]; omega)
theorem blk_tbt (t : Fin cfg0.N) (h : Fin 12) : (iblk m c 9 t : Vec Ideal S24x1 .f32) (ix2 (lift24 h) 0) = (args m c).tb (lift18 h) := by
  have e : (win0_9.blk t).view.emb (ix2 (lift24 h) 0) = (ix2 (lift24 h) 0 : S24x1.Idx) := by blk_ext [(idxp t).2.2.2.2.2.1]
  blk_simp [iblk]
  entry_read
  rw [e]
  pointwise []
  exact dif_pos (show (lift24 h).val < 18 by simp only [lift24]; omega)
theorem blk_alt (t : Fin cfg0.N) (h : Fin 12) : (iblk m c 10 t : Vec Ideal S24x1 .f32) (ix2 (lift24 h) 0) = (args m c).al (lift18 h) := by
  have e : (win0_10.blk t).view.emb (ix2 (lift24 h) 0) = (ix2 (lift24 h) 0 : S24x1.Idx) := by blk_ext [(idxp t).2.2.2.2.2.2.1]
  blk_simp [iblk]
  entry_read
  rw [e]
  pointwise []
  exact dif_pos (show (lift24 h).val < 18 by simp only [lift24]; omega)
theorem blk_g (t : Fin cfg0.N) (k : Fin 768) : (iblk m c 11 t : Vec Ideal S1x768 .f32) (ix2 0 k) = (args m c).g k := by
  have e : (win0_11.blk t).view.emb (ix2 0 k) = (ix2 0 k : S1x768.Idx) := by blk_ext [(idxp t).2.2.2.2.2.2.2]
  blk_simp [iblk]
  entry_read
  rw [e]
  pointwise []
  rfl

end Cert.SsdFwdIdeal.Ssd

end
-- ==== Proof.SsdFwdPoints.lean ====
/-
  What each grid point of the state space scan leaves: its output, its last rows and the state after it, as the body's arrays over
  the blocks it reads and over what the point before left.
-/
module

public import proofs.«01_k».proof.Proof.SsdFwdBody
public import Idealize.ShloMosaic.Lib.Pipeline.ValueKit
public import Idealize.ShloMosaic.Lib.Pipeline.ReadBack

@[expose] public section

set_option maxRecDepth 16384

noncomputable section

namespace Cert.SsdFwdIdeal.Ssd

open Cert.SsdFwdIdeal Cert.SsdFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- What point `t` loads, of the rows and the state it finds. -/
def load (t : Fin cfg0.N) (halo : Vec Ideal S8x1280 .f32) (st : Vec Ideal S768x128 .f32) : Blk where
  n := (grid0.coords t 1).val
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  halo := halo
  st := st

/-- The same as the body's loads spell it. -/
def loadRaw (t : Fin cfg0.N) (halo : Vec Ideal S8x1280 .f32) (st : Vec Ideal S768x128 .f32) : Blk where
  n := (grid0.coords t 1).val
  x0 := View.readAt (Elt Ideal) (ms0_0 t).view (Rect.unit ![0, 0] S64x1280.size inb_S64x1280_S64x1280_0_0).toLoadRect ((hs0_0 t).unread (iblk m c 0 t))
  x1 := View.readAt (Elt Ideal) (ms0_1 t).view (Rect.unit ![0, 0] S64x768.size inb_S64x768_S64x768_0_0).toLoadRect ((hs0_1 t).unread (iblk m c 1 t))
  x2 := View.readAt (Elt Ideal) (ms0_2 t).view (Rect.unit ![0, 0] S64x128.size inb_S64x128_S64x128_0_0).toLoadRect ((hs0_2 t).unread (iblk m c 2 t))
  x3 := View.readAt (Elt Ideal) (ms0_3 t).view (Rect.unit ![0, 0, 0] S1x24x64.size inb_S1x24x64_S1x24x64_0_0_0).toLoadRect ((hs0_3 t).unread (iblk m c 3 t))
  x4 := View.readAt (Elt Ideal) (ms0_4 t).view (Rect.unit ![0, 0] S8x1280.size inb_S8x1280_S8x1280_0_0).toLoadRect ((hs0_4 t).unread (iblk m c 4 t))
  x5 := View.readAt (Elt Ideal) (ms0_5 t).view (Rect.unit ![0, 0] S1x1280.size inb_S1x1280_S1x1280_0_0).toLoadRect ((hs0_5 t).unread (iblk m c 5 t))
  x6 := View.readAt (Elt Ideal) (ms0_6 t).view (Rect.unit ![0, 0] S1x768.size inb_S1x768_S1x768_0_0).toLoadRect ((hs0_6 t).unread (iblk m c 6 t))
  x7 := View.readAt (Elt Ideal) (ms0_7 t).view (Rect.unit ![0, 0] S1x128.size inb_S1x128_S1x128_0_0).toLoadRect ((hs0_7 t).unread (iblk m c 7 t))
  x8 := View.readAt (Elt Ideal) (ms0_8 t).view (Rect.unit ![0, 0] S1x128.size inb_S1x128_S1x128_0_0).toLoadRect ((hs0_8 t).unread (iblk m c 8 t))
  x9 := View.readAt (Elt Ideal) (ms0_9 t).view (Rect.unit ![0, 0] S24x1.size inb_S24x1_S24x1_0_0).toLoadRect ((hs0_9 t).unread (iblk m c 9 t))
  x10 := View.readAt (Elt Ideal) (ms0_10 t).view (Rect.unit ![0, 0] S24x1.size inb_S24x1_S24x1_0_0).toLoadRect ((hs0_10 t).unread (iblk m c 10 t))
  x11 := View.readAt (Elt Ideal) (ms0_11 t).view (Rect.unit ![0, 0] S1x768.size inb_S1x768_S1x768_0_0).toLoadRect ((hs0_11 t).unread (iblk m c 11 t))
  halo := halo
  st := st

theorem loadRaw_eq (t : Fin cfg0.N) (halo : Vec Ideal S8x1280 .f32) (st : Vec Ideal S768x128 .f32) : loadRaw m c t halo st = load m c t halo st := by
  unfold loadRaw load
  simp (disch := decide) only [View.readAt_eq_ld, View.ld_unit_lit', Memref.IsWhole.read_unread]

/-- The carried rows and state as a point loads them: from what the point before left, and over the zeros the first point stores. -/
def haloB (x : Vec Ideal S8x1280 .f32) : Vec Ideal S8x1280 .f32 :=
  View.readAt (Elt Ideal) scM0_0.view (Rect.unit ![0, 0] S8x1280.size inb_S8x1280_S8x1280_0_0).toLoadRect ((Memref.isWhole_whole cc0_scratch0).unread x)
def stateB (x : Vec Ideal S768x128 .f32) : Vec Ideal S768x128 .f32 :=
  View.readAt (Elt Ideal) scM0_1.view (Rect.unit ![0, 0] S768x128.size inb_S768x128_S768x128_0_0).toLoadRect ((Memref.isWhole_whole cc0_scratch1).unread x)
def haloA : Vec Ideal S8x1280 .f32 :=
  scM0_0.view.readCov [(⟨Rect.unit ![0, 0] S8x1280.size inb_S8x1280_S8x1280_0_0, k0_pay3 (F := Ideal)⟩ : View.Piece (Elt Ideal) S8x1280 .f32)]
    (Rect.unit ![0, 0] S8x1280.size inb_S8x1280_S8x1280_0_0).toLoadRect
def stateA : Vec Ideal S768x128 .f32 :=
  scM0_1.view.readCov [(⟨Rect.unit ![0, 0] S768x128.size inb_S768x128_S768x128_0_0, k0_pay4 (F := Ideal)⟩ : View.Piece (Elt Ideal) S768x128 .f32)]
    (Rect.unit ![0, 0] S768x128.size inb_S768x128_S768x128_0_0).toLoadRect
theorem haloB_eq (x : Vec Ideal S8x1280 .f32) : haloB x = x := by
  unfold haloB
  simp (disch := decide) only [View.readAt_eq_ld, View.ld_unit_lit', Memref.IsWhole.read_unread]
  exact read_unread_whole _ _ _
theorem stateB_eq (x : Vec Ideal S768x128 .f32) : stateB x = x := by
  unfold stateB
  simp (disch := decide) only [View.readAt_eq_ld, View.ld_unit_lit', Memref.IsWhole.read_unread]
  exact read_unread_whole _ _ _
theorem haloA_eq : haloA = k0_pay3 (F := Ideal) := by
  unfold haloA
  exact View.readCov_unit_lit' _ _ _ (by decide)
theorem stateA_eq : stateA = k0_pay4 (F := Ideal) := by
  unfold stateA
  exact View.readCov_unit_lit' _ _ _ (by decide)

/-- What the last of a buffer's stores leaves, when it stores the whole buffer. -/
theorem canon_head {S : Shape} (L : List (View.Piece (Elt Ideal) S .f32)) {off : Fin S.rank → Nat} (inb : ∀ a, off a + S.size a ≤ S.size a)
    (w : S.Idx → Elt Ideal .f32) (hz : ∀ a, off a = 0) (h : L = (⟨Rect.unit off S.size inb, w⟩ : View.Piece (Elt Ideal) S .f32) :: L.tail) :
    View.canon L = w := by
  rw [h]
  exact View.canon_cons_unit_lit inb w _ hz

theorem first_out (t : Fin cfg0.N) (h : t.val % 65 = 0) :
    (outsAt0 m c t.val t.isLt).1 = e783 (load m c t (k0_pay3 (F := Ideal)) (k0_pay4 (F := Ideal))) := by
  rw [outsAt0_A m c t h, ← loadRaw_eq, ← haloA_eq, ← stateA_eq]
  dsimp only
  unfold out0_A_12
  rw [View.read_writes_junk_eq_canon]
  refine canon_head _ (off := ![0, 0]) inb_S64x768_S64x768_0_0 _ (by decide) ?_
  sl_kernel_rfl
theorem next_out (t : Fin cfg0.N) (h : ¬t.val % 65 = 0) :
    (outsAt0 m c t.val t.isLt).1 = e783 (load m c t (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  rw [outsAt0_B m c t h, ← loadRaw_eq]
  generalize (outsAt0 m c (t.val - 1) (Nat.lt_of_le_of_lt (Nat.sub_le _ _) t.isLt)).2.2.2.1 = x0
  generalize (outsAt0 m c (t.val - 1) (Nat.lt_of_le_of_lt (Nat.sub_le _ _) t.isLt)).2.2.2.2 = x1
  conv => rhs; rw [← haloB_eq x0, ← stateB_eq x1]
  dsimp only
  unfold out0_B_12
  rw [View.read_writes_junk_eq_canon]
  refine canon_head _ (off := ![0, 0]) inb_S64x768_S64x768_0_0 _ (by decide) ?_
  sl_kernel_rfl
theorem first_halo (t : Fin cfg0.N) (h : t.val % 65 = 0) :
    (outsAt0 m c t.val t.isLt).2.2.2.1 = k0_pay1 (e86 (load m c t (k0_pay3 (F := Ideal)) (k0_pay4 (F := Ideal)))) := by
  rw [outsAt0_A m c t h, ← loadRaw_eq, ← haloA_eq, ← stateA_eq]
  dsimp only
  unfold sout0_A_0
  rw [View.read_writes_junk_eq_canon]
  refine canon_head _ (off := ![0, 0]) inb_S8x1280_S8x1280_0_0 _ (by decide) ?_
  sl_kernel_rfl
theorem next_halo (t : Fin cfg0.N) (h : ¬t.val % 65 = 0) :
    (outsAt0 m c t.val t.isLt).2.2.2.1 = k0_pay1 (e86 (load m c t (outsAt0 m c (t.val - 1) (Nat.lt_of_le_of_lt (Nat.sub_le _ _) t.isLt)).2.2.2.1 (outsAt0 m c (t.val - 1) (Nat.lt_of_le_of_lt (Nat.sub_le _ _) t.isLt)).2.2.2.2)) := by
  rw [outsAt0_B m c t h, ← loadRaw_eq]
  generalize (outsAt0 m c (t.val - 1) (Nat.lt_of_le_of_lt (Nat.sub_le _ _) t.isLt)).2.2.2.1 = x0
  generalize (outsAt0 m c (t.val - 1) (Nat.lt_of_le_of_lt (Nat.sub_le _ _) t.isLt)).2.2.2.2 = x1
  conv => rhs; rw [← haloB_eq x0, ← stateB_eq x1]
  dsimp only
  unfold sout0_B_0
  rw [View.read_writes_junk_eq_canon]
  refine canon_head _ (off := ![0, 0]) inb_S8x1280_S8x1280_0_0 _ (by decide) ?_
  sl_kernel_rfl
theorem first_state (t : Fin cfg0.N) (h : t.val % 65 = 0) :
    (outsAt0 m c t.val t.isLt).2.2.2.2 = k0_pay2 (e784 (load m c t (k0_pay3 (F := Ideal)) (k0_pay4 (F := Ideal)))) := by
  rw [outsAt0_A m c t h, ← loadRaw_eq, ← haloA_eq, ← stateA_eq]
  dsimp only
  unfold sout0_A_1
  rw [View.read_writes_junk_eq_canon]
  refine canon_head _ (off := ![0, 0]) inb_S768x128_S768x128_0_0 _ (by decide) ?_
  sl_kernel_rfl
theorem next_state (t : Fin cfg0.N) (h : ¬t.val % 65 = 0) :
    (outsAt0 m c t.val t.isLt).2.2.2.2 = k0_pay2 (e784 (load m c t (outsAt0 m c (t.val - 1) (Nat.lt_of_le_of_lt (Nat.sub_le _ _) t.isLt)).2.2.2.1 (outsAt0 m c (t.val - 1) (Nat.lt_of_le_of_lt (Nat.sub_le _ _) t.isLt)).2.2.2.2)) := by
  rw [outsAt0_B m c t h, ← loadRaw_eq]
  generalize (outsAt0 m c (t.val - 1) (Nat.lt_of_le_of_lt (Nat.sub_le _ _) t.isLt)).2.2.2.1 = x0
  generalize (outsAt0 m c (t.val - 1) (Nat.lt_of_le_of_lt (Nat.sub_le _ _) t.isLt)).2.2.2.2 = x1
  conv => rhs; rw [← haloB_eq x0, ← stateB_eq x1]
  dsimp only
  unfold sout0_B_1
  rw [View.read_writes_junk_eq_canon]
  refine canon_head _ (off := ![0, 0]) inb_S768x128_S768x128_0_0 _ (by decide) ?_
  sl_kernel_rfl

end Cert.SsdFwdIdeal.Ssd

end
-- ==== Proof.SsdFwdKernel.lean ====
/-
  What the state space scan leaves in its result array: chunk by chunk, each grid point reads the rows, the state and the last
  rows that the point before left, and writes the chunk's output.
-/
module

public import proofs.«01_k».proof.Proof.SsdFwdChunk
public import proofs.«01_k».proof.Proof.SsdFwdBlocks
public import proofs.«01_k».proof.Proof.SsdFwdPoints

@[expose] public section

set_option maxRecDepth 16384

noncomputable section

namespace Cert.SsdFwdIdeal.Ssd

open Cert.SsdFwdIdeal Cert.SsdFwdIdeal.Gen Cert.Ssd Idealize.ShloMosaic Idealize.ShloMosaic.TcCoe Idealize.SL.Sem
open Idealize.ShloMosaic.Pipeline (Dat)

variable (m : (ℓ : Loc nD τ sig) → Buf (Elt Ideal) ℓ) (c : Dev nD)

/-- The row eight before row `r` of chunk `n`, zero before the first. -/
def haloRow (A : Args) (n : Nat) (r : Fin 8) (k : Fin 1280) : EReal :=
  if h : 8 ≤ n * 64 + r.val then (if h' : n * 64 + r.val - 8 < 4160 then A.u ⟨n * 64 + r.val - 8, h'⟩ k else 0) else 0

/-- The row eight before row `r` of one of the chunks. -/
theorem haloRow_at (A : Args) (ch : Fin 65) (r : Fin 8) (k : Fin 1280) : haloRow A ch.val r k
    = if h : 8 ≤ ch.val * 64 + r.val then A.u ⟨ch.val * 64 + r.val - 8, by omega⟩ k else 0 := by
  unfold haloRow
  split
  · exact dif_pos (by omega)
  · rfl

set_option maxHeartbeats 2000000 in
/-- A point that finds the rows and the state before its chunk loads all its chunk needs. -/
theorem loads (t : Fin cfg0.N) (halo : Vec Ideal S8x1280 .f32) (st : Vec Ideal S768x128 .f32)
    (hh : ∀ r k, halo (ix2 r k) = haloRow (args m c) t.val r k) (hs : ∀ k n, st (ix2 k n) = state (args m c) t.val k n) :
    Loads (args m c) (chunk t) (load m c t halo st) where
  n := (idx t).2.2.2.2.2
  u := blk_u m c t
  z := blk_z m c t
  s := blk_s m c t
  st := blk_st m c t
  w := blk_w m c t
  wb := blk_wb m c t
  d := blk_d m c t
  tb := blk_tb m c t
  al := blk_al m c t
  tbt := blk_tbt m c t
  alt := blk_alt m c t
  g := blk_g m c t
  halo := fun r k => (hh r k).trans (haloRow_at (args m c) (chunk t) r k)
  state := hs

/-- What a point leaves, when it finds the rows and the state before its chunk. -/
structure Leaves (t : Fin cfg0.N) : Prop where
  out : ∀ l k, (outsAt0 m c t.val t.isLt).1 (ix2 l k) = out (args m c) (chunk t) l k
  halo : ∀ r k, (outsAt0 m c t.val t.isLt).2.2.2.1 (ix2 r k) = haloRow (args m c) (t.val + 1) r k
  state : ∀ k n, (outsAt0 m c t.val t.isLt).2.2.2.2 (ix2 k n) = state (args m c) (t.val + 1) k n

theorem pay1_at (x : Vec Ideal S8x1280 .f32) (r : Fin 8) (k : Fin 1280) : k0_pay1 (F := Ideal) x (ix2 r k) = x (ix2 r k) := by
  unfold_payloads
  pointwise []
theorem pay2_at (x : Vec Ideal S768x128 .f32) (k : Fin 768) (n : Fin 128) : k0_pay2 (F := Ideal) x (ix2 k n) = x (ix2 k n) := by
  unfold_payloads
  pointwise []
theorem pay3_at (r : Fin 8) (k : Fin 1280) : k0_pay3 (F := Ideal) (ix2 r k) = 0 := by
  unfold_payloads
  pointwise []
theorem pay4_at (k : Fin 768) (n : Fin 128) : k0_pay4 (F := Ideal) (ix2 k n) = 0 := by
  unfold_payloads
  pointwise []

theorem leaves_first (t : Fin cfg0.N) (h : t.val % 65 = 0) : Leaves m c t := by
  have h0 : t.val = 0 := by have := lt_of_lt_of_eq t.isLt N_0; omega
  have H := loads m c t (k0_pay3 (F := Ideal)) (k0_pay4 (F := Ideal))
    (fun r k => by rw [pay3_at, h0]; unfold haloRow; rw [dif_neg (show ¬8 ≤ 0 * 64 + r.val by omega)])
    (fun k n => by rw [pay4_at, h0]; rfl)
  constructor
  · intro l k; rw [first_out m c t h]; exact e783_at H l k
  · intro r k; rw [first_halo m c t h, pay1_at]; exact e86_at H r k
  · intro k n; rw [first_state m c t h, pay2_at]; exact e784_at H k n

theorem leaves_next (t s : Fin cfg0.N) (hs : s.val + 1 = t.val) (h : ¬t.val % 65 = 0) (H0 : Leaves m c s) : Leaves m c t := by
  have e : s = ⟨t.val - 1, Nat.lt_of_le_of_lt (Nat.sub_le _ _) t.isLt⟩ := Fin.ext (by simp only; omega)
  subst e
  have H := loads m c t _ _ (fun r k => (H0.halo r k).trans (by rw [hs])) (fun k n => (H0.state k n).trans (by rw [hs]))
  constructor
  · intro l k; rw [next_out m c t h]; exact e783_at H l k
  · intro r k; rw [next_halo m c t h, pay1_at]; exact e86_at H r k
  · intro k n; rw [next_state m c t h, pay2_at]; exact e784_at H k n

theorem leaves : ∀ (n : Nat) (hn : n < cfg0.N), Leaves m c ⟨n, hn⟩
  | 0, hn => leaves_first m c ⟨0, hn⟩ rfl
  | n + 1, hn => leaves_next m c ⟨n + 1, hn⟩ ⟨n, Nat.lt_of_succ_lt hn⟩ rfl
      (by have := lt_of_lt_of_eq hn N_0; simp only; omega) (leaves n (Nat.lt_of_succ_lt hn))

/-! ## The result array -/

theorem row_split (i : Fin 4160) : i = row ⟨i.val / 64, by omega⟩ ⟨i.val % 64, by omega⟩ := Fin.ext (by simp only [row]; omega)

theorem result_row (A : Args) (ch : Fin 65) (l : Fin 64) (k : Fin 768) : result A (row ch l) k = out A ch l k := by
  unfold result
  congr 1
  · exact Fin.ext (by simp only [row]; omega)
  · exact Fin.ext (by simp only [row]; omega)

theorem final12 : (dats m 0 c).arrAt 12 cfg0.N = (fun i => result (args m c) (i 0) (i 1) : S4160x768.Idx → EReal) := by
  refine (dats m 0 c).arrAt_eq_of_covers 12 _ (by decide +kernel) fun t hf x => ?_
  have e : ((cfg0.win 12).blk t).view.emb x = (ix2 (row (chunk t) (x 0)) (x 1) : S4160x768.Idx) := by
    blk_ext [row, chunk, (idx t).2.2.2.2.1]
  rw [e]
  blk_simp
  rw [after0_12]
  refine (congrArg _ (eq_ix2 x)).trans (((leaves m c t.val t.isLt).out _ _).trans ?_)
  exact (result_row _ _ _ _).symm

end Cert.SsdFwdIdeal.Ssd

end
-- ==== Proof.SsdFwdRefCumsum.lean ====
/-
  The host's running sum over the rows of a chunk, read at an index: the window of 64 rows that ends at row `l`, padded with zeros
  below, holds the rows up to `l`.
-/
module

public import proofs.«01_k».proof.Proof.Gen.SsdFwdRefIdeal.Run
public import Idealize.ShloMosaic.Lib.Pointwise
public import Idealize.ShloMosaic.Adequacy

@[expose] public section

set_option maxRecDepth 8192

noncomputable section

namespace Cert.SsdFwdRefIdeal.Scan

open Cert.SsdFwdRefIdeal Cert.SsdFwdRefIdeal.Gen Idealize.ShloMosaic Idealize.ShloMosaic.Pointwise

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

theorem foldl_finRange {N : Nat} (f : Fin N → EReal) : (List.finRange N).foldl (fun r n => r + f n) 0 = ∑ n, f n := by
  rw [foldl_add, zero_add, Fin.sum_univ_def]

/-- The window's positions are its rows. -/
def rows : (⟨4, ![1, 64, 1, 1]⟩ : Shape).Idx ≃ Fin 64 where
  toFun i := i 1
  invFun n := ix4 0 n 0 0
  left_inv i := by
    rw [eq_ix4 i]
    show ix4 0 (i 1) 0 0 = _
    congr 1 <;> exact Subsingleton.elim _ _
  right_inv _ := rfl

theorem cumsum_at (x : FVec Ideal S65x64x2x6 .f32) (v : S_.Idx → EReal) (hv : ∀ i, v i = 0) (c : Fin 65) (l : Fin 64) (g : Fin 2) (r : Fin 6) :
    Host.reduceWindowAdd (F := Ideal) (φ := .f32) ![1, 64, 1, 1] ![1, 1, 1, 1] ![0, 63, 0, 0] ![0, 0, 0, 0] x v
      reduceWindows_S65x64x2x6_S65x64x2x6_w1s1p0_0_w64s1p63_0_w1s1p0_0_w1s1p0_0 h_S_ (ix4 c l g r)
      = ∑ s : Fin 64, if s.val ≤ l.val then x (ix4 c s g r) else 0 := by
  show (List.finRange _).foldl (fun r n => r + _) (v _) = _
  rw [hv, foldl_finRange]
  refine (Finset.sum_congr rfl fun n _ => dite_congr rfl (fun _ => rfl) (fun _ => rfl)).trans
    ((Equiv.sum_comp (Shape.rowMajor (⟨4, ![1, 64, 1, 1]⟩ : Shape)).symm (fun i : (⟨4, ![1, 64, 1, 1]⟩ : Shape).Idx =>
    if hin : ∀ a : Fin 4, (![0, 63, 0, 0] : Fin 4 → Nat) a ≤ ((ix4 c l g r : S65x64x2x6.Idx) a).val * (![1, 1, 1, 1] : Fin 4 → Nat) a + (i a).val
        ∧ ((ix4 c l g r : S65x64x2x6.Idx) a).val * (![1, 1, 1, 1] : Fin 4 → Nat) a + (i a).val - (![0, 63, 0, 0] : Fin 4 → Nat) a < S65x64x2x6.size a
      then x (fun a => ⟨_, (hin a).2⟩) else 0)).trans ?_)
  refine (Equiv.sum_comp rows.symm _).symm.trans ?_
  refine Fintype.sum_equiv (Equiv.addRight (l + 1)) _ _ fun n => ?_
  have hs : ((n + (l + 1) : Fin 64)).val = if 63 ≤ n.val + l.val then n.val + l.val - 63 else n.val + l.val + 1 := by
    rw [Fin.val_add, Fin.val_add]
    show (n.val + (l.val + 1) % 64) % 64 = _
    split <;> omega
  show _ = if ((n + (l + 1) : Fin 64)).val ≤ l.val then x (ix4 c (n + (l + 1)) g r) else 0
  by_cases h : 63 ≤ n.val + l.val
  · rw [if_pos h] at hs
    rw [if_pos (by omega), dif_pos]
    · congr 1
      funext a
      apply Fin.ext
      fin_cases a
      · show c.val * 1 + 0 - 0 = c.val; omega
      · show l.val * 1 + n.val - 63 = (n + (l + 1)).val; rw [hs]; omega
      · show g.val * 1 + 0 - 0 = g.val; omega
      · show r.val * 1 + 0 - 0 = r.val; omega
    · intro a
      fin_cases a
      · show 0 ≤ c.val * 1 + 0 ∧ c.val * 1 + 0 - 0 < 65; omega
      · show 63 ≤ l.val * 1 + n.val ∧ l.val * 1 + n.val - 63 < 64; omega
      · show 0 ≤ g.val * 1 + 0 ∧ g.val * 1 + 0 - 0 < 2; omega
      · show 0 ≤ r.val * 1 + 0 ∧ r.val * 1 + 0 - 0 < 6; omega
  · rw [if_neg h] at hs
    rw [if_neg (by omega), dif_neg]
    intro hin
    have h1 : 63 ≤ l.val * 1 + n.val := (hin 1).1
    omega

end Cert.SsdFwdRefIdeal.Scan

end
-- ==== Proof.SsdFwdRefStages.lean ====
/-
  The reference's state space branch, array by array: each named array of its run, read at an index, is the specification's term. A
  head stands as its group and its place in the group, a column as its group, its head's place and its place in the head.
-/
module

public import proofs.«01_k».proof.Proof.SsdFwdRefCumsum
public import proofs.«01_k».proof.Proof.SsdSpec

@[expose] public section

set_option maxRecDepth 8192

noncomputable section

namespace Cert.SsdFwdRefIdeal.Scan

open Cert.SsdFwdRefIdeal Cert.SsdFwdRefIdeal.Gen Cert.SsdFwdRefIdeal.Value Idealize.ShloMosaic Idealize.ShloMosaic.TcCoe
open Idealize.SL.Sem Idealize.ShloMosaic.Pointwise Cert.Ssd

variable (V : Valuation τ sig (Elt Ideal))

/-- The reference's arguments at an index. -/
def args : Args where
  u := fun i j => V (Proc.devRef .tc main_arg0) (ix2 i j)
  z := fun i j => V (Proc.devRef .tc main_arg1) (ix2 i j)
  s := fun i j => V (Proc.devRef .tc main_arg2) (ix2 i j)
  w := fun i j => V (Proc.devRef .tc main_arg3) (ix2 i j)
  wb := fun j => V (Proc.devRef .tc main_arg4) (ix1 j)
  tb := fun j => V (Proc.devRef .tc main_arg5) (ix1 j)
  al := fun j => V (Proc.devRef .tc main_arg6) (ix1 j)
  d := fun j => V (Proc.devRef .tc main_arg7) (ix1 j)
  g := fun j => V (Proc.devRef .tc main_arg8) (ix1 j)

/-- The head and the column of a place. -/
def hd (g : Fin 2) (r : Fin 6) : Fin 12 := ⟨g.val * 6 + r.val, by omega⟩
def col (g : Fin 2) (r : Fin 6) (p : Fin 64) : Fin 768 := ⟨(g.val * 6 + r.val) * 64 + p.val, by omega⟩

theorem ofBits_zero : Ideal.ofBits .f32 0x00000000#32 = 0 := Ideal.ofBits_zero_f32

/-! ## The convolution and the silu -/

theorem v1_at (i : Fin 4163) (k : Fin 1280) : res_main_v1 V (ix2 i k) = if h : 3 ≤ i.val then (args V).u ⟨i.val - 3, by omega⟩ k else 0 := by
  unfold res_main_v1
  pointwise
  by_cases h : i.val < 3
  · rw [dif_pos h, dif_neg (by omega)]
  · rw [dif_neg h, dif_pos (by omega)]
    rfl

theorem v1_tap (i : Fin 4160) (k : Fin 1280) (j : Fin 4) (n : Fin 4163) (hn : n.val = j.val + i.val) : res_main_v1 V (ix2 n k) = tap (args V) i j k := by
  rw [v1_at]
  unfold tap
  by_cases h : 3 ≤ n.val
  · rw [dif_pos h, if_pos (by omega)]
    exact congrArg (fun t => (args V).u t k) (Fin.ext (by show n.val - 3 = i.val + j.val - 3; omega))
  · rw [dif_neg h, if_neg (by omega)]

theorem v33_at (i : Fin 4160) (k : Fin 1280) : res_main_v33 V (ix2 i k) = conv (args V) i k := by
  unfold res_main_v33
  pointwise
  rw [v1_tap V i k 0 _ (Nat.zero_add _).symm, v1_tap V i k 1 _ rfl, v1_tap V i k 2 _ rfl, v1_tap V i k 3 _ rfl]
  unfold conv
  rw [mul_comm (tap _ _ 0 _), mul_comm (tap _ _ 1 _), mul_comm (tap _ _ 2 _), mul_comm (tap _ _ 3 _)]
  rfl

theorem v37_at (i : Fin 4160) (k : Fin 1280) : res_main_v37 V (ix2 i k) = act (args V) i k := by
  unfold res_main_v37
  pointwise
  simp only [v33_at]
  unfold act
  by_cases h : i.val < 48
  · rw [dif_pos h, if_pos h]
  · rw [dif_neg h, if_neg h]
    have e : (⟨48 + (i.val - 48), by omega⟩ : Fin 4160) = i := Fin.ext (by show 48 + (i.val - 48) = i.val; omega)
    rw [e]
    rfl

/-! ## The inputs, the step sizes and their running sums, the keys and the queries -/

theorem v41_at (i : Fin 4160) (h : Fin 12) (p : Fin 64) : res_main_v41 V (ix3 i h p) = act (args V) i ⟨h.val * 64 + p.val, by omega⟩ := by
  unfold res_main_v41
  pointwise
  exact v37_at V _ _

theorem v52_at (i : Fin 4160) (h : Fin 12) : res_main_v52 V (ix2 i h) = dt (args V) i h := by
  unfold res_main_v52 res_main_call1_v3 res_main_v48 res_main_call1_cst
  pointwise
  unfold dt
  by_cases hi : i.val < 48
  · rw [dif_pos hi, if_pos hi]
  · rw [dif_neg hi, if_neg hi, if_neg (fun h => h rfl)]
    have e : (⟨48 + (i.val - 48), by omega⟩ : Fin 4160) = i := Fin.ext (by show 48 + (i.val - 48) = i.val; omega)
    rw [e]
    rfl

theorem head_col (g : Fin 2) (r : Fin 6) (p : Fin 64) : head (col g r p) = hd g r :=
  Fin.ext (by show ((g.val * 6 + r.val) * 64 + p.val) / 64 = g.val * 6 + r.val; omega)

theorem v59_at (c : Fin 65) (s : Fin 64) (g : Fin 2) (r : Fin 6) (p : Fin 64) : res_main_v59 V (ix5 c s g r p) = xd (args V) c s (col g r p) := by
  unfold res_main_v59
  pointwise
  rw [v41_at, v52_at]
  unfold xd
  rw [head_col]
  rfl

theorem v64_at (c : Fin 65) (l : Fin 64) (g : Fin 2) (r : Fin 6) : res_main_v64 V (ix4 c l g r) = acum (args V) c l (hd g r) := by
  unfold res_main_v64
  rw [cumsum_at _ _ (fun i => by pointwise)]
  pointwise
  simp only [v52_at]
  rfl

theorem v65_at (c : Fin 65) (s : Fin 64) (g : Fin 2) (r : Fin 6) (p : Fin 64) (n : Fin 128) : res_main_v65 V (ix4 c s g n) = key (args V) c s (col g r p) n := by
  unfold res_main_v65
  pointwise
  rw [v37_at]
  exact congrArg (act (args V) _) (Fin.ext (by
    show 768 + (g.val * 128 + n.val) = 768 + ((g.val * 6 + r.val) * 64 + p.val) / 384 * 128 + n.val; omega))

theorem v66_at (c : Fin 65) (s : Fin 64) (g : Fin 2) (r : Fin 6) (p : Fin 64) (n : Fin 128) : res_main_v66 V (ix4 c s g n) = query (args V) c s (col g r p) n := by
  unfold res_main_v66
  pointwise
  rw [v37_at]
  exact congrArg (act (args V) _) (Fin.ext (by
    show 1024 + (g.val * 128 + n.val) = 1024 + ((g.val * 6 + r.val) * 64 + p.val) / 384 * 128 + n.val; omega))

/-! ## The masks -/

theorem earlier : ∀ c j : Fin 65, Scalar.select (IntOp.cmpi .sge (IntOp.addi (BitVec.ofNat 32 c.val) 4294967295#32) (BitVec.ofNat 32 j.val)) 1#1 0#1
    = if j.val < c.val then 1#1 else 0#1 := by decide +kernel

theorem v95_at (c j : Fin 65) : res_main_v95 V (ix2 c j) = if j.val < c.val then 1#1 else 0#1 := by
  unfold res_main_v95
  pointwise
  exact earlier c j

end Cert.SsdFwdRefIdeal.Scan

end
-- ==== Proof.SsdState.lean ====
/-
  The state of the state space scan in closed form: what every earlier chunk added, decayed by the chunks in between. The decays are
  at most 1 — a step size is a softplus, a rate the negative of an exponential — so that a decay distributes over the sum, whatever
  the summands are.
-/
module

public import proofs.«01_k».proof.Proof.SsdSpec

@[expose] public section

noncomputable section

namespace Cert.Ssd

open Idealize.ShloMosaic

/-! ## The exponential of what is not positive -/

theorem exp_nonneg (x : EReal) : 0 ≤ Ideal.exp x := by
  induction x with
  | bot => exact le_refl _
  | top => exact le_top
  | coe r => exact EReal.coe_nonneg.mpr (Real.exp_nonneg r)

theorem exp_ne_top (x : EReal) (h : x ≤ 0) : Ideal.exp x ≠ ⊤ := by
  induction x with
  | bot => exact EReal.zero_ne_top
  | top => exact absurd h (by simp)
  | coe r => exact EReal.coe_ne_top _

theorem exp_zero : Ideal.exp 0 = 1 := by
  show ((Real.exp 0 : ℝ) : EReal) = 1
  rw [Real.exp_zero]; rfl

theorem exp_add (x y : EReal) (hx : x ≤ 0) (hy : y ≤ 0) : Ideal.exp (x + y) = Ideal.exp x * Ideal.exp y := by
  induction x with
  | bot => rw [EReal.bot_add]; exact (zero_mul _).symm
  | top => exact absurd hx (by simp)
  | coe r =>
    induction y with
    | bot => rw [EReal.add_bot]; exact (mul_zero _).symm
    | top => exact absurd hy (by simp)
    | coe q =>
      show Ideal.exp (((r + q : ℝ)) : EReal) = ((Real.exp r : ℝ) : EReal) * ((Real.exp q : ℝ) : EReal)
      rw [← EReal.coe_mul, ← Real.exp_add]; rfl

theorem log1p_nonneg (x : EReal) (h : 0 ≤ x) : 0 ≤ Ideal.log1p x := by
  induction x with
  | bot => exact absurd h (by simp)
  | top => exact le_of_le_of_eq le_top (by unfold Ideal.log1p; rfl)
  | coe r =>
    have hr : 0 ≤ r := EReal.coe_nonneg.mp h
    show 0 ≤ (if (1 + r : ℝ) ≤ 0 then ⊥ else ((Real.log (1 + r) : ℝ) : EReal))
    rw [if_neg (by linarith)]
    exact EReal.coe_nonneg.mpr (Real.log_nonneg (by linarith))

theorem softplus_nonneg (v : EReal) : 0 ≤ softplus v :=
  add_nonneg (le_max_right _ _) (log1p_nonneg _ (exp_nonneg _))

variable (A : Args)

theorem dt_nonneg (t : Fin 4160) (h : Fin 12) : 0 ≤ dt A t h := by
  unfold dt; split
  · exact le_refl _
  · exact softplus_nonneg _

theorem rate_nonpos (h : Fin 12) : rate A h ≤ 0 := by
  unfold rate
  exact EReal.neg_le_zero.mpr (exp_nonneg _)

theorem step_nonpos (t : Fin 4160) (h : Fin 12) : dt A t h * rate A h ≤ 0 :=
  mul_nonpos_of_nonneg_of_nonpos (dt_nonneg A t h) (rate_nonpos A h)

theorem last_nonpos (c : Fin 65) (h : Fin 12) : last A c h ≤ 0 := by
  unfold last acum
  refine Finset.sum_nonpos fun s _ => ?_
  split
  · exact step_nonpos A _ h
  · exact le_refl _

/-! ## The closed form -/

/-- The logarithm of the decay from chunk `j` to chunk `c`, and what chunk `j` added as chunk `c` sees it. -/
def between (c : Nat) (j : Fin 65) (h : Fin 12) : EReal :=
  ∑ i : Fin 65, if j.val < i.val ∧ i.val < c then last A i h else 0
def term (c : Nat) (k : Fin 768) (n : Fin 128) (j : Fin 65) : EReal :=
  if j.val < c then gain A j k n * Ideal.exp (between A c j (head k)) else 0

theorem between_nonpos (c : Nat) (j : Fin 65) (h : Fin 12) : between A c j h ≤ 0 := by
  unfold between
  refine Finset.sum_nonpos fun i _ => ?_
  split
  · exact last_nonpos A i h
  · exact le_refl _

theorem between_self (c : Fin 65) (h : Fin 12) : between A (c.val + 1) c h = 0 :=
  Finset.sum_eq_zero fun i _ => if_neg (by omega)

theorem between_succ (c j : Fin 65) (h : Fin 12) (hj : j.val < c.val) :
    between A (c.val + 1) j h = between A c.val j h + last A c h := by
  have e : ∀ i : Fin 65, (if j.val < i.val ∧ i.val < c.val + 1 then last A i h else 0)
      = (if j.val < i.val ∧ i.val < c.val then last A i h else 0) + (if i = c then last A i h else 0) := fun i => by
    by_cases hi : i = c
    · subst hi
      rw [if_pos ⟨hj, by omega⟩, if_neg (by omega), if_pos rfl, zero_add]
    · have hv : i.val ≠ c.val := fun h => hi (Fin.ext h)
      rw [if_neg hi, add_zero]
      exact if_congr (by omega) rfl rfl
  unfold between
  rw [Finset.sum_congr rfl fun i _ => e i, Finset.sum_add_distrib, Finset.sum_ite_eq' Finset.univ c, if_pos (Finset.mem_univ _)]

theorem sum_mul_decay (f : Fin 65 → EReal) (e : EReal) (h0 : 0 ≤ e) (h1 : e ≠ ⊤) : (∑ j, f j) * e = ∑ j, f j * e := by
  classical
  refine Finset.induction_on (motive := fun s => (∑ j ∈ s, f j) * e = ∑ j ∈ s, f j * e) Finset.univ (by simp) fun a s ha ih => ?_
  rw [Finset.sum_insert ha, Finset.sum_insert ha, EReal.right_distrib_of_nonneg_of_ne_top h0 h1, ih]

theorem state_closed (c : Nat) (hc : c ≤ 65) (k : Fin 768) (n : Fin 128) : state A c k n = ∑ j : Fin 65, term A c k n j := by
  induction c with
  | zero => exact (Finset.sum_eq_zero fun j _ => if_neg (Nat.not_lt_zero _)).symm
  | succ c ih =>
    have h : c < 65 := hc
    have e : ∀ j : Fin 65, term A (c + 1) k n j
        = term A c k n j * Ideal.exp (last A ⟨c, h⟩ (head k)) + (if j = ⟨c, h⟩ then gain A j k n else 0) := fun j => by
      unfold term
      rcases lt_trichotomy j.val c with hj | hj | hj
      · rw [if_pos (by omega), if_pos hj, if_neg (fun e => by rw [e] at hj; exact absurd hj (lt_irrefl _)), add_zero,
          between_succ A ⟨c, h⟩ j (head k) hj, exp_add _ _ (between_nonpos A _ _ _) (last_nonpos A _ _), mul_assoc]
      · have ej : j = ⟨c, h⟩ := Fin.ext hj
        subst ej
        rw [if_pos (Nat.lt_succ_self _), if_neg (lt_irrefl _), if_pos rfl, zero_mul, zero_add,
          between_self A ⟨c, h⟩ (head k), exp_zero, mul_one]
      · rw [if_neg (by omega), if_neg (by omega), if_neg (fun e => by rw [e] at hj; exact absurd hj (lt_irrefl _)), zero_mul, add_zero]
    show (if h : c < 65 then state A c k n * Ideal.exp (last A ⟨c, h⟩ (head k)) + gain A ⟨c, h⟩ k n else 0) = _
    rw [dif_pos h, ih (by omega), Finset.sum_congr rfl fun j _ => e j, Finset.sum_add_distrib,
      Finset.sum_ite_eq' Finset.univ (⟨c, h⟩ : Fin 65), if_pos (Finset.mem_univ _),
      sum_mul_decay _ _ (exp_nonneg _) (exp_ne_top _ (last_nonpos A _ _))]

end Cert.Ssd

end
-- ==== Proof.SsdFwdRefScan.lean ====
/-
  The reference's state space scan: the arrays it goes through, named, and each read at an index. With the state's closed form the
  sum over the earlier chunks is the state the specification carries from chunk to chunk.
-/
module

public import proofs.«01_k».proof.Proof.SsdFwdRefStages
public import proofs.«01_k».proof.Proof.SsdState

@[expose] public section

set_option maxRecDepth 8192

noncomputable section

namespace Cert.SsdFwdRefIdeal.Scan

open Cert.SsdFwdRefIdeal Cert.SsdFwdRefIdeal.Gen Cert.SsdFwdRefIdeal.Value Idealize.ShloMosaic Idealize.ShloMosaic.TcCoe
open Idealize.SL.Sem Idealize.ShloMosaic.Pointwise Cert.Ssd

/-! ## The arrays, each over the ones before -/

/-- The rows up to a row. -/
def maskA : IVec S64x64 1 :=
  select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))

variable (V : Valuation τ sig (Elt Ideal))

/-- The decay between two rows of a chunk. -/
def decayA : FVec Ideal S65x64x64x2x6 .f32 :=
  Host.exp (select (broadcastInDim S65x64x64x2x6 ![1, 2, 3, 4] bcast_S64x64x1x1_S65x64x64x2x6_1_2_3_4 (broadcastInDim S64x64x1x1 ![0, 1] bcast_S64x64_S64x64x1x1_0_1 maskA)) (subf (broadcastInDim S65x64x64x2x6 ![0, 1, 2, 3, 4] bcast_S65x64x1x2x6_S65x64x64x2x6_0_1_2_3_4 (broadcastInDim S65x64x1x2x6 ![0, 1, 3, 4] bcast_S65x64x2x6_S65x64x1x2x6_0_1_3_4 (res_main_v64 V))) (broadcastInDim S65x64x64x2x6 ![0, 1, 2, 3, 4] bcast_S65x1x64x2x6_S65x64x64x2x6_0_1_2_3_4 (broadcastInDim S65x1x64x2x6 ![0, 2, 3, 4] bcast_S65x64x2x6_S65x1x64x2x6_0_2_3_4 (res_main_v64 V)))) (broadcastInDim S65x64x64x2x6 ![] bcast_S_S65x64x64x2x6 (id (constant S_ .f32 0xFF800000#32))))
/-- The products of queries and keys. -/
def scoreA : FVec Ideal S65x64x64x2 .f32 :=
  transpose S65x64x64x2 [0, 3, 2, 1] (Host.dotGeneral (F := Ideal) (φ₁ := .f32) (φ₂ := .f32) dot_S65x64x2x128_S65x64x2x128_S65x2x64x64_3_3_1_1_02_02 none (res_main_v65 V) (res_main_v66 V)) transposes_S65x2x64x64_S65x64x64x2_0_3_2_1
/-- The weight of a row in another row of its chunk. -/
def weightA : FVec Ideal S65x64x64x2x6 .f32 :=
  mulf (broadcastInDim S65x64x64x2x6 ![0, 1, 2, 3, 4] bcast_S65x64x64x2x1_S65x64x64x2x6_0_1_2_3_4 (broadcastInDim S65x64x64x2x1 ![0, 1, 2, 3] bcast_S65x64x64x2_S65x64x64x2x1_0_1_2_3 (scoreA V))) (decayA V)
/-- What the rows of its own chunk give to a row. -/
def insideA : FVec Ideal S65x64x2x6x64 .f32 :=
  transpose S65x64x2x6x64 [0, 4, 1, 2, 3] (Host.dotGeneral (F := Ideal) (φ₁ := .f32) (φ₂ := .f32) dot_S65x64x2x6x64_S65x64x64x2x6_S65x2x6x64x64_1_2_4_1_023_034 none (res_main_v59 V) (weightA V)) transposes_S65x2x6x64x64_S65x64x2x6x64_0_4_1_2_3
/-- The running sum at the end of a chunk. -/
def totalA : FVec Ideal S65x1x2x6 .f32 :=
  extractStridedSlice S65x1x2x6 ![0, 63, 0, 0] (res_main_v64 V) slices_S65x64x2x6_S65x1x2x6_0_63_0_0
/-- The inputs decayed to the end of their chunk. -/
def inA : FVec Ideal S65x64x2x6x64 .f32 :=
  mulf (res_main_v59 V) (broadcastInDim S65x64x2x6x64 ![0, 1, 2, 3, 4] bcast_S65x64x2x6x1_S65x64x2x6x64_0_1_2_3_4 (broadcastInDim S65x64x2x6x1 ![0, 1, 2, 3] bcast_S65x64x2x6_S65x64x2x6x1_0_1_2_3 (Host.exp (subf (broadcastInDim S65x64x2x6 ![0, 1, 2, 3] bcast_S65x1x2x6_S65x64x2x6_0_1_2_3 (totalA V)) (res_main_v64 V)))))
/-- What a chunk adds to the state. -/
def gainA : FVec Ideal S65x2x6x64x128 .f32 :=
  Host.dotGeneral (F := Ideal) (φ₁ := .f32) (φ₂ := .f32) dot_S65x64x2x6x64_S65x64x2x128_S65x2x6x64x128_1_1_34_3_02_02 none (inA V) (res_main_v65 V)
/-- The chunks strictly between two chunks. -/
def withinA : FVec Ideal S65x65x65 .f32 :=
  uitofp .f32 (andi (broadcastInDim S65x65x65 ![0, 1, 2] bcast_S65x65x1_S65x65x65_0_1_2 (broadcastInDim S65x65x1 ![0, 1] bcast_S65x65_S65x65x1_0_1 (res_main_v95 V))) (broadcastInDim S65x65x65 ![0, 1, 2] bcast_S1x65x65_S65x65x65_0_1_2 (broadcastInDim S1x65x65 ![1, 2] bcast_S65x65_S1x65x65_1_2 (res_main_v95 V))))
/-- The logarithm of the decay between two chunks. -/
def betweenA : FVec Ideal S65x65x2x6 .f32 :=
  Host.dotGeneral (F := Ideal) (φ₁ := .f32) (φ₂ := .f32) dot_S65x65x65_S65x2x6_S65x65x2x6_1_0_02_12_n_n none (withinA V) (shapeCast _ (totalA V) shapeCasts_S65x1x2x6_S65x2x6)
/-- The decay between two chunks. -/
def carryA : FVec Ideal S65x65x2x6 .f32 :=
  Host.exp (select (broadcastInDim S65x65x2x6 ![0, 1, 2, 3] bcast_S65x65x1x1_S65x65x2x6_0_1_2_3 (broadcastInDim S65x65x1x1 ![0, 1] bcast_S65x65_S65x65x1x1_0_1 (res_main_v95 V))) (betweenA V) (broadcastInDim S65x65x2x6 ![] bcast_S_S65x65x2x6 (id (constant S_ .f32 0xFF800000#32))))
/-- The state before a chunk. -/
def stateA : FVec Ideal S65x2x6x64x128 .f32 :=
  transpose S65x2x6x64x128 [4, 0, 1, 2, 3] (Host.dotGeneral (F := Ideal) (φ₁ := .f32) (φ₂ := .f32) dot_S65x2x6x64x128_S65x65x2x6_S2x6x64x128x65_0_1_34_0_12_23 none (gainA V) (carryA V)) transposes_S2x6x64x128x65_S65x2x6x64x128_4_0_1_2_3
/-- The state as a row reads it. -/
def readA : FVec Ideal S65x64x2x6x64 .f32 :=
  transpose S65x64x2x6x64 [0, 4, 1, 2, 3] (Host.dotGeneral (F := Ideal) (φ₁ := .f32) (φ₂ := .f32) dot_S65x2x6x64x128_S65x64x2x128_S65x2x6x64x64_4_3_23_1_01_02 none (stateA V) (res_main_v66 V)) transposes_S65x2x6x64x64_S65x64x2x6x64_0_4_1_2_3
/-- What the earlier chunks give to a row. -/
def beforeA : FVec Ideal S65x64x2x6x64 .f32 :=
  mulf (readA V) (broadcastInDim S65x64x2x6x64 ![0, 1, 2, 3, 4] bcast_S65x64x2x6x1_S65x64x2x6x64_0_1_2_3_4 (broadcastInDim S65x64x2x6x1 ![0, 1, 2, 3] bcast_S65x64x2x6_S65x64x2x6x1_0_1_2_3 (Host.exp (res_main_v64 V))))
/-- The scan's output. -/
def scanA : FVec Ideal S4160x12x64 .f32 :=
  shapeCast _ (addf (insideA V) (beforeA V)) shapeCasts_S65x64x2x6x64_S4160x12x64

/-! ## Each of them at an index -/

theorem minus_inf (S : Shape) (i : S.Idx) : (id (constant (F := Ideal) S .f32 0xFF800000#32) : S.Idx → EReal) i = ⊥ := by
  show Ideal.ofBits .f32 0xFF800000#32 = ⊥
  simp [Ideal.ofBits, Ideal.ieee]

theorem upto : ∀ l s : Fin 64, Scalar.select (IntOp.cmpi .sge (IntOp.addi (BitVec.ofNat 32 l.val) 0#32) (BitVec.ofNat 32 s.val)) 1#1 0#1
    = if s.val ≤ l.val then 1#1 else 0#1 := by decide +kernel

theorem mask_at (l s : Fin 64) : maskA (ix2 l s) = if s.val ≤ l.val then 1#1 else 0#1 := by
  unfold maskA
  pointwise
  exact upto l s

theorem decay_at (c : Fin 65) (l s : Fin 64) (g : Fin 2) (r : Fin 6) : decayA V (ix5 c l s g r) = decay (args V) c l s (hd g r) := by
  unfold decayA
  pointwise
  rw [mask_at, v64_at, v64_at, minus_inf]
  unfold decay
  by_cases h : s.val ≤ l.val
  · rw [if_pos h, if_pos h]; rfl
  · rw [if_neg h, if_neg h]; rfl

theorem score_at (c : Fin 65) (l s : Fin 64) (g : Fin 2) (r : Fin 6) (p : Fin 64) :
    scoreA V (ix4 c l s g) = ∑ n : Fin 128, query (args V) c l (col g r p) n * key (args V) c s (col g r p) n := by
  unfold scoreA
  pointwise
  exact Finset.sum_congr rfl fun n _ => by rw [v65_at V c s g r p n, v66_at V c l g r p n, mul_comm]

theorem weight_at (c : Fin 65) (l s : Fin 64) (g : Fin 2) (r : Fin 6) (p : Fin 64) :
    weightA V (ix5 c l s g r) = (∑ n : Fin 128, query (args V) c l (col g r p) n * key (args V) c s (col g r p) n) * decay (args V) c l s (hd g r) := by
  unfold weightA
  pointwise
  rw [score_at V c l s g r p, decay_at]

theorem inside_at (c : Fin 65) (l : Fin 64) (g : Fin 2) (r : Fin 6) (p : Fin 64) :
    insideA V (ix5 c l g r p) = inside (args V) c l (col g r p) := by
  unfold insideA
  pointwise
  unfold inside
  exact Finset.sum_congr rfl fun s _ => by rw [v59_at, weight_at V c l s g r p, head_col, mul_comm]

theorem total_at (c : Fin 65) (o : Fin 1) (g : Fin 2) (r : Fin 6) : totalA V (ix4 c o g r) = last (args V) c (hd g r) := by
  unfold totalA
  pointwise
  exact v64_at V c 63 g r

theorem in_at (c : Fin 65) (s : Fin 64) (g : Fin 2) (r : Fin 6) (p : Fin 64) :
    inA V (ix5 c s g r p) = xd (args V) c s (col g r p) * Ideal.exp (last (args V) c (hd g r) - acum (args V) c s (hd g r)) := by
  unfold inA
  pointwise
  rw [v59_at, total_at, v64_at]

theorem gain_at (c : Fin 65) (g : Fin 2) (r : Fin 6) (p : Fin 64) (n : Fin 128) :
    gainA V (ix5 c g r p n) = gain (args V) c (col g r p) n := by
  unfold gainA
  pointwise
  unfold gain
  exact Finset.sum_congr rfl fun s _ => by rw [in_at, v65_at V c s g r p n, head_col]

theorem bit_one : (FloatOps.uitofp .f32 (1#1) : Ideal .f32) = (1 : EReal) := by
  show ((((1#1 : BitVec 1).toNat : ℝ)) : EReal) = 1
  simp
theorem bit_zero : (FloatOps.uitofp .f32 (0#1) : Ideal .f32) = (0 : EReal) := by
  show ((((0#1 : BitVec 1).toNat : ℝ)) : EReal) = 0
  simp

theorem within_at (c i j : Fin 65) : withinA V (ix3 c i j) = if j.val < i.val ∧ i.val < c.val then (1 : EReal) else 0 := by
  unfold withinA
  pointwise
  rw [v95_at, v95_at]
  by_cases h1 : i.val < c.val
  · by_cases h2 : j.val < i.val
    · rw [if_pos h1, if_pos h2, if_pos (show j.val < i.val ∧ i.val < c.val from ⟨h2, h1⟩)]; exact bit_one
    · rw [if_pos h1, if_neg h2, if_neg (show ¬(j.val < i.val ∧ i.val < c.val) from fun h => h2 h.1)]; exact bit_zero
  · rw [if_neg h1, if_neg (show ¬(j.val < i.val ∧ i.val < c.val) from fun h => h1 h.2)]
    by_cases h2 : j.val < i.val
    · rw [if_pos h2]; exact bit_zero
    · rw [if_neg h2]; exact bit_zero

theorem between_at (c j : Fin 65) (g : Fin 2) (r : Fin 6) : betweenA V (ix4 c j g r) = between (args V) c.val j (hd g r) := by
  unfold betweenA
  pointwise
  unfold between
  refine Finset.sum_congr rfl fun i _ => ?_
  rw [within_at, total_at]
  by_cases h : j.val < i.val ∧ i.val < c.val
  · rw [if_pos h, if_pos h, one_mul]
  · rw [if_neg h, if_neg h, zero_mul]

/-- The masked exponential, of any mask and any logarithm. -/
theorem masked_at (b : IVec S65x65 1) (x : FVec Ideal S65x65x2x6 .f32) (c j : Fin 65) (g : Fin 2) (r : Fin 6) :
    (Host.exp (select (broadcastInDim S65x65x2x6 ![0, 1, 2, 3] bcast_S65x65x1x1_S65x65x2x6_0_1_2_3
      (broadcastInDim S65x65x1x1 ![0, 1] bcast_S65x65_S65x65x1x1_0_1 b)) x
      (broadcastInDim S65x65x2x6 ![] bcast_S_S65x65x2x6 (id (constant S_ .f32 0xFF800000#32)))) : FVec Ideal S65x65x2x6 .f32) (ix4 c j g r)
      = Ideal.exp (Scalar.select (b (ix2 c j)) (x (ix4 c j g r)) (⊥ : EReal)) := by
  rw [← minus_inf S_ ix0]
  pointwise
theorem select_one (x y : EReal) : Scalar.select (1#1) x y = x := rfl
theorem select_zero (x y : EReal) : Scalar.select (0#1) x y = y := rfl

theorem carry_at (c j : Fin 65) (g : Fin 2) (r : Fin 6) :
    carryA V (ix4 c j g r) = if j.val < c.val then Ideal.exp (between (args V) c.val j (hd g r)) else 0 := by
  unfold carryA
  refine (masked_at (res_main_v95 V) (betweenA V) c j g r).trans ?_
  rw [v95_at, between_at]
  by_cases h : j.val < c.val
  · rw [if_pos h, if_pos h, select_one]
  · rw [if_neg h, if_neg h, select_zero]; rfl

theorem state_at (c : Fin 65) (g : Fin 2) (r : Fin 6) (p : Fin 64) (n : Fin 128) :
    stateA V (ix5 c g r p n) = state (args V) c.val (col g r p) n := by
  unfold stateA
  pointwise
  rw [state_closed (args V) c.val (by omega)]
  refine Finset.sum_congr rfl fun j _ => ?_
  rw [gain_at, carry_at]
  unfold term
  rw [head_col]
  by_cases h : j.val < c.val
  · rw [if_pos h, if_pos h]
  · rw [if_neg h, if_neg h, mul_zero]

theorem read_at (c : Fin 65) (l : Fin 64) (g : Fin 2) (r : Fin 6) (p : Fin 64) :
    readA V (ix5 c l g r p) = ∑ n : Fin 128, query (args V) c l (col g r p) n * state (args V) c.val (col g r p) n := by
  unfold readA
  pointwise
  exact Finset.sum_congr rfl fun n _ => by rw [state_at, v66_at V c l g r p n, mul_comm]

theorem before_at (c : Fin 65) (l : Fin 64) (g : Fin 2) (r : Fin 6) (p : Fin 64) :
    beforeA V (ix5 c l g r p) = before (args V) c l (col g r p) := by
  unfold beforeA
  pointwise
  rw [read_at, v64_at]
  unfold before
  rw [head_col]

theorem scan_at (i : Fin 4160) (h : Fin 12) (p : Fin 64) (k : Fin 768) (hk : k.val = h.val * 64 + p.val) :
    scanA V (ix3 i h p) = inside (args V) ⟨i.val / 64, by omega⟩ ⟨i.val % 64, by omega⟩ k + before (args V) ⟨i.val / 64, by omega⟩ ⟨i.val % 64, by omega⟩ k := by
  unfold scanA
  pointwise
  rw [inside_at, before_at]
  have e : col ⟨h.val / 6, by omega⟩ ⟨h.val % 6, by omega⟩ p = k :=
    Fin.ext (by show (h.val / 6 * 6 + h.val % 6) * 64 + p.val = k.val; omega)
  rw [e]

theorem v123_eq : res_main_v123 V =
    mulf (shapeCast _ (addf (scanA V) (mulf (res_main_v41 V) (broadcastInDim S4160x12x64 ![0, 1, 2] bcast_S1x12x1_S4160x12x64_0_1_2 (broadcastInDim S1x12x1 ![1, 2] bcast_S12x1_S1x12x1_1_2 (broadcastInDim S12x1 ![0] bcast_S12_S12x1_0 (V (Proc.devRef .tc main_arg7))))))) shapeCasts_S4160x12x64_S4160x768) (mulf (V (Proc.devRef .tc main_arg1)) (Host.divf (broadcastInDim S4160x768 ![] bcast_S_S4160x768 (constant S_ .f32 0x3F800000#32)) (addf (broadcastInDim S4160x768 ![] bcast_S_S4160x768 (constant S_ .f32 0x3F800000#32)) (Host.exp (Host.negf (V (Proc.devRef .tc main_arg1))))))) := rfl

theorem v123_at (i : Fin 4160) (k : Fin 768) : res_main_v123 V (ix2 i k) = gated (args V) ⟨i.val / 64, by omega⟩ ⟨i.val % 64, by omega⟩ k := by
  rw [v123_eq]
  pointwise
  rw [scan_at V i _ _ k (by show k.val = k.val / 64 * 64 + k.val % 64; omega), v41_at]
  have e : row ⟨i.val / 64, by omega⟩ ⟨i.val % 64, by omega⟩ = i := Fin.ext (by show i.val / 64 * 64 + i.val % 64 = i.val; omega)
  have e' : (⟨k.val / 64 * 64 + k.val % 64, by omega⟩ : Fin 1280) = inCol k := Fin.ext (by show k.val / 64 * 64 + k.val % 64 = k.val; omega)
  unfold gated
  rw [e, e']
  rfl

end Cert.SsdFwdRefIdeal.Scan

end
-- ==== Proof.SsdFwdReference.lean ====
/- The reference's run of the state space branch: its result buffer, read at an index, is the specification's term. -/
module

public import proofs.«01_k».proof.Proof.SsdFwdRefScan

@[expose] public section

set_option maxRecDepth 8192

noncomputable section

namespace Cert.SsdFwdRefIdeal.Scan

open Cert.SsdFwdRefIdeal Cert.SsdFwdRefIdeal.Gen Cert.SsdFwdRefIdeal.Value Idealize.ShloMosaic Idealize.ShloMosaic.TcCoe
open Idealize.SL.Sem Idealize.ShloMosaic.Pointwise Idealize.ShloMosaic.StableHlo Cert.Ssd

/-- The norm of any rows by any scale. -/
theorem norm_at (v : FVec Ideal S4160x768 .f32) (g : FVec Ideal S768 .f32) (i : Fin 4160) (k : Fin 768) :
    (mulf (mulf v (broadcastInDim S4160x768 ![0, 1] bcast_S4160x1_S4160x768_0_1 (Host.rsqrt (addf (Host.divf
      (broadcastInDim S4160x1 ![0] bcast_S4160_S4160x1_0 (Host.reduceAdd (mulf v v) (constant S_ .f32 0x00000000#32) reducesTo_S4160x768_S4160_d1 h_S_))
      (broadcastInDim S4160x1 ![] bcast_S_S4160x1 (constant S_ .f32 0x44400000#32)))
      (broadcastInDim S4160x1 ![] bcast_S_S4160x1 (constant S_ .f32 0x3727C5AC#32))))))
      (broadcastInDim S4160x768 ![0, 1] bcast_S1x768_S4160x768_0_1 (broadcastInDim S1x768 ![1] bcast_S768_S1x768_1 g)) : FVec Ideal S4160x768 .f32) (ix2 i k)
      = v (ix2 i k) * Ideal.rsqrt (Ideal.div (∑ j : Fin 768, v (ix2 i j) * v (ix2 i j)) width + eps) * g (ix1 k) := by
  pointwise
  rfl

variable (m : (ℓ : Loc nD τ sig) → Buf (Elt Ideal) ℓ) (ρ : Dev nD → PrngReg)

/-- Every execution of the reference ends with the specified rows and its arguments kept. -/
theorem run :
    θ_run defs (onTc (τ := τ) (main (F := Ideal))) ⟨m, fun _ => 0, ρ⟩ fun r => ∀ c : Dev nD,
      r.2.mem ((c.tc : Thread nD τ).loc main_v136) = (fun i => result (args (launchContents m c)) (i 0) (i 1) : S4160x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.SsdFwdRefIdeal.Value.run m ρ)
  obtain ⟨h0, hk⟩ := h c
  refine ⟨h0.trans ?_, hk⟩
  funext i
  obtain ⟨n, k, rfl⟩ : ∃ (n : Fin 4160) (k : Fin 768), i = ix2 n k := ⟨i 0, i 1, eq_ix2 i⟩
  refine (norm_at (res_main_v123 (launchContents m c)) _ n k).trans ?_
  simp only [v123_at]
  rfl

end Cert.SsdFwdRefIdeal.Scan

end
-- ==== Proof.LnInSpec.lean ====
/-
  The first layer norm and its gradient, written at an index of the extended reals: the rows themselves are centred, divided by
  their deviation, scaled and shifted. The 48 rows of padding before the first token are zero and carry no cotangent.
-/
module

public import proofs.«01_k».proof.Proof.LnSpec

@[expose] public section

noncomputable section

namespace Cert.Ln

variable {L D : Nat} (h : Fin L → Fin D → EReal) (g : Fin D → EReal) (ct : Fin L → Fin D → EReal)

/-- The normalised row, scaled and shifted; the rows of padding are zero. -/
def fwd1 (b : Fin D → EReal) (i : Fin L) (j : Fin D) : EReal :=
  if 48 ≤ i.val then cen (h i) j * rstd (h i) * g j + b j else 0

/-- The cotangents of the rows and of the scale; that of the shift is `db`. -/
def dh1 (i : Fin L) (j : Fin D) : EReal := dz (h i) g (live ct i) j
def dg1 (j : Fin D) : EReal := ∑ i, cen (h i) j * rstd (h i) * live ct i j

theorem dh1_pad (i : Fin L) (hi : i.val < 48) (j : Fin D) : dh1 h g ct i j = 0 := by
  unfold dh1; rw [live_pad ct i hi, dz_zero]

end Cert.Ln
-- ==== Proof.LnInKernel.lean ====
/-
  What the backward call of the first layer norm leaves in its three result arrays. The rows come in ten tiles of 416, the last
  tile first; a tile's own gradient is written to its rows, and the gradients of the scale and the shift are added up over the
  tiles in blocks that are zeroed at the first point and written back after the last.
-/
module

public import proofs.«01_k».proof.Proof.Gen.LnInBwdIdeal.Value
public import proofs.«01_k».proof.Proof.LnInSpec
public import proofs.«01_k».proof.Proof.Tiles
public import Idealize.ShloMosaic.Lib.Pipeline.ValueKit

@[expose] public section

set_option maxRecDepth 16384

noncomputable section

namespace Cert.LnInBwdIdeal.Ln

open Cert.LnInBwdIdeal Cert.LnInBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The rows. -/
def h : Fin 4160 → Fin 1024 → EReal := fun i j => m ((c : Thread nD τ).loc main_arg0) (ix2 i j)
/-- The norm's scale. -/
def g : Fin 1024 → EReal := fun j => m ((c : Thread nD τ).loc main_arg1) (ix2 0 j)
/-- The cotangent of the normalised rows. -/
def ct : Fin 4160 → Fin 1024 → EReal := fun i j => m ((c : Thread nD τ).loc main_arg3) (ix2 i j)

/-- Where each window's block stands at point `t`: the row tiles move backwards with `t`, the rest stay. -/
theorem idx : ∀ t : Fin cfg0.N, win0_0.index t = ![9 - t.val, 0] ∧ win0_1.index t = ![0, 0] ∧ win0_3.index t = ![9 - t.val, 0]
    ∧ win0_4.index t = ![0, 9 - t.val, 0] ∧ win0_5.index t = ![0, 0, 0] ∧ win0_6.index t = ![0, 0, 0] :=
  (by decide +kernel : ∀ t : Fin grid0.N, _)

/-- Row `r` of the tile at point `t` among all the rows. -/
def row (t : Fin cfg0.N) (r : Fin 416) : Fin 4160 :=
  ⟨(9 - t.val) * 416 + r.val, by have := lt_of_lt_of_eq t.isLt N_0; omega⟩

/-! ## The blocks the body reads -/

theorem blk_h (t : Fin cfg0.N) (r : Fin 416) (j : Fin 1024) : (iblk m c 0 t : Vec Ideal S416x1024 .f32) (ix2 r j) = h m c (row t r) j := by
  unfold h row
  blk_simp [iblk]
  entry_read
  blk_ext [iblk, (idx t).1]
theorem blk_g (t : Fin cfg0.N) (j : Fin 1024) : (iblk m c 1 t : Vec Ideal S1x1024 .f32) (ix2 0 j) = g m c j := by
  unfold g
  blk_simp [iblk]
  entry_read
  blk_ext [iblk, (idx t).2.1]
theorem blk_ct (t : Fin cfg0.N) (r : Fin 416) (j : Fin 1024) : (iblk m c 3 t : Vec Ideal S416x1024 .f32) (ix2 r j) = ct m c (row t r) j := by
  unfold ct row
  blk_simp [iblk]
  entry_read
  blk_ext [iblk, (idx t).2.2.1]

/-! ## The cotangent of the tokens' rows -/

theorem coord : ∀ t : Fin cfg0.N, (grid0.coords t 1).val = t.val := (by decide +kernel : ∀ t : Fin grid0.N, _)

theorem mask_word : ∀ (t : Fin 10) (r : Fin 416), IntOp.cmpi CmpIPredicate.sge
      (IntOp.addi (Scalar.muli (Scalar.subi (9#32) (BitVec.ofNat 32 t.val)) 416#32) (BitVec.ofNat 32 r.val)) 48#32
    = if 48 ≤ (9 - t.val) * 416 + r.val then 1#1 else 0#1 := by decide +kernel

theorem pay_ct (t : Fin cfg0.N) (r : Fin 416) (j : Fin 1024) :
    k0_pay9 (grid0.coords t) (iblk m c 3 t) (ix2 r j) = Ln.live (ct m c) (row t r) j := by
  unfold_payloads
  pointwise
  rw [coord t, blk_ct]
  refine (congrArg (fun b => Scalar.select b _ _) (mask_word ⟨t.val, lt_of_lt_of_eq t.isLt N_0⟩ r)).trans ?_
  unfold Ln.live Scalar.select
  by_cases hr : 48 ≤ (row t r).val
  · have hr' : 48 ≤ (9 - t.val) * 416 + r.val := hr
    simp [hr, hr']
  · have hr' : ¬48 ≤ (9 - t.val) * 416 + r.val := hr
    simp [hr, hr']

/-! ## What the body computes of its blocks, at an index -/

section Payloads
variable (vh : Vec Ideal S416x1024 .f32) (vg : Vec Ideal S1x1024 .f32)

/-- The row of a tile. -/
abbrev zrow (r : Fin 416) : Fin 1024 → EReal := fun j => vh (ix2 r j)

theorem pay_cen (r : Fin 416) (j : Fin 1024) : k0_pay4 vh (ix2 r j) = Ln.cen (zrow vh r) j := by
  unfold k0_pay4
  pointwise [Ln.cen, Ln.mean, Ln.width]

theorem pay_var (r : Fin 416) : k0_pay5 vh (ix2 r 0) = Ln.var (zrow vh r) := by
  unfold k0_pay5
  pointwise
  simp only [pay_cen]
  rfl

theorem pay_rstd (r : Fin 416) : k0_pay6 vh (ix2 r 0) = Ln.rstd (zrow vh r) := by
  unfold k0_pay6
  pointwise
  rw [pay_var]
  rfl

theorem pay_ratio (r : Fin 416) :
    k0_pay7 vh (ix2 r 0) = Ln.mhalf * Ideal.div (Ln.rstd (zrow vh r)) (Ln.var (zrow vh r)) := by
  unfold k0_pay7
  pointwise
  rw [pay_rstd, pay_var]
  rfl

theorem pay_normed (r : Fin 416) (j : Fin 1024) : k0_pay8 vh (ix2 r j) = Ln.cen (zrow vh r) j * Ln.rstd (zrow vh r) := by
  unfold k0_pay8
  pointwise
  rw [pay_cen, pay_rstd]

/-- The row's cotangent, of whatever arrays hold the centred rows, the deviations and the cotangent. -/
theorem pay_dz (cen : FVec Ideal S416x1024 .f32) (rstd ratio : FVec Ideal S416x1 .f32)
    (X : Vec Ideal S416x1024 .f32) (z ctr : Fin 1024 → EReal) (r : Fin 416)
    (hcen : ∀ j, cen (ix2 r j) = Ln.cen z j) (hrstd : rstd (ix2 r 0) = Ln.rstd z)
    (hratio : ratio (ix2 r 0) = Ln.mhalf * Ideal.div (Ln.rstd z) (Ln.var z))
    (hct : ∀ j, X (ix2 r j) = ctr j) (j : Fin 1024) :
    k0_pay11 vg cen rstd ratio X (ix3 0 r j) = Ln.dz z (fun j => vg (ix2 0 j)) ctr j := by
  unfold k0_pay11
  pointwise
  simp only [Fin.sum_univ_one, hct, hcen, hrstd, hratio]
  unfold Ln.dz
  have e : ∀ j, Ln.dcen z (fun j => vg (ix2 0 j)) ctr j = ctr j * vg (ix2 0 j) * Ln.rstd z
      + Ln.cen z j * Ln.coef z (fun j => vg (ix2 0 j)) ctr + Ln.coef z (fun j => vg (ix2 0 j)) ctr * Ln.cen z j := fun j => by
    rw [add_assoc, mul_comm (Ln.coef _ _ _)]; rfl
  simp only [e]
  rfl

end Payloads

/-- The tile's rows. -/
theorem tile_row (t : Fin cfg0.N) (r : Fin 416) : zrow (iblk m c 0 t) r = h m c (row t r) := by
  funext j
  exact blk_h m c t r j

/-- The cotangent the body writes of its tile's rows. -/
theorem tile_dh (t : Fin cfg0.N) (r : Fin 416) (j : Fin 1024) :
    k0_pay11 (iblk m c 1 t) (k0_pay4 (iblk m c 0 t)) (k0_pay6 (iblk m c 0 t)) (k0_pay7 (iblk m c 0 t))
        (k0_pay9 (grid0.coords t) (iblk m c 3 t)) (ix3 0 r j)
      = Ln.dh1 (h m c) (g m c) (ct m c) (row t r) j := by
  refine (pay_dz _ _ _ _ _ _ (Ln.live (ct m c) (row t r)) r (pay_cen _ r) (pay_rstd _ r) (pay_ratio _ r)
    (pay_ct m c t r) j).trans ?_
  unfold Ln.dh1
  congr 1
  · exact tile_row m c t r
  · funext j
    exact blk_g m c t j

/-! ## The three result arrays -/

theorem final4 : (dats m 0 c).arrAt 4 cfg0.N
    = (fun i => Ln.dh1 (h m c) (g m c) (ct m c) (i 1) (i 2) : S1x4160x1024.Idx → EReal) := by
  refine (dats m 0 c).arrAt_eq_of_covers 4 _ (by decide +kernel) fun t hf y => ?_
  have e : ((cfg0.win 4).blk t).view.emb y = (ix3 0 (row t (y 1)) (y 2) : S1x4160x1024.Idx) := by
    blk_ext [row, (idx t).2.2.2.1]
  rw [e]
  blk_simp
  rw [after0_4]
  have key : ∀ X : Vec Ideal S1x416x1024 .f32, X = k0_pay11 (iblk m c 1 t) (k0_pay4 (iblk m c 0 t)) (k0_pay6 (iblk m c 0 t))
        (k0_pay7 (iblk m c 0 t)) (k0_pay9 (grid0.coords t) (iblk m c 3 t)) →
      ∀ (r : Fin 416) (j : Fin 1024), X (ix3 0 r j) = Ln.dh1 (h m c) (g m c) (ct m c) (row t r) j := by
    intro X hX r j
    rw [hX]
    exact tile_dh m c t r j
  have hy : y = (ix3 0 (y 1) (y 2) : S1x416x1024.Idx) := by
    rw [eq_ix3 y]; congr 1; exact Subsingleton.elim _ _
  refine (congrArg _ hy).trans (key _ ?_ _ _)
  by_cases h : t.val % 10 = 0
  · rw [outsAt0_A m c t h]; frame_out
  · rw [outsAt0_B m c t h]; frame_out

/-- A row's share of the scale's cotangent. -/
def dgRow (j : Fin 1024) (i : Fin 4160) : EReal := Ln.cen (h m c i) j * Ln.rstd (h m c i) * Ln.live (ct m c) i j

theorem dg_step (t : Fin cfg0.N) (acc : Vec Ideal S1x1x1024 .f32) (j : Fin 1024) :
    k0_pay12 (k0_pay8 (iblk m c 0 t)) (k0_pay9 (grid0.coords t) (iblk m c 3 t)) acc (ix3 0 0 j)
      = acc (ix3 0 0 j) + ∑ r : Fin 416, dgRow m c j (row t r) := by
  unfold k0_pay12
  pointwise
  simp only [pay_ct, pay_normed, tile_row]
  rfl

theorem dg_first (t : Fin cfg0.N) (h : t.val % 10 = 0) (j : Fin 1024) :
    (outsAt0 m c t.val t.isLt).2.1 (ix3 0 0 j) = 0 + ∑ r : Fin 416, dgRow m c j (row t r) := by
  rw [outsAt0_A m c t h]; frame_out
  rw [dg_step]
  congr 1
  pointwise [k0_pay2]

theorem dg_next (t : Fin cfg0.N) (h : ¬t.val % 10 = 0) (j : Fin 1024) :
    (outsAt0 m c t.val t.isLt).2.1 (ix3 0 0 j)
      = (outsAt0 m c (t.val - 1) (Nat.lt_of_le_of_lt (Nat.sub_le _ _) t.isLt)).2.1 (ix3 0 0 j)
        + ∑ r : Fin 416, dgRow m c j (row t r) := by
  rw [outsAt0_B m c t h]; frame_out
  rw [dg_step]

theorem final5 : (dats m 0 c).arrAt 5 cfg0.N
    = (fun i => Ln.dg1 (h m c) (ct m c) (i 2) : S1x1x1024.Idx → EReal) := by
  refine (dats m 0 c).arrAt_eq_of_after_last 5 t0_9 (by decide +kernel) _ fun y => ?_
  blk_simp
  rw [after0_5]
  have hy : y = (ix3 0 0 (y 2) : S1x1x1024.Idx) := by
    rw [eq_ix3 y]; congr 1 <;> exact Subsingleton.elim _ _
  exact (congrArg _ hy).trans ((Tiles.kept_sum N_0 (fun t => ∑ r : Fin 416, dgRow m c (y 2) (row t r))
    (fun n h => (outsAt0 m c n h).2.1 (ix3 0 0 (y 2))) (fun t h => dg_first m c t h _) (fun t h => dg_next m c t h _) t0_9
    (by decide +kernel)).trans (Tiles.sum_rows_rev N_0 rfl row (fun _ _ => rfl) _))

theorem db_step (t : Fin cfg0.N) (acc : Vec Ideal S1x1x1024 .f32) (j : Fin 1024) :
    k0_pay1 (k0_pay10 (grid0.coords t) (iblk m c 3 t)) acc (ix3 0 0 j)
      = acc (ix3 0 0 j) + ∑ r : Fin 416, Ln.live (ct m c) (row t r) j := by
  unfold k0_pay1 k0_pay10
  pointwise
  simp only [pay_ct]

theorem db_first (t : Fin cfg0.N) (h : t.val % 10 = 0) (j : Fin 1024) :
    (outsAt0 m c t.val t.isLt).2.2 (ix3 0 0 j) = 0 + ∑ r : Fin 416, Ln.live (ct m c) (row t r) j := by
  rw [outsAt0_A m c t h]; frame_out
  rw [db_step]
  congr 1
  pointwise [k0_pay3]

theorem db_next (t : Fin cfg0.N) (h : ¬t.val % 10 = 0) (j : Fin 1024) :
    (outsAt0 m c t.val t.isLt).2.2 (ix3 0 0 j)
      = (outsAt0 m c (t.val - 1) (Nat.lt_of_le_of_lt (Nat.sub_le _ _) t.isLt)).2.2 (ix3 0 0 j)
        + ∑ r : Fin 416, Ln.live (ct m c) (row t r) j := by
  rw [outsAt0_B m c t h]; frame_out
  rw [db_step]

theorem final6 : (dats m 0 c).arrAt 6 cfg0.N
    = (fun i => Ln.db (ct m c) (i 2) : S1x1x1024.Idx → EReal) := by
  refine (dats m 0 c).arrAt_eq_of_after_last 6 t0_9 (by decide +kernel) _ fun y => ?_
  blk_simp
  rw [after0_6]
  have hy : y = (ix3 0 0 (y 2) : S1x1x1024.Idx) := by
    rw [eq_ix3 y]; congr 1 <;> exact Subsingleton.elim _ _
  exact (congrArg _ hy).trans ((Tiles.kept_sum N_0 (fun t => ∑ r : Fin 416, Ln.live (ct m c) (row t r) (y 2))
    (fun n h => (outsAt0 m c n h).2.2 (ix3 0 0 (y 2))) (fun t h => db_first m c t h _) (fun t h => db_next m c t h _) t0_9
    (by decide +kernel)).trans (Tiles.sum_rows_rev N_0 rfl row (fun _ _ => rfl) fun i => Ln.live (ct m c) i (y 2)))

end Cert.LnInBwdIdeal.Ln
-- ==== Proof.LnInReference.lean ====
/- The reference's run of the first layer norm's gradient: each of its three result buffers, read at an index, is the
   specification's term. The reference works on the 4112 rows from the first token on. -/
module

public import proofs.«01_k».proof.Proof.Gen.LnInRefIdeal.Run
public import proofs.«01_k».proof.Proof.LnInSpec
public import Idealize.ShloMosaic.Lib.Pointwise
public import Idealize.ShloMosaic.Adequacy

@[expose] public section

noncomputable section

namespace Cert.LnInRefIdeal.Ln

open Cert.LnInRefIdeal Cert.LnInRefIdeal.Gen Cert.LnInRefIdeal.Value Idealize.ShloMosaic Idealize.ShloMosaic.TcCoe Idealize.SL.Sem Idealize.ShloMosaic.Pointwise

variable (m : (ℓ : Loc nD τ sig) → Buf (Elt Ideal) ℓ) (ρ : Dev nD → PrngReg)

/-- The arguments as index functions. -/
def h (c : Dev nD) (i : Fin 4160) (j : Fin 1024) : EReal := m ((c.tc : Thread nD τ).loc main_arg0) (ix2 i j)
def g (c : Dev nD) (j : Fin 1024) : EReal := m ((c.tc : Thread nD τ).loc main_arg1) (ix2 0 j)
def ct (c : Dev nD) (i : Fin 4160) (j : Fin 1024) : EReal := m ((c.tc : Thread nD τ).loc main_arg3) (ix2 i j)

variable (c : Dev nD)

/-! ## The arrays the reference goes through, each over the ones before -/

/-- The tokens' rows. -/
def zA : FVec Ideal S4112x1024 .f32 :=
  extractStridedSlice S4112x1024 ![48, 0] (m ((c.tc : Thread nD τ).loc main_arg0)) slices_S4160x1024_S4112x1024_48_0
/-- The centred rows. -/
def cenA : FVec Ideal S4112x1024 .f32 :=
  subf (zA m c) (broadcastInDim S4112x1024 ![0, 1] bcast_S4112x1_S4112x1024_0_1
    (Host.divf (broadcastInDim S4112x1 ![0] bcast_S4112_S4112x1_0
        (Host.reduceAdd (zA m c) (constant S_ .f32 0x00000000#32) reducesTo_S4112x1024_S4112_d1 h_S_))
      (broadcastInDim S4112x1 ![] bcast_S_S4112x1 (constant S_ .f32 0x44800000#32))))
/-- The variances plus ε. -/
def varA : FVec Ideal S4112x1 .f32 :=
  addf (Host.divf (broadcastInDim S4112x1 ![0] bcast_S4112_S4112x1_0
        (Host.reduceAdd (mulf (cenA m c) (cenA m c)) (constant S_ .f32 0x00000000#32) reducesTo_S4112x1024_S4112_d1 h_S_))
      (broadcastInDim S4112x1 ![] bcast_S_S4112x1 (constant S_ .f32 0x44800000#32)))
    (broadcastInDim S4112x1 ![] bcast_S_S4112x1 (constant S_ .f32 0x3727C5AC#32))
/-- The tokens' cotangent. -/
def ctA : FVec Ideal S4112x1024 .f32 :=
  extractStridedSlice S4112x1024 ![48, 0] (m ((c.tc : Thread nD τ).loc main_arg3)) slices_S4160x1024_S4112x1024_48_0
/-- The cotangent of the normalised rows. -/
def upA : FVec Ideal S4112x1024 .f32 :=
  mulf (ctA m c) (broadcastInDim S4112x1024 ![0, 1] bcast_S1x1024_S4112x1024_0_1 (m ((c.tc : Thread nD τ).loc main_arg1)))
/-- What the variance's cotangent hands to each centred entry. -/
def coefA : FVec Ideal S4112 .f32 :=
  Host.reduceAdd (Host.divf (mulf (shapeCast S4112x1 (Host.reduceAdd (mulf (cenA m c) (upA m c)) (constant S_ .f32 0x00000000#32)
          reducesTo_S4112x1024_S4112_d1 h_S_) shapeCasts_S4112_S4112x1)
        (mulf (broadcastInDim S4112x1 ![] bcast_S_S4112x1 (constant S_ .f32 0xBF000000#32))
          (Host.divf (Host.rsqrt (varA m c)) (varA m c))))
      (broadcastInDim S4112x1 ![] bcast_S_S4112x1 (constant S_ .f32 0x44800000#32)))
    (constant S_ .f32 0x00000000#32) reducesTo_S4112x1_S4112_d1 h_S_
/-- The cotangent of the centred rows. -/
def dcenA : FVec Ideal S4112x1024 .f32 :=
  addf (mulf (upA m c) (broadcastInDim S4112x1024 ![0, 1] bcast_S4112x1_S4112x1024_0_1 (Host.rsqrt (varA m c))))
    (mulf (broadcastInDim S4112x1024 ![0] bcast_S4112_S4112x1024_0 (coefA m c))
      (mulf (broadcastInDim S4112x1024 ![] bcast_S_S4112x1024 (constant S_ .f32 0x40000000#32)) (cenA m c)))
/-- The cotangent of the tokens' rows. -/
def dzA : FVec Ideal S4112x1024 .f32 :=
  addf (dcenA m c) (broadcastInDim S4112x1024 ![0] bcast_S4112_S4112x1024_0
    (Host.reduceAdd (Host.divf (shapeCast S4112x1 (Host.reduceAdd (Host.negf (dcenA m c)) (constant S_ .f32 0x00000000#32)
          reducesTo_S4112x1024_S4112_d1 h_S_) shapeCasts_S4112_S4112x1)
        (broadcastInDim S4112x1 ![] bcast_S_S4112x1 (constant S_ .f32 0x44800000#32)))
      (constant S_ .f32 0x00000000#32) reducesTo_S4112x1_S4112_d1 h_S_))

/-! ## Each of them at an index -/

/-- Token row `i` among all the rows. -/
def tok (i : Fin 4112) : Fin 4160 := ⟨48 + i.val, by omega⟩

/-- The token's row. -/
abbrev zr (i : Fin 4112) : Fin 1024 → EReal := h m c (tok i)

theorem z_at (i : Fin 4112) (j : Fin 1024) : zA m c (ix2 i j) = zr m c i j := by
  unfold zA
  pointwise [zr, h, tok]
theorem cen_at (i : Fin 4112) (j : Fin 1024) : cenA m c (ix2 i j) = Ln.cen (zr m c i) j := by
  unfold cenA
  pointwise
  simp only [z_at]
  rfl
theorem var_at (i : Fin 4112) : varA m c (ix2 i 0) = Ln.var (zr m c i) := by
  unfold varA
  pointwise
  simp only [cen_at]
  rfl
theorem ct_at (i : Fin 4112) (j : Fin 1024) : ctA m c (ix2 i j) = ct m c (tok i) j := by
  unfold ctA
  pointwise [ct, tok]
theorem up_at (i : Fin 4112) (j : Fin 1024) : upA m c (ix2 i j) = Ln.up (g m c) (ct m c (tok i)) j := by
  unfold upA
  pointwise
  rw [ct_at]
  rfl
theorem coef_at (i : Fin 4112) : coefA m c (ix1 i) = Ln.coef (zr m c i) (g m c) (ct m c (tok i)) := by
  unfold coefA
  pointwise
  simp only [Fin.sum_univ_one, cen_at, up_at, var_at]
  rfl
theorem dcen_at (i : Fin 4112) (j : Fin 1024) : dcenA m c (ix2 i j) = Ln.dcen (zr m c i) (g m c) (ct m c (tok i)) j := by
  unfold dcenA
  pointwise
  simp only [cen_at, up_at, var_at, coef_at, Ln.two_eq]
  unfold Ln.dcen
  rw [mul_left_comm, Ln.two_times, mul_comm (Ln.coef _ _ _)]
  rfl
theorem dz_at (i : Fin 4112) (j : Fin 1024) :
    dzA m c (ix2 i j) = Ln.dh1 (h m c) (g m c) (ct m c) (tok i) j := by
  unfold dzA
  pointwise
  simp only [Fin.sum_univ_one, dcen_at]
  unfold Ln.dh1
  rw [Ln.live_token (ct m c) (tok i) (Nat.le_add_right _ _)]
  unfold Ln.dz
  simp only [zero_sub]
  rfl

/-! ## The three results -/

/-- A sum over all the rows whose padding rows give nothing is the sum over the tokens' rows. -/
theorem sum_tok (f : Fin 4160 → EReal) (hf : ∀ i : Fin 4160, i.val < 48 → f i = 0) : ∑ i, f i = ∑ i, f (tok i) := by
  refine (Fin.sum_univ_add (a := 48) (b := 4112) f).trans ?_
  rw [Finset.sum_eq_zero fun i _ => hf _ i.isLt, zero_add]
  rfl

theorem tok_sub (n : Fin 4160) (hn : 48 ≤ n.val) : tok ⟨n.val - 48, by omega⟩ = n :=
  Fin.ext (show 48 + (n.val - 48) = n.val by omega)

theorem out0 : res_main_v59 m c
    = (fun i => Ln.dh1 (h m c) (g m c) (ct m c) (i 1) (i 2) : S1x4160x1024.Idx → EReal) := by
  have e : res_main_v59 m c = broadcastInDim S1x4160x1024 ![1, 2] bcast_S4160x1024_S1x4160x1024_1_2
      (pad S4160x1024 ![48, 0] ![0, 0] ![0, 0] (dzA m c)
        (constant (F := Ideal) S_ .f32 0x00000000#32) pads_S4112x1024_S4160x1024_4800_000 h_S_) := rfl
  rw [e]
  funext i
  obtain ⟨o, n, k, rfl⟩ : ∃ (o : Fin 1) (n : Fin 4160) (k : Fin 1024), i = ix3 o n k := ⟨i 0, i 1, i 2, eq_ix3 i⟩
  pointwise
  by_cases hn : 48 ≤ n.val
  · rw [dif_pos ⟨hn, by omega⟩, dz_at, tok_sub n hn]
  · rw [dif_neg fun hh => hn hh.1, Ln.dh1_pad _ _ _ n (by omega)]

theorem out1 : (broadcastInDim S1x1x1024 ![1, 2] bcast_S1x1024_S1x1x1024_1_2
      (shapeCast S1x1024 (Host.reduceAdd (mulf (mulf (cenA m c)
            (broadcastInDim S4112x1024 ![0, 1] bcast_S4112x1_S4112x1024_0_1 (Host.rsqrt (varA m c)))) (ctA m c))
          (constant (F := Ideal) S_ .f32 0x00000000#32) reducesTo_S4112x1024_S1024_d0 h_S_) shapeCasts_S1024_S1x1024) : FVec Ideal S1x1x1024 .f32)
    = (fun i => Ln.dg1 (h m c) (ct m c) (i 2) : S1x1x1024.Idx → EReal) := by
  funext i
  obtain ⟨o, n, k, rfl⟩ : ∃ (o : Fin 1) (n : Fin 1) (k : Fin 1024), i = ix3 o n k := ⟨i 0, i 1, i 2, eq_ix3 i⟩
  pointwise
  unfold Ln.dg1
  rw [sum_tok _ fun p hp => by rw [Ln.live_pad _ p hp, mul_zero]]
  refine Finset.sum_congr rfl fun p _ => ?_
  rw [cen_at, var_at, ct_at, Ln.live_token _ (tok p) (Nat.le_add_right _ _)]
  rfl

theorem out2 : (broadcastInDim S1x1x1024 ![1, 2] bcast_S1x1024_S1x1x1024_1_2 (shapeCast S1x1024 (Host.reduceAdd (ctA m c)
      (constant (F := Ideal) S_ .f32 0x00000000#32) reducesTo_S4112x1024_S1024_d0 h_S_) shapeCasts_S1024_S1x1024) : FVec Ideal S1x1x1024 .f32)
    = (fun i => Ln.db (ct m c) (i 2) : S1x1x1024.Idx → EReal) := by
  funext i
  obtain ⟨o, n, k, rfl⟩ : ∃ (o : Fin 1) (n : Fin 1) (k : Fin 1024), i = ix3 o n k := ⟨i 0, i 1, i 2, eq_ix3 i⟩
  pointwise
  unfold Ln.db
  rw [sum_tok _ fun p hp => by rw [Ln.live_pad _ p hp]]
  refine Finset.sum_congr rfl fun p _ => ?_
  rw [ct_at, Ln.live_token _ (tok p) (Nat.le_add_right _ _)]

/-- Every execution of the reference ends with the three specified cotangents and its arguments kept. -/
theorem run :
    θ_run defs (onTc (τ := τ) (main (F := Ideal))) ⟨m, fun _ => 0, ρ⟩ fun r => ∀ c : Dev nD,
      r.2.mem ((c.tc : Thread nD τ).loc main_v59)
        = (fun i => Ln.dh1 (h m c) (g m c) (ct m c) (i 1) (i 2) : S1x4160x1024.Idx → EReal)
      ∧ r.2.mem ((c.tc : Thread nD τ).loc main_v60) = (fun i => Ln.dg1 (h m c) (ct m c) (i 2) : S1x1x1024.Idx → EReal)
      ∧ r.2.mem ((c.tc : Thread nD τ).loc main_v61) = (fun i => Ln.db (ct m c) (i 2) : S1x1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.LnInRefIdeal.Value.run m ρ)
  obtain ⟨h0, h1, h2, hk⟩ := h c
  exact ⟨h0.trans (out0 m c), h1.trans (out1 m c), h2.trans (out2 m c), hk⟩

end Cert.LnInRefIdeal.Ln

end
-- ==== Proof.LnInFwdKernel.lean ====
/-
  What the first layer norm leaves in its result array: the rows come in ten tiles of 416, and each
  tile's normalised rows are written to its rows, the rows of padding as zeros.
-/
module

public import proofs.«01_k».proof.Proof.Gen.LnInFwdIdeal.Value
public import proofs.«01_k».proof.Proof.LnInSpec
public import Idealize.ShloMosaic.Lib.Pipeline.ValueKit
public import Idealize.ShloMosaic.Lib.Pipeline.ReadBack

@[expose] public section

set_option maxRecDepth 16384

noncomputable section

namespace Cert.LnInFwdIdeal.Ln

open Cert.LnInFwdIdeal Cert.LnInFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments by coordinates -/

/-- The rows. -/
def h : Fin 4160 → Fin 1024 → EReal := fun i j => m ((c : Thread nD τ).loc main_arg0) (ix2 i j)
/-- The norm's scale and shift. -/
def g : Fin 1024 → EReal := fun j => m ((c : Thread nD τ).loc main_arg1) (ix2 0 j)
def b : Fin 1024 → EReal := fun j => m ((c : Thread nD τ).loc main_arg2) (ix2 0 j)

/-- Where each window's block stands at point `t`: the row tiles move with `t`, the rest stay. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Row `r` of tile `t` among all the rows. -/
def row (t : Fin cfg0.N) (r : Fin 416) : Fin 4160 :=
  ⟨t.val * 416 + r.val, by have := lt_of_lt_of_eq t.isLt N_0; omega⟩

/-! ## The blocks the body reads -/

theorem blk_h (t : Fin cfg0.N) (r : Fin 416) (j : Fin 1024) : (iblk m c 0 t : Vec Ideal S416x1024 .f32) (ix2 r j) = h m c (row t r) j := by
  unfold h row
  blk_simp [iblk]
  entry_read
  blk_ext [iblk, (idx t).1]
theorem blk_g (t : Fin cfg0.N) (j : Fin 1024) : (iblk m c 1 t : Vec Ideal S1x1024 .f32) (ix2 0 j) = g m c j := by
  unfold g
  blk_simp [iblk]
  entry_read
  blk_ext [iblk, (idx t).2.1]
theorem blk_b (t : Fin cfg0.N) (j : Fin 1024) : (iblk m c 2 t : Vec Ideal S1x1024 .f32) (ix2 0 j) = b m c j := by
  unfold b
  blk_simp [iblk]
  entry_read
  blk_ext [iblk, (idx t).2.2.1]

/-! ## The mask of the tokens' rows -/

theorem coord : ∀ t : Fin cfg0.N, (grid0.coords t 1).val = t.val := (by decide +kernel : ∀ t : Fin grid0.N, _)

theorem mask_word : ∀ (t : Fin 10) (r : Fin 416), IntOp.cmpi CmpIPredicate.sge
      (IntOp.addi (Scalar.muli (BitVec.ofNat 32 t.val) 416#32) (BitVec.ofNat 32 r.val)) 48#32
    = if 48 ≤ t.val * 416 + r.val then 1#1 else 0#1 := by decide +kernel

/-! ## What the body computes of its blocks, at an index -/

theorem pay_norm (t : Fin cfg0.N) (vh : Vec Ideal S416x1024 .f32) (vg vb : Vec Ideal S1x1024 .f32) (r : Fin 416) (j : Fin 1024) :
    k0_pay1 (grid0.coords t) vh vg vb (ix2 r j)
      = Scalar.select (if 48 ≤ (row t r).val then 1#1 else 0#1)
          (Ln.cen (fun j => vh (ix2 r j)) j * Ln.rstd (fun j => vh (ix2 r j)) * vg (ix2 0 j) + vb (ix2 0 j)) (0 : EReal) := by
  unfold_payloads
  pointwise
  rw [coord t]
  refine (congrArg (fun b => Scalar.select b _ _) (mask_word ⟨t.val, lt_of_lt_of_eq t.isLt N_0⟩ r)).trans ?_
  rfl

theorem pay_out (t : Fin cfg0.N) (r : Fin 416) (j : Fin 1024) :
    k0_pay1 (grid0.coords t) (iblk m c 0 t) (iblk m c 1 t) (iblk m c 2 t) (ix2 r j)
      = Ln.fwd1 (h m c) (g m c) (b m c) (row t r) j := by
  rw [pay_norm, blk_g, blk_b, show (fun j => (iblk m c 0 t : Vec Ideal S416x1024 .f32) (ix2 r j)) = h m c (row t r) from
    funext (blk_h m c t r)]
  unfold Ln.fwd1 Scalar.select
  by_cases hr : 48 ≤ (row t r).val
  · simp [hr]
  · simp [hr]

/-! ## The result array -/

theorem final3 : (dats m 0 c).arrAt 3 cfg0.N = (fun i => Ln.fwd1 (h m c) (g m c) (b m c) (i 0) (i 1) : S4160x1024.Idx → EReal) := by
  refine (dats m 0 c).arrAt_eq_of_covers 3 _ (by decide +kernel) fun t hf x => ?_
  have e : ((cfg0.win 3).blk t).view.emb x = (ix2 (row t (x 0)) (x 1) : S4160x1024.Idx) := by
    blk_ext [row, (idx t).2.2.2]
  rw [e]
  blk_simp
  rw [after0_3]
  have key : ∀ X : Vec Ideal S416x1024 .f32, X = k0_pay1 (grid0.coords t) (iblk m c 0 t) (iblk m c 1 t) (iblk m c 2 t) →
      ∀ (r : Fin 416) (j : Fin 1024), X (ix2 r j) = Ln.fwd1 (h m c) (g m c) (b m c) (row t r) j := by
    intro X hX r j
    rw [hX]
    exact pay_out m c t r j
  refine (congrArg _ (eq_ix2 x)).trans (key _ ?_ _ _)
  unfold out0_3
  frame_out

end Cert.LnInFwdIdeal.Ln
-- ==== Proof.LnInFwdReference.lean ====
/- The reference's run of the first layer norm: its result buffer, read at an index, is the
   specification's term. -/
module

public import proofs.«01_k».proof.Proof.Gen.LnInFwdRefIdeal.Run
public import proofs.«01_k».proof.Proof.LnInSpec
public import Idealize.ShloMosaic.Lib.Pointwise
public import Idealize.ShloMosaic.Adequacy

@[expose] public section

set_option maxRecDepth 8192

noncomputable section

namespace Cert.LnInFwdRefIdeal.Ln

open Cert.LnInFwdRefIdeal Cert.LnInFwdRefIdeal.Gen Cert.LnInFwdRefIdeal.Value Idealize.ShloMosaic Idealize.ShloMosaic.TcCoe
open Idealize.SL.Sem Idealize.ShloMosaic.Pointwise

variable (m : (ℓ : Loc nD τ sig) → Buf (Elt Ideal) ℓ) (ρ : Dev nD → PrngReg)

/-- The arguments as index functions. -/
def h (c : Dev nD) (i : Fin 4160) (j : Fin 1024) : EReal := m ((c.tc : Thread nD τ).loc main_arg0) (ix2 i j)
def g (c : Dev nD) (j : Fin 1024) : EReal := m ((c.tc : Thread nD τ).loc main_arg1) (ix2 0 j)
def b (c : Dev nD) (j : Fin 1024) : EReal := m ((c.tc : Thread nD τ).loc main_arg2) (ix2 0 j)

variable (c : Dev nD)

/-! ## The arrays the reference goes through, each over the ones before -/

/-- The tokens' rows. -/
def zA : FVec Ideal S4112x1024 .f32 :=
  extractStridedSlice S4112x1024 ![48, 0] (m ((c.tc : Thread nD τ).loc main_arg0)) slices_S4160x1024_S4112x1024_48_0
/-- The centred rows. -/
def cenA : FVec Ideal S4112x1024 .f32 :=
  subf (zA m c) (broadcastInDim S4112x1024 ![0, 1] bcast_S4112x1_S4112x1024_0_1
    (Host.divf (broadcastInDim S4112x1 ![0] bcast_S4112_S4112x1_0
        (Host.reduceAdd (zA m c) (constant S_ .f32 0x00000000#32) reducesTo_S4112x1024_S4112_d1 h_S_))
      (broadcastInDim S4112x1 ![] bcast_S_S4112x1 (constant S_ .f32 0x44800000#32))))
/-- The variances plus ε. -/
def varA : FVec Ideal S4112x1 .f32 :=
  addf (Host.divf (broadcastInDim S4112x1 ![0] bcast_S4112_S4112x1_0
        (Host.reduceAdd (mulf (cenA m c) (cenA m c)) (constant S_ .f32 0x00000000#32) reducesTo_S4112x1024_S4112_d1 h_S_))
      (broadcastInDim S4112x1 ![] bcast_S_S4112x1 (constant S_ .f32 0x44800000#32)))
    (broadcastInDim S4112x1 ![] bcast_S_S4112x1 (constant S_ .f32 0x3727C5AC#32))
/-! ## Each of them at an index -/

/-- Token row `i` among all the rows. -/
def tok (i : Fin 4112) : Fin 4160 := ⟨48 + i.val, by omega⟩

/-- The token's row. -/
abbrev zr (i : Fin 4112) : Fin 1024 → EReal := h m c (tok i)

theorem z_at (i : Fin 4112) (j : Fin 1024) : zA m c (ix2 i j) = zr m c i j := by
  unfold zA
  pointwise [zr, h, tok]
theorem cen_at (i : Fin 4112) (j : Fin 1024) : cenA m c (ix2 i j) = Ln.cen (zr m c i) j := by
  unfold cenA
  pointwise
  simp only [z_at]
  rfl
theorem var_at (i : Fin 4112) : varA m c (ix2 i 0) = Ln.var (zr m c i) := by
  unfold varA
  pointwise
  simp only [cen_at]
  rfl

theorem tok_sub (n : Fin 4160) (hn : 48 ≤ n.val) : tok ⟨n.val - 48, by omega⟩ = n :=
  Fin.ext (show 48 + (n.val - 48) = n.val by omega)

/-- The normalised rows of the tokens. -/
def rowsA : FVec Ideal S4112x1024 .f32 :=
  addf (mulf (mulf (cenA m c) (broadcastInDim S4112x1024 ![0, 1] bcast_S4112x1_S4112x1024_0_1 (Host.rsqrt (varA m c))))
      (broadcastInDim S4112x1024 ![0, 1] bcast_S1x1024_S4112x1024_0_1 (m ((c.tc : Thread nD τ).loc main_arg1))))
    (broadcastInDim S4112x1024 ![0, 1] bcast_S1x1024_S4112x1024_0_1 (m ((c.tc : Thread nD τ).loc main_arg2)))
theorem rows_at (i : Fin 4112) (j : Fin 1024) :
    rowsA m c (ix2 i j) = Ln.cen (zr m c i) j * Ln.rstd (zr m c i) * g m c j + b m c j := by
  unfold rowsA
  pointwise
  simp only [cen_at, var_at]
  rfl

theorem out0 : (concatenate S4160x1024 0 [⟨S48x1024, (broadcastInDim S48x1024 ![] bcast_S_S48x1024
      (constant (F := Ideal) S_ .f32 0x00000000#32))⟩, ⟨S4112x1024, rowsA m c⟩] concatenates_S48x1024_S4112x1024_S4160x1024_d0 : FVec Ideal S4160x1024 .f32)
    = (fun i => Ln.fwd1 (h m c) (g m c) (b m c) (i 0) (i 1) : S4160x1024.Idx → EReal) := by
  funext i
  obtain ⟨n, k, rfl⟩ : ∃ (n : Fin 4160) (k : Fin 1024), i = ix2 n k := ⟨i 0, i 1, eq_ix2 i⟩
  pointwise
  by_cases hn : 48 ≤ n.val
  · refine (dif_neg (show ¬n.val < 48 by omega)).trans ((rows_at m c ⟨n.val - 48, by omega⟩ k).trans ?_)
    have e2 : zr m c ⟨n.val - 48, by omega⟩ = h m c n :=
      congrArg (h m c) (tok_sub n hn)
    rw [e2]
    exact (if_pos hn).symm
  · refine (dif_pos (show n.val < 48 by omega)).trans ?_
    exact (if_neg hn).symm

/-- Every execution of the reference ends with the specified rows and its arguments kept. -/
theorem run :
    θ_run defs (onTc (τ := τ) (main (F := Ideal))) ⟨m, fun _ => 0, ρ⟩ fun r => ∀ c : Dev nD,
      r.2.mem ((c.tc : Thread nD τ).loc main_v22) = (fun i => Ln.fwd1 (h m c) (g m c) (b m c) (i 0) (i 1) : S4160x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.LnInFwdRefIdeal.Value.run m ρ)
  obtain ⟨h0, hk⟩ := h c
  refine ⟨h0.trans ?_, hk⟩
  exact out0 m c

end Cert.LnInFwdRefIdeal.Ln

end
-- ==== Proof.LossSpec.lean ====
/-
  The loss of one device's rows and its gradient, written at an index of the extended reals: half the sum over the rows of the
  mean square of a row of width 1024 against its target.
-/
module

public import Idealize.ShloMosaic.Lib.Pointwise
public import Idealize.ShloMosaic.Lib.IdealHost

@[expose] public section

noncomputable section

namespace Cert.Loss

open Idealize.ShloMosaic

/-- One part in 2048 and one in 1024, as the programs' own f32 constants. -/
def half_part : EReal := Ideal.ofBits .f32 0x3A000000#32
def part : EReal := Ideal.ofBits .f32 0x3A800000#32

theorem half_part_eq : half_part = ((1 / 2048 : ℝ) : EReal) := by
  simp [half_part, Ideal.ofBits, Ideal.ieee, -EReal.coe_mul]; norm_num
theorem part_eq : part = ((1 / 1024 : ℝ) : EReal) := by
  simp [part, Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x44800000#32 = ((1024 : ℝ) : EReal) := by
  simp [Ideal.ofBits, Ideal.ieee, -EReal.coe_mul]; norm_num

/-- A quotient by the width is a product with its part. -/
theorem div_width (x : EReal) : Ideal.div x (Ideal.ofBits .f32 0x44800000#32) = x * part := by
  rw [width_eq, Ideal.div_coe (by norm_num : (1024 : ℝ) ≠ 0), part_eq]

/-- A finite factor that is not negative goes under a sum. -/
theorem sum_mul {ι : Type} [Fintype ι] (f : ι → EReal) (e : EReal) (h0 : 0 ≤ e) (h1 : e ≠ ⊤) :
    (∑ j, f j) * e = ∑ j, f j * e := by
  classical
  refine Finset.induction_on (motive := fun s => (∑ j ∈ s, f j) * e = ∑ j ∈ s, f j * e) Finset.univ (by simp) fun a s ha ih => ?_
  rw [Finset.sum_insert ha, Finset.sum_insert ha, EReal.right_distrib_of_nonneg_of_ne_top h0 h1, ih]

theorem half_part_nonneg : 0 ≤ half_part := by rw [half_part_eq]; exact_mod_cast (by norm_num : (0 : ℝ) ≤ 1 / 2048)
theorem half_part_ne_top : half_part ≠ ⊤ := by rw [half_part_eq]; exact EReal.coe_ne_top _

variable {L D : Nat} (y t : Fin L → Fin D → EReal) (g : EReal)

/-- The squares of a row's errors, added up. -/
def square (i : Fin L) : EReal := ∑ j, (y i j - t i j) * (y i j - t i j)

/-- The loss, and the cotangent of the rows from that of the loss. -/
def loss : EReal := ∑ i, square y t i * half_part
def dy (i : Fin L) (j : Fin D) : EReal := (y i j - t i j) * (g * part)

/-- Half of the sum of the means is the loss. -/
theorem half_sum : Ideal.ofBits .f32 0x3F000000#32 * ∑ i, square y t i * part = loss y t := by
  have h0 : (0 : EReal) ≤ ((1 / 2 : ℝ) : EReal) := by exact_mod_cast (by norm_num : (0 : ℝ) ≤ 1 / 2)
  rw [half_eq, mul_comm, sum_mul _ _ h0 (EReal.coe_ne_top _)]
  unfold loss
  refine Finset.sum_congr rfl fun i _ => ?_
  rw [mul_assoc, part_eq, half_part_eq, ← EReal.coe_mul]
  norm_num

/-- The cotangent as the plain backward pass multiplies it out. -/
theorem dy_eq (i : Fin L) (j : Fin D) :
    Ideal.ofBits .f32 0x3F000000#32 * g * part * (Ideal.ofBits .f32 0x40000000#32 * (y i j - t i j)) = dy y t g i j := by
  have h : Ideal.ofBits .f32 0x3F000000#32 * Ideal.ofBits .f32 0x40000000#32 = 1 := by
    rw [half_eq, two_eq, ← EReal.coe_mul]; norm_num
  unfold dy
  generalize y i j - t i j = e
  calc Ideal.ofBits .f32 0x3F000000#32 * g * part * (Ideal.ofBits .f32 0x40000000#32 * e)
      = Ideal.ofBits .f32 0x3F000000#32 * Ideal.ofBits .f32 0x40000000#32 * (e * (g * part)) := by ac_rfl
    _ = e * (g * part) := by rw [h, one_mul]

end Cert.Loss
-- ==== Proof.LossKernel.lean ====
/-
  What the backward call of the loss leaves in its result array: eight tiles of 512 rows, each tile's cotangent at its rows.
-/
module

public import proofs.«01_k».proof.Proof.Gen.LossBwdIdeal.Value
public import proofs.«01_k».proof.Proof.LossSpec
public import Idealize.ShloMosaic.Lib.Pipeline.ValueKit
public import Idealize.ShloMosaic.Lib.Pipeline.ReadBack

@[expose] public section

set_option maxRecDepth 16384

noncomputable section

namespace Cert.LossBwdIdeal.Loss

open Cert.LossBwdIdeal Cert.LossBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows and their targets. -/
def y : Fin 4096 → Fin 1024 → EReal := fun i j => m ((c : Thread nD τ).loc main_arg0) (ix2 i j)
def t : Fin 4096 → Fin 1024 → EReal := fun i j => m ((c : Thread nD τ).loc main_arg1) (ix2 i j)
/-- The cotangent of the loss. -/
def g : EReal := m ((c : Thread nD τ).loc main_arg2) ix0

/-- Where each window's block stands at point `p`: the row tiles move with `p`, the cotangent's block stays. -/
theorem idx : ∀ p : Fin cfg0.N, win0_0.index p = ![p.val, 0] ∧ win0_1.index p = ![p.val, 0] ∧ win0_2.index p = ![0, 0] ∧ win0_3.index p = ![p.val, 0] :=
  (by decide +kernel : ∀ p : Fin grid0.N, _)

/-- Row `r` of tile `p` among all the rows. -/
def row (p : Fin cfg0.N) (r : Fin 512) : Fin 4096 :=
  ⟨p.val * 512 + r.val, by have := lt_of_lt_of_eq p.isLt N_0; omega⟩

theorem blk_y (p : Fin cfg0.N) (r : Fin 512) (j : Fin 1024) : (iblk m c 0 p : Vec Ideal S512x1024 .f32) (ix2 r j) = y m c (row p r) j := by
  unfold y row
  blk_simp [iblk]
  entry_read
  blk_ext [iblk, (idx p).1]
theorem blk_t (p : Fin cfg0.N) (r : Fin 512) (j : Fin 1024) : (iblk m c 1 p : Vec Ideal S512x1024 .f32) (ix2 r j) = t m c (row p r) j := by
  unfold t row
  blk_simp [iblk]
  entry_read
  blk_ext [iblk, (idx p).2.1]
theorem blk_g (p : Fin cfg0.N) : (iblk m c 2 p : Vec Ideal S8x128 .f32) (ix2 0 0) = g m c := by
  have e : (win0_2.blk p).view.emb (ix2 0 0) = (ix2 0 0 : S8x128.Idx) := by blk_ext [(idx p).2.2.1]
  blk_simp [iblk]
  entry_read
  rw [e]
  pointwise []
  rfl

theorem pay (p : Fin cfg0.N) (r : Fin 512) (j : Fin 1024) :
    k0_pay1 (iblk m c 0 p) (iblk m c 1 p) (iblk m c 2 p) (ix2 r j) = Loss.dy (y m c) (t m c) (g m c) (row p r) j := by
  unfold k0_pay1
  pointwise
  rw [blk_y, blk_t, blk_g]
  rfl

/-- The result array. -/
theorem final3 : (dats m 0 c).arrAt 3 cfg0.N = (fun i => Loss.dy (y m c) (t m c) (g m c) (i 0) (i 1) : S4096x1024.Idx → EReal) := by
  refine (dats m 0 c).arrAt_eq_of_covers 3 _ (by decide +kernel) fun p hf x => ?_
  have e : ((cfg0.win 3).blk p).view.emb x = (ix2 (row p (x 0)) (x 1) : S4096x1024.Idx) := by
    blk_ext [row, (idx p).2.2.2]
  rw [e]
  blk_simp
  rw [after0_3]
  have key : ∀ X : Vec Ideal S512x1024 .f32, X = k0_pay1 (iblk m c 0 p) (iblk m c 1 p) (iblk m c 2 p) →
      ∀ (r : Fin 512) (j : Fin 1024), X (ix2 r j) = Loss.dy (y m c) (t m c) (g m c) (row p r) j := by
    intro X hX r j
    rw [hX]
    exact pay m c p r j
  refine (congrArg _ (eq_ix2 x)).trans (key _ ?_ _ _)
  unfold out0_3
  frame_out

end Cert.LossBwdIdeal.Loss
-- ==== Proof.LossReference.lean ====
/- The reference's run of the loss's gradient: its result buffer, read at an index, is the specification's term. -/
module

public import proofs.«01_k».proof.Proof.Gen.LossRefIdeal.Run
public import proofs.«01_k».proof.Proof.LossSpec
public import Idealize.ShloMosaic.Lib.Pointwise
public import Idealize.ShloMosaic.Adequacy

@[expose] public section

noncomputable section

namespace Cert.LossRefIdeal.Loss

open Cert.LossRefIdeal Cert.LossRefIdeal.Gen Cert.LossRefIdeal.Value Idealize.ShloMosaic Idealize.ShloMosaic.TcCoe
open Idealize.SL.Sem Idealize.ShloMosaic.Pointwise

variable (m : (ℓ : Loc nD τ sig) → Buf (Elt Ideal) ℓ) (ρ : Dev nD → PrngReg) (c : Dev nD)

/-- The rows and their targets. -/
def y : Fin 4096 → Fin 1024 → EReal := fun i j => m ((c.tc : Thread nD τ).loc main_arg0) (ix2 i j)
def t : Fin 4096 → Fin 1024 → EReal := fun i j => m ((c.tc : Thread nD τ).loc main_arg1) (ix2 i j)
/-- The cotangent of the loss. -/
def g : EReal := m ((c.tc : Thread nD τ).loc main_arg2) ix0

/-- The cotangent of the rows, as the plain backward pass multiplies it out. -/
def dyA : FVec Ideal S4096x1024 .f32 :=
  mulf (broadcastInDim S4096x1024 ![0] bcast_S4096_S4096x1024_0 (Host.divf (broadcastInDim S4096 ![] bcast_S_S4096
      (mulf (constant S_ .f32 0x3F000000#32) (m ((c.tc : Thread nD τ).loc main_arg2)))) (broadcastInDim S4096 ![] bcast_S_S4096
        (constant S_ .f32 0x44800000#32))))
    (mulf (broadcastInDim S4096x1024 ![] bcast_S_S4096x1024 (constant S_ .f32 0x40000000#32))
      (subf (m ((c.tc : Thread nD τ).loc main_arg0)) (m ((c.tc : Thread nD τ).loc main_arg1))))

theorem dy_at (i : Fin 4096) (j : Fin 1024) : dyA m c (ix2 i j) = Loss.dy (y m c) (t m c) (g m c) i j := by
  unfold dyA
  pointwise
  rw [Loss.div_width]
  exact Loss.dy_eq (y m c) (t m c) (g m c) i j

/-- Every execution of the reference ends with the specified cotangent and its arguments kept. -/
theorem run :
    θ_run defs (onTc (τ := τ) (main (F := Ideal))) ⟨m, fun _ => 0, ρ⟩ fun r => ∀ c : Dev nD,
      r.2.mem ((c.tc : Thread nD τ).loc main_v14) = (fun i => Loss.dy (y m c) (t m c) (g m c) (i 0) (i 1) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.LossRefIdeal.Value.run m ρ)
  obtain ⟨h0, hk⟩ := h c
  refine ⟨h0.trans ?_, hk⟩
  funext i
  exact (congrArg (dyA m c) (eq_ix2 i)).trans (dy_at m c (i 0) (i 1))

end Cert.LossRefIdeal.Loss

end
-- ==== Proof.LossFwdKernel.lean ====
/-
  What the loss's call leaves in its result array: every entry holds the loss, added up over eight tiles of 512 rows in one block
  that is zeroed at the first point and written back after the last.
-/
module

public import proofs.«01_k».proof.Proof.Gen.LossFwdIdeal.Value
public import proofs.«01_k».proof.Proof.LossSpec
public import proofs.«01_k».proof.Proof.Tiles
public import Idealize.ShloMosaic.Lib.Pipeline.ValueKit
public import Idealize.ShloMosaic.Lib.Pipeline.ReadBack

@[expose] public section

set_option maxRecDepth 16384

noncomputable section

namespace Cert.LossFwdIdeal.Loss

open Cert.LossFwdIdeal Cert.LossFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows and their targets. -/
def y : Fin 4096 → Fin 1024 → EReal := fun i j => m ((c : Thread nD τ).loc main_arg0) (ix2 i j)
def t : Fin 4096 → Fin 1024 → EReal := fun i j => m ((c : Thread nD τ).loc main_arg1) (ix2 i j)

/-- Where each window's block stands at point `p`: the row tiles move with `p`, the result's block stays. -/
theorem idx : ∀ p : Fin cfg0.N, win0_0.index p = ![p.val, 0] ∧ win0_1.index p = ![p.val, 0] ∧ win0_2.index p = ![0, 0] :=
  (by decide +kernel : ∀ p : Fin grid0.N, _)

/-- Row `r` of tile `p` among all the rows. -/
def row (p : Fin cfg0.N) (r : Fin 512) : Fin 4096 :=
  ⟨p.val * 512 + r.val, by have := lt_of_lt_of_eq p.isLt N_0; omega⟩

theorem blk_y (p : Fin cfg0.N) (r : Fin 512) (j : Fin 1024) : (iblk m c 0 p : Vec Ideal S512x1024 .f32) (ix2 r j) = y m c (row p r) j := by
  unfold y row
  blk_simp [iblk]
  entry_read
  blk_ext [iblk, (idx p).1]
theorem blk_t (p : Fin cfg0.N) (r : Fin 512) (j : Fin 1024) : (iblk m c 1 p : Vec Ideal S512x1024 .f32) (ix2 r j) = t m c (row p r) j := by
  unfold t row
  blk_simp [iblk]
  entry_read
  blk_ext [iblk, (idx p).2.1]

/-- A row's share of the loss. -/
def share (i : Fin 4096) : EReal := Loss.square (y m c) (t m c) i * Loss.half_part

theorem step (p : Fin cfg0.N) (acc : Vec Ideal S8x128 .f32) (a : Fin 8) (b : Fin 128) :
    k0_pay2 (iblk m c 0 p) (iblk m c 1 p) acc (ix2 a b) = acc (ix2 a b) + ∑ r : Fin 512, share m c (row p r) := by
  unfold k0_pay2
  pointwise
  simp only [blk_y, blk_t]
  congr 1
  exact Loss.sum_mul (fun r => Loss.square (y m c) (t m c) (row p r)) _ Loss.half_part_nonneg Loss.half_part_ne_top

theorem first (p : Fin cfg0.N) (h : p.val % 8 = 0) (a : Fin 8) (b : Fin 128) :
    outsAt0 m c p.val p.isLt (ix2 a b) = 0 + ∑ r : Fin 512, share m c (row p r) := by
  rw [outsAt0_A m c p h]; frame_out
  rw [step]
  congr 1
  pointwise [k0_pay1]

theorem next (p : Fin cfg0.N) (h : ¬p.val % 8 = 0) (a : Fin 8) (b : Fin 128) :
    outsAt0 m c p.val p.isLt (ix2 a b)
      = outsAt0 m c (p.val - 1) (Nat.lt_of_le_of_lt (Nat.sub_le _ _) p.isLt) (ix2 a b) + ∑ r : Fin 512, share m c (row p r) := by
  rw [outsAt0_B m c p h]; frame_out
  rw [step]

/-- The result array. -/
theorem final2 : (dats m 0 c).arrAt 2 cfg0.N = (fun _ => Loss.loss (y m c) (t m c) : S8x128.Idx → EReal) := by
  refine (dats m 0 c).arrAt_eq_of_after_last 2 t0_7 (by decide +kernel) _ fun x => ?_
  blk_simp
  rw [after0_2]
  exact (congrArg _ (eq_ix2 (n0 := 8) (n1 := 128) x)).trans ((Tiles.kept_sum N_0 (fun p => ∑ r : Fin 512, share m c (row p r))
    (fun n h => outsAt0 m c n h (ix2 (x 0) (x 1))) (fun p h => first m c p h _ _) (fun p h => next m c p h _ _) t0_7
    (by decide +kernel)).trans (Tiles.sum_rows N_0 rfl row (fun _ _ => rfl) (share m c)))

end Cert.LossFwdIdeal.Loss
-- ==== Proof.LossFwdReference.lean ====
/- The reference's run of the loss: its result buffer holds the specification's term at every entry. -/
module

public import proofs.«01_k».proof.Proof.Gen.LossFwdRefIdeal.Run
public import proofs.«01_k».proof.Proof.LossSpec
public import Idealize.ShloMosaic.Lib.Pointwise
public import Idealize.ShloMosaic.Adequacy

@[expose] public section

noncomputable section

namespace Cert.LossFwdRefIdeal.Loss

open Cert.LossFwdRefIdeal Cert.LossFwdRefIdeal.Gen Cert.LossFwdRefIdeal.Value Idealize.ShloMosaic Idealize.ShloMosaic.TcCoe
open Idealize.SL.Sem Idealize.ShloMosaic.Pointwise

variable (m : (ℓ : Loc nD τ sig) → Buf (Elt Ideal) ℓ) (ρ : Dev nD → PrngReg) (c : Dev nD)

/-- The rows and their targets. -/
def y : Fin 4096 → Fin 1024 → EReal := fun i j => m ((c.tc : Thread nD τ).loc main_arg0) (ix2 i j)
def t : Fin 4096 → Fin 1024 → EReal := fun i j => m ((c.tc : Thread nD τ).loc main_arg1) (ix2 i j)

/-- The loss, as the plain forward pass adds it up. -/
def lossA : FVec Ideal S8x128 .f32 :=
  broadcastInDim S8x128 ![] bcast_S_S8x128 (mulf (constant S_ .f32 0x3F000000#32) (Host.reduceAdd (Host.divf (Host.reduceAdd
      (mulf (subf (m ((c.tc : Thread nD τ).loc main_arg0)) (m ((c.tc : Thread nD τ).loc main_arg1)))
        (subf (m ((c.tc : Thread nD τ).loc main_arg0)) (m ((c.tc : Thread nD τ).loc main_arg1))))
      (constant S_ .f32 0x00000000#32) reducesTo_S4096x1024_S4096_d1 h_S_) (broadcastInDim S4096 ![] bcast_S_S4096
        (constant S_ .f32 0x44800000#32))) (constant S_ .f32 0x00000000#32) reducesTo_S4096_S_d0 h_S_))

theorem loss_at (a : Fin 8) (b : Fin 128) : lossA m c (ix2 a b) = Loss.loss (y m c) (t m c) := by
  unfold lossA
  pointwise
  simp only [Loss.div_width]
  exact Loss.half_sum (y m c) (t m c)

/-- Every execution of the reference ends with the specified loss and its arguments kept. -/
theorem run :
    θ_run defs (onTc (τ := τ) (main (F := Ideal))) ⟨m, fun _ => 0, ρ⟩ fun r => ∀ c : Dev nD,
      r.2.mem ((c.tc : Thread nD τ).loc main_v7) = (fun _ => Loss.loss (y m c) (t m c) : S8x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.LossFwdRefIdeal.Value.run m ρ)
  obtain ⟨h0, hk⟩ := h c
  refine ⟨h0.trans ?_, hk⟩
  funext i
  exact (congrArg (lossA m c) (eq_ix2 i)).trans (loss_at m c (i 0) (i 1))

end Cert.LossFwdRefIdeal.Loss

end
-- ==== Proof.lean ====
/-
  The claims and their proofs. Each call of the step and the plain program it is compared with leave the same arrays of
  extended reals: each of their results, read at an index, is the same term of the arguments.
-/
module

public import proofs.«01_k».proof.Defs
public import proofs.«01_k».proof.Proof.Gen.Kernel.Frame
public import proofs.«01_k».proof.Proof.Gen.KernelIdeal.Frame
public import proofs.«01_k».proof.Proof.Gen.ProjQkvBwd.Frame
public import proofs.«01_k».proof.Proof.Gen.ProjQkvBwdIdeal.Frame
public import proofs.«01_k».proof.Proof.Gen.LnOutBwd.Frame
public import proofs.«01_k».proof.Proof.Gen.LnOutBwdIdeal.Frame
public import proofs.«01_k».proof.Proof.Gen.S5PostBwd.Frame
public import proofs.«01_k».proof.Proof.Gen.S5PostBwdIdeal.Frame
public import proofs.«01_k».proof.Proof.Gen.Proj768Bwd.Frame
public import proofs.«01_k».proof.Proof.Gen.Proj768BwdIdeal.Frame
public import proofs.«01_k».proof.Proof.Gen.Proj1280Bwd.Frame
public import proofs.«01_k».proof.Proof.Gen.Proj1280BwdIdeal.Frame
public import proofs.«01_k».proof.Proof.Gen.Proj1024Bwd.Frame
public import proofs.«01_k».proof.Proof.Gen.Proj1024BwdIdeal.Frame
public import proofs.«01_k».proof.Proof.Gen.Proj128Bwd.Frame
public import proofs.«01_k».proof.Proof.Gen.Proj128BwdIdeal.Frame
public import proofs.«01_k».proof.Proof.Gen.Proj2304Fwd.Frame
public import proofs.«01_k».proof.Proof.Gen.Proj2304FwdIdeal.Frame
public import proofs.«01_k».proof.Proof.Gen.Proj768Fwd.Frame
public import proofs.«01_k».proof.Proof.Gen.Proj768FwdIdeal.Frame
public import proofs.«01_k».proof.Proof.Gen.Proj1280Fwd.Frame
public import proofs.«01_k».proof.Proof.Gen.Proj1280FwdIdeal.Frame
public import proofs.«01_k».proof.Proof.Gen.Proj1024Fwd.Frame
public import proofs.«01_k».proof.Proof.Gen.Proj1024FwdIdeal.Frame
public import proofs.«01_k».proof.Proof.Gen.Proj128Fwd.Frame
public import proofs.«01_k».proof.Proof.Gen.Proj128FwdIdeal.Frame
public import proofs.«01_k».proof.Proof.Gen.MergeFwd.Frame
public import proofs.«01_k».proof.Proof.Gen.MergeFwdIdeal.Frame
public import proofs.«01_k».proof.Proof.Gen.LnOutFwd.Frame
public import proofs.«01_k».proof.Proof.Gen.LnOutFwdIdeal.Frame
public import proofs.«01_k».proof.Proof.Gen.S5PostFwd.Frame
public import proofs.«01_k».proof.Proof.Gen.S5PostFwdIdeal.Frame
public import proofs.«01_k».proof.Proof.Gen.KernelIdeal.Value
public import proofs.«01_k».proof.Proof.Gen.ReferenceIdeal.Run
public import proofs.«01_k».proof.Proof.Gen.ProjQkvBwdIdeal.Value
public import proofs.«01_k».proof.Proof.Gen.ProjQkvRefIdeal.Run
public import proofs.«01_k».proof.Proof.Gen.LnOutBwdIdeal.Value
public import proofs.«01_k».proof.Proof.Gen.LnOutRefIdeal.Run
public import proofs.«01_k».proof.Proof.Gen.S5PostBwdIdeal.Value
public import proofs.«01_k».proof.Proof.Gen.S5PostRefIdeal.Run
public import proofs.«01_k».proof.Proof.Gen.Proj768BwdIdeal.Value
public import proofs.«01_k».proof.Proof.Gen.Proj768RefIdeal.Run
public import proofs.«01_k».proof.Proof.Gen.Proj1280BwdIdeal.Value
public import proofs.«01_k».proof.Proof.Gen.Proj1280RefIdeal.Run
public import proofs.«01_k».proof.Proof.Gen.Proj1024BwdIdeal.Value
public import proofs.«01_k».proof.Proof.Gen.Proj1024RefIdeal.Run
public import proofs.«01_k».proof.Proof.Gen.Proj128BwdIdeal.Value
public import proofs.«01_k».proof.Proof.Gen.Proj128RefIdeal.Run
public import proofs.«01_k».proof.Proof.Gen.Proj2304FwdIdeal.Value
public import proofs.«01_k».proof.Proof.Gen.Proj2304FwdRefIdeal.Run
public import proofs.«01_k».proof.Proof.Gen.Proj768FwdIdeal.Value
public import proofs.«01_k».proof.Proof.Gen.Proj768FwdRefIdeal.Run
public import proofs.«01_k».proof.Proof.Gen.Proj1280FwdIdeal.Value
public import proofs.«01_k».proof.Proof.Gen.Proj1280FwdRefIdeal.Run
public import proofs.«01_k».proof.Proof.Gen.Proj1024FwdIdeal.Value
public import proofs.«01_k».proof.Proof.Gen.Proj1024FwdRefIdeal.Run
public import proofs.«01_k».proof.Proof.Gen.Proj128FwdIdeal.Value
public import proofs.«01_k».proof.Proof.Gen.Proj128FwdRefIdeal.Run
public import proofs.«01_k».proof.Proof.Gen.MergeFwdIdeal.Value
public import proofs.«01_k».proof.Proof.Gen.MergeFwdRefIdeal.Run
public import proofs.«01_k».proof.Proof.Gen.LnOutFwdIdeal.Value
public import proofs.«01_k».proof.Proof.Gen.LnOutFwdRefIdeal.Run
public import proofs.«01_k».proof.Proof.Gen.S5PostFwdIdeal.Value
public import proofs.«01_k».proof.Proof.Gen.S5PostFwdRefIdeal.Run
public import proofs.«01_k».proof.Proof.MergeKernel
public import proofs.«01_k».proof.Proof.MergeReference
public import proofs.«01_k».proof.Proof.ProjQkvKernel
public import proofs.«01_k».proof.Proof.ProjQkvReference
public import proofs.«01_k».proof.Proof.LnOutKernel
public import proofs.«01_k».proof.Proof.LnOutReference
public import proofs.«01_k».proof.Proof.S5PostKernel
public import proofs.«01_k».proof.Proof.S5PostReference
public import proofs.«01_k».proof.Proof.Proj768Kernel
public import proofs.«01_k».proof.Proof.Proj768Reference
public import proofs.«01_k».proof.Proof.Proj1280Kernel
public import proofs.«01_k».proof.Proof.Proj1280Reference
public import proofs.«01_k».proof.Proof.Proj1024Kernel
public import proofs.«01_k».proof.Proof.Proj1024Reference
public import proofs.«01_k».proof.Proof.Proj128Kernel
public import proofs.«01_k».proof.Proof.Proj128Reference
public import proofs.«01_k».proof.Proof.Proj2304FwdKernel
public import proofs.«01_k».proof.Proof.Proj2304FwdReference
public import proofs.«01_k».proof.Proof.Proj768FwdKernel
public import proofs.«01_k».proof.Proof.Proj768FwdReference
public import proofs.«01_k».proof.Proof.Proj1280FwdKernel
public import proofs.«01_k».proof.Proof.Proj1280FwdReference
public import proofs.«01_k».proof.Proof.Proj1024FwdKernel
public import proofs.«01_k».proof.Proof.Proj1024FwdReference
public import proofs.«01_k».proof.Proof.Proj128FwdKernel
public import proofs.«01_k».proof.Proof.Proj128FwdReference
public import proofs.«01_k».proof.Proof.MergeFwdKernel
public import proofs.«01_k».proof.Proof.MergeFwdReference
public import proofs.«01_k».proof.Proof.LnOutFwdKernel
public import proofs.«01_k».proof.Proof.LnOutFwdReference
public import proofs.«01_k».proof.Proof.S5PostFwdKernel
public import proofs.«01_k».proof.Proof.S5PostFwdReference
public import proofs.«01_k».proof.Proof.Gen.SsdFwd.Frame
public import proofs.«01_k».proof.Proof.Gen.SsdFwdIdeal.Value
public import proofs.«01_k».proof.Proof.Gen.SsdFwdRefIdeal.Run
public import proofs.«01_k».proof.Proof.SsdFwdKernel
public import proofs.«01_k».proof.Proof.SsdFwdReference
public import proofs.«01_k».proof.Proof.Gen.LnInBwd.Frame
public import proofs.«01_k».proof.Proof.Gen.LnInBwdIdeal.Value
public import proofs.«01_k».proof.Proof.Gen.LnInRefIdeal.Run
public import proofs.«01_k».proof.Proof.Gen.LnInFwd.Frame
public import proofs.«01_k».proof.Proof.Gen.LnInFwdIdeal.Value
public import proofs.«01_k».proof.Proof.Gen.LnInFwdRefIdeal.Run
public import proofs.«01_k».proof.Proof.LnInKernel
public import proofs.«01_k».proof.Proof.LnInReference
public import proofs.«01_k».proof.Proof.LnInFwdKernel
public import proofs.«01_k».proof.Proof.LnInFwdReference
public import proofs.«01_k».proof.Proof.Gen.LossBwd.Frame
public import proofs.«01_k».proof.Proof.Gen.LossBwdIdeal.Value
public import proofs.«01_k».proof.Proof.Gen.LossRefIdeal.Run
public import proofs.«01_k».proof.Proof.Gen.LossFwd.Frame
public import proofs.«01_k».proof.Proof.Gen.LossFwdIdeal.Value
public import proofs.«01_k».proof.Proof.Gen.LossFwdRefIdeal.Run
public import proofs.«01_k».proof.Proof.LossKernel
public import proofs.«01_k».proof.Proof.LossReference
public import proofs.«01_k».proof.Proof.LossFwdKernel
public import proofs.«01_k».proof.Proof.LossFwdReference
public import Idealize.ShloMosaic.Lib.Quiescent

@[expose] public section

noncomputable section

namespace Cert.Proof

open Idealize.ShloMosaic Idealize.ShloMosaic.TcCoe Idealize.SL.Sem

/-- The gradient of the gated merge: the call and the plain gradient leave the same arrays. -/
theorem merge : algebraic_KernelIdeal_ReferenceIdeal := by
  intro m ρ m' ρ' _ ha
  refine ⟨fun c => (fun i => Cert.Merge.dy (KernelIdeal.Merge.g m c) (KernelIdeal.Merge.dm m c) (KernelIdeal.Merge.w m c) (KernelIdeal.Merge.b m c) (i 0) (i 1) : KernelIdeal.S4160x768.Idx → EReal),
    fun c => (fun i => Cert.Merge.dgate (KernelIdeal.Merge.y m c) (KernelIdeal.Merge.g m c) (KernelIdeal.Merge.dm m c) (KernelIdeal.Merge.w m c) (KernelIdeal.Merge.b m c) (i 0) (i 1) : KernelIdeal.S4160x1024.Idx → EReal),
    fun c => (fun i => Cert.Merge.dw (KernelIdeal.Merge.y m c) (KernelIdeal.Merge.g m c) (KernelIdeal.Merge.dm m c) (KernelIdeal.Merge.b m c) (i 0) (i 1) : KernelIdeal.S768x1024.Idx → EReal),
    fun c => (fun i => Cert.Merge.db (KernelIdeal.Merge.y m c) (KernelIdeal.Merge.g m c) (KernelIdeal.Merge.dm m c) (KernelIdeal.Merge.w m c) (KernelIdeal.Merge.b m c) (i 1) : KernelIdeal.S1x1024.Idx → EReal),
    (θ_run _ _ _).mono (fun r h c => ?_) (Cert.KernelIdeal.Value.run_blocks m ρ),
    (θ_run _ _ _).mono (fun r h c => ?_) (Cert.ReferenceIdeal.Merge.run m' ρ')⟩
  · have hc := h c
    rw [Cert.KernelIdeal.Merge.final5, Cert.KernelIdeal.Merge.final6, Cert.KernelIdeal.Merge.final7, Cert.KernelIdeal.Merge.final8] at hc
    exact hc
  · have hy : Cert.ReferenceIdeal.Merge.y m' c = Cert.KernelIdeal.Merge.y m c := by
      funext i k; exact congrFun (ha c).1 _
    have hg : Cert.ReferenceIdeal.Merge.g m' c = Cert.KernelIdeal.Merge.g m c := by
      funext i k; exact congrFun (ha c).2.1 _
    have hdm : Cert.ReferenceIdeal.Merge.dm m' c = Cert.KernelIdeal.Merge.dm m c := by
      funext i k; exact congrFun (ha c).2.2.1 _
    have hw : Cert.ReferenceIdeal.Merge.w m' c = Cert.KernelIdeal.Merge.w m c := by
      funext i k; exact congrFun (ha c).2.2.2.1 _
    have hb : Cert.ReferenceIdeal.Merge.b m' c = Cert.KernelIdeal.Merge.b m c := by
      funext k; exact congrFun (ha c).2.2.2.2 _
    have hc := h c
    rw [hy, hg, hdm, hw, hb] at hc
    exact hc

/-- The plain gradient of the gated merge runs to its end, keeps its arguments and leaves every counter at zero. -/
theorem merge_reference : quiescent_ReferenceIdeal := by
  intro m ρ _
  exact (θ_run _ _ _).mono (fun r h => ⟨fun c => (h c).2.2.2.2, sem_eq_zero_of_no_sems rfl r.2⟩)
    (Cert.ReferenceIdeal.Merge.run m ρ)

/-- The gradient of the query, key and value projection: the call and the plain gradient leave the same arrays. -/
theorem proj_qkv : algebraic_ProjQkvBwdIdeal_ProjQkvRefIdeal := by
  intro m ρ m' ρ' _ ha
  refine ⟨fun c => (fun i => Cert.Matmul.dx (ProjQkvBwdIdeal.Proj.g m c) (ProjQkvBwdIdeal.Proj.w m c) (i 0) (i 1) : ProjQkvBwdIdeal.S4160x1024.Idx → EReal),
    fun c => (fun i => Cert.Matmul.dw (ProjQkvBwdIdeal.Proj.x m c) (ProjQkvBwdIdeal.Proj.g m c) (i 0) (i 1) : ProjQkvBwdIdeal.S1024x2304.Idx → EReal),
    (θ_run _ _ _).mono (fun r h c => ?_) (Cert.ProjQkvBwdIdeal.Value.run_blocks m ρ),
    (θ_run _ _ _).mono (fun r h c => ?_) (Cert.ProjQkvRefIdeal.Proj.run m' ρ')⟩
  · have hc := h c
    rw [Cert.ProjQkvBwdIdeal.Proj.final3, Cert.ProjQkvBwdIdeal.Proj.final4] at hc
    exact hc
  · have hg : Cert.ProjQkvRefIdeal.Proj.g m' c = Cert.ProjQkvBwdIdeal.Proj.g m c := by
      funext i k; exact congrFun (ha c).1 _
    have hx : Cert.ProjQkvRefIdeal.Proj.x m' c = Cert.ProjQkvBwdIdeal.Proj.x m c := by
      funext i k; exact congrFun (ha c).2.1 _
    have hw : Cert.ProjQkvRefIdeal.Proj.w m' c = Cert.ProjQkvBwdIdeal.Proj.w m c := by
      funext i k; exact congrFun (ha c).2.2 _
    have hc := h c
    rw [hg, hx, hw] at hc
    exact hc

/-- The plain gradient of the query, key and value projection runs to its end, keeps its arguments and leaves every counter at zero. -/
theorem proj_qkv_reference : quiescent_ProjQkvRefIdeal := by
  intro m ρ _
  exact (θ_run _ _ _).mono (fun r h => ⟨fun c => (h c).2.2, sem_eq_zero_of_no_sems rfl r.2⟩)
    (Cert.ProjQkvRefIdeal.Proj.run m ρ)

/-- The gradient of the output projection with its layer norm: the call and the plain gradient leave the same arrays. -/
theorem ln_out : algebraic_LnOutBwdIdeal_LnOutRefIdeal := by
  intro m ρ m' ρ' _ ha
  refine ⟨fun c => (fun i => Cert.Ln.dh (LnOutBwdIdeal.Ln.h m c) (LnOutBwdIdeal.Ln.mg m c) (LnOutBwdIdeal.Ln.w m c) (LnOutBwdIdeal.Ln.g m c) (LnOutBwdIdeal.Ln.ct m c) (i 1) (i 2) : LnOutBwdIdeal.S1x4160x1024.Idx → EReal),
    fun c => (fun i => Cert.Ln.dmg (LnOutBwdIdeal.Ln.h m c) (LnOutBwdIdeal.Ln.mg m c) (LnOutBwdIdeal.Ln.w m c) (LnOutBwdIdeal.Ln.g m c) (LnOutBwdIdeal.Ln.ct m c) (i 1) (i 2) : LnOutBwdIdeal.S1x4160x1024.Idx → EReal),
    fun c => (fun i => Cert.Ln.dw (LnOutBwdIdeal.Ln.h m c) (LnOutBwdIdeal.Ln.mg m c) (LnOutBwdIdeal.Ln.w m c) (LnOutBwdIdeal.Ln.g m c) (LnOutBwdIdeal.Ln.ct m c) (i 1) (i 2) : LnOutBwdIdeal.S1x1024x1024.Idx → EReal),
    fun c => (fun i => Cert.Ln.dg (LnOutBwdIdeal.Ln.h m c) (LnOutBwdIdeal.Ln.mg m c) (LnOutBwdIdeal.Ln.w m c) (LnOutBwdIdeal.Ln.ct m c) (i 2) : LnOutBwdIdeal.S1x1x1024.Idx → EReal),
    fun c => (fun i => Cert.Ln.db (LnOutBwdIdeal.Ln.ct m c) (i 2) : LnOutBwdIdeal.S1x1x1024.Idx → EReal),
    (θ_run _ _ _).mono (fun r h c => ?_) (Cert.LnOutBwdIdeal.Value.run_blocks m ρ),
    (θ_run _ _ _).mono (fun r h c => ?_) (Cert.LnOutRefIdeal.Ln.run m' ρ')⟩
  · have hc := h c
    rw [Cert.LnOutBwdIdeal.Ln.final6, Cert.LnOutBwdIdeal.Ln.final7, Cert.LnOutBwdIdeal.Ln.final8, Cert.LnOutBwdIdeal.Ln.final9, Cert.LnOutBwdIdeal.Ln.final10] at hc
    exact hc
  · have hh : Cert.LnOutRefIdeal.Ln.h m' c = Cert.LnOutBwdIdeal.Ln.h m c := by
      funext i k; exact congrFun (ha c).1 _
    have hmg : Cert.LnOutRefIdeal.Ln.mg m' c = Cert.LnOutBwdIdeal.Ln.mg m c := by
      funext i k; exact congrFun (ha c).2.1 _
    have hw : Cert.LnOutRefIdeal.Ln.w m' c = Cert.LnOutBwdIdeal.Ln.w m c := by
      funext i k; exact congrFun (ha c).2.2.1 _
    have hg : Cert.LnOutRefIdeal.Ln.g m' c = Cert.LnOutBwdIdeal.Ln.g m c := by
      funext k; exact congrFun (ha c).2.2.2.1 _
    have hct : Cert.LnOutRefIdeal.Ln.ct m' c = Cert.LnOutBwdIdeal.Ln.ct m c := by
      funext i k; exact congrFun (ha c).2.2.2.2.2 _
    have hc := h c
    rw [hh, hmg, hw, hg, hct] at hc
    exact hc

/-- The plain gradient of the output projection with its layer norm runs to its end, keeps its arguments and leaves every counter at zero. -/
theorem ln_out_reference : quiescent_LnOutRefIdeal := by
  intro m ρ _
  exact (θ_run _ _ _).mono (fun r h => ⟨fun c => (h c).2.2.2.2.2, sem_eq_zero_of_no_sems rfl r.2⟩)
    (Cert.LnOutRefIdeal.Ln.run m ρ)

/-- The gradient of the S5 branch's output: the call and the plain gradient leave the same arrays. -/
theorem s5_post : algebraic_S5PostBwdIdeal_S5PostRefIdeal := by
  intro m ρ m' ρ' _ ha
  refine ⟨fun c => (fun i => Cert.S5Post.dpre (S5PostBwdIdeal.Post.y m c) (S5PostBwdIdeal.Post.u m c) (S5PostBwdIdeal.Post.z m c) (S5PostBwdIdeal.Post.d m c) (S5PostBwdIdeal.Post.w m c) (S5PostBwdIdeal.Post.b m c) (S5PostBwdIdeal.Post.ct m c) (i 1) (i 2) : S5PostBwdIdeal.S1x4160x768.Idx → EReal),
    fun c => (fun i => Cert.S5Post.du (S5PostBwdIdeal.Post.y m c) (S5PostBwdIdeal.Post.u m c) (S5PostBwdIdeal.Post.z m c) (S5PostBwdIdeal.Post.d m c) (S5PostBwdIdeal.Post.w m c) (S5PostBwdIdeal.Post.b m c) (S5PostBwdIdeal.Post.ct m c) (i 1) (i 2) : S5PostBwdIdeal.S1x4160x768.Idx → EReal),
    fun c => (fun i => Cert.S5Post.dz (S5PostBwdIdeal.Post.y m c) (S5PostBwdIdeal.Post.u m c) (S5PostBwdIdeal.Post.z m c) (S5PostBwdIdeal.Post.d m c) (S5PostBwdIdeal.Post.w m c) (S5PostBwdIdeal.Post.b m c) (S5PostBwdIdeal.Post.ct m c) (i 1) (i 2) : S5PostBwdIdeal.S1x4160x768.Idx → EReal),
    fun c => (fun i => Cert.S5Post.dd (S5PostBwdIdeal.Post.y m c) (S5PostBwdIdeal.Post.u m c) (S5PostBwdIdeal.Post.z m c) (S5PostBwdIdeal.Post.d m c) (S5PostBwdIdeal.Post.w m c) (S5PostBwdIdeal.Post.b m c) (S5PostBwdIdeal.Post.ct m c) (i 2) : S5PostBwdIdeal.S1x1x768.Idx → EReal),
    fun c => (fun i => Cert.S5Post.dw (S5PostBwdIdeal.Post.y m c) (S5PostBwdIdeal.Post.u m c) (S5PostBwdIdeal.Post.z m c) (S5PostBwdIdeal.Post.d m c) (S5PostBwdIdeal.Post.w m c) (S5PostBwdIdeal.Post.b m c) (S5PostBwdIdeal.Post.ct m c) (i 1) (i 2) : S5PostBwdIdeal.S1x768x768.Idx → EReal),
    fun c => (fun i => Cert.S5Post.db (S5PostBwdIdeal.Post.y m c) (S5PostBwdIdeal.Post.u m c) (S5PostBwdIdeal.Post.z m c) (S5PostBwdIdeal.Post.d m c) (S5PostBwdIdeal.Post.w m c) (S5PostBwdIdeal.Post.b m c) (S5PostBwdIdeal.Post.ct m c) (i 2) : S5PostBwdIdeal.S1x1x768.Idx → EReal),
    (θ_run _ _ _).mono (fun r h c => ?_) (Cert.S5PostBwdIdeal.Value.run_blocks m ρ),
    (θ_run _ _ _).mono (fun r h c => ?_) (Cert.S5PostRefIdeal.Post.run m' ρ')⟩
  · have hc := h c
    rw [Cert.S5PostBwdIdeal.Post.final7, Cert.S5PostBwdIdeal.Post.final8, Cert.S5PostBwdIdeal.Post.final9, Cert.S5PostBwdIdeal.Post.final10, Cert.S5PostBwdIdeal.Post.final11, Cert.S5PostBwdIdeal.Post.final12] at hc
    exact hc
  · have hy : Cert.S5PostRefIdeal.Post.y m' c = Cert.S5PostBwdIdeal.Post.y m c := by
      funext i k; exact congrFun (ha c).1 _
    have hu : Cert.S5PostRefIdeal.Post.u m' c = Cert.S5PostBwdIdeal.Post.u m c := by
      funext i k; exact congrFun (ha c).2.1 _
    have hz : Cert.S5PostRefIdeal.Post.z m' c = Cert.S5PostBwdIdeal.Post.z m c := by
      funext i k; exact congrFun (ha c).2.2.1 _
    have hd : Cert.S5PostRefIdeal.Post.d m' c = Cert.S5PostBwdIdeal.Post.d m c := by
      funext k; exact congrFun (ha c).2.2.2.1 _
    have hw : Cert.S5PostRefIdeal.Post.w m' c = Cert.S5PostBwdIdeal.Post.w m c := by
      funext i k; exact congrFun (ha c).2.2.2.2.1 _
    have hb : Cert.S5PostRefIdeal.Post.b m' c = Cert.S5PostBwdIdeal.Post.b m c := by
      funext k; exact congrFun (ha c).2.2.2.2.2.1 _
    have hct : Cert.S5PostRefIdeal.Post.ct m' c = Cert.S5PostBwdIdeal.Post.ct m c := by
      funext i k; exact congrFun (ha c).2.2.2.2.2.2 _
    have hc := h c
    rw [hy, hu, hz, hd, hw, hb, hct] at hc
    exact hc

/-- The plain gradient of the S5 branch's output runs to its end, keeps its arguments and leaves every counter at zero. -/
theorem s5_post_reference : quiescent_S5PostRefIdeal := by
  intro m ρ _
  exact (θ_run _ _ _).mono (fun r h => ⟨fun c => (h c).2.2.2.2.2.2, sem_eq_zero_of_no_sems rfl r.2⟩)
    (Cert.S5PostRefIdeal.Post.run m ρ)

/-- The gradient of the projection to 768 columns: the call and the plain gradient leave the same arrays. -/
theorem proj_768 : algebraic_Proj768BwdIdeal_Proj768RefIdeal := by
  intro m ρ m' ρ' _ ha
  refine ⟨fun c => (fun i => Cert.Matmul.dx (Proj768BwdIdeal.Proj.g m c) (Proj768BwdIdeal.Proj.w m c) (i 0) (i 1) : Proj768BwdIdeal.S4160x1024.Idx → EReal),
    fun c => (fun i => Cert.Matmul.dw (Proj768BwdIdeal.Proj.x m c) (Proj768BwdIdeal.Proj.g m c) (i 0) (i 1) : Proj768BwdIdeal.S1024x768.Idx → EReal),
    (θ_run _ _ _).mono (fun r h c => ?_) (Cert.Proj768BwdIdeal.Value.run_blocks m ρ),
    (θ_run _ _ _).mono (fun r h c => ?_) (Cert.Proj768RefIdeal.Proj.run m' ρ')⟩
  · have hc := h c
    rw [Cert.Proj768BwdIdeal.Proj.final3, Cert.Proj768BwdIdeal.Proj.final4] at hc
    exact hc
  · have hg : Cert.Proj768RefIdeal.Proj.g m' c = Cert.Proj768BwdIdeal.Proj.g m c := by
      funext i k; exact congrFun (ha c).1 _
    have hx : Cert.Proj768RefIdeal.Proj.x m' c = Cert.Proj768BwdIdeal.Proj.x m c := by
      funext i k; exact congrFun (ha c).2.1 _
    have hw : Cert.Proj768RefIdeal.Proj.w m' c = Cert.Proj768BwdIdeal.Proj.w m c := by
      funext i k; exact congrFun (ha c).2.2 _
    have hc := h c
    rw [hg, hx, hw] at hc
    exact hc

/-- The plain gradient of the projection to 768 columns runs to its end, keeps its arguments and leaves every counter at zero. -/
theorem proj_768_reference : quiescent_Proj768RefIdeal := by
  intro m ρ _
  exact (θ_run _ _ _).mono (fun r h => ⟨fun c => (h c).2.2, sem_eq_zero_of_no_sems rfl r.2⟩)
    (Cert.Proj768RefIdeal.Proj.run m ρ)

/-- The gradient of the projection to 1280 columns: the call and the plain gradient leave the same arrays. -/
theorem proj_1280 : algebraic_Proj1280BwdIdeal_Proj1280RefIdeal := by
  intro m ρ m' ρ' _ ha
  refine ⟨fun c => (fun i => Cert.Matmul.dx (Proj1280BwdIdeal.Proj.g m c) (Proj1280BwdIdeal.Proj.w m c) (i 0) (i 1) : Proj1280BwdIdeal.S4160x1024.Idx → EReal),
    fun c => (fun i => Cert.Matmul.dw (Proj1280BwdIdeal.Proj.x m c) (Proj1280BwdIdeal.Proj.g m c) (i 0) (i 1) : Proj1280BwdIdeal.S1024x1280.Idx → EReal),
    (θ_run _ _ _).mono (fun r h c => ?_) (Cert.Proj1280BwdIdeal.Value.run_blocks m ρ),
    (θ_run _ _ _).mono (fun r h c => ?_) (Cert.Proj1280RefIdeal.Proj.run m' ρ')⟩
  · have hc := h c
    rw [Cert.Proj1280BwdIdeal.Proj.final3, Cert.Proj1280BwdIdeal.Proj.final4] at hc
    exact hc
  · have hg : Cert.Proj1280RefIdeal.Proj.g m' c = Cert.Proj1280BwdIdeal.Proj.g m c := by
      funext i k; exact congrFun (ha c).1 _
    have hx : Cert.Proj1280RefIdeal.Proj.x m' c = Cert.Proj1280BwdIdeal.Proj.x m c := by
      funext i k; exact congrFun (ha c).2.1 _
    have hw : Cert.Proj1280RefIdeal.Proj.w m' c = Cert.Proj1280BwdIdeal.Proj.w m c := by
      funext i k; exact congrFun (ha c).2.2 _
    have hc := h c
    rw [hg, hx, hw] at hc
    exact hc

/-- The plain gradient of the projection to 1280 columns runs to its end, keeps its arguments and leaves every counter at zero. -/
theorem proj_1280_reference : quiescent_Proj1280RefIdeal := by
  intro m ρ _
  exact (θ_run _ _ _).mono (fun r h => ⟨fun c => (h c).2.2, sem_eq_zero_of_no_sems rfl r.2⟩)
    (Cert.Proj1280RefIdeal.Proj.run m ρ)

/-- The gradient of the projection to 1024 columns: the call and the plain gradient leave the same arrays. -/
theorem proj_1024 : algebraic_Proj1024BwdIdeal_Proj1024RefIdeal := by
  intro m ρ m' ρ' _ ha
  refine ⟨fun c => (fun i => Cert.Matmul.dx (Proj1024BwdIdeal.Proj.g m c) (Proj1024BwdIdeal.Proj.w m c) (i 0) (i 1) : Proj1024BwdIdeal.S4160x1024.Idx → EReal),
    fun c => (fun i => Cert.Matmul.dw (Proj1024BwdIdeal.Proj.x m c) (Proj1024BwdIdeal.Proj.g m c) (i 0) (i 1) : Proj1024BwdIdeal.S1024x1024.Idx → EReal),
    (θ_run _ _ _).mono (fun r h c => ?_) (Cert.Proj1024BwdIdeal.Value.run_blocks m ρ),
    (θ_run _ _ _).mono (fun r h c => ?_) (Cert.Proj1024RefIdeal.Proj.run m' ρ')⟩
  · have hc := h c
    rw [Cert.Proj1024BwdIdeal.Proj.final3, Cert.Proj1024BwdIdeal.Proj.final4] at hc
    exact hc
  · have hg : Cert.Proj1024RefIdeal.Proj.g m' c = Cert.Proj1024BwdIdeal.Proj.g m c := by
      funext i k; exact congrFun (ha c).1 _
    have hx : Cert.Proj1024RefIdeal.Proj.x m' c = Cert.Proj1024BwdIdeal.Proj.x m c := by
      funext i k; exact congrFun (ha c).2.1 _
    have hw : Cert.Proj1024RefIdeal.Proj.w m' c = Cert.Proj1024BwdIdeal.Proj.w m c := by
      funext i k; exact congrFun (ha c).2.2 _
    have hc := h c
    rw [hg, hx, hw] at hc
    exact hc

/-- The plain gradient of the projection to 1024 columns runs to its end, keeps its arguments and leaves every counter at zero. -/
theorem proj_1024_reference : quiescent_Proj1024RefIdeal := by
  intro m ρ _
  exact (θ_run _ _ _).mono (fun r h => ⟨fun c => (h c).2.2, sem_eq_zero_of_no_sems rfl r.2⟩)
    (Cert.Proj1024RefIdeal.Proj.run m ρ)

/-- The gradient of the projection to 128 columns: the call and the plain gradient leave the same arrays. -/
theorem proj_128 : algebraic_Proj128BwdIdeal_Proj128RefIdeal := by
  intro m ρ m' ρ' _ ha
  refine ⟨fun c => (fun i => Cert.Matmul.dx (Proj128BwdIdeal.Proj.g m c) (Proj128BwdIdeal.Proj.w m c) (i 0) (i 1) : Proj128BwdIdeal.S4160x1024.Idx → EReal),
    fun c => (fun i => Cert.Matmul.dw (Proj128BwdIdeal.Proj.x m c) (Proj128BwdIdeal.Proj.g m c) (i 0) (i 1) : Proj128BwdIdeal.S1024x128.Idx → EReal),
    (θ_run _ _ _).mono (fun r h c => ?_) (Cert.Proj128BwdIdeal.Value.run_blocks m ρ),
    (θ_run _ _ _).mono (fun r h c => ?_) (Cert.Proj128RefIdeal.Proj.run m' ρ')⟩
  · have hc := h c
    rw [Cert.Proj128BwdIdeal.Proj.final3, Cert.Proj128BwdIdeal.Proj.final4] at hc
    exact hc
  · have hg : Cert.Proj128RefIdeal.Proj.g m' c = Cert.Proj128BwdIdeal.Proj.g m c := by
      funext i k; exact congrFun (ha c).1 _
    have hx : Cert.Proj128RefIdeal.Proj.x m' c = Cert.Proj128BwdIdeal.Proj.x m c := by
      funext i k; exact congrFun (ha c).2.1 _
    have hw : Cert.Proj128RefIdeal.Proj.w m' c = Cert.Proj128BwdIdeal.Proj.w m c := by
      funext i k; exact congrFun (ha c).2.2 _
    have hc := h c
    rw [hg, hx, hw] at hc
    exact hc

/-- The plain gradient of the projection to 128 columns runs to its end, keeps its arguments and leaves every counter at zero. -/
theorem proj_128_reference : quiescent_Proj128RefIdeal := by
  intro m ρ _
  exact (θ_run _ _ _).mono (fun r h => ⟨fun c => (h c).2.2, sem_eq_zero_of_no_sems rfl r.2⟩)
    (Cert.Proj128RefIdeal.Proj.run m ρ)

/-- The projection to 2304 columns: the call and the plain forward pass leave the same array. -/
theorem proj_2304_fwd : algebraic_Proj2304FwdIdeal_Proj2304FwdRefIdeal := by
  intro m ρ m' ρ' _ ha
  refine ⟨fun c => (fun i => Cert.Matmul.mul (Proj2304FwdIdeal.Proj.x m c) (Proj2304FwdIdeal.Proj.w m c) (i 0) (i 1) : Proj2304FwdIdeal.S4160x2304.Idx → EReal),
    (θ_run _ _ _).mono (fun r h c => ?_) (Cert.Proj2304FwdIdeal.Value.run_blocks m ρ),
    (θ_run _ _ _).mono (fun r h c => ?_) (Cert.Proj2304FwdRefIdeal.Proj.run m' ρ')⟩
  · have hc := h c
    rw [Cert.Proj2304FwdIdeal.Proj.final2] at hc
    exact hc
  · have hx : Cert.Proj2304FwdRefIdeal.Proj.x m' c = Cert.Proj2304FwdIdeal.Proj.x m c := by
      funext i k; exact congrFun (ha c).1 _
    have hw : Cert.Proj2304FwdRefIdeal.Proj.w m' c = Cert.Proj2304FwdIdeal.Proj.w m c := by
      funext i k; exact congrFun (ha c).2 _
    have hc := h c
    rw [hx, hw] at hc
    exact hc

/-- The projection to 2304 columns, written plainly, runs to its end, keeps its arguments and leaves every counter at zero. -/
theorem proj_2304_fwd_reference : quiescent_Proj2304FwdRefIdeal := by
  intro m ρ _
  exact (θ_run _ _ _).mono (fun r h => ⟨fun c => (h c).2, sem_eq_zero_of_no_sems rfl r.2⟩)
    (Cert.Proj2304FwdRefIdeal.Proj.run m ρ)

/-- The projection to 768 columns: the call and the plain forward pass leave the same array. -/
theorem proj_768_fwd : algebraic_Proj768FwdIdeal_Proj768FwdRefIdeal := by
  intro m ρ m' ρ' _ ha
  refine ⟨fun c => (fun i => Cert.Matmul.mul (Proj768FwdIdeal.Proj.x m c) (Proj768FwdIdeal.Proj.w m c) (i 0) (i 1) : Proj768FwdIdeal.S4160x768.Idx → EReal),
    (θ_run _ _ _).mono (fun r h c => ?_) (Cert.Proj768FwdIdeal.Value.run_blocks m ρ),
    (θ_run _ _ _).mono (fun r h c => ?_) (Cert.Proj768FwdRefIdeal.Proj.run m' ρ')⟩
  · have hc := h c
    rw [Cert.Proj768FwdIdeal.Proj.final2] at hc
    exact hc
  · have hx : Cert.Proj768FwdRefIdeal.Proj.x m' c = Cert.Proj768FwdIdeal.Proj.x m c := by
      funext i k; exact congrFun (ha c).1 _
    have hw : Cert.Proj768FwdRefIdeal.Proj.w m' c = Cert.Proj768FwdIdeal.Proj.w m c := by
      funext i k; exact congrFun (ha c).2 _
    have hc := h c
    rw [hx, hw] at hc
    exact hc

/-- The projection to 768 columns, written plainly, runs to its end, keeps its arguments and leaves every counter at zero. -/
theorem proj_768_fwd_reference : quiescent_Proj768FwdRefIdeal := by
  intro m ρ _
  exact (θ_run _ _ _).mono (fun r h => ⟨fun c => (h c).2, sem_eq_zero_of_no_sems rfl r.2⟩)
    (Cert.Proj768FwdRefIdeal.Proj.run m ρ)

/-- The projection to 1280 columns: the call and the plain forward pass leave the same array. -/
theorem proj_1280_fwd : algebraic_Proj1280FwdIdeal_Proj1280FwdRefIdeal := by
  intro m ρ m' ρ' _ ha
  refine ⟨fun c => (fun i => Cert.Matmul.mul (Proj1280FwdIdeal.Proj.x m c) (Proj1280FwdIdeal.Proj.w m c) (i 0) (i 1) : Proj1280FwdIdeal.S4160x1280.Idx → EReal),
    (θ_run _ _ _).mono (fun r h c => ?_) (Cert.Proj1280FwdIdeal.Value.run_blocks m ρ),
    (θ_run _ _ _).mono (fun r h c => ?_) (Cert.Proj1280FwdRefIdeal.Proj.run m' ρ')⟩
  · have hc := h c
    rw [Cert.Proj1280FwdIdeal.Proj.final2] at hc
    exact hc
  · have hx : Cert.Proj1280FwdRefIdeal.Proj.x m' c = Cert.Proj1280FwdIdeal.Proj.x m c := by
      funext i k; exact congrFun (ha c).1 _
    have hw : Cert.Proj1280FwdRefIdeal.Proj.w m' c = Cert.Proj1280FwdIdeal.Proj.w m c := by
      funext i k; exact congrFun (ha c).2 _
    have hc := h c
    rw [hx, hw] at hc
    exact hc

/-- The projection to 1280 columns, written plainly, runs to its end, keeps its arguments and leaves every counter at zero. -/
theorem proj_1280_fwd_reference : quiescent_Proj1280FwdRefIdeal := by
  intro m ρ _
  exact (θ_run _ _ _).mono (fun r h => ⟨fun c => (h c).2, sem_eq_zero_of_no_sems rfl r.2⟩)
    (Cert.Proj1280FwdRefIdeal.Proj.run m ρ)

/-- The projection to 1024 columns: the call and the plain forward pass leave the same array. -/
theorem proj_1024_fwd : algebraic_Proj1024FwdIdeal_Proj1024FwdRefIdeal := by
  intro m ρ m' ρ' _ ha
  refine ⟨fun c => (fun i => Cert.Matmul.mul (Proj1024FwdIdeal.Proj.x m c) (Proj1024FwdIdeal.Proj.w m c) (i 0) (i 1) : Proj1024FwdIdeal.S4160x1024.Idx → EReal),
    (θ_run _ _ _).mono (fun r h c => ?_) (Cert.Proj1024FwdIdeal.Value.run_blocks m ρ),
    (θ_run _ _ _).mono (fun r h c => ?_) (Cert.Proj1024FwdRefIdeal.Proj.run m' ρ')⟩
  · have hc := h c
    rw [Cert.Proj1024FwdIdeal.Proj.final2] at hc
    exact hc
  · have hx : Cert.Proj1024FwdRefIdeal.Proj.x m' c = Cert.Proj1024FwdIdeal.Proj.x m c := by
      funext i k; exact congrFun (ha c).1 _
    have hw : Cert.Proj1024FwdRefIdeal.Proj.w m' c = Cert.Proj1024FwdIdeal.Proj.w m c := by
      funext i k; exact congrFun (ha c).2 _
    have hc := h c
    rw [hx, hw] at hc
    exact hc

/-- The projection to 1024 columns, written plainly, runs to its end, keeps its arguments and leaves every counter at zero. -/
theorem proj_1024_fwd_reference : quiescent_Proj1024FwdRefIdeal := by
  intro m ρ _
  exact (θ_run _ _ _).mono (fun r h => ⟨fun c => (h c).2, sem_eq_zero_of_no_sems rfl r.2⟩)
    (Cert.Proj1024FwdRefIdeal.Proj.run m ρ)

/-- The projection to 128 columns: the call and the plain forward pass leave the same array. -/
theorem proj_128_fwd : algebraic_Proj128FwdIdeal_Proj128FwdRefIdeal := by
  intro m ρ m' ρ' _ ha
  refine ⟨fun c => (fun i => Cert.Matmul.mul (Proj128FwdIdeal.Proj.x m c) (Proj128FwdIdeal.Proj.w m c) (i 0) (i 1) : Proj128FwdIdeal.S4160x128.Idx → EReal),
    (θ_run _ _ _).mono (fun r h c => ?_) (Cert.Proj128FwdIdeal.Value.run_blocks m ρ),
    (θ_run _ _ _).mono (fun r h c => ?_) (Cert.Proj128FwdRefIdeal.Proj.run m' ρ')⟩
  · have hc := h c
    rw [Cert.Proj128FwdIdeal.Proj.final2] at hc
    exact hc
  · have hx : Cert.Proj128FwdRefIdeal.Proj.x m' c = Cert.Proj128FwdIdeal.Proj.x m c := by
      funext i k; exact congrFun (ha c).1 _
    have hw : Cert.Proj128FwdRefIdeal.Proj.w m' c = Cert.Proj128FwdIdeal.Proj.w m c := by
      funext i k; exact congrFun (ha c).2 _
    have hc := h c
    rw [hx, hw] at hc
    exact hc

/-- The projection to 128 columns, written plainly, runs to its end, keeps its arguments and leaves every counter at zero. -/
theorem proj_128_fwd_reference : quiescent_Proj128FwdRefIdeal := by
  intro m ρ _
  exact (θ_run _ _ _).mono (fun r h => ⟨fun c => (h c).2, sem_eq_zero_of_no_sems rfl r.2⟩)
    (Cert.Proj128FwdRefIdeal.Proj.run m ρ)

/-- The gated merge: the call and the plain forward pass leave the same array. -/
theorem merge_fwd : algebraic_MergeFwdIdeal_MergeFwdRefIdeal := by
  intro m ρ m' ρ' _ ha
  refine ⟨fun c => (fun i => Cert.Merge.merged (MergeFwdIdeal.Merge.ya m c) (MergeFwdIdeal.Merge.yb m c) (MergeFwdIdeal.Merge.yc m c) (MergeFwdIdeal.Merge.ga m c) (MergeFwdIdeal.Merge.gb m c) (MergeFwdIdeal.Merge.gc m c) (MergeFwdIdeal.Merge.w m c) (MergeFwdIdeal.Merge.b m c) (i 0) (i 1) : MergeFwdIdeal.S4160x1024.Idx → EReal),
    (θ_run _ _ _).mono (fun r h c => ?_) (Cert.MergeFwdIdeal.Value.run_blocks m ρ),
    (θ_run _ _ _).mono (fun r h c => ?_) (Cert.MergeFwdRefIdeal.Merge.run m' ρ')⟩
  · have hc := h c
    rw [Cert.MergeFwdIdeal.Merge.final8] at hc
    exact hc
  · have hya : Cert.MergeFwdRefIdeal.Merge.ya m' c = Cert.MergeFwdIdeal.Merge.ya m c := by
      funext i k; exact congrFun (ha c).1 _
    have hyb : Cert.MergeFwdRefIdeal.Merge.yb m' c = Cert.MergeFwdIdeal.Merge.yb m c := by
      funext i k; exact congrFun (ha c).2.1 _
    have hyc : Cert.MergeFwdRefIdeal.Merge.yc m' c = Cert.MergeFwdIdeal.Merge.yc m c := by
      funext i k; exact congrFun (ha c).2.2.1 _
    have hga : Cert.MergeFwdRefIdeal.Merge.ga m' c = Cert.MergeFwdIdeal.Merge.ga m c := by
      funext i k; exact congrFun (ha c).2.2.2.1 _
    have hgb : Cert.MergeFwdRefIdeal.Merge.gb m' c = Cert.MergeFwdIdeal.Merge.gb m c := by
      funext i k; exact congrFun (ha c).2.2.2.2.1 _
    have hgc : Cert.MergeFwdRefIdeal.Merge.gc m' c = Cert.MergeFwdIdeal.Merge.gc m c := by
      funext i k; exact congrFun (ha c).2.2.2.2.2.1 _
    have hw : Cert.MergeFwdRefIdeal.Merge.w m' c = Cert.MergeFwdIdeal.Merge.w m c := by
      funext n i k; exact congrFun (ha c).2.2.2.2.2.2.1 _
    have hb : Cert.MergeFwdRefIdeal.Merge.b m' c = Cert.MergeFwdIdeal.Merge.b m c := by
      funext k; exact congrFun (ha c).2.2.2.2.2.2.2 _
    have hc := h c
    rw [hya, hyb, hyc, hga, hgb, hgc, hw, hb] at hc
    exact hc

/-- The gated merge, written plainly, runs to its end, keeps its arguments and leaves every counter at zero. -/
theorem merge_fwd_reference : quiescent_MergeFwdRefIdeal := by
  intro m ρ _
  exact (θ_run _ _ _).mono (fun r h => ⟨fun c => (h c).2, sem_eq_zero_of_no_sems rfl r.2⟩)
    (Cert.MergeFwdRefIdeal.Merge.run m ρ)

/-- The output projection with its layer norm: the call and the plain forward pass leave the same array. -/
theorem ln_out_fwd : algebraic_LnOutFwdIdeal_LnOutFwdRefIdeal := by
  intro m ρ m' ρ' _ ha
  refine ⟨fun c => (fun i => Cert.Ln.fwd (LnOutFwdIdeal.Ln.h m c) (LnOutFwdIdeal.Ln.mg m c) (LnOutFwdIdeal.Ln.w m c) (LnOutFwdIdeal.Ln.g m c) (LnOutFwdIdeal.Ln.b m c) (i 0) (i 1) : LnOutFwdIdeal.S4160x1024.Idx → EReal),
    (θ_run _ _ _).mono (fun r h c => ?_) (Cert.LnOutFwdIdeal.Value.run_blocks m ρ),
    (θ_run _ _ _).mono (fun r h c => ?_) (Cert.LnOutFwdRefIdeal.Ln.run m' ρ')⟩
  · have hc := h c
    rw [Cert.LnOutFwdIdeal.Ln.final5] at hc
    exact hc
  · have hh : Cert.LnOutFwdRefIdeal.Ln.h m' c = Cert.LnOutFwdIdeal.Ln.h m c := by
      funext i k; exact congrFun (ha c).1 _
    have hmg : Cert.LnOutFwdRefIdeal.Ln.mg m' c = Cert.LnOutFwdIdeal.Ln.mg m c := by
      funext i k; exact congrFun (ha c).2.1 _
    have hw : Cert.LnOutFwdRefIdeal.Ln.w m' c = Cert.LnOutFwdIdeal.Ln.w m c := by
      funext i k; exact congrFun (ha c).2.2.1 _
    have hg : Cert.LnOutFwdRefIdeal.Ln.g m' c = Cert.LnOutFwdIdeal.Ln.g m c := by
      funext k; exact congrFun (ha c).2.2.2.1 _
    have hb : Cert.LnOutFwdRefIdeal.Ln.b m' c = Cert.LnOutFwdIdeal.Ln.b m c := by
      funext k; exact congrFun (ha c).2.2.2.2 _
    have hc := h c
    rw [hh, hmg, hw, hg, hb] at hc
    exact hc

/-- The output projection with its layer norm, written plainly, runs to its end, keeps its arguments and leaves every counter at zero. -/
theorem ln_out_fwd_reference : quiescent_LnOutFwdRefIdeal := by
  intro m ρ _
  exact (θ_run _ _ _).mono (fun r h => ⟨fun c => (h c).2, sem_eq_zero_of_no_sems rfl r.2⟩)
    (Cert.LnOutFwdRefIdeal.Ln.run m ρ)

/-- The S5 branch's output: the call and the plain forward pass leave the same array. -/
theorem s5_post_fwd : algebraic_S5PostFwdIdeal_S5PostFwdRefIdeal := by
  intro m ρ m' ρ' _ ha
  refine ⟨fun c => (fun i => Cert.S5Post.fwd (S5PostFwdIdeal.Post.y m c) (S5PostFwdIdeal.Post.u m c) (S5PostFwdIdeal.Post.z m c) (S5PostFwdIdeal.Post.d m c) (S5PostFwdIdeal.Post.w m c) (S5PostFwdIdeal.Post.b m c) (i 0) (i 1) : S5PostFwdIdeal.S4160x768.Idx → EReal),
    (θ_run _ _ _).mono (fun r h c => ?_) (Cert.S5PostFwdIdeal.Value.run_blocks m ρ),
    (θ_run _ _ _).mono (fun r h c => ?_) (Cert.S5PostFwdRefIdeal.Post.run m' ρ')⟩
  · have hc := h c
    rw [Cert.S5PostFwdIdeal.Post.final6] at hc
    exact hc
  · have hy : Cert.S5PostFwdRefIdeal.Post.y m' c = Cert.S5PostFwdIdeal.Post.y m c := by
      funext i k; exact congrFun (ha c).1 _
    have hu : Cert.S5PostFwdRefIdeal.Post.u m' c = Cert.S5PostFwdIdeal.Post.u m c := by
      funext i k; exact congrFun (ha c).2.1 _
    have hz : Cert.S5PostFwdRefIdeal.Post.z m' c = Cert.S5PostFwdIdeal.Post.z m c := by
      funext i k; exact congrFun (ha c).2.2.1 _
    have hd : Cert.S5PostFwdRefIdeal.Post.d m' c = Cert.S5PostFwdIdeal.Post.d m c := by
      funext k; exact congrFun (ha c).2.2.2.1 _
    have hw : Cert.S5PostFwdRefIdeal.Post.w m' c = Cert.S5PostFwdIdeal.Post.w m c := by
      funext i k; exact congrFun (ha c).2.2.2.2.1 _
    have hb : Cert.S5PostFwdRefIdeal.Post.b m' c = Cert.S5PostFwdIdeal.Post.b m c := by
      funext k; exact congrFun (ha c).2.2.2.2.2 _
    have hc := h c
    rw [hy, hu, hz, hd, hw, hb] at hc
    exact hc

/-- The S5 branch's output, written plainly, runs to its end, keeps its arguments and leaves every counter at zero. -/
theorem s5_post_fwd_reference : quiescent_S5PostFwdRefIdeal := by
  intro m ρ _
  exact (θ_run _ _ _).mono (fun r h => ⟨fun c => (h c).2, sem_eq_zero_of_no_sems rfl r.2⟩)
    (Cert.S5PostFwdRefIdeal.Post.run m ρ)

/-- The arguments of the two programs of the state space branch agree where their arrays do. -/
theorem ssd_args (m : (ℓ : Loc SsdFwdIdeal.nD SsdFwdIdeal.τ SsdFwdIdeal.sig) → Buf (Elt Ideal) ℓ)
    (m' : (ℓ : Loc SsdFwdRefIdeal.nD SsdFwdRefIdeal.τ SsdFwdRefIdeal.sig) → Buf (Elt Ideal) ℓ) (c : Dev SsdFwdIdeal.nD)
    (h0 : m' ((c.tc : Thread SsdFwdRefIdeal.nD SsdFwdRefIdeal.τ).loc SsdFwdRefIdeal.main_arg0) = m ((c.tc : Thread SsdFwdIdeal.nD SsdFwdIdeal.τ).loc SsdFwdIdeal.main_arg0))
    (h1 : m' ((c.tc : Thread SsdFwdRefIdeal.nD SsdFwdRefIdeal.τ).loc SsdFwdRefIdeal.main_arg1) = m ((c.tc : Thread SsdFwdIdeal.nD SsdFwdIdeal.τ).loc SsdFwdIdeal.main_arg1))
    (h2 : m' ((c.tc : Thread SsdFwdRefIdeal.nD SsdFwdRefIdeal.τ).loc SsdFwdRefIdeal.main_arg2) = m ((c.tc : Thread SsdFwdIdeal.nD SsdFwdIdeal.τ).loc SsdFwdIdeal.main_arg2))
    (h3 : m' ((c.tc : Thread SsdFwdRefIdeal.nD SsdFwdRefIdeal.τ).loc SsdFwdRefIdeal.main_arg3) = m ((c.tc : Thread SsdFwdIdeal.nD SsdFwdIdeal.τ).loc SsdFwdIdeal.main_arg3))
    (h4 : m' ((c.tc : Thread SsdFwdRefIdeal.nD SsdFwdRefIdeal.τ).loc SsdFwdRefIdeal.main_arg4) = m ((c.tc : Thread SsdFwdIdeal.nD SsdFwdIdeal.τ).loc SsdFwdIdeal.main_arg4))
    (h5 : m' ((c.tc : Thread SsdFwdRefIdeal.nD SsdFwdRefIdeal.τ).loc SsdFwdRefIdeal.main_arg5) = m ((c.tc : Thread SsdFwdIdeal.nD SsdFwdIdeal.τ).loc SsdFwdIdeal.main_arg5))
    (h6 : m' ((c.tc : Thread SsdFwdRefIdeal.nD SsdFwdRefIdeal.τ).loc SsdFwdRefIdeal.main_arg6) = m ((c.tc : Thread SsdFwdIdeal.nD SsdFwdIdeal.τ).loc SsdFwdIdeal.main_arg6))
    (h7 : m' ((c.tc : Thread SsdFwdRefIdeal.nD SsdFwdRefIdeal.τ).loc SsdFwdRefIdeal.main_arg7) = m ((c.tc : Thread SsdFwdIdeal.nD SsdFwdIdeal.τ).loc SsdFwdIdeal.main_arg7))
    (h8 : m' ((c.tc : Thread SsdFwdRefIdeal.nD SsdFwdRefIdeal.τ).loc SsdFwdRefIdeal.main_arg8) = m ((c.tc : Thread SsdFwdIdeal.nD SsdFwdIdeal.τ).loc SsdFwdIdeal.main_arg8)) :
    Cert.SsdFwdRefIdeal.Scan.args (StableHlo.launchContents m' c) = Cert.SsdFwdIdeal.Ssd.args m c := by
  have e0 : (Cert.SsdFwdRefIdeal.Scan.args (StableHlo.launchContents m' c)).u = (Cert.SsdFwdIdeal.Ssd.args m c).u := by funext i k; exact congrFun h0 _
  have e1 : (Cert.SsdFwdRefIdeal.Scan.args (StableHlo.launchContents m' c)).z = (Cert.SsdFwdIdeal.Ssd.args m c).z := by funext i k; exact congrFun h1 _
  have e2 : (Cert.SsdFwdRefIdeal.Scan.args (StableHlo.launchContents m' c)).s = (Cert.SsdFwdIdeal.Ssd.args m c).s := by funext i k; exact congrFun h2 _
  have e3 : (Cert.SsdFwdRefIdeal.Scan.args (StableHlo.launchContents m' c)).w = (Cert.SsdFwdIdeal.Ssd.args m c).w := by funext i k; exact congrFun h3 _
  have e4 : (Cert.SsdFwdRefIdeal.Scan.args (StableHlo.launchContents m' c)).wb = (Cert.SsdFwdIdeal.Ssd.args m c).wb := by funext k; exact congrFun h4 _
  have e5 : (Cert.SsdFwdRefIdeal.Scan.args (StableHlo.launchContents m' c)).tb = (Cert.SsdFwdIdeal.Ssd.args m c).tb := by funext k; exact congrFun h5 _
  have e6 : (Cert.SsdFwdRefIdeal.Scan.args (StableHlo.launchContents m' c)).al = (Cert.SsdFwdIdeal.Ssd.args m c).al := by funext k; exact congrFun h6 _
  have e7 : (Cert.SsdFwdRefIdeal.Scan.args (StableHlo.launchContents m' c)).d = (Cert.SsdFwdIdeal.Ssd.args m c).d := by funext k; exact congrFun h7 _
  have e8 : (Cert.SsdFwdRefIdeal.Scan.args (StableHlo.launchContents m' c)).g = (Cert.SsdFwdIdeal.Ssd.args m c).g := by funext k; exact congrFun h8 _
  exact Ssd.Args.ext e0 e1 e2 e3 e4 e5 e6 e7 e8

/-- The state space branch: the call and the plain forward pass leave the same array. -/
theorem ssd_fwd : algebraic_SsdFwdIdeal_SsdFwdRefIdeal := by
  intro m ρ m' ρ' _ ha
  refine ⟨fun c => (fun i => Cert.Ssd.result (Cert.SsdFwdIdeal.Ssd.args m c) (i 0) (i 1) : SsdFwdIdeal.S4160x768.Idx → EReal),
    (θ_run _ _ _).mono (fun r h c => ?_) (Cert.SsdFwdIdeal.Value.run_blocks m ρ),
    (θ_run _ _ _).mono (fun r h c => ?_) (Cert.SsdFwdRefIdeal.Scan.run m' ρ')⟩
  · have hc := h c
    rw [Cert.SsdFwdIdeal.Ssd.final12] at hc
    exact ⟨hc.1, hc.2.2.2⟩
  · obtain ⟨h0, h1, h2, h3, h4, h5, h6, h7, h8⟩ := ha c
    have hc := h c
    rw [ssd_args m m' c h0 h1 h2 h3 h4 h5 h6 h7 h8] at hc
    exact hc

/-- The state space branch, written plainly, runs to its end, keeps its arguments and leaves every counter at zero. -/
theorem ssd_fwd_reference : quiescent_SsdFwdRefIdeal := by
  intro m ρ _
  exact (θ_run _ _ _).mono (fun r h => ⟨fun c => (h c).2, sem_eq_zero_of_no_sems rfl r.2⟩)
    (Cert.SsdFwdRefIdeal.Scan.run m ρ)

/-- The mask's constant stands for minus infinity. -/
theorem ssd_fwd_preserves : preserves_SsdFwd_SsdFwdIdeal :=
  IdealRules.named_const.statement Cert.SsdFwdIdeal.κ "neg_inf" .f32 0xF149F2CA#32 ⊥ rfl

/-- The first layer norm's gradient: the call and the plain backward pass leave the same arrays. -/
theorem ln_in : algebraic_LnInBwdIdeal_LnInRefIdeal := by
  intro m ρ m' ρ' _ ha
  refine ⟨fun c => (fun i => Cert.Ln.dh1 (LnInBwdIdeal.Ln.h m c) (LnInBwdIdeal.Ln.g m c) (LnInBwdIdeal.Ln.ct m c) (i 1) (i 2) : LnInBwdIdeal.S1x4160x1024.Idx → EReal),
    fun c => (fun i => Cert.Ln.dg1 (LnInBwdIdeal.Ln.h m c) (LnInBwdIdeal.Ln.ct m c) (i 2) : LnInBwdIdeal.S1x1x1024.Idx → EReal),
    fun c => (fun i => Cert.Ln.db (LnInBwdIdeal.Ln.ct m c) (i 2) : LnInBwdIdeal.S1x1x1024.Idx → EReal),
    (θ_run _ _ _).mono (fun r h c => ?_) (Cert.LnInBwdIdeal.Value.run_blocks m ρ),
    (θ_run _ _ _).mono (fun r h c => ?_) (Cert.LnInRefIdeal.Ln.run m' ρ')⟩
  · have hc := h c
    rw [Cert.LnInBwdIdeal.Ln.final4, Cert.LnInBwdIdeal.Ln.final5, Cert.LnInBwdIdeal.Ln.final6] at hc
    exact hc
  · have hh : Cert.LnInRefIdeal.Ln.h m' c = Cert.LnInBwdIdeal.Ln.h m c := by
      funext i j; exact congrFun (ha c).1 _
    have hg : Cert.LnInRefIdeal.Ln.g m' c = Cert.LnInBwdIdeal.Ln.g m c := by
      funext j; exact congrFun (ha c).2.1 _
    have hct : Cert.LnInRefIdeal.Ln.ct m' c = Cert.LnInBwdIdeal.Ln.ct m c := by
      funext i j; exact congrFun (ha c).2.2.2 _
    have hc := h c
    rw [hh, hg, hct] at hc
    exact hc

/-- The first layer norm's gradient, written plainly, runs to its end, keeps its arguments and leaves every counter at zero. -/
theorem ln_in_reference : quiescent_LnInRefIdeal := by
  intro m ρ _
  exact (θ_run _ _ _).mono (fun r h => ⟨fun c => (h c).2.2.2, sem_eq_zero_of_no_sems rfl r.2⟩)
    (Cert.LnInRefIdeal.Ln.run m ρ)

/-- The first layer norm: the call and the plain forward pass leave the same array. -/
theorem ln_in_fwd : algebraic_LnInFwdIdeal_LnInFwdRefIdeal := by
  intro m ρ m' ρ' _ ha
  refine ⟨fun c => (fun i => Cert.Ln.fwd1 (LnInFwdIdeal.Ln.h m c) (LnInFwdIdeal.Ln.g m c) (LnInFwdIdeal.Ln.b m c) (i 0) (i 1) : LnInFwdIdeal.S4160x1024.Idx → EReal),
    (θ_run _ _ _).mono (fun r h c => ?_) (Cert.LnInFwdIdeal.Value.run_blocks m ρ),
    (θ_run _ _ _).mono (fun r h c => ?_) (Cert.LnInFwdRefIdeal.Ln.run m' ρ')⟩
  · have hc := h c
    rw [Cert.LnInFwdIdeal.Ln.final3] at hc
    exact hc
  · have hh : Cert.LnInFwdRefIdeal.Ln.h m' c = Cert.LnInFwdIdeal.Ln.h m c := by
      funext i j; exact congrFun (ha c).1 _
    have hg : Cert.LnInFwdRefIdeal.Ln.g m' c = Cert.LnInFwdIdeal.Ln.g m c := by
      funext j; exact congrFun (ha c).2.1 _
    have hb : Cert.LnInFwdRefIdeal.Ln.b m' c = Cert.LnInFwdIdeal.Ln.b m c := by
      funext j; exact congrFun (ha c).2.2 _
    have hc := h c
    rw [hh, hg, hb] at hc
    exact hc

/-- The first layer norm, written plainly, runs to its end, keeps its arguments and leaves every counter at zero. -/
theorem ln_in_fwd_reference : quiescent_LnInFwdRefIdeal := by
  intro m ρ _
  exact (θ_run _ _ _).mono (fun r h => ⟨fun c => (h c).2, sem_eq_zero_of_no_sems rfl r.2⟩)
    (Cert.LnInFwdRefIdeal.Ln.run m ρ)

/-- The loss's gradient: the call and the plain backward pass leave the same array. -/
theorem loss_grad : algebraic_LossBwdIdeal_LossRefIdeal := by
  intro m ρ m' ρ' _ ha
  refine ⟨fun c => (fun i => Cert.Loss.dy (LossBwdIdeal.Loss.y m c) (LossBwdIdeal.Loss.t m c) (LossBwdIdeal.Loss.g m c) (i 0) (i 1) : LossBwdIdeal.S4096x1024.Idx → EReal),
    (θ_run _ _ _).mono (fun r h c => ?_) (Cert.LossBwdIdeal.Value.run_blocks m ρ),
    (θ_run _ _ _).mono (fun r h c => ?_) (Cert.LossRefIdeal.Loss.run m' ρ')⟩
  · have hc := h c
    rw [Cert.LossBwdIdeal.Loss.final3] at hc
    exact hc
  · have hy : Cert.LossRefIdeal.Loss.y m' c = Cert.LossBwdIdeal.Loss.y m c := by
      funext i j; exact congrFun (ha c).1 _
    have ht : Cert.LossRefIdeal.Loss.t m' c = Cert.LossBwdIdeal.Loss.t m c := by
      funext i j; exact congrFun (ha c).2.1 _
    have hg : Cert.LossRefIdeal.Loss.g m' c = Cert.LossBwdIdeal.Loss.g m c := congrFun (ha c).2.2 _
    have hc := h c
    rw [hy, ht, hg] at hc
    exact hc

/-- The loss's gradient, written plainly, runs to its end, keeps its arguments and leaves every counter at zero. -/
theorem loss_grad_reference : quiescent_LossRefIdeal := by
  intro m ρ _
  exact (θ_run _ _ _).mono (fun r h => ⟨fun c => (h c).2, sem_eq_zero_of_no_sems rfl r.2⟩)
    (Cert.LossRefIdeal.Loss.run m ρ)

/-- The loss: the call and the plain sum leave the same number. -/
theorem loss : algebraic_LossFwdIdeal_LossFwdRefIdeal := by
  intro m ρ m' ρ' _ ha
  refine ⟨fun c => (fun _ => Cert.Loss.loss (LossFwdIdeal.Loss.y m c) (LossFwdIdeal.Loss.t m c) : LossFwdIdeal.S8x128.Idx → EReal),
    (θ_run _ _ _).mono (fun r h c => ?_) (Cert.LossFwdIdeal.Value.run_blocks m ρ),
    (θ_run _ _ _).mono (fun r h c => ?_) (Cert.LossFwdRefIdeal.Loss.run m' ρ')⟩
  · have hc := h c
    rw [Cert.LossFwdIdeal.Loss.final2] at hc
    exact hc
  · have hy : Cert.LossFwdRefIdeal.Loss.y m' c = Cert.LossFwdIdeal.Loss.y m c := by
      funext i j; exact congrFun (ha c).1 _
    have ht : Cert.LossFwdRefIdeal.Loss.t m' c = Cert.LossFwdIdeal.Loss.t m c := by
      funext i j; exact congrFun (ha c).2 _
    have hc := h c
    rw [hy, ht] at hc
    exact hc

/-- The loss, written plainly, runs to its end, keeps its arguments and leaves every counter at zero. -/
theorem loss_reference : quiescent_LossFwdRefIdeal := by
  intro m ρ _
  exact (θ_run _ _ _).mono (fun r h => ⟨fun c => (h c).2, sem_eq_zero_of_no_sems rfl r.2⟩)
    (Cert.LossFwdRefIdeal.Loss.run m ρ)

theorem claim : Cert.Claim := ⟨Cert.Kernel.Gen.facts, Cert.KernelIdeal.Gen.facts, Cert.ReferenceIdeal.Gen.facts,
  Cert.ProjQkvBwd.Gen.facts, Cert.ProjQkvBwdIdeal.Gen.facts, Cert.ProjQkvRefIdeal.Gen.facts,
  Cert.LnOutBwd.Gen.facts, Cert.LnOutBwdIdeal.Gen.facts, Cert.LnOutRefIdeal.Gen.facts,
  Cert.S5PostBwd.Gen.facts, Cert.S5PostBwdIdeal.Gen.facts, Cert.S5PostRefIdeal.Gen.facts,
  Cert.Proj768Bwd.Gen.facts, Cert.Proj768BwdIdeal.Gen.facts, Cert.Proj768RefIdeal.Gen.facts,
  Cert.Proj1280Bwd.Gen.facts, Cert.Proj1280BwdIdeal.Gen.facts, Cert.Proj1280RefIdeal.Gen.facts,
  Cert.Proj1024Bwd.Gen.facts, Cert.Proj1024BwdIdeal.Gen.facts, Cert.Proj1024RefIdeal.Gen.facts,
  Cert.Proj128Bwd.Gen.facts, Cert.Proj128BwdIdeal.Gen.facts, Cert.Proj128RefIdeal.Gen.facts,
  Cert.Proj2304Fwd.Gen.facts, Cert.Proj2304FwdIdeal.Gen.facts, Cert.Proj2304FwdRefIdeal.Gen.facts,
  Cert.Proj768Fwd.Gen.facts, Cert.Proj768FwdIdeal.Gen.facts, Cert.Proj768FwdRefIdeal.Gen.facts,
  Cert.Proj1280Fwd.Gen.facts, Cert.Proj1280FwdIdeal.Gen.facts, Cert.Proj1280FwdRefIdeal.Gen.facts,
  Cert.Proj1024Fwd.Gen.facts, Cert.Proj1024FwdIdeal.Gen.facts, Cert.Proj1024FwdRefIdeal.Gen.facts,
  Cert.Proj128Fwd.Gen.facts, Cert.Proj128FwdIdeal.Gen.facts, Cert.Proj128FwdRefIdeal.Gen.facts,
  Cert.MergeFwd.Gen.facts, Cert.MergeFwdIdeal.Gen.facts, Cert.MergeFwdRefIdeal.Gen.facts,
  Cert.LnOutFwd.Gen.facts, Cert.LnOutFwdIdeal.Gen.facts, Cert.LnOutFwdRefIdeal.Gen.facts,
  Cert.S5PostFwd.Gen.facts, Cert.S5PostFwdIdeal.Gen.facts, Cert.S5PostFwdRefIdeal.Gen.facts,
  Cert.SsdFwd.Gen.facts, Cert.SsdFwdIdeal.Gen.facts, Cert.SsdFwdRefIdeal.Gen.facts,
  Cert.LnInBwd.Gen.facts, Cert.LnInBwdIdeal.Gen.facts, Cert.LnInRefIdeal.Gen.facts,
  Cert.LnInFwd.Gen.facts, Cert.LnInFwdIdeal.Gen.facts, Cert.LnInFwdRefIdeal.Gen.facts,
  Cert.LossBwd.Gen.facts, Cert.LossBwdIdeal.Gen.facts, Cert.LossRefIdeal.Gen.facts,
  Cert.LossFwd.Gen.facts, Cert.LossFwdIdeal.Gen.facts, Cert.LossFwdRefIdeal.Gen.facts,
  fun m ρ _ => Cert.Kernel.Gen.frame m ρ, fun m ρ _ => Cert.KernelIdeal.Gen.frame m ρ, merge_reference,
  fun m ρ _ => Cert.ProjQkvBwd.Gen.frame m ρ, fun m ρ _ => Cert.ProjQkvBwdIdeal.Gen.frame m ρ, proj_qkv_reference,
  fun m ρ _ => Cert.LnOutBwd.Gen.frame m ρ, fun m ρ _ => Cert.LnOutBwdIdeal.Gen.frame m ρ, ln_out_reference,
  fun m ρ _ => Cert.S5PostBwd.Gen.frame m ρ, fun m ρ _ => Cert.S5PostBwdIdeal.Gen.frame m ρ, s5_post_reference,
  fun m ρ _ => Cert.Proj768Bwd.Gen.frame m ρ, fun m ρ _ => Cert.Proj768BwdIdeal.Gen.frame m ρ, proj_768_reference,
  fun m ρ _ => Cert.Proj1280Bwd.Gen.frame m ρ, fun m ρ _ => Cert.Proj1280BwdIdeal.Gen.frame m ρ, proj_1280_reference,
  fun m ρ _ => Cert.Proj1024Bwd.Gen.frame m ρ, fun m ρ _ => Cert.Proj1024BwdIdeal.Gen.frame m ρ, proj_1024_reference,
  fun m ρ _ => Cert.Proj128Bwd.Gen.frame m ρ, fun m ρ _ => Cert.Proj128BwdIdeal.Gen.frame m ρ, proj_128_reference,
  fun m ρ _ => Cert.Proj2304Fwd.Gen.frame m ρ, fun m ρ _ => Cert.Proj2304FwdIdeal.Gen.frame m ρ, proj_2304_fwd_reference,
  fun m ρ _ => Cert.Proj768Fwd.Gen.frame m ρ, fun m ρ _ => Cert.Proj768FwdIdeal.Gen.frame m ρ, proj_768_fwd_reference,
  fun m ρ _ => Cert.Proj1280Fwd.Gen.frame m ρ, fun m ρ _ => Cert.Proj1280FwdIdeal.Gen.frame m ρ, proj_1280_fwd_reference,
  fun m ρ _ => Cert.Proj1024Fwd.Gen.frame m ρ, fun m ρ _ => Cert.Proj1024FwdIdeal.Gen.frame m ρ, proj_1024_fwd_reference,
  fun m ρ _ => Cert.Proj128Fwd.Gen.frame m ρ, fun m ρ _ => Cert.Proj128FwdIdeal.Gen.frame m ρ, proj_128_fwd_reference,
  fun m ρ _ => Cert.MergeFwd.Gen.frame m ρ, fun m ρ _ => Cert.MergeFwdIdeal.Gen.frame m ρ, merge_fwd_reference,
  fun m ρ _ => Cert.LnOutFwd.Gen.frame m ρ, fun m ρ _ => Cert.LnOutFwdIdeal.Gen.frame m ρ, ln_out_fwd_reference,
  fun m ρ _ => Cert.S5PostFwd.Gen.frame m ρ, fun m ρ _ => Cert.S5PostFwdIdeal.Gen.frame m ρ, s5_post_fwd_reference,
  fun m ρ _ => Cert.SsdFwd.Gen.frame m ρ, fun m ρ _ => Cert.SsdFwdIdeal.Gen.frame m ρ, ssd_fwd_reference,
  fun m ρ _ => Cert.LnInBwd.Gen.frame m ρ, fun m ρ _ => Cert.LnInBwdIdeal.Gen.frame m ρ, ln_in_reference,
  fun m ρ _ => Cert.LnInFwd.Gen.frame m ρ, fun m ρ _ => Cert.LnInFwdIdeal.Gen.frame m ρ, ln_in_fwd_reference,
  fun m ρ _ => Cert.LossBwd.Gen.frame m ρ, fun m ρ _ => Cert.LossBwdIdeal.Gen.frame m ρ, loss_grad_reference,
  fun m ρ _ => Cert.LossFwd.Gen.frame m ρ, fun m ρ _ => Cert.LossFwdIdeal.Gen.frame m ρ, loss_reference,
  trivial, merge, trivial,
  proj_qkv, trivial, ln_out,
  trivial, s5_post, trivial,
  proj_768, trivial, proj_1280,
  trivial, proj_1024, trivial,
  proj_128, trivial, proj_2304_fwd,
  trivial, proj_768_fwd, trivial,
  proj_1280_fwd, trivial, proj_1024_fwd,
  trivial, proj_128_fwd, trivial,
  merge_fwd, trivial, ln_out_fwd,
  trivial, s5_post_fwd, ssd_fwd_preserves,
  ssd_fwd, trivial, ln_in, trivial, ln_in_fwd,
  trivial, loss_grad, trivial, loss⟩

end Cert.Proof

end
